-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn_args [hPre_finite_ffn_args : Cert.Pre_finite_ffn_args.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn_args.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn_args [hPre_finite_ffn_args : Cert.Pre_finite_ffn_args.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn_args.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_QkvGrad (m : (ℓ : Loc Cert.QkvGrad.nD Cert.QkvGrad.τ Cert.QkvGrad.sig) → Buf (Elt Bits) ℓ) : Prop :=
  True

def Pre_QkvGradIdeal (m : (ℓ : Loc Cert.QkvGradIdeal.nD Cert.QkvGradIdeal.τ Cert.QkvGradIdeal.sig) → Buf (Elt Ideal) ℓ) : Prop :=
  True

def Pre_QkvGradReferenceIdeal (m : (ℓ : Loc Cert.QkvGradReferenceIdeal.nD Cert.QkvGradReferenceIdeal.τ Cert.QkvGradReferenceIdeal.sig) → Buf (Elt Ideal) ℓ) : Prop :=
  True

def Pre_PoolInGrad (m : (ℓ : Loc Cert.PoolInGrad.nD Cert.PoolInGrad.τ Cert.PoolInGrad.sig) → Buf (Elt Bits) ℓ) : Prop :=
  True

def Pre_PoolInGradIdeal (m : (ℓ : Loc Cert.PoolInGradIdeal.nD Cert.PoolInGradIdeal.τ Cert.PoolInGradIdeal.sig) → Buf (Elt Ideal) ℓ) : Prop :=
  True

def Pre_PoolInGradReferenceIdeal (m : (ℓ : Loc Cert.PoolInGradReferenceIdeal.nD Cert.PoolInGradReferenceIdeal.τ Cert.PoolInGradReferenceIdeal.sig) → Buf (Elt Ideal) ℓ) : Prop :=
  True

def Pre_PoolOutGrad (m : (ℓ : Loc Cert.PoolOutGrad.nD Cert.PoolOutGrad.τ Cert.PoolOutGrad.sig) → Buf (Elt Bits) ℓ) : Prop :=
  True

def Pre_PoolOutGradIdeal (m : (ℓ : Loc Cert.PoolOutGradIdeal.nD Cert.PoolOutGradIdeal.τ Cert.PoolOutGradIdeal.sig) → Buf (Elt Ideal) ℓ) : Prop :=
  True

def Pre_PoolOutGradReferenceIdeal (m : (ℓ : Loc Cert.PoolOutGradReferenceIdeal.nD Cert.PoolOutGradReferenceIdeal.τ Cert.PoolOutGradReferenceIdeal.sig) → Buf (Elt Ideal) ℓ) : Prop :=
  True

def Pre_AttnOutGrad (m : (ℓ : Loc Cert.AttnOutGrad.nD Cert.AttnOutGrad.τ Cert.AttnOutGrad.sig) → Buf (Elt Bits) ℓ) : Prop :=
  True

def Pre_AttnOutGradIdeal (m : (ℓ : Loc Cert.AttnOutGradIdeal.nD Cert.AttnOutGradIdeal.τ Cert.AttnOutGradIdeal.sig) → Buf (Elt Ideal) ℓ) : Prop :=
  True

def Pre_AttnOutGradReferenceIdeal (m : (ℓ : Loc Cert.AttnOutGradReferenceIdeal.nD Cert.AttnOutGradReferenceIdeal.τ Cert.AttnOutGradReferenceIdeal.sig) → Buf (Elt Ideal) ℓ) : Prop :=
  True

def Pre_PoolGroupGrad (m : (ℓ : Loc Cert.PoolGroupGrad.nD Cert.PoolGroupGrad.τ Cert.PoolGroupGrad.sig) → Buf (Elt Bits) ℓ) : Prop :=
  True

def Pre_PoolGroupGradIdeal (m : (ℓ : Loc Cert.PoolGroupGradIdeal.nD Cert.PoolGroupGradIdeal.τ Cert.PoolGroupGradIdeal.sig) → Buf (Elt Ideal) ℓ) : Prop :=
  True

def Pre_PoolGroupGradReferenceIdeal (m : (ℓ : Loc Cert.PoolGroupGradReferenceIdeal.nD Cert.PoolGroupGradReferenceIdeal.τ Cert.PoolGroupGradReferenceIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_pool_args [hPre_finite_pool_args : Cert.Pre_finite_pool_args.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_pool_args.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3)) (m ((c.tc : Thread Cert.PoolFwdIdeal.nD Cert.PoolFwdIdeal.τ).loc Cert.PoolFwdIdeal.main_arg4)) (m ((c.tc : Thread Cert.PoolFwdIdeal.nD Cert.PoolFwdIdeal.τ).loc Cert.PoolFwdIdeal.main_arg5))) = (fun _ => 1#1)

def Pre_PoolFwdReferenceIdeal (m : (ℓ : Loc Cert.PoolFwdReferenceIdeal.nD Cert.PoolFwdReferenceIdeal.τ Cert.PoolFwdReferenceIdeal.sig) → Buf (Elt Ideal) ℓ) : Prop :=
  True

def Pre_PoolFwdReferenceIdeal_finite_pool_args [hPre_finite_pool_args : Cert.Pre_finite_pool_args.Facts] (m : (ℓ : Loc Cert.PoolFwdReferenceIdeal.nD Cert.PoolFwdReferenceIdeal.τ Cert.PoolFwdReferenceIdeal.sig) → Buf (Elt Ideal) ℓ) : Prop :=
  ∀ c : Dev Cert.PoolFwdReferenceIdeal.nD,
    (Cert.Pre_finite_pool_args.fn (F := Ideal) (m ((c.tc : Thread Cert.PoolFwdReferenceIdeal.nD Cert.PoolFwdReferenceIdeal.τ).loc Cert.PoolFwdReferenceIdeal.main_arg0)) (m ((c.tc : Thread Cert.PoolFwdReferenceIdeal.nD Cert.PoolFwdReferenceIdeal.τ).loc Cert.PoolFwdReferenceIdeal.main_arg1)) (m ((c.tc : Thread Cert.PoolFwdReferenceIdeal.nD Cert.PoolFwdReferenceIdeal.τ).loc Cert.PoolFwdReferenceIdeal.main_arg2)) (m ((c.tc : Thread Cert.PoolFwdReferenceIdeal.nD Cert.PoolFwdReferenceIdeal.τ).loc Cert.PoolFwdReferenceIdeal.main_arg3)) (m ((c.tc : Thread Cert.PoolFwdReferenceIdeal.nD Cert.PoolFwdReferenceIdeal.τ).loc Cert.PoolFwdReferenceIdeal.main_arg4)) (m ((c.tc : Thread Cert.PoolFwdReferenceIdeal.nD Cert.PoolFwdReferenceIdeal.τ).loc Cert.PoolFwdReferenceIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn_args [hFfnIdeal : Cert.FfnIdeal.Facts] [hPre_finite_ffn_args : Cert.Pre_finite_ffn_args.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn_args m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite_ffn_args [hFfnReferenceIdeal : Cert.FfnReferenceIdeal.Facts] [hPre_finite_ffn_args : Cert.Pre_finite_ffn_args.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn_args m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1)
      ∧ r.2.mem ((c.tc : Thread Cert.InGradReferenceIdeal.nD Cert.InGradReferenceIdeal.τ).loc Cert.InGradReferenceIdeal.main_arg2) = m ((c.tc : Thread Cert.InGradReferenceIdeal.nD Cert.InGradReferenceIdeal.τ).loc Cert.InGradReferenceIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1)
      ∧ r.2.mem ((c.tc : Thread Cert.DownGrad.nD Cert.DownGrad.τ).loc Cert.DownGrad.main_arg2) = m ((c.tc : Thread Cert.DownGrad.nD Cert.DownGrad.τ).loc Cert.DownGrad.main_arg2)
      ∧ r.2.mem ((c.tc : Thread Cert.DownGrad.nD Cert.DownGrad.τ).loc Cert.DownGrad.main_arg3) = m ((c.tc : Thread Cert.DownGrad.nD Cert.DownGrad.τ).loc Cert.DownGrad.main_arg3)
      ∧ r.2.mem ((c.tc : Thread Cert.DownGrad.nD Cert.DownGrad.τ).loc Cert.DownGrad.main_arg4) = m ((c.tc : Thread Cert.DownGrad.nD Cert.DownGrad.τ).loc Cert.DownGrad.main_arg4))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2)
      ∧ r.2.mem ((c.tc : Thread Cert.DownGradIdeal.nD Cert.DownGradIdeal.τ).loc Cert.DownGradIdeal.main_arg3) = m ((c.tc : Thread Cert.DownGradIdeal.nD Cert.DownGradIdeal.τ).loc Cert.DownGradIdeal.main_arg3)
      ∧ r.2.mem ((c.tc : Thread Cert.DownGradIdeal.nD Cert.DownGradIdeal.τ).loc Cert.DownGradIdeal.main_arg4) = m ((c.tc : Thread Cert.DownGradIdeal.nD Cert.DownGradIdeal.τ).loc Cert.DownGradIdeal.main_arg4))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1)
      ∧ r.2.mem ((c.tc : Thread Cert.DownGradReferenceIdeal.nD Cert.DownGradReferenceIdeal.τ).loc Cert.DownGradReferenceIdeal.main_arg2) = m ((c.tc : Thread Cert.DownGradReferenceIdeal.nD Cert.DownGradReferenceIdeal.τ).loc Cert.DownGradReferenceIdeal.main_arg2)
      ∧ r.2.mem ((c.tc : Thread Cert.DownGradReferenceIdeal.nD Cert.DownGradReferenceIdeal.τ).loc Cert.DownGradReferenceIdeal.main_arg3) = m ((c.tc : Thread Cert.DownGradReferenceIdeal.nD Cert.DownGradReferenceIdeal.τ).loc Cert.DownGradReferenceIdeal.main_arg3)
      ∧ r.2.mem ((c.tc : Thread Cert.DownGradReferenceIdeal.nD Cert.DownGradReferenceIdeal.τ).loc Cert.DownGradReferenceIdeal.main_arg4) = m ((c.tc : Thread Cert.DownGradReferenceIdeal.nD Cert.DownGradReferenceIdeal.τ).loc Cert.DownGradReferenceIdeal.main_arg4))
      ∧ r.2.sem = fun _ => 0)

def quiescent_QkvGrad [hQkvGrad : Cert.QkvGrad.Facts] : Prop :=
  ∀ (m : (ℓ : Loc Cert.QkvGrad.nD Cert.QkvGrad.τ Cert.QkvGrad.sig) → Buf (Elt Bits) ℓ) (g : Dev Cert.QkvGrad.nD → PrngReg), Pre_QkvGrad m →
    θ_run (Cert.QkvGrad.defs (F := Bits)) (onTc (τ := Cert.QkvGrad.τ) (Cert.QkvGrad.main (F := Bits))) ⟨m, fun _ => 0, g⟩ (fun r => (∀ c : Dev Cert.QkvGrad.nD,
      r.2.mem ((c.tc : Thread Cert.QkvGrad.nD Cert.QkvGrad.τ).loc Cert.QkvGrad.main_arg0) = m ((c.tc : Thread Cert.QkvGrad.nD Cert.QkvGrad.τ).loc Cert.QkvGrad.main_arg0)
      ∧ r.2.mem ((c.tc : Thread Cert.QkvGrad.nD Cert.QkvGrad.τ).loc Cert.QkvGrad.main_arg1) = m ((c.tc : Thread Cert.QkvGrad.nD Cert.QkvGrad.τ).loc Cert.QkvGrad.main_arg1)
      ∧ r.2.mem ((c.tc : Thread Cert.QkvGrad.nD Cert.QkvGrad.τ).loc Cert.QkvGrad.main_arg2) = m ((c.tc : Thread Cert.QkvGrad.nD Cert.QkvGrad.τ).loc Cert.QkvGrad.main_arg2))
      ∧ r.2.sem = fun _ => 0)

def quiescent_QkvGradIdeal [hQkvGradIdeal : Cert.QkvGradIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg), Pre_QkvGradIdeal m →
    θ_run (Cert.QkvGradIdeal.defs (F := Ideal)) (onTc (τ := Cert.QkvGradIdeal.τ) (Cert.QkvGradIdeal.main (F := Ideal))) ⟨m, fun _ => 0, g⟩ (fun r => (∀ c : Dev Cert.QkvGradIdeal.nD,
      r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
      ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1)
      ∧ r.2.mem ((c.tc : Thread Cert.QkvGradIdeal.nD Cert.QkvGradIdeal.τ).loc Cert.QkvGradIdeal.main_arg2) = m ((c.tc : Thread Cert.QkvGradIdeal.nD Cert.QkvGradIdeal.τ).loc Cert.QkvGradIdeal.main_arg2))
      ∧ r.2.sem = fun _ => 0)

def quiescent_QkvGradReferenceIdeal [hQkvGradReferenceIdeal : Cert.QkvGradReferenceIdeal.Facts] : Prop :=
  ∀ (m : (ℓ : Loc Cert.QkvGradReferenceIdeal.nD Cert.QkvGradReferenceIdeal.τ Cert.QkvGradReferenceIdeal.sig) → Buf (Elt Ideal) ℓ) (g : Dev Cert.QkvGradReferenceIdeal.nD → PrngReg), Pre_QkvGradReferenceIdeal m →
    θ_run (Cert.QkvGradReferenceIdeal.defs (F := Ideal)) (onTc (τ := Cert.QkvGradReferenceIdeal.τ) (Cert.QkvGradReferenceIdeal.main (F := Ideal))) ⟨m, fun _ => 0, g⟩ (fun r => (∀ c : Dev Cert.QkvGradReferenceIdeal.nD,
      r.2.mem ((c.tc : Thread Cert.QkvGradReferenceIdeal.nD Cert.QkvGradReferenceIdeal.τ).loc Cert.QkvGradReferenceIdeal.main_arg0) = m ((c.tc : Thread Cert.QkvGradReferenceIdeal.nD Cert.QkvGradReferenceIdeal.τ).loc Cert.QkvGradReferenceIdeal.main_arg0)
      ∧ r.2.mem ((c.tc : Thread Cert.QkvGradReferenceIdeal.nD Cert.QkvGradReferenceIdeal.τ).loc Cert.QkvGradReferenceIdeal.main_arg1) = m ((c.tc : Thread Cert.QkvGradReferenceIdeal.nD Cert.QkvGradReferenceIdeal.τ).loc Cert.QkvGradReferenceIdeal.main_arg1)
      ∧ r.2.mem ((c.tc : Thread Cert.QkvGradReferenceIdeal.nD Cert.QkvGradReferenceIdeal.τ).loc Cert.QkvGradReferenceIdeal.main_arg2) = m ((c.tc : Thread Cert.QkvGradReferenceIdeal.nD Cert.QkvGradReferenceIdeal.τ).loc Cert.QkvGradReferenceIdeal.main_arg2))
      ∧ r.2.sem = fun _ => 0)

def quiescent_PoolInGrad [hPoolInGrad : Cert.PoolInGrad.Facts] : Prop :=
  ∀ (m : (ℓ : Loc Cert.PoolInGrad.nD Cert.PoolInGrad.τ Cert.PoolInGrad.sig) → Buf (Elt Bits) ℓ) (g : Dev Cert.PoolInGrad.nD → PrngReg), Pre_PoolInGrad m →
    θ_run (Cert.PoolInGrad.defs (F := Bits)) (onTc (τ := Cert.PoolInGrad.τ) (Cert.PoolInGrad.main (F := Bits))) ⟨m, fun _ => 0, g⟩ (fun r => (∀ c : Dev Cert.PoolInGrad.nD,
      r.2.mem ((c.tc : Thread Cert.PoolInGrad.nD Cert.PoolInGrad.τ).loc Cert.PoolInGrad.main_arg0) = m ((c.tc : Thread Cert.PoolInGrad.nD Cert.PoolInGrad.τ).loc Cert.PoolInGrad.main_arg0)
      ∧ r.2.mem ((c.tc : Thread Cert.PoolInGrad.nD Cert.PoolInGrad.τ).loc Cert.PoolInGrad.main_arg1) = m ((c.tc : Thread Cert.PoolInGrad.nD Cert.PoolInGrad.τ).loc Cert.PoolInGrad.main_arg1)
      ∧ r.2.mem ((c.tc : Thread Cert.PoolInGrad.nD Cert.PoolInGrad.τ).loc Cert.PoolInGrad.main_arg2) = m ((c.tc : Thread Cert.PoolInGrad.nD Cert.PoolInGrad.τ).loc Cert.PoolInGrad.main_arg2))
      ∧ r.2.sem = fun _ => 0)

def quiescent_PoolInGradIdeal [hPoolInGradIdeal : Cert.PoolInGradIdeal.Facts] : Prop :=
  ∀ (m : (ℓ : Loc Cert.PoolInGradIdeal.nD Cert.PoolInGradIdeal.τ Cert.PoolInGradIdeal.sig) → Buf (Elt Ideal) ℓ) (g : Dev Cert.PoolInGradIdeal.nD → PrngReg), Pre_PoolInGradIdeal m →
    θ_run (Cert.PoolInGradIdeal.defs (F := Ideal)) (onTc (τ := Cert.PoolInGradIdeal.τ) (Cert.PoolInGradIdeal.main (F := Ideal))) ⟨m, fun _ => 0, g⟩ (fun r => (∀ c : Dev Cert.PoolInGradIdeal.nD,
      r.2.mem ((c.tc : Thread Cert.PoolInGradIdeal.nD Cert.PoolInGradIdeal.τ).loc Cert.PoolInGradIdeal.main_arg0) = m ((c.tc : Thread Cert.PoolInGradIdeal.nD Cert.PoolInGradIdeal.τ).loc Cert.PoolInGradIdeal.main_arg0)
      ∧ r.2.mem ((c.tc : Thread Cert.PoolInGradIdeal.nD Cert.PoolInGradIdeal.τ).loc Cert.PoolInGradIdeal.main_arg1) = m ((c.tc : Thread Cert.PoolInGradIdeal.nD Cert.PoolInGradIdeal.τ).loc Cert.PoolInGradIdeal.main_arg1)
      ∧ r.2.mem ((c.tc : Thread Cert.PoolInGradIdeal.nD Cert.PoolInGradIdeal.τ).loc Cert.PoolInGradIdeal.main_arg2) = m ((c.tc : Thread Cert.PoolInGradIdeal.nD Cert.PoolInGradIdeal.τ).loc Cert.PoolInGradIdeal.main_arg2))
      ∧ r.2.sem = fun _ => 0)

def quiescent_PoolInGradReferenceIdeal [hPoolInGradReferenceIdeal : Cert.PoolInGradReferenceIdeal.Facts] : Prop :=
  ∀ (m : (ℓ : Loc Cert.PoolInGradReferenceIdeal.nD Cert.PoolInGradReferenceIdeal.τ Cert.PoolInGradReferenceIdeal.sig) → Buf (Elt Ideal) ℓ) (g : Dev Cert.PoolInGradReferenceIdeal.nD → PrngReg), Pre_PoolInGradReferenceIdeal m →
    θ_run (Cert.PoolInGradReferenceIdeal.defs (F := Ideal)) (onTc (τ := Cert.PoolInGradReferenceIdeal.τ) (Cert.PoolInGradReferenceIdeal.main (F := Ideal))) ⟨m, fun _ => 0, g⟩ (fun r => (∀ c : Dev Cert.PoolInGradReferenceIdeal.nD,
      r.2.mem ((c.tc : Thread Cert.PoolInGradReferenceIdeal.nD Cert.PoolInGradReferenceIdeal.τ).loc Cert.PoolInGradReferenceIdeal.main_arg0) = m ((c.tc : Thread Cert.PoolInGradReferenceIdeal.nD Cert.PoolInGradReferenceIdeal.τ).loc Cert.PoolInGradReferenceIdeal.main_arg0)
      ∧ r.2.mem ((c.tc : Thread Cert.PoolInGradReferenceIdeal.nD Cert.PoolInGradReferenceIdeal.τ).loc Cert.PoolInGradReferenceIdeal.main_arg1) = m ((c.tc : Thread Cert.PoolInGradReferenceIdeal.nD Cert.PoolInGradReferenceIdeal.τ).loc Cert.PoolInGradReferenceIdeal.main_arg1)
      ∧ r.2.mem ((c.tc : Thread Cert.PoolInGradReferenceIdeal.nD Cert.PoolInGradReferenceIdeal.τ).loc Cert.PoolInGradReferenceIdeal.main_arg2) = m ((c.tc : Thread Cert.PoolInGradReferenceIdeal.nD Cert.PoolInGradReferenceIdeal.τ).loc Cert.PoolInGradReferenceIdeal.main_arg2))
      ∧ r.2.sem = fun _ => 0)

def quiescent_PoolOutGrad [hPoolOutGrad : Cert.PoolOutGrad.Facts] : Prop :=
  ∀ (m : (ℓ : Loc Cert.PoolOutGrad.nD Cert.PoolOutGrad.τ Cert.PoolOutGrad.sig) → Buf (Elt Bits) ℓ) (g : Dev Cert.PoolOutGrad.nD → PrngReg), Pre_PoolOutGrad m →
    θ_run (Cert.PoolOutGrad.defs (F := Bits)) (onTc (τ := Cert.PoolOutGrad.τ) (Cert.PoolOutGrad.main (F := Bits))) ⟨m, fun _ => 0, g⟩ (fun r => (∀ c : Dev Cert.PoolOutGrad.nD,
      r.2.mem ((c.tc : Thread Cert.PoolOutGrad.nD Cert.PoolOutGrad.τ).loc Cert.PoolOutGrad.main_arg0) = m ((c.tc : Thread Cert.PoolOutGrad.nD Cert.PoolOutGrad.τ).loc Cert.PoolOutGrad.main_arg0)
      ∧ r.2.mem ((c.tc : Thread Cert.PoolOutGrad.nD Cert.PoolOutGrad.τ).loc Cert.PoolOutGrad.main_arg1) = m ((c.tc : Thread Cert.PoolOutGrad.nD Cert.PoolOutGrad.τ).loc Cert.PoolOutGrad.main_arg1))
      ∧ r.2.sem = fun _ => 0)

def quiescent_PoolOutGradIdeal [hPoolOutGradIdeal : Cert.PoolOutGradIdeal.Facts] : Prop :=
  ∀ (m : (ℓ : Loc Cert.PoolOutGradIdeal.nD Cert.PoolOutGradIdeal.τ Cert.PoolOutGradIdeal.sig) → Buf (Elt Ideal) ℓ) (g : Dev Cert.PoolOutGradIdeal.nD → PrngReg), Pre_PoolOutGradIdeal m →
    θ_run (Cert.PoolOutGradIdeal.defs (F := Ideal)) (onTc (τ := Cert.PoolOutGradIdeal.τ) (Cert.PoolOutGradIdeal.main (F := Ideal))) ⟨m, fun _ => 0, g⟩ (fun r => (∀ c : Dev Cert.PoolOutGradIdeal.nD,
      r.2.mem ((c.tc : Thread Cert.PoolOutGradIdeal.nD Cert.PoolOutGradIdeal.τ).loc Cert.PoolOutGradIdeal.main_arg0) = m ((c.tc : Thread Cert.PoolOutGradIdeal.nD Cert.PoolOutGradIdeal.τ).loc Cert.PoolOutGradIdeal.main_arg0)
      ∧ r.2.mem ((c.tc : Thread Cert.PoolOutGradIdeal.nD Cert.PoolOutGradIdeal.τ).loc Cert.PoolOutGradIdeal.main_arg1) = m ((c.tc : Thread Cert.PoolOutGradIdeal.nD Cert.PoolOutGradIdeal.τ).loc Cert.PoolOutGradIdeal.main_arg1))
      ∧ r.2.sem = fun _ => 0)

def quiescent_PoolOutGradReferenceIdeal [hPoolOutGradReferenceIdeal : Cert.PoolOutGradReferenceIdeal.Facts] : Prop :=
  ∀ (m : (ℓ : Loc Cert.PoolOutGradReferenceIdeal.nD Cert.PoolOutGradReferenceIdeal.τ Cert.PoolOutGradReferenceIdeal.sig) → Buf (Elt Ideal) ℓ) (g : Dev Cert.PoolOutGradReferenceIdeal.nD → PrngReg), Pre_PoolOutGradReferenceIdeal m →
    θ_run (Cert.PoolOutGradReferenceIdeal.defs (F := Ideal)) (onTc (τ := Cert.PoolOutGradReferenceIdeal.τ) (Cert.PoolOutGradReferenceIdeal.main (F := Ideal))) ⟨m, fun _ => 0, g⟩ (fun r => (∀ c : Dev Cert.PoolOutGradReferenceIdeal.nD,
      r.2.mem ((c.tc : Thread Cert.PoolOutGradReferenceIdeal.nD Cert.PoolOutGradReferenceIdeal.τ).loc Cert.PoolOutGradReferenceIdeal.main_arg0) = m ((c.tc : Thread Cert.PoolOutGradReferenceIdeal.nD Cert.PoolOutGradReferenceIdeal.τ).loc Cert.PoolOutGradReferenceIdeal.main_arg0)
      ∧ r.2.mem ((c.tc : Thread Cert.PoolOutGradReferenceIdeal.nD Cert.PoolOutGradReferenceIdeal.τ).loc Cert.PoolOutGradReferenceIdeal.main_arg1) = m ((c.tc : Thread Cert.PoolOutGradReferenceIdeal.nD Cert.PoolOutGradReferenceIdeal.τ).loc Cert.PoolOutGradReferenceIdeal.main_arg1))
      ∧ r.2.sem = fun _ => 0)

def quiescent_AttnOutGrad [hAttnOutGrad : Cert.AttnOutGrad.Facts] : Prop :=
  ∀ (m : (ℓ : Loc Cert.AttnOutGrad.nD Cert.AttnOutGrad.τ Cert.AttnOutGrad.sig) → Buf (Elt Bits) ℓ) (g : Dev Cert.AttnOutGrad.nD → PrngReg), Pre_AttnOutGrad m →
    θ_run (Cert.AttnOutGrad.defs (F := Bits)) (onTc (τ := Cert.AttnOutGrad.τ) (Cert.AttnOutGrad.main (F := Bits))) ⟨m, fun _ => 0, g⟩ (fun r => (∀ c : Dev Cert.AttnOutGrad.nD,
      r.2.mem ((c.tc : Thread Cert.AttnOutGrad.nD Cert.AttnOutGrad.τ).loc Cert.AttnOutGrad.main_arg0) = m ((c.tc : Thread Cert.AttnOutGrad.nD Cert.AttnOutGrad.τ).loc Cert.AttnOutGrad.main_arg0)
      ∧ r.2.mem ((c.tc : Thread Cert.AttnOutGrad.nD Cert.AttnOutGrad.τ).loc Cert.AttnOutGrad.main_arg1) = m ((c.tc : Thread Cert.AttnOutGrad.nD Cert.AttnOutGrad.τ).loc Cert.AttnOutGrad.main_arg1))
      ∧ r.2.sem = fun _ => 0)

def quiescent_AttnOutGradIdeal [hAttnOutGradIdeal : Cert.AttnOutGradIdeal.Facts] : Prop :=
  ∀ (m : (ℓ : Loc Cert.AttnOutGradIdeal.nD Cert.AttnOutGradIdeal.τ Cert.AttnOutGradIdeal.sig) → Buf (Elt Ideal) ℓ) (g : Dev Cert.AttnOutGradIdeal.nD → PrngReg), Pre_AttnOutGradIdeal m →
    θ_run (Cert.AttnOutGradIdeal.defs (F := Ideal)) (onTc (τ := Cert.AttnOutGradIdeal.τ) (Cert.AttnOutGradIdeal.main (F := Ideal))) ⟨m, fun _ => 0, g⟩ (fun r => (∀ c : Dev Cert.AttnOutGradIdeal.nD,
      r.2.mem ((c.tc : Thread Cert.AttnOutGradIdeal.nD Cert.AttnOutGradIdeal.τ).loc Cert.AttnOutGradIdeal.main_arg0) = m ((c.tc : Thread Cert.AttnOutGradIdeal.nD Cert.AttnOutGradIdeal.τ).loc Cert.AttnOutGradIdeal.main_arg0)
      ∧ r.2.mem ((c.tc : Thread Cert.AttnOutGradIdeal.nD Cert.AttnOutGradIdeal.τ).loc Cert.AttnOutGradIdeal.main_arg1) = m ((c.tc : Thread Cert.AttnOutGradIdeal.nD Cert.AttnOutGradIdeal.τ).loc Cert.AttnOutGradIdeal.main_arg1))
      ∧ r.2.sem = fun _ => 0)

def quiescent_AttnOutGradReferenceIdeal [hAttnOutGradReferenceIdeal : Cert.AttnOutGradReferenceIdeal.Facts] : Prop :=
  ∀ (m : (ℓ : Loc Cert.AttnOutGradReferenceIdeal.nD Cert.AttnOutGradReferenceIdeal.τ Cert.AttnOutGradReferenceIdeal.sig) → Buf (Elt Ideal) ℓ) (g : Dev Cert.AttnOutGradReferenceIdeal.nD → PrngReg), Pre_AttnOutGradReferenceIdeal m →
    θ_run (Cert.AttnOutGradReferenceIdeal.defs (F := Ideal)) (onTc (τ := Cert.AttnOutGradReferenceIdeal.τ) (Cert.AttnOutGradReferenceIdeal.main (F := Ideal))) ⟨m, fun _ => 0, g⟩ (fun r => (∀ c : Dev Cert.AttnOutGradReferenceIdeal.nD,
      r.2.mem ((c.tc : Thread Cert.AttnOutGradReferenceIdeal.nD Cert.AttnOutGradReferenceIdeal.τ).loc Cert.AttnOutGradReferenceIdeal.main_arg0) = m ((c.tc : Thread Cert.AttnOutGradReferenceIdeal.nD Cert.AttnOutGradReferenceIdeal.τ).loc Cert.AttnOutGradReferenceIdeal.main_arg0)
      ∧ r.2.mem ((c.tc : Thread Cert.AttnOutGradReferenceIdeal.nD Cert.AttnOutGradReferenceIdeal.τ).loc Cert.AttnOutGradReferenceIdeal.main_arg1) = m ((c.tc : Thread Cert.AttnOutGradReferenceIdeal.nD Cert.AttnOutGradReferenceIdeal.τ).loc Cert.AttnOutGradReferenceIdeal.main_arg1))
      ∧ r.2.sem = fun _ => 0)

def quiescent_PoolGroupGrad [hPoolGroupGrad : Cert.PoolGroupGrad.Facts] : Prop :=
  ∀ (m : (ℓ : Loc Cert.PoolGroupGrad.nD Cert.PoolGroupGrad.τ Cert.PoolGroupGrad.sig) → Buf (Elt Bits) ℓ) (g : Dev Cert.PoolGroupGrad.nD → PrngReg), Pre_PoolGroupGrad m →
    θ_run (Cert.PoolGroupGrad.defs (F := Bits)) (onTc (τ := Cert.PoolGroupGrad.τ) (Cert.PoolGroupGrad.main (F := Bits))) ⟨m, fun _ => 0, g⟩ (fun r => (∀ c : Dev Cert.PoolGroupGrad.nD,
      r.2.mem ((c.tc : Thread Cert.PoolGroupGrad.nD Cert.PoolGroupGrad.τ).loc Cert.PoolGroupGrad.main_arg0) = m ((c.tc : Thread Cert.PoolGroupGrad.nD Cert.PoolGroupGrad.τ).loc Cert.PoolGroupGrad.main_arg0)
      ∧ r.2.mem ((c.tc : Thread Cert.PoolGroupGrad.nD Cert.PoolGroupGrad.τ).loc Cert.PoolGroupGrad.main_arg1) = m ((c.tc : Thread Cert.PoolGroupGrad.nD Cert.PoolGroupGrad.τ).loc Cert.PoolGroupGrad.main_arg1))
      ∧ r.2.sem = fun _ => 0)

def quiescent_PoolGroupGradIdeal [hPoolGroupGradIdeal : Cert.PoolGroupGradIdeal.Facts] : Prop :=
  ∀ (m : (ℓ : Loc Cert.PoolGroupGradIdeal.nD Cert.PoolGroupGradIdeal.τ Cert.PoolGroupGradIdeal.sig) → Buf (Elt Ideal) ℓ) (g : Dev Cert.PoolGroupGradIdeal.nD → PrngReg), Pre_PoolGroupGradIdeal m →
    θ_run (Cert.PoolGroupGradIdeal.defs (F := Ideal)) (onTc (τ := Cert.PoolGroupGradIdeal.τ) (Cert.PoolGroupGradIdeal.main (F := Ideal))) ⟨m, fun _ => 0, g⟩ (fun r => (∀ c : Dev Cert.PoolGroupGradIdeal.nD,
      r.2.mem ((c.tc : Thread Cert.PoolGroupGradIdeal.nD Cert.PoolGroupGradIdeal.τ).loc Cert.PoolGroupGradIdeal.main_arg0) = m ((c.tc : Thread Cert.PoolGroupGradIdeal.nD Cert.PoolGroupGradIdeal.τ).loc Cert.PoolGroupGradIdeal.main_arg0)
      ∧ r.2.mem ((c.tc : Thread Cert.PoolGroupGradIdeal.nD Cert.PoolGroupGradIdeal.τ).loc Cert.PoolGroupGradIdeal.main_arg1) = m ((c.tc : Thread Cert.PoolGroupGradIdeal.nD Cert.PoolGroupGradIdeal.τ).loc Cert.PoolGroupGradIdeal.main_arg1))
      ∧ r.2.sem = fun _ => 0)

def quiescent_PoolGroupGradReferenceIdeal [hPoolGroupGradReferenceIdeal : Cert.PoolGroupGradReferenceIdeal.Facts] : Prop :=
  ∀ (m : (ℓ : Loc Cert.PoolGroupGradReferenceIdeal.nD Cert.PoolGroupGradReferenceIdeal.τ Cert.PoolGroupGradReferenceIdeal.sig) → Buf (Elt Ideal) ℓ) (g : Dev Cert.PoolGroupGradReferenceIdeal.nD → PrngReg), Pre_PoolGroupGradReferenceIdeal m →
    θ_run (Cert.PoolGroupGradReferenceIdeal.defs (F := Ideal)) (onTc (τ := Cert.PoolGroupGradReferenceIdeal.τ) (Cert.PoolGroupGradReferenceIdeal.main (F := Ideal))) ⟨m, fun _ => 0, g⟩ (fun r => (∀ c : Dev Cert.PoolGroupGradReferenceIdeal.nD,
      r.2.mem ((c.tc : Thread Cert.PoolGroupGradReferenceIdeal.nD Cert.PoolGroupGradReferenceIdeal.τ).loc Cert.PoolGroupGradReferenceIdeal.main_arg0) = m ((c.tc : Thread Cert.PoolGroupGradReferenceIdeal.nD Cert.PoolGroupGradReferenceIdeal.τ).loc Cert.PoolGroupGradReferenceIdeal.main_arg0)
      ∧ r.2.mem ((c.tc : Thread Cert.PoolGroupGradReferenceIdeal.nD Cert.PoolGroupGradReferenceIdeal.τ).loc Cert.PoolGroupGradReferenceIdeal.main_arg1) = m ((c.tc : Thread Cert.PoolGroupGradReferenceIdeal.nD Cert.PoolGroupGradReferenceIdeal.τ).loc Cert.PoolGroupGradReferenceIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3)
      ∧ r.2.mem ((c.tc : Thread Cert.PoolFwd.nD Cert.PoolFwd.τ).loc Cert.PoolFwd.main_arg4) = m ((c.tc : Thread Cert.PoolFwd.nD Cert.PoolFwd.τ).loc Cert.PoolFwd.main_arg4)
      ∧ r.2.mem ((c.tc : Thread Cert.PoolFwd.nD Cert.PoolFwd.τ).loc Cert.PoolFwd.main_arg5) = m ((c.tc : Thread Cert.PoolFwd.nD Cert.PoolFwd.τ).loc Cert.PoolFwd.main_arg5))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
      ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4)
      ∧ r.2.mem ((c.tc : Thread Cert.PoolFwdIdeal.nD Cert.PoolFwdIdeal.τ).loc Cert.PoolFwdIdeal.main_arg5) = m ((c.tc : Thread Cert.PoolFwdIdeal.nD Cert.PoolFwdIdeal.τ).loc Cert.PoolFwdIdeal.main_arg5))
      ∧ r.2.sem = fun _ => 0)

def quiescent_PoolFwdIdeal_pre_finite_pool_args [hPoolFwdIdeal : Cert.PoolFwdIdeal.Facts] [hPre_finite_pool_args : Cert.Pre_finite_pool_args.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_pool_args m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
      ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4)
      ∧ r.2.mem ((c.tc : Thread Cert.PoolFwdIdeal.nD Cert.PoolFwdIdeal.τ).loc Cert.PoolFwdIdeal.main_arg5) = m ((c.tc : Thread Cert.PoolFwdIdeal.nD Cert.PoolFwdIdeal.τ).loc Cert.PoolFwdIdeal.main_arg5))
      ∧ r.2.sem = fun _ => 0)

def quiescent_PoolFwdReferenceIdeal [hPoolFwdReferenceIdeal : Cert.PoolFwdReferenceIdeal.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2)
      ∧ r.2.mem ((c.tc : Thread Cert.PoolFwdReferenceIdeal.nD Cert.PoolFwdReferenceIdeal.τ).loc Cert.PoolFwdReferenceIdeal.main_arg3) = m ((c.tc : Thread Cert.PoolFwdReferenceIdeal.nD Cert.PoolFwdReferenceIdeal.τ).loc Cert.PoolFwdReferenceIdeal.main_arg3)
      ∧ r.2.mem ((c.tc : Thread Cert.PoolFwdReferenceIdeal.nD Cert.PoolFwdReferenceIdeal.τ).loc Cert.PoolFwdReferenceIdeal.main_arg4) = m ((c.tc : Thread Cert.PoolFwdReferenceIdeal.nD Cert.PoolFwdReferenceIdeal.τ).loc Cert.PoolFwdReferenceIdeal.main_arg4)
      ∧ r.2.mem ((c.tc : Thread Cert.PoolFwdReferenceIdeal.nD Cert.PoolFwdReferenceIdeal.τ).loc Cert.PoolFwdReferenceIdeal.main_arg5) = m ((c.tc : Thread Cert.PoolFwdReferenceIdeal.nD Cert.PoolFwdReferenceIdeal.τ).loc Cert.PoolFwdReferenceIdeal.main_arg5))
      ∧ r.2.sem = fun _ => 0)

def quiescent_PoolFwdReferenceIdeal_pre_finite_pool_args [hPoolFwdReferenceIdeal : Cert.PoolFwdReferenceIdeal.Facts] [hPre_finite_pool_args : Cert.Pre_finite_pool_args.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal_finite_pool_args m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2)
      ∧ r.2.mem ((c.tc : Thread Cert.PoolFwdReferenceIdeal.nD Cert.PoolFwdReferenceIdeal.τ).loc Cert.PoolFwdReferenceIdeal.main_arg3) = m ((c.tc : Thread Cert.PoolFwdReferenceIdeal.nD Cert.PoolFwdReferenceIdeal.τ).loc Cert.PoolFwdReferenceIdeal.main_arg3)
      ∧ r.2.mem ((c.tc : Thread Cert.PoolFwdReferenceIdeal.nD Cert.PoolFwdReferenceIdeal.τ).loc Cert.PoolFwdReferenceIdeal.main_arg4) = m ((c.tc : Thread Cert.PoolFwdReferenceIdeal.nD Cert.PoolFwdReferenceIdeal.τ).loc Cert.PoolFwdReferenceIdeal.main_arg4)
      ∧ r.2.mem ((c.tc : Thread Cert.PoolFwdReferenceIdeal.nD Cert.PoolFwdReferenceIdeal.τ).loc Cert.PoolFwdReferenceIdeal.main_arg5) = m ((c.tc : Thread Cert.PoolFwdReferenceIdeal.nD Cert.PoolFwdReferenceIdeal.τ).loc Cert.PoolFwdReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v96_0)) (v1 : (c : Dev Cert.KernelIdeal.nD) → Buf (Elt Ideal) ((c.tc : Thread Cert.KernelIdeal.nD Cert.KernelIdeal.τ).loc Cert.KernelIdeal.main_v96_1)) (v2 : (c : Dev Cert.KernelIdeal.nD) → Buf (Elt Ideal) ((c.tc : Thread Cert.KernelIdeal.nD Cert.KernelIdeal.τ).loc Cert.KernelIdeal.main_v96_2)) (v3 : (c : Dev Cert.KernelIdeal.nD) → Buf (Elt Ideal) ((c.tc : Thread Cert.KernelIdeal.nD Cert.KernelIdeal.τ).loc Cert.KernelIdeal.main_v96_3)) (v4 : (c : Dev Cert.KernelIdeal.nD) → Buf (Elt Ideal) ((c.tc : Thread Cert.KernelIdeal.nD Cert.KernelIdeal.τ).loc Cert.KernelIdeal.main_v96_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96_0) = v0 c
          ∧ r.2.mem ((c.tc : Thread Cert.KernelIdeal.nD Cert.KernelIdeal.τ).loc Cert.KernelIdeal.main_v96_1) = v1 c
          ∧ r.2.mem ((c.tc : Thread Cert.KernelIdeal.nD Cert.KernelIdeal.τ).loc Cert.KernelIdeal.main_v96_2) = v2 c
          ∧ r.2.mem ((c.tc : Thread Cert.KernelIdeal.nD Cert.KernelIdeal.τ).loc Cert.KernelIdeal.main_v96_3) = v3 c
          ∧ r.2.mem ((c.tc : Thread Cert.KernelIdeal.nD Cert.KernelIdeal.τ).loc Cert.KernelIdeal.main_v96_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_v188) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal_pre_finite_ffn_args [hFfnIdeal : Cert.FfnIdeal.Facts] [hFfnReferenceIdeal : Cert.FfnReferenceIdeal.Facts] [hPre_finite_ffn_args : Cert.Pre_finite_ffn_args.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn_args m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v30_0)) (v1 : (c : Dev Cert.FfnIdeal.nD) → Buf (Elt Ideal) ((c.tc : Thread Cert.FfnIdeal.nD Cert.FfnIdeal.τ).loc Cert.FfnIdeal.main_v30_1)) (v2 : (c : Dev Cert.FfnIdeal.nD) → Buf (Elt Ideal) ((c.tc : Thread Cert.FfnIdeal.nD Cert.FfnIdeal.τ).loc Cert.FfnIdeal.main_v30_2)) (v3 : (c : Dev Cert.FfnIdeal.nD) → Buf (Elt Ideal) ((c.tc : Thread Cert.FfnIdeal.nD Cert.FfnIdeal.τ).loc Cert.FfnIdeal.main_v30_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v30_0) = v0 c
          ∧ r.2.mem ((c.tc : Thread Cert.FfnIdeal.nD Cert.FfnIdeal.τ).loc Cert.FfnIdeal.main_v30_1) = v1 c
          ∧ r.2.mem ((c.tc : Thread Cert.FfnIdeal.nD Cert.FfnIdeal.τ).loc Cert.FfnIdeal.main_v30_2) = v2 c
          ∧ r.2.mem ((c.tc : Thread Cert.FfnIdeal.nD Cert.FfnIdeal.τ).loc Cert.FfnIdeal.main_v30_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_v55) = v1 c
          ∧ r.2.mem ((c.tc : Thread Cert.FfnReferenceIdeal.nD Cert.FfnReferenceIdeal.τ).loc Cert.FfnReferenceIdeal.main_v56) = v2 c
          ∧ r.2.mem ((c.tc : Thread Cert.FfnReferenceIdeal.nD Cert.FfnReferenceIdeal.τ).loc Cert.FfnReferenceIdeal.main_v49) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)
      ∧ m' ((c.tc : Thread Cert.InGradReferenceIdeal.nD Cert.InGradReferenceIdeal.τ).loc Cert.InGradReferenceIdeal.main_arg2) = m ((c.tc : Thread Cert.InGradIdeal.nD Cert.InGradIdeal.τ).loc Cert.InGradIdeal.main_arg2)) →
    ∃ (v0 : (c : Dev Cert.InGradIdeal.nD) → Buf (Elt Ideal) ((c.tc : Thread Cert.InGradIdeal.nD Cert.InGradIdeal.τ).loc Cert.InGradIdeal.main_v18)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v18) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v19) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1)
          ∧ r.2.mem ((c.tc : Thread Cert.InGradReferenceIdeal.nD Cert.InGradReferenceIdeal.τ).loc Cert.InGradReferenceIdeal.main_arg2) = m' ((c.tc : Thread Cert.InGradReferenceIdeal.nD Cert.InGradReferenceIdeal.τ).loc Cert.InGradReferenceIdeal.main_arg2))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)
      ∧ m' ((c.tc : Thread Cert.FfnFwdReferenceIdeal.nD Cert.FfnFwdReferenceIdeal.τ).loc Cert.FfnFwdReferenceIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v8_0)) (v1 : (c : Dev Cert.FfnFwdIdeal.nD) → Buf (Elt Ideal) ((c.tc : Thread Cert.FfnFwdIdeal.nD Cert.FfnFwdIdeal.τ).loc Cert.FfnFwdIdeal.main_v8_1)) (v2 : (c : Dev Cert.FfnFwdIdeal.nD) → Buf (Elt Ideal) ((c.tc : Thread Cert.FfnFwdIdeal.nD Cert.FfnFwdIdeal.τ).loc Cert.FfnFwdIdeal.main_v8_2)) (v3 : (c : Dev Cert.FfnFwdIdeal.nD) → Buf (Elt Ideal) ((c.tc : Thread Cert.FfnFwdIdeal.nD Cert.FfnFwdIdeal.τ).loc Cert.FfnFwdIdeal.main_v8_3)) (v4 : (c : Dev Cert.FfnFwdIdeal.nD) → Buf (Elt Ideal) ((c.tc : Thread Cert.FfnFwdIdeal.nD Cert.FfnFwdIdeal.τ).loc Cert.FfnFwdIdeal.main_v8_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v8_0) = v0 c
          ∧ r.2.mem ((c.tc : Thread Cert.FfnFwdIdeal.nD Cert.FfnFwdIdeal.τ).loc Cert.FfnFwdIdeal.main_v8_1) = v1 c
          ∧ r.2.mem ((c.tc : Thread Cert.FfnFwdIdeal.nD Cert.FfnFwdIdeal.τ).loc Cert.FfnFwdIdeal.main_v8_2) = v2 c
          ∧ r.2.mem ((c.tc : Thread Cert.FfnFwdIdeal.nD Cert.FfnFwdIdeal.τ).loc Cert.FfnFwdIdeal.main_v8_3) = v3 c
          ∧ r.2.mem ((c.tc : Thread Cert.FfnFwdIdeal.nD Cert.FfnFwdIdeal.τ).loc Cert.FfnFwdIdeal.main_v8_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v18) = v0 c
          ∧ r.2.mem ((c.tc : Thread Cert.FfnFwdReferenceIdeal.nD Cert.FfnFwdReferenceIdeal.τ).loc Cert.FfnFwdReferenceIdeal.main_v21) = v1 c
          ∧ r.2.mem ((c.tc : Thread Cert.FfnFwdReferenceIdeal.nD Cert.FfnFwdReferenceIdeal.τ).loc Cert.FfnFwdReferenceIdeal.main_v24) = v2 c
          ∧ r.2.mem ((c.tc : Thread Cert.FfnFwdReferenceIdeal.nD Cert.FfnFwdReferenceIdeal.τ).loc Cert.FfnFwdReferenceIdeal.main_v27) = v3 c
          ∧ r.2.mem ((c.tc : Thread Cert.FfnFwdReferenceIdeal.nD Cert.FfnFwdReferenceIdeal.τ).loc Cert.FfnFwdReferenceIdeal.main_v29) = v4 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)
      ∧ m' ((c.tc : Thread Cert.DownGradReferenceIdeal.nD Cert.DownGradReferenceIdeal.τ).loc Cert.DownGradReferenceIdeal.main_arg2) = m ((c.tc : Thread Cert.DownGradIdeal.nD Cert.DownGradIdeal.τ).loc Cert.DownGradIdeal.main_arg2)
      ∧ m' ((c.tc : Thread Cert.DownGradReferenceIdeal.nD Cert.DownGradReferenceIdeal.τ).loc Cert.DownGradReferenceIdeal.main_arg3) = m ((c.tc : Thread Cert.DownGradIdeal.nD Cert.DownGradIdeal.τ).loc Cert.DownGradIdeal.main_arg3)
      ∧ m' ((c.tc : Thread Cert.DownGradReferenceIdeal.nD Cert.DownGradReferenceIdeal.τ).loc Cert.DownGradReferenceIdeal.main_arg4) = m ((c.tc : Thread Cert.DownGradIdeal.nD Cert.DownGradIdeal.τ).loc Cert.DownGradIdeal.main_arg4)) →
    ∃ (v0 : (c : Dev Cert.DownGradIdeal.nD) → Buf (Elt Ideal) ((c.tc : Thread Cert.DownGradIdeal.nD Cert.DownGradIdeal.τ).loc Cert.DownGradIdeal.main_v21)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v21) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
          ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2)
          ∧ r.2.mem ((c.tc : Thread Cert.DownGradIdeal.nD Cert.DownGradIdeal.τ).loc Cert.DownGradIdeal.main_arg3) = m ((c.tc : Thread Cert.DownGradIdeal.nD Cert.DownGradIdeal.τ).loc Cert.DownGradIdeal.main_arg3)
          ∧ r.2.mem ((c.tc : Thread Cert.DownGradIdeal.nD Cert.DownGradIdeal.τ).loc Cert.DownGradIdeal.main_arg4) = m ((c.tc : Thread Cert.DownGradIdeal.nD Cert.DownGradIdeal.τ).loc Cert.DownGradIdeal.main_arg4))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v22) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1)
          ∧ r.2.mem ((c.tc : Thread Cert.DownGradReferenceIdeal.nD Cert.DownGradReferenceIdeal.τ).loc Cert.DownGradReferenceIdeal.main_arg2) = m' ((c.tc : Thread Cert.DownGradReferenceIdeal.nD Cert.DownGradReferenceIdeal.τ).loc Cert.DownGradReferenceIdeal.main_arg2)
          ∧ r.2.mem ((c.tc : Thread Cert.DownGradReferenceIdeal.nD Cert.DownGradReferenceIdeal.τ).loc Cert.DownGradReferenceIdeal.main_arg3) = m' ((c.tc : Thread Cert.DownGradReferenceIdeal.nD Cert.DownGradReferenceIdeal.τ).loc Cert.DownGradReferenceIdeal.main_arg3)
          ∧ r.2.mem ((c.tc : Thread Cert.DownGradReferenceIdeal.nD Cert.DownGradReferenceIdeal.τ).loc Cert.DownGradReferenceIdeal.main_arg4) = m' ((c.tc : Thread Cert.DownGradReferenceIdeal.nD Cert.DownGradReferenceIdeal.τ).loc Cert.DownGradReferenceIdeal.main_arg4))

def preserves_QkvGrad_QkvGradIdeal : Prop :=
  True

def algebraic_QkvGradIdeal_QkvGradReferenceIdeal [hQkvGradIdeal : Cert.QkvGradIdeal.Facts] [hQkvGradReferenceIdeal : Cert.QkvGradReferenceIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg)
    (m' : (ℓ : Loc Cert.QkvGradReferenceIdeal.nD Cert.QkvGradReferenceIdeal.τ Cert.QkvGradReferenceIdeal.sig) → Buf (Elt Ideal) ℓ) (g' : Dev Cert.QkvGradReferenceIdeal.nD → PrngReg), Pre_QkvGradIdeal m →
    (∀ c : Dev Cert.QkvGradIdeal.nD,
      m' ((c.tc : Thread Cert.QkvGradReferenceIdeal.nD Cert.QkvGradReferenceIdeal.τ).loc Cert.QkvGradReferenceIdeal.main_arg0) = m ((c.tc : Thread Cert.QkvGradIdeal.nD Cert.QkvGradIdeal.τ).loc Cert.QkvGradIdeal.main_arg0)
      ∧ m' ((c.tc : Thread Cert.QkvGradReferenceIdeal.nD Cert.QkvGradReferenceIdeal.τ).loc Cert.QkvGradReferenceIdeal.main_arg1) = m ((c.tc : Thread Cert.QkvGradIdeal.nD Cert.QkvGradIdeal.τ).loc Cert.QkvGradIdeal.main_arg1)
      ∧ m' ((c.tc : Thread Cert.QkvGradReferenceIdeal.nD Cert.QkvGradReferenceIdeal.τ).loc Cert.QkvGradReferenceIdeal.main_arg2) = m ((c.tc : Thread Cert.QkvGradIdeal.nD Cert.QkvGradIdeal.τ).loc Cert.QkvGradIdeal.main_arg2)) →
    ∃ (v0 : (c : Dev Cert.QkvGradIdeal.nD) → Buf (Elt Ideal) ((c.tc : Thread Cert.QkvGradIdeal.nD Cert.QkvGradIdeal.τ).loc Cert.QkvGradIdeal.main_v30)),
      θ_run (Cert.QkvGradIdeal.defs (F := Ideal)) (onTc (τ := Cert.QkvGradIdeal.τ) (Cert.QkvGradIdeal.main (F := Ideal))) ⟨m, fun _ => 0, g⟩ (fun r => ∀ c : Dev Cert.QkvGradIdeal.nD,
          r.2.mem ((c.tc : Thread Cert.QkvGradIdeal.nD Cert.QkvGradIdeal.τ).loc Cert.QkvGradIdeal.main_v30) = v0 c
          ∧ r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
          ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1)
          ∧ r.2.mem ((c.tc : Thread Cert.QkvGradIdeal.nD Cert.QkvGradIdeal.τ).loc Cert.QkvGradIdeal.main_arg2) = m ((c.tc : Thread Cert.QkvGradIdeal.nD Cert.QkvGradIdeal.τ).loc Cert.QkvGradIdeal.main_arg2))
      ∧ θ_run (Cert.QkvGradReferenceIdeal.defs (F := Ideal)) (onTc (τ := Cert.QkvGradReferenceIdeal.τ) (Cert.QkvGradReferenceIdeal.main (F := Ideal))) ⟨m', fun _ => 0, g'⟩ (fun r => ∀ c : Dev Cert.QkvGradReferenceIdeal.nD,
          r.2.mem ((c.tc : Thread Cert.QkvGradReferenceIdeal.nD Cert.QkvGradReferenceIdeal.τ).loc Cert.QkvGradReferenceIdeal.main_v31) = v0 c
          ∧ r.2.mem ((c.tc : Thread Cert.QkvGradReferenceIdeal.nD Cert.QkvGradReferenceIdeal.τ).loc Cert.QkvGradReferenceIdeal.main_arg0) = m' ((c.tc : Thread Cert.QkvGradReferenceIdeal.nD Cert.QkvGradReferenceIdeal.τ).loc Cert.QkvGradReferenceIdeal.main_arg0)
          ∧ r.2.mem ((c.tc : Thread Cert.QkvGradReferenceIdeal.nD Cert.QkvGradReferenceIdeal.τ).loc Cert.QkvGradReferenceIdeal.main_arg1) = m' ((c.tc : Thread Cert.QkvGradReferenceIdeal.nD Cert.QkvGradReferenceIdeal.τ).loc Cert.QkvGradReferenceIdeal.main_arg1)
          ∧ r.2.mem ((c.tc : Thread Cert.QkvGradReferenceIdeal.nD Cert.QkvGradReferenceIdeal.τ).loc Cert.QkvGradReferenceIdeal.main_arg2) = m' ((c.tc : Thread Cert.QkvGradReferenceIdeal.nD Cert.QkvGradReferenceIdeal.τ).loc Cert.QkvGradReferenceIdeal.main_arg2))

def preserves_PoolInGrad_PoolInGradIdeal : Prop :=
  True

def algebraic_PoolInGradIdeal_PoolInGradReferenceIdeal [hPoolInGradIdeal : Cert.PoolInGradIdeal.Facts] [hPoolInGradReferenceIdeal : Cert.PoolInGradReferenceIdeal.Facts] : Prop :=
  ∀ (m : (ℓ : Loc Cert.PoolInGradIdeal.nD Cert.PoolInGradIdeal.τ Cert.PoolInGradIdeal.sig) → Buf (Elt Ideal) ℓ) (g : Dev Cert.PoolInGradIdeal.nD → PrngReg)
    (m' : (ℓ : Loc Cert.PoolInGradReferenceIdeal.nD Cert.PoolInGradReferenceIdeal.τ Cert.PoolInGradReferenceIdeal.sig) → Buf (Elt Ideal) ℓ) (g' : Dev Cert.PoolInGradReferenceIdeal.nD → PrngReg), Pre_PoolInGradIdeal m →
    (∀ c : Dev Cert.PoolInGradIdeal.nD,
      m' ((c.tc : Thread Cert.PoolInGradReferenceIdeal.nD Cert.PoolInGradReferenceIdeal.τ).loc Cert.PoolInGradReferenceIdeal.main_arg0) = m ((c.tc : Thread Cert.PoolInGradIdeal.nD Cert.PoolInGradIdeal.τ).loc Cert.PoolInGradIdeal.main_arg0)
      ∧ m' ((c.tc : Thread Cert.PoolInGradReferenceIdeal.nD Cert.PoolInGradReferenceIdeal.τ).loc Cert.PoolInGradReferenceIdeal.main_arg1) = m ((c.tc : Thread Cert.PoolInGradIdeal.nD Cert.PoolInGradIdeal.τ).loc Cert.PoolInGradIdeal.main_arg1)
      ∧ m' ((c.tc : Thread Cert.PoolInGradReferenceIdeal.nD Cert.PoolInGradReferenceIdeal.τ).loc Cert.PoolInGradReferenceIdeal.main_arg2) = m ((c.tc : Thread Cert.PoolInGradIdeal.nD Cert.PoolInGradIdeal.τ).loc Cert.PoolInGradIdeal.main_arg2)) →
    ∃ (v0 : (c : Dev Cert.PoolInGradIdeal.nD) → Buf (Elt Ideal) ((c.tc : Thread Cert.PoolInGradIdeal.nD Cert.PoolInGradIdeal.τ).loc Cert.PoolInGradIdeal.main_v16)),
      θ_run (Cert.PoolInGradIdeal.defs (F := Ideal)) (onTc (τ := Cert.PoolInGradIdeal.τ) (Cert.PoolInGradIdeal.main (F := Ideal))) ⟨m, fun _ => 0, g⟩ (fun r => ∀ c : Dev Cert.PoolInGradIdeal.nD,
          r.2.mem ((c.tc : Thread Cert.PoolInGradIdeal.nD Cert.PoolInGradIdeal.τ).loc Cert.PoolInGradIdeal.main_v16) = v0 c
          ∧ r.2.mem ((c.tc : Thread Cert.PoolInGradIdeal.nD Cert.PoolInGradIdeal.τ).loc Cert.PoolInGradIdeal.main_arg0) = m ((c.tc : Thread Cert.PoolInGradIdeal.nD Cert.PoolInGradIdeal.τ).loc Cert.PoolInGradIdeal.main_arg0)
          ∧ r.2.mem ((c.tc : Thread Cert.PoolInGradIdeal.nD Cert.PoolInGradIdeal.τ).loc Cert.PoolInGradIdeal.main_arg1) = m ((c.tc : Thread Cert.PoolInGradIdeal.nD Cert.PoolInGradIdeal.τ).loc Cert.PoolInGradIdeal.main_arg1)
          ∧ r.2.mem ((c.tc : Thread Cert.PoolInGradIdeal.nD Cert.PoolInGradIdeal.τ).loc Cert.PoolInGradIdeal.main_arg2) = m ((c.tc : Thread Cert.PoolInGradIdeal.nD Cert.PoolInGradIdeal.τ).loc Cert.PoolInGradIdeal.main_arg2))
      ∧ θ_run (Cert.PoolInGradReferenceIdeal.defs (F := Ideal)) (onTc (τ := Cert.PoolInGradReferenceIdeal.τ) (Cert.PoolInGradReferenceIdeal.main (F := Ideal))) ⟨m', fun _ => 0, g'⟩ (fun r => ∀ c : Dev Cert.PoolInGradReferenceIdeal.nD,
          r.2.mem ((c.tc : Thread Cert.PoolInGradReferenceIdeal.nD Cert.PoolInGradReferenceIdeal.τ).loc Cert.PoolInGradReferenceIdeal.main_v17) = v0 c
          ∧ r.2.mem ((c.tc : Thread Cert.PoolInGradReferenceIdeal.nD Cert.PoolInGradReferenceIdeal.τ).loc Cert.PoolInGradReferenceIdeal.main_arg0) = m' ((c.tc : Thread Cert.PoolInGradReferenceIdeal.nD Cert.PoolInGradReferenceIdeal.τ).loc Cert.PoolInGradReferenceIdeal.main_arg0)
          ∧ r.2.mem ((c.tc : Thread Cert.PoolInGradReferenceIdeal.nD Cert.PoolInGradReferenceIdeal.τ).loc Cert.PoolInGradReferenceIdeal.main_arg1) = m' ((c.tc : Thread Cert.PoolInGradReferenceIdeal.nD Cert.PoolInGradReferenceIdeal.τ).loc Cert.PoolInGradReferenceIdeal.main_arg1)
          ∧ r.2.mem ((c.tc : Thread Cert.PoolInGradReferenceIdeal.nD Cert.PoolInGradReferenceIdeal.τ).loc Cert.PoolInGradReferenceIdeal.main_arg2) = m' ((c.tc : Thread Cert.PoolInGradReferenceIdeal.nD Cert.PoolInGradReferenceIdeal.τ).loc Cert.PoolInGradReferenceIdeal.main_arg2))

def preserves_PoolOutGrad_PoolOutGradIdeal : Prop :=
  True

def algebraic_PoolOutGradIdeal_PoolOutGradReferenceIdeal [hPoolOutGradIdeal : Cert.PoolOutGradIdeal.Facts] [hPoolOutGradReferenceIdeal : Cert.PoolOutGradReferenceIdeal.Facts] : Prop :=
  ∀ (m : (ℓ : Loc Cert.PoolOutGradIdeal.nD Cert.PoolOutGradIdeal.τ Cert.PoolOutGradIdeal.sig) → Buf (Elt Ideal) ℓ) (g : Dev Cert.PoolOutGradIdeal.nD → PrngReg)
    (m' : (ℓ : Loc Cert.PoolOutGradReferenceIdeal.nD Cert.PoolOutGradReferenceIdeal.τ Cert.PoolOutGradReferenceIdeal.sig) → Buf (Elt Ideal) ℓ) (g' : Dev Cert.PoolOutGradReferenceIdeal.nD → PrngReg), Pre_PoolOutGradIdeal m →
    (∀ c : Dev Cert.PoolOutGradIdeal.nD,
      m' ((c.tc : Thread Cert.PoolOutGradReferenceIdeal.nD Cert.PoolOutGradReferenceIdeal.τ).loc Cert.PoolOutGradReferenceIdeal.main_arg0) = m ((c.tc : Thread Cert.PoolOutGradIdeal.nD Cert.PoolOutGradIdeal.τ).loc Cert.PoolOutGradIdeal.main_arg0)
      ∧ m' ((c.tc : Thread Cert.PoolOutGradReferenceIdeal.nD Cert.PoolOutGradReferenceIdeal.τ).loc Cert.PoolOutGradReferenceIdeal.main_arg1) = m ((c.tc : Thread Cert.PoolOutGradIdeal.nD Cert.PoolOutGradIdeal.τ).loc Cert.PoolOutGradIdeal.main_arg1)) →
    ∃ (v0 : (c : Dev Cert.PoolOutGradIdeal.nD) → Buf (Elt Ideal) ((c.tc : Thread Cert.PoolOutGradIdeal.nD Cert.PoolOutGradIdeal.τ).loc Cert.PoolOutGradIdeal.main_v1)),
      θ_run (Cert.PoolOutGradIdeal.defs (F := Ideal)) (onTc (τ := Cert.PoolOutGradIdeal.τ) (Cert.PoolOutGradIdeal.main (F := Ideal))) ⟨m, fun _ => 0, g⟩ (fun r => ∀ c : Dev Cert.PoolOutGradIdeal.nD,
          r.2.mem ((c.tc : Thread Cert.PoolOutGradIdeal.nD Cert.PoolOutGradIdeal.τ).loc Cert.PoolOutGradIdeal.main_v1) = v0 c
          ∧ r.2.mem ((c.tc : Thread Cert.PoolOutGradIdeal.nD Cert.PoolOutGradIdeal.τ).loc Cert.PoolOutGradIdeal.main_arg0) = m ((c.tc : Thread Cert.PoolOutGradIdeal.nD Cert.PoolOutGradIdeal.τ).loc Cert.PoolOutGradIdeal.main_arg0)
          ∧ r.2.mem ((c.tc : Thread Cert.PoolOutGradIdeal.nD Cert.PoolOutGradIdeal.τ).loc Cert.PoolOutGradIdeal.main_arg1) = m ((c.tc : Thread Cert.PoolOutGradIdeal.nD Cert.PoolOutGradIdeal.τ).loc Cert.PoolOutGradIdeal.main_arg1))
      ∧ θ_run (Cert.PoolOutGradReferenceIdeal.defs (F := Ideal)) (onTc (τ := Cert.PoolOutGradReferenceIdeal.τ) (Cert.PoolOutGradReferenceIdeal.main (F := Ideal))) ⟨m', fun _ => 0, g'⟩ (fun r => ∀ c : Dev Cert.PoolOutGradReferenceIdeal.nD,
          r.2.mem ((c.tc : Thread Cert.PoolOutGradReferenceIdeal.nD Cert.PoolOutGradReferenceIdeal.τ).loc Cert.PoolOutGradReferenceIdeal.main_v3) = v0 c
          ∧ r.2.mem ((c.tc : Thread Cert.PoolOutGradReferenceIdeal.nD Cert.PoolOutGradReferenceIdeal.τ).loc Cert.PoolOutGradReferenceIdeal.main_arg0) = m' ((c.tc : Thread Cert.PoolOutGradReferenceIdeal.nD Cert.PoolOutGradReferenceIdeal.τ).loc Cert.PoolOutGradReferenceIdeal.main_arg0)
          ∧ r.2.mem ((c.tc : Thread Cert.PoolOutGradReferenceIdeal.nD Cert.PoolOutGradReferenceIdeal.τ).loc Cert.PoolOutGradReferenceIdeal.main_arg1) = m' ((c.tc : Thread Cert.PoolOutGradReferenceIdeal.nD Cert.PoolOutGradReferenceIdeal.τ).loc Cert.PoolOutGradReferenceIdeal.main_arg1))

def preserves_AttnOutGrad_AttnOutGradIdeal : Prop :=
  True

def algebraic_AttnOutGradIdeal_AttnOutGradReferenceIdeal [hAttnOutGradIdeal : Cert.AttnOutGradIdeal.Facts] [hAttnOutGradReferenceIdeal : Cert.AttnOutGradReferenceIdeal.Facts] : Prop :=
  ∀ (m : (ℓ : Loc Cert.AttnOutGradIdeal.nD Cert.AttnOutGradIdeal.τ Cert.AttnOutGradIdeal.sig) → Buf (Elt Ideal) ℓ) (g : Dev Cert.AttnOutGradIdeal.nD → PrngReg)
    (m' : (ℓ : Loc Cert.AttnOutGradReferenceIdeal.nD Cert.AttnOutGradReferenceIdeal.τ Cert.AttnOutGradReferenceIdeal.sig) → Buf (Elt Ideal) ℓ) (g' : Dev Cert.AttnOutGradReferenceIdeal.nD → PrngReg), Pre_AttnOutGradIdeal m →
    (∀ c : Dev Cert.AttnOutGradIdeal.nD,
      m' ((c.tc : Thread Cert.AttnOutGradReferenceIdeal.nD Cert.AttnOutGradReferenceIdeal.τ).loc Cert.AttnOutGradReferenceIdeal.main_arg0) = m ((c.tc : Thread Cert.AttnOutGradIdeal.nD Cert.AttnOutGradIdeal.τ).loc Cert.AttnOutGradIdeal.main_arg0)
      ∧ m' ((c.tc : Thread Cert.AttnOutGradReferenceIdeal.nD Cert.AttnOutGradReferenceIdeal.τ).loc Cert.AttnOutGradReferenceIdeal.main_arg1) = m ((c.tc : Thread Cert.AttnOutGradIdeal.nD Cert.AttnOutGradIdeal.τ).loc Cert.AttnOutGradIdeal.main_arg1)) →
    ∃ (v0 : (c : Dev Cert.AttnOutGradIdeal.nD) → Buf (Elt Ideal) ((c.tc : Thread Cert.AttnOutGradIdeal.nD Cert.AttnOutGradIdeal.τ).loc Cert.AttnOutGradIdeal.main_v8)),
      θ_run (Cert.AttnOutGradIdeal.defs (F := Ideal)) (onTc (τ := Cert.AttnOutGradIdeal.τ) (Cert.AttnOutGradIdeal.main (F := Ideal))) ⟨m, fun _ => 0, g⟩ (fun r => ∀ c : Dev Cert.AttnOutGradIdeal.nD,
          r.2.mem ((c.tc : Thread Cert.AttnOutGradIdeal.nD Cert.AttnOutGradIdeal.τ).loc Cert.AttnOutGradIdeal.main_v8) = v0 c
          ∧ r.2.mem ((c.tc : Thread Cert.AttnOutGradIdeal.nD Cert.AttnOutGradIdeal.τ).loc Cert.AttnOutGradIdeal.main_arg0) = m ((c.tc : Thread Cert.AttnOutGradIdeal.nD Cert.AttnOutGradIdeal.τ).loc Cert.AttnOutGradIdeal.main_arg0)
          ∧ r.2.mem ((c.tc : Thread Cert.AttnOutGradIdeal.nD Cert.AttnOutGradIdeal.τ).loc Cert.AttnOutGradIdeal.main_arg1) = m ((c.tc : Thread Cert.AttnOutGradIdeal.nD Cert.AttnOutGradIdeal.τ).loc Cert.AttnOutGradIdeal.main_arg1))
      ∧ θ_run (Cert.AttnOutGradReferenceIdeal.defs (F := Ideal)) (onTc (τ := Cert.AttnOutGradReferenceIdeal.τ) (Cert.AttnOutGradReferenceIdeal.main (F := Ideal))) ⟨m', fun _ => 0, g'⟩ (fun r => ∀ c : Dev Cert.AttnOutGradReferenceIdeal.nD,
          r.2.mem ((c.tc : Thread Cert.AttnOutGradReferenceIdeal.nD Cert.AttnOutGradReferenceIdeal.τ).loc Cert.AttnOutGradReferenceIdeal.main_v10) = v0 c
          ∧ r.2.mem ((c.tc : Thread Cert.AttnOutGradReferenceIdeal.nD Cert.AttnOutGradReferenceIdeal.τ).loc Cert.AttnOutGradReferenceIdeal.main_arg0) = m' ((c.tc : Thread Cert.AttnOutGradReferenceIdeal.nD Cert.AttnOutGradReferenceIdeal.τ).loc Cert.AttnOutGradReferenceIdeal.main_arg0)
          ∧ r.2.mem ((c.tc : Thread Cert.AttnOutGradReferenceIdeal.nD Cert.AttnOutGradReferenceIdeal.τ).loc Cert.AttnOutGradReferenceIdeal.main_arg1) = m' ((c.tc : Thread Cert.AttnOutGradReferenceIdeal.nD Cert.AttnOutGradReferenceIdeal.τ).loc Cert.AttnOutGradReferenceIdeal.main_arg1))

def preserves_PoolGroupGrad_PoolGroupGradIdeal : Prop :=
  True

def algebraic_PoolGroupGradIdeal_PoolGroupGradReferenceIdeal [hPoolGroupGradIdeal : Cert.PoolGroupGradIdeal.Facts] [hPoolGroupGradReferenceIdeal : Cert.PoolGroupGradReferenceIdeal.Facts] : Prop :=
  ∀ (m : (ℓ : Loc Cert.PoolGroupGradIdeal.nD Cert.PoolGroupGradIdeal.τ Cert.PoolGroupGradIdeal.sig) → Buf (Elt Ideal) ℓ) (g : Dev Cert.PoolGroupGradIdeal.nD → PrngReg)
    (m' : (ℓ : Loc Cert.PoolGroupGradReferenceIdeal.nD Cert.PoolGroupGradReferenceIdeal.τ Cert.PoolGroupGradReferenceIdeal.sig) → Buf (Elt Ideal) ℓ) (g' : Dev Cert.PoolGroupGradReferenceIdeal.nD → PrngReg), Pre_PoolGroupGradIdeal m →
    (∀ c : Dev Cert.PoolGroupGradIdeal.nD,
      m' ((c.tc : Thread Cert.PoolGroupGradReferenceIdeal.nD Cert.PoolGroupGradReferenceIdeal.τ).loc Cert.PoolGroupGradReferenceIdeal.main_arg0) = m ((c.tc : Thread Cert.PoolGroupGradIdeal.nD Cert.PoolGroupGradIdeal.τ).loc Cert.PoolGroupGradIdeal.main_arg0)
      ∧ m' ((c.tc : Thread Cert.PoolGroupGradReferenceIdeal.nD Cert.PoolGroupGradReferenceIdeal.τ).loc Cert.PoolGroupGradReferenceIdeal.main_arg1) = m ((c.tc : Thread Cert.PoolGroupGradIdeal.nD Cert.PoolGroupGradIdeal.τ).loc Cert.PoolGroupGradIdeal.main_arg1)) →
    ∃ (v0 : (c : Dev Cert.PoolGroupGradIdeal.nD) → Buf (Elt Ideal) ((c.tc : Thread Cert.PoolGroupGradIdeal.nD Cert.PoolGroupGradIdeal.τ).loc Cert.PoolGroupGradIdeal.main_v2)),
      θ_run (Cert.PoolGroupGradIdeal.defs (F := Ideal)) (onTc (τ := Cert.PoolGroupGradIdeal.τ) (Cert.PoolGroupGradIdeal.main (F := Ideal))) ⟨m, fun _ => 0, g⟩ (fun r => ∀ c : Dev Cert.PoolGroupGradIdeal.nD,
          r.2.mem ((c.tc : Thread Cert.PoolGroupGradIdeal.nD Cert.PoolGroupGradIdeal.τ).loc Cert.PoolGroupGradIdeal.main_v2) = v0 c
          ∧ r.2.mem ((c.tc : Thread Cert.PoolGroupGradIdeal.nD Cert.PoolGroupGradIdeal.τ).loc Cert.PoolGroupGradIdeal.main_arg0) = m ((c.tc : Thread Cert.PoolGroupGradIdeal.nD Cert.PoolGroupGradIdeal.τ).loc Cert.PoolGroupGradIdeal.main_arg0)
          ∧ r.2.mem ((c.tc : Thread Cert.PoolGroupGradIdeal.nD Cert.PoolGroupGradIdeal.τ).loc Cert.PoolGroupGradIdeal.main_arg1) = m ((c.tc : Thread Cert.PoolGroupGradIdeal.nD Cert.PoolGroupGradIdeal.τ).loc Cert.PoolGroupGradIdeal.main_arg1))
      ∧ θ_run (Cert.PoolGroupGradReferenceIdeal.defs (F := Ideal)) (onTc (τ := Cert.PoolGroupGradReferenceIdeal.τ) (Cert.PoolGroupGradReferenceIdeal.main (F := Ideal))) ⟨m', fun _ => 0, g'⟩ (fun r => ∀ c : Dev Cert.PoolGroupGradReferenceIdeal.nD,
          r.2.mem ((c.tc : Thread Cert.PoolGroupGradReferenceIdeal.nD Cert.PoolGroupGradReferenceIdeal.τ).loc Cert.PoolGroupGradReferenceIdeal.main_v9) = v0 c
          ∧ r.2.mem ((c.tc : Thread Cert.PoolGroupGradReferenceIdeal.nD Cert.PoolGroupGradReferenceIdeal.τ).loc Cert.PoolGroupGradReferenceIdeal.main_arg0) = m' ((c.tc : Thread Cert.PoolGroupGradReferenceIdeal.nD Cert.PoolGroupGradReferenceIdeal.τ).loc Cert.PoolGroupGradReferenceIdeal.main_arg0)
          ∧ r.2.mem ((c.tc : Thread Cert.PoolGroupGradReferenceIdeal.nD Cert.PoolGroupGradReferenceIdeal.τ).loc Cert.PoolGroupGradReferenceIdeal.main_arg1) = m' ((c.tc : Thread Cert.PoolGroupGradReferenceIdeal.nD Cert.PoolGroupGradReferenceIdeal.τ).loc Cert.PoolGroupGradReferenceIdeal.main_arg1))

def preserves_PoolFwd_PoolFwdIdeal : Prop :=
  True

def algebraic_PoolFwdIdeal_PoolFwdReferenceIdeal_pre_finite_pool_args [hPoolFwdIdeal : Cert.PoolFwdIdeal.Facts] [hPoolFwdReferenceIdeal : Cert.PoolFwdReferenceIdeal.Facts] [hPre_finite_pool_args : Cert.Pre_finite_pool_args.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdReferenceIdeal.nD Cert.PoolFwdReferenceIdeal.τ Cert.PoolFwdReferenceIdeal.sig) → Buf (Elt Ideal) ℓ) (g' : Dev Cert.PoolFwdReferenceIdeal.nD → PrngReg), Pre_PoolFwdIdeal_finite_pool_args m →
    (∀ c : Dev Cert.PoolFwdIdeal.nD,
      m' ((c.tc : Thread Cert.PoolFwdReferenceIdeal.nD Cert.PoolFwdReferenceIdeal.τ).loc Cert.PoolFwdReferenceIdeal.main_arg0) = m ((c.tc : Thread Cert.PoolFwdIdeal.nD Cert.PoolFwdIdeal.τ).loc Cert.PoolFwdIdeal.main_arg0)
      ∧ m' ((c.tc : Thread Cert.PoolFwdReferenceIdeal.nD Cert.PoolFwdReferenceIdeal.τ).loc Cert.PoolFwdReferenceIdeal.main_arg1) = m ((c.tc : Thread Cert.PoolFwdIdeal.nD Cert.PoolFwdIdeal.τ).loc Cert.PoolFwdIdeal.main_arg1)
      ∧ m' ((c.tc : Thread Cert.PoolFwdReferenceIdeal.nD Cert.PoolFwdReferenceIdeal.τ).loc Cert.PoolFwdReferenceIdeal.main_arg2) = m ((c.tc : Thread Cert.PoolFwdIdeal.nD Cert.PoolFwdIdeal.τ).loc Cert.PoolFwdIdeal.main_arg2)
      ∧ m' ((c.tc : Thread Cert.PoolFwdReferenceIdeal.nD Cert.PoolFwdReferenceIdeal.τ).loc Cert.PoolFwdReferenceIdeal.main_arg3) = m ((c.tc : Thread Cert.PoolFwdIdeal.nD Cert.PoolFwdIdeal.τ).loc Cert.PoolFwdIdeal.main_arg3)
      ∧ m' ((c.tc : Thread Cert.PoolFwdReferenceIdeal.nD Cert.PoolFwdReferenceIdeal.τ).loc Cert.PoolFwdReferenceIdeal.main_arg4) = m ((c.tc : Thread Cert.PoolFwdIdeal.nD Cert.PoolFwdIdeal.τ).loc Cert.PoolFwdIdeal.main_arg4)
      ∧ m' ((c.tc : Thread Cert.PoolFwdReferenceIdeal.nD Cert.PoolFwdReferenceIdeal.τ).loc Cert.PoolFwdReferenceIdeal.main_arg5) = m ((c.tc : Thread Cert.PoolFwdIdeal.nD Cert.PoolFwdIdeal.τ).loc Cert.PoolFwdIdeal.main_arg5)) →
    ∃ (v0 : (c : Dev Cert.PoolFwdIdeal.nD) → Buf (Elt Ideal) ((c.tc : Thread Cert.PoolFwdIdeal.nD Cert.PoolFwdIdeal.τ).loc Cert.PoolFwdIdeal.main_v3_0)) (v1 : (c : Dev Cert.PoolFwdIdeal.nD) → Buf (Elt Ideal) ((c.tc : Thread Cert.PoolFwdIdeal.nD Cert.PoolFwdIdeal.τ).loc Cert.PoolFwdIdeal.main_v3_1)) (v2 : (c : Dev Cert.PoolFwdIdeal.nD) → Buf (Elt Ideal) ((c.tc : Thread Cert.PoolFwdIdeal.nD Cert.PoolFwdIdeal.τ).loc Cert.PoolFwdIdeal.main_v3_2)) (v3 : (c : Dev Cert.PoolFwdIdeal.nD) → Buf (Elt Ideal) ((c.tc : Thread Cert.PoolFwdIdeal.nD Cert.PoolFwdIdeal.τ).loc Cert.PoolFwdIdeal.main_v3_3)) (v4 : (c : Dev Cert.PoolFwdIdeal.nD) → Buf (Elt Ideal) ((c.tc : Thread Cert.PoolFwdIdeal.nD Cert.PoolFwdIdeal.τ).loc Cert.PoolFwdIdeal.main_v3_4)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v3_0) = v0 c
          ∧ r.2.mem ((c.tc : Thread Cert.PoolFwdIdeal.nD Cert.PoolFwdIdeal.τ).loc Cert.PoolFwdIdeal.main_v3_1) = v1 c
          ∧ r.2.mem ((c.tc : Thread Cert.PoolFwdIdeal.nD Cert.PoolFwdIdeal.τ).loc Cert.PoolFwdIdeal.main_v3_2) = v2 c
          ∧ r.2.mem ((c.tc : Thread Cert.PoolFwdIdeal.nD Cert.PoolFwdIdeal.τ).loc Cert.PoolFwdIdeal.main_v3_3) = v3 c
          ∧ r.2.mem ((c.tc : Thread Cert.PoolFwdIdeal.nD Cert.PoolFwdIdeal.τ).loc Cert.PoolFwdIdeal.main_v3_4) = v4 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
          ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4)
          ∧ r.2.mem ((c.tc : Thread Cert.PoolFwdIdeal.nD Cert.PoolFwdIdeal.τ).loc Cert.PoolFwdIdeal.main_arg5) = m ((c.tc : Thread Cert.PoolFwdIdeal.nD Cert.PoolFwdIdeal.τ).loc Cert.PoolFwdIdeal.main_arg5))
      ∧ θ_run (Cert.PoolFwdReferenceIdeal.defs (F := Ideal)) (onTc (τ := Cert.PoolFwdReferenceIdeal.τ) (Cert.PoolFwdReferenceIdeal.main (F := Ideal))) ⟨m', fun _ => 0, g'⟩ (fun r => ∀ c : Dev Cert.PoolFwdReferenceIdeal.nD,
          r.2.mem ((c.tc : Thread Cert.PoolFwdReferenceIdeal.nD Cert.PoolFwdReferenceIdeal.τ).loc Cert.PoolFwdReferenceIdeal.main_v101) = v0 c
          ∧ r.2.mem ((c.tc : Thread Cert.PoolFwdReferenceIdeal.nD Cert.PoolFwdReferenceIdeal.τ).loc Cert.PoolFwdReferenceIdeal.main_v102) = v1 c
          ∧ r.2.mem ((c.tc : Thread Cert.PoolFwdReferenceIdeal.nD Cert.PoolFwdReferenceIdeal.τ).loc Cert.PoolFwdReferenceIdeal.main_v103) = v2 c
          ∧ r.2.mem ((c.tc : Thread Cert.PoolFwdReferenceIdeal.nD Cert.PoolFwdReferenceIdeal.τ).loc Cert.PoolFwdReferenceIdeal.main_v104) = v3 c
          ∧ r.2.mem ((c.tc : Thread Cert.PoolFwdReferenceIdeal.nD Cert.PoolFwdReferenceIdeal.τ).loc Cert.PoolFwdReferenceIdeal.main_v106) = v4 c
          ∧ r.2.mem ((c.tc : Thread Cert.PoolFwdReferenceIdeal.nD Cert.PoolFwdReferenceIdeal.τ).loc Cert.PoolFwdReferenceIdeal.main_arg0) = m' ((c.tc : Thread Cert.PoolFwdReferenceIdeal.nD Cert.PoolFwdReferenceIdeal.τ).loc Cert.PoolFwdReferenceIdeal.main_arg0)
          ∧ r.2.mem ((c.tc : Thread Cert.PoolFwdReferenceIdeal.nD Cert.PoolFwdReferenceIdeal.τ).loc Cert.PoolFwdReferenceIdeal.main_arg1) = m' ((c.tc : Thread Cert.PoolFwdReferenceIdeal.nD Cert.PoolFwdReferenceIdeal.τ).loc Cert.PoolFwdReferenceIdeal.main_arg1)
          ∧ r.2.mem ((c.tc : Thread Cert.PoolFwdReferenceIdeal.nD Cert.PoolFwdReferenceIdeal.τ).loc Cert.PoolFwdReferenceIdeal.main_arg2) = m' ((c.tc : Thread Cert.PoolFwdReferenceIdeal.nD Cert.PoolFwdReferenceIdeal.τ).loc Cert.PoolFwdReferenceIdeal.main_arg2)
          ∧ r.2.mem ((c.tc : Thread Cert.PoolFwdReferenceIdeal.nD Cert.PoolFwdReferenceIdeal.τ).loc Cert.PoolFwdReferenceIdeal.main_arg3) = m' ((c.tc : Thread Cert.PoolFwdReferenceIdeal.nD Cert.PoolFwdReferenceIdeal.τ).loc Cert.PoolFwdReferenceIdeal.main_arg3)
          ∧ r.2.mem ((c.tc : Thread Cert.PoolFwdReferenceIdeal.nD Cert.PoolFwdReferenceIdeal.τ).loc Cert.PoolFwdReferenceIdeal.main_arg4) = m' ((c.tc : Thread Cert.PoolFwdReferenceIdeal.nD Cert.PoolFwdReferenceIdeal.τ).loc Cert.PoolFwdReferenceIdeal.main_arg4)
          ∧ r.2.mem ((c.tc : Thread Cert.PoolFwdReferenceIdeal.nD Cert.PoolFwdReferenceIdeal.τ).loc Cert.PoolFwdReferenceIdeal.main_arg5) = m' ((c.tc : Thread Cert.PoolFwdReferenceIdeal.nD Cert.PoolFwdReferenceIdeal.τ).loc Cert.PoolFwdReferenceIdeal.main_arg5))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v52) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInGrad : Cert.InGrad.Facts) (hInGradIdeal : Cert.InGradIdeal.Facts) (hInGradReferenceIdeal : Cert.InGradReferenceIdeal.Facts) (hFfnFwd : Cert.FfnFwd.Facts) (hFfnFwdIdeal : Cert.FfnFwdIdeal.Facts) (hFfnFwdReferenceIdeal : Cert.FfnFwdReferenceIdeal.Facts) (hDownGrad : Cert.DownGrad.Facts) (hDownGradIdeal : Cert.DownGradIdeal.Facts) (hDownGradReferenceIdeal : Cert.DownGradReferenceIdeal.Facts) (hQkvGrad : Cert.QkvGrad.Facts) (hQkvGradIdeal : Cert.QkvGradIdeal.Facts) (hQkvGradReferenceIdeal : Cert.QkvGradReferenceIdeal.Facts) (hPoolInGrad : Cert.PoolInGrad.Facts) (hPoolInGradIdeal : Cert.PoolInGradIdeal.Facts) (hPoolInGradReferenceIdeal : Cert.PoolInGradReferenceIdeal.Facts) (hPoolOutGrad : Cert.PoolOutGrad.Facts) (hPoolOutGradIdeal : Cert.PoolOutGradIdeal.Facts) (hPoolOutGradReferenceIdeal : Cert.PoolOutGradReferenceIdeal.Facts) (hAttnOutGrad : Cert.AttnOutGrad.Facts) (hAttnOutGradIdeal : Cert.AttnOutGradIdeal.Facts) (hAttnOutGradReferenceIdeal : Cert.AttnOutGradReferenceIdeal.Facts) (hPoolGroupGrad : Cert.PoolGroupGrad.Facts) (hPoolGroupGradIdeal : Cert.PoolGroupGradIdeal.Facts) (hPoolGroupGradReferenceIdeal : Cert.PoolGroupGradReferenceIdeal.Facts) (hPoolFwd : Cert.PoolFwd.Facts) (hPoolFwdIdeal : Cert.PoolFwdIdeal.Facts) (hPoolFwdReferenceIdeal : Cert.PoolFwdReferenceIdeal.Facts) (hLoss : Cert.Loss.Facts) (hLossIdeal : Cert.LossIdeal.Facts) (hLossReferenceIdeal : Cert.LossReferenceIdeal.Facts) (hPre_finite_args : Cert.Pre_finite_args.Facts) (hPre_finite_ffn_args : Cert.Pre_finite_ffn_args.Facts) (hPre_finite_pool_args : Cert.Pre_finite_pool_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Ffn (hFfn := hFfn)
    ∧ quiescent_FfnIdeal (hFfnIdeal := hFfnIdeal)
    ∧ quiescent_FfnIdeal_pre_finite_ffn_args (hFfnIdeal := hFfnIdeal) (hPre_finite_ffn_args := hPre_finite_ffn_args)
    ∧ quiescent_FfnReferenceIdeal (hFfnReferenceIdeal := hFfnReferenceIdeal)
    ∧ quiescent_FfnReferenceIdeal_pre_finite_ffn_args (hFfnReferenceIdeal := hFfnReferenceIdeal) (hPre_finite_ffn_args := hPre_finite_ffn_args)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_QkvGrad (hQkvGrad := hQkvGrad)
    ∧ quiescent_QkvGradIdeal (hQkvGradIdeal := hQkvGradIdeal)
    ∧ quiescent_QkvGradReferenceIdeal (hQkvGradReferenceIdeal := hQkvGradReferenceIdeal)
    ∧ quiescent_PoolInGrad (hPoolInGrad := hPoolInGrad)
    ∧ quiescent_PoolInGradIdeal (hPoolInGradIdeal := hPoolInGradIdeal)
    ∧ quiescent_PoolInGradReferenceIdeal (hPoolInGradReferenceIdeal := hPoolInGradReferenceIdeal)
    ∧ quiescent_PoolOutGrad (hPoolOutGrad := hPoolOutGrad)
    ∧ quiescent_PoolOutGradIdeal (hPoolOutGradIdeal := hPoolOutGradIdeal)
    ∧ quiescent_PoolOutGradReferenceIdeal (hPoolOutGradReferenceIdeal := hPoolOutGradReferenceIdeal)
    ∧ quiescent_AttnOutGrad (hAttnOutGrad := hAttnOutGrad)
    ∧ quiescent_AttnOutGradIdeal (hAttnOutGradIdeal := hAttnOutGradIdeal)
    ∧ quiescent_AttnOutGradReferenceIdeal (hAttnOutGradReferenceIdeal := hAttnOutGradReferenceIdeal)
    ∧ quiescent_PoolGroupGrad (hPoolGroupGrad := hPoolGroupGrad)
    ∧ quiescent_PoolGroupGradIdeal (hPoolGroupGradIdeal := hPoolGroupGradIdeal)
    ∧ quiescent_PoolGroupGradReferenceIdeal (hPoolGroupGradReferenceIdeal := hPoolGroupGradReferenceIdeal)
    ∧ quiescent_PoolFwd (hPoolFwd := hPoolFwd)
    ∧ quiescent_PoolFwdIdeal (hPoolFwdIdeal := hPoolFwdIdeal)
    ∧ quiescent_PoolFwdIdeal_pre_finite_pool_args (hPoolFwdIdeal := hPoolFwdIdeal) (hPre_finite_pool_args := hPre_finite_pool_args)
    ∧ quiescent_PoolFwdReferenceIdeal (hPoolFwdReferenceIdeal := hPoolFwdReferenceIdeal)
    ∧ quiescent_PoolFwdReferenceIdeal_pre_finite_pool_args (hPoolFwdReferenceIdeal := hPoolFwdReferenceIdeal) (hPre_finite_pool_args := hPre_finite_pool_args)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Ffn_FfnIdeal
    ∧ algebraic_FfnIdeal_FfnReferenceIdeal_pre_finite_ffn_args (hFfnIdeal := hFfnIdeal) (hFfnReferenceIdeal := hFfnReferenceIdeal) (hPre_finite_ffn_args := hPre_finite_ffn_args)
    ∧ preserves_InGrad_InGradIdeal
    ∧ algebraic_InGradIdeal_InGradReferenceIdeal (hInGradIdeal := hInGradIdeal) (hInGradReferenceIdeal := hInGradReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_QkvGrad_QkvGradIdeal
    ∧ algebraic_QkvGradIdeal_QkvGradReferenceIdeal (hQkvGradIdeal := hQkvGradIdeal) (hQkvGradReferenceIdeal := hQkvGradReferenceIdeal)
    ∧ preserves_PoolInGrad_PoolInGradIdeal
    ∧ algebraic_PoolInGradIdeal_PoolInGradReferenceIdeal (hPoolInGradIdeal := hPoolInGradIdeal) (hPoolInGradReferenceIdeal := hPoolInGradReferenceIdeal)
    ∧ preserves_PoolOutGrad_PoolOutGradIdeal
    ∧ algebraic_PoolOutGradIdeal_PoolOutGradReferenceIdeal (hPoolOutGradIdeal := hPoolOutGradIdeal) (hPoolOutGradReferenceIdeal := hPoolOutGradReferenceIdeal)
    ∧ preserves_AttnOutGrad_AttnOutGradIdeal
    ∧ algebraic_AttnOutGradIdeal_AttnOutGradReferenceIdeal (hAttnOutGradIdeal := hAttnOutGradIdeal) (hAttnOutGradReferenceIdeal := hAttnOutGradReferenceIdeal)
    ∧ preserves_PoolGroupGrad_PoolGroupGradIdeal
    ∧ algebraic_PoolGroupGradIdeal_PoolGroupGradReferenceIdeal (hPoolGroupGradIdeal := hPoolGroupGradIdeal) (hPoolGroupGradReferenceIdeal := hPoolGroupGradReferenceIdeal)
    ∧ preserves_PoolFwd_PoolFwdIdeal
    ∧ algebraic_PoolFwdIdeal_PoolFwdReferenceIdeal_pre_finite_pool_args (hPoolFwdIdeal := hPoolFwdIdeal) (hPoolFwdReferenceIdeal := hPoolFwdReferenceIdeal) (hPre_finite_pool_args := hPre_finite_pool_args)
    ∧ preserves_Loss_LossIdeal
    ∧ algebraic_LossIdeal_LossReferenceIdeal (hLossIdeal := hLossIdeal) (hLossReferenceIdeal := hLossReferenceIdeal)
-- ==== Pre_finite_args.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_arg4 : FVec F S4x256x256 .f32) (main_arg5 : FVec F S1x1024 .f32) (main_arg6 : FVec F S1024x1024 .f32) (main_v3 : IVec S_ 1) (main_v7 : IVec S_ 1) (main_v11 : IVec S_ 1) (main_v15 : IVec S_ 1) : IVec S_ 1 :=
  let main_v16 : FVec F S4x256x256 .f32 := Host.absf main_arg4
  let main_cst_6 : FVec F S_ .f32 := constant S_ .f32 0x7F800000#32
  let main_v17 : FVec F S4x256x256 .f32 := broadcastInDim S4x256x256 ![] bcast_S_S4x256x256 main_cst_6
  let main_v18 : IVec S4x256x256 1 := cmpf .olt main_v16 main_v17
  let main_c_7 : IVec S_ 1 := constantI S_ 1 1#1
  let main_v19 : IVec S_ 1 := (fun x v => Host.reduce IntOp.andi x v reducesTo_S4x256x256_S_d0_1_2 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S8192x1024 .f32) (main_arg2 : FVec F S1x1024 .f32) (main_arg3 : FVec F S1024x1024 .f32) (main_arg4 : FVec F S4x256x256 .f32) (main_arg5 : FVec F S1x1024 .f32) (main_arg6 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg6 main_v3 main_v7 main_v11 main_v15
-- ==== Pre_finite_ffn_args.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite_pool_args.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1x1024 .f32) (main_arg2 : FVec F S1024x1024 .f32) (main_arg3 : FVec F S4x256x256 .f32) (main_arg4 : FVec F S1x1024 .f32) (main_arg5 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v3 main_v7
  let main_v13 : IVec S_ 1 := andi main_v12 main_v11
  main_v13
-- ==== Kernel.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S2x256 : Shape := ⟨2, ![2, 256]⟩
abbrev S8190x256 : Shape := ⟨2, ![8190, 256]⟩
abbrev S1x256x256 : Shape := ⟨3, ![1, 256, 256]⟩
abbrev S256x256 : Shape := ⟨2, ![256, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S512x1024 : Shape := ⟨2, ![512, 1024]⟩
abbrev S544x1024 : Shape := ⟨2, ![544, 1024]⟩
abbrev S544x256 : Shape := ⟨2, ![544, 256]⟩
abbrev S32x1024 : Shape := ⟨2, ![32, 1024]⟩
abbrev S512x1 : Shape := ⟨2, ![512, 1]⟩
abbrev S512x256 : Shape := ⟨2, ![512, 256]⟩
abbrev S536x256 : Shape := ⟨2, ![536, 256]⟩
abbrev S528x256 : Shape := ⟨2, ![528, 256]⟩
abbrev S520x256 : Shape := ⟨2, ![520, 256]⟩
abbrev S512 : Shape := ⟨1, ![512]⟩

abbrev nBuf : Space → Nat
  | .hbm => 131
  | .vmem => 22
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x1024, .f32⟩
  | 4 => ⟨S4x256x256, .f32⟩
  | 5 => ⟨S1x1024, .f32⟩
  | 6 => ⟨S1024x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x1024, .f32⟩
  | 25 => ⟨S8192x256, .f32⟩
  | 26 => ⟨S_, .f32⟩
  | 27 => ⟨S_, .f32⟩
  | 28 => ⟨S8192x256, .f32⟩
  | 29 => ⟨S_, .f32⟩
  | 30 => ⟨S2x256, .f32⟩
  | 31 => ⟨S8190x256, .f32⟩
  | 32 => ⟨S8192x256, .f32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192, .f32⟩
  | 41 => ⟨S8192x1, .f32⟩
  | 42 => ⟨S8192x256, .f32⟩
  | 43 => ⟨S8192x256, .f32⟩
  | 44 => ⟨S8192x256, .f32⟩
  | 45 => ⟨S8192x256, .f32⟩
  | 46 => ⟨S1x256x256, .f32⟩
  | 47 => ⟨S256x256, .f32⟩
  | 48 => ⟨S8192x256, .f32⟩
  | 49 => ⟨S8192x256, .f32⟩
  | 50 => ⟨S_, .f32⟩
  | 51 => ⟨S_, .f32⟩
  | 52 => ⟨S8192x256, .f32⟩
  | 53 => ⟨S_, .f32⟩
  | 54 => ⟨S4x256, .f32⟩
  | 55 => ⟨S8188x256, .f32⟩
  | 56 => ⟨S8192x256, .f32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S8192x1, .f32⟩
  | 66 => ⟨S8192x256, .f32⟩
  | 67 => ⟨S8192x256, .f32⟩
  | 68 => ⟨S8192x256, .f32⟩
  | 69 => ⟨S8192x256, .f32⟩
  | 70 => ⟨S1x256x256, .f32⟩
  | 71 => ⟨S256x256, .f32⟩
  | 72 => ⟨S8192x256, .f32⟩
  | 73 => ⟨S8192x256, .f32⟩
  | 74 => ⟨S_, .f32⟩
  | 75 => ⟨S_, .f32⟩
  | 76 => ⟨S8192x256, .f32⟩
  | 77 => ⟨S_, .f32⟩
  | 78 => ⟨S8x256, .f32⟩
  | 79 => ⟨S8184x256, .f32⟩
  | 80 => ⟨S8192x256, .f32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .f32⟩
  | 89 => ⟨S8192x1, .f32⟩
  | 90 => ⟨S8192x256, .f32⟩
  | 91 => ⟨S8192x256, .f32⟩
  | 92 => ⟨S8192x256, .f32⟩
  | 93 => ⟨S8192x256, .f32⟩
  | 94 => ⟨S1x256x256, .f32⟩
  | 95 => ⟨S256x256, .f32⟩
  | 96 => ⟨S8192x256, .f32⟩
  | 97 => ⟨S8192x256, .f32⟩
  | 98 => ⟨S_, .f32⟩
  | 99 => ⟨S_, .f32⟩
  | 100 => ⟨S8192x256, .f32⟩
  | 101 => ⟨S_, .f32⟩
  | 102 => ⟨S16x256, .f32⟩
  | 103 => ⟨S8176x256, .f32⟩
  | 104 => ⟨S8192x256, .f32⟩
  | 105 => ⟨S8192, .i32⟩
  | 106 => ⟨S_, .i32⟩
  | 107 => ⟨S8192, .i32⟩
  | 108 => ⟨S8192, .i32⟩
  | 109 => ⟨S_, .i32⟩
  | 110 => ⟨S8192, .i32⟩
  | 111 => ⟨S8192, .i32⟩
  | 112 => ⟨S8192, .f32⟩
  | 113 => ⟨S8192x1, .f32⟩
  | 114 => ⟨S8192x256, .f32⟩
  | 115 => ⟨S8192x256, .f32⟩
  | 116 => ⟨S8192x256, .f32⟩
  | 117 => ⟨S8192x256, .f32⟩
  | 118 => ⟨S1x256x256, .f32⟩
  | 119 => ⟨S256x256, .f32⟩
  | 120 => ⟨S8192x256, .f32⟩
  | 121 => ⟨S8192x1024, .f32⟩
  | 122 => ⟨S8192x1024, .bf16⟩
  | 123 => ⟨S1024x1024, .bf16⟩
  | 124 => ⟨S4x256x256, .bf16⟩
  | 125 => ⟨S1024x1024, .bf16⟩
  | 126 => ⟨S8192x1024, .bf16⟩
  | 127 => ⟨S8192x1024, .bf16⟩
  | _ => ⟨S8192x1024, .f32⟩

abbrev hbmTy0_1 (i : Nat) : BufTy := match i % 128 with
  | 0 => ⟨S8192x1024, .f32⟩
  | 1 => ⟨S1x1024, .f32⟩
  | 2 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S4x256x256, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S544x1024, .f32⟩
  | .local _ .vmem, ⟨20, _⟩ => ⟨S544x256, .f32⟩
  | .local _ .vmem, ⟨21, _⟩ => ⟨S544x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_call0_cst : Ref sig .tc := ⟨.hbm, 26, rfl⟩
abbrev main_call0_call0_v0 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_call0_cst : Ref sig .tc := ⟨.hbm, 50, rfl⟩
abbrev main_call1_call0_v0 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call2_call0_cst : Ref sig .tc := ⟨.hbm, 74, rfl⟩
abbrev main_call2_call0_v0 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_8 : Ref sig .tc := ⟨.hbm, 82, rfl⟩
abbrev main_v59 : Ref sig .tc := ⟨.hbm, 83, rfl⟩
abbrev main_v60 : Ref sig .tc := ⟨.hbm, 84, rfl⟩
abbrev main_c_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call3_call0_cst : Ref sig .tc := ⟨.hbm, 98, rfl⟩
abbrev main_call3_call0_v0 : Ref sig .tc := ⟨.hbm, 99, rfl⟩
abbrev main_v73 : Ref sig .tc := ⟨.hbm, 100, rfl⟩
abbrev main_cst_10 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_11 : Ref sig .tc := ⟨.hbm, 106, rfl⟩
abbrev main_v78 : Ref sig .tc := ⟨.hbm, 107, rfl⟩
abbrev main_v79 : Ref sig .tc := ⟨.hbm, 108, rfl⟩
abbrev main_c_12 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96_0 : Ref sig .tc := ⟨.hbm, 126, rfl⟩
abbrev main_v96_1 : Ref sig .tc := ⟨.hbm, 127, rfl⟩
abbrev main_v96_2 : Ref sig .tc := ⟨.hbm, 128, rfl⟩
abbrev main_v96_3 : Ref sig .tc := ⟨.hbm, 129, rfl⟩
abbrev main_v96_4 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S2x256 : Shape := ⟨2, ![2, 256]⟩
abbrev S8190x256 : Shape := ⟨2, ![8190, 256]⟩
abbrev S1x256x256 : Shape := ⟨3, ![1, 256, 256]⟩
abbrev S256x256 : Shape := ⟨2, ![256, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩

abbrev nBuf : Space → Nat
  | .hbm => 250
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x1024, .f32⟩
  | 4 => ⟨S4x256x256, .f32⟩
  | 5 => ⟨S1x1024, .f32⟩
  | 6 => ⟨S1024x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S8192x256, .f32⟩
  | 30 => ⟨S_, .f32⟩
  | 31 => ⟨S_, .f32⟩
  | 32 => ⟨S8192x256, .f32⟩
  | 33 => ⟨S_, .f32⟩
  | 34 => ⟨S2x256, .f32⟩
  | 35 => ⟨S8190x256, .f32⟩
  | 36 => ⟨S8192x256, .f32⟩
  | 37 => ⟨S_, .f32⟩
  | 38 => ⟨S2x256, .f32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S8192x1, .f32⟩
  | 48 => ⟨S8192x256, .f32⟩
  | 49 => ⟨S8192x256, .f32⟩
  | 50 => ⟨S8192x256, .f32⟩
  | 51 => ⟨S8192x256, .f32⟩
  | 52 => ⟨S1x256x256, .f32⟩
  | 53 => ⟨S256x256, .f32⟩
  | 54 => ⟨S8192x256, .f32⟩
  | 55 => ⟨S8192x256, .f32⟩
  | 56 => ⟨S_, .f32⟩
  | 57 => ⟨S_, .f32⟩
  | 58 => ⟨S8192x256, .f32⟩
  | 59 => ⟨S_, .f32⟩
  | 60 => ⟨S4x256, .f32⟩
  | 61 => ⟨S8188x256, .f32⟩
  | 62 => ⟨S8192x256, .f32⟩
  | 63 => ⟨S_, .f32⟩
  | 64 => ⟨S4x256, .f32⟩
  | 65 => ⟨S8192, .i32⟩
  | 66 => ⟨S_, .i32⟩
  | 67 => ⟨S8192, .i32⟩
  | 68 => ⟨S8192, .i32⟩
  | 69 => ⟨S_, .i32⟩
  | 70 => ⟨S8192, .i32⟩
  | 71 => ⟨S8192, .i32⟩
  | 72 => ⟨S8192, .f32⟩
  | 73 => ⟨S8192x1, .f32⟩
  | 74 => ⟨S8192x256, .f32⟩
  | 75 => ⟨S8192x256, .f32⟩
  | 76 => ⟨S8192x256, .f32⟩
  | 77 => ⟨S8192x256, .f32⟩
  | 78 => ⟨S1x256x256, .f32⟩
  | 79 => ⟨S256x256, .f32⟩
  | 80 => ⟨S8192x256, .f32⟩
  | 81 => ⟨S8192x256, .f32⟩
  | 82 => ⟨S_, .f32⟩
  | 83 => ⟨S_, .f32⟩
  | 84 => ⟨S8192x256, .f32⟩
  | 85 => ⟨S_, .f32⟩
  | 86 => ⟨S8x256, .f32⟩
  | 87 => ⟨S8184x256, .f32⟩
  | 88 => ⟨S8192x256, .f32⟩
  | 89 => ⟨S_, .f32⟩
  | 90 => ⟨S8x256, .f32⟩
  | 91 => ⟨S8192, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .f32⟩
  | 99 => ⟨S8192x1, .f32⟩
  | 100 => ⟨S8192x256, .f32⟩
  | 101 => ⟨S8192x256, .f32⟩
  | 102 => ⟨S8192x256, .f32⟩
  | 103 => ⟨S8192x256, .f32⟩
  | 104 => ⟨S1x256x256, .f32⟩
  | 105 => ⟨S256x256, .f32⟩
  | 106 => ⟨S8192x256, .f32⟩
  | 107 => ⟨S8192x256, .f32⟩
  | 108 => ⟨S_, .f32⟩
  | 109 => ⟨S_, .f32⟩
  | 110 => ⟨S8192x256, .f32⟩
  | 111 => ⟨S_, .f32⟩
  | 112 => ⟨S16x256, .f32⟩
  | 113 => ⟨S8176x256, .f32⟩
  | 114 => ⟨S8192x256, .f32⟩
  | 115 => ⟨S_, .f32⟩
  | 116 => ⟨S16x256, .f32⟩
  | 117 => ⟨S8192, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S8192, .f32⟩
  | 125 => ⟨S8192x1, .f32⟩
  | 126 => ⟨S8192x256, .f32⟩
  | 127 => ⟨S8192x256, .f32⟩
  | _ => ⟨S8192x1024, .f32⟩

abbrev hbmTy0_1 (i : Nat) : BufTy := match i % 128 with
  | 0 => ⟨S8192x256, .f32⟩
  | 1 => ⟨S8192x256, .f32⟩
  | 2 => ⟨S1x256x256, .f32⟩
  | 3 => ⟨S256x256, .f32⟩
  | 4 => ⟨S8192x256, .f32⟩
  | 5 => ⟨S8192x1024, .f32⟩
  | 6 => ⟨S1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S_, .f32⟩
  | 19 => ⟨S1024, .f32⟩
  | 20 => ⟨S1x1024, .f32⟩
  | 21 => ⟨S8192x256, .f32⟩
  | 22 => ⟨S8192x256, .f32⟩
  | 23 => ⟨S8192x256, .f32⟩
  | 24 => ⟨S8192x256, .f32⟩
  | 25 => ⟨S8192x256, .f32⟩
  | 26 => ⟨S8192x256, .f32⟩
  | 27 => ⟨S8192x256, .f32⟩
  | 28 => ⟨S8192x256, .f32⟩
  | 29 => ⟨S8192x256, .f32⟩
  | 30 => ⟨S16x256, .f32⟩
  | 31 => ⟨S8176x256, .f32⟩
  | 32 => ⟨S_, .f32⟩
  | 33 => ⟨S8192x256, .f32⟩
  | 34 => ⟨S8192x256, .f32⟩
  | 35 => ⟨S_, .f32⟩
  | 36 => ⟨S_, .f32⟩
  | 37 => ⟨S8192x256, .f32⟩
  | 38 => ⟨S8192x256, .f32⟩
  | 39 => ⟨S_, .f32⟩
  | 40 => ⟨S8192x1024, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8x256, .f32⟩
  | 47 => ⟨S8184x256, .f32⟩
  | 48 => ⟨S_, .f32⟩
  | 49 => ⟨S8192x256, .f32⟩
  | 50 => ⟨S8192x256, .f32⟩
  | 51 => ⟨S_, .f32⟩
  | 52 => ⟨S_, .f32⟩
  | 53 => ⟨S8192x256, .f32⟩
  | 54 => ⟨S8192x256, .f32⟩
  | 55 => ⟨S_, .f32⟩
  | 56 => ⟨S8192x1024, .f32⟩
  | 57 => ⟨S8192x1024, .f32⟩
  | 58 => ⟨S8192x256, .f32⟩
  | 59 => ⟨S8192x256, .f32⟩
  | 60 => ⟨S8192x256, .f32⟩
  | 61 => ⟨S8192x256, .f32⟩
  | 62 => ⟨S8192x256, .f32⟩
  | 63 => ⟨S4x256, .f32⟩
  | 64 => ⟨S8188x256, .f32⟩
  | 65 => ⟨S_, .f32⟩
  | 66 => ⟨S8192x256, .f32⟩
  | 67 => ⟨S8192x256, .f32⟩
  | 68 => ⟨S_, .f32⟩
  | 69 => ⟨S_, .f32⟩
  | 70 => ⟨S8192x256, .f32⟩
  | 71 => ⟨S8192x256, .f32⟩
  | 72 => ⟨S_, .f32⟩
  | 73 => ⟨S8192x1024, .f32⟩
  | 74 => ⟨S8192x1024, .f32⟩
  | 75 => ⟨S8192x256, .f32⟩
  | 76 => ⟨S8192x256, .f32⟩
  | 77 => ⟨S8192x256, .f32⟩
  | 78 => ⟨S8192x256, .f32⟩
  | 79 => ⟨S8192x256, .f32⟩
  | 80 => ⟨S2x256, .f32⟩
  | 81 => ⟨S8190x256, .f32⟩
  | 82 => ⟨S_, .f32⟩
  | 83 => ⟨S8192x256, .f32⟩
  | 84 => ⟨S8192x256, .f32⟩
  | 85 => ⟨S_, .f32⟩
  | 86 => ⟨S_, .f32⟩
  | 87 => ⟨S8192x256, .f32⟩
  | 88 => ⟨S8192x256, .f32⟩
  | 89 => ⟨S_, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S1024, .f32⟩
  | 96 => ⟨S1x1024, .f32⟩
  | 97 => ⟨S8192x1024, .f32⟩
  | 98 => ⟨S8192x1024, .f32⟩
  | 99 => ⟨S_, .f32⟩
  | 100 => ⟨S1024, .f32⟩
  | 101 => ⟨S8192x1024, .f32⟩
  | 102 => ⟨S_, .f32⟩
  | 103 => ⟨S8192, .f32⟩
  | 104 => ⟨S8192x1, .f32⟩
  | 105 => ⟨S8192x1024, .f32⟩
  | 106 => ⟨S8192x1024, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S1x1024, .f32⟩
  | 119 => ⟨S8192x1024, .bf16⟩
  | 120 => ⟨S8192x1024, .bf16⟩
  | 121 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_call0_cst : Ref sig .tc := ⟨.hbm, 30, rfl⟩
abbrev main_call0_call0_v0 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call1_call0_cst : Ref sig .tc := ⟨.hbm, 56, rfl⟩
abbrev main_call1_call0_v0 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call2_call0_cst : Ref sig .tc := ⟨.hbm, 82, rfl⟩
abbrev main_call2_call0_v0 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call3_call0_cst : Ref sig .tc := ⟨.hbm, 108, rfl⟩
abbrev main_call3_call0_v0 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_v84 : Ref sig .tc := ⟨.hbm, 117, rfl⟩
abbrev main_c_16 : Ref sig .tc := ⟨.hbm, 118, rfl⟩
abbrev main_v85 : Ref sig .tc := ⟨.hbm, 119, rfl⟩
abbrev main_v86 : Ref sig .tc := ⟨.hbm, 120, rfl⟩
abbrev main_c_17 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_18 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_19 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_20 : Ref sig .tc := ⟨.hbm, 160, rfl⟩
abbrev main_v123 : Ref sig .tc := ⟨.hbm, 161, rfl⟩
abbrev main_v124 : Ref sig .tc := ⟨.hbm, 162, rfl⟩
abbrev main_call4_call0_cst : Ref sig .tc := ⟨.hbm, 163, rfl⟩
abbrev main_call4_call0_v0 : Ref sig .tc := ⟨.hbm, 164, rfl⟩
abbrev main_v125 : Ref sig .tc := ⟨.hbm, 165, rfl⟩
abbrev main_v126 : Ref sig .tc := ⟨.hbm, 166, rfl⟩
abbrev main_cst_21 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_22 : Ref sig .tc := ⟨.hbm, 176, rfl⟩
abbrev main_v135 : Ref sig .tc := ⟨.hbm, 177, rfl⟩
abbrev main_v136 : Ref sig .tc := ⟨.hbm, 178, rfl⟩
abbrev main_call5_call0_cst : Ref sig .tc := ⟨.hbm, 179, rfl⟩
abbrev main_call5_call0_v0 : Ref sig .tc := ⟨.hbm, 180, rfl⟩
abbrev main_v137 : Ref sig .tc := ⟨.hbm, 181, rfl⟩
abbrev main_v138 : Ref sig .tc := ⟨.hbm, 182, rfl⟩
abbrev main_cst_23 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_24 : Ref sig .tc := ⟨.hbm, 193, rfl⟩
abbrev main_v148 : Ref sig .tc := ⟨.hbm, 194, rfl⟩
abbrev main_v149 : Ref sig .tc := ⟨.hbm, 195, rfl⟩
abbrev main_call6_call0_cst : Ref sig .tc := ⟨.hbm, 196, rfl⟩
abbrev main_call6_call0_v0 : Ref sig .tc := ⟨.hbm, 197, rfl⟩
abbrev main_v150 : Ref sig .tc := ⟨.hbm, 198, rfl⟩
abbrev main_v151 : Ref sig .tc := ⟨.hbm, 199, rfl⟩
abbrev main_cst_25 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_26 : Ref sig .tc := ⟨.hbm, 210, rfl⟩
abbrev main_v161 : Ref sig .tc := ⟨.hbm, 211, rfl⟩
abbrev main_v162 : Ref sig .tc := ⟨.hbm, 212, rfl⟩
abbrev main_call7_call0_cst : Ref sig .tc := ⟨.hbm, 213, rfl⟩
abbrev main_call7_call0_v0 : Ref sig .tc := ⟨.hbm, 214, rfl⟩
abbrev main_v163 : Ref sig .tc := ⟨.hbm, 215, rfl⟩
abbrev main_v164 : Ref sig .tc := ⟨.hbm, 216, rfl⟩
abbrev main_cst_27 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_28 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_cst_29 : Ref sig .tc := ⟨.hbm, 227, rfl⟩
abbrev main_v173 : Ref sig .tc := ⟨.hbm, 228, rfl⟩
abbrev main_v174 : Ref sig .tc := ⟨.hbm, 229, rfl⟩
abbrev main_cst_30 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_cst_31 : Ref sig .tc := ⟨.hbm, 236, rfl⟩
abbrev main_v180 : Ref sig .tc := ⟨.hbm, 237, rfl⟩
abbrev main_v181 : Ref sig .tc := ⟨.hbm, 238, rfl⟩
abbrev main_cst_32 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S512x1024 : Shape := ⟨2, ![512, 1024]⟩
abbrev S1x512x704 : Shape := ⟨3, ![1, 512, 704]⟩
abbrev S1x704x1024 : Shape := ⟨3, ![1, 704, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512 : Shape := ⟨1, ![512]⟩
abbrev S512x1 : Shape := ⟨2, ![512, 1]⟩

abbrev nBuf : Space → Nat
  | .hbm => 43
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x4x704, .f32⟩
  | .hbm, ⟨25, _⟩ => ⟨S4x8192x704, .f32⟩
  | .hbm, ⟨26, _⟩ => ⟨S4x8192x704, .bf16⟩
  | .hbm, ⟨27, _⟩ => ⟨S8192x2816, .f32⟩
  | .hbm, ⟨28, _⟩ => ⟨S8192x4x704, .f32⟩
  | .hbm, ⟨29, _⟩ => ⟨S4x8192x704, .f32⟩
  | .hbm, ⟨30, _⟩ => ⟨S4x8192x704, .bf16⟩
  | .hbm, ⟨31, _⟩ => ⟨S2816x1024, .f32⟩
  | .hbm, ⟨32, _⟩ => ⟨S4x704x1024, .f32⟩
  | .hbm, ⟨33, _⟩ => ⟨S4x704x1024, .bf16⟩
  | .hbm, ⟨34, _⟩ => ⟨S2816x1024, .f32⟩
  | .hbm, ⟨35, _⟩ => ⟨S4x704x1024, .f32⟩
  | .hbm, ⟨36, _⟩ => ⟨S4x704x1024, .bf16⟩
  | .hbm, ⟨37, _⟩ => ⟨S4x704x1024, .f32⟩
  | .hbm, ⟨38, _⟩ => ⟨S4x704x1024, .bf16⟩
  | .hbm, ⟨39, _⟩ => ⟨S4x8192x704, .bf16⟩
  | .hbm, ⟨40, _⟩ => ⟨S4x8192x704, .bf16⟩
  | .hbm, ⟨41, _⟩ => ⟨S8192x1024, .f32⟩
  | .hbm, ⟨42, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v102 : BitVec 1 := Scalar.cmpi .eq arg1 c3_i32
  let v103 : BitVec 32 := Scalar.extui v102
  let c0_i32_71 : BitVec 32 := 0#32
  let v104 : BitVec 1 := Scalar.cmpi .ne v103 c0_i32_71
  v104

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== FfnReferenceIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1x1024, .f32⟩
  | .hbm, ⟨80, _⟩ => ⟨S8192x4x704, .f32⟩
  | .hbm, ⟨81, _⟩ => ⟨S4x8192x704, .f32⟩
  | .hbm, ⟨82, _⟩ => ⟨S4x8192x704, .bf16⟩
  | .hbm, ⟨83, _⟩ => ⟨S8192x4x704, .f32⟩
  | .hbm, ⟨84, _⟩ => ⟨S4x8192x704, .f32⟩
  | .hbm, ⟨85, _⟩ => ⟨S4x8192x704, .bf16⟩
  | .hbm, ⟨86, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]
-- ==== InGrad.lean ====
abbrev S8192x2816 : Shape := ⟨2, ![8192, 2816]⟩
abbrev S8192x1024 : Shape := ⟨2, ![8192, 1024]⟩
abbrev S1x1024 : Shape := ⟨2, ![1, 1024]⟩
abbrev S8192x4x704 : Shape := ⟨3, ![8192, 4, 704]⟩
abbrev S4x8192x704 : Shape := ⟨3, ![4, 8192, 704]⟩
abbrev S1024 : Shape := ⟨1, ![1024]⟩
abbrev S_ : Shape := ⟨0, ![]⟩
abbrev S8192 : Shape := ⟨1, ![8192]⟩
abbrev S8192x1 : Shape := ⟨2, ![8192, 1]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 25
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InGradReferenceIdeal.lean ====
abbrev S8192x2816 : Shape := ⟨2, ![8192, 2816]⟩
abbrev S8192x1024 : Shape := ⟨2, ![8192, 1024]⟩
abbrev S1x1024 : Shape := ⟨2, ![1, 1024]⟩
abbrev S_ : Shape := ⟨0, ![]⟩
abbrev S1024x2816 : Shape := ⟨2, ![1024, 2816]⟩
abbrev S1024 : Shape := ⟨1, ![1024]⟩
abbrev S8192 : Shape := ⟨1, ![8192]⟩
abbrev S8192x1 : Shape := ⟨2, ![8192, 1]⟩
abbrev S2816x1024 : Shape := ⟨2, ![2816, 1024]⟩
abbrev S4x704x1024 : Shape := ⟨3, ![4, 704, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1024x2816, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S2816x1024, .f32⟩
  | .hbm, ⟨24, _⟩ => ⟨S1024x2816, .f32⟩
  | .hbm, ⟨25, _⟩ => ⟨S2816x1024, .f32⟩
  | .hbm, ⟨26, _⟩ => ⟨S4x704x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S8192x1024, .bf16⟩
  | .hbm, ⟨14, _⟩ => ⟨S4x8192x704, .bf16⟩
  | .hbm, ⟨15, _⟩ => ⟨S4x8192x704, .bf16⟩
  | .hbm, ⟨16, _⟩ => ⟨S4x8192x704, .bf16⟩
  | .hbm, ⟨17, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_29 : BitVec 32 := 0#32
  let v41 : BitVec 1 := Scalar.cmpi .ne v40 c0_i32_29
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnFwdReferenceIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .bf16⟩
  | .hbm, ⟨35, _⟩ => ⟨S8192x4x704, .f32⟩
  | .hbm, ⟨36, _⟩ => ⟨S4x8192x704, .f32⟩
  | .hbm, ⟨37, _⟩ => ⟨S4x8192x704, .bf16⟩
  | .hbm, ⟨38, _⟩ => ⟨S8192x4x704, .f32⟩
  | .hbm, ⟨39, _⟩ => ⟨S4x8192x704, .f32⟩
  | .hbm, ⟨40, _⟩ => ⟨S4x8192x704, .bf16⟩
  | .hbm, ⟨41, _⟩ => ⟨S8192x4x704, .f32⟩
  | .hbm, ⟨42, _⟩ => ⟨S4x8192x704, .f32⟩
  | .hbm, ⟨43, _⟩ => ⟨S4x8192x704, .bf16⟩
  | .hbm, ⟨44, _⟩ => ⟨S8192x1024, .f32⟩
  | .hbm, ⟨45, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== DownGrad.lean ====
abbrev S8192x1024 : Shape := ⟨2, ![8192, 1024]⟩
abbrev S1x1024 : Shape := ⟨2, ![1, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x2048x704 : Shape := ⟨3, ![1, 2048, 704]⟩
abbrev S2048x1024 : Shape := ⟨2, ![2048, 1024]⟩
abbrev S2048x704 : Shape := ⟨2, ![2048, 704]⟩
abbrev S704x1024 : Shape := ⟨2, ![704, 1024]⟩
abbrev S1x704x1024 : Shape := ⟨3, ![1, 704, 1024]⟩

abbrev nBuf : Space → Nat
  | .hbm => 38
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x4x704, .f32⟩
  | .hbm, ⟨35, _⟩ => ⟨S4x8192x704, .f32⟩
  | .hbm, ⟨36, _⟩ => ⟨S4x8192x704, .bf16⟩
  | .hbm, ⟨37, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S4x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_4 : BitVec 32 := 0#32
  let v7 : BitVec 1 := Scalar.cmpi .ne v6 c0_i32_4
  v7

def k0_off1 (i : grid0.Coords) : Fin 3 → Nat :=
  let arg1 : BitVec 32 := BitVec.ofNat 32 (i 1).val
  let v11 : Index := Scalar.indexCast arg1
  let c0_7 : Index := 0#32
  let c0_8 : Index := 0#32
  ![v11.toNat, 0, 0]
def k0_cond2 (i : grid0.Coords) : BitVec 1 :=
  let arg0 : BitVec 32 := BitVec.ofNat 32 (i 0).val
  let c0_i32_5 : BitVec 32 := 0#32
  let v8 : BitVec 1 := Scalar.cmpi .sgt arg0 c0_i32_5
  let v9 : BitVec 32 := Scalar.extui v8
  let c0_i32_6 : BitVec 32 := 0#32
  let v10 : BitVec 1 := Scalar.cmpi .ne v9 c0_i32_6
  v10

def k0_off2 (i : grid0.Coords) : Fin 3 → Nat :=
  let arg1 : BitVec 32 := BitVec.ofNat 32 (i 1).val
  let v11 : Index := Scalar.indexCast arg1
  let c0_7 : Index := 0#32
  let c0_8 : Index := 0#32
  ![v11.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DownGradReferenceIdeal.lean ====
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S2816x1024 : Shape := ⟨2, ![2816, 1024]⟩
abbrev S1024 : Shape := ⟨1, ![1024]⟩
abbrev S8192 : Shape := ⟨1, ![8192]⟩
abbrev S8192x1 : Shape := ⟨2, ![8192, 1]⟩
abbrev S8192x2816 : Shape := ⟨2, ![8192, 2816]⟩
abbrev S4x704x1024 : Shape := ⟨3, ![4, 704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S_, .f32⟩
  | .hbm, ⟨6, _⟩ => ⟨S2816x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x1024, .f32⟩
  | .hbm, ⟨37, _⟩ => ⟨S1024x2816, .f32⟩
  | .hbm, ⟨38, _⟩ => ⟨S2816x1024, .f32⟩
  | .hbm, ⟨39, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== QkvGrad.lean ====
abbrev S8192x3072 : Shape := ⟨2, ![8192, 3072]⟩
abbrev S8192x1024 : Shape := ⟨2, ![8192, 1024]⟩
abbrev S1x1024 : Shape := ⟨2, ![1, 1024]⟩
abbrev S8192x3x1024 : Shape := ⟨3, ![8192, 3, 1024]⟩
abbrev S8192x3x384 : Shape := ⟨3, ![8192, 3, 384]⟩
abbrev S_ : Shape := ⟨0, ![]⟩
abbrev S8192x3x320 : Shape := ⟨3, ![8192, 3, 320]⟩
abbrev S8192x1152 : Shape := ⟨2, ![8192, 1152]⟩
abbrev S1x8192x1152 : Shape := ⟨3, ![1, 8192, 1152]⟩
abbrev S3x8192x1152 : Shape := ⟨3, ![3, 8192, 1152]⟩
abbrev S1024 : Shape := ⟨1, ![1024]⟩
abbrev S8192 : Shape := ⟨1, ![8192]⟩
abbrev S8192x1 : Shape := ⟨2, ![8192, 1]⟩
abbrev S3x1024x1152 : Shape := ⟨3, ![3, 1024, 1152]⟩
abbrev S2048x1024 : Shape := ⟨2, ![2048, 1024]⟩
abbrev S1x2048x1152 : Shape := ⟨3, ![1, 2048, 1152]⟩
abbrev S1x1024x1152 : Shape := ⟨3, ![1, 1024, 1152]⟩
abbrev S1024x1152 : Shape := ⟨2, ![1024, 1152]⟩
abbrev S2048x1152 : Shape := ⟨2, ![2048, 1152]⟩

abbrev nBuf : Space → Nat
  | .hbm => 43
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S1x1024, .f32⟩
  | .hbm, ⟨3, _⟩ => ⟨S8192x3x1024, .f32⟩
  | .hbm, ⟨4, _⟩ => ⟨S8192x3x384, .f32⟩
  | .hbm, ⟨5, _⟩ => ⟨S_, .i32⟩
  | .hbm, ⟨6, _⟩ => ⟨S_, .f32⟩
  | .hbm, ⟨7, _⟩ => ⟨S8192x3x384, .f32⟩
  | .hbm, ⟨8, _⟩ => ⟨S8192x3x320, .f32⟩
  | .hbm, ⟨9, _⟩ => ⟨S_, .i32⟩
  | .hbm, ⟨10, _⟩ => ⟨S_, .f32⟩
  | .hbm, ⟨11, _⟩ => ⟨S8192x3x384, .f32⟩
  | .hbm, ⟨12, _⟩ => ⟨S8192x3x320, .f32⟩
  | .hbm, ⟨13, _⟩ => ⟨S_, .i32⟩
  | .hbm, ⟨14, _⟩ => ⟨S_, .f32⟩
  | .hbm, ⟨15, _⟩ => ⟨S8192x3x384, .f32⟩
  | .hbm, ⟨16, _⟩ => ⟨S8192x1152, .f32⟩
  | .hbm, ⟨17, _⟩ => ⟨S8192x1152, .f32⟩
  | .hbm, ⟨18, _⟩ => ⟨S8192x1152, .f32⟩
  | .hbm, ⟨19, _⟩ => ⟨S1x8192x1152, .f32⟩
  | .hbm, ⟨20, _⟩ => ⟨S1x8192x1152, .f32⟩
  | .hbm, ⟨21, _⟩ => ⟨S1x8192x1152, .f32⟩
  | .hbm, ⟨22, _⟩ => ⟨S3x8192x1152, .f32⟩
  | .hbm, ⟨23, _⟩ => ⟨S1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S3x8192x1152, .bf16⟩
  | .hbm, ⟨42, _⟩ => ⟨S3x1024x1152, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S1x1024x1152, .f32⟩
  | .local _ .vmem, ⟨5, _⟩ => ⟨S1x1024x1152, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== QkvGradReferenceIdeal.lean ====
abbrev S8192x3072 : Shape := ⟨2, ![8192, 3072]⟩
abbrev S8192x1024 : Shape := ⟨2, ![8192, 1024]⟩
abbrev S1x1024 : Shape := ⟨2, ![1, 1024]⟩
abbrev S_ : Shape := ⟨0, ![]⟩
abbrev S1024x3072 : Shape := ⟨2, ![1024, 3072]⟩
abbrev S1024 : Shape := ⟨1, ![1024]⟩
abbrev S8192 : Shape := ⟨1, ![8192]⟩
abbrev S8192x1 : Shape := ⟨2, ![8192, 1]⟩
abbrev S3072x1024 : Shape := ⟨2, ![3072, 1024]⟩
abbrev S1024x3x1024 : Shape := ⟨3, ![1024, 3, 1024]⟩
abbrev S1024x3x384 : Shape := ⟨3, ![1024, 3, 384]⟩
abbrev S1024x3x320 : Shape := ⟨3, ![1024, 3, 320]⟩
abbrev S1024x1152 : Shape := ⟨2, ![1024, 1152]⟩
abbrev S1x1024x1152 : Shape := ⟨3, ![1, 1024, 1152]⟩
abbrev S3x1024x1152 : Shape := ⟨3, ![3, 1024, 1152]⟩

abbrev nBuf : Space → Nat
  | .hbm => 45
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1024x3072, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x3072, .f32⟩
  | .hbm, ⟨23, _⟩ => ⟨S3072x1024, .f32⟩
  | .hbm, ⟨24, _⟩ => ⟨S1024x3072, .f32⟩
  | .hbm, ⟨25, _⟩ => ⟨S1024x3x1024, .f32⟩
  | .hbm, ⟨26, _⟩ => ⟨S1024x3x384, .f32⟩
  | .hbm, ⟨27, _⟩ => ⟨S_, .i32⟩
  | .hbm, ⟨28, _⟩ => ⟨S_, .f32⟩
  | .hbm, ⟨29, _⟩ => ⟨S1024x3x384, .f32⟩
  | .hbm, ⟨30, _⟩ => ⟨S1024x3x320, .f32⟩
  | .hbm, ⟨31, _⟩ => ⟨S_, .i32⟩
  | .hbm, ⟨32, _⟩ => ⟨S_, .f32⟩
  | .hbm, ⟨33, _⟩ => ⟨S1024x3x384, .f32⟩
  | .hbm, ⟨34, _⟩ => ⟨S1024x3x320, .f32⟩
  | .hbm, ⟨35, _⟩ => ⟨S_, .i32⟩
  | .hbm, ⟨36, _⟩ => ⟨S_, .f32⟩
  | .hbm, ⟨37, _⟩ => ⟨S1024x3x384, .f32⟩
  | .hbm, ⟨38, _⟩ => ⟨S1024x1152, .f32⟩
  | .hbm, ⟨39, _⟩ => ⟨S1024x1152, .f32⟩
  | .hbm, ⟨40, _⟩ => ⟨S1024x1152, .f32⟩
  | .hbm, ⟨41, _⟩ => ⟨S1x1024x1152, .f32⟩
  | .hbm, ⟨42, _⟩ => ⟨S1x1024x1152, .f32⟩
  | .hbm, ⟨43, _⟩ => ⟨S1x1024x1152, .f32⟩
  | .hbm, ⟨44, _⟩ => ⟨S3x1024x1152, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_call2_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== PoolInGrad.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S2048x1024 : Shape := ⟨2, ![2048, 1024]⟩

abbrev nBuf : Space → Nat
  | .hbm => 23
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .bf16⟩
  | .hbm, ⟨22, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== PoolInGradReferenceIdeal.lean ====
abbrev S8192x1024 : Shape := ⟨2, ![8192, 1024]⟩
abbrev S1x1024 : Shape := ⟨2, ![1, 1024]⟩
abbrev S_ : Shape := ⟨0, ![]⟩
abbrev S1024x1024 : Shape := ⟨2, ![1024, 1024]⟩
abbrev S1024 : Shape := ⟨1, ![1024]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== PoolOutGrad.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== PoolOutGradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnOutGrad.lean ====
abbrev S8192x1024 : Shape := ⟨2, ![8192, 1024]⟩
abbrev S8192x384 : Shape := ⟨2, ![8192, 384]⟩
abbrev S_ : Shape := ⟨0, ![]⟩
abbrev S8192x320 : Shape := ⟨2, ![8192, 320]⟩
abbrev S8192x1152 : Shape := ⟨2, ![8192, 1152]⟩
abbrev S1152x1024 : Shape := ⟨2, ![1152, 1024]⟩
abbrev S2048x1152 : Shape := ⟨2, ![2048, 1152]⟩
abbrev S2048x1024 : Shape := ⟨2, ![2048, 1024]⟩

abbrev nBuf : Space → Nat
  | .hbm => 17
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x384, .f32⟩
  | .hbm, ⟨3, _⟩ => ⟨S_, .i32⟩
  | .hbm, ⟨4, _⟩ => ⟨S_, .f32⟩
  | .hbm, ⟨5, _⟩ => ⟨S8192x384, .f32⟩
  | .hbm, ⟨6, _⟩ => ⟨S8192x320, .f32⟩
  | .hbm, ⟨7, _⟩ => ⟨S_, .i32⟩
  | .hbm, ⟨8, _⟩ => ⟨S_, .f32⟩
  | .hbm, ⟨9, _⟩ => ⟨S8192x384, .f32⟩
  | .hbm, ⟨10, _⟩ => ⟨S8192x320, .f32⟩
  | .hbm, ⟨11, _⟩ => ⟨S_, .i32⟩
  | .hbm, ⟨12, _⟩ => ⟨S_, .f32⟩
  | .hbm, ⟨13, _⟩ => ⟨S8192x384, .f32⟩
  | .hbm, ⟨14, _⟩ => ⟨S8192x1152, .f32⟩
  | .hbm, ⟨15, _⟩ => ⟨S8192x1152, .bf16⟩
  | .hbm, ⟨16, _⟩ => ⟨S1152x1024, .f32⟩
  | .local _ .vmem, ⟨0, _⟩ => ⟨S2048x1152, .bf16⟩
  | .local _ .vmem, ⟨1, _⟩ => ⟨S2048x1152, .bf16⟩
  | .local _ .vmem, ⟨2, _⟩ => ⟨S2048x1024, .f32⟩
  | .local _ .vmem, ⟨3, _⟩ => ⟨S2048x1024, .f32⟩
  | .local _ .vmem, ⟨4, _⟩ => ⟨S1152x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1152x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AttnOutGradReferenceIdeal.lean ====
abbrev S8192x1024 : Shape := ⟨2, ![8192, 1024]⟩
abbrev S_ : Shape := ⟨0, ![]⟩
abbrev S1024x1024 : Shape := ⟨2, ![1024, 1024]⟩
abbrev S384x1024 : Shape := ⟨2, ![384, 1024]⟩
abbrev S320x1024 : Shape := ⟨2, ![320, 1024]⟩
abbrev S1152x1024 : Shape := ⟨2, ![1152, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S384x1024, .f32⟩
  | .hbm, ⟨8, _⟩ => ⟨S_, .i32⟩
  | .hbm, ⟨9, _⟩ => ⟨S_, .f32⟩
  | .hbm, ⟨10, _⟩ => ⟨S384x1024, .f32⟩
  | .hbm, ⟨11, _⟩ => ⟨S320x1024, .f32⟩
  | .hbm, ⟨12, _⟩ => ⟨S_, .i32⟩
  | .hbm, ⟨13, _⟩ => ⟨S_, .f32⟩
  | .hbm, ⟨14, _⟩ => ⟨S384x1024, .f32⟩
  | .hbm, ⟨15, _⟩ => ⟨S320x1024, .f32⟩
  | .hbm, ⟨16, _⟩ => ⟨S_, .i32⟩
  | .hbm, ⟨17, _⟩ => ⟨S_, .f32⟩
  | .hbm, ⟨18, _⟩ => ⟨S384x1024, .f32⟩
  | .hbm, ⟨19, _⟩ => ⟨S1152x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== PoolGroupGrad.lean ====
abbrev S8192x1024 : Shape := ⟨2, ![8192, 1024]⟩
abbrev S4x4x64x256 : Shape := ⟨4, ![4, 4, 64, 256]⟩
abbrev S2048x256 : Shape := ⟨2, ![2048, 256]⟩
abbrev S4x1x64x256 : Shape := ⟨4, ![4, 1, 64, 256]⟩
abbrev S4x64x256 : Shape := ⟨3, ![4, 64, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S4x4x64x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S4x1x64x256, .f32⟩
  | .local _ .vmem, ⟨5, _⟩ => ⟨S4x1x64x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolGroupGradReferenceIdeal.lean ====
abbrev S8192x1024 : Shape := ⟨2, ![8192, 1024]⟩
abbrev S_ : Shape := ⟨0, ![]⟩
abbrev S4x256x256 : Shape := ⟨3, ![4, 256, 256]⟩
abbrev S8192x4x256 : Shape := ⟨3, ![8192, 4, 256]⟩
abbrev S4x256x8192 : Shape := ⟨3, ![4, 256, 8192]⟩
abbrev S4x4x64x256 : Shape := ⟨4, ![4, 4, 64, 256]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S4x256x256, .f32⟩
  | .hbm, ⟨4, _⟩ => ⟨S8192x4x256, .f32⟩
  | .hbm, ⟨5, _⟩ => ⟨S4x256x8192, .f32⟩
  | .hbm, ⟨6, _⟩ => ⟨S8192x4x256, .f32⟩
  | .hbm, ⟨7, _⟩ => ⟨S8192x4x256, .f32⟩
  | .hbm, ⟨8, _⟩ => ⟨S4x256x8192, .f32⟩
  | .hbm, ⟨9, _⟩ => ⟨S4x256x256, .f32⟩
  | .hbm, ⟨10, _⟩ => ⟨S4x256x256, .f32⟩
  | .hbm, ⟨11, _⟩ => ⟨S4x4x64x256, .f32⟩
  | .hbm, ⟨12, _⟩ => ⟨S4x4x64x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== PoolFwd.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S512x1024 : Shape := ⟨2, ![512, 1024]⟩
abbrev S544x1024 : Shape := ⟨2, ![544, 1024]⟩
abbrev S544x256 : Shape := ⟨2, ![544, 256]⟩
abbrev S32x1024 : Shape := ⟨2, ![32, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S536x256 : Shape := ⟨2, ![536, 256]⟩
abbrev S528x256 : Shape := ⟨2, ![528, 256]⟩
abbrev S520x256 : Shape := ⟨2, ![520, 256]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S4x256x256, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S4x256x256, .bf16⟩
  | .hbm, ⟨8, _⟩ => ⟨S1024x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S4x256x256, .bf16⟩
  | .local _ .vmem, ⟨5, _⟩ => ⟨S1x1024, .f32⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S544x1024, .f32⟩
  | .local _ .vmem, ⟨18, _⟩ => ⟨S544x256, .f32⟩
  | .local _ .vmem, ⟨19, _⟩ => ⟨S544x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PoolFwdReferenceIdeal.lean ====
abbrev S8192x1024 : Shape := ⟨2, ![8192, 1024]⟩
abbrev S1x1024 : Shape := ⟨2, ![1, 1024]⟩
abbrev S1024x1024 : Shape := ⟨2, ![1024, 1024]⟩
abbrev S4x256x256 : Shape := ⟨3, ![4, 256, 256]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S2x256 : Shape := ⟨2, ![2, 256]⟩
abbrev S8190x256 : Shape := ⟨2, ![8190, 256]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S1x256x256 : Shape := ⟨3, ![1, 256, 256]⟩
abbrev S256x256 : Shape := ⟨2, ![256, 256]⟩

abbrev nBuf : Space → Nat
  | .hbm => 136
  | .vmem => 0
  | .smem => 0
  | _ => 0

abbrev hbmTy0_0 (i : Nat) : BufTy := match i % 128 with
  | 0 => ⟨S8192x1024, .f32⟩
  | 1 => ⟨S1x1024, .f32⟩
  | 2 => ⟨S1024x1024, .f32⟩
  | 3 => ⟨S4x256x256, .f32⟩
  | 4 => ⟨S1x1024, .f32⟩
  | 5 => ⟨S1024x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S8192x256, .f32⟩
  | 25 => ⟨S_, .f32⟩
  | 26 => ⟨S_, .f32⟩
  | 27 => ⟨S8192x256, .f32⟩
  | 28 => ⟨S_, .f32⟩
  | 29 => ⟨S2x256, .f32⟩
  | 30 => ⟨S8190x256, .f32⟩
  | 31 => ⟨S8192x256, .f32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192, .f32⟩
  | 40 => ⟨S8192x1, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S_, .f32⟩
  | 47 => ⟨S_, .f32⟩
  | 48 => ⟨S8192x256, .f32⟩
  | 49 => ⟨S_, .f32⟩
  | 50 => ⟨S4x256, .f32⟩
  | 51 => ⟨S8188x256, .f32⟩
  | 52 => ⟨S8192x256, .f32⟩
  | 53 => ⟨S8192, .i32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S8192, .f32⟩
  | 61 => ⟨S8192x1, .f32⟩
  | 62 => ⟨S8192x256, .f32⟩
  | 63 => ⟨S8192x256, .f32⟩
  | 64 => ⟨S8192x256, .f32⟩
  | 65 => ⟨S8192x256, .f32⟩
  | 66 => ⟨S8192x256, .f32⟩
  | 67 => ⟨S_, .f32⟩
  | 68 => ⟨S_, .f32⟩
  | 69 => ⟨S8192x256, .f32⟩
  | 70 => ⟨S_, .f32⟩
  | 71 => ⟨S8x256, .f32⟩
  | 72 => ⟨S8184x256, .f32⟩
  | 73 => ⟨S8192x256, .f32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .f32⟩
  | 82 => ⟨S8192x1, .f32⟩
  | 83 => ⟨S8192x256, .f32⟩
  | 84 => ⟨S8192x256, .f32⟩
  | 85 => ⟨S8192x256, .f32⟩
  | 86 => ⟨S8192x256, .f32⟩
  | 87 => ⟨S8192x256, .f32⟩
  | 88 => ⟨S_, .f32⟩
  | 89 => ⟨S_, .f32⟩
  | 90 => ⟨S8192x256, .f32⟩
  | 91 => ⟨S_, .f32⟩
  | 92 => ⟨S16x256, .f32⟩
  | 93 => ⟨S8176x256, .f32⟩
  | 94 => ⟨S8192x256, .f32⟩
  | 95 => ⟨S8192, .i32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .f32⟩
  | 103 => ⟨S8192x1, .f32⟩
  | 104 => ⟨S8192x256, .f32⟩
  | 105 => ⟨S8192x256, .f32⟩
  | 106 => ⟨S8192x256, .f32⟩
  | 107 => ⟨S8192x256, .f32⟩
  | 108 => ⟨S8192x1024, .f32⟩
  | 109 => ⟨S8192x256, .f32⟩
  | 110 => ⟨S1x256x256, .f32⟩
  | 111 => ⟨S256x256, .f32⟩
  | 112 => ⟨S8192x256, .f32⟩
  | 113 => ⟨S8192x256, .f32⟩
  | 114 => ⟨S1x256x256, .f32⟩
  | 115 => ⟨S256x256, .f32⟩
  | 116 => ⟨S8192x256, .f32⟩
  | 117 => ⟨S8192x256, .f32⟩
  | 118 => ⟨S1x256x256, .f32⟩
  | 119 => ⟨S256x256, .f32⟩
  | 120 => ⟨S8192x256, .f32⟩
  | 121 => ⟨S8192x256, .f32⟩
  | 122 => ⟨S1x256x256, .f32⟩
  | 123 => ⟨S256x256, .f32⟩
  | 124 => ⟨S8192x256, .f32⟩
  | 125 => ⟨S8192x1024, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .bf16⟩
  | 3 => ⟨S8192x1024, .bf16⟩
  | 4 => ⟨S8192x1024, .bf16⟩
  | 5 => ⟨S8192x1024, .bf16⟩
  | 6 => ⟨S8192x1024, .f32⟩
  | 7 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_call0_cst : Ref sig .tc := ⟨.hbm, 25, rfl⟩
abbrev main_call0_call0_v0 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_call0_cst : Ref sig .tc := ⟨.hbm, 46, rfl⟩
abbrev main_call1_call0_v0 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call2_call0_cst : Ref sig .tc := ⟨.hbm, 67, rfl⟩
abbrev main_call2_call0_v0 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call3_call0_cst : Ref sig .tc := ⟨.hbm, 88, rfl⟩
abbrev main_call3_call0_v0 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_11 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Reals.lean ====
/- Facts about real numbers that the gradients need: which extended reals are real, the gradient of the root-mean-square normalisation,
   and the difference of two running sums as a sum over a window. No program is mentioned here. -/
module

public import Idealize.ShloMosaic.Lib.Pointwise
public import Idealize.ShloMosaic.Lib.IdealHost
public import Idealize.ShloMosaic.Lib.ShapeFacts

@[expose] public section

noncomputable section

namespace Cert.Grad

open Idealize.ShloMosaic

/-- The cast of a finite sum of reals is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.one : IsReal (1 : EReal) := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩
theorem IsReal.div {a : EReal} (ha : IsReal a) {y : ℝ} (hy : y ≠ 0) : IsReal (Ideal.div a (y : EReal)) := by
  rw [Ideal.div_coe hy]; exact ha.mul (IsReal.coe _)

/-- An extended real of finite magnitude is real. -/
theorem IsReal.of_abs_lt {a : EReal} (h : max a (-a) < ⊤) : IsReal a := by
  have h1 := (max_lt_iff.mp h).1
  have h2 := (max_lt_iff.mp h).2
  induction a with
  | bot => simp at h2
  | top => simp at h1
  | coe r => exact ⟨r, rfl⟩

/-- The reciprocal root of a positive real. -/
theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- The gradient of the root-mean-square normalisation, two ways. With `r = 1 / √v`, a row `X`, its cotangent `D`, and `N` the row's length:
    the projection of `D` off the normalised row, and the product rule through the reciprocal root (whose derivative is `-½ · r / v`). -/
theorem rms_grad {n : ℕ} (X D : Fin n → EReal) (hX : ∀ k, IsReal (X k)) (hD : ∀ k, IsReal (D k)) (v N : ℝ) (hv : 0 < v) (hN : N ≠ 0) (j : Fin n) :
    Ideal.rsqrt (v : EReal) * (D j - X j * Ideal.rsqrt (v : EReal) * Ideal.div (∑ k, D k * (X k * Ideal.rsqrt (v : EReal))) (N : EReal))
      = D j * Ideal.rsqrt (v : EReal)
        + X j * Ideal.div ((∑ k, X k * D k) * (((-(1 / 2) : ℝ) : EReal) * Ideal.div (Ideal.rsqrt (v : EReal)) (v : EReal))) (N : EReal)
        + Ideal.div ((∑ k, X k * D k) * (((-(1 / 2) : ℝ) : EReal) * Ideal.div (Ideal.rsqrt (v : EReal)) (v : EReal))) (N : EReal) * X j := by
  choose x hx using hX
  choose d hd using hD
  rw [rsqrt_pos hv]
  simp only [hx, hd, Ideal.div_coe hN, Ideal.div_coe hv.ne']
  have hs : Real.sqrt v * Real.sqrt v = v := Real.mul_self_sqrt hv.le
  have hp : Real.sqrt v ≠ 0 := (Real.sqrt_pos.mpr hv).ne'
  simp only [← EReal.coe_mul, ← coe_sum, ← EReal.coe_sub, ← EReal.coe_add]
  congr 1
  have h1 : (∑ k, d k * (x k * (Real.sqrt v)⁻¹)) = (∑ k, x k * d k) * (Real.sqrt v)⁻¹ := by
    rw [Finset.sum_mul]; exact Finset.sum_congr rfl fun k _ => by ring
  rw [h1]
  generalize (∑ k, x k * d k) = S
  have hvi : 1 / v = (Real.sqrt v)⁻¹ * (Real.sqrt v)⁻¹ := by rw [← mul_inv, hs, one_div]
  rw [hvi]
  ring

/-- A sum over the positions from `R` on of a sequence that ends before `T`, less the same sum begun `w` later, is the sum over the `w` positions from `R`. -/
theorem tail_sub_tail (g : ℕ → ℝ) (T : ℕ) (hg : ∀ r, T ≤ r → g r = 0) (w R : ℕ) :
    (∑ n ∈ Finset.range T, if R + n < T then g (R + n) - g (R + n + w) else 0) = ∑ i ∈ Finset.range w, g (R + i) := by
  have h0 : (∑ n ∈ Finset.range T, if R + n < T then g (R + n) - g (R + n + w) else 0)
      = (∑ n ∈ Finset.range T, g (R + n)) - ∑ n ∈ Finset.range T, g (R + (w + n)) := by
    rw [← Finset.sum_sub_distrib]
    refine Finset.sum_congr rfl fun n _ => ?_
    split
    · rw [show R + n + w = R + (w + n) by omega]
    · rw [hg _ (by omega), hg _ (by omega), sub_zero]
  have h1 : (∑ n ∈ Finset.range (w + T), g (R + n)) = ∑ i ∈ Finset.range w, g (R + i) + ∑ n ∈ Finset.range T, g (R + (w + n)) :=
    Finset.sum_range_add _ _ _
  have h2 : (∑ n ∈ Finset.range (T + w), g (R + n)) = ∑ n ∈ Finset.range T, g (R + n) + ∑ i ∈ Finset.range w, g (R + (T + i)) :=
    Finset.sum_range_add _ _ _
  have h3 : (∑ i ∈ Finset.range w, g (R + (T + i))) = 0 := Finset.sum_eq_zero fun i _ => hg _ (by omega)
  rw [h0, eq_comm, ← sub_eq_zero]
  rw [add_comm w T] at h1
  linarith

/-- A sequence on `0 … T - 1` continued by zero. -/
def ext {T : ℕ} (g : Fin T → EReal) (r : ℕ) : EReal := if h : r < T then g ⟨r, h⟩ else 0

theorem ext_of_lt {T : ℕ} (g : Fin T → EReal) {r : ℕ} (h : r < T) : ext g r = g ⟨r, h⟩ := dif_pos h

theorem ext_of_le {T : ℕ} (g : Fin T → EReal) {r : ℕ} (h : T ≤ r) : ext g r = 0 := dif_neg (not_lt.mpr h)

/-- The running sum from the end of a sequence of reals less itself moved `w` places is the sum over a window of `w` positions. -/
theorem window_of_tail {T : ℕ} (g f : Fin T → EReal) (hg : ∀ r, IsReal (g r)) (w : ℕ)
    (hf : ∀ r : Fin T, f r = g r + if h : r.val + w < T then -g ⟨r.val + w, h⟩ else 0) (R : ℕ) :
    (∑ n : Fin T, if h : R + n.val < T then f ⟨R + n.val, h⟩ else 0) = ∑ i ∈ Finset.range w, ext g (R + i) := by
  choose g' hg' using hg
  have he : ∀ r, ext g r = (((if h : r < T then g' ⟨r, h⟩ else 0 : ℝ)) : EReal) := fun r => by
    unfold ext
    split
    · exact hg' _
    · rfl
  have key := tail_sub_tail (fun r => if h : r < T then g' ⟨r, h⟩ else 0) T (fun r hr => dif_neg (not_lt.mpr hr)) w R
  simp only [he]
  rw [← coe_sum, ← key, coe_sum, Finset.sum_range]
  refine Finset.sum_congr rfl fun n _ => ?_
  by_cases h : R + n.val < T
  · rw [dif_pos h, if_pos h, dif_pos h, hf, hg']
    by_cases h2 : R + n.val + w < T
    · rw [dif_pos h2, dif_pos h2, hg', ← EReal.coe_neg, ← EReal.coe_add, sub_eq_add_neg]
    · rw [dif_neg h2, dif_neg h2, add_zero, sub_zero]
  · rw [dif_neg h, if_neg h, EReal.coe_zero]

/-- A left fold that adds is the sum of what it adds. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The host's running sum from the end along the first axis of a matrix: a window of the whole height, padded after the last row. -/
theorem reverse_cumsum {R Rm1 C : ℕ} (hR : Rm1 + 1 = R) {φ : FTy} (x : FVec Ideal ⟨2, ![R, C]⟩ φ) (init : FVec Ideal ⟨0, ![]⟩ φ) (hinit : ∀ i, init i = (0 : EReal))
    (h : (⟨2, ![R, C]⟩ : Shape).ReduceWindows (![R, 1] : Fin 2 → ℕ) ![1, 1] ![0, 0] ![Rm1, 0] ⟨2, ![R, C]⟩) (hu : 0 < (⟨0, ![]⟩ : Shape).numel) (r : Fin R) (c : Fin C) :
    Host.reduceWindowAdd (![R, 1] : Fin 2 → ℕ) ![1, 1] ![0, 0] ![Rm1, 0] x init h hu (ix2 r c)
      = ∑ n : Fin R, if hn : r.val + n.val < R then (x (ix2 ⟨r.val + n.val, hn⟩ c) : EReal) else 0 := by
  have hN : (⟨2, ![R, 1]⟩ : Shape).numel = R := (Shape.numel_rank2 _).trans (Nat.mul_one _)
  have hc := c.isLt
  have hcol : ∀ n : Fin (⟨2, ![R, 1]⟩ : Shape).numel,
      ((⟨2, ![R, 1]⟩ : Shape).rowMajor.symm n 0).val = n.val ∧ ((⟨2, ![R, 1]⟩ : Shape).rowMajor.symm n 1).val = 0 := fun n => by
    have h1 : ((⟨2, ![R, 1]⟩ : Shape).rowMajor.symm n 1).val < 1 := ((⟨2, ![R, 1]⟩ : Shape).rowMajor.symm n 1).isLt
    have h0 := Shape.rowMajor_val_two ((⟨2, ![R, 1]⟩ : Shape).rowMajor.symm n)
    rw [Equiv.apply_symm_apply] at h0
    change n.val = ((⟨2, ![R, 1]⟩ : Shape).rowMajor.symm n 0).val * 1 + ((⟨2, ![R, 1]⟩ : Shape).rowMajor.symm n 1).val at h0
    omega
  unfold Host.reduceWindowAdd
  rw [hinit]
  show Host.reduceWindow (· + ·) _ _ _ _ x (fun _ : (⟨0, ![]⟩ : Shape).Idx => (0 : EReal)) h hu (ix2 r c) = _
  unfold Host.reduceWindow
  dsimp only
  rw [foldl_add, zero_add, ← List.ofFn_eq_map, List.sum_ofFn]
  refine Fintype.sum_equiv (finCongr hN) _ _ fun n => ?_
  obtain ⟨h0, h1⟩ := hcol n
  have hp0 : (((ix2 r c) ((0 : Fin 2).cast h.1.symm)).val * 1 + ((⟨2, ![R, 1]⟩ : Shape).rowMajor.symm n 0).val) = r.val + n.val := by
    rw [h0, Nat.mul_one]; rfl
  have hp1 : (((ix2 r c) ((1 : Fin 2).cast h.1.symm)).val * 1 + ((⟨2, ![R, 1]⟩ : Shape).rowMajor.symm n 1).val) = c.val := by
    rw [h1, Nat.mul_one]; rfl
  by_cases hn : r.val + n.val < R
  · rw [dif_pos (show r.val + (finCongr hN n).val < R from hn), dif_pos]
    · refine congrArg x (funext fun a => Fin.ext ?_)
      match a with
      | ⟨0, _⟩ => exact hp0
      | ⟨1, _⟩ => exact hp1
    · intro a
      match a with
      | ⟨0, _⟩ => exact ⟨Nat.zero_le _, lt_of_eq_of_lt hp0 hn⟩
      | ⟨1, _⟩ => exact ⟨Nat.zero_le _, lt_of_eq_of_lt hp1 hc⟩
  · rw [dif_neg (show ¬ r.val + (finCongr hN n).val < R from hn), dif_neg]
    exact fun hin => hn (lt_of_eq_of_lt hp0.symm (hin 0).2)

end Cert.Grad

end
-- ==== Proof.Spec.lean ====
/- The gradients of one pooling layer as formulas over the whole arrays: what the kernel leaves, with the window sums written as sums.
   `dxo` is the cotangent of the layer's output, `x` its input, `g` the norm's gains, `wi`, `wg`, `wo` the three weights, `s` the scale,
   `z` the grouped product that the forward pass saved. -/
module

public import proofs.«01_k».proof.Proof.Reals

@[expose] public section

noncomputable section

namespace Cert.Grad

open Idealize.ShloMosaic

/-- The product of `a` with the transpose of `b`. -/
def nt {m n k : ℕ} (a : Fin m → Fin k → EReal) (b : Fin n → Fin k → EReal) (i : Fin m) (j : Fin n) : EReal := ∑ x, a i x * b j x

/-- The reciprocal root of a row's mean square plus the small constant. -/
def rinv {m : ℕ} (x : Fin m → Fin 1024 → EReal) (i : Fin m) : EReal :=
  Ideal.rsqrt (Ideal.div (∑ k, x i k * x i k) (Ideal.ofBits FTy.f32 1149239296#32) + Ideal.ofBits FTy.f32 897988541#32)

/-- The normalisation's gradient in its input, at the cotangent `dh` of the normalised and weighted row. -/
def rmsDx {m : ℕ} (dh x : Fin m → Fin 1024 → EReal) (g : Fin 1024 → EReal) (i : Fin m) (j : Fin 1024) : EReal :=
  rinv x i * (dh i j * g j - x i j * rinv x i * Ideal.div (∑ k, dh i k * g k * (x i k * rinv x i)) (Ideal.ofBits FTy.f32 1149239296#32))

/-- The normalisation's gradient in its gains. -/
def rmsDg {m : ℕ} (dh x : Fin m → Fin 1024 → EReal) (j : Fin 1024) : EReal := ∑ i, dh i j * (x i j * rinv x i)

/-- Group `q`'s lane `l` among all lanes. -/
def lane (q : Fin 4) (l : Fin 256) : Fin 1024 := ⟨256 * q.val + l.val, by omega⟩

/-- A lane's group, -/
def grp (j : Fin 1024) : Fin 4 := ⟨j.val / 256, by omega⟩

/-- and its place in the group. -/
def lin (j : Fin 1024) : Fin 256 := ⟨j.val % 256, by omega⟩

theorem grp_lane (q : Fin 4) (l : Fin 256) : grp (lane q l) = q := Fin.ext (by show (256 * q.val + l.val) / 256 = q.val; omega)
theorem lin_lane (q : Fin 4) (l : Fin 256) : lin (lane q l) = l := Fin.ext (by show (256 * q.val + l.val) % 256 = l.val; omega)
theorem lane_grp_lin (j : Fin 1024) : lane (grp j) (lin j) = j := Fin.ext (by show 256 * (j.val / 256) + j.val % 256 = j.val; omega)

/-- Group `q`'s window. -/
def width (q : Fin 4) : ℕ := 2 ^ (q.val + 1)

/-- How many tokens the window of width `w` that ends at row `R` holds. -/
def cnt (w R : ℕ) : EReal := (((min (R + 1) w : ℕ) : ℝ) : EReal)

section
variable {T : ℕ} (dxo x z : Fin T → Fin 1024 → EReal) (s g : Fin 1024 → EReal) (wo wi : Fin 1024 → Fin 1024 → EReal)
  (wg : Fin 4 → Fin 256 → Fin 256 → EReal)

/-- The cotangent of the scaled product times the scale. -/
def dzs (R : Fin T) (j : Fin 1024) : EReal := nt dxo wo R j * s j

/-- The cotangent of the pooled group. -/
def dp (R : Fin T) (q : Fin 4) (l : Fin 256) : EReal := ∑ k, dzs dxo s wo R (lane q k) * wg q l k

/-- The same over the window's count. -/
def ep (R : Fin T) (q : Fin 4) (l : Fin 256) : EReal := dp dxo s wo wg R q l * Ideal.div 1 (cnt (width q) R.val)

/-- The cotangent of the projected row: the sum over the windows that hold the token, less the token's own. -/
def du (R : Fin T) (j : Fin 1024) : EReal :=
  ∑ i ∈ Finset.range (width (grp j)), ext (fun R' => ep dxo s wo wg R' (grp j) (lin j)) (R.val + i) - dp dxo s wo wg R (grp j) (lin j)

/-- The cotangent of the normalised row. -/
def dh (R : Fin T) (j : Fin 1024) : EReal := nt (du dxo s wo wg) wi R j

/-- The gradient in the layer's input, the residual's cotangent with it. -/
def dx (R : Fin T) (j : Fin 1024) : EReal := dxo R j + rmsDx (dh dxo s wo wi wg) x g R j

/-- The gradient in the norm's gains. -/
def dn (j : Fin 1024) : EReal := rmsDg (dh dxo s wo wi wg) x j

/-- The gradient in the scale. -/
def dsc (j : Fin 1024) : EReal := ∑ R, nt dxo wo R j * z R j

end

end Cert.Grad

end
-- ==== Proof.Block.lean ====
/- What one tile of the pooling layer's gradient kernel computes, read at an index: the payloads of its stores in terms of the formulas of Spec. -/
module

public import Idealize.ShloMosaic.Lib.Pointwise
public import Idealize.ShloMosaic.Lib.Pipeline.ValueKit
public import Idealize.ShloMosaic.Lib.PlanTiles.Rows
public import Idealize.ShloMosaic.Lib.WordArith
public import proofs.«01_k».proof.Proof.Gen.KernelIdeal.Skeleton
public import proofs.«01_k».proof.Proof.Spec

@[expose] public section

set_option maxRecDepth 16384

noncomputable section

namespace Cert.PoolBwd

open Idealize.ShloMosaic Idealize.ShloMosaic.TcCoe Idealize.SL.Sem Cert.Grad
open Cert.KernelIdeal Cert.KernelIdeal.Gen

/-- Row `r` of tile `b`. -/
def row (b : Fin 16) (r : Fin 512) : Fin 8192 := ⟨512 * b.val + r.val, by omega⟩

theorem pay5_at (X0 : Vec Ideal S512x1024 .f32) (X6 : Vec Ideal S1024x1024 .bf16) (r : Fin 512) (j : Fin 1024) :
    k0_pay5 (F := Ideal) X0 X6 (ix2 r j) = nt (fun i k => X0 (ix2 i k)) (fun i k => X6 (ix2 i k)) r j := by
  unfold nt
  pointwise [k0_pay5]

theorem pay7_at (X0 : Vec Ideal S512x1024 .f32) (X6 : Vec Ideal S1024x1024 .bf16) (X5 : Vec Ideal S1x1024 .f32) (r : Fin 512) (j : Fin 1024) :
    k0_pay7 (F := Ideal) X0 X6 X5 (ix2 r j) = nt (fun i k => X0 (ix2 i k)) (fun i k => X6 (ix2 i k)) r j * X5 (ix2 0 j) := by
  unfold nt
  pointwise [k0_pay7, k0_pay5]

/-- The scale's gradient gains the tile's rows. -/
theorem pay6_at (X0 : Vec Ideal S512x1024 .f32) (X6 : Vec Ideal S1024x1024 .bf16) (X5 : Vec Ideal S1x1024 .f32) (X7 : Vec Ideal S512x1024 .bf16) (u : Fin 1) (j : Fin 1024) :
    k0_pay6 (F := Ideal) X0 X6 X5 X7 (ix2 u j)
      = X5 (ix2 u j) + ∑ r, nt (fun i k => X0 (ix2 i k)) (fun i k => X6 (ix2 i k)) r j * X7 (ix2 r j) := by
  unfold nt
  pointwise [k0_pay6, k0_pay5]

/-- The row numbers of tile `b`, as words. -/
theorem pay8_at (i : grid0.Coords) (b : Fin 16) (hb : (i 0).val + b.val = 15) (r : Fin 512) :
    k0_pay8 i (ix2 r 0) = BitVec.ofNat 32 (row b r).val := by
  have hr := r.isLt
  have hb' := b.isLt
  pointwise [k0_pay8]
  show (15#32 - BitVec.ofNat 32 (i 0).val) * 512#32 + BitVec.ofNat 32 r.val = BitVec.ofNat 32 (512 * b.val + r.val)
  have h15 : (15#32 - BitVec.ofNat 32 (i 0).val) = BitVec.ofNat 32 b.val := by
    have : 15#32 = BitVec.ofNat 32 b.val + BitVec.ofNat 32 (i 0).val := by rw [← BitVec.ofNat_add, add_comm b.val, hb]
    rw [this, BitVec.add_sub_cancel]
  rw [h15, mul_comm, show (512#32 : BitVec 32) = BitVec.ofNat 32 512 from rfl, ← BitVec.ofNat_mul, ← BitVec.ofNat_add]

/-- The window's count as the kernel takes it. -/
theorem count_at (R w : ℕ) (hR : R < 8192) (hw : w < 8192) :
    (FloatOps.sitofp FTy.f32 (IntOp.minsi (IntOp.addi (BitVec.ofNat 32 R) 1#32) (BitVec.ofNat 32 w)) : Ideal .f32) = cnt w R := by
  have h1 : IntOp.addi (BitVec.ofNat 32 R) 1#32 = BitVec.ofNat 32 (R + 1) := (BitVec.ofNat_add R 1).symm
  rw [h1, PlanTiles.minsi_word (by omega) (by omega)]
  show (((BitVec.ofNat 32 (min w (R + 1))).toInt : ℝ) : EReal) = _
  rw [WordArith.toInt_ofNat_small _ (by norm_num; omega), Nat.min_comm]
  unfold cnt
  norm_cast

section
variable (v : IVec S512x1 32) (D : Vec Ideal S512x256 .bf16) (W : Vec Ideal S1x256x256 .bf16) (r : Fin 512) (l : Fin 256)

theorem pay10_at : k0_pay10 (F := Ideal) D W (ix2 r l) = ∑ k, D (ix2 r k) * W (ix3 0 l k) := by pointwise [k0_pay10]
theorem pay13_at : k0_pay13 (F := Ideal) D W (ix2 r l) = ∑ k, D (ix2 r k) * W (ix3 0 l k) := by pointwise [k0_pay13]
theorem pay18_at : k0_pay18 (F := Ideal) D W (ix2 r l) = ∑ k, D (ix2 r k) * W (ix3 0 l k) := by pointwise [k0_pay18]
theorem pay23_at : k0_pay23 (F := Ideal) D W (ix2 r l) = ∑ k, D (ix2 r k) * W (ix3 0 l k) := by pointwise [k0_pay23]

variable (R : ℕ) (hR : R < 8192) (hv : v (ix2 r 0) = BitVec.ofNat 32 R)
include hR hv

theorem pay11_at : k0_pay11 (F := Ideal) v D W (ix2 r l) = (∑ k, D (ix2 r k) * W (ix3 0 l k)) * Ideal.div 1 (cnt 2 R) := by
  pointwise [k0_pay11, k0_pay10]
  rw [hv]
  exact congrArg (fun q => _ * Ideal.div 1 q) (count_at R 2 hR (by norm_num))
theorem pay14_at : k0_pay15 (F := Ideal) (k0_pay14 v D W) (ix2 r l) = (∑ k, D (ix2 r k) * W (ix3 0 l k)) * Ideal.div 1 (cnt 4 R) := by
  pointwise [k0_pay15, k0_pay14, k0_pay13]
  rw [hv]
  exact congrArg (fun q => _ * Ideal.div 1 q) (count_at R 4 hR (by norm_num))
theorem pay19_at : k0_pay19 (F := Ideal) v D W (ix2 r l) = (∑ k, D (ix2 r k) * W (ix3 0 l k)) * Ideal.div 1 (cnt 8 R) := by
  pointwise [k0_pay19, k0_pay18]
  rw [hv]
  exact congrArg (fun q => _ * Ideal.div 1 q) (count_at R 8 hR (by norm_num))
theorem pay24_at : k0_pay25 (F := Ideal) (k0_pay24 v D W) (ix2 r l) = (∑ k, D (ix2 r k) * W (ix3 0 l k)) * Ideal.div 1 (cnt 16 R) := by
  pointwise [k0_pay25, k0_pay24, k0_pay23]
  rw [hv]
  exact congrArg (fun q => _ * Ideal.div 1 q) (count_at R 16 hR (by norm_num))
end

/-! The window sums: two shifted reads added, then the token's own taken off. -/
section
variable (D : Vec Ideal S512x256 .bf16) (W : Vec Ideal S1x256x256 .bf16) (v a b : Vec Ideal S512x256 .f32)
  (a36 b36 : Vec Ideal S536x256 .f32) (a28 b28 : Vec Ideal S528x256 .f32) (a20 b20 : Vec Ideal S520x256 .f32) (r : Fin 512) (l : Fin 256)

theorem pay12_at : k0_pay12 (F := Ideal) D W a b (ix2 r l) = a (ix2 r l) + b (ix2 r l) - k0_pay10 D W (ix2 r l) := by pointwise [k0_pay12]
theorem pay17_at : k0_pay17 (F := Ideal) v a b (ix2 r l) = a (ix2 r l) + b (ix2 r l) - v (ix2 r l) := by pointwise [k0_pay17]
theorem pay22_at : k0_pay22 (F := Ideal) v a b (ix2 r l) = a (ix2 r l) + b (ix2 r l) - v (ix2 r l) := by pointwise [k0_pay22]
theorem pay29_at : k0_pay29 (F := Ideal) v a b (ix2 r l) = a (ix2 r l) + b (ix2 r l) - v (ix2 r l) := by pointwise [k0_pay29]
theorem pay16_at (r : Fin 536) : k0_pay16 (F := Ideal) a36 b36 (ix2 r l) = a36 (ix2 r l) + b36 (ix2 r l) := by pointwise [k0_pay16]
theorem pay20_at (r : Fin 536) : k0_pay20 (F := Ideal) a36 b36 (ix2 r l) = a36 (ix2 r l) + b36 (ix2 r l) := by pointwise [k0_pay20]
theorem pay26_at (r : Fin 536) : k0_pay26 (F := Ideal) a36 b36 (ix2 r l) = a36 (ix2 r l) + b36 (ix2 r l) := by pointwise [k0_pay26]
theorem pay21_at (r : Fin 528) : k0_pay21 (F := Ideal) a28 b28 (ix2 r l) = a28 (ix2 r l) + b28 (ix2 r l) := by pointwise [k0_pay21]
theorem pay27_at (r : Fin 528) : k0_pay27 (F := Ideal) a28 b28 (ix2 r l) = a28 (ix2 r l) + b28 (ix2 r l) := by pointwise [k0_pay27]
theorem pay28_at (r : Fin 520) : k0_pay28 (F := Ideal) a20 b20 (ix2 r l) = a20 (ix2 r l) + b20 (ix2 r l) := by pointwise [k0_pay28]
end

/-- The norm's gradient in its input, from the tile's rows of the projection's cotangent. -/
theorem pay35_at (X0 : Vec Ideal S512x1024 .f32) (U : Vec Ideal S512x1024 .bf16) (X3 : Vec Ideal S1024x1024 .bf16) (X1 : Vec Ideal S512x1024 .f32) (X2 : Vec Ideal S1x1024 .f32) (r : Fin 512) (j : Fin 1024) :
    k0_pay35 (F := Ideal) X0 U X3 X1 X2 (ix2 r j)
      = X0 (ix2 r j) + rmsDx (nt (fun i k => U (ix2 i k)) (fun i k => X3 (ix2 i k))) (fun i k => X1 (ix2 i k)) (fun k => X2 (ix2 0 k)) r j := by
  unfold rmsDx rinv nt
  pointwise [k0_pay35, k0_pay33, k0_pay32, k0_pay31]

/-- The gains' gradient gains the tile's rows. -/
theorem pay34_at (N : Vec Ideal S1x1024 .f32) (U : Vec Ideal S512x1024 .bf16) (X3 : Vec Ideal S1024x1024 .bf16) (X1 : Vec Ideal S512x1024 .f32) (u : Fin 1) (j : Fin 1024) :
    k0_pay1 (F := Ideal) (k0_pay34 U X3 X1) N (ix2 u j)
      = N (ix2 u j) + rmsDg (nt (fun i k => U (ix2 i k)) (fun i k => X3 (ix2 i k))) (fun i k => X1 (ix2 i k)) j := by
  unfold rmsDg rinv nt
  pointwise [k0_pay1, k0_pay34, k0_pay33, k0_pay32, k0_pay31]

end Cert.PoolBwd

end
-- ==== Proof.Stores.lean ====
/- Contents of a two-dimensional buffer after stores through unit-stride rectangles, read at an index: in the last store its payload, outside it
   what the earlier stores left. -/
module

public import Idealize.ShloMosaic.Lib.Pointwise
public import Idealize.ShloMosaic.Lib.Pipeline.ValueKit

@[expose] public section

noncomputable section

namespace Cert.Grad

open Idealize.ShloMosaic Idealize.SL.Sem

variable {Val : EltTy → Type} [∀ e, Nonempty (Val e)] {e : EltTy} {A B : ℕ}

/-- An index of a unit-stride rectangle, placed. -/
theorem emb_ix2 {o0 o1 n0 n1 : ℕ} (inb) (r : Fin n0) (c : Fin n1) (R : Fin A) (C : Fin B) (hR : R.val = o0 + r.val) (hC : C.val = o1 + c.val) :
    ix2 R C = (Rect.unit (s := ⟨2, ![A, B]⟩) ![o0, o1] ![n0, n1] inb).emb (ix2 r c) :=
  funext fun a => Fin.ext (by
    refine Eq.trans ?_ (Rect.idx_unit_val (s := ⟨2, ![A, B]⟩) ![o0, o1] ![n0, n1] inb (ix2 r c) a).symm
    match a with
    | 0 => exact hR
    | 1 => exact hC)

/-- An index off a unit-stride rectangle. -/
theorem not_mem_ix2 {o0 o1 n0 n1 : ℕ} (inb) (R : Fin A) (C : Fin B)
    (h : R.val < o0 ∨ o0 + n0 ≤ R.val ∨ C.val < o1 ∨ o1 + n1 ≤ C.val) :
    (ix2 R C : (⟨2, ![A, B]⟩ : Shape).Idx) ∉ (Rect.unit (s := ⟨2, ![A, B]⟩) ![o0, o1] ![n0, n1] inb).set := fun hm => by
  obtain ⟨x, hx⟩ := (Rect.unit (s := ⟨2, ![A, B]⟩) ![o0, o1] ![n0, n1] inb).exists_idx_of_mem hm
  have h0 : R.val = o0 + (x 0).val := (congrArg (fun f : (⟨2, ![A, B]⟩ : Shape).Idx => (f 0).val) hx).symm.trans (Rect.idx_unit_val (s := ⟨2, ![A, B]⟩) ![o0, o1] ![n0, n1] inb x 0)
  have h1 : C.val = o1 + (x 1).val := (congrArg (fun f : (⟨2, ![A, B]⟩ : Shape).Idx => (f 1).val) hx).symm.trans (Rect.idx_unit_val (s := ⟨2, ![A, B]⟩) ![o0, o1] ![n0, n1] inb x 1)
  have b0 : (x 0).val < n0 := (x 0).isLt
  have b1 : (x 1).val < n1 := (x 1).isLt
  omega

theorem canon_in {o0 o1 n0 n1 : ℕ} (inb) (w : (Rect.unit (s := ⟨2, ![A, B]⟩) ![o0, o1] ![n0, n1] inb).shape.Idx → Val e) (L : List (View.Piece Val ⟨2, ![A, B]⟩ e))
    (r : Fin n0) (c : Fin n1) (R : Fin A) (C : Fin B) (hR : R.val = o0 + r.val) (hC : C.val = o1 + c.val) :
    View.canon (⟨Rect.unit (s := ⟨2, ![A, B]⟩) ![o0, o1] ![n0, n1] inb, w⟩ :: L) (ix2 R C) = w (ix2 r c) := by
  rw [emb_ix2 inb r c R C hR hC]
  exact View.canon_cons_emb _ _ _ _

theorem canon_out {o0 o1 n0 n1 : ℕ} (inb) (w : (Rect.unit (s := ⟨2, ![A, B]⟩) ![o0, o1] ![n0, n1] inb).shape.Idx → Val e) (L : List (View.Piece Val ⟨2, ![A, B]⟩ e))
    (R : Fin A) (C : Fin B) (h : R.val < o0 ∨ o0 + n0 ≤ R.val ∨ C.val < o1 ∨ o1 + n1 ≤ C.val) :
    View.canon (⟨Rect.unit (s := ⟨2, ![A, B]⟩) ![o0, o1] ![n0, n1] inb, w⟩ :: L) (ix2 R C) = View.canon L (ix2 R C) :=
  View.canon_cons_of_not_mem _ _ (not_mem_ix2 inb R C h)

section
variable {sig : RefSig} {κ : Kind} {sp : Space}

theorem readCov_at {o0 o1 n0 n1 : ℕ} (v : View sig κ sp ⟨2, ![A, B]⟩ e) (inb) (L : List (View.Piece Val ⟨2, ![A, B]⟩ e))
    (r : Fin n0) (c : Fin n1) (R : Fin A) (C : Fin B) (hR : R.val = o0 + r.val) (hC : C.val = o1 + c.val) :
    v.readCov L (Rect.unit (s := ⟨2, ![A, B]⟩) ![o0, o1] ![n0, n1] inb).toLoadRect (ix2 r c) = View.canon L (ix2 R C) := by
  rw [View.readCov_eq_canon', emb_ix2 inb r c R C hR hC]
  rfl

theorem read_in {o0 o1 n0 n1 : ℕ} (v : View sig κ sp ⟨2, ![A, B]⟩ e) (f) (inb) (w : (Rect.unit (s := ⟨2, ![A, B]⟩) ![o0, o1] ![n0, n1] inb).shape.Idx → Val e) (L : List (View.Piece Val ⟨2, ![A, B]⟩ e))
    (r : Fin n0) (c : Fin n1) (R : Fin A) (C : Fin B) (hR : R.val = o0 + r.val) (hC : C.val = o1 + c.val) :
    v.read Val (v.writes Val f (⟨Rect.unit (s := ⟨2, ![A, B]⟩) ![o0, o1] ![n0, n1] inb, w⟩ :: L)) (ix2 R C) = w (ix2 r c) := by
  rw [emb_ix2 inb r c R C hR hC]
  exact View.read_writes_cons_emb _ _ _ _ _ _

theorem read_out {o0 o1 n0 n1 : ℕ} (v : View sig κ sp ⟨2, ![A, B]⟩ e) (f) (inb) (w : (Rect.unit (s := ⟨2, ![A, B]⟩) ![o0, o1] ![n0, n1] inb).shape.Idx → Val e) (L : List (View.Piece Val ⟨2, ![A, B]⟩ e))
    (R : Fin A) (C : Fin B) (h : R.val < o0 ∨ o0 + n0 ≤ R.val ∨ C.val < o1 ∨ o1 + n1 ≤ C.val) :
    v.read Val (v.writes Val f (⟨Rect.unit (s := ⟨2, ![A, B]⟩) ![o0, o1] ![n0, n1] inb, w⟩ :: L)) (ix2 R C)
      = v.read Val (v.writes Val f L) (ix2 R C) := by
  rw [View.writes_cons]
  exact View.read_slice_write_of_not_mem _ _ _ _ (by rw [Rect.map_emb_univ]; exact not_mem_ix2 inb R C h)
end

theorem ld_at {o0 o1 n0 n1 : ℕ} (inb) (X : (⟨2, ![A, B]⟩ : Shape).Idx → Val e)
    (r : Fin n0) (c : Fin n1) (R : Fin A) (C : Fin B) (hR : R.val = o0 + r.val) (hC : C.val = o1 + c.val) :
    View.ld X (Rect.unit (s := ⟨2, ![A, B]⟩) ![o0, o1] ![n0, n1] inb) (ix2 r c) = X (ix2 R C) := by
  rw [emb_ix2 inb r c R C hR hC]
  rfl

end Cert.Grad

end
-- ==== Proof.Window.lean ====
/- The four window sums of the pooling kernel. The wider windows are made by doubling: two reads of the running sums, the second shifted,
   are added and stored in a scratch buffer, and so again. Read at an index each is the sum of the rows that follow. -/
module

public import proofs.«01_k».proof.Proof.Block
public import proofs.«01_k».proof.Proof.Stores

@[expose] public section

set_option maxRecDepth 16384

noncomputable section

namespace Cert.PoolBwd

open Idealize.ShloMosaic Idealize.ShloMosaic.TcCoe Idealize.SL.Sem Cert.Grad
open Cert.KernelIdeal Cert.KernelIdeal.Gen

section
variable {sig' : RefSig} {κ : Kind} {sp : Space} (s : View sig' κ sp S544x256 .f32)

/-- A scratch buffer last stored from its first row on reads, from row `k` on, the stored rows from `k` on. -/
theorem scratch_at {n n' k : ℕ} (inb) (w : (Rect.unit (s := S544x256) ![0, 0] ![n, 256] inb).shape.Idx → Elt Ideal .f32) (L) (inb')
    (r : Fin n') (l : Fin 256) (R : Fin n) (hR : R.val = k + r.val) :
    s.readCov (Val := Elt Ideal) (⟨Rect.unit (s := S544x256) ![0, 0] ![n, 256] inb, w⟩ :: L) (Rect.unit (s := S544x256) ![k, 0] ![n', 256] inb').toLoadRect (ix2 r l)
      = w (ix2 R l) :=
  (readCov_at s inb' _ r l ⟨R.val, R.isLt.trans_le (by have := inb 0; simpa using this)⟩ l hR (Nat.zero_add _).symm).trans
    (canon_in inb w L R l _ _ (Nat.zero_add _).symm (Nat.zero_add _).symm)

variable (H : ℕ → EReal) (l : Fin 256)

/-- The sum of the `k` rows from `r` on. -/
def run (k r : ℕ) : EReal := ∑ i ∈ Finset.range k, H (r + i)

theorem run_double (k r : ℕ) : run H k r + run H k (k + r) = run H (k + k) r := by
  unfold run
  rw [Finset.sum_range_add (fun i => H (r + i)) k k]
  refine congrArg (_ + ·) (Finset.sum_congr rfl fun i _ => congrArg H ?_)
  omega

theorem run_two (r : ℕ) : H r + H (1 + r) = run H 2 r := by
  unfold run
  rw [Finset.sum_range_succ, Finset.sum_range_succ, Finset.sum_range_zero, zero_add, add_zero, add_comm 1 r]

/-- Two reads of a scratch buffer, the second `k` rows on, each buffer holding sums of `k` rows. -/
theorem doubled {n n' : ℕ} (k : ℕ) (hn : k + n' ≤ n) (w w' : (⟨2, ![n, 256]⟩ : Shape).Idx → EReal)
    (hw : ∀ r : Fin n, w (ix2 r l) = run H k r.val) (hw' : ∀ r : Fin n, w' (ix2 r l) = run H k r.val) (L L') (i1 i2 i3 i4) (r : Fin n') :
    (s.readCov (Val := Elt Ideal) (⟨Rect.unit (s := S544x256) ![0, 0] ![n, 256] i1, w⟩ :: L) (Rect.unit (s := S544x256) ![0, 0] ![n', 256] i2).toLoadRect (ix2 r l) : EReal)
        + s.readCov (Val := Elt Ideal) (⟨Rect.unit (s := S544x256) ![0, 0] ![n, 256] i3, w'⟩ :: L') (Rect.unit (s := S544x256) ![k, 0] ![n', 256] i4).toLoadRect (ix2 r l)
      = run H (k + k) r.val := by
  have hr := r.isLt
  refine (congrArg₂ (· + ·) ((scratch_at s i1 w L i2 r l ⟨r.val, by omega⟩ (Nat.zero_add _).symm).trans (hw _))
    ((scratch_at s i3 w' L' i4 r l ⟨k + r.val, by omega⟩ rfl).trans (hw' _))).trans ?_
  exact run_double H k r.val

theorem pair16 (a b : Vec Ideal S536x256 .f32) (ha : ∀ r : Fin 536, a (ix2 r l) = H r.val) (hb : ∀ r : Fin 536, b (ix2 r l) = H (1 + r.val)) (r : Fin 536) :
    k0_pay16 (F := Ideal) a b (ix2 r l) = run H 2 r.val := by
  rw [pay16_at, ha, hb, run_two]

theorem pair20 (a b : Vec Ideal S536x256 .f32) (ha : ∀ r : Fin 536, a (ix2 r l) = H r.val) (hb : ∀ r : Fin 536, b (ix2 r l) = H (1 + r.val)) (r : Fin 536) :
    k0_pay20 (F := Ideal) a b (ix2 r l) = run H 2 r.val := by
  rw [pay20_at, ha, hb, run_two]

theorem pair26 (a b : Vec Ideal S536x256 .f32) (ha : ∀ r : Fin 536, a (ix2 r l) = H r.val) (hb : ∀ r : Fin 536, b (ix2 r l) = H (1 + r.val)) (r : Fin 536) :
    k0_pay26 (F := Ideal) a b (ix2 r l) = run H 2 r.val := by
  rw [pay26_at, ha, hb, run_two]

/-- The window of two. -/
theorem window0 (D : Vec Ideal S512x256 .bf16) (W : Vec Ideal S1x256x256 .bf16) (a b : Vec Ideal S512x256 .f32)
    (ha : ∀ r : Fin 512, a (ix2 r l) = H r.val) (hb : ∀ r : Fin 512, b (ix2 r l) = H (1 + r.val)) (r : Fin 512) :
    k0_pay12 (F := Ideal) D W a b (ix2 r l) = run H 2 r.val - k0_pay10 D W (ix2 r l) := by
  rw [pay12_at, ha, hb, run_two]

/-- The window of four, from sums of two. -/
theorem window1 (v : Vec Ideal S512x256 .f32) (w w' : Vec Ideal S536x256 .f32) (hw : ∀ r : Fin 536, w (ix2 r l) = run H 2 r.val) (hw' : ∀ r : Fin 536, w' (ix2 r l) = run H 2 r.val)
    (L L') (i1 i2 i3 i4) (r : Fin 512) :
    k0_pay17 (F := Ideal) v
        (s.readCov (⟨Rect.unit (s := S544x256) ![0, 0] ![536, 256] i1, w⟩ :: L) (Rect.unit (s := S544x256) ![0, 0] ![512, 256] i2).toLoadRect)
        (s.readCov (⟨Rect.unit (s := S544x256) ![0, 0] ![536, 256] i3, w'⟩ :: L') (Rect.unit (s := S544x256) ![2, 0] ![512, 256] i4).toLoadRect) (ix2 r l)
      = run H 4 r.val - v (ix2 r l) := by
  rw [pay17_at]
  exact congrArg (· - _) (doubled s H l 2 (by norm_num) w w' hw hw' L L' i1 i2 i3 i4 r)

/-- Sums of four, from sums of two. -/
theorem four21 (w w' : Vec Ideal S536x256 .f32) (hw : ∀ r : Fin 536, w (ix2 r l) = run H 2 r.val) (hw' : ∀ r : Fin 536, w' (ix2 r l) = run H 2 r.val)
    (L L') (i1 i2 i3 i4) (r : Fin 528) :
    k0_pay21 (F := Ideal)
        (s.readCov (⟨Rect.unit (s := S544x256) ![0, 0] ![536, 256] i1, w⟩ :: L) (Rect.unit (s := S544x256) ![0, 0] ![528, 256] i2).toLoadRect)
        (s.readCov (⟨Rect.unit (s := S544x256) ![0, 0] ![536, 256] i3, w'⟩ :: L') (Rect.unit (s := S544x256) ![2, 0] ![528, 256] i4).toLoadRect) (ix2 r l)
      = run H 4 r.val := by
  rw [pay21_at]
  exact (doubled s H l 2 (by norm_num) w w' hw hw' L L' i1 i2 i3 i4 r)

/-- The window of eight, from sums of four. -/
theorem window2 (v : Vec Ideal S512x256 .f32) (w w' : Vec Ideal S528x256 .f32) (hw : ∀ r : Fin 528, w (ix2 r l) = run H 4 r.val) (hw' : ∀ r : Fin 528, w' (ix2 r l) = run H 4 r.val)
    (L L') (i1 i2 i3 i4) (r : Fin 512) :
    k0_pay22 (F := Ideal) v
        (s.readCov (⟨Rect.unit (s := S544x256) ![0, 0] ![528, 256] i1, w⟩ :: L) (Rect.unit (s := S544x256) ![0, 0] ![512, 256] i2).toLoadRect)
        (s.readCov (⟨Rect.unit (s := S544x256) ![0, 0] ![528, 256] i3, w'⟩ :: L') (Rect.unit (s := S544x256) ![4, 0] ![512, 256] i4).toLoadRect) (ix2 r l)
      = run H 8 r.val - v (ix2 r l) := by
  rw [pay22_at]
  exact congrArg (· - _) (doubled s H l 4 (by norm_num) w w' hw hw' L L' i1 i2 i3 i4 r)

/-- Sums of four, from sums of two. -/
theorem four27 (w w' : Vec Ideal S536x256 .f32) (hw : ∀ r : Fin 536, w (ix2 r l) = run H 2 r.val) (hw' : ∀ r : Fin 536, w' (ix2 r l) = run H 2 r.val)
    (L L') (i1 i2 i3 i4) (r : Fin 528) :
    k0_pay27 (F := Ideal)
        (s.readCov (⟨Rect.unit (s := S544x256) ![0, 0] ![536, 256] i1, w⟩ :: L) (Rect.unit (s := S544x256) ![0, 0] ![528, 256] i2).toLoadRect)
        (s.readCov (⟨Rect.unit (s := S544x256) ![0, 0] ![536, 256] i3, w'⟩ :: L') (Rect.unit (s := S544x256) ![2, 0] ![528, 256] i4).toLoadRect) (ix2 r l)
      = run H 4 r.val := by
  rw [pay27_at]
  exact (doubled s H l 2 (by norm_num) w w' hw hw' L L' i1 i2 i3 i4 r)

/-- Sums of eight, from sums of four. -/
theorem eight28 (w w' : Vec Ideal S528x256 .f32) (hw : ∀ r : Fin 528, w (ix2 r l) = run H 4 r.val) (hw' : ∀ r : Fin 528, w' (ix2 r l) = run H 4 r.val)
    (L L') (i1 i2 i3 i4) (r : Fin 520) :
    k0_pay28 (F := Ideal)
        (s.readCov (⟨Rect.unit (s := S544x256) ![0, 0] ![528, 256] i1, w⟩ :: L) (Rect.unit (s := S544x256) ![0, 0] ![520, 256] i2).toLoadRect)
        (s.readCov (⟨Rect.unit (s := S544x256) ![0, 0] ![528, 256] i3, w'⟩ :: L') (Rect.unit (s := S544x256) ![4, 0] ![520, 256] i4).toLoadRect) (ix2 r l)
      = run H 8 r.val := by
  rw [pay28_at]
  exact (doubled s H l 4 (by norm_num) w w' hw hw' L L' i1 i2 i3 i4 r)

/-- The window of sixteen, from sums of eight. -/
theorem window3 (v : Vec Ideal S512x256 .f32) (w w' : Vec Ideal S520x256 .f32) (hw : ∀ r : Fin 520, w (ix2 r l) = run H 8 r.val) (hw' : ∀ r : Fin 520, w' (ix2 r l) = run H 8 r.val)
    (L L') (i1 i2 i3 i4) (r : Fin 512) :
    k0_pay29 (F := Ideal) v
        (s.readCov (⟨Rect.unit (s := S544x256) ![0, 0] ![520, 256] i1, w⟩ :: L) (Rect.unit (s := S544x256) ![0, 0] ![512, 256] i2).toLoadRect)
        (s.readCov (⟨Rect.unit (s := S544x256) ![0, 0] ![520, 256] i3, w'⟩ :: L') (Rect.unit (s := S544x256) ![8, 0] ![512, 256] i4).toLoadRect) (ix2 r l)
      = run H 16 r.val - v (ix2 r l) := by
  rw [pay29_at]
  exact congrArg (· - _) (doubled s H l 8 (by norm_num) w w' hw hw' L L' i1 i2 i3 i4 r)

end

end Cert.PoolBwd

end
-- ==== Proof.Tile.lean ====
/- The arrays the pooling kernel reads, and its blocks at a point: point `t` works on tile `15 - t`. -/
module

public import proofs.«01_k».proof.Proof.Window
public import proofs.«01_k».proof.Proof.Gen.KernelIdeal.Value

@[expose] public section

set_option maxRecDepth 16384

noncomputable section

namespace Cert.PoolBwd

open Idealize.ShloMosaic Idealize.ShloMosaic.TcCoe Idealize.SL.Sem Cert.Grad
open Idealize.ShloMosaic.Pipeline (Dat)
open Cert.KernelIdeal Cert.KernelIdeal.Gen

variable (m : (ℓ : Loc nD τ sig) → Buf (Elt Ideal) ℓ) (c : Dev nD)

/-- The cotangent of the layer's output, -/
def aDxo (i : Fin 8192) (k : Fin 1024) : EReal := (m ((c : Thread nD τ).loc main_arg0) : S8192x1024.Idx → EReal) (ix2 i k)
/-- the layer's input, -/
def aX (i : Fin 8192) (k : Fin 1024) : EReal := (m ((c : Thread nD τ).loc main_arg1) : S8192x1024.Idx → EReal) (ix2 i k)
/-- the norm's gains, -/
def aG (k : Fin 1024) : EReal := (m ((c : Thread nD τ).loc main_arg2) : S1x1024.Idx → EReal) (ix2 0 k)
/-- the first projection's weight, -/
def aWi (i k : Fin 1024) : EReal := (m ((c : Thread nD τ).loc main_arg3) : S1024x1024.Idx → EReal) (ix2 i k)
/-- the grouped weight, -/
def aWg (q : Fin 4) (i k : Fin 256) : EReal := (m ((c : Thread nD τ).loc main_arg4) : S4x256x256.Idx → EReal) (ix3 q i k)
/-- the scale, -/
def aS (k : Fin 1024) : EReal := (m ((c : Thread nD τ).loc main_arg5) : S1x1024.Idx → EReal) (ix2 0 k)
/-- the last projection's weight, -/
def aWo (i k : Fin 1024) : EReal := (m ((c : Thread nD τ).loc main_arg6) : S1024x1024.Idx → EReal) (ix2 i k)
/-- and the grouped product the forward pass saved. -/
def aZ (i : Fin 8192) (k : Fin 1024) : EReal := (V m c main_v92 : S8192x1024.Idx → EReal) (ix2 i k)

/-- The tile of a point. -/
def tile (t : Fin cfg0.N) : Fin 16 := ⟨15 - t.val, by omega⟩

theorem idx : ∀ t : Fin cfg0.N, win0_0.index t = ![15 - t.val, 0] ∧ win0_1.index t = ![15 - t.val, 0] ∧ win0_2.index t = ![0, 0]
    ∧ win0_3.index t = ![0, 0] ∧ win0_4.index t = ![0, 0, 0] ∧ win0_5.index t = ![0, 0] ∧ win0_6.index t = ![0, 0]
    ∧ win0_7.index t = ![15 - t.val, 0] ∧ win0_8.index t = ![15 - t.val, 0] ∧ win0_9.index t = ![15 - t.val, 0]
    ∧ win0_10.index t = ![15 - t.val, 0] ∧ win0_11.index t = ![0, 0] ∧ win0_12.index t = ![0, 0] ∧ (grid0.coords t 0).val = t.val :=
  (by decide +kernel : ∀ t : Fin grid0.N, _)

section
variable (t : Fin cfg0.N)

theorem blk0 (r : Fin 512) (k : Fin 1024) : (iblk m c 0 t : Vec Ideal S512x1024 .f32) (ix2 r k) = aDxo m c (row (tile t) r) k := by
  unfold aDxo row tile; blk_point [iblk, V, idx t]
theorem blk1 (r : Fin 512) (k : Fin 1024) : (iblk m c 1 t : Vec Ideal S512x1024 .f32) (ix2 r k) = aX m c (row (tile t) r) k := by
  unfold aX row tile; blk_point [iblk, V, idx t]
theorem blk2 (k : Fin 1024) : (iblk m c 2 t : Vec Ideal S1x1024 .f32) (ix2 0 k) = aG m c k := by
  unfold aG; blk_point [iblk, V, idx t]
theorem blk3 (r : Fin 1024) (k : Fin 1024) : (iblk m c 3 t : Vec Ideal S1024x1024 .bf16) (ix2 r k) = aWi m c r k := by
  unfold aWi; blk_point [iblk, V, idx t]
theorem blk4 (q : Fin 4) (r k : Fin 256) : (iblk m c 4 t : Vec Ideal S4x256x256 .bf16) (ix3 q r k) = aWg m c q r k := by
  unfold aWg; blk_point [iblk, V, idx t]
theorem blk5 (k : Fin 1024) : (iblk m c 5 t : Vec Ideal S1x1024 .f32) (ix2 0 k) = aS m c k := by
  unfold aS; blk_point [iblk, V, idx t]
theorem blk6 (r k : Fin 1024) : (iblk m c 6 t : Vec Ideal S1024x1024 .bf16) (ix2 r k) = aWo m c r k := by
  unfold aWo; blk_point [iblk, V, idx t]
theorem blk7 (r : Fin 512) (k : Fin 1024) : (iblk m c 7 t : Vec Ideal S512x1024 .bf16) (ix2 r k) = aZ m c (row (tile t) r) k := by
  unfold aZ row tile; blk_simp [iblk, idx t]; blk_ext [idx t]
end

end Cert.PoolBwd

end
-- ==== Proof.Carry.lean ====
/- The running buffer of the pooling kernel: each point stores its tile's 512 rows of the divided cotangent, group by group, above the first
   rows of the tile after it, which the point before left there. Read at an index it is one sequence over all the rows. -/
module

public import proofs.«01_k».proof.Proof.Tile

@[expose] public section

set_option maxRecDepth 16384

noncomputable section

namespace Cert.PoolBwd

open Idealize.ShloMosaic Idealize.ShloMosaic.TcCoe Idealize.SL.Sem Cert.Grad
open Idealize.ShloMosaic.Pipeline (Dat)
open Cert.KernelIdeal Cert.KernelIdeal.Gen

variable (m : (ℓ : Loc nD τ sig) → Buf (Elt Ideal) ℓ) (c : Dev nD)

/-- The scaled cotangent, -/
def gDzs : Fin 8192 → Fin 1024 → EReal := dzs (aDxo m c) (aS m c) (aWo m c)
/-- the pooled group's cotangent, -/
def gDp : Fin 8192 → Fin 4 → Fin 256 → EReal := dp (aDxo m c) (aS m c) (aWo m c) (aWg m c)
/-- and it over the count, row by row, zero past the last. -/
def gE (q : Fin 4) (l : Fin 256) : ℕ → EReal := ext fun R => ep (aDxo m c) (aS m c) (aWo m c) (aWg m c) R q l

/-- The sequence of divided cotangents from point `t`'s first row on. -/
def H (t : Fin cfg0.N) (q : Fin 4) (l : Fin 256) (k : ℕ) : EReal := gE m c q l (512 * (tile t).val + k)

theorem H_lt (t : Fin cfg0.N) (q : Fin 4) (l : Fin 256) (r : Fin 512) :
    H m c t q l r.val = ep (aDxo m c) (aS m c) (aWo m c) (aWg m c) (row (tile t) r) q l := by
  unfold H gE row
  exact ext_of_lt _ _

/-- After the last tile nothing follows. -/
theorem H_last (t : Fin cfg0.N) (h : t.val % 16 = 0) (q : Fin 4) (l : Fin 256) (k : ℕ) (hk : 512 ≤ k) : H m c t q l k = 0 := by
  have ht : t.val < 16 := t.isLt
  unfold H gE
  refine ext_of_le _ ?_
  show 8192 ≤ 512 * (15 - t.val) + k
  omega

/-- What follows a tile is the next one. -/
theorem H_next (t t' : Fin cfg0.N) (h : t'.val + 1 = t.val) (q : Fin 4) (l : Fin 256) (k : ℕ) : H m c t q l (512 + k) = H m c t' q l k := by
  have ht : t.val < 16 := t.isLt
  refine congrArg (gE m c q l) ?_
  show 512 * (15 - t.val) + (512 + k) = 512 * (15 - t'.val) + k
  omega

section
variable (t : Fin cfg0.N)

theorem dzs_at (r : Fin 512) (j : Fin 1024) : k0_pay7 (F := Ideal) (iblk m c 0 t) (iblk m c 6 t) (iblk m c 5 t) (ix2 r j) = gDzs m c (row (tile t) r) j := by
  rw [pay7_at]
  unfold gDzs dzs nt
  exact congrArg₂ (· * ·) (Finset.sum_congr rfl fun k _ => congrArg₂ (· * ·) (blk0 m c t r k) (blk6 m c t j k)) (blk5 m c t j)

/-- A group's lanes of the scaled cotangent, read back from the buffer it was stored to. -/
theorem slice_at (q : Fin 4) (o : ℕ) (ho : o = 256 * q.val) (i1 i2) (r : Fin 512) (k : Fin 256) :
    (ms0_8 t).view.readCov (Val := Elt Ideal) [⟨Rect.unit (s := S512x1024) ![0, 0] ![512, 1024] i1, k0_pay7 (iblk m c 0 t) (iblk m c 6 t) (iblk m c 5 t)⟩]
      (Rect.unit (s := S512x1024) ![0, o] ![512, 256] i2).toLoadRect (ix2 r k) = gDzs m c (row (tile t) r) (lane q k) :=
  (readCov_at (ms0_8 t).view i2 _ r k r (lane q k) (Nat.zero_add _).symm (by rw [ho]; rfl)).trans
    ((canon_in i1 _ _ r (lane q k) _ _ (Nat.zero_add _).symm (Nat.zero_add _).symm).trans (dzs_at m c t r _))

/-- A group's weight. -/
theorem weight_at (q : Fin 4) (o : ℕ) (ho : o = q.val) (i1) (l k : Fin 256) :
    View.ld (Val := Elt Ideal) (e' := .bf16) (iblk m c 4 t) (Rect.unit (s := S4x256x256) ![o, 0, 0] ![1, 256, 256] i1) (ix3 0 l k) = aWg m c q l k := by
  refine Eq.trans ?_ (blk4 m c t q l k)
  refine View.ld_unit_apply_of _ _ _ _ _ (ix3 q l k) fun a => ?_
  match a with
  | 0 => exact ho.symm
  | 1 => exact (Nat.zero_add _).symm
  | 2 => exact (Nat.zero_add _).symm

theorem word_at (r : Fin 512) : k0_pay8 (grid0.coords t) (ix2 r 0) = BitVec.ofNat 32 (row (tile t) r).val := by
  have ht : t.val < 16 := t.isLt
  refine pay8_at _ (tile t) ?_ r
  rw [(idx t).2.2.2.2.2.2.2.2.2.2.2.2.2]
  show t.val + (15 - t.val) = 15
  omega

section
variable (D : Vec Ideal S512x256 .bf16) (W : Vec Ideal S1x256x256 .bf16)

theorem pay9_at (r : Fin 512) (k : Fin 256) : k0_pay9 (F := Ideal) D (ix2 r k) = D (ix2 r k) := by pointwise [k0_pay9]

theorem dp0_at (hD : ∀ r k, D (ix2 r k) = gDzs m c (row (tile t) r) (lane 0 k)) (hW : ∀ l k, W (ix3 0 l k) = aWg m c 0 l k) (r : Fin 512) (l : Fin 256) :
    k0_pay10 (F := Ideal) (k0_pay9 D) W (ix2 r l) = gDp m c (row (tile t) r) 0 l := by
  rw [pay10_at]
  unfold gDp dp
  exact Finset.sum_congr rfl fun k _ => congrArg₂ (· * ·) ((pay9_at D r k).trans (hD r k)) (hW l k)

theorem e0_at (hD : ∀ r k, D (ix2 r k) = gDzs m c (row (tile t) r) (lane 0 k)) (hW : ∀ l k, W (ix3 0 l k) = aWg m c 0 l k) (r : Fin 512) (l : Fin 256) :
    k0_pay11 (F := Ideal) (k0_pay8 (grid0.coords t)) (k0_pay9 D) W (ix2 r l) = H m c t 0 l r.val := by
  rw [H_lt, pay11_at _ (k0_pay9 D) W r l (row (tile t) r).val (row (tile t) r).isLt (word_at t r)]
  exact congrArg (· * _) ((pay10_at (k0_pay9 D) W r l).symm.trans (dp0_at m c t D W hD hW r l))

theorem dp1_at (hD : ∀ r k, D (ix2 r k) = gDzs m c (row (tile t) r) (lane 1 k)) (hW : ∀ l k, W (ix3 0 l k) = aWg m c 1 l k) (r : Fin 512) (l : Fin 256) :
    k0_pay13 (F := Ideal) D W (ix2 r l) = gDp m c (row (tile t) r) 1 l := by
  rw [pay13_at]
  unfold gDp dp
  exact Finset.sum_congr rfl fun k _ => congrArg₂ (· * ·) (hD r k) (hW l k)

theorem e1_at (hD : ∀ r k, D (ix2 r k) = gDzs m c (row (tile t) r) (lane 1 k)) (hW : ∀ l k, W (ix3 0 l k) = aWg m c 1 l k) (r : Fin 512) (l : Fin 256) :
    k0_pay15 (F := Ideal) (k0_pay14 (k0_pay8 (grid0.coords t)) D W) (ix2 r l) = H m c t 1 l r.val := by
  rw [H_lt, pay14_at _ D W r l (row (tile t) r).val (row (tile t) r).isLt (word_at t r)]
  exact congrArg (· * _) ((pay13_at D W r l).symm.trans (dp1_at m c t D W hD hW r l))

theorem dp2_at (hD : ∀ r k, D (ix2 r k) = gDzs m c (row (tile t) r) (lane 2 k)) (hW : ∀ l k, W (ix3 0 l k) = aWg m c 2 l k) (r : Fin 512) (l : Fin 256) :
    k0_pay18 (F := Ideal) D W (ix2 r l) = gDp m c (row (tile t) r) 2 l := by
  rw [pay18_at]
  unfold gDp dp
  exact Finset.sum_congr rfl fun k _ => congrArg₂ (· * ·) (hD r k) (hW l k)

theorem e2_at (hD : ∀ r k, D (ix2 r k) = gDzs m c (row (tile t) r) (lane 2 k)) (hW : ∀ l k, W (ix3 0 l k) = aWg m c 2 l k) (r : Fin 512) (l : Fin 256) :
    k0_pay19 (F := Ideal) (k0_pay8 (grid0.coords t)) D W (ix2 r l) = H m c t 2 l r.val := by
  rw [H_lt, pay19_at _ D W r l (row (tile t) r).val (row (tile t) r).isLt (word_at t r)]
  exact congrArg (· * _) ((pay18_at D W r l).symm.trans (dp2_at m c t D W hD hW r l))

theorem dp3_at (hD : ∀ r k, D (ix2 r k) = gDzs m c (row (tile t) r) (lane 3 k)) (hW : ∀ l k, W (ix3 0 l k) = aWg m c 3 l k) (r : Fin 512) (l : Fin 256) :
    k0_pay23 (F := Ideal) D W (ix2 r l) = gDp m c (row (tile t) r) 3 l := by
  rw [pay23_at]
  unfold gDp dp
  exact Finset.sum_congr rfl fun k _ => congrArg₂ (· * ·) (hD r k) (hW l k)

theorem e3_at (hD : ∀ r k, D (ix2 r k) = gDzs m c (row (tile t) r) (lane 3 k)) (hW : ∀ l k, W (ix3 0 l k) = aWg m c 3 l k) (r : Fin 512) (l : Fin 256) :
    k0_pay25 (F := Ideal) (k0_pay24 (k0_pay8 (grid0.coords t)) D W) (ix2 r l) = H m c t 3 l r.val := by
  rw [H_lt, pay24_at _ D W r l (row (tile t) r).val (row (tile t) r).isLt (word_at t r)]
  exact congrArg (· * _) ((pay23_at D W r l).symm.trans (dp3_at m c t D W hD hW r l))

end

/-! Reads of the running buffer. -/
section
variable (q : Fin 4) (l : Fin 256) (o : ℕ) (ho : o = 256 * q.val) (inb) (w : (Rect.unit (s := S544x1024) ![0, o] ![512, 256] inb).shape.Idx → Elt Ideal .f32)
  (L : List (View.Piece (Elt Ideal) S544x1024 .f32)) (R : Fin 544)

/-- In the group stored last, -/
theorem canon_top (G : ℕ → EReal) (ho : o = 256 * q.val) (hw : ∀ r : Fin 512, w (ix2 r l) = G r.val)
    (hL : 512 ≤ R.val → View.canon L (ix2 R (lane q l)) = G R.val) :
    View.canon (⟨Rect.unit (s := S544x1024) ![0, o] ![512, 256] inb, w⟩ :: L) (ix2 R (lane q l)) = G R.val := by
  by_cases h : R.val < 512
  · exact (canon_in inb w L ⟨R.val, h⟩ l R (lane q l) (Nat.zero_add _).symm (by rw [ho]; rfl)).trans (hw _)
  · exact (canon_out inb w L R _ (by omega)).trans (hL (by omega))

/-- and past its rows or off its lanes. -/
theorem canon_pass (C : Fin 1024) (h : 512 ≤ R.val ∨ C.val < o ∨ o + 256 ≤ C.val) :
    View.canon (⟨Rect.unit (s := S544x1024) ![0, o] ![512, 256] inb, w⟩ :: L) (ix2 R C) = View.canon L (ix2 R C) :=
  canon_out inb w L R _ (by omega)

variable {sig' : RefSig} {κ : Kind} {sp : Space} (v : View sig' κ sp S544x1024 .f32) (f : v.ty.Contents (Elt Ideal))

/-- The same over contents the point before left: in the group stored last, -/
theorem read_top (G : ℕ → EReal) (ho : o = 256 * q.val) (hw : ∀ r : Fin 512, w (ix2 r l) = G r.val)
    (hL : 512 ≤ R.val → v.read (Elt Ideal) (v.writes (Elt Ideal) f L) (ix2 R (lane q l)) = G R.val) :
    v.read (Elt Ideal) (v.writes (Elt Ideal) f (⟨Rect.unit (s := S544x1024) ![0, o] ![512, 256] inb, w⟩ :: L)) (ix2 R (lane q l)) = G R.val := by
  by_cases h : R.val < 512
  · exact (read_in v f inb w L ⟨R.val, h⟩ l R (lane q l) (Nat.zero_add _).symm (by rw [ho]; rfl)).trans (hw _)
  · exact (read_out v f inb w L R _ (by omega)).trans (hL (by omega))

/-- and past its rows. -/
theorem read_pass (C : Fin 1024) (h : 512 ≤ R.val) :
    v.read (Elt Ideal) (v.writes (Elt Ideal) f (⟨Rect.unit (s := S544x1024) ![0, o] ![512, 256] inb, w⟩ :: L)) (ix2 R C)
      = v.read (Elt Ideal) (v.writes (Elt Ideal) f L) (ix2 R C) :=
  read_out v f inb w L R _ (by omega)
end

/-- The first rows of the tile, read from the buffer after its four groups are stored. -/
theorem first_rows (w0 w1 w2 w3 : Vec Ideal S512x256 .f32) (h0 : ∀ r l, w0 (ix2 r l) = H m c t 0 l r.val) (h1 : ∀ r l, w1 (ix2 r l) = H m c t 1 l r.val)
    (h2 : ∀ r l, w2 (ix2 r l) = H m c t 2 l r.val) (h3 : ∀ r l, w3 (ix2 r l) = H m c t 3 l r.val)
    {sig' : RefSig} {κ : Kind} {sp : Space} (v : View sig' κ sp S544x1024 .f32) (L) (i0 i1 i2 i3 i4) (k : Fin 32) (q : Fin 4) (l : Fin 256) :
    v.readCov (Val := Elt Ideal) (⟨Rect.unit (s := S544x1024) ![0, 768] ![512, 256] i3, w3⟩ :: ⟨Rect.unit (s := S544x1024) ![0, 512] ![512, 256] i2, w2⟩
      :: ⟨Rect.unit (s := S544x1024) ![0, 256] ![512, 256] i1, w1⟩ :: ⟨Rect.unit (s := S544x1024) ![0, 0] ![512, 256] i0, w0⟩ :: L)
      (Rect.unit (s := S544x1024) ![0, 0] ![32, 1024] i4).toLoadRect (ix2 k (lane q l)) = H m c t q l k.val := by
  have hk := k.isLt
  have hl := l.isLt
  refine (readCov_at v i4 _ k (lane q l) ⟨k.val, by omega⟩ (lane q l) (Nat.zero_add _).symm (Nat.zero_add _).symm).trans ?_
  match q with
  | 0 =>
    refine (canon_pass 768 i3 w3 _ _ _ (by show _ ∨ 256 * 0 + l.val < _ ∨ _; omega)).trans ?_
    refine (canon_pass 512 i2 w2 _ _ _ (by show _ ∨ 256 * 0 + l.val < _ ∨ _; omega)).trans ?_
    refine (canon_pass 256 i1 w1 _ _ _ (by show _ ∨ 256 * 0 + l.val < _ ∨ _; omega)).trans ?_
    exact canon_top 0 l 0 i0 w0 L _ (H m c t 0 l) rfl (fun r => h0 r l) (fun h => absurd h (by show ¬ 512 ≤ k.val; omega))
  | 1 =>
    refine (canon_pass 768 i3 w3 _ _ _ (by show _ ∨ 256 * 1 + l.val < _ ∨ _; omega)).trans ?_
    refine (canon_pass 512 i2 w2 _ _ _ (by show _ ∨ 256 * 1 + l.val < _ ∨ _; omega)).trans ?_
    exact canon_top 1 l 256 i1 w1 _ _ (H m c t 1 l) rfl (fun r => h1 r l) (fun h => absurd h (by show ¬ 512 ≤ k.val; omega))
  | 2 =>
    refine (canon_pass 768 i3 w3 _ _ _ (by show _ ∨ 256 * 2 + l.val < _ ∨ _; omega)).trans ?_
    exact canon_top 2 l 512 i2 w2 _ _ (H m c t 2 l) rfl (fun r => h2 r l) (fun h => absurd h (by show ¬ 512 ≤ k.val; omega))
  | 3 => exact canon_top 3 l 768 i3 w3 _ _ (H m c t 3 l) rfl (fun r => h3 r l) (fun h => absurd h (by show ¬ 512 ≤ k.val; omega))

theorem pay30_at (X : Vec Ideal S32x1024 .f32) (k : Fin 32) (j : Fin 1024) : k0_pay30 (F := Ideal) X (ix2 k j) = X (ix2 k j) := by pointwise [k0_pay30]

theorem pay2_at (k : Fin 32) (j : Fin 1024) : k0_pay2 (F := Ideal) (ix2 k j) = 0 := by
  pointwise [k0_pay2]

/-- What a point leaves past its tile's rows: the tile's first rows, for the next point. -/
theorem carried (k : Fin 32) (q : Fin 4) (l : Fin 256) :
    (outsAt0 m c t.val t.isLt).2.2.2.2.2 (ix2 ⟨512 + k.val, by omega⟩ (lane q l)) = H m c t q l k.val := by
  by_cases h : t.val % 16 = 0
  · rw [outsAt0_A m c t h]
    frame_out
    refine (canon_in _ _ _ k (lane q l) _ _ rfl (Nat.zero_add _).symm).trans ((pay30_at _ _ _).trans ?_)
    exact first_rows m c t _ _ _ _ (e0_at m c t _ _ (slice_at m c t 0 0 rfl _ _) (weight_at m c t 0 0 rfl _)) (e1_at m c t _ _ (slice_at m c t 1 _ rfl _ _) (weight_at m c t 1 1 rfl _))
      (e2_at m c t _ _ (slice_at m c t 2 _ rfl _ _) (weight_at m c t 2 2 rfl _)) (e3_at m c t _ _ (slice_at m c t 3 _ rfl _ _) (weight_at m c t 3 3 rfl _)) _ _ _ _ _ _ _ k q l
  · rw [outsAt0_B m c t h]
    frame_out
    refine (canon_in _ _ _ k (lane q l) _ _ rfl (Nat.zero_add _).symm).trans ((pay30_at _ _ _).trans ?_)
    exact first_rows m c t _ _ _ _ (e0_at m c t _ _ (slice_at m c t 0 0 rfl _ _) (weight_at m c t 0 0 rfl _)) (e1_at m c t _ _ (slice_at m c t 1 _ rfl _ _) (weight_at m c t 1 1 rfl _))
      (e2_at m c t _ _ (slice_at m c t 2 _ rfl _ _) (weight_at m c t 2 2 rfl _)) (e3_at m c t _ _ (slice_at m c t 3 _ rfl _ _) (weight_at m c t 3 3 rfl _)) _ _ _ _ _ _ _ k q l
end

end Cert.PoolBwd

end
-- ==== Proof.Du.lean ====
/- The projection's cotangent, tile by tile: each group's window sums of the running buffer less the token's own cotangent. -/
module

public import proofs.«01_k».proof.Proof.Carry

@[expose] public section

set_option maxRecDepth 16384

noncomputable section

namespace Cert.PoolBwd

open Idealize.ShloMosaic Idealize.ShloMosaic.TcCoe Idealize.SL.Sem Cert.Grad
open Idealize.ShloMosaic.Pipeline (Dat)
open Cert.KernelIdeal Cert.KernelIdeal.Gen

variable (m : (ℓ : Loc nD τ sig) → Buf (Elt Ideal) ℓ) (c : Dev nD)

/-- The projection's cotangent. -/
def gDu : Fin 8192 → Fin 1024 → EReal := du (aDxo m c) (aS m c) (aWo m c) (aWg m c)

section
variable (t : Fin cfg0.N)

theorem du_of (q : Fin 4) (r : Fin 512) (l : Fin 256) (x : EReal) (hx : x = gDp m c (row (tile t) r) q l) :
    run (H m c t q l) (width q) r.val - x = gDu m c (row (tile t) r) (lane q l) := by
  subst hx
  unfold gDu du run H gE gDp
  rw [grp_lane, lin_lane]
  refine congrArg (· - _) (Finset.sum_congr rfl fun i _ => congrArg (ext _) ?_)
  exact (Nat.add_assoc _ _ _).symm

theorem du_canon (w0 w1 w2 w3 : Vec Ideal S512x256 .bf16) (i0 i1 i2 i3) (h0 : ∀ r l, w0 (ix2 r l) = gDu m c (row (tile t) r) (lane 0 l))
    (h1 : ∀ r l, w1 (ix2 r l) = gDu m c (row (tile t) r) (lane 1 l)) (h2 : ∀ r l, w2 (ix2 r l) = gDu m c (row (tile t) r) (lane 2 l))
    (h3 : ∀ r l, w3 (ix2 r l) = gDu m c (row (tile t) r) (lane 3 l)) (r : Fin 512) (j : Fin 1024) :
    View.canon (Val := Elt Ideal) (e := .bf16) [⟨Rect.unit (s := S512x1024) ![0, 768] ![512, 256] i3, w3⟩, ⟨Rect.unit (s := S512x1024) ![0, 512] ![512, 256] i2, w2⟩,
      ⟨Rect.unit (s := S512x1024) ![0, 256] ![512, 256] i1, w1⟩, ⟨Rect.unit (s := S512x1024) ![0, 0] ![512, 256] i0, w0⟩] (ix2 r j)
      = gDu m c (row (tile t) r) j := by
  have key : ∀ (q : Fin 4) (l : Fin 256), View.canon (Val := Elt Ideal) (e := .bf16) [⟨Rect.unit (s := S512x1024) ![0, 768] ![512, 256] i3, w3⟩, ⟨Rect.unit (s := S512x1024) ![0, 512] ![512, 256] i2, w2⟩,
      ⟨Rect.unit (s := S512x1024) ![0, 256] ![512, 256] i1, w1⟩, ⟨Rect.unit (s := S512x1024) ![0, 0] ![512, 256] i0, w0⟩] (ix2 r (lane q l))
      = gDu m c (row (tile t) r) (lane q l) := by
    intro q l
    have hl := l.isLt
    match q with
    | 0 =>
      refine (canon_out _ _ _ _ _ (by show _ ∨ _ ∨ 256 * 0 + l.val < _ ∨ _; omega)).trans ?_
      refine (canon_out _ _ _ _ _ (by show _ ∨ _ ∨ 256 * 0 + l.val < _ ∨ _; omega)).trans ?_
      refine (canon_out _ _ _ _ _ (by show _ ∨ _ ∨ 256 * 0 + l.val < _ ∨ _; omega)).trans ?_
      exact (canon_in _ _ _ r l _ _ (Nat.zero_add _).symm rfl).trans (h0 r l)
    | 1 =>
      refine (canon_out _ _ _ _ _ (by show _ ∨ _ ∨ 256 * 1 + l.val < _ ∨ _; omega)).trans ?_
      refine (canon_out _ _ _ _ _ (by show _ ∨ _ ∨ 256 * 1 + l.val < _ ∨ _; omega)).trans ?_
      exact (canon_in _ _ _ r l _ _ (Nat.zero_add _).symm rfl).trans (h1 r l)
    | 2 =>
      refine (canon_out _ _ _ _ _ (by show _ ∨ _ ∨ 256 * 2 + l.val < _ ∨ _; omega)).trans ?_
      exact (canon_in _ _ _ r l _ _ (Nat.zero_add _).symm rfl).trans (h2 r l)
    | 3 => exact (canon_in _ _ _ r l _ _ (Nat.zero_add _).symm rfl).trans (h3 r l)
  have := key (grp j) (lin j)
  rwa [lane_grp_lin] at this

/-! Loads of the running buffer. -/
section
variable (q : Fin 4) (l : Fin 256) (o k : ℕ) {n : ℕ} (ho : o = 256 * q.val) (i1 i2) (w : Vec Ideal S512x256 .f32) (L : List (View.Piece (Elt Ideal) S544x1024 .f32))
  {sig' : RefSig} {κ : Kind} {sp : Space} (v : View sig' κ sp S544x1024 .f32) (f : v.ty.Contents (Elt Ideal)) (r : Fin n)

theorem load_canon (ho : o = 256 * q.val) (hkn : k + n ≤ 544) (hw : ∀ r l, w (ix2 r l) = H m c t q l r.val)
    (hL : ∀ R : Fin 544, R.val < k + n → 512 ≤ R.val → View.canon L (ix2 R (lane q l)) = H m c t q l R.val) :
    v.readCov (Val := Elt Ideal) (⟨Rect.unit (s := S544x1024) ![0, o] ![512, 256] i1, w⟩ :: L) (Rect.unit (s := S544x1024) ![k, o] ![n, 256] i2).toLoadRect (ix2 r l)
      = H m c t q l (k + r.val) :=
  have hr := r.isLt
  (readCov_at v i2 _ r l ⟨k + r.val, by omega⟩ (lane q l) rfl (by rw [ho]; rfl)).trans
    (canon_top q l o i1 w L ⟨k + r.val, by omega⟩ (H m c t q l) ho (fun r => hw r l) (hL _ (by show k + r.val < _; omega)))

theorem load_read (ho : o = 256 * q.val) (hkn : k + n ≤ 544) (hw : ∀ r l, w (ix2 r l) = H m c t q l r.val)
    (hL : ∀ R : Fin 544, 512 ≤ R.val → v.read (Elt Ideal) (v.writes (Elt Ideal) f L) (ix2 R (lane q l)) = H m c t q l R.val) :
    View.ld (Val := Elt Ideal) (e' := .f32) (v.read (Elt Ideal) (v.writes (Elt Ideal) f (⟨Rect.unit (s := S544x1024) ![0, o] ![512, 256] i1, w⟩ :: L))) (Rect.unit (s := S544x1024) ![k, o] ![n, 256] i2) (ix2 r l)
      = H m c t q l (k + r.val) :=
  have hr := r.isLt
  (ld_at i2 _ r l ⟨k + r.val, by omega⟩ (lane q l) rfl (by rw [ho]; rfl)).trans
    (read_top q l o i1 w L ⟨k + r.val, by omega⟩ v f (H m c t q l) ho (fun r => hw r l) (hL _))
end

theorem tail_canon (h : t.val % 16 = 0) (q : Fin 4) (l : Fin 256) (i1) (R : Fin 544) (hR : 512 ≤ R.val) :
    View.canon (Val := Elt Ideal) (e := .f32) [⟨Rect.unit (s := S544x1024) ![512, 0] ![32, 1024] i1, k0_pay2 (F := Ideal)⟩] (ix2 R (lane q l)) = H m c t q l R.val :=
  (canon_in i1 _ _ ⟨R.val - 512, by omega⟩ (lane q l) R _ (by show _ = 512 + (R.val - 512); omega) (Nat.zero_add _).symm).trans
    ((pay2_at _ _).trans (H_last m c t h q l R.val hR).symm)

theorem tail_read (h : ¬ t.val % 16 = 0) (hm : (Memref.whole cc0_scratch0).IsWhole) (q : Fin 4) (l : Fin 256) (hp) (R : Fin 544) (hR : 512 ≤ R.val) :
    (View.whole cc0_scratch0).read (Elt Ideal) ((View.whole cc0_scratch0).writes (Elt Ideal) (hm.unread (outsAt0 m c (t.val - 1) hp).2.2.2.2.2) []) (ix2 R (lane q l)) = H m c t q l R.val := by
  have e : (View.whole cc0_scratch0).read (Elt Ideal) ((View.whole cc0_scratch0).writes (Elt Ideal) (hm.unread (outsAt0 m c (t.val - 1) hp).2.2.2.2.2) [])
      = (outsAt0 m c (t.val - 1) hp).2.2.2.2.2 := hm.read_unread _
  rw [e]
  have hk : R = (⟨512 + (R.val - 512), by omega⟩ : Fin 544) := Fin.ext (by show _ = 512 + (R.val - 512); omega)
  refine (congrArg (fun R' : Fin 544 => (outsAt0 m c (t.val - 1) hp).2.2.2.2.2 (ix2 R' (lane q l))) hk).trans ?_
  refine (carried m c ⟨t.val - 1, hp⟩ ⟨R.val - 512, by omega⟩ q l).trans ?_
  refine (H_next m c t ⟨t.val - 1, hp⟩ (by show t.val - 1 + 1 = t.val; omega) q l (R.val - 512)).symm.trans ?_
  exact congrArg (H m c t q l) (by omega)

/-- The first point, with nothing after its tile. -/
theorem du_A (h : t.val % 16 = 0) (r : Fin 512) (j : Fin 1024) :
    (outsAt0 m c t.val t.isLt).2.1 (ix2 r j) = gDu m c (row (tile t) r) j := by
  rw [outsAt0_A m c t h]
  frame_out
  refine du_canon m c t _ _ _ _ _ _ _ _ ?_ ?_ ?_ ?_ r j
  · intro r l
    refine (window0 (H m c t 0 l) l _ _ _ _ ?_ ?_ r).trans (du_of m c t 0 r l _ (dp0_at m c t _ _ (slice_at m c t 0 _ rfl _ _) (weight_at m c t 0 0 rfl _) r l))
    · exact (fun r => (load_canon m c t 0 l _ 0 _ _ _ _ _ r rfl (by norm_num) (e0_at m c t _ _ (slice_at m c t 0 _ rfl _ _) (weight_at m c t 0 0 rfl _)) (fun R h1 h2 => absurd h2 (by omega))).trans (congrArg _ (Nat.zero_add _)))
    · exact (fun r => load_canon m c t 0 l _ 1 _ _ _ _ _ r rfl (by norm_num) (e0_at m c t _ _ (slice_at m c t 0 _ rfl _ _) (weight_at m c t 0 0 rfl _)) (fun R _ hR => tail_canon m c t h 0 l _ R hR))
  · intro r l
    have hp : ∀ a b : Vec Ideal S536x256 .f32, (∀ r : Fin 536, a (ix2 r l) = H m c t 1 l r.val) → (∀ r : Fin 536, b (ix2 r l) = H m c t 1 l (1 + r.val)) →
        ∀ r : Fin 536, k0_pay16 (F := Ideal) a b (ix2 r l) = run (H m c t 1 l) 2 r.val := fun a b => pair16 _ l a b
    refine (window1 _ (H m c t 1 l) l _ _ _ ?_ ?_ _ _ _ _ _ _ r).trans (du_of m c t 1 r l _ (dp1_at m c t _ _ (slice_at m c t 1 _ rfl _ _) (weight_at m c t 1 1 rfl _) r l))
    · exact hp _ _ (fun r => (load_canon m c t 1 l _ 0 _ _ _ _ _ r rfl (by norm_num) (e1_at m c t _ _ (slice_at m c t 1 _ rfl _ _) (weight_at m c t 1 1 rfl _)) (fun R _ hR => (canon_pass _ _ _ _ R _ (.inl hR)).trans (tail_canon m c t h 1 l _ R hR))).trans (congrArg _ (Nat.zero_add _))) (fun r => load_canon m c t 1 l _ 1 _ _ _ _ _ r rfl (by norm_num) (e1_at m c t _ _ (slice_at m c t 1 _ rfl _ _) (weight_at m c t 1 1 rfl _)) (fun R _ hR => (canon_pass _ _ _ _ R _ (.inl hR)).trans (tail_canon m c t h 1 l _ R hR)))
    · exact hp _ _ (fun r => (load_canon m c t 1 l _ 0 _ _ _ _ _ r rfl (by norm_num) (e1_at m c t _ _ (slice_at m c t 1 _ rfl _ _) (weight_at m c t 1 1 rfl _)) (fun R _ hR => (canon_pass _ _ _ _ R _ (.inl hR)).trans (tail_canon m c t h 1 l _ R hR))).trans (congrArg _ (Nat.zero_add _))) (fun r => load_canon m c t 1 l _ 1 _ _ _ _ _ r rfl (by norm_num) (e1_at m c t _ _ (slice_at m c t 1 _ rfl _ _) (weight_at m c t 1 1 rfl _)) (fun R _ hR => (canon_pass _ _ _ _ R _ (.inl hR)).trans (tail_canon m c t h 1 l _ R hR)))
  · intro r l
    have hp : ∀ a b : Vec Ideal S536x256 .f32, (∀ r : Fin 536, a (ix2 r l) = H m c t 2 l r.val) → (∀ r : Fin 536, b (ix2 r l) = H m c t 2 l (1 + r.val)) →
        ∀ r : Fin 536, k0_pay20 (F := Ideal) a b (ix2 r l) = run (H m c t 2 l) 2 r.val := fun a b => pair20 _ l a b
    refine (window2 _ (H m c t 2 l) l _ _ _ ?_ ?_ _ _ _ _ _ _ r).trans (du_of m c t 2 r l _ (dp2_at m c t _ _ (slice_at m c t 2 _ rfl _ _) (weight_at m c t 2 2 rfl _) r l))
    · intro r
      refine four21 _ _ l _ _ ?_ ?_ _ _ _ _ _ _ r
      · exact hp _ _ (fun r => (load_canon m c t 2 l _ 0 _ _ _ _ _ r rfl (by norm_num) (e2_at m c t _ _ (slice_at m c t 2 _ rfl _ _) (weight_at m c t 2 2 rfl _)) (fun R _ hR => (canon_pass _ _ _ _ R _ (.inl hR)).trans ((canon_pass _ _ _ _ R _ (.inl hR)).trans (tail_canon m c t h 2 l _ R hR)))).trans (congrArg _ (Nat.zero_add _))) (fun r => load_canon m c t 2 l _ 1 _ _ _ _ _ r rfl (by norm_num) (e2_at m c t _ _ (slice_at m c t 2 _ rfl _ _) (weight_at m c t 2 2 rfl _)) (fun R _ hR => (canon_pass _ _ _ _ R _ (.inl hR)).trans ((canon_pass _ _ _ _ R _ (.inl hR)).trans (tail_canon m c t h 2 l _ R hR))))
      · exact hp _ _ (fun r => (load_canon m c t 2 l _ 0 _ _ _ _ _ r rfl (by norm_num) (e2_at m c t _ _ (slice_at m c t 2 _ rfl _ _) (weight_at m c t 2 2 rfl _)) (fun R _ hR => (canon_pass _ _ _ _ R _ (.inl hR)).trans ((canon_pass _ _ _ _ R _ (.inl hR)).trans (tail_canon m c t h 2 l _ R hR)))).trans (congrArg _ (Nat.zero_add _))) (fun r => load_canon m c t 2 l _ 1 _ _ _ _ _ r rfl (by norm_num) (e2_at m c t _ _ (slice_at m c t 2 _ rfl _ _) (weight_at m c t 2 2 rfl _)) (fun R _ hR => (canon_pass _ _ _ _ R _ (.inl hR)).trans ((canon_pass _ _ _ _ R _ (.inl hR)).trans (tail_canon m c t h 2 l _ R hR))))
    · intro r
      refine four21 _ _ l _ _ ?_ ?_ _ _ _ _ _ _ r
      · exact hp _ _ (fun r => (load_canon m c t 2 l _ 0 _ _ _ _ _ r rfl (by norm_num) (e2_at m c t _ _ (slice_at m c t 2 _ rfl _ _) (weight_at m c t 2 2 rfl _)) (fun R _ hR => (canon_pass _ _ _ _ R _ (.inl hR)).trans ((canon_pass _ _ _ _ R _ (.inl hR)).trans (tail_canon m c t h 2 l _ R hR)))).trans (congrArg _ (Nat.zero_add _))) (fun r => load_canon m c t 2 l _ 1 _ _ _ _ _ r rfl (by norm_num) (e2_at m c t _ _ (slice_at m c t 2 _ rfl _ _) (weight_at m c t 2 2 rfl _)) (fun R _ hR => (canon_pass _ _ _ _ R _ (.inl hR)).trans ((canon_pass _ _ _ _ R _ (.inl hR)).trans (tail_canon m c t h 2 l _ R hR))))
      · exact hp _ _ (fun r => (load_canon m c t 2 l _ 0 _ _ _ _ _ r rfl (by norm_num) (e2_at m c t _ _ (slice_at m c t 2 _ rfl _ _) (weight_at m c t 2 2 rfl _)) (fun R _ hR => (canon_pass _ _ _ _ R _ (.inl hR)).trans ((canon_pass _ _ _ _ R _ (.inl hR)).trans (tail_canon m c t h 2 l _ R hR)))).trans (congrArg _ (Nat.zero_add _))) (fun r => load_canon m c t 2 l _ 1 _ _ _ _ _ r rfl (by norm_num) (e2_at m c t _ _ (slice_at m c t 2 _ rfl _ _) (weight_at m c t 2 2 rfl _)) (fun R _ hR => (canon_pass _ _ _ _ R _ (.inl hR)).trans ((canon_pass _ _ _ _ R _ (.inl hR)).trans (tail_canon m c t h 2 l _ R hR))))
  · intro r l
    have hp : ∀ a b : Vec Ideal S536x256 .f32, (∀ r : Fin 536, a (ix2 r l) = H m c t 3 l r.val) → (∀ r : Fin 536, b (ix2 r l) = H m c t 3 l (1 + r.val)) →
        ∀ r : Fin 536, k0_pay26 (F := Ideal) a b (ix2 r l) = run (H m c t 3 l) 2 r.val := fun a b => pair26 _ l a b
    refine (window3 _ (H m c t 3 l) l _ _ _ ?_ ?_ _ _ _ _ _ _ r).trans (du_of m c t 3 r l _ (dp3_at m c t _ _ (slice_at m c t 3 _ rfl _ _) (weight_at m c t 3 3 rfl _) r l))
    · intro r
      refine eight28 _ _ l _ _ ?_ ?_ _ _ _ _ _ _ r
      · intro r
        refine four27 _ _ l _ _ ?_ ?_ _ _ _ _ _ _ r
        · exact hp _ _ (fun r => (load_canon m c t 3 l _ 0 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR))))).trans (congrArg _ (Nat.zero_add _))) (fun r => load_canon m c t 3 l _ 1 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR)))))
        · exact hp _ _ (fun r => (load_canon m c t 3 l _ 0 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR))))).trans (congrArg _ (Nat.zero_add _))) (fun r => load_canon m c t 3 l _ 1 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR)))))
      · intro r
        refine four27 _ _ l _ _ ?_ ?_ _ _ _ _ _ _ r
        · exact hp _ _ (fun r => (load_canon m c t 3 l _ 0 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR))))).trans (congrArg _ (Nat.zero_add _))) (fun r => load_canon m c t 3 l _ 1 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR)))))
        · exact hp _ _ (fun r => (load_canon m c t 3 l _ 0 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR))))).trans (congrArg _ (Nat.zero_add _))) (fun r => load_canon m c t 3 l _ 1 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR)))))
    · intro r
      refine eight28 _ _ l _ _ ?_ ?_ _ _ _ _ _ _ r
      · intro r
        refine four27 _ _ l _ _ ?_ ?_ _ _ _ _ _ _ r
        · exact hp _ _ (fun r => (load_canon m c t 3 l _ 0 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR))))).trans (congrArg _ (Nat.zero_add _))) (fun r => load_canon m c t 3 l _ 1 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR)))))
        · exact hp _ _ (fun r => (load_canon m c t 3 l _ 0 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR))))).trans (congrArg _ (Nat.zero_add _))) (fun r => load_canon m c t 3 l _ 1 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR)))))
      · intro r
        refine four27 _ _ l _ _ ?_ ?_ _ _ _ _ _ _ r
        · exact hp _ _ (fun r => (load_canon m c t 3 l _ 0 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR))))).trans (congrArg _ (Nat.zero_add _))) (fun r => load_canon m c t 3 l _ 1 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR)))))
        · exact hp _ _ (fun r => (load_canon m c t 3 l _ 0 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR))))).trans (congrArg _ (Nat.zero_add _))) (fun r => load_canon m c t 3 l _ 1 _ _ _ _ _ r rfl (by norm_num) (e3_at m c t _ _ (slice_at m c t 3 _ rfl _ _) (weight_at m c t 3 3 rfl _)) (fun R _ hR => (canon_pass _ _ _ _ R _ (.inl hR)).trans ((canon_pass _ _ _ _ R _ (.inl hR)).trans ((canon_pass _ _ _ _ R _ (.inl hR)).trans (tail_canon m c t h 3 l _ R hR)))))

/-- Any later point. -/
theorem du_B (h : ¬ t.val % 16 = 0) (r : Fin 512) (j : Fin 1024) :
    (outsAt0 m c t.val t.isLt).2.1 (ix2 r j) = gDu m c (row (tile t) r) j := by
  rw [outsAt0_B m c t h]
  frame_out
  refine du_canon m c t _ _ _ _ _ _ _ _ ?_ ?_ ?_ ?_ r j
  · intro r l
    refine (window0 (H m c t 0 l) l _ _ _ _ ?_ ?_ r).trans (du_of m c t 0 r l _ (dp0_at m c t _ _ (slice_at m c t 0 _ rfl _ _) (weight_at m c t 0 0 rfl _) r l))
    · exact (fun r => (load_canon m c t 0 l _ 0 _ _ _ _ _ r rfl (by norm_num) (e0_at m c t _ _ (slice_at m c t 0 _ rfl _ _) (weight_at m c t 0 0 rfl _)) (fun R h1 h2 => absurd h2 (by omega))).trans (congrArg _ (Nat.zero_add _)))
    · exact (fun r => load_read m c t 0 l _ 1 _ _ _ _ _ _ r rfl (by norm_num) (e0_at m c t _ _ (slice_at m c t 0 _ rfl _ _) (weight_at m c t 0 0 rfl _)) (fun R hR => tail_read m c t h _ 0 l _ R hR))
  · intro r l
    have hp : ∀ a b : Vec Ideal S536x256 .f32, (∀ r : Fin 536, a (ix2 r l) = H m c t 1 l r.val) → (∀ r : Fin 536, b (ix2 r l) = H m c t 1 l (1 + r.val)) →
        ∀ r : Fin 536, k0_pay16 (F := Ideal) a b (ix2 r l) = run (H m c t 1 l) 2 r.val := fun a b => pair16 _ l a b
    refine (window1 _ (H m c t 1 l) l _ _ _ ?_ ?_ _ _ _ _ _ _ r).trans (du_of m c t 1 r l _ (dp1_at m c t _ _ (slice_at m c t 1 _ rfl _ _) (weight_at m c t 1 1 rfl _) r l))
    · exact hp _ _ (fun r => (load_read m c t 1 l _ 0 _ _ _ _ _ _ r rfl (by norm_num) (e1_at m c t _ _ (slice_at m c t 1 _ rfl _ _) (weight_at m c t 1 1 rfl _)) (fun R hR => (read_pass _ _ _ _ R _ _ _ hR).trans (tail_read m c t h _ 1 l _ R hR))).trans (congrArg _ (Nat.zero_add _))) (fun r => load_read m c t 1 l _ 1 _ _ _ _ _ _ r rfl (by norm_num) (e1_at m c t _ _ (slice_at m c t 1 _ rfl _ _) (weight_at m c t 1 1 rfl _)) (fun R hR => (read_pass _ _ _ _ R _ _ _ hR).trans (tail_read m c t h _ 1 l _ R hR)))
    · exact hp _ _ (fun r => (load_read m c t 1 l _ 0 _ _ _ _ _ _ r rfl (by norm_num) (e1_at m c t _ _ (slice_at m c t 1 _ rfl _ _) (weight_at m c t 1 1 rfl _)) (fun R hR => (read_pass _ _ _ _ R _ _ _ hR).trans (tail_read m c t h _ 1 l _ R hR))).trans (congrArg _ (Nat.zero_add _))) (fun r => load_read m c t 1 l _ 1 _ _ _ _ _ _ r rfl (by norm_num) (e1_at m c t _ _ (slice_at m c t 1 _ rfl _ _) (weight_at m c t 1 1 rfl _)) (fun R hR => (read_pass _ _ _ _ R _ _ _ hR).trans (tail_read m c t h _ 1 l _ R hR)))
  · intro r l
    have hp : ∀ a b : Vec Ideal S536x256 .f32, (∀ r : Fin 536, a (ix2 r l) = H m c t 2 l r.val) → (∀ r : Fin 536, b (ix2 r l) = H m c t 2 l (1 + r.val)) →
        ∀ r : Fin 536, k0_pay20 (F := Ideal) a b (ix2 r l) = run (H m c t 2 l) 2 r.val := fun a b => pair20 _ l a b
    refine (window2 _ (H m c t 2 l) l _ _ _ ?_ ?_ _ _ _ _ _ _ r).trans (du_of m c t 2 r l _ (dp2_at m c t _ _ (slice_at m c t 2 _ rfl _ _) (weight_at m c t 2 2 rfl _) r l))
    · intro r
      refine four21 _ _ l _ _ ?_ ?_ _ _ _ _ _ _ r
      · exact hp _ _ (fun r => (load_read m c t 2 l _ 0 _ _ _ _ _ _ r rfl (by norm_num) (e2_at m c t _ _ (slice_at m c t 2 _ rfl _ _) (weight_at m c t 2 2 rfl _)) (fun R hR => (read_pass _ _ _ _ R _ _ _ hR).trans ((read_pass _ _ _ _ R _ _ _ hR).trans (tail_read m c t h _ 2 l _ R hR)))).trans (congrArg _ (Nat.zero_add _))) (fun r => load_read m c t 2 l _ 1 _ _ _ _ _ _ r rfl (by norm_num) (e2_at m c t _ _ (slice_at m c t 2 _ rfl _ _) (weight_at m c t 2 2 rfl _)) (fun R hR => (read_pass _ _ _ _ R _ _ _ hR).trans ((read_pass _ _ _ _ R _ _ _ hR).trans (tail_read m c t h _ 2 l _ R hR))))
      · exact hp _ _ (fun r => (load_read m c t 2 l _ 0 _ _ _ _ _ _ r rfl (by norm_num) (e2_at m c t _ _ (slice_at m c t 2 _ rfl _ _) (weight_at m c t 2 2 rfl _)) (fun R hR => (read_pass _ _ _ _ R _ _ _ hR).trans ((read_pass _ _ _ _ R _ _ _ hR).trans (tail_read m c t h _ 2 l _ R hR)))).trans (congrArg _ (Nat.zero_add _))) (fun r => load_read m c t 2 l _ 1 _ _ _ _ _ _ r rfl (by norm_num) (e2_at m c t _ _ (slice_at m c t 2 _ rfl _ _) (weight_at m c t 2 2 rfl _)) (fun R hR => (read_pass _ _ _ _ R _ _ _ hR).trans ((read_pass _ _ _ _ R _ _ _ hR).trans (tail_read m c t h _ 2 l _ R hR))))
    · intro r
      refine four21 _ _ l _ _ ?_ ?_ _ _ _ _ _ _ r
      · exact hp _ _ (fun r => (load_read m c t 2 l _ 0 _ _ _ _ _ _ r rfl (by norm_num) (e2_at m c t _ _ (slice_at m c t 2 _ rfl _ _) (weight_at m c t 2 2 rfl _)) (fun R hR => (read_pass _ _ _ _ R _ _ _ hR).trans ((read_pass _ _ _ _ R _ _ _ hR).trans (tail_read m c t h _ 2 l _ R hR)))).trans (congrArg _ (Nat.zero_add _))) (fun r => load_read m c t 2 l _ 1 _ _ _ _ _ _ r rfl (by norm_num) (e2_at m c t _ _ (slice_at m c t 2 _ rfl _ _) (weight_at m c t 2 2 rfl _)) (fun R hR => (read_pass _ _ _ _ R _ _ _ hR).trans ((read_pass _ _ _ _ R _ _ _ hR).trans (tail_read m c t h _ 2 l _ R hR))))
      · exact hp _ _ (fun r => (load_read m c t 2 l _ 0 _ _ _ _ _ _ r rfl (by norm_num) (e2_at m c t _ _ (slice_at m c t 2 _ rfl _ _) (weight_at m c t 2 2 rfl _)) (fun R hR => (read_pass _ _ _ _ R _ _ _ hR).trans ((read_pass _ _ _ _ R _ _ _ hR).trans (tail_read m c t h _ 2 l _ R hR)))).trans (congrArg _ (Nat.zero_add _))) (fun r => load_read m c t 2 l _ 1 _ _ _ _ _ _ r rfl (by norm_num) (e2_at m c t _ _ (slice_at m c t 2 _ rfl _ _) (weight_at m c t 2 2 rfl _)) (fun R hR => (read_pass _ _ _ _ R _ _ _ hR).trans ((read_pass _ _ _ _ R _ _ _ hR).trans (tail_read m c t h _ 2 l _ R hR))))
  · intro r l
    have hp : ∀ a b : Vec Ideal S536x256 .f32, (∀ r : Fin 536, a (ix2 r l) = H m c t 3 l r.val) → (∀ r : Fin 536, b (ix2 r l) = H m c t 3 l (1 + r.val)) →
        ∀ r : Fin 536, k0_pay26 (F := Ideal) a b (ix2 r l) = run (H m c t 3 l) 2 r.val := fun a b => pair26 _ l a b
    refine (window3 _ (H m c t 3 l) l _ _ _ ?_ ?_ _ _ _ _ _ _ r).trans (du_of m c t 3 r l _ (dp3_at m c t _ _ (slice_at m c t 3 _ rfl _ _) (weight_at m c t 3 3 rfl _) r l))
    · intro r
      refine eight28 _ _ l _ _ ?_ ?_ _ _ _ _ _ _ r
      · intro r
        refine four27 _ _ l _ _ ?_ ?_ _ _ _ _ _ _ r
        · exact hp _ _ (fun r => (load_read m c t 3 l _ 0 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR))))).trans (congrArg _ (Nat.zero_add _))) (fun r => load_read m c t 3 l _ 1 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR)))))
        · exact hp _ _ (fun r => (load_read m c t 3 l _ 0 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR))))).trans (congrArg _ (Nat.zero_add _))) (fun r => load_read m c t 3 l _ 1 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR)))))
      · intro r
        refine four27 _ _ l _ _ ?_ ?_ _ _ _ _ _ _ r
        · exact hp _ _ (fun r => (load_read m c t 3 l _ 0 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR))))).trans (congrArg _ (Nat.zero_add _))) (fun r => load_read m c t 3 l _ 1 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR)))))
        · exact hp _ _ (fun r => (load_read m c t 3 l _ 0 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR))))).trans (congrArg _ (Nat.zero_add _))) (fun r => load_read m c t 3 l _ 1 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR)))))
    · intro r
      refine eight28 _ _ l _ _ ?_ ?_ _ _ _ _ _ _ r
      · intro r
        refine four27 _ _ l _ _ ?_ ?_ _ _ _ _ _ _ r
        · exact hp _ _ (fun r => (load_read m c t 3 l _ 0 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR))))).trans (congrArg _ (Nat.zero_add _))) (fun r => load_read m c t 3 l _ 1 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR)))))
        · exact hp _ _ (fun r => (load_read m c t 3 l _ 0 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR))))).trans (congrArg _ (Nat.zero_add _))) (fun r => load_read m c t 3 l _ 1 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR)))))
      · intro r
        refine four27 _ _ l _ _ ?_ ?_ _ _ _ _ _ _ r
        · exact hp _ _ (fun r => (load_read m c t 3 l _ 0 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR))))).trans (congrArg _ (Nat.zero_add _))) (fun r => load_read m c t 3 l _ 1 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR)))))
        · exact hp _ _ (fun r => (load_read m c t 3 l _ 0 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR))))).trans (congrArg _ (Nat.zero_add _))) (fun r => load_read m c t 3 l _ 1 _ _ _ _ _ _ r rfl (by norm_num) (e3_at m c t _ _ (slice_at m c t 3 _ rfl _ _) (weight_at m c t 3 3 rfl _)) (fun R hR => (read_pass _ _ _ _ R _ _ _ hR).trans ((read_pass _ _ _ _ R _ _ _ hR).trans ((read_pass _ _ _ _ R _ _ _ hR).trans (tail_read m c t h _ 3 l _ R hR)))))

/-- The tile's rows of the projection's cotangent. -/
theorem du_tile (r : Fin 512) (j : Fin 1024) : (outsAt0 m c t.val t.isLt).2.1 (ix2 r j) = gDu m c (row (tile t) r) j := by
  by_cases h : t.val % 16 = 0
  · exact du_A m c t h r j
  · exact du_B m c t h r j
end

end Cert.PoolBwd

end
-- ==== Proof.Arrays.lean ====
/- What the pooling kernel's five result arrays hold after its run. -/
module

public import proofs.«01_k».proof.Proof.Du

@[expose] public section

set_option maxRecDepth 16384

noncomputable section

namespace Cert.PoolBwd

open Idealize.ShloMosaic Idealize.ShloMosaic.TcCoe Idealize.SL.Sem Cert.Grad
open Idealize.ShloMosaic.Pipeline (Dat)
open Cert.KernelIdeal Cert.KernelIdeal.Gen

variable (m : (ℓ : Loc nD τ sig) → Buf (Elt Ideal) ℓ) (c : Dev nD)

/-- The layer's input gradient, -/
def gDx : Fin 8192 → Fin 1024 → EReal := dx (aDxo m c) (aX m c) (aS m c) (aG m c) (aWo m c) (aWi m c) (aWg m c)
/-- the gains' gradient, -/
def gDn : Fin 1024 → EReal := dn (aDxo m c) (aX m c) (aS m c) (aWo m c) (aWi m c) (aWg m c)
/-- and the scale's. -/
def gDsc : Fin 1024 → EReal := dsc (aDxo m c) (aZ m c) (aWo m c)

section
variable (t : Fin cfg0.N)

theorem dzs_tile (r : Fin 512) (j : Fin 1024) : (outsAt0 m c t.val t.isLt).1 (ix2 r j) = gDzs m c (row (tile t) r) j := by
  by_cases h : t.val % 16 = 0
  · rw [outsAt0_A m c t h]
    frame_out
    exact dzs_at m c t r j
  · rw [outsAt0_B m c t h]
    frame_out
    exact dzs_at m c t r j

/-- A tile's rows of the normalised row's cotangent. -/
theorem nt_tile (U : Vec Ideal S512x1024 .bf16) (hU : ∀ r k, U (ix2 r k) = gDu m c (row (tile t) r) k) (r : Fin 512) (j : Fin 1024) :
    nt (fun i k => U (ix2 i k)) (fun i k => (iblk m c 3 t : Vec Ideal S1024x1024 .bf16) (ix2 i k)) r j
      = dh (aDxo m c) (aS m c) (aWo m c) (aWi m c) (aWg m c) (row (tile t) r) j := by
  unfold dh nt
  exact Finset.sum_congr rfl fun k _ => congrArg₂ (· * ·) (hU r k) (blk3 m c t j k)

theorem rinv_rows (r : Fin 512) : rinv (fun i k => aX m c (row (tile t) i) k) r = rinv (aX m c) (row (tile t) r) := rfl

theorem dx_of (U : Vec Ideal S512x1024 .bf16) (hU : ∀ r k, U (ix2 r k) = gDu m c (row (tile t) r) k) (r : Fin 512) (j : Fin 1024) :
    k0_pay35 (F := Ideal) (iblk m c 0 t) U (iblk m c 3 t) (iblk m c 1 t) (iblk m c 2 t) (ix2 r j) = gDx m c (row (tile t) r) j := by
  rw [pay35_at]
  unfold gDx dx rmsDx
  simp only [nt_tile m c t U hU, blk0 m c t, blk1 m c t, blk2 m c t, rinv_rows]

/-- A tile's share of the gains' gradient. -/
def dnPart (b : Fin 16) (j : Fin 1024) : EReal :=
  ∑ r, dh (aDxo m c) (aS m c) (aWo m c) (aWi m c) (aWg m c) (row b r) j * (aX m c (row b r) j * rinv (aX m c) (row b r))

theorem dn_of (N : Vec Ideal S1x1024 .f32) (U : Vec Ideal S512x1024 .bf16) (hU : ∀ r k, U (ix2 r k) = gDu m c (row (tile t) r) k) (u : Fin 1) (j : Fin 1024) :
    k0_pay1 (F := Ideal) (k0_pay34 U (iblk m c 3 t) (iblk m c 1 t)) N (ix2 u j) = N (ix2 u j) + dnPart m c (tile t) j := by
  rw [pay34_at]
  unfold rmsDg dnPart
  simp only [nt_tile m c t U hU, blk1 m c t, rinv_rows]

/-- A tile's share of the scale's gradient. -/
def dscPart (b : Fin 16) (j : Fin 1024) : EReal := ∑ r, nt (aDxo m c) (aWo m c) (row b r) j * aZ m c (row b r) j

theorem dsc_of (N : Vec Ideal S1x1024 .f32) (u : Fin 1) (j : Fin 1024) :
    k0_pay6 (F := Ideal) (iblk m c 0 t) (iblk m c 6 t) N (iblk m c 7 t) (ix2 u j) = N (ix2 u j) + dscPart m c (tile t) j := by
  rw [pay6_at]
  unfold dscPart nt
  simp only [blk0 m c t, blk6 m c t, blk7 m c t]

theorem dx_tile (r : Fin 512) (j : Fin 1024) : (outsAt0 m c t.val t.isLt).2.2.1 (ix2 r j) = gDx m c (row (tile t) r) j := by
  by_cases h : t.val % 16 = 0
  · rw [outsAt0_A m c t h]
    frame_out
    refine dx_of m c t _ (fun i k => ?_) r j
    refine (readCov_at _ _ _ i k i k (Nat.zero_add _).symm (Nat.zero_add _).symm).trans (Eq.trans ?_ (du_tile m c t i k))
    rw [outsAt0_A m c t h]
    frame_out
  · rw [outsAt0_B m c t h]
    frame_out
    refine dx_of m c t _ (fun i k => ?_) r j
    refine (readCov_at _ _ _ i k i k (Nat.zero_add _).symm (Nat.zero_add _).symm).trans (Eq.trans ?_ (du_tile m c t i k))
    rw [outsAt0_B m c t h]
    frame_out

theorem pay3_at (u : Fin 1) (j : Fin 1024) : k0_pay3 (F := Ideal) (ix2 u j) = 0 := by pointwise [k0_pay3]
theorem pay4_at (u : Fin 1) (j : Fin 1024) : k0_pay4 (F := Ideal) (ix2 u j) = 0 := by pointwise [k0_pay4]

theorem dn_A (h : t.val % 16 = 0) (u : Fin 1) (j : Fin 1024) :
    (outsAt0 m c t.val t.isLt).2.2.2.1 (ix2 u j) = (0 : EReal) + dnPart m c (tile t) j := by
  rw [outsAt0_A m c t h]
  frame_out
  refine (dn_of m c t _ _ (fun i k => ?_) u j).trans (congrArg (· + _) (pay3_at u j))
  refine (readCov_at _ _ _ i k i k (Nat.zero_add _).symm (Nat.zero_add _).symm).trans (Eq.trans ?_ (du_tile m c t i k))
  rw [outsAt0_A m c t h]
  frame_out

theorem dn_B (h : ¬ t.val % 16 = 0) (u : Fin 1) (j : Fin 1024) :
    (outsAt0 m c t.val t.isLt).2.2.2.1 (ix2 u j)
      = ((outsAt0 m c (t.val - 1) (Nat.lt_of_le_of_lt (Nat.sub_le _ _) t.isLt)).2.2.2.1 (ix2 u j) : EReal) + dnPart m c (tile t) j := by
  rw [outsAt0_B m c t h]
  frame_out
  refine dn_of m c t _ _ (fun i k => ?_) u j
  refine (readCov_at _ _ _ i k i k (Nat.zero_add _).symm (Nat.zero_add _).symm).trans (Eq.trans ?_ (du_tile m c t i k))
  rw [outsAt0_B m c t h]
  frame_out

theorem dsc_A (h : t.val % 16 = 0) (u : Fin 1) (j : Fin 1024) :
    (outsAt0 m c t.val t.isLt).2.2.2.2.1 (ix2 u j) = (0 : EReal) + dscPart m c (tile t) j := by
  rw [outsAt0_A m c t h]
  frame_out
  exact (dsc_of m c t _ u j).trans (congrArg (· + _) (pay4_at u j))

theorem dsc_B (h : ¬ t.val % 16 = 0) (u : Fin 1) (j : Fin 1024) :
    (outsAt0 m c t.val t.isLt).2.2.2.2.1 (ix2 u j)
      = ((outsAt0 m c (t.val - 1) (Nat.lt_of_le_of_lt (Nat.sub_le _ _) t.isLt)).2.2.2.2.1 (ix2 u j) : EReal) + dscPart m c (tile t) j := by
  rw [outsAt0_B m c t h]
  frame_out
  exact dsc_of m c t _ u j
end

theorem tile_bijective : Function.Bijective tile := by
  refine (Fintype.bijective_iff_injective_and_card _).mpr ⟨fun a b h => Fin.ext ?_, ?_⟩
  · have ha : a.val < 16 := a.isLt
    have hb : b.val < 16 := b.isLt
    have : 15 - a.val = 15 - b.val := congrArg Fin.val h
    omega
  · rw [Fintype.card_fin, Fintype.card_fin]; exact N_0

/-- The tiles' shares add up to the sum over all the rows. -/
theorem sum_tiles (f : Fin 8192 → EReal) : (∑ t : Fin cfg0.N, ∑ r, f (row (tile t) r)) = ∑ R, f R := by
  rw [tile_bijective.sum_comp (fun b => ∑ r, f (row b r)), Fin.sum_univ_tiles 16 512 (by norm_num) f]
  refine Finset.sum_congr rfl fun b _ => Finset.sum_congr rfl fun r _ => congrArg f (Fin.ext ?_)
  show 512 * b.val + r.val = b.val * 512 + r.val
  rw [mul_comm]

theorem dn_last (u : Fin 1) (j : Fin 1024) : (outsAt0 m c t0_15.val t0_15.isLt).2.2.2.1 (ix2 u j) = gDn m c j := by
  refine (Pipeline.eq_sum_fin_of_reset_step_last (fun n h => ((outsAt0 m c n h).2.2.2.1 (ix2 u j) : EReal)) 16 0 (fun t => dnPart m c (tile t) j)
    (fun t h => dn_A m c t h u j) (fun t h => dn_B m c t h u j) (le_of_eq N_0) t0_15 rfl).trans ?_
  refine (zero_add _).trans ?_
  exact sum_tiles fun R => dh (aDxo m c) (aS m c) (aWo m c) (aWi m c) (aWg m c) R j * (aX m c R j * rinv (aX m c) R)

theorem dsc_last (u : Fin 1) (j : Fin 1024) : (outsAt0 m c t0_15.val t0_15.isLt).2.2.2.2.1 (ix2 u j) = gDsc m c j := by
  refine (Pipeline.eq_sum_fin_of_reset_step_last (fun n h => ((outsAt0 m c n h).2.2.2.2.1 (ix2 u j) : EReal)) 16 0 (fun t => dscPart m c (tile t) j)
    (fun t h => dsc_A m c t h u j) (fun t h => dsc_B m c t h u j) (le_of_eq N_0) t0_15 rfl).trans ?_
  refine (zero_add _).trans ?_
  exact sum_tiles fun R => nt (aDxo m c) (aWo m c) R j * aZ m c R j

/-! The result arrays. -/

theorem array8 : (dats m 0 c).arrAt 8 cfg0.N = fun j : S8192x1024.Idx => gDzs m c (j 0) (j 1) := by
  refine (dats m 0 c).arrAt_eq_of_covers 8 _ (by decide +kernel) fun t _ y => ?_
  blk_simp
  rw [after0_8]
  idx_vars y
  refine (dzs_tile m c t _ _).trans ?_
  refine congrArg₂ (gDzs m c) (Fin.ext ?_) (Fin.ext ?_)
  · blk_simp [idx t]
    unfold row tile
    dsimp only [Matrix.cons_val_zero]
    omega
  · blk_simp [idx t]

theorem array9 : (dats m 0 c).arrAt 9 cfg0.N = fun j : S8192x1024.Idx => gDu m c (j 0) (j 1) := by
  refine (dats m 0 c).arrAt_eq_of_covers 9 _ (by decide +kernel) fun t _ y => ?_
  blk_simp
  rw [after0_9]
  idx_vars y
  refine (du_tile m c t _ _).trans ?_
  refine congrArg₂ (gDu m c) (Fin.ext ?_) (Fin.ext ?_)
  · blk_simp [idx t]
    unfold row tile
    dsimp only [Matrix.cons_val_zero]
    omega
  · blk_simp [idx t]

theorem array10 : (dats m 0 c).arrAt 10 cfg0.N = fun j : S8192x1024.Idx => gDx m c (j 0) (j 1) := by
  refine (dats m 0 c).arrAt_eq_of_covers 10 _ (by decide +kernel) fun t _ y => ?_
  blk_simp
  rw [after0_10]
  idx_vars y
  refine (dx_tile m c t _ _).trans ?_
  refine congrArg₂ (gDx m c) (Fin.ext ?_) (Fin.ext ?_)
  · blk_simp [idx t]
    unfold row tile
    dsimp only [Matrix.cons_val_zero]
    omega
  · blk_simp [idx t]

theorem array11 : (dats m 0 c).arrAt 11 cfg0.N = fun j : S1x1024.Idx => gDn m c (j 1) := by
  refine (dats m 0 c).arrAt_eq_of_after_last 11 t0_15 (by decide +kernel) _ fun j => ?_
  blk_simp
  rw [after0_11]
  idx_vars j
  exact dn_last m c _ _

theorem array12 : (dats m 0 c).arrAt 12 cfg0.N = fun j : S1x1024.Idx => gDsc m c (j 1) := by
  refine (dats m 0 c).arrAt_eq_of_after_last 12 t0_15 (by decide +kernel) _ fun j => ?_
  blk_simp
  rw [after0_12]
  idx_vars j
  exact dsc_last m c _ _

end Cert.PoolBwd

end
-- ==== Proof.Finite.lean ====
/- What the precondition says: every entry of every argument is a real number. -/
module

public import Idealize.ShloMosaic.Lib.Claim
public import Idealize.ShloMosaic.Lib.ReduceAll
public import Idealize.ShloMosaic.Lib.Affine
public import proofs.«01_k».proof.Proof.Gen.Pre_finite_args
public import proofs.«01_k».proof.Proof.Reals

@[expose] public section

set_option maxRecDepth 16384

noncomputable section

namespace Cert.Grad

open Idealize.ShloMosaic

theorem bits_inf : Ideal.ofBits .f32 0x7F800000#32 = ⊤ := by simp [Ideal.ofBits, Ideal.ieee]

/-- An array whose absolute values are all below infinity holds reals. -/
theorem real_of_all {s t u : Shape} {axes : List (Fin s.rank)} [Subsingleton t.Idx] (x : FVec Ideal s .f32) (inf : FVec Ideal s .f32) (hinf : ∀ i, inf i = Ideal.ofBits .f32 0x7F800000#32)
    (init : IVec u 1) (hr : s.ReducesTo axes t) (hu : 0 < u.numel) (j : t.Idx)
    (h : Host.reduce IntOp.andi (cmpf .olt (Host.absf x) inf) init hr hu j = 1#1) (i : s.Idx) : IsReal (x i : EReal) := by
  have e := Host.reduce_andi_all _ _ _ _ _ h i
  have e' : Ideal.cmp .olt (max (x i) (-(x i)) : EReal) (inf i) = 1#1 := e
  rw [hinf, bits_inf] at e'
  refine IsReal.of_abs_lt ?_
  unfold Ideal.cmp at e'
  by_contra hn
  simp [hn] at e'

instance : Subsingleton Cert.Pre_finite_args.S_.Idx := ⟨fun a b => funext fun i => i.elim0⟩

/-- The precondition, read. -/
theorem finite_args (a0 a1 : FVec Ideal Cert.Pre_finite_args.S8192x1024 .f32) (a2 : FVec Ideal Cert.Pre_finite_args.S1x1024 .f32) (a3 : FVec Ideal Cert.Pre_finite_args.S1024x1024 .f32)
    (a4 : FVec Ideal Cert.Pre_finite_args.S4x256x256 .f32) (a5 : FVec Ideal Cert.Pre_finite_args.S1x1024 .f32) (a6 : FVec Ideal Cert.Pre_finite_args.S1024x1024 .f32)
    (h : Cert.Pre_finite_args.fn (F := Ideal) a0 a1 a2 a3 a4 a5 a6 = fun _ => 1#1) :
    (∀ i, IsReal (a0 i : EReal)) ∧ (∀ i, IsReal (a1 i : EReal)) ∧ (∀ i, IsReal (a2 i : EReal)) ∧ (∀ i, IsReal (a3 i : EReal)) ∧ (∀ i, IsReal (a4 i : EReal))
      ∧ (∀ i, IsReal (a5 i : EReal)) ∧ (∀ i, IsReal (a6 i : EReal)) := by
  have h' := congrFun h (fun i => i.elim0)
  unfold Cert.Pre_finite_args.fn Cert.Pre_finite_args.fn_part1 at h'
  dsimp only [andi] at h'
  simp only [IntOp.andi_eq_one] at h'
  obtain ⟨⟨⟨⟨⟨⟨h0, h1⟩, h2⟩, h3⟩, h4⟩, h5⟩, h6⟩ := h'
  exact ⟨real_of_all a0 _ (fun _ => rfl) _ _ _ _ h0, real_of_all a1 _ (fun _ => rfl) _ _ _ _ h1, real_of_all a2 _ (fun _ => rfl) _ _ _ _ h2, real_of_all a3 _ (fun _ => rfl) _ _ _ _ h3,
    real_of_all a4 _ (fun _ => rfl) _ _ _ _ h4, real_of_all a5 _ (fun _ => rfl) _ _ _ _ h5, real_of_all a6 _ (fun _ => rfl) _ _ _ _ h6⟩

end Cert.Grad

end
-- ==== Proof.Ref.lean ====
/- The reference's intermediate arrays read at an index, up to the projection's cotangent. -/
module

public import Idealize.ShloMosaic.Lib.Pointwise
public import Idealize.ShloMosaic.Lib.WordArith
public import Idealize.ShloMosaic.Lib.PlanTiles.Rows
public import proofs.«01_k».proof.Proof.Gen.ReferenceIdeal.Run
public import Idealize.ShloMosaic.Lib.KernelVsHost
public import proofs.«01_k».proof.Proof.Spec
public import proofs.«01_k».proof.Proof.Reals
public import proofs.«01_k».proof.Proof.Block

@[expose] public section

set_option maxRecDepth 16384

noncomputable section

namespace Cert.PoolRef

open Idealize.ShloMosaic Idealize.ShloMosaic.TcCoe Idealize.SL.Sem Cert.Grad
open Cert.ReferenceIdeal Cert.ReferenceIdeal.Gen Cert.ReferenceIdeal.Value

variable (V0 : Valuation τ sig (Elt Ideal))

/-- The reference's arguments at an index. -/
def rDxo (i : Fin 8192) (k : Fin 1024) : EReal := (V0 (Proc.devRef .tc main_arg0) : S8192x1024.Idx → EReal) (ix2 i k)
def rX (i : Fin 8192) (k : Fin 1024) : EReal := (V0 (Proc.devRef .tc main_arg1) : S8192x1024.Idx → EReal) (ix2 i k)
def rG (k : Fin 1024) : EReal := (V0 (Proc.devRef .tc main_arg2) : S1x1024.Idx → EReal) (ix2 0 k)
def rWi (i k : Fin 1024) : EReal := (V0 (Proc.devRef .tc main_arg3) : S1024x1024.Idx → EReal) (ix2 i k)
def rWg (q : Fin 4) (i k : Fin 256) : EReal := (V0 (Proc.devRef .tc main_arg4) : S4x256x256.Idx → EReal) (ix3 q i k)
def rS (k : Fin 1024) : EReal := (V0 (Proc.devRef .tc main_arg5) : S1x1024.Idx → EReal) (ix2 0 k)
def rWo (i k : Fin 1024) : EReal := (V0 (Proc.devRef .tc main_arg6) : S1024x1024.Idx → EReal) (ix2 i k)

theorem v104_at (R : Fin 8192) (j : Fin 1024) : (res_main_v104 V0 : FVec Ideal S8192x1024 .f32) (ix2 R j) = nt (rDxo V0) (rWo V0) R j := by
  unfold nt rDxo rWo
  pointwise [res_main_v104]

theorem v109_at (R : Fin 8192) (j : Fin 1024) : (res_main_v109 V0 : FVec Ideal S8192x1024 .f32) (ix2 R j) = dzs (rDxo V0) (rS V0) (rWo V0) R j := by
  unfold dzs nt rDxo rWo rS
  pointwise [res_main_v109, res_main_v104, res_main_v100]

/-- Columns placed at `o` among 1024, read inside. -/
theorem cols_in (x : S8192x256.Idx → EReal) (z : S_.Idx → EReal) (o h : ℕ) (hp : S8192x256.Pads ![0, o] ![0, h] ![0, 0] S8192x1024) (hu : 0 < S_.numel)
    (q : Fin 4) (ho : o = 256 * q.val) (R : Fin 8192) (l : Fin 256) : pad S8192x1024 ![0, o] ![0, h] ![0, 0] x z hp hu (ix2 R (lane q l)) = x (ix2 R l) := by
  refine pad_apply_of_inside _ _ _ _ _ _ _ _ _ fun a => ?_
  subst ho
  fin_cases a
  · show R.val = 0 + R.val * (0 + 1); omega
  · show 256 * q.val + l.val = 256 * q.val + l.val * (0 + 1); omega

/-- The same outside: the padding, which is zero. -/
theorem cols_out (x : S8192x256.Idx → EReal) (o h : ℕ) (hp : S8192x256.Pads ![0, o] ![0, h] ![0, 0] S8192x1024) (hu : 0 < S_.numel)
    (q p : Fin 4) (ho : o = 256 * p.val) (hqp : q ≠ p) (R : Fin 8192) (l : Fin 256) :
    pad S8192x1024 ![0, o] ![0, h] ![0, 0] x (constant (F := Ideal) S_ .f32 0x00000000#32) hp hu (ix2 R (lane q l)) = (0 : EReal) := by
  refine (pad_apply_of_not_inside _ _ _ _ _ _ _ _ (1 : Fin 2) ?_).trans (Ideal.ofBits_zero .f32)
  subst ho
  rintro ⟨h1, -, h2⟩
  have h1' : 256 * p.val ≤ 256 * q.val + l.val := h1
  have h2' : (256 * q.val + l.val - 256 * p.val) / (0 + 1) < 256 := h2
  exact hqp (Fin.ext (by omega))

/-- A group's part of the projection's cotangent: the running sum from the end, less the token's own. -/
theorem group_at (w n : ℕ) (hw : w + n = 8192) (P E : Fin 8192 → Fin 256 → EReal) (x e ne : FVec Ideal S8192x256 .f32)
    (hx : ∀ R l, x (ix2 R l) = P R l) (he : ∀ R l, e (ix2 R l) = E R l) (hne : ∀ R l, ne (ix2 R l) = -E R l) (hE : ∀ R l, IsReal (E R l))
    (hs : S8192x256.Slices ![w, 0] ⟨2, ![n, 256]⟩) (hp : Shape.Pads ⟨2, ![n, 256]⟩ ![0, 0] ![w, 0] ![0, 0] S8192x256)
    (hr : S8192x256.ReduceWindows ![8192, 1] ![1, 1] ![0, 0] ![8191, 0] S8192x256) (hu : 0 < S_.numel) (hb : S_.BroadcastsInDim S_ (![] : Fin 0 → Fin S_.rank)) (R : Fin 8192) (l : Fin 256) :
    (addf (Host.negf x) (Host.reduceWindowAdd ![8192, 1] ![1, 1] ![0, 0] ![8191, 0]
        (addf e (pad S8192x256 ![0, 0] ![w, 0] ![0, 0] (extractStridedSlice ⟨2, ![n, 256]⟩ ![w, 0] ne hs) (constant S_ .f32 0x00000000#32) hp hu))
        (broadcastInDim S_ ![] hb (constant S_ .f32 0x00000000#32)) hr hu) : FVec Ideal S8192x256 .f32) (ix2 R l)
      = ∑ i ∈ Finset.range w, ext (fun R' => E R' l) (R.val + i) - P R l := by
  obtain ⟨y, hy⟩ : ∃ y : FVec Ideal S8192x256 .f32, y = addf e (pad S8192x256 ![0, 0] ![w, 0] ![0, 0] (extractStridedSlice ⟨2, ![n, 256]⟩ ![w, 0] ne hs)
    (constant S_ .f32 0x00000000#32) hp hu) := ⟨_, rfl⟩
  rw [← hy]
  refine (addf_apply _ _ _).trans ?_
  refine (congrArg₂ (fun a b : EReal => a + b) (congrArg (fun a : EReal => -a) (hx R l)) ((reverse_cumsum rfl y _ (fun _ => Ideal.ofBits_zero .f32) hr hu R l).trans
    (window_of_tail (fun R' => E R' l) (fun R' => y (ix2 R' l)) (fun R' => hE R' l) w (fun R' => ?_) R.val))).trans ?_
  · rw [hy]
    refine (addf_apply _ _ _).trans (congrArg₂ (fun a b : EReal => a + b) (he R' l) ?_)
    split
    · rename_i h
      refine (pad_apply_of_inside _ _ _ _ _ _ _ _ (ix2 (⟨R'.val, by omega⟩ : Fin n) l) fun a => ?_).trans ?_
      · fin_cases a
        · show R'.val = 0 + R'.val * (0 + 1); omega
        · show l.val = 0 + l.val * (0 + 1); omega
      · refine Eq.trans (congrArg ne (funext fun a => ?_)) (hne ⟨R'.val + w, h⟩ l)
        fin_cases a
        · exact Fin.ext (Nat.add_comm _ _)
        · exact Fin.ext (Nat.zero_add _)
    · rename_i h
      refine (pad_apply_of_not_inside _ _ _ _ _ _ _ _ (0 : Fin 2) ?_).trans (Ideal.ofBits_zero .f32)
      rintro ⟨-, -, h2⟩
      have h2' : (R'.val - 0) / (0 + 1) < n := h2
      omega
  · show -P R l + _ = _
    rw [add_comm, ← sub_eq_add_neg]

/-- Two of the arrays at an index. -/
def a109 (R : Fin 8192) (k : Fin 1024) : EReal := (res_main_v109 V0 : FVec Ideal S8192x1024 .f32) (ix2 R k)
def a166 (R : Fin 8192) (k : Fin 1024) : EReal := (res_main_v166 V0 : FVec Ideal S8192x1024 .f32) (ix2 R k)

/-- A count is a positive real. -/
theorem cnt_ne (w R : ℕ) (hw : 0 < w) : ((min (R + 1) w : ℕ) : ℝ) ≠ 0 := by
  have : 0 < min (R + 1) w := by omega
  positivity

/-! Group 0. -/

theorem v154_at (R : Fin 8192) (l : Fin 256) : (res_main_v154 V0 : FVec Ideal S8192x256 .f32) (ix2 R l) = dp (rDxo V0) (rS V0) (rWo V0) (rWg V0) R 0 l := by
  refine Eq.trans (b := ∑ k : Fin 256, a109 V0 R (lane 0 k) * rWg V0 0 l k) ?_
    (Finset.sum_congr rfl fun k _ => congrArg (fun a : EReal => a * rWg V0 0 l k) (v109_at V0 R (lane 0 k)))
  unfold rWg lane a109
  pointwise [res_main_v154, res_main_v36]

theorem v157_at (R : Fin 8192) (l : Fin 256) : (res_main_v157 V0 : FVec Ideal S8192x256 .f32) (ix2 R l) = ep (rDxo V0) (rS V0) (rWo V0) (rWg V0) R 0 l := by
  unfold ep
  rw [← v154_at]
  refine Eq.trans ?_ ((congrArg (fun c : EReal => Ideal.div ((res_main_v154 V0 : FVec Ideal S8192x256 .f32) (ix2 R l)) c) (Cert.PoolBwd.count_at R.val 2 R.isLt (by norm_num))).trans
    (Ideal.mul_one_div (EReal.coe_ne_zero.mpr (cnt_ne _ _ (by decide)))).symm)
  pointwise [res_main_v157, res_main_v30]

theorem v158_at (R : Fin 8192) (l : Fin 256) : (res_main_v158 V0 : FVec Ideal S8192x256 .f32) (ix2 R l) = -ep (rDxo V0) (rS V0) (rWo V0) (rWg V0) R 0 l := by
  rw [← v157_at]
  pointwise [res_main_v158]

/-! Group 1. -/

theorem v141_at (R : Fin 8192) (l : Fin 256) : (res_main_v141 V0 : FVec Ideal S8192x256 .f32) (ix2 R l) = dp (rDxo V0) (rS V0) (rWo V0) (rWg V0) R 1 l := by
  refine Eq.trans (b := ∑ k : Fin 256, a109 V0 R (lane 1 k) * rWg V0 1 l k) ?_
    (Finset.sum_congr rfl fun k _ => congrArg (fun a : EReal => a * rWg V0 1 l k) (v109_at V0 R (lane 1 k)))
  unfold rWg lane a109
  pointwise [res_main_v141, res_main_v56]

theorem v144_at (R : Fin 8192) (l : Fin 256) : (res_main_v144 V0 : FVec Ideal S8192x256 .f32) (ix2 R l) = ep (rDxo V0) (rS V0) (rWo V0) (rWg V0) R 1 l := by
  unfold ep
  rw [← v141_at]
  refine Eq.trans ?_ ((congrArg (fun c : EReal => Ideal.div ((res_main_v141 V0 : FVec Ideal S8192x256 .f32) (ix2 R l)) c) (Cert.PoolBwd.count_at R.val 4 R.isLt (by norm_num))).trans
    (Ideal.mul_one_div (EReal.coe_ne_zero.mpr (cnt_ne _ _ (by decide)))).symm)
  pointwise [res_main_v144, res_main_v50]

theorem v145_at (R : Fin 8192) (l : Fin 256) : (res_main_v145 V0 : FVec Ideal S8192x256 .f32) (ix2 R l) = -ep (rDxo V0) (rS V0) (rWo V0) (rWg V0) R 1 l := by
  rw [← v144_at]
  pointwise [res_main_v145]

/-! Group 2. -/

theorem v128_at (R : Fin 8192) (l : Fin 256) : (res_main_v128 V0 : FVec Ideal S8192x256 .f32) (ix2 R l) = dp (rDxo V0) (rS V0) (rWo V0) (rWg V0) R 2 l := by
  refine Eq.trans (b := ∑ k : Fin 256, a109 V0 R (lane 2 k) * rWg V0 2 l k) ?_
    (Finset.sum_congr rfl fun k _ => congrArg (fun a : EReal => a * rWg V0 2 l k) (v109_at V0 R (lane 2 k)))
  unfold rWg lane a109
  pointwise [res_main_v128, res_main_v76]

theorem v131_at (R : Fin 8192) (l : Fin 256) : (res_main_v131 V0 : FVec Ideal S8192x256 .f32) (ix2 R l) = ep (rDxo V0) (rS V0) (rWo V0) (rWg V0) R 2 l := by
  unfold ep
  rw [← v128_at]
  refine Eq.trans ?_ ((congrArg (fun c : EReal => Ideal.div ((res_main_v128 V0 : FVec Ideal S8192x256 .f32) (ix2 R l)) c) (Cert.PoolBwd.count_at R.val 8 R.isLt (by norm_num))).trans
    (Ideal.mul_one_div (EReal.coe_ne_zero.mpr (cnt_ne _ _ (by decide)))).symm)
  pointwise [res_main_v131, res_main_v70]

theorem v132_at (R : Fin 8192) (l : Fin 256) : (res_main_v132 V0 : FVec Ideal S8192x256 .f32) (ix2 R l) = -ep (rDxo V0) (rS V0) (rWo V0) (rWg V0) R 2 l := by
  rw [← v131_at]
  pointwise [res_main_v132]

/-! Group 3. -/

theorem v116_at (R : Fin 8192) (l : Fin 256) : (res_main_v116 V0 : FVec Ideal S8192x256 .f32) (ix2 R l) = dp (rDxo V0) (rS V0) (rWo V0) (rWg V0) R 3 l := by
  refine Eq.trans (b := ∑ k : Fin 256, a109 V0 R (lane 3 k) * rWg V0 3 l k) ?_
    (Finset.sum_congr rfl fun k _ => congrArg (fun a : EReal => a * rWg V0 3 l k) (v109_at V0 R (lane 3 k)))
  unfold rWg lane a109
  pointwise [res_main_v116, res_main_v96]

theorem v119_at (R : Fin 8192) (l : Fin 256) : (res_main_v119 V0 : FVec Ideal S8192x256 .f32) (ix2 R l) = ep (rDxo V0) (rS V0) (rWo V0) (rWg V0) R 3 l := by
  unfold ep
  rw [← v116_at]
  refine Eq.trans ?_ ((congrArg (fun c : EReal => Ideal.div ((res_main_v116 V0 : FVec Ideal S8192x256 .f32) (ix2 R l)) c) (Cert.PoolBwd.count_at R.val 16 R.isLt (by norm_num))).trans
    (Ideal.mul_one_div (EReal.coe_ne_zero.mpr (cnt_ne _ _ (by decide)))).symm)
  pointwise [res_main_v119, res_main_v90]

theorem v120_at (R : Fin 8192) (l : Fin 256) : (res_main_v120 V0 : FVec Ideal S8192x256 .f32) (ix2 R l) = -ep (rDxo V0) (rS V0) (rWo V0) (rWg V0) R 3 l := by
  rw [← v119_at]
  pointwise [res_main_v120]

/-! The four groups together. -/
section
variable (hE : ∀ R q l, IsReal (ep (rDxo V0) (rS V0) (rWo V0) (rWg V0) R q l))
include hE

theorem v166_g0 (R : Fin 8192) (l : Fin 256) : (res_main_v166 V0 : FVec Ideal S8192x1024 .f32) (ix2 R (lane 0 l))
    = ∑ i ∈ Finset.range 2, ext (fun R' => ep (rDxo V0) (rS V0) (rWo V0) (rWg V0) R' 0 l) (R.val + i) - dp (rDxo V0) (rS V0) (rWo V0) (rWg V0) R 0 l := by
  unfold res_main_v166
  refine (addf_apply _ _ _).trans ((congrArg₂ (fun a b : EReal => a + b) ((addf_apply _ _ _).trans (congrArg₂ (fun a b : EReal => a + b) ((addf_apply _ _ _).trans
    (congrArg₂ (fun a b : EReal => a + b)
      (cols_out _ _ _ _ _ 0 3 rfl (by decide) R l)
      (cols_out _ _ _ _ _ 0 2 rfl (by decide) R l)))
      (cols_out _ _ _ _ _ 0 1 rfl (by decide) R l)))
      (cols_in _ _ _ _ _ _ 0 rfl R l)).trans ?_)
  simp only [zero_add, add_zero]
  exact group_at 2 8190 (by norm_num) (fun R l => dp (rDxo V0) (rS V0) (rWo V0) (rWg V0) R 0 l) (fun R l => ep (rDxo V0) (rS V0) (rWo V0) (rWg V0) R 0 l) _ _ _
    (v154_at V0) (v157_at V0) (v158_at V0) (fun R l => hE R 0 l) _ _ _ _ _ R l

theorem v166_g1 (R : Fin 8192) (l : Fin 256) : (res_main_v166 V0 : FVec Ideal S8192x1024 .f32) (ix2 R (lane 1 l))
    = ∑ i ∈ Finset.range 4, ext (fun R' => ep (rDxo V0) (rS V0) (rWo V0) (rWg V0) R' 1 l) (R.val + i) - dp (rDxo V0) (rS V0) (rWo V0) (rWg V0) R 1 l := by
  unfold res_main_v166
  refine (addf_apply _ _ _).trans ((congrArg₂ (fun a b : EReal => a + b) ((addf_apply _ _ _).trans (congrArg₂ (fun a b : EReal => a + b) ((addf_apply _ _ _).trans
    (congrArg₂ (fun a b : EReal => a + b)
      (cols_out _ _ _ _ _ 1 3 rfl (by decide) R l)
      (cols_out _ _ _ _ _ 1 2 rfl (by decide) R l)))
      (cols_in _ _ _ _ _ _ 1 rfl R l)))
      (cols_out _ _ _ _ _ 1 0 rfl (by decide) R l)).trans ?_)
  simp only [zero_add, add_zero]
  exact group_at 4 8188 (by norm_num) (fun R l => dp (rDxo V0) (rS V0) (rWo V0) (rWg V0) R 1 l) (fun R l => ep (rDxo V0) (rS V0) (rWo V0) (rWg V0) R 1 l) _ _ _
    (v141_at V0) (v144_at V0) (v145_at V0) (fun R l => hE R 1 l) _ _ _ _ _ R l

theorem v166_g2 (R : Fin 8192) (l : Fin 256) : (res_main_v166 V0 : FVec Ideal S8192x1024 .f32) (ix2 R (lane 2 l))
    = ∑ i ∈ Finset.range 8, ext (fun R' => ep (rDxo V0) (rS V0) (rWo V0) (rWg V0) R' 2 l) (R.val + i) - dp (rDxo V0) (rS V0) (rWo V0) (rWg V0) R 2 l := by
  unfold res_main_v166
  refine (addf_apply _ _ _).trans ((congrArg₂ (fun a b : EReal => a + b) ((addf_apply _ _ _).trans (congrArg₂ (fun a b : EReal => a + b) ((addf_apply _ _ _).trans
    (congrArg₂ (fun a b : EReal => a + b)
      (cols_out _ _ _ _ _ 2 3 rfl (by decide) R l)
      (cols_in _ _ _ _ _ _ 2 rfl R l)))
      (cols_out _ _ _ _ _ 2 1 rfl (by decide) R l)))
      (cols_out _ _ _ _ _ 2 0 rfl (by decide) R l)).trans ?_)
  simp only [zero_add, add_zero]
  exact group_at 8 8184 (by norm_num) (fun R l => dp (rDxo V0) (rS V0) (rWo V0) (rWg V0) R 2 l) (fun R l => ep (rDxo V0) (rS V0) (rWo V0) (rWg V0) R 2 l) _ _ _
    (v128_at V0) (v131_at V0) (v132_at V0) (fun R l => hE R 2 l) _ _ _ _ _ R l

theorem v166_g3 (R : Fin 8192) (l : Fin 256) : (res_main_v166 V0 : FVec Ideal S8192x1024 .f32) (ix2 R (lane 3 l))
    = ∑ i ∈ Finset.range 16, ext (fun R' => ep (rDxo V0) (rS V0) (rWo V0) (rWg V0) R' 3 l) (R.val + i) - dp (rDxo V0) (rS V0) (rWo V0) (rWg V0) R 3 l := by
  unfold res_main_v166
  refine (addf_apply _ _ _).trans ((congrArg₂ (fun a b : EReal => a + b) ((addf_apply _ _ _).trans (congrArg₂ (fun a b : EReal => a + b) ((addf_apply _ _ _).trans
    (congrArg₂ (fun a b : EReal => a + b)
      (cols_in _ _ _ _ _ _ 3 rfl R l)
      (cols_out _ _ _ _ _ 3 2 rfl (by decide) R l)))
      (cols_out _ _ _ _ _ 3 1 rfl (by decide) R l)))
      (cols_out _ _ _ _ _ 3 0 rfl (by decide) R l)).trans ?_)
  simp only [zero_add, add_zero]
  exact group_at 16 8176 (by norm_num) (fun R l => dp (rDxo V0) (rS V0) (rWo V0) (rWg V0) R 3 l) (fun R l => ep (rDxo V0) (rS V0) (rWo V0) (rWg V0) R 3 l) _ _ _
    (v116_at V0) (v119_at V0) (v120_at V0) (fun R l => hE R 3 l) _ _ _ _ _ R l

theorem v166_at (R : Fin 8192) (j : Fin 1024) : (res_main_v166 V0 : FVec Ideal S8192x1024 .f32) (ix2 R j) = du (rDxo V0) (rS V0) (rWo V0) (rWg V0) R j := by
  obtain ⟨q, l, rfl⟩ : ∃ q l, j = lane q l := ⟨grp j, lin j, (lane_grp_lin j).symm⟩
  unfold du
  rw [grp_lane, lin_lane]
  fin_cases q
  · exact v166_g0 V0 hE R l
  · exact v166_g1 V0 hE R l
  · exact v166_g2 V0 hE R l
  · exact v166_g3 V0 hE R l

theorem v167_at (R : Fin 8192) (j : Fin 1024) : (res_main_v167 V0 : FVec Ideal S8192x1024 .f32) (ix2 R j) = dh (rDxo V0) (rS V0) (rWo V0) (rWi V0) (rWg V0) R j := by
  unfold dh
  refine Eq.trans (b := ∑ k : Fin 1024, a166 V0 R k * rWi V0 j k) ?_
    (Finset.sum_congr rfl fun k _ => congrArg (fun a : EReal => a * rWi V0 j k) (v166_at V0 hE R k))
  unfold rWi a166
  pointwise [res_main_v167]

end

end Cert.PoolRef

end
-- ==== Proof.RefNorm.lean ====
/- The reference's result arrays read at an index: the normalisation's gradients. -/
module

public import proofs.«01_k».proof.Proof.Ref

@[expose] public section

set_option maxRecDepth 16384

noncomputable section

namespace Cert.Grad

open Idealize.ShloMosaic

theorem bits_1024 : Ideal.ofBits FTy.f32 1149239296#32 = ((1024 : ℝ) : EReal) := by
  simp [Ideal.ofBits, Ideal.ieee]
  rw [← EReal.coe_mul]
  norm_num
theorem bits_eps : ∃ e : ℝ, 0 < e ∧ Ideal.ofBits FTy.f32 897988541#32 = (e : EReal) := by
  refine ⟨_, ?_, by simp [Ideal.ofBits, Ideal.ieee]; rfl⟩
  positivity
theorem bits_half : Ideal.ofBits FTy.f32 0xBF000000#32 = (((-(1 / 2) : ℝ)) : EReal) := by
  simp [Ideal.ofBits, Ideal.ieee]
  rw [← EReal.coe_mul]
  norm_num

/-- A row's mean square plus the small constant is a positive real. -/
theorem mean_square {n : ℕ} (X : Fin n → EReal) (hX : ∀ k, IsReal (X k)) :
    ∃ v : ℝ, 0 < v ∧ Ideal.div (∑ k, X k * X k) (Ideal.ofBits FTy.f32 1149239296#32) + Ideal.ofBits FTy.f32 897988541#32 = (v : EReal) := by
  choose x hx using hX
  obtain ⟨e, he, hee⟩ := bits_eps
  refine ⟨(∑ k, x k * x k) * (1 / 1024) + e, ?_, ?_⟩
  · have : 0 ≤ ∑ k, x k * x k := Finset.sum_nonneg fun k _ => mul_self_nonneg _
    positivity
  · rw [bits_1024, hee, Ideal.div_coe (by norm_num), EReal.coe_add, EReal.coe_mul, coe_sum]
    simp only [hx, EReal.coe_mul]

section
variable {T : ℕ} {dxo x z : Fin T → Fin 1024 → EReal} {s g : Fin 1024 → EReal} {wo wi : Fin 1024 → Fin 1024 → EReal}
  {wg : Fin 4 → Fin 256 → Fin 256 → EReal} (hdxo : ∀ i k, IsReal (dxo i k)) (hs : ∀ k, IsReal (s k)) (hwo : ∀ i k, IsReal (wo i k))
  (hwg : ∀ q i k, IsReal (wg q i k)) (hwi : ∀ i k, IsReal (wi i k))
include hdxo hs hwo hwg

theorem dp_real (R : Fin T) (q : Fin 4) (l : Fin 256) : IsReal (dp dxo s wo wg R q l) :=
  .sum _ fun k => .mul (.mul (.sum _ fun x => .mul (hdxo _ _) (hwo _ _)) (hs _)) (hwg _ _ _)

theorem ep_real (R : Fin T) (q : Fin 4) (l : Fin 256) : IsReal (ep dxo s wo wg R q l) :=
  .mul (dp_real hdxo hs hwo hwg R q l) (.div .one (by
    have : 0 < min (R.val + 1) (width q) := by have : 0 < width q := Nat.pow_pos (by norm_num); omega
    positivity))

theorem du_real (R : Fin T) (j : Fin 1024) : IsReal (du dxo s wo wg R j) :=
  .sub (.sum _ fun i => by
    unfold ext
    split
    · exact ep_real hdxo hs hwo hwg _ _ _
    · exact .zero) (dp_real hdxo hs hwo hwg _ _ _)

include hwi
theorem dh_real (R : Fin T) (j : Fin 1024) : IsReal (dh dxo s wo wi wg R j) := by
  unfold dh nt
  exact .sum _ fun k => .mul (du_real hdxo hs hwo hwg _ _) (hwi _ _)

end

end Cert.Grad

namespace Cert.PoolRef

open Idealize.ShloMosaic Idealize.ShloMosaic.TcCoe Idealize.SL.Sem Cert.Grad
open Cert.ReferenceIdeal Cert.ReferenceIdeal.Gen Cert.ReferenceIdeal.Value

variable (V0 : Valuation τ sig (Elt Ideal))

/-- A row's mean square plus the small constant. -/
def rV (R : Fin 8192) : EReal := Ideal.div (∑ k, rX V0 R k * rX V0 R k) (Ideal.ofBits FTy.f32 1149239296#32) + Ideal.ofBits FTy.f32 897988541#32

theorem v7_at (R : Fin 8192) : (res_main_v7 V0 : FVec Ideal S8192x1 .f32) (ix2 R 0) = rV V0 R := by
  unfold rV rX
  pointwise [res_main_v7]

theorem v8_at (R : Fin 8192) : (res_main_v8 V0 : FVec Ideal S8192x1 .f32) (ix2 R 0) = Ideal.rsqrt (rV V0 R) := by
  rw [← v7_at]
  pointwise [res_main_v8]

theorem v172_at (R : Fin 8192) (j : Fin 1024) : (res_main_v172 V0 : FVec Ideal S8192x1024 .f32) (ix2 R j)
    = (show EReal from (res_main_v167 V0 : FVec Ideal S8192x1024 .f32) (ix2 R j)) * rG V0 j := by
  unfold rG
  pointwise [res_main_v172, res_main_v14]

theorem v183_at (R : Fin 8192) (j : Fin 1024) : (res_main_v183 V0 : FVec Ideal S8192x1024 .f32) (ix2 R j)
    = Ideal.div ((∑ k, rX V0 R k * (show EReal from (res_main_v172 V0 : FVec Ideal S8192x1024 .f32) (ix2 R k)))
      * (Ideal.ofBits FTy.f32 0xBF000000#32 * Ideal.div ((res_main_v8 V0 : FVec Ideal S8192x1 .f32) (ix2 R 0)) ((res_main_v7 V0 : FVec Ideal S8192x1 .f32) (ix2 R 0))))
      (Ideal.ofBits FTy.f32 1149239296#32) := by
  unfold rX
  pointwise [res_main_v183]
  exact Fin.sum_univ_one (M := EReal) _

/-- The reference's gradient in the layer's input. -/
def xGrad : FVec Ideal S8192x1024 .f32 :=
  addf (V0 (Proc.devRef .tc main_arg0)) (addf (addf (mulf (res_main_v172 V0) (broadcastInDim S8192x1024 ![0, 1] bcast_S8192x1_S8192x1024_0_1 (res_main_v8 V0)))
    (mulf (V0 (Proc.devRef .tc main_arg1)) (res_main_v183 V0))) (mulf (res_main_v183 V0) (V0 (Proc.devRef .tc main_arg1))))

/-- Its gradient in the gains, -/
def gGrad : FVec Ideal S1x1024 .f32 :=
  broadcastInDim S1x1024 ![1] bcast_S1024_S1x1024_1 (Host.reduceAdd (shapeCast _ (Host.reduceAdd (mulf (res_main_v13 V0) (res_main_v167 V0)) (constant S_ .f32 0x00000000#32) reducesTo_S8192x1024_S1024_d0 h_S_) shapeCasts_S1024_S1x1024) (constant S_ .f32 0x00000000#32) reducesTo_S1x1024_S1024_d0 h_S_)

/-- and in the scale. -/
def sGrad : FVec Ideal S1x1024 .f32 :=
  broadcastInDim S1x1024 ![1] bcast_S1024_S1x1024_1 (Host.reduceAdd (shapeCast _ (Host.reduceAdd (mulf (res_main_v98 V0) (res_main_v104 V0)) (constant S_ .f32 0x00000000#32) reducesTo_S8192x1024_S1024_d0 h_S_) shapeCasts_S1024_S1x1024) (constant S_ .f32 0x00000000#32) reducesTo_S1x1024_S1024_d0 h_S_)

/-- The forward pass' product before its scale. -/
def rZ (R : Fin 8192) (j : Fin 1024) : EReal := (res_main_v98 V0 : FVec Ideal S8192x1024 .f32) (ix2 R j)

theorem sGrad_at (j : Fin 1024) : sGrad V0 (ix2 0 j) = dsc (rDxo V0) (rZ V0) (rWo V0) j := by
  unfold dsc
  refine Eq.trans (b := ∑ R : Fin 8192, rZ V0 R j * (show EReal from (res_main_v104 V0 : FVec Ideal S8192x1024 .f32) (ix2 R j))) ?_
    (Finset.sum_congr rfl fun R _ => (mul_comm _ _).trans (congrArg (fun a : EReal => a * rZ V0 R j) (v104_at V0 R j)))
  unfold rZ
  pointwise [sGrad]
  exact Fin.sum_univ_one (M := EReal) _

section
variable (hdxo : ∀ i k, IsReal (rDxo V0 i k)) (hx : ∀ i k, IsReal (rX V0 i k)) (hg : ∀ k, IsReal (rG V0 k)) (hs : ∀ k, IsReal (rS V0 k))
  (hwo : ∀ i k, IsReal (rWo V0 i k)) (hwg : ∀ q i k, IsReal (rWg V0 q i k)) (hwi : ∀ i k, IsReal (rWi V0 i k))
include hdxo hs hwo hwg

theorem gGrad_at (j : Fin 1024) : gGrad V0 (ix2 0 j) = dn (rDxo V0) (rX V0) (rS V0) (rWo V0) (rWi V0) (rWg V0) j := by
  unfold dn rmsDg
  refine Eq.trans (b := ∑ R : Fin 8192, rX V0 R j * (show EReal from (res_main_v8 V0 : FVec Ideal S8192x1 .f32) (ix2 R 0))
      * (show EReal from (res_main_v167 V0 : FVec Ideal S8192x1024 .f32) (ix2 R j))) ?_
    (Finset.sum_congr rfl fun R _ => (mul_comm _ _).trans (congrArg₂ (fun a b : EReal => a * (rX V0 R j * b)) (v167_at V0 (ep_real hdxo hs hwo hwg) R j) (v8_at V0 R)))
  unfold rX
  pointwise [gGrad, res_main_v13]
  exact Fin.sum_univ_one (M := EReal) _

include hx hg hwi
theorem xGrad_at (R : Fin 8192) (j : Fin 1024) : xGrad V0 (ix2 R j) = dx (rDxo V0) (rX V0) (rS V0) (rG V0) (rWo V0) (rWi V0) (rWg V0) R j := by
  have hD : ∀ k, (res_main_v172 V0 : FVec Ideal S8192x1024 .f32) (ix2 R k) = dh (rDxo V0) (rS V0) (rWo V0) (rWi V0) (rWg V0) R k * rG V0 k := fun k =>
    (v172_at V0 R k).trans (congrArg (fun a : EReal => a * rG V0 k) (v167_at V0 (ep_real hdxo hs hwo hwg) R k))
  obtain ⟨v, hv, hve⟩ := mean_square (rX V0 R) (hx R)
  have hV : rV V0 R = (v : EReal) := hve
  have hv183 : (res_main_v183 V0 : FVec Ideal S8192x1024 .f32) (ix2 R j)
      = Ideal.div ((∑ k, rX V0 R k * (dh (rDxo V0) (rS V0) (rWo V0) (rWi V0) (rWg V0) R k * rG V0 k)) * (((-(1 / 2) : ℝ) : EReal) * Ideal.div (Ideal.rsqrt (v : EReal)) (v : EReal))) ((1024 : ℝ) : EReal) := by
    rw [v183_at, v8_at, v7_at, hV, bits_1024, bits_half]
    exact congrArg (fun a : EReal => Ideal.div (a * _) _) (Finset.sum_congr rfl fun k _ => congrArg (fun a : EReal => rX V0 R k * a) (hD k))
  unfold dx rmsDx rinv
  rw [hve, bits_1024, rms_grad (rX V0 R) (fun k => dh (rDxo V0) (rS V0) (rWo V0) (rWi V0) (rWg V0) R k * rG V0 k) (hx R)
    (fun k => .mul (dh_real hdxo hs hwo hwg hwi R k) (hg k)) v 1024 hv (by norm_num) j, ← hv183, ← hD j, ← hV, ← v8_at]
  unfold rDxo rX
  pointwise [xGrad]

end

end Cert.PoolRef

end
-- ==== Proof.Zed.lean ====
/- The forward pass' product before its scale: the array the kernel is handed is the reference's own. -/
module

public import Idealize.ShloMosaic.Lib.Claim
public import proofs.«01_k».proof.Proof.RefNorm
public import proofs.«01_k».proof.Proof.Tile

@[expose] public section

set_option maxRecDepth 16384

noncomputable section

namespace Cert.PoolEq

open Idealize.ShloMosaic Idealize.ShloMosaic.TcCoe Idealize.SL.Sem Cert.Grad Idealize.ShloMosaic.StableHlo
open Cert.ReferenceIdeal.Value

variable (V0 : Valuation Cert.ReferenceIdeal.τ Cert.ReferenceIdeal.sig (Elt Ideal)) (K : Valuation Cert.KernelIdeal.τ Cert.KernelIdeal.sig (Elt Ideal))

section
open Cert.ReferenceIdeal Cert.ReferenceIdeal.Gen

/-- Group 0's part of the product. -/
def part0 : FVec Ideal S8192x256 .f32 :=
  Host.dotGeneral (φ₂ := .f32) dot_S8192x256_S256x256_S8192x256_1_0_0_1_n_n none (subf (Host.divf (subf (res_main_v19 V0) (concatenate S8192x256 0 [⟨S2x256, (broadcastInDim S2x256 ![] bcast_S_S2x256 (constant S_ .f32 0x00000000#32))⟩, ⟨S8190x256, (extractStridedSlice S8190x256 ![0, 0] (res_main_v19 V0) slices_S8192x256_S8190x256_0_0)⟩] concatenates_S2x256_S8190x256_S8192x256_d0)) (broadcastInDim S8192x256 ![0, 1] bcast_S8192x1_S8192x256_0_1 (res_main_v30 V0))) (res_main_v18 V0)) (res_main_v36 V0)

/-- Group 1's part of the product. -/
def part1 : FVec Ideal S8192x256 .f32 :=
  Host.dotGeneral (φ₂ := .f32) dot_S8192x256_S256x256_S8192x256_1_0_0_1_n_n none (subf (Host.divf (subf (res_main_v39 V0) (concatenate S8192x256 0 [⟨S4x256, (broadcastInDim S4x256 ![] bcast_S_S4x256 (constant S_ .f32 0x00000000#32))⟩, ⟨S8188x256, (extractStridedSlice S8188x256 ![0, 0] (res_main_v39 V0) slices_S8192x256_S8188x256_0_0)⟩] concatenates_S4x256_S8188x256_S8192x256_d0)) (broadcastInDim S8192x256 ![0, 1] bcast_S8192x1_S8192x256_0_1 (res_main_v50 V0))) (res_main_v38 V0)) (res_main_v56 V0)

/-- Group 2's part of the product. -/
def part2 : FVec Ideal S8192x256 .f32 :=
  Host.dotGeneral (φ₂ := .f32) dot_S8192x256_S256x256_S8192x256_1_0_0_1_n_n none (subf (Host.divf (subf (res_main_v59 V0) (concatenate S8192x256 0 [⟨S8x256, (broadcastInDim S8x256 ![] bcast_S_S8x256 (constant S_ .f32 0x00000000#32))⟩, ⟨S8184x256, (extractStridedSlice S8184x256 ![0, 0] (res_main_v59 V0) slices_S8192x256_S8184x256_0_0)⟩] concatenates_S8x256_S8184x256_S8192x256_d0)) (broadcastInDim S8192x256 ![0, 1] bcast_S8192x1_S8192x256_0_1 (res_main_v70 V0))) (res_main_v58 V0)) (res_main_v76 V0)

/-- Group 3's part of the product. -/
def part3 : FVec Ideal S8192x256 .f32 :=
  Host.dotGeneral (φ₂ := .f32) dot_S8192x256_S256x256_S8192x256_1_0_0_1_n_n none (subf (Host.divf (subf (res_main_v79 V0) (concatenate S8192x256 0 [⟨S16x256, (broadcastInDim S16x256 ![] bcast_S_S16x256 (constant S_ .f32 0x00000000#32))⟩, ⟨S8176x256, (extractStridedSlice S8176x256 ![0, 0] (res_main_v79 V0) slices_S8192x256_S8176x256_0_0)⟩] concatenates_S16x256_S8176x256_S8192x256_d0)) (broadcastInDim S8192x256 ![0, 1] bcast_S8192x1_S8192x256_0_1 (res_main_v90 V0))) (res_main_v78 V0)) (res_main_v96 V0)

end

section
open Cert.KernelIdeal Cert.KernelIdeal.Gen

/-- 2 rows of zeros put before the first 8190 rows. -/
def cat0 (a : (⟨S2x256, .f32⟩ : BufTy).Contents (Elt Ideal)) (b : (⟨S8190x256, .f32⟩ : BufTy).Contents (Elt Ideal)) : (⟨S8192x256, .f32⟩ : BufTy).Contents (Elt Ideal) :=
  concatenate S8192x256 0 [⟨S2x256, a⟩, ⟨S8190x256, b⟩] concatenates_S2x256_S8190x256_S8192x256_d0
theorem cat0_eq : ((fun a b => concatenate S8192x256 0 [⟨S2x256, a⟩, ⟨S8190x256, b⟩] concatenates_S2x256_S8190x256_S8192x256_d0) :
    (⟨S2x256, .f32⟩ : BufTy).Contents (Elt Ideal) → (⟨S8190x256, .f32⟩ : BufTy).Contents (Elt Ideal) → (⟨S8192x256, .f32⟩ : BufTy).Contents (Elt Ideal)) = cat0 := rfl

/-- 4 rows of zeros put before the first 8188 rows. -/
def cat1 (a : (⟨S4x256, .f32⟩ : BufTy).Contents (Elt Ideal)) (b : (⟨S8188x256, .f32⟩ : BufTy).Contents (Elt Ideal)) : (⟨S8192x256, .f32⟩ : BufTy).Contents (Elt Ideal) :=
  concatenate S8192x256 0 [⟨S4x256, a⟩, ⟨S8188x256, b⟩] concatenates_S4x256_S8188x256_S8192x256_d0
theorem cat1_eq : ((fun a b => concatenate S8192x256 0 [⟨S4x256, a⟩, ⟨S8188x256, b⟩] concatenates_S4x256_S8188x256_S8192x256_d0) :
    (⟨S4x256, .f32⟩ : BufTy).Contents (Elt Ideal) → (⟨S8188x256, .f32⟩ : BufTy).Contents (Elt Ideal) → (⟨S8192x256, .f32⟩ : BufTy).Contents (Elt Ideal)) = cat1 := rfl

/-- 8 rows of zeros put before the first 8184 rows. -/
def cat2 (a : (⟨S8x256, .f32⟩ : BufTy).Contents (Elt Ideal)) (b : (⟨S8184x256, .f32⟩ : BufTy).Contents (Elt Ideal)) : (⟨S8192x256, .f32⟩ : BufTy).Contents (Elt Ideal) :=
  concatenate S8192x256 0 [⟨S8x256, a⟩, ⟨S8184x256, b⟩] concatenates_S8x256_S8184x256_S8192x256_d0
theorem cat2_eq : ((fun a b => concatenate S8192x256 0 [⟨S8x256, a⟩, ⟨S8184x256, b⟩] concatenates_S8x256_S8184x256_S8192x256_d0) :
    (⟨S8x256, .f32⟩ : BufTy).Contents (Elt Ideal) → (⟨S8184x256, .f32⟩ : BufTy).Contents (Elt Ideal) → (⟨S8192x256, .f32⟩ : BufTy).Contents (Elt Ideal)) = cat2 := rfl

/-- 16 rows of zeros put before the first 8176 rows. -/
def cat3 (a : (⟨S16x256, .f32⟩ : BufTy).Contents (Elt Ideal)) (b : (⟨S8176x256, .f32⟩ : BufTy).Contents (Elt Ideal)) : (⟨S8192x256, .f32⟩ : BufTy).Contents (Elt Ideal) :=
  concatenate S8192x256 0 [⟨S16x256, a⟩, ⟨S8176x256, b⟩] concatenates_S16x256_S8176x256_S8192x256_d0
theorem cat3_eq : ((fun a b => concatenate S8192x256 0 [⟨S16x256, a⟩, ⟨S8176x256, b⟩] concatenates_S16x256_S8176x256_S8192x256_d0) :
    (⟨S16x256, .f32⟩ : BufTy).Contents (Elt Ideal) → (⟨S8176x256, .f32⟩ : BufTy).Contents (Elt Ideal) → (⟨S8192x256, .f32⟩ : BufTy).Contents (Elt Ideal)) = cat3 := rfl
end

/-! The operations before the kernel's call, stretch by stretch. -/

theorem s0 (h1 : K (Proc.devRef .tc Cert.KernelIdeal.main_arg1) = V0 (Proc.devRef .tc Cert.ReferenceIdeal.main_arg1)) (h2 : K (Proc.devRef .tc Cert.KernelIdeal.main_arg2) = V0 (Proc.devRef .tc Cert.ReferenceIdeal.main_arg2))
    (h3 : K (Proc.devRef .tc Cert.KernelIdeal.main_arg3) = V0 (Proc.devRef .tc Cert.ReferenceIdeal.main_arg3)) (h4 : K (Proc.devRef .tc Cert.KernelIdeal.main_arg4) = V0 (Proc.devRef .tc Cert.ReferenceIdeal.main_arg4)) :
    (after Cert.KernelIdeal.Gen.hostOps0 K) (Proc.devRef .tc Cert.KernelIdeal.main_v14) = res_main_v17 V0 ∧ (after Cert.KernelIdeal.Gen.hostOps0 K) (Proc.devRef .tc Cert.KernelIdeal.main_v15) = res_main_v18 V0 ∧ (after Cert.KernelIdeal.Gen.hostOps0 K) (Proc.devRef .tc Cert.KernelIdeal.main_arg4) = V0 (Proc.devRef .tc Cert.ReferenceIdeal.main_arg4) := by
  refine ⟨?_, ?_, ?_⟩ <;> (
    simp only [Cert.KernelIdeal.Gen.hostOps0, TRef.binary, TRef.nullary, TRef.unary, TRef.toBuf, TRef.ofBuf, cast_eq, cat0_eq, cat1_eq, cat2_eq, cat3_eq]
    after_results_simp
    try simp only [h1, h2, h3, h4]
    first | done | rfl | (unfold part0 cat0; rfl) | (unfold part1 cat1; rfl) | (unfold part2 cat2; rfl) | (unfold part3 cat3 res_main_v90 res_main_v96; rfl))

theorem s1 (ha : K (Proc.devRef .tc Cert.KernelIdeal.main_v14) = res_main_v17 V0) (hb : K (Proc.devRef .tc Cert.KernelIdeal.main_v15) = res_main_v18 V0) (h4 : K (Proc.devRef .tc Cert.KernelIdeal.main_arg4) = V0 (Proc.devRef .tc Cert.ReferenceIdeal.main_arg4)) :
    (after Cert.KernelIdeal.Gen.hostOps0_1 K) (Proc.devRef .tc Cert.KernelIdeal.main_v14) = res_main_v17 V0 ∧ (after Cert.KernelIdeal.Gen.hostOps0_1 K) (Proc.devRef .tc Cert.KernelIdeal.main_v15) = res_main_v18 V0 ∧ (after Cert.KernelIdeal.Gen.hostOps0_1 K) (Proc.devRef .tc Cert.KernelIdeal.main_v16) = res_main_v19 V0 ∧ (after Cert.KernelIdeal.Gen.hostOps0_1 K) (Proc.devRef .tc Cert.KernelIdeal.main_arg4) = V0 (Proc.devRef .tc Cert.ReferenceIdeal.main_arg4) := by
  refine ⟨?_, ?_, ?_, ?_⟩ <;> (
    simp only [Cert.KernelIdeal.Gen.hostOps0_1, TRef.binary, TRef.nullary, TRef.unary, TRef.toBuf, TRef.ofBuf, cast_eq, cat0_eq, cat1_eq, cat2_eq, cat3_eq]
    after_results_simp
    try simp only [ha, hb, h4]
    first | done | rfl | (unfold part0 cat0; rfl) | (unfold part1 cat1; rfl) | (unfold part2 cat2; rfl) | (unfold part3 cat3 res_main_v90 res_main_v96; rfl))

theorem s2 (ha : K (Proc.devRef .tc Cert.KernelIdeal.main_v14) = res_main_v17 V0) (hb : K (Proc.devRef .tc Cert.KernelIdeal.main_v15) = res_main_v18 V0) (hc : K (Proc.devRef .tc Cert.KernelIdeal.main_v16) = res_main_v19 V0) (h4 : K (Proc.devRef .tc Cert.KernelIdeal.main_arg4) = V0 (Proc.devRef .tc Cert.ReferenceIdeal.main_arg4)) :
    (after Cert.KernelIdeal.Gen.hostOps0_2 K) (Proc.devRef .tc Cert.KernelIdeal.main_v14) = res_main_v17 V0 ∧ (after Cert.KernelIdeal.Gen.hostOps0_2 K) (Proc.devRef .tc Cert.KernelIdeal.main_v34) = res_main_v38 V0 ∧ (after Cert.KernelIdeal.Gen.hostOps0_2 K) (Proc.devRef .tc Cert.KernelIdeal.main_arg4) = V0 (Proc.devRef .tc Cert.ReferenceIdeal.main_arg4) ∧ (after Cert.KernelIdeal.Gen.hostOps0_2 K) (Proc.devRef .tc Cert.KernelIdeal.main_v33) = part0 V0 := by
  refine ⟨?_, ?_, ?_, ?_⟩ <;> (
    simp only [Cert.KernelIdeal.Gen.hostOps0_2, TRef.binary, TRef.nullary, TRef.unary, TRef.toBuf, TRef.ofBuf, cast_eq, cat0_eq, cat1_eq, cat2_eq, cat3_eq]
    after_results_simp
    try simp only [ha, hb, hc, h4]
    first | done | rfl | (unfold part0 cat0; rfl) | (unfold part1 cat1; rfl) | (unfold part2 cat2; rfl) | (unfold part3 cat3 res_main_v90 res_main_v96; rfl))

theorem s3 (ha : K (Proc.devRef .tc Cert.KernelIdeal.main_v14) = res_main_v17 V0) (hb : K (Proc.devRef .tc Cert.KernelIdeal.main_v34) = res_main_v38 V0) (h4 : K (Proc.devRef .tc Cert.KernelIdeal.main_arg4) = V0 (Proc.devRef .tc Cert.ReferenceIdeal.main_arg4)) (p0 : K (Proc.devRef .tc Cert.KernelIdeal.main_v33) = part0 V0) :
    (after Cert.KernelIdeal.Gen.hostOps0_3 K) (Proc.devRef .tc Cert.KernelIdeal.main_v14) = res_main_v17 V0 ∧ (after Cert.KernelIdeal.Gen.hostOps0_3 K) (Proc.devRef .tc Cert.KernelIdeal.main_v34) = res_main_v38 V0 ∧ (after Cert.KernelIdeal.Gen.hostOps0_3 K) (Proc.devRef .tc Cert.KernelIdeal.main_v35) = res_main_v39 V0 ∧ (after Cert.KernelIdeal.Gen.hostOps0_3 K) (Proc.devRef .tc Cert.KernelIdeal.main_arg4) = V0 (Proc.devRef .tc Cert.ReferenceIdeal.main_arg4) ∧ (after Cert.KernelIdeal.Gen.hostOps0_3 K) (Proc.devRef .tc Cert.KernelIdeal.main_v33) = part0 V0 := by
  refine ⟨?_, ?_, ?_, ?_, ?_⟩ <;> (
    simp only [Cert.KernelIdeal.Gen.hostOps0_3, TRef.binary, TRef.nullary, TRef.unary, TRef.toBuf, TRef.ofBuf, cast_eq, cat0_eq, cat1_eq, cat2_eq, cat3_eq]
    after_results_simp
    try simp only [ha, hb, h4, p0]
    first | done | rfl | (unfold part0 cat0; rfl) | (unfold part1 cat1; rfl) | (unfold part2 cat2; rfl) | (unfold part3 cat3 res_main_v90 res_main_v96; rfl))

theorem s4 (ha : K (Proc.devRef .tc Cert.KernelIdeal.main_v14) = res_main_v17 V0) (hb : K (Proc.devRef .tc Cert.KernelIdeal.main_v34) = res_main_v38 V0) (hc : K (Proc.devRef .tc Cert.KernelIdeal.main_v35) = res_main_v39 V0) (h4 : K (Proc.devRef .tc Cert.KernelIdeal.main_arg4) = V0 (Proc.devRef .tc Cert.ReferenceIdeal.main_arg4)) (p0 : K (Proc.devRef .tc Cert.KernelIdeal.main_v33) = part0 V0) :
    (after Cert.KernelIdeal.Gen.hostOps0_4 K) (Proc.devRef .tc Cert.KernelIdeal.main_v14) = res_main_v17 V0 ∧ (after Cert.KernelIdeal.Gen.hostOps0_4 K) (Proc.devRef .tc Cert.KernelIdeal.main_v53) = res_main_v58 V0 ∧ (after Cert.KernelIdeal.Gen.hostOps0_4 K) (Proc.devRef .tc Cert.KernelIdeal.main_arg4) = V0 (Proc.devRef .tc Cert.ReferenceIdeal.main_arg4) ∧ (after Cert.KernelIdeal.Gen.hostOps0_4 K) (Proc.devRef .tc Cert.KernelIdeal.main_v33) = part0 V0 ∧ (after Cert.KernelIdeal.Gen.hostOps0_4 K) (Proc.devRef .tc Cert.KernelIdeal.main_v52) = part1 V0 := by
  refine ⟨?_, ?_, ?_, ?_, ?_⟩ <;> (
    simp only [Cert.KernelIdeal.Gen.hostOps0_4, TRef.binary, TRef.nullary, TRef.unary, TRef.toBuf, TRef.ofBuf, cast_eq, cat0_eq, cat1_eq, cat2_eq, cat3_eq]
    after_results_simp
    try simp only [ha, hb, hc, h4, p0]
    first | done | rfl | (unfold part0 cat0; rfl) | (unfold part1 cat1; rfl) | (unfold part2 cat2; rfl) | (unfold part3 cat3 res_main_v90 res_main_v96; rfl))

theorem s5 (ha : K (Proc.devRef .tc Cert.KernelIdeal.main_v14) = res_main_v17 V0) (hb : K (Proc.devRef .tc Cert.KernelIdeal.main_v53) = res_main_v58 V0) (h4 : K (Proc.devRef .tc Cert.KernelIdeal.main_arg4) = V0 (Proc.devRef .tc Cert.ReferenceIdeal.main_arg4)) (p0 : K (Proc.devRef .tc Cert.KernelIdeal.main_v33) = part0 V0) (p1 : K (Proc.devRef .tc Cert.KernelIdeal.main_v52) = part1 V0) :
    (after Cert.KernelIdeal.Gen.hostOps0_5 K) (Proc.devRef .tc Cert.KernelIdeal.main_v14) = res_main_v17 V0 ∧ (after Cert.KernelIdeal.Gen.hostOps0_5 K) (Proc.devRef .tc Cert.KernelIdeal.main_v53) = res_main_v58 V0 ∧ (after Cert.KernelIdeal.Gen.hostOps0_5 K) (Proc.devRef .tc Cert.KernelIdeal.main_v54) = res_main_v59 V0 ∧ (after Cert.KernelIdeal.Gen.hostOps0_5 K) (Proc.devRef .tc Cert.KernelIdeal.main_arg4) = V0 (Proc.devRef .tc Cert.ReferenceIdeal.main_arg4) ∧ (after Cert.KernelIdeal.Gen.hostOps0_5 K) (Proc.devRef .tc Cert.KernelIdeal.main_v33) = part0 V0 ∧ (after Cert.KernelIdeal.Gen.hostOps0_5 K) (Proc.devRef .tc Cert.KernelIdeal.main_v52) = part1 V0 := by
  refine ⟨?_, ?_, ?_, ?_, ?_, ?_⟩ <;> (
    simp only [Cert.KernelIdeal.Gen.hostOps0_5, TRef.binary, TRef.nullary, TRef.unary, TRef.toBuf, TRef.ofBuf, cast_eq, cat0_eq, cat1_eq, cat2_eq, cat3_eq]
    after_results_simp
    try simp only [ha, hb, h4, p0, p1]
    first | done | rfl | (unfold part0 cat0; rfl) | (unfold part1 cat1; rfl) | (unfold part2 cat2; rfl) | (unfold part3 cat3 res_main_v90 res_main_v96; rfl))

theorem s6 (ha : K (Proc.devRef .tc Cert.KernelIdeal.main_v14) = res_main_v17 V0) (hb : K (Proc.devRef .tc Cert.KernelIdeal.main_v53) = res_main_v58 V0) (hc : K (Proc.devRef .tc Cert.KernelIdeal.main_v54) = res_main_v59 V0) (h4 : K (Proc.devRef .tc Cert.KernelIdeal.main_arg4) = V0 (Proc.devRef .tc Cert.ReferenceIdeal.main_arg4)) (p0 : K (Proc.devRef .tc Cert.KernelIdeal.main_v33) = part0 V0) (p1 : K (Proc.devRef .tc Cert.KernelIdeal.main_v52) = part1 V0) :
    (after Cert.KernelIdeal.Gen.hostOps0_6 K) (Proc.devRef .tc Cert.KernelIdeal.main_v14) = res_main_v17 V0 ∧ (after Cert.KernelIdeal.Gen.hostOps0_6 K) (Proc.devRef .tc Cert.KernelIdeal.main_v72) = res_main_v78 V0 ∧ (after Cert.KernelIdeal.Gen.hostOps0_6 K) (Proc.devRef .tc Cert.KernelIdeal.main_arg4) = V0 (Proc.devRef .tc Cert.ReferenceIdeal.main_arg4) ∧ (after Cert.KernelIdeal.Gen.hostOps0_6 K) (Proc.devRef .tc Cert.KernelIdeal.main_v33) = part0 V0 ∧ (after Cert.KernelIdeal.Gen.hostOps0_6 K) (Proc.devRef .tc Cert.KernelIdeal.main_v52) = part1 V0 ∧ (after Cert.KernelIdeal.Gen.hostOps0_6 K) (Proc.devRef .tc Cert.KernelIdeal.main_v71) = part2 V0 := by
  refine ⟨?_, ?_, ?_, ?_, ?_, ?_⟩ <;> (
    simp only [Cert.KernelIdeal.Gen.hostOps0_6, TRef.binary, TRef.nullary, TRef.unary, TRef.toBuf, TRef.ofBuf, cast_eq, cat0_eq, cat1_eq, cat2_eq, cat3_eq]
    after_results_simp
    try simp only [ha, hb, hc, h4, p0, p1]
    first | done | rfl | (unfold part0 cat0; rfl) | (unfold part1 cat1; rfl) | (unfold part2 cat2; rfl) | (unfold part3 cat3 res_main_v90 res_main_v96; rfl))

theorem s7 (ha : K (Proc.devRef .tc Cert.KernelIdeal.main_v14) = res_main_v17 V0) (hb : K (Proc.devRef .tc Cert.KernelIdeal.main_v72) = res_main_v78 V0) (h4 : K (Proc.devRef .tc Cert.KernelIdeal.main_arg4) = V0 (Proc.devRef .tc Cert.ReferenceIdeal.main_arg4)) (p0 : K (Proc.devRef .tc Cert.KernelIdeal.main_v33) = part0 V0) (p1 : K (Proc.devRef .tc Cert.KernelIdeal.main_v52) = part1 V0) (p2 : K (Proc.devRef .tc Cert.KernelIdeal.main_v71) = part2 V0) :
    (after Cert.KernelIdeal.Gen.hostOps0_7 K) (Proc.devRef .tc Cert.KernelIdeal.main_v14) = res_main_v17 V0 ∧ (after Cert.KernelIdeal.Gen.hostOps0_7 K) (Proc.devRef .tc Cert.KernelIdeal.main_v72) = res_main_v78 V0 ∧ (after Cert.KernelIdeal.Gen.hostOps0_7 K) (Proc.devRef .tc Cert.KernelIdeal.main_v73) = res_main_v79 V0 ∧ (after Cert.KernelIdeal.Gen.hostOps0_7 K) (Proc.devRef .tc Cert.KernelIdeal.main_arg4) = V0 (Proc.devRef .tc Cert.ReferenceIdeal.main_arg4) ∧ (after Cert.KernelIdeal.Gen.hostOps0_7 K) (Proc.devRef .tc Cert.KernelIdeal.main_v33) = part0 V0 ∧ (after Cert.KernelIdeal.Gen.hostOps0_7 K) (Proc.devRef .tc Cert.KernelIdeal.main_v52) = part1 V0 ∧ (after Cert.KernelIdeal.Gen.hostOps0_7 K) (Proc.devRef .tc Cert.KernelIdeal.main_v71) = part2 V0 := by
  refine ⟨?_, ?_, ?_, ?_, ?_, ?_, ?_⟩ <;> (
    simp only [Cert.KernelIdeal.Gen.hostOps0_7, TRef.binary, TRef.nullary, TRef.unary, TRef.toBuf, TRef.ofBuf, cast_eq, cat0_eq, cat1_eq, cat2_eq, cat3_eq]
    after_results_simp
    try simp only [ha, hb, h4, p0, p1, p2]
    first | done | rfl | (unfold part0 cat0; rfl) | (unfold part1 cat1; rfl) | (unfold part2 cat2; rfl) | (unfold part3 cat3 res_main_v90 res_main_v96; rfl))

/-- The last stretch up to the group's product. -/
abbrev pre8 : List (HloOp Cert.KernelIdeal.τ Cert.KernelIdeal.sig (Elt Ideal)) := (Cert.KernelIdeal.Gen.hostOps0_8).take 20
abbrev post8 : List (HloOp Cert.KernelIdeal.τ Cert.KernelIdeal.sig (Elt Ideal)) := (Cert.KernelIdeal.Gen.hostOps0_8).drop 20

theorem s8 (hb : K (Proc.devRef .tc Cert.KernelIdeal.main_v72) = res_main_v78 V0) (hc : K (Proc.devRef .tc Cert.KernelIdeal.main_v73) = res_main_v79 V0) (h4 : K (Proc.devRef .tc Cert.KernelIdeal.main_arg4) = V0 (Proc.devRef .tc Cert.ReferenceIdeal.main_arg4)) (p0 : K (Proc.devRef .tc Cert.KernelIdeal.main_v33) = part0 V0) (p1 : K (Proc.devRef .tc Cert.KernelIdeal.main_v52) = part1 V0) (p2 : K (Proc.devRef .tc Cert.KernelIdeal.main_v71) = part2 V0) :
    after pre8 K (Proc.devRef .tc Cert.KernelIdeal.main_v33) = part0 V0 ∧ after pre8 K (Proc.devRef .tc Cert.KernelIdeal.main_v52) = part1 V0 ∧ after pre8 K (Proc.devRef .tc Cert.KernelIdeal.main_v71) = part2 V0 ∧ after pre8 K (Proc.devRef .tc Cert.KernelIdeal.main_v90) = part3 V0 := by
  refine ⟨?_, ?_, ?_, ?_⟩ <;> (
    simp only [pre8, Cert.KernelIdeal.Gen.hostOps0_8, List.take, TRef.binary, TRef.nullary, TRef.unary, TRef.toBuf, TRef.ofBuf, cast_eq, cat0_eq, cat1_eq, cat2_eq, cat3_eq]
    after_results_simp
    try simp only [hb, hc, h4, p0, p1, p2]
    first | done | rfl | (unfold part0 cat0; rfl) | (unfold part1 cat1; rfl) | (unfold part2 cat2; rfl) | (unfold part3 cat3 res_main_v90 res_main_v96; rfl))

theorem s9 (p0 : K (Proc.devRef .tc Cert.KernelIdeal.main_v33) = part0 V0) (p1 : K (Proc.devRef .tc Cert.KernelIdeal.main_v52) = part1 V0) (p2 : K (Proc.devRef .tc Cert.KernelIdeal.main_v71) = part2 V0) (p3 : K (Proc.devRef .tc Cert.KernelIdeal.main_v90) = part3 V0) (R : Fin 8192) (j : Fin 1024) :
    (after post8 K (Proc.devRef .tc Cert.KernelIdeal.main_v92) : FVec Ideal Cert.KernelIdeal.S8192x1024 .bf16) (ix2 R j) = (res_main_v98 V0 : FVec Ideal Cert.KernelIdeal.S8192x1024 .f32) (ix2 R j) := by
  simp only [post8, Cert.KernelIdeal.Gen.hostOps0_8, List.drop]
  after_results_simp
  refine Eq.trans (b := (concatenate Cert.KernelIdeal.S8192x1024 1 [⟨Cert.KernelIdeal.S8192x256, K (Proc.devRef .tc Cert.KernelIdeal.main_v33)⟩, ⟨Cert.KernelIdeal.S8192x256, K (Proc.devRef .tc Cert.KernelIdeal.main_v52)⟩, ⟨Cert.KernelIdeal.S8192x256, K (Proc.devRef .tc Cert.KernelIdeal.main_v71)⟩, ⟨Cert.KernelIdeal.S8192x256, K (Proc.devRef .tc Cert.KernelIdeal.main_v90)⟩]
    Cert.KernelIdeal.Gen.concatenates_S8192x256_S8192x256_S8192x256_S8192x256_S8192x1024_d1 : FVec Ideal Cert.KernelIdeal.S8192x1024 .f32) (ix2 R j)) rfl ?_
  rw [p0, p1, p2, p3]
  rfl

/-- The product the kernel is handed is the reference's. -/
theorem zed (m : (ℓ : Loc Cert.KernelIdeal.nD Cert.KernelIdeal.τ Cert.KernelIdeal.sig) → Buf (Elt Ideal) ℓ) (c : Dev Cert.KernelIdeal.nD)
    (h1 : m (c.tc.loc Cert.KernelIdeal.main_arg1) = V0 (Proc.devRef .tc Cert.ReferenceIdeal.main_arg1)) (h2 : m (c.tc.loc Cert.KernelIdeal.main_arg2) = V0 (Proc.devRef .tc Cert.ReferenceIdeal.main_arg2))
    (h3 : m (c.tc.loc Cert.KernelIdeal.main_arg3) = V0 (Proc.devRef .tc Cert.ReferenceIdeal.main_arg3)) (h4 : m (c.tc.loc Cert.KernelIdeal.main_arg4) = V0 (Proc.devRef .tc Cert.ReferenceIdeal.main_arg4))
    (R : Fin 8192) (j : Fin 1024) : Cert.PoolBwd.aZ m c R j = Cert.PoolRef.rZ V0 R j := by
  have e : Cert.KernelIdeal.Gen.V m c Cert.KernelIdeal.main_v92 = after post8 (after pre8 (after Cert.KernelIdeal.Gen.hostOps0_7 (after Cert.KernelIdeal.Gen.hostOps0_6 (after Cert.KernelIdeal.Gen.hostOps0_5
      (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 fun b => m (c, b))))))))))
      (Proc.devRef .tc Cert.KernelIdeal.main_v92) := by
    rw [← after_append pre8 post8, List.take_append_drop]
    simp only [Cert.KernelIdeal.Gen.V, List.flatten_cons, List.flatten_nil, List.append_nil, after_append]
  obtain ⟨a, b, h4⟩ := s0 V0 (fun b => m (c, b)) h1 h2 h3 h4
  obtain ⟨a, b, cc, h4⟩ := s1 V0 _ a b h4
  obtain ⟨a, b, h4, p0⟩ := s2 V0 _ a b cc h4
  obtain ⟨a, b, cc, h4, p0⟩ := s3 V0 _ a b h4 p0
  obtain ⟨a, b, h4, p0, p1⟩ := s4 V0 _ a b cc h4 p0
  obtain ⟨a, b, cc, h4, p0, p1⟩ := s5 V0 _ a b h4 p0 p1
  obtain ⟨a, b, h4, p0, p1, p2⟩ := s6 V0 _ a b cc h4 p0 p1
  obtain ⟨a, b, cc, h4, p0, p1, p2⟩ := s7 V0 _ a b h4 p0 p1 p2
  obtain ⟨p0, p1, p2, p3⟩ := s8 V0 _ b cc h4 p0 p1 p2
  unfold Cert.PoolBwd.aZ Cert.PoolRef.rZ
  rw [e]
  exact s9 V0 _ p0 p1 p2 p3 R j

end Cert.PoolEq

end
-- ==== Proof.Equation.lean ====
/- The five arrays of the kernel are the reference's five results. -/
module

public import proofs.«01_k».proof.Proof.Arrays
public import proofs.«01_k».proof.Proof.Finite
public import proofs.«01_k».proof.Proof.Zed

@[expose] public section

set_option maxRecDepth 16384

noncomputable section

namespace Cert.PoolEq

open Idealize.ShloMosaic Idealize.ShloMosaic.TcCoe Idealize.SL.Sem Cert.Grad Idealize.ShloMosaic.StableHlo
open Cert.ReferenceIdeal.Value Cert.PoolBwd Cert.PoolRef

variable (V0 : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)

/-- The kernel's arguments are the reference's. -/
structure Agree : Prop where
  h0 : m (c.tc.loc Cert.KernelIdeal.main_arg0) = V0 (Proc.devRef .tc Cert.ReferenceIdeal.main_arg0)
  h1 : m (c.tc.loc Cert.KernelIdeal.main_arg1) = V0 (Proc.devRef .tc Cert.ReferenceIdeal.main_arg1)
  h2 : m (c.tc.loc Cert.KernelIdeal.main_arg2) = V0 (Proc.devRef .tc Cert.ReferenceIdeal.main_arg2)
  h3 : m (c.tc.loc Cert.KernelIdeal.main_arg3) = V0 (Proc.devRef .tc Cert.ReferenceIdeal.main_arg3)
  h4 : m (c.tc.loc Cert.KernelIdeal.main_arg4) = V0 (Proc.devRef .tc Cert.ReferenceIdeal.main_arg4)
  h5 : m (c.tc.loc Cert.KernelIdeal.main_arg5) = V0 (Proc.devRef .tc Cert.ReferenceIdeal.main_arg5)
  h6 : m (c.tc.loc Cert.KernelIdeal.main_arg6) = V0 (Proc.devRef .tc Cert.ReferenceIdeal.main_arg6)

/-- Every argument holds reals. -/
structure Real : Prop where
  dxo : ∀ i k, IsReal (aDxo m c i k)
  x : ∀ i k, IsReal (aX m c i k)
  g : ∀ k, IsReal (aG m c k)
  wi : ∀ i k, IsReal (aWi m c i k)
  wg : ∀ q i k, IsReal (aWg m c q i k)
  s : ∀ k, IsReal (aS m c k)
  wo : ∀ i k, IsReal (aWo m c i k)

theorem real_of_pre (h : Cert.Pre_finite_args.fn (F := Ideal) (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)) (m (c.tc.loc Cert.KernelIdeal.main_arg5)) (m (c.tc.loc Cert.KernelIdeal.main_arg6)) = fun _ => 1#1) : Real m c := by
  obtain ⟨h0, h1, h2, h3, h4, h5, h6⟩ := Cert.Grad.finite_args _ _ _ _ _ _ _ h
  exact ⟨fun _ _ => h0 _, fun _ _ => h1 _, fun _ => h2 _, fun _ _ => h3 _, fun _ _ _ => h4 _, fun _ => h5 _, fun _ _ => h6 _⟩

variable {V0 m c} (A : Agree V0 m c)
include A

theorem dxo_eq : rDxo V0 = aDxo m c := funext fun i => funext fun k => (congrFun A.h0 (ix2 i k)).symm
theorem x_eq : rX V0 = aX m c := funext fun i => funext fun k => (congrFun A.h1 (ix2 i k)).symm
theorem g_eq : rG V0 = aG m c := funext fun k => (congrFun A.h2 (ix2 0 k)).symm
theorem wi_eq : rWi V0 = aWi m c := funext fun i => funext fun k => (congrFun A.h3 (ix2 i k)).symm
theorem wg_eq : rWg V0 = aWg m c := funext fun q => funext fun i => funext fun k => (congrFun A.h4 (ix3 q i k)).symm
theorem s_eq : rS V0 = aS m c := funext fun k => (congrFun A.h5 (ix2 0 k)).symm
theorem wo_eq : rWo V0 = aWo m c := funext fun i => funext fun k => (congrFun A.h6 (ix2 i k)).symm
theorem z_eq : rZ V0 = aZ m c := funext fun R => funext fun j => (zed V0 m c A.h1 A.h2 A.h3 A.h4 R j).symm

theorem eq8 : (truncf .bf16 (res_main_v109 V0) Cert.ReferenceIdeal.Gen.bitsLt_bf16_f32 : FVec Ideal Cert.ReferenceIdeal.S8192x1024 .bf16) = (Cert.KernelIdeal.Gen.dats m 0 c).arrAt 8 Cert.KernelIdeal.cfg0.N := by
  rw [array8]
  funext j
  idx_vars j
  refine (v109_at V0 _ _).trans ?_
  rw [dxo_eq A, s_eq A, wo_eq A]
  rfl

theorem eq12 : sGrad V0 = (Cert.KernelIdeal.Gen.dats m 0 c).arrAt 12 Cert.KernelIdeal.cfg0.N := by
  rw [array12]
  funext j
  have ej : j = ix2 0 (j 1) := by idx_vars j; exact congrArg (fun u => ix2 u _) (Subsingleton.elim (α := Fin 1) _ _)
  refine (congrArg _ ej).trans ((sGrad_at V0 (j 1)).trans ?_)
  rw [dxo_eq A, z_eq A, wo_eq A]
  rfl

variable (H : Real m c)
include H

theorem eq9 : (truncf .bf16 (res_main_v166 V0) Cert.ReferenceIdeal.Gen.bitsLt_bf16_f32 : FVec Ideal Cert.ReferenceIdeal.S8192x1024 .bf16) = (Cert.KernelIdeal.Gen.dats m 0 c).arrAt 9 Cert.KernelIdeal.cfg0.N := by
  rw [array9]
  funext j
  idx_vars j
  refine (v166_at V0 ?_ _ _).trans ?_
  · rw [dxo_eq A, s_eq A, wo_eq A, wg_eq A]
    exact ep_real H.dxo H.s H.wo H.wg
  · rw [dxo_eq A, s_eq A, wo_eq A, wg_eq A]
    rfl

theorem eq10 : xGrad V0 = (Cert.KernelIdeal.Gen.dats m 0 c).arrAt 10 Cert.KernelIdeal.cfg0.N := by
  rw [array10]
  funext j
  idx_vars j
  refine (xGrad_at V0 ?_ ?_ ?_ ?_ ?_ ?_ ?_ _ _).trans ?_
  · rw [dxo_eq A]; exact H.dxo
  · rw [x_eq A]; exact H.x
  · rw [g_eq A]; exact H.g
  · rw [s_eq A]; exact H.s
  · rw [wo_eq A]; exact H.wo
  · rw [wg_eq A]; exact H.wg
  · rw [wi_eq A]; exact H.wi
  · rw [dxo_eq A, x_eq A, s_eq A, g_eq A, wo_eq A, wi_eq A, wg_eq A]
    rfl

theorem eq11 : gGrad V0 = (Cert.KernelIdeal.Gen.dats m 0 c).arrAt 11 Cert.KernelIdeal.cfg0.N := by
  rw [array11]
  funext j
  have ej : j = ix2 0 (j 1) := by idx_vars j; exact congrArg (fun u => ix2 u _) (Subsingleton.elim (α := Fin 1) _ _)
  refine (congrArg _ ej).trans ((gGrad_at V0 ?_ ?_ ?_ ?_ (j 1)).trans ?_)
  · rw [dxo_eq A]; exact H.dxo
  · rw [s_eq A]; exact H.s
  · rw [wo_eq A]; exact H.wo
  · rw [wg_eq A]; exact H.wg
  · rw [dxo_eq A, x_eq A, s_eq A, wo_eq A, wi_eq A, wg_eq A]
    rfl

end Cert.PoolEq

end
-- ==== Proof.FfnBlock.lean ====
/- What one tile of the FFN's gradient kernel computes, read at an index. -/
module

public import proofs.«01_k».proof.Proof.Spec
public import proofs.«01_k».proof.Proof.Gen.FfnIdeal.Skeleton

@[expose] public section

set_option maxRecDepth 16384

noncomputable section

namespace Cert.Grad

open Idealize.ShloMosaic

/-- The logistic function as the kernel computes it. -/
def sgm (a : EReal) : EReal := Ideal.ofBits FTy.f32 1056964608#32 * Ideal.tanh (Ideal.ofBits FTy.f32 1056964608#32 * a) + Ideal.ofBits FTy.f32 1056964608#32

/-- The cotangent of the gate, from the activation's cotangent, the gate and the up-projection. -/
def gateGrad (d a b : EReal) : EReal :=
  d * b * (sgm a * (Ideal.ofBits FTy.f32 1065353216#32 + a * (Ideal.ofBits FTy.f32 1065353216#32 - sgm a)))

/-- The cotangent of the up-projection. -/
def upGrad (d a : EReal) : EReal := d * (a * sgm a)

end Cert.Grad

namespace Cert.FfnBwd

open Idealize.ShloMosaic Idealize.ShloMosaic.TcCoe Cert.Grad
open Cert.FfnIdeal Cert.FfnIdeal.Gen

section
variable (D : Vec Ideal S256x1024 .bf16) (W W5 W6 : Vec Ideal S1x704x1024 .bf16) (G U : Vec Ideal S1x256x704 .bf16) (v : Vec Ideal S256x1024 .f32)

/-- The activation's cotangent in half a tile. -/
def act (r : Fin 256) (f : Fin 704) : EReal := ∑ k, D (ix2 r k) * W (ix3 0 f k)

/-- The gate's, -/
def hDg (r : Fin 256) (f : Fin 704) : EReal := gateGrad (act D W r f) (G (ix3 0 r f)) (U (ix3 0 r f))

/-- and the up-projection's. -/
def hDu (r : Fin 256) (f : Fin 704) : EReal := upGrad (act D W r f) (G (ix3 0 r f))

theorem pay16_at (r : Fin 256) (f : Fin 704) :
    k0_pay16 (F := Ideal) (k0_pay11 G) (k0_pay12 G) (k0_pay13 D W U) (ix3 0 r f) = hDg D W G U r f := by
  unfold hDg gateGrad sgm act
  pointwise [k0_pay16, k0_pay14, k0_pay11, k0_pay12, k0_pay13, k0_pay9]

theorem pay17_at (r : Fin 256) (f : Fin 704) :
    k0_pay17 (F := Ideal) (k0_pay9 D W) (k0_pay11 G) (k0_pay12 G) (ix3 0 r f) = hDu D W G r f := by
  unfold hDu upGrad sgm act
  pointwise [k0_pay17, k0_pay15, k0_pay11, k0_pay12, k0_pay9]

theorem pay18_at (r : Fin 256) (j : Fin 1024) :
    k0_pay18 (F := Ideal) (k0_pay9 D W) (k0_pay11 G) (k0_pay12 G) (k0_pay13 D W U) v W5 W6 (ix2 r j)
      = v (ix2 r j) + (∑ f, hDg D W G U r f * W5 (ix3 0 f j) + ∑ f, hDu D W G r f * W6 (ix3 0 f j)) := by
  unfold hDg hDu gateGrad upGrad sgm act
  pointwise [k0_pay18, k0_pay15, k0_pay14, k0_pay11, k0_pay12, k0_pay13, k0_pay9]

theorem pay23_at (r : Fin 256) (f : Fin 704) :
    k0_pay23 (F := Ideal) (k0_pay10 D W) (k0_pay19 G) U (ix3 0 r f) = hDg D W G U r f := by
  unfold hDg gateGrad sgm act
  pointwise [k0_pay23, k0_pay21, k0_pay20, k0_pay19, k0_pay10]

theorem pay24_at (r : Fin 256) (f : Fin 704) :
    k0_pay24 (F := Ideal) (k0_pay10 D W) (k0_pay19 G) (ix3 0 r f) = hDu D W G r f := by
  unfold hDu upGrad sgm act
  pointwise [k0_pay24, k0_pay22, k0_pay20, k0_pay19, k0_pay10]

theorem pay25_at (r : Fin 256) (j : Fin 1024) :
    k0_pay1 (F := Ideal) v (k0_pay25 (k0_pay10 D W) (k0_pay19 G) U W5 W6) (ix2 r j)
      = v (ix2 r j) + (∑ f, hDg D W G U r f * W5 (ix3 0 f j) + ∑ f, hDu D W G r f * W6 (ix3 0 f j)) := by
  unfold hDg hDu gateGrad upGrad sgm act
  pointwise [k0_pay1, k0_pay25, k0_pay22, k0_pay21, k0_pay20, k0_pay19, k0_pay10]
end

theorem pay6_at (X : Vec Ideal S512x1024 .f32) (r : Fin 512) (k : Fin 1024) : k0_pay6 (F := Ideal) X (ix2 r k) = X (ix2 r k) := by pointwise [k0_pay6]
theorem pay7_at (r : Fin 512) (k : Fin 1024) : k0_pay7 (F := Ideal) (ix2 r k) = 0 := by pointwise [k0_pay7]
theorem pay8_at (u : Fin 1) (k : Fin 1024) : k0_pay8 (F := Ideal) (ix2 u k) = 0 := by pointwise [k0_pay8]

/-- The norm's gradient in its input, from the tile's rows of the normalised row's cotangent. -/
theorem pay4_at (H X1 X0 : Vec Ideal S512x1024 .f32) (X2 : Vec Ideal S1x1024 .f32) (r : Fin 512) (j : Fin 1024) :
    k0_pay4 (F := Ideal) H X1 X2 X0 (ix2 r j)
      = X0 (ix2 r j) + rmsDx (fun i k => H (ix2 i k)) (fun i k => X1 (ix2 i k)) (fun k => X2 (ix2 0 k)) r j := by
  unfold rmsDx rinv
  pointwise [k0_pay4, k0_pay3, k0_pay2]

/-- The gains' gradient gains the tile's rows. -/
theorem pay5_at (H X1 : Vec Ideal S512x1024 .f32) (N : Vec Ideal S1x1024 .f32) (u : Fin 1) (j : Fin 1024) :
    k0_pay5 (F := Ideal) H X1 N (ix2 u j) = N (ix2 u j) + rmsDg (fun i k => H (ix2 i k)) (fun i k => X1 (ix2 i k)) j := by
  unfold rmsDg rinv
  pointwise [k0_pay5, k0_pay3, k0_pay2]

end Cert.FfnBwd

end
-- ==== Proof.Stores3.lean ====
/- Contents of a three-dimensional buffer after stores through unit-stride rectangles, read at an index. -/
module

public import Idealize.ShloMosaic.Lib.Pointwise
public import Idealize.ShloMosaic.Lib.Pipeline.ValueKit

@[expose] public section

noncomputable section

namespace Cert.Grad

open Idealize.ShloMosaic Idealize.SL.Sem

variable {Val : EltTy → Type} [∀ e, Nonempty (Val e)] {e : EltTy} {Z A B : ℕ}

/-- An index of a unit-stride rectangle, placed. -/
theorem emb_ix3 {o0 o1 o2 n0 n1 n2 : ℕ} (inb) (q : Fin n0) (r : Fin n1) (c : Fin n2) (Q : Fin Z) (R : Fin A) (C : Fin B)
    (hQ : Q.val = o0 + q.val) (hR : R.val = o1 + r.val) (hC : C.val = o2 + c.val) :
    ix3 Q R C = (Rect.unit (s := ⟨3, ![Z, A, B]⟩) ![o0, o1, o2] ![n0, n1, n2] inb).emb (ix3 q r c) :=
  funext fun a => Fin.ext (by
    refine Eq.trans ?_ (Rect.idx_unit_val (s := ⟨3, ![Z, A, B]⟩) ![o0, o1, o2] ![n0, n1, n2] inb (ix3 q r c) a).symm
    match a with
    | 0 => exact hQ
    | 1 => exact hR
    | 2 => exact hC)

/-- An index off a unit-stride rectangle, by its rows. -/
theorem not_mem_ix3 {o0 o1 o2 n0 n1 n2 : ℕ} (inb) (Q : Fin Z) (R : Fin A) (C : Fin B) (h : R.val < o1 ∨ o1 + n1 ≤ R.val) :
    (ix3 Q R C : (⟨3, ![Z, A, B]⟩ : Shape).Idx) ∉ (Rect.unit (s := ⟨3, ![Z, A, B]⟩) ![o0, o1, o2] ![n0, n1, n2] inb).set := fun hm => by
  obtain ⟨x, hx⟩ := (Rect.unit (s := ⟨3, ![Z, A, B]⟩) ![o0, o1, o2] ![n0, n1, n2] inb).exists_idx_of_mem hm
  have h1 : R.val = o1 + (x 1).val := (congrArg (fun f : (⟨3, ![Z, A, B]⟩ : Shape).Idx => (f 1).val) hx).symm.trans (Rect.idx_unit_val (s := ⟨3, ![Z, A, B]⟩) ![o0, o1, o2] ![n0, n1, n2] inb x 1)
  have b1 : (x 1).val < n1 := (x 1).isLt
  omega

theorem canon_in3 {o0 o1 o2 n0 n1 n2 : ℕ} (inb) (w : (Rect.unit (s := ⟨3, ![Z, A, B]⟩) ![o0, o1, o2] ![n0, n1, n2] inb).shape.Idx → Val e)
    (L : List (View.Piece Val ⟨3, ![Z, A, B]⟩ e)) (q : Fin n0) (r : Fin n1) (c : Fin n2) (Q : Fin Z) (R : Fin A) (C : Fin B)
    (hQ : Q.val = o0 + q.val) (hR : R.val = o1 + r.val) (hC : C.val = o2 + c.val) :
    View.canon (⟨Rect.unit (s := ⟨3, ![Z, A, B]⟩) ![o0, o1, o2] ![n0, n1, n2] inb, w⟩ :: L) (ix3 Q R C) = w (ix3 q r c) := by
  rw [emb_ix3 inb q r c Q R C hQ hR hC]
  exact View.canon_cons_emb _ _ _ _

theorem canon_out3 {o0 o1 o2 n0 n1 n2 : ℕ} (inb) (w : (Rect.unit (s := ⟨3, ![Z, A, B]⟩) ![o0, o1, o2] ![n0, n1, n2] inb).shape.Idx → Val e)
    (L : List (View.Piece Val ⟨3, ![Z, A, B]⟩ e)) (Q : Fin Z) (R : Fin A) (C : Fin B) (h : R.val < o1 ∨ o1 + n1 ≤ R.val) :
    View.canon (⟨Rect.unit (s := ⟨3, ![Z, A, B]⟩) ![o0, o1, o2] ![n0, n1, n2] inb, w⟩ :: L) (ix3 Q R C) = View.canon L (ix3 Q R C) :=
  View.canon_cons_of_not_mem _ _ (not_mem_ix3 inb Q R C h)

theorem ld_at3 {o0 o1 o2 n0 n1 n2 : ℕ} (inb) (X : (⟨3, ![Z, A, B]⟩ : Shape).Idx → Val e)
    (q : Fin n0) (r : Fin n1) (c : Fin n2) (Q : Fin Z) (R : Fin A) (C : Fin B)
    (hQ : Q.val = o0 + q.val) (hR : R.val = o1 + r.val) (hC : C.val = o2 + c.val) :
    View.ld X (Rect.unit (s := ⟨3, ![Z, A, B]⟩) ![o0, o1, o2] ![n0, n1, n2] inb) (ix3 q r c) = X (ix3 Q R C) := by
  rw [emb_ix3 inb q r c Q R C hQ hR hC]
  rfl

end Cert.Grad

end
-- ==== Proof.FfnTile.lean ====
/- The arrays the FFN's gradient kernel reads, and its blocks at a point: point `t` works on tile `t / 4` and shard `t % 4`. -/
module

public import proofs.«01_k».proof.Proof.FfnBlock
public import proofs.«01_k».proof.Proof.Stores
public import proofs.«01_k».proof.Proof.Stores3
public import proofs.«01_k».proof.Proof.Gen.FfnIdeal.Value

@[expose] public section

set_option maxRecDepth 16384

noncomputable section

namespace Cert.FfnBwd

open Idealize.ShloMosaic Idealize.ShloMosaic.TcCoe Idealize.SL.Sem Cert.Grad
open Idealize.ShloMosaic.Pipeline (Dat)
open Cert.FfnIdeal Cert.FfnIdeal.Gen

/-- Row `r` of tile `b`. -/
def row (b : Fin 16) (r : Fin 512) : Fin 8192 := ⟨512 * b.val + r.val, by omega⟩

/-- The rows of a tile's first half, -/
def lo (r : Fin 256) : Fin 512 := ⟨r.val, by omega⟩
/-- and of its second. -/
def hi (r : Fin 256) : Fin 512 := ⟨256 + r.val, by omega⟩

variable (m : (ℓ : Loc nD τ sig) → Buf (Elt Ideal) ℓ) (c : Dev nD)

/-- The cotangent of the layer's output, -/
def aDxo (i : Fin 8192) (k : Fin 1024) : EReal := (m ((c : Thread nD τ).loc main_arg0) : S8192x1024.Idx → EReal) (ix2 i k)
/-- the layer's input, -/
def aX (i : Fin 8192) (k : Fin 1024) : EReal := (m ((c : Thread nD τ).loc main_arg1) : S8192x1024.Idx → EReal) (ix2 i k)
/-- the norm's gains, -/
def aG (k : Fin 1024) : EReal := (m ((c : Thread nD τ).loc main_arg2) : S1x1024.Idx → EReal) (ix2 0 k)
/-- the gate the forward pass saved, by shards, -/
def aGate (s : Fin 4) (i : Fin 8192) (f : Fin 704) : EReal := (V m c main_v17 : S4x8192x704.Idx → EReal) (ix3 s i f)
/-- the up-projection it saved, -/
def aUp (s : Fin 4) (i : Fin 8192) (f : Fin 704) : EReal := (V m c main_v21 : S4x8192x704.Idx → EReal) (ix3 s i f)
/-- the gate's weight transposed, -/
def aWg (s : Fin 4) (f : Fin 704) (k : Fin 1024) : EReal := (V m c main_v24 : S4x704x1024.Idx → EReal) (ix3 s f k)
/-- the up-projection's, -/
def aWu (s : Fin 4) (f : Fin 704) (k : Fin 1024) : EReal := (V m c main_v27 : S4x704x1024.Idx → EReal) (ix3 s f k)
/-- and the down-projection's weight. -/
def aWd (s : Fin 4) (f : Fin 704) (k : Fin 1024) : EReal := (V m c main_v29 : S4x704x1024.Idx → EReal) (ix3 s f k)

/-- The tile of a point, -/
def tile (t : Fin cfg0.N) : Fin 16 := ⟨t.val / 4, by have h : t.val < 64 := lt_of_lt_of_eq t.isLt N_0; omega⟩
/-- and its shard. -/
def shard (t : Fin cfg0.N) : Fin 4 := ⟨t.val % 4, by omega⟩

theorem idx : ∀ t : Fin cfg0.N, win0_0.index t = ![t.val / 4, 0] ∧ win0_1.index t = ![t.val / 4, 0] ∧ win0_2.index t = ![0, 0]
    ∧ win0_3.index t = ![t.val % 4, t.val / 4, 0] ∧ win0_4.index t = ![t.val % 4, t.val / 4, 0] ∧ win0_5.index t = ![t.val % 4, 0, 0]
    ∧ win0_6.index t = ![t.val % 4, 0, 0] ∧ win0_7.index t = ![t.val % 4, 0, 0] ∧ win0_8.index t = ![t.val % 4, t.val / 4, 0]
    ∧ win0_9.index t = ![t.val % 4, t.val / 4, 0] ∧ win0_10.index t = ![t.val / 4, 0] ∧ win0_11.index t = ![0, 0] :=
  (by decide +kernel : ∀ t : Fin grid0.N, _)

section
variable (t : Fin cfg0.N)

theorem blk0 (r : Fin 512) (k : Fin 1024) : (iblk m c 0 t : Vec Ideal S512x1024 .f32) (ix2 r k) = aDxo m c (row (tile t) r) k := by
  unfold aDxo row tile; blk_point [iblk, V, idx t]
theorem blk1 (r : Fin 512) (k : Fin 1024) : (iblk m c 1 t : Vec Ideal S512x1024 .f32) (ix2 r k) = aX m c (row (tile t) r) k := by
  unfold aX row tile; blk_point [iblk, V, idx t]
theorem blk2 (k : Fin 1024) : (iblk m c 2 t : Vec Ideal S1x1024 .f32) (ix2 0 k) = aG m c k := by
  unfold aG; blk_point [iblk, V, idx t]
theorem blk3 (r : Fin 512) (f : Fin 704) : (iblk m c 3 t : Vec Ideal S1x512x704 .bf16) (ix3 0 r f) = aGate m c (shard t) (row (tile t) r) f := by
  unfold aGate row tile shard; blk_simp [iblk, idx t]; blk_ext [idx t]
theorem blk4 (r : Fin 512) (f : Fin 704) : (iblk m c 4 t : Vec Ideal S1x512x704 .bf16) (ix3 0 r f) = aUp m c (shard t) (row (tile t) r) f := by
  unfold aUp row tile shard; blk_simp [iblk, idx t]; blk_ext [idx t]
theorem blk5 (f : Fin 704) (k : Fin 1024) : (iblk m c 5 t : Vec Ideal S1x704x1024 .bf16) (ix3 0 f k) = aWg m c (shard t) f k := by
  unfold aWg shard; blk_simp [iblk, idx t]; blk_ext [idx t]
theorem blk6 (f : Fin 704) (k : Fin 1024) : (iblk m c 6 t : Vec Ideal S1x704x1024 .bf16) (ix3 0 f k) = aWu m c (shard t) f k := by
  unfold aWu shard; blk_simp [iblk, idx t]; blk_ext [idx t]
theorem blk7 (f : Fin 704) (k : Fin 1024) : (iblk m c 7 t : Vec Ideal S1x704x1024 .bf16) (ix3 0 f k) = aWd m c (shard t) f k := by
  unfold aWd shard; blk_simp [iblk, idx t]; blk_ext [idx t]
end

/-- The activation's cotangent, -/
def gAct (s : Fin 4) (R : Fin 8192) (f : Fin 704) : EReal := ∑ k, aDxo m c R k * aWd m c s f k
/-- the gate's, -/
def gDg (s : Fin 4) (R : Fin 8192) (f : Fin 704) : EReal := gateGrad (gAct m c s R f) (aGate m c s R f) (aUp m c s R f)
/-- the up-projection's, -/
def gDu (s : Fin 4) (R : Fin 8192) (f : Fin 704) : EReal := upGrad (gAct m c s R f) (aGate m c s R f)
/-- and a shard's share of the normalised row's. -/
def gDh (s : Fin 4) (R : Fin 8192) (j : Fin 1024) : EReal := ∑ f, gDg m c s R f * aWg m c s f j + ∑ f, gDu m c s R f * aWu m c s f j

section
variable (t : Fin cfg0.N) (D : Vec Ideal S256x1024 .bf16) (p : Fin 256 → Fin 512) (hD : ∀ r k, D (ix2 r k) = aDxo m c (row (tile t) (p r)) k)
  (G U : Vec Ideal S1x256x704 .bf16)
  (hG : ∀ r f, G (ix3 0 r f) = aGate m c (shard t) (row (tile t) (p r)) f) (hU : ∀ r f, U (ix3 0 r f) = aUp m c (shard t) (row (tile t) (p r)) f)
include hD

theorem act_at (r : Fin 256) (f : Fin 704) : act D (iblk m c 7 t) r f = gAct m c (shard t) (row (tile t) (p r)) f := by
  unfold act gAct
  exact Finset.sum_congr rfl fun k _ => congrArg₂ (· * ·) (hD r k) (blk7 m c t f k)

include hG

theorem hDu_at (r : Fin 256) (f : Fin 704) : hDu D (iblk m c 7 t) G r f = gDu m c (shard t) (row (tile t) (p r)) f := by
  unfold hDu gDu
  rw [act_at m c t D p hD, hG]

include hU

theorem hDg_at (r : Fin 256) (f : Fin 704) : hDg D (iblk m c 7 t) G U r f = gDg m c (shard t) (row (tile t) (p r)) f := by
  unfold hDg gDg
  rw [act_at m c t D p hD, hG, hU]

theorem half_dh (r : Fin 256) (j : Fin 1024) :
    (∑ f, hDg D (iblk m c 7 t) G U r f * (iblk m c 5 t : Vec Ideal S1x704x1024 .bf16) (ix3 0 f j)
      + ∑ f, hDu D (iblk m c 7 t) G r f * (iblk m c 6 t : Vec Ideal S1x704x1024 .bf16) (ix3 0 f j) : EReal)
      = gDh m c (shard t) (row (tile t) (p r)) j := by
  unfold gDh
  exact congrArg₂ (· + ·)
    (Finset.sum_congr rfl fun f _ => congrArg₂ (· * ·) (hDg_at m c t D p hD G U hG hU r f) (blk5 m c t f j))
    (Finset.sum_congr rfl fun f _ => congrArg₂ (· * ·) (hDu_at m c t D p hD G hG r f) (blk6 m c t f j))
end

end Cert.FfnBwd

end
-- ==== Proof.FfnPoint.lean ====
/- What the FFN's gradient kernel leaves at each point of its grid. -/
module

public import proofs.«01_k».proof.Proof.FfnTile

@[expose] public section

set_option maxRecDepth 16384

noncomputable section

namespace Cert.FfnBwd

open Idealize.ShloMosaic Idealize.ShloMosaic.TcCoe Idealize.SL.Sem Cert.Grad
open Idealize.ShloMosaic.Pipeline (Dat)
open Cert.FfnIdeal Cert.FfnIdeal.Gen

/-- A block stored in two halves. -/
theorem two3 (inb1 inb0) (w1 : Vec Ideal S1x256x704 .bf16) (w0 : Vec Ideal S1x256x704 .bf16) (F : Fin 512 → Fin 704 → EReal)
    (h1 : ∀ r f, w1 (ix3 0 r f) = F (hi r) f) (h0 : ∀ r f, w0 (ix3 0 r f) = F (lo r) f) (r : Fin 512) (f : Fin 704) :
    (View.canon (Val := Elt Ideal) (s := S1x512x704) (e := .bf16) [⟨Rect.unit (s := S1x512x704) ![0, 256, 0] ![1, 256, 704] inb1, w1⟩,
      ⟨Rect.unit (s := S1x512x704) ![0, 0, 0] ![1, 256, 704] inb0, w0⟩] (ix3 0 r f) : EReal) = F r f := by
  by_cases h : r.val < 256
  · refine (canon_out3 inb1 w1 _ 0 r f (Or.inl h)).trans ((canon_in3 inb0 w0 _ 0 ⟨r.val, h⟩ f 0 r f rfl (Nat.zero_add _).symm (Nat.zero_add _).symm).trans (h0 _ f))
  · have hr : r.val - 256 < 256 := by omega
    refine (canon_in3 inb1 w1 _ 0 ⟨r.val - 256, hr⟩ f 0 r f rfl (by show r.val = 256 + (r.val - 256); omega) (Nat.zero_add _).symm).trans ((h1 _ f).trans ?_)
    exact congrArg (fun i => F i f) (Fin.ext (by show 256 + (r.val - 256) = r.val; omega))

theorem two2 (inb1 inb0) (w1 w0 : Vec Ideal S256x1024 .f32) (L) (F : Fin 512 → Fin 1024 → EReal)
    (h1 : ∀ r j, w1 (ix2 r j) = F (hi r) j) (h0 : ∀ r j, w0 (ix2 r j) = F (lo r) j) (r : Fin 512) (j : Fin 1024) :
    (View.canon (Val := Elt Ideal) (s := S512x1024) (e := .f32) (⟨Rect.unit (s := S512x1024) ![256, 0] ![256, 1024] inb1, w1⟩
      :: ⟨Rect.unit (s := S512x1024) ![0, 0] ![256, 1024] inb0, w0⟩ :: L) (ix2 r j) : EReal) = F r j := by
  by_cases h : r.val < 256
  · refine (canon_out inb1 w1 _ r j (Or.inl h)).trans ((canon_in inb0 w0 _ ⟨r.val, h⟩ j r j (Nat.zero_add _).symm (Nat.zero_add _).symm).trans (h0 _ j))
  · have hr : r.val - 256 < 256 := by omega
    refine (canon_in inb1 w1 _ ⟨r.val - 256, hr⟩ j r j (by show r.val = 256 + (r.val - 256); omega) (Nat.zero_add _).symm).trans ((h1 _ j).trans ?_)
    exact congrArg (fun i => F i j) (Fin.ext (by show 256 + (r.val - 256) = r.val; omega))

variable (m : (ℓ : Loc nD τ sig) → Buf (Elt Ideal) ℓ) (c : Dev nD)

section
variable (t : Fin cfg0.N)

theorem ld3_lo (inb) (r : Fin 256) (f : Fin 704) :
    (View.ld (Val := Elt Ideal) (e' := .bf16) (iblk m c 3 t) (Rect.unit (s := S1x512x704) ![0, 0, 0] ![1, 256, 704] inb) (ix3 0 r f) : EReal)
      = aGate m c (shard t) (row (tile t) (lo r)) f :=
  (ld_at3 inb _ 0 r f 0 (lo r) f rfl (Nat.zero_add _).symm (Nat.zero_add _).symm).trans (blk3 m c t (lo r) f)
theorem ld3_hi (inb) (r : Fin 256) (f : Fin 704) :
    (View.ld (Val := Elt Ideal) (e' := .bf16) (iblk m c 3 t) (Rect.unit (s := S1x512x704) ![0, 256, 0] ![1, 256, 704] inb) (ix3 0 r f) : EReal)
      = aGate m c (shard t) (row (tile t) (hi r)) f :=
  (ld_at3 inb _ 0 r f 0 (hi r) f rfl rfl (Nat.zero_add _).symm).trans (blk3 m c t (hi r) f)
theorem ld4_lo (inb) (r : Fin 256) (f : Fin 704) :
    (View.ld (Val := Elt Ideal) (e' := .bf16) (iblk m c 4 t) (Rect.unit (s := S1x512x704) ![0, 0, 0] ![1, 256, 704] inb) (ix3 0 r f) : EReal)
      = aUp m c (shard t) (row (tile t) (lo r)) f :=
  (ld_at3 inb _ 0 r f 0 (lo r) f rfl (Nat.zero_add _).symm (Nat.zero_add _).symm).trans (blk4 m c t (lo r) f)
theorem ld4_hi (inb) (r : Fin 256) (f : Fin 704) :
    (View.ld (Val := Elt Ideal) (e' := .bf16) (iblk m c 4 t) (Rect.unit (s := S1x512x704) ![0, 256, 0] ![1, 256, 704] inb) (ix3 0 r f) : EReal)
      = aUp m c (shard t) (row (tile t) (hi r)) f :=
  (ld_at3 inb _ 0 r f 0 (hi r) f rfl rfl (Nat.zero_add _).symm).trans (blk4 m c t (hi r) f)

/-- The kept cotangent read back in the point that stores it, -/
theorem cov_lo (inb inb') (r : Fin 256) (k : Fin 1024) :
    ((View.whole cc0_scratch0).readCov (Val := Elt Ideal) [⟨Rect.unit (s := S512x1024) ![0, 0] ![512, 1024] inb', k0_pay6 (F := Ideal) (iblk m c 0 t)⟩]
      (Rect.unit (s := S512x1024) ![0, 0] ![256, 1024] inb).toLoadRect (ix2 r k) : EReal) = aDxo m c (row (tile t) (lo r)) k :=
  (readCov_at (View.whole cc0_scratch0) inb _ r k (lo r) k (Nat.zero_add _).symm (Nat.zero_add _).symm).trans
    ((canon_in inb' _ _ (lo r) k (lo r) k (Nat.zero_add _).symm (Nat.zero_add _).symm).trans ((pay6_at _ _ _).trans (blk0 m c t _ _)))
theorem cov_hi (inb inb') (r : Fin 256) (k : Fin 1024) :
    ((View.whole cc0_scratch0).readCov (Val := Elt Ideal) [⟨Rect.unit (s := S512x1024) ![0, 0] ![512, 1024] inb', k0_pay6 (F := Ideal) (iblk m c 0 t)⟩]
      (Rect.unit (s := S512x1024) ![256, 0] ![256, 1024] inb).toLoadRect (ix2 r k) : EReal) = aDxo m c (row (tile t) (hi r)) k :=
  (readCov_at (View.whole cc0_scratch0) inb _ r k (hi r) k rfl (Nat.zero_add _).symm).trans
    ((canon_in inb' _ _ (hi r) k (hi r) k (Nat.zero_add _).symm (Nat.zero_add _).symm).trans ((pay6_at _ _ _).trans (blk0 m c t _ _)))

/-- and the running sum, zero there. -/
theorem zero_lo (inb inb') (r : Fin 256) (k : Fin 1024) :
    ((View.whole cc0_scratch1).readCov (Val := Elt Ideal) [⟨Rect.unit (s := S512x1024) ![0, 0] ![512, 1024] inb', k0_pay7 (F := Ideal)⟩]
      (Rect.unit (s := S512x1024) ![0, 0] ![256, 1024] inb).toLoadRect (ix2 r k) : EReal) = (0 : EReal) :=
  (readCov_at (View.whole cc0_scratch1) inb _ r k (lo r) k (Nat.zero_add _).symm (Nat.zero_add _).symm).trans
    ((canon_in inb' _ _ (lo r) k (lo r) k (Nat.zero_add _).symm (Nat.zero_add _).symm).trans (pay7_at _ _))
theorem zero_hi (inb inb' inb0) (w0 : Vec Ideal S256x1024 .f32) (r : Fin 256) (k : Fin 1024) :
    ((View.whole cc0_scratch1).readCov (Val := Elt Ideal) [⟨Rect.unit (s := S512x1024) ![0, 0] ![256, 1024] inb0, w0⟩, ⟨Rect.unit (s := S512x1024) ![0, 0] ![512, 1024] inb', k0_pay7 (F := Ideal)⟩]
      (Rect.unit (s := S512x1024) ![256, 0] ![256, 1024] inb).toLoadRect (ix2 r k) : EReal) = (0 : EReal) :=
  (readCov_at (View.whole cc0_scratch1) inb _ r k (hi r) k rfl (Nat.zero_add _).symm).trans
    ((canon_out inb0 w0 _ (hi r) k (Or.inr (Or.inl (by show 0 + 256 ≤ 256 + r.val; omega)))).trans
    ((canon_in inb' _ _ (hi r) k (hi r) k (Nat.zero_add _).symm (Nat.zero_add _).symm).trans (pay7_at _ _)))

section
variable {t}
variable (h0 : t.val % 4 = 0)
include h0

theorem dxb_new (r : Fin 512) (k : Fin 1024) : ((outsAt0 m c t.val t.isLt).2.2.2.2.1 (ix2 r k) : EReal) = aDxo m c (row (tile t) r) k := by
  by_cases h1 : t.val % 64 = 0
  · rw [outsAt0_A m c t h0 h1 (by omega)]
    frame_out
    exact (pay6_at _ _ _).trans (blk0 m c t _ _)
  · rw [outsAt0_D m c t h0 h1 (by omega)]
    frame_out
    exact (pay6_at _ _ _).trans (blk0 m c t _ _)

theorem dg_new (r : Fin 512) (f : Fin 704) : ((outsAt0 m c t.val t.isLt).1 (ix3 0 r f) : EReal) = gDg m c (shard t) (row (tile t) r) f := by
  by_cases h1 : t.val % 64 = 0
  · rw [outsAt0_A m c t h0 h1 (by omega)]
    frame_out
    exact two3 _ _ _ _ (fun r f => gDg m c (shard t) (row (tile t) r) f)
      (fun r f => (pay23_at _ _ _ _ r f).trans (hDg_at m c t _ hi (cov_hi m c t _ _) _ _ (ld3_hi m c t _) (ld4_hi m c t _) r f))
      (fun r f => (pay16_at _ _ _ _ r f).trans (hDg_at m c t _ lo (cov_lo m c t _ _) _ _ (ld3_lo m c t _) (ld4_lo m c t _) r f)) r f
  · rw [outsAt0_D m c t h0 h1 (by omega)]
    frame_out
    exact two3 _ _ _ _ (fun r f => gDg m c (shard t) (row (tile t) r) f)
      (fun r f => (pay23_at _ _ _ _ r f).trans (hDg_at m c t _ hi (cov_hi m c t _ _) _ _ (ld3_hi m c t _) (ld4_hi m c t _) r f))
      (fun r f => (pay16_at _ _ _ _ r f).trans (hDg_at m c t _ lo (cov_lo m c t _ _) _ _ (ld3_lo m c t _) (ld4_lo m c t _) r f)) r f

theorem du_new (r : Fin 512) (f : Fin 704) : ((outsAt0 m c t.val t.isLt).2.1 (ix3 0 r f) : EReal) = gDu m c (shard t) (row (tile t) r) f := by
  by_cases h1 : t.val % 64 = 0
  · rw [outsAt0_A m c t h0 h1 (by omega)]
    frame_out
    exact two3 _ _ _ _ (fun r f => gDu m c (shard t) (row (tile t) r) f)
      (fun r f => (pay24_at _ _ _ r f).trans (hDu_at m c t _ hi (cov_hi m c t _ _) _ (ld3_hi m c t _) r f))
      (fun r f => (pay17_at _ _ _ r f).trans (hDu_at m c t _ lo (cov_lo m c t _ _) _ (ld3_lo m c t _) r f)) r f
  · rw [outsAt0_D m c t h0 h1 (by omega)]
    frame_out
    exact two3 _ _ _ _ (fun r f => gDu m c (shard t) (row (tile t) r) f)
      (fun r f => (pay24_at _ _ _ r f).trans (hDu_at m c t _ hi (cov_hi m c t _ _) _ (ld3_hi m c t _) r f))
      (fun r f => (pay17_at _ _ _ r f).trans (hDu_at m c t _ lo (cov_lo m c t _ _) _ (ld3_lo m c t _) r f)) r f

theorem dh_new (r : Fin 512) (j : Fin 1024) : ((outsAt0 m c t.val t.isLt).2.2.2.2.2 (ix2 r j) : EReal) = (0 : EReal) + gDh m c (shard t) (row (tile t) r) j := by
  by_cases h1 : t.val % 64 = 0
  · rw [outsAt0_A m c t h0 h1 (by omega)]
    frame_out
    exact two2 _ _ _ _ _ (fun r j => 0 + gDh m c (shard t) (row (tile t) r) j)
      (fun r j => (pay25_at _ _ _ _ _ _ _ r j).trans (congrArg₂ (· + ·) (zero_hi _ _ _ _ r j) (half_dh m c t _ hi (cov_hi m c t _ _) _ _ (ld3_hi m c t _) (ld4_hi m c t _) r j)))
      (fun r j => (pay18_at _ _ _ _ _ _ _ r j).trans (congrArg₂ (· + ·) (zero_lo _ _ r j) (half_dh m c t _ lo (cov_lo m c t _ _) _ _ (ld3_lo m c t _) (ld4_lo m c t _) r j))) r j
  · rw [outsAt0_D m c t h0 h1 (by omega)]
    frame_out
    exact two2 _ _ _ _ _ (fun r j => 0 + gDh m c (shard t) (row (tile t) r) j)
      (fun r j => (pay25_at _ _ _ _ _ _ _ r j).trans (congrArg₂ (· + ·) (zero_hi _ _ _ _ r j) (half_dh m c t _ hi (cov_hi m c t _ _) _ _ (ld3_hi m c t _) (ld4_hi m c t _) r j)))
      (fun r j => (pay18_at _ _ _ _ _ _ _ r j).trans (congrArg₂ (· + ·) (zero_lo _ _ r j) (half_dh m c t _ lo (cov_lo m c t _ _) _ _ (ld3_lo m c t _) (ld4_lo m c t _) r j))) r j
end
/-- What the point before left, read in halves. -/
theorem old_lo (hm : (Memref.whole cc0_scratch0).IsWhole) (X : Vec Ideal S512x1024 .bf16) (F : Fin 512 → Fin 1024 → EReal) (hX : ∀ r k, X (ix2 r k) = F r k)
    (inb) (r : Fin 256) (k : Fin 1024) :
    (View.ld (Val := Elt Ideal) (e' := .bf16) ((View.whole cc0_scratch0).read (Elt Ideal) (hm.unread X)) (Rect.unit (s := S512x1024) ![0, 0] ![256, 1024] inb) (ix2 r k) : EReal) = F (lo r) k :=
  (ld_at inb _ r k (lo r) k (Nat.zero_add _).symm (Nat.zero_add _).symm).trans ((congrFun (hm.read_unread X) _).trans (hX _ _))
theorem old_hi (hm : (Memref.whole cc0_scratch0).IsWhole) (X : Vec Ideal S512x1024 .bf16) (F : Fin 512 → Fin 1024 → EReal) (hX : ∀ r k, X (ix2 r k) = F r k)
    (inb) (r : Fin 256) (k : Fin 1024) :
    (View.ld (Val := Elt Ideal) (e' := .bf16) ((View.whole cc0_scratch0).read (Elt Ideal) (hm.unread X)) (Rect.unit (s := S512x1024) ![256, 0] ![256, 1024] inb) (ix2 r k) : EReal) = F (hi r) k :=
  (ld_at inb _ r k (hi r) k rfl (Nat.zero_add _).symm).trans ((congrFun (hm.read_unread X) _).trans (hX _ _))
theorem sum_lo (hm : (Memref.whole cc0_scratch1).IsWhole) (X : Vec Ideal S512x1024 .f32) (inb) (r : Fin 256) (k : Fin 1024) :
    (View.ld (Val := Elt Ideal) (e' := .f32) ((View.whole cc0_scratch1).read (Elt Ideal) (hm.unread X)) (Rect.unit (s := S512x1024) ![0, 0] ![256, 1024] inb) (ix2 r k) : EReal) = X (ix2 (lo r) k) :=
  (ld_at inb _ r k (lo r) k (Nat.zero_add _).symm (Nat.zero_add _).symm).trans (congrFun (hm.read_unread X) _)
theorem sum_hi (hm : (Memref.whole cc0_scratch1).IsWhole) (X : Vec Ideal S512x1024 .f32) (inb) (r : Fin 256) (k : Fin 1024) :
    (View.ld (Val := Elt Ideal) (e' := .f32) ((View.whole cc0_scratch1).read (Elt Ideal) (hm.unread X)) (Rect.unit (s := S512x1024) ![256, 0] ![256, 1024] inb) (ix2 r k) : EReal) = X (ix2 (hi r) k) :=
  (ld_at inb _ r k (hi r) k rfl (Nat.zero_add _).symm).trans (congrFun (hm.read_unread X) _)

section
variable {t}
variable (h0 : ¬ t.val % 4 = 0)
include h0

theorem dxb_keep (r : Fin 512) (k : Fin 1024) :
    ((outsAt0 m c t.val t.isLt).2.2.2.2.1 (ix2 r k) : EReal) = (outsAt0 m c (t.val - 1) (Nat.lt_of_le_of_lt (Nat.sub_le _ _) t.isLt)).2.2.2.2.1 (ix2 r k) := by
  have h1 : ¬ t.val % 64 = 0 := by omega
  by_cases h2 : t.val % 4 = 3
  · rw [outsAt0_C m c t h0 h1 h2]
    rfl
  · rw [outsAt0_B m c t h0 h1 h2]
    rfl

variable (hX : ∀ r k, ((outsAt0 m c (t.val - 1) (Nat.lt_of_le_of_lt (Nat.sub_le _ _) t.isLt)).2.2.2.2.1 (ix2 r k) : EReal) = aDxo m c (row (tile t) r) k)
include hX

theorem dg_keep (r : Fin 512) (f : Fin 704) : ((outsAt0 m c t.val t.isLt).1 (ix3 0 r f) : EReal) = gDg m c (shard t) (row (tile t) r) f := by
  have h1 : ¬ t.val % 64 = 0 := by omega
  by_cases h2 : t.val % 4 = 3
  · rw [outsAt0_C m c t h0 h1 h2]
    frame_out
    exact two3 _ _ _ _ (fun r f => gDg m c (shard t) (row (tile t) r) f)
      (fun r f => (pay23_at _ _ _ _ r f).trans (hDg_at m c t _ hi (old_hi _ _ _ hX _) _ _ (ld3_hi m c t _) (ld4_hi m c t _) r f))
      (fun r f => (pay16_at _ _ _ _ r f).trans (hDg_at m c t _ lo (old_lo _ _ _ hX _) _ _ (ld3_lo m c t _) (ld4_lo m c t _) r f)) r f
  · rw [outsAt0_B m c t h0 h1 h2]
    frame_out
    exact two3 _ _ _ _ (fun r f => gDg m c (shard t) (row (tile t) r) f)
      (fun r f => (pay23_at _ _ _ _ r f).trans (hDg_at m c t _ hi (old_hi _ _ _ hX _) _ _ (ld3_hi m c t _) (ld4_hi m c t _) r f))
      (fun r f => (pay16_at _ _ _ _ r f).trans (hDg_at m c t _ lo (old_lo _ _ _ hX _) _ _ (ld3_lo m c t _) (ld4_lo m c t _) r f)) r f

theorem du_keep (r : Fin 512) (f : Fin 704) : ((outsAt0 m c t.val t.isLt).2.1 (ix3 0 r f) : EReal) = gDu m c (shard t) (row (tile t) r) f := by
  have h1 : ¬ t.val % 64 = 0 := by omega
  by_cases h2 : t.val % 4 = 3
  · rw [outsAt0_C m c t h0 h1 h2]
    frame_out
    exact two3 _ _ _ _ (fun r f => gDu m c (shard t) (row (tile t) r) f)
      (fun r f => (pay24_at _ _ _ r f).trans (hDu_at m c t _ hi (old_hi _ _ _ hX _) _ (ld3_hi m c t _) r f))
      (fun r f => (pay17_at _ _ _ r f).trans (hDu_at m c t _ lo (old_lo _ _ _ hX _) _ (ld3_lo m c t _) r f)) r f
  · rw [outsAt0_B m c t h0 h1 h2]
    frame_out
    exact two3 _ _ _ _ (fun r f => gDu m c (shard t) (row (tile t) r) f)
      (fun r f => (pay24_at _ _ _ r f).trans (hDu_at m c t _ hi (old_hi _ _ _ hX _) _ (ld3_hi m c t _) r f))
      (fun r f => (pay17_at _ _ _ r f).trans (hDu_at m c t _ lo (old_lo _ _ _ hX _) _ (ld3_lo m c t _) r f)) r f

theorem dh_keep (r : Fin 512) (j : Fin 1024) :
    ((outsAt0 m c t.val t.isLt).2.2.2.2.2 (ix2 r j) : EReal)
      = ((outsAt0 m c (t.val - 1) (Nat.lt_of_le_of_lt (Nat.sub_le _ _) t.isLt)).2.2.2.2.2 (ix2 r j) : EReal) + gDh m c (shard t) (row (tile t) r) j := by
  have h1 : ¬ t.val % 64 = 0 := by omega
  by_cases h2 : t.val % 4 = 3
  · rw [outsAt0_C m c t h0 h1 h2]
    frame_out
    exact two2 _ _ _ _ _ (fun r j => ((outsAt0 m c (t.val - 1) (Nat.lt_of_le_of_lt (Nat.sub_le _ _) t.isLt)).2.2.2.2.2 (ix2 r j) : EReal) + gDh m c (shard t) (row (tile t) r) j)
      (fun r j => (pay25_at _ _ _ _ _ _ _ r j).trans (congrArg₂ (· + ·) (sum_hi _ _ _ r j) (half_dh m c t _ hi (old_hi _ _ _ hX _) _ _ (ld3_hi m c t _) (ld4_hi m c t _) r j)))
      (fun r j => (pay18_at _ _ _ _ _ _ _ r j).trans (congrArg₂ (· + ·) (sum_lo _ _ _ r j) (half_dh m c t _ lo (old_lo _ _ _ hX _) _ _ (ld3_lo m c t _) (ld4_lo m c t _) r j))) r j
  · rw [outsAt0_B m c t h0 h1 h2]
    frame_out
    exact two2 _ _ _ _ _ (fun r j => ((outsAt0 m c (t.val - 1) (Nat.lt_of_le_of_lt (Nat.sub_le _ _) t.isLt)).2.2.2.2.2 (ix2 r j) : EReal) + gDh m c (shard t) (row (tile t) r) j)
      (fun r j => (pay25_at _ _ _ _ _ _ _ r j).trans (congrArg₂ (· + ·) (sum_hi _ _ _ r j) (half_dh m c t _ hi (old_hi _ _ _ hX _) _ _ (ld3_hi m c t _) (ld4_hi m c t _) r j)))
      (fun r j => (pay18_at _ _ _ _ _ _ _ r j).trans (congrArg₂ (· + ·) (sum_lo _ _ _ r j) (half_dh m c t _ lo (old_lo _ _ _ hX _) _ _ (ld3_lo m c t _) (ld4_lo m c t _) r j))) r j
end
end

end Cert.FfnBwd

end
-- ==== Proof.FfnArrays.lean ====
/- What the FFN kernel's four result arrays hold after its run. -/
module

public import proofs.«01_k».proof.Proof.FfnPoint

@[expose] public section

set_option maxRecDepth 16384

noncomputable section

namespace Cert.FfnBwd

open Idealize.ShloMosaic Idealize.ShloMosaic.TcCoe Idealize.SL.Sem Cert.Grad
open Idealize.ShloMosaic.Pipeline (Dat)
open Cert.FfnIdeal Cert.FfnIdeal.Gen

variable (m : (ℓ : Loc nD τ sig) → Buf (Elt Ideal) ℓ) (c : Dev nD)

/-- The cotangent of the normalised row, over all the shards. -/
def gDhAll (R : Fin 8192) (j : Fin 1024) : EReal := ∑ s, gDh m c s R j

/-- The layer's input gradient, -/
def gDx (R : Fin 8192) (j : Fin 1024) : EReal := aDxo m c R j + rmsDx (gDhAll m c) (aX m c) (aG m c) R j

/-- and the gains'. -/
def gDn (j : Fin 1024) : EReal := rmsDg (gDhAll m c) (aX m c) j

/-- A shard's share by its number. -/
def gDhN (i : ℕ) (R : Fin 8192) (j : Fin 1024) : EReal := if h : i < 4 then gDh m c ⟨i, h⟩ R j else 0

theorem tile_pred (n : ℕ) (h : n < cfg0.N) (h' : n - 1 < cfg0.N) (h0 : ¬ n % 4 = 0) : tile ⟨n - 1, h'⟩ = tile ⟨n, h⟩ :=
  Fin.ext (by show (n - 1) / 4 = n / 4; omega)

theorem dxb_tile (n : ℕ) : ∀ (h : n < cfg0.N) (r : Fin 512) (k : Fin 1024), ((outsAt0 m c n h).2.2.2.2.1 (ix2 r k) : EReal) = aDxo m c (row (tile ⟨n, h⟩) r) k := by
  induction n with
  | zero => exact fun h r k => dxb_new m c (t := ⟨0, h⟩) rfl r k
  | succ n ih =>
    intro h r k
    by_cases h0 : (n + 1) % 4 = 0
    · exact dxb_new m c (t := ⟨n + 1, h⟩) h0 r k
    · refine (dxb_keep m c (t := ⟨n + 1, h⟩) h0 r k).trans ((ih (Nat.lt_of_succ_lt h) r k).trans ?_)
      exact congrArg (fun b => aDxo m c (row b r) k) (tile_pred (n + 1) h _ h0)

/-- What a point finds kept. -/
theorem dxb_found (t : Fin cfg0.N) (h0 : ¬ t.val % 4 = 0) (r : Fin 512) (k : Fin 1024) :
    ((outsAt0 m c (t.val - 1) (Nat.lt_of_le_of_lt (Nat.sub_le _ _) t.isLt)).2.2.2.2.1 (ix2 r k) : EReal) = aDxo m c (row (tile t) r) k :=
  (dxb_tile m c (t.val - 1) _ r k).trans (congrArg (fun b => aDxo m c (row b r) k) (tile_pred t.val t.isLt _ h0))

theorem dg_tile (t : Fin cfg0.N) (r : Fin 512) (f : Fin 704) : ((outsAt0 m c t.val t.isLt).1 (ix3 0 r f) : EReal) = gDg m c (shard t) (row (tile t) r) f := by
  by_cases h0 : t.val % 4 = 0
  · exact dg_new m c h0 r f
  · exact dg_keep m c h0 (dxb_found m c t h0) r f

theorem du_tile (t : Fin cfg0.N) (r : Fin 512) (f : Fin 704) : ((outsAt0 m c t.val t.isLt).2.1 (ix3 0 r f) : EReal) = gDu m c (shard t) (row (tile t) r) f := by
  by_cases h0 : t.val % 4 = 0
  · exact du_new m c h0 r f
  · exact du_keep m c h0 (dxb_found m c t h0) r f

theorem gDhN_shard (t : Fin cfg0.N) (R : Fin 8192) (j : Fin 1024) : gDh m c (shard t) R j = gDhN m c (t.val % 4) R j := by
  unfold gDhN
  rw [dif_pos (by omega)]
  rfl

theorem dh_tile (n : ℕ) : ∀ (h : n < cfg0.N) (r : Fin 512) (j : Fin 1024),
    ((outsAt0 m c n h).2.2.2.2.2 (ix2 r j) : EReal) = ∑ i ∈ Finset.range (n % 4 + 1), gDhN m c i (row (tile ⟨n, h⟩) r) j := by
  have base : ∀ (t : Fin cfg0.N) (h0 : t.val % 4 = 0) (r : Fin 512) (j : Fin 1024),
      ((outsAt0 m c t.val t.isLt).2.2.2.2.2 (ix2 r j) : EReal) = ∑ i ∈ Finset.range (t.val % 4 + 1), gDhN m c i (row (tile t) r) j := fun t h0 r j => by
    refine (dh_new m c h0 r j).trans ((zero_add _).trans ?_)
    rw [gDhN_shard, h0, Finset.sum_range_one]
  induction n with
  | zero => exact fun h r j => base ⟨0, h⟩ rfl r j
  | succ n ih =>
    intro h r j
    by_cases h0 : (n + 1) % 4 = 0
    · exact base ⟨n + 1, h⟩ h0 r j
    · refine (dh_keep m c (t := ⟨n + 1, h⟩) h0 (dxb_found m c ⟨n + 1, h⟩ h0) r j).trans ?_
      have e : (n + 1) % 4 = n % 4 + 1 := by omega
      rw [gDhN_shard, e, Finset.sum_range_succ]
      refine congrArg₂ (· + ·) ((ih (Nat.lt_of_succ_lt h) r j).trans ?_) rfl
      exact Finset.sum_congr rfl fun i _ => congrArg (fun b => gDhN m c i (row b r) j) (tile_pred (n + 1) h (Nat.lt_of_succ_lt h) h0)

/-- The last shard's point has the whole sum. -/
theorem dh_full (t : Fin cfg0.N) (h2 : t.val % 4 = 3) (r : Fin 512) (j : Fin 1024) :
    ((outsAt0 m c t.val t.isLt).2.2.2.2.2 (ix2 r j) : EReal) = gDhAll m c (row (tile t) r) j := by
  refine (dh_tile m c t.val t.isLt r j).trans ?_
  rw [h2, Finset.sum_range]
  unfold gDhAll gDhN
  exact Finset.sum_congr rfl fun i _ => dif_pos i.isLt

theorem rinv_rows (b : Fin 16) (r : Fin 512) : rinv (fun i k => aX m c (row b i) k) r = rinv (aX m c) (row b r) := rfl

theorem dx_of (t : Fin cfg0.N) (H : Vec Ideal S512x1024 .f32) (hH : ∀ i k, H (ix2 i k) = gDhAll m c (row (tile t) i) k) (r : Fin 512) (j : Fin 1024) :
    k0_pay4 (F := Ideal) H (iblk m c 1 t) (iblk m c 2 t) (iblk m c 0 t) (ix2 r j) = gDx m c (row (tile t) r) j := by
  rw [pay4_at]
  unfold gDx rmsDx
  simp only [hH, blk0 m c t, blk1 m c t, blk2 m c t, rinv_rows]

theorem dn_of (t : Fin cfg0.N) (H : Vec Ideal S512x1024 .f32) (hH : ∀ i k, H (ix2 i k) = gDhAll m c (row (tile t) i) k) (N : Vec Ideal S1x1024 .f32) (u : Fin 1) (j : Fin 1024) :
    k0_pay5 (F := Ideal) H (iblk m c 1 t) N (ix2 u j)
      = N (ix2 u j) + ∑ r, gDhAll m c (row (tile t) r) j * (aX m c (row (tile t) r) j * rinv (aX m c) (row (tile t) r)) := by
  rw [pay5_at]
  unfold rmsDg
  simp only [hH, blk1 m c t, rinv_rows]

theorem dx_tile (t : Fin cfg0.N) (h2 : t.val % 4 = 3) (r : Fin 512) (j : Fin 1024) :
    ((outsAt0 m c t.val t.isLt).2.2.1 (ix2 r j) : EReal) = gDx m c (row (tile t) r) j := by
  have h0 : ¬ t.val % 4 = 0 := by omega
  have h1 : ¬ t.val % 64 = 0 := by omega
  rw [outsAt0_C m c t h0 h1 h2]
  frame_out
  refine dx_of m c t _ (fun i k => ?_) r j
  refine (readCov_at _ _ _ i k i k (Nat.zero_add _).symm (Nat.zero_add _).symm).trans (Eq.trans ?_ (dh_full m c t h2 i k))
  rw [outsAt0_C m c t h0 h1 h2]
  frame_out

/-- A point's share of the gains' gradient: a tile's, at the last shard. -/
def dnPart (t : Fin cfg0.N) (j : Fin 1024) : EReal :=
  if t.val % 4 = 3 then ∑ r, gDhAll m c (row (tile t) r) j * (aX m c (row (tile t) r) j * rinv (aX m c) (row (tile t) r)) else 0

theorem dn_first (t : Fin cfg0.N) (h1 : t.val % 64 = 0) (u : Fin 1) (j : Fin 1024) :
    ((outsAt0 m c t.val t.isLt).2.2.2.1 (ix2 u j) : EReal) = 0 + dnPart m c t j := by
  rw [outsAt0_A m c t (by omega) h1 (by omega)]
  frame_out
  unfold dnPart
  rw [if_neg (by omega)]
  exact (pay8_at u j).trans (zero_add _).symm

theorem dn_next (t : Fin cfg0.N) (h1 : ¬ t.val % 64 = 0) (u : Fin 1) (j : Fin 1024) :
    ((outsAt0 m c t.val t.isLt).2.2.2.1 (ix2 u j) : EReal)
      = ((outsAt0 m c (t.val - 1) (Nat.lt_of_le_of_lt (Nat.sub_le _ _) t.isLt)).2.2.2.1 (ix2 u j) : EReal) + dnPart m c t j := by
  by_cases h2 : t.val % 4 = 3
  · have h0 : ¬ t.val % 4 = 0 := by omega
    rw [outsAt0_C m c t h0 h1 h2]
    frame_out
    refine (dn_of m c t _ (fun i k => ?_) _ u j).trans (congrArg (_ + ·) (if_pos h2).symm)
    refine (readCov_at _ _ _ i k i k (Nat.zero_add _).symm (Nat.zero_add _).symm).trans (Eq.trans ?_ (dh_full m c t h2 i k))
    rw [outsAt0_C m c t h0 h1 h2]
    frame_out
  · refine Eq.trans ?_ (congrArg (_ + ·) (if_neg h2).symm)
    refine Eq.trans ?_ (add_zero _).symm
    by_cases h0 : t.val % 4 = 0
    · rw [outsAt0_D m c t h0 h1 h2]
      rfl
    · rw [outsAt0_B m c t h0 h1 h2]
      rfl

/-- The points' shares add up to the sum over all the rows. -/
theorem sum_points (j : Fin 1024) : (∑ t : Fin cfg0.N, dnPart m c t j) = gDn m c j := by
  have e : (∑ t : Fin cfg0.N, dnPart m c t j) = ∑ t : Fin 64, dnPart m c (Fin.cast N_0.symm t) j :=
    Fintype.sum_equiv (finCongr N_0) _ _ fun t => rfl
  rw [e, Fin.sum_univ_tiles 16 4 (by norm_num) (fun t : Fin 64 => dnPart m c (Fin.cast N_0.symm t) j)]
  unfold gDn rmsDg
  rw [Fin.sum_univ_tiles 16 512 (by norm_num) (fun R : Fin 8192 => gDhAll m c R j * (aX m c R j * rinv (aX m c) R))]
  refine Finset.sum_congr rfl fun b _ => ?_
  rw [Fin.sum_univ_four]
  unfold dnPart
  rw [if_neg (by show ¬ (b.val * 4 + 0) % 4 = 3; omega), if_neg (by show ¬ (b.val * 4 + 1) % 4 = 3; omega),
    if_neg (by show ¬ (b.val * 4 + 2) % 4 = 3; omega), if_pos (by show (b.val * 4 + 3) % 4 = 3; omega)]
  refine (congrArg (· + _) ((congrArg (· + (0 : EReal)) (zero_add 0)).trans (zero_add _))).trans ((zero_add _).trans ?_)
  refine Finset.sum_congr rfl fun r _ => ?_
  refine congrArg (fun R => gDhAll m c R j * (aX m c R j * rinv (aX m c) R)) (Fin.ext ?_)
  show 512 * ((b.val * 4 + 3) / 4) + r.val = b.val * 512 + r.val
  omega

/-- The last point. -/
def ptLast : Fin cfg0.N := ⟨63, lt_of_lt_of_eq (by norm_num) N_0.symm⟩

theorem dn_last (u : Fin 1) (j : Fin 1024) : ((outsAt0 m c ptLast.val ptLast.isLt).2.2.2.1 (ix2 u j) : EReal) = gDn m c j := by
  refine (Pipeline.eq_sum_fin_of_reset_step_last (fun n h => ((outsAt0 m c n h).2.2.2.1 (ix2 u j) : EReal)) 64 0 (fun t => dnPart m c t j)
    (fun t h => dn_first m c t h u j) (fun t h => dn_next m c t h u j) (le_of_eq N_0) ptLast rfl).trans ?_
  exact (zero_add _).trans (sum_points m c j)

/-! The result arrays. -/

theorem array8 : (dats m 0 c).arrAt 8 cfg0.N = fun j : S4x8192x704.Idx => gDg m c (j 0) (j 1) (j 2) := by
  refine (dats m 0 c).arrAt_eq_of_covers 8 _ (by decide +kernel) fun t _ y => ?_
  blk_simp
  rw [after0_8]
  idx_vars y
  have ey : y0 = 0 := Subsingleton.elim (α := Fin 1) _ _
  rw [ey]
  refine (dg_tile m c t _ _).trans ?_
  refine congr (congrArg₂ (gDg m c) (Fin.ext ?_) (Fin.ext ?_)) (Fin.ext ?_)
  · blk_simp [idx t]
    unfold shard
    dsimp only [Matrix.cons_val_zero]
    try omega
  · blk_simp [idx t]
    unfold row tile
    dsimp only [Matrix.cons_val_zero]
    try omega
  · blk_simp [idx t]

theorem array9 : (dats m 0 c).arrAt 9 cfg0.N = fun j : S4x8192x704.Idx => gDu m c (j 0) (j 1) (j 2) := by
  refine (dats m 0 c).arrAt_eq_of_covers 9 _ (by decide +kernel) fun t _ y => ?_
  blk_simp
  rw [after0_9]
  idx_vars y
  have ey : y0 = 0 := Subsingleton.elim (α := Fin 1) _ _
  rw [ey]
  refine (du_tile m c t _ _).trans ?_
  refine congr (congrArg₂ (gDu m c) (Fin.ext ?_) (Fin.ext ?_)) (Fin.ext ?_)
  · blk_simp [idx t]
    unfold shard
    dsimp only [Matrix.cons_val_zero]
    try omega
  · blk_simp [idx t]
    unfold row tile
    dsimp only [Matrix.cons_val_zero]
    try omega
  · blk_simp [idx t]

theorem array10 : (dats m 0 c).arrAt 10 cfg0.N = fun j : S8192x1024.Idx => gDx m c (j 0) (j 1) := by
  refine (dats m 0 c).arrAt_eq_of_covers 10 _ (by decide +kernel) fun t ht y => ?_
  have h2 : t.val % 4 = 3 := (by decide +kernel : ∀ t : Fin cfg0.grid.N, (win0 10).flush t = true → t.val % 4 = 3) t ht
  blk_simp
  rw [after0_10]
  idx_vars y
  refine (dx_tile m c t h2 _ _).trans ?_
  refine congrArg₂ (gDx m c) (Fin.ext ?_) (Fin.ext ?_)
  · blk_simp [idx t]
    unfold row tile
    dsimp only [Matrix.cons_val_zero]
    omega
  · blk_simp [idx t]

theorem array11 : (dats m 0 c).arrAt 11 cfg0.N = fun j : S1x1024.Idx => gDn m c (j 1) := by
  refine (dats m 0 c).arrAt_eq_of_after_last 11 ptLast (by decide +kernel) _ fun j => ?_
  blk_simp
  rw [after0_11]
  idx_vars j
  exact dn_last m c _ _

end Cert.FfnBwd

end
-- ==== Proof.FfnRef.lean ====
/- The FFN reference's arrays as functions of its arguments, read at an index. -/
module

public import Idealize.ShloMosaic.Lib.Pointwise
public import Idealize.ShloMosaic.Lib.KernelVsHost
public import proofs.«01_k».proof.Proof.Gen.FfnReferenceIdeal.Run
public import proofs.«01_k».proof.Proof.Spec
public import proofs.«01_k».proof.Proof.Reals

@[expose] public section

set_option maxRecDepth 16384

noncomputable section

namespace Cert.FfnRef

open Idealize.ShloMosaic Idealize.ShloMosaic.TcCoe Idealize.SL.Sem Cert.Grad
open Cert.FfnReferenceIdeal Cert.FfnReferenceIdeal.Gen Cert.FfnReferenceIdeal.Value

section
variable (dxo x : FVec Ideal S8192x1024 .f32) (g : FVec Ideal S1x1024 .f32) (wg wu : FVec Ideal S1024x2816 .f32) (wd : FVec Ideal S2816x1024 .f32)

/-- The rows' mean squares plus the small constant, -/
def ms : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
/-- the rows over their roots, -/
def xr : FVec Ideal S8192x1024 .f32 := mulf x (broadcastInDim S8192x1024 ![0, 1] bcast_S8192x1_S8192x1024_0_1 (Host.rsqrt (ms x)))
/-- the gains in every row, -/
def gains : FVec Ideal S8192x1024 .f32 := broadcastInDim S8192x1024 ![0, 1] bcast_S1x1024_S8192x1024_0_1 (broadcastInDim S1x1024 ![1] bcast_S1024_S1x1024_1 (shapeCast _ g shapeCasts_S1x1024_S1024))
/-- a projection of the normalised rows, -/
def proj (w : FVec Ideal S1024x2816 .f32) : FVec Ideal S8192x2816 .f32 := Host.dotGeneral dot_S8192x1024_S1024x2816_S8192x2816_1_0_0_1_n_n none (mulf (xr x) (gains g)) w
/-- the logistic function, -/
def sg (a : FVec Ideal S8192x2816 .f32) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf a)))
/-- the activation's cotangent, -/
def dAct : FVec Ideal S8192x2816 .f32 := Host.dotGeneral dot_S8192x1024_S2816x1024_S8192x2816_1_1_0_0_n_n none dxo wd
/-- the up-projection's, -/
def dUp : FVec Ideal S8192x2816 .f32 := mulf (mulf (proj x g wg) (sg (proj x g wg))) (dAct dxo wd)
/-- the gate's, -/
def dGate : FVec Ideal S8192x2816 .f32 :=
  addf (mulf (mulf (dAct dxo wd) (proj x g wu)) (sg (proj x g wg)))
    (mulf (mulf (proj x g wg) (mulf (dAct dxo wd) (proj x g wu)))
      (mulf (sg (proj x g wg)) (subf (broadcastInDim S8192x2816 ![] bcast_S_S8192x2816 (constant S_ .f32 0x3F800000#32)) (sg (proj x g wg)))))
/-- the normalised rows', -/
def dNorm : FVec Ideal S8192x1024 .f32 :=
  addf (Host.dotGeneral dot_S8192x2816_S1024x2816_S8192x1024_1_1_0_0_n_n none (dUp dxo x g wg wd) wu)
    (Host.dotGeneral dot_S8192x2816_S1024x2816_S8192x1024_1_1_0_0_n_n none (dGate dxo x g wg wu wd) wg)
/-- the same times the gains, -/
def dGain : FVec Ideal S8192x1024 .f32 := mulf (dNorm dxo x g wg wu wd) (gains g)
/-- a row's share through its root. -/
def dRoot : FVec Ideal S8192x1024 .f32 :=
  broadcastInDim S8192x1024 ![0] bcast_S8192_S8192x1024_0 (Host.reduceAdd (Host.divf (mulf (shapeCast _ (Host.reduceAdd (mulf x (dGain dxo x g wg wu wd)) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (ms x)) (ms x)))) (broadcastInDim S8192x1 ![] bcast_S_S8192x1 (constant S_ .f32 0x44800000#32)))
    (constant S_ .f32 0x00000000#32) reducesTo_S8192x1_S8192_d1 h_S_)
/-- The gradient in the layer's input, -/
def xGrad : FVec Ideal S8192x1024 .f32 :=
  addf dxo (addf (addf (mulf (dGain dxo x g wg wu wd) (broadcastInDim S8192x1024 ![0, 1] bcast_S8192x1_S8192x1024_0_1 (Host.rsqrt (ms x)))) (mulf x (dRoot dxo x g wg wu wd))) (mulf (dRoot dxo x g wg wu wd) x))
/-- and in the gains. -/
def gGrad : FVec Ideal S1x1024 .f32 :=
  broadcastInDim S1x1024 ![1] bcast_S1024_S1x1024_1 (Host.reduceAdd (shapeCast _ (Host.reduceAdd (mulf (xr x) (dNorm dxo x g wg wu wd)) (constant S_ .f32 0x00000000#32) reducesTo_S8192x1024_S1024_d0 h_S_) shapeCasts_S1024_S1x1024) (constant S_ .f32 0x00000000#32) reducesTo_S1x1024_S1024_d0 h_S_)
/-- An array over all the lanes, by shards. -/
def parts (a : FVec Ideal S8192x2816 .f32) : FVec Ideal S4x8192x704 .bf16 :=
  truncf .bf16 (transpose S4x8192x704 [1, 0, 2] (shapeCast _ a shapeCasts_S8192x2816_S8192x4x704) transposes_S8192x4x704_S4x8192x704_1_0_2) bitsLt_bf16_f32
end

section
variable (m : (ℓ : Loc nD τ sig) → Buf (Elt Ideal) ℓ) (c : Dev nD)

theorem res49 : res_main_v49 m c = gGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl
theorem res52 : res_main_v52 m c = parts (dGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := rfl
theorem res56 : res_main_v56 m c = xGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl
end

end Cert.FfnRef

end
-- ==== Proof.FfnMath.lean ====
/- The logistic function two ways, and the gated unit's gradient two ways, over the reals. -/
module

public import proofs.«01_k».proof.Proof.FfnBlock
public import proofs.«01_k».proof.Proof.RefNorm

@[expose] public section

noncomputable section

namespace Cert.Grad

open Idealize.ShloMosaic

theorem bits_pos_half : Ideal.ofBits FTy.f32 1056964608#32 = (((1 / 2 : ℝ)) : EReal) := by
  simp [Ideal.ofBits, Ideal.ieee]
  rw [← EReal.coe_mul]
  norm_num
theorem bits_one : Ideal.ofBits FTy.f32 1065353216#32 = (((1 : ℝ)) : EReal) := by
  simp [Ideal.ofBits, Ideal.ieee]
  rw [← EReal.coe_mul]
  norm_num

/-- The logistic function as the reference writes it. -/
def logi (a : EReal) : EReal := Ideal.div (Ideal.ofBits FTy.f32 1065353216#32) (Ideal.ofBits FTy.f32 1065353216#32 + Ideal.exp (-a))

theorem logi_coe (a : ℝ) : logi (a : EReal) = (((1 + Real.exp (-a))⁻¹ : ℝ) : EReal) := by
  unfold logi
  have h : (1 + Real.exp (-a)) ≠ 0 := by positivity
  rw [bits_one, ← EReal.coe_neg, Ideal.exp_coe, ← EReal.coe_add, Ideal.div_coe h, ← EReal.coe_mul]
  congr 1
  rw [one_div, one_mul]

theorem sgm_coe (a : ℝ) : sgm (a : EReal) = (((1 + Real.exp (-a))⁻¹ : ℝ) : EReal) := by
  unfold sgm
  rw [bits_pos_half, ← EReal.coe_mul, Ideal.tanh_coe, ← EReal.coe_mul, ← EReal.coe_add]
  congr 1
  have h0 : Real.exp (1 / 2 * a) ≠ 0 := (Real.exp_pos _).ne'
  have h1 : Real.exp (-a) = (Real.exp (1 / 2 * a))⁻¹ * (Real.exp (1 / 2 * a))⁻¹ := by
    rw [← Real.exp_neg, ← Real.exp_add]; congr 1; ring
  rw [Real.tanh_eq_sinh_div_cosh, Real.sinh_eq, Real.cosh_eq, Real.exp_neg (1 / 2 * a), h1]
  have hp : 0 < Real.exp (1 / 2 * a) := Real.exp_pos _
  generalize Real.exp (1 / 2 * a) = E at *
  have h2 : E * E + 1 ≠ 0 := by positivity
  field_simp
  ring

theorem sgm_eq {a : EReal} (ha : IsReal a) : sgm a = logi a := by
  obtain ⟨r, rfl⟩ := ha
  rw [sgm_coe, logi_coe]

theorem IsReal.sgm {a : EReal} (ha : IsReal a) : IsReal (sgm a) := by
  obtain ⟨r, rfl⟩ := ha
  exact ⟨_, sgm_coe r⟩

theorem upGrad_eq {d a : EReal} (ha : IsReal a) : a * logi a * d = upGrad d a := by
  unfold upGrad
  rw [sgm_eq ha, mul_comm]

theorem gateGrad_eq {d a b : EReal} (hd : IsReal d) (ha : IsReal a) (hb : IsReal b) :
    d * b * logi a + a * (d * b) * (logi a * (Ideal.ofBits FTy.f32 1065353216#32 - logi a)) = gateGrad d a b := by
  unfold gateGrad
  rw [← sgm_eq ha, bits_one]
  obtain ⟨s, hs⟩ := ha.sgm
  obtain ⟨d, rfl⟩ := hd; obtain ⟨a, rfl⟩ := ha; obtain ⟨b, rfl⟩ := hb
  rw [hs]
  simp only [← EReal.coe_mul, ← EReal.coe_sub, ← EReal.coe_add]
  congr 1
  ring

theorem IsReal.upGrad {d a : EReal} (hd : IsReal d) (ha : IsReal a) : IsReal (upGrad d a) := .mul hd (.mul ha ha.sgm)

theorem IsReal.gateGrad {d a b : EReal} (hd : IsReal d) (ha : IsReal a) (hb : IsReal b) : IsReal (gateGrad d a b) := by
  unfold Cert.Grad.gateGrad
  rw [bits_one]
  exact .mul (.mul hd hb) (.mul ha.sgm (.add (.coe 1) (.mul ha (.sub (.coe 1) ha.sgm))))

end Cert.Grad

end
-- ==== Proof.FfnRefAt.lean ====
/- The FFN reference's arrays read at an index. -/
module

public import proofs.«01_k».proof.Proof.FfnRef
public import proofs.«01_k».proof.Proof.FfnMath

@[expose] public section

set_option maxRecDepth 16384

noncomputable section

namespace Cert.FfnRef

open Idealize.ShloMosaic Idealize.ShloMosaic.TcCoe Idealize.SL.Sem Cert.Grad
open Cert.FfnReferenceIdeal Cert.FfnReferenceIdeal.Gen Cert.FfnReferenceIdeal.Value

/-- Lane `f` of shard `s` among all the lanes. -/
def fl (s : Fin 4) (f : Fin 704) : Fin 2816 := ⟨s.val * 704 + f.val, by omega⟩

variable (dxo x : FVec Ideal S8192x1024 .f32) (g : FVec Ideal S1x1024 .f32) (wg wu : FVec Ideal S1024x2816 .f32) (wd : FVec Ideal S2816x1024 .f32)

theorem parts_at (a : FVec Ideal S8192x2816 .f32) (s : Fin 4) (R : Fin 8192) (f : Fin 704) : parts a (ix3 s R f) = a (ix2 R (fl s f)) := by
  unfold fl
  pointwise [parts]

/-- The rows of an argument. -/
def rows {n : ℕ} {k : ℕ} (a : FVec Ideal ⟨2, ![n, k]⟩ .f32) (i : Fin n) (j : Fin k) : EReal := a (ix2 i j)

theorem ms_at (R : Fin 8192) : ms x (ix2 R 0)
    = Ideal.div (∑ k, rows x R k * rows x R k) (Ideal.ofBits FTy.f32 1149239296#32) + Ideal.ofBits FTy.f32 897988541#32 := by
  unfold rows
  pointwise [ms]

theorem xr_at (R : Fin 8192) (k : Fin 1024) : xr x (ix2 R k) = rows x R k * rinv (rows x) R := by
  unfold rinv
  rw [← ms_at]
  unfold rows
  pointwise [xr]

theorem gains_at (R : Fin 8192) (k : Fin 1024) : gains g (ix2 R k) = rows g 0 k := by
  unfold rows
  pointwise [gains]

theorem proj_at (w : FVec Ideal S1024x2816 .f32) (R : Fin 8192) (F : Fin 2816) :
    proj x g w (ix2 R F) = ∑ k, rows x R k * rinv (rows x) R * rows g 0 k * rows w k F := by
  refine Eq.trans (b := ∑ k, rows (xr x) R k * rows (gains g) R k * rows w k F) ?_ (Finset.sum_congr rfl fun k _ => congrArg (· * rows w k F) (congrArg₂ (· * ·) (xr_at x R k) (gains_at g R k)))
  unfold rows
  pointwise [proj]

theorem sg_at (a : FVec Ideal S8192x2816 .f32) (R : Fin 8192) (F : Fin 2816) : sg a (ix2 R F) = logi (a (ix2 R F)) := by
  unfold logi
  pointwise [sg]

theorem dAct_at (R : Fin 8192) (F : Fin 2816) : dAct dxo wd (ix2 R F) = ∑ k, rows dxo R k * rows wd F k := by
  unfold rows
  pointwise [dAct]

theorem dUp_at' (R : Fin 8192) (F : Fin 2816) :
    dUp dxo x g wg wd (ix2 R F) = rows (proj x g wg) R F * logi (rows (proj x g wg) R F) * rows (dAct dxo wd) R F := by
  unfold rows
  rw [← sg_at]
  pointwise [dUp]

theorem dGate_at' (R : Fin 8192) (F : Fin 2816) :
    dGate dxo x g wg wu wd (ix2 R F)
      = rows (dAct dxo wd) R F * rows (proj x g wu) R F * logi (rows (proj x g wg) R F)
        + rows (proj x g wg) R F * (rows (dAct dxo wd) R F * rows (proj x g wu) R F)
          * (logi (rows (proj x g wg) R F) * (Ideal.ofBits FTy.f32 1065353216#32 - logi (rows (proj x g wg) R F))) := by
  unfold rows
  rw [← sg_at]
  pointwise [dGate]

theorem dNorm_at (R : Fin 8192) (j : Fin 1024) :
    dNorm dxo x g wg wu wd (ix2 R j)
      = ∑ F, rows (dUp dxo x g wg wd) R F * rows wu j F + ∑ F, rows (dGate dxo x g wg wu wd) R F * rows wg j F := by
  unfold rows
  pointwise [dNorm]

theorem dGain_at (R : Fin 8192) (j : Fin 1024) : dGain dxo x g wg wu wd (ix2 R j) = rows (dNorm dxo x g wg wu wd) R j * rows g 0 j := by
  rw [← gains_at g R]
  unfold rows
  pointwise [dGain]

theorem dRoot_at (R : Fin 8192) (j : Fin 1024) : dRoot dxo x g wg wu wd (ix2 R j)
    = Ideal.div ((∑ k, rows x R k * rows (dGain dxo x g wg wu wd) R k)
      * (Ideal.ofBits FTy.f32 0xBF000000#32 * Ideal.div (Ideal.rsqrt (ms x (ix2 R 0))) (ms x (ix2 R 0)))) (Ideal.ofBits FTy.f32 1149239296#32) := by
  unfold rows
  pointwise [dRoot]
  exact Fin.sum_univ_one (M := EReal) _

theorem gGrad_at (j : Fin 1024) : gGrad dxo x g wg wu wd (ix2 0 j) = rmsDg (rows (dNorm dxo x g wg wu wd)) (rows x) j := by
  unfold rmsDg
  refine Eq.trans (b := ∑ R : Fin 8192, rows (xr x) R j * rows (dNorm dxo x g wg wu wd) R j) ?_
    (Finset.sum_congr rfl fun R _ => (mul_comm _ _).trans (congrArg (_ * ·) (xr_at x R j)))
  unfold rows
  pointwise [gGrad]
  exact Fin.sum_univ_one (M := EReal) _

section
variable (hdxo : ∀ i k, IsReal (rows dxo i k)) (hx : ∀ i k, IsReal (rows x i k)) (hg : ∀ i k, IsReal (rows g i k)) (hwg : ∀ i k, IsReal (rows wg i k))
  (hwu : ∀ i k, IsReal (rows wu i k)) (hwd : ∀ i k, IsReal (rows wd i k))

include hx in
theorem rinv_real (R : Fin 8192) : IsReal (rinv (rows x) R) := by
  obtain ⟨v, hv, hve⟩ := mean_square (rows x R) (hx R)
  unfold rinv
  rw [hve, rsqrt_pos hv]
  exact .coe _

include hx hg in
theorem proj_real (w : FVec Ideal S1024x2816 .f32) (hw : ∀ i k, IsReal (rows w i k)) (R : Fin 8192) (F : Fin 2816) : IsReal (rows (proj x g w) R F) := by
  have e : rows (proj x g w) R F = _ := proj_at x g w R F
  rw [e]
  exact .sum _ fun k => .mul (.mul (.mul (hx _ _) (rinv_real x hx R)) (hg _ _)) (hw _ _)

include hdxo hwd in
theorem dAct_real (R : Fin 8192) (F : Fin 2816) : IsReal (rows (dAct dxo wd) R F) := by
  have e : rows (dAct dxo wd) R F = _ := dAct_at dxo wd R F
  rw [e]
  exact .sum _ fun k => .mul (hdxo _ _) (hwd _ _)

include hx hg hwg in
theorem dUp_at (R : Fin 8192) (F : Fin 2816) : dUp dxo x g wg wd (ix2 R F) = upGrad (rows (dAct dxo wd) R F) (rows (proj x g wg) R F) :=
  (dUp_at' dxo x g wg wd R F).trans (upGrad_eq (proj_real x g hx hg wg hwg R F))

include hdxo hx hg hwg hwu hwd

theorem dGate_at (R : Fin 8192) (F : Fin 2816) :
    dGate dxo x g wg wu wd (ix2 R F) = gateGrad (rows (dAct dxo wd) R F) (rows (proj x g wg) R F) (rows (proj x g wu) R F) :=
  (dGate_at' dxo x g wg wu wd R F).trans (gateGrad_eq (dAct_real dxo wd hdxo hwd R F) (proj_real x g hx hg wg hwg R F) (proj_real x g hx hg wu hwu R F))

theorem dNorm_real (R : Fin 8192) (j : Fin 1024) : IsReal (rows (dNorm dxo x g wg wu wd) R j) := by
  have e : rows (dNorm dxo x g wg wu wd) R j = _ := dNorm_at dxo x g wg wu wd R j
  rw [e]
  refine .add (.sum _ fun F => .mul ?_ (hwu _ _)) (.sum _ fun F => .mul ?_ (hwg _ _))
  · have e : rows (dUp dxo x g wg wd) R F = _ := dUp_at dxo x g wg wd hx hg hwg R F
    rw [e]
    exact .upGrad (dAct_real dxo wd hdxo hwd R F) (proj_real x g hx hg wg hwg R F)
  · have e : rows (dGate dxo x g wg wu wd) R F = _ := dGate_at dxo x g wg wu wd hdxo hx hg hwg hwu hwd R F
    rw [e]
    exact .gateGrad (dAct_real dxo wd hdxo hwd R F) (proj_real x g hx hg wg hwg R F) (proj_real x g hx hg wu hwu R F)

theorem xGrad_at (R : Fin 8192) (j : Fin 1024) :
    xGrad dxo x g wg wu wd (ix2 R j) = rows dxo R j + rmsDx (rows (dNorm dxo x g wg wu wd)) (rows x) (rows g 0) R j := by
  obtain ⟨v, hv, hve⟩ := mean_square (rows x R) (hx R)
  have hV : ms x (ix2 R 0) = (v : EReal) := (ms_at x R).trans hve
  have hD : ∀ k, rows (dGain dxo x g wg wu wd) R k = rows (dNorm dxo x g wg wu wd) R k * rows g 0 k := fun k => dGain_at dxo x g wg wu wd R k
  have hr : dRoot dxo x g wg wu wd (ix2 R j)
      = Ideal.div ((∑ k, rows x R k * (rows (dNorm dxo x g wg wu wd) R k * rows g 0 k)) * (((-(1 / 2) : ℝ) : EReal) * Ideal.div (Ideal.rsqrt (v : EReal)) (v : EReal))) ((1024 : ℝ) : EReal) := by
    rw [dRoot_at, hV, bits_1024, bits_half]
    exact congrArg (fun a : EReal => Ideal.div (a * _) _) (Finset.sum_congr rfl fun k _ => congrArg (fun a : EReal => rows x R k * a) (hD k))
  unfold rmsDx rinv
  rw [hve, bits_1024, rms_grad (rows x R) (fun k => rows (dNorm dxo x g wg wu wd) R k * rows g 0 k) (hx R)
    (fun k => .mul (dNorm_real dxo x g wg wu wd hdxo hx hg hwg hwu hwd R k) (hg 0 k)) v 1024 hv (by norm_num) j, ← hr, ← hD j, ← hV]
  unfold rows
  pointwise [xGrad]
end

end Cert.FfnRef

end
-- ==== Proof.FfnEquation.lean ====
/- The four arrays of the FFN's gradient kernel are the reference's four results. -/
module

public import proofs.«01_k».proof.Proof.FfnArrays
public import proofs.«01_k».proof.Proof.FfnRefAt
public import proofs.«01_k».proof.Proof.Finite
public import proofs.«01_k».proof.Proof.Gen.Pre_finite_ffn_args

@[expose] public section

set_option maxRecDepth 16384

noncomputable section

namespace Cert.FfnEq

open Idealize.ShloMosaic Idealize.ShloMosaic.TcCoe Idealize.SL.Sem Cert.Grad Idealize.ShloMosaic.StableHlo
open Cert.FfnBwd Cert.FfnRef

instance : Subsingleton Cert.Pre_finite_ffn_args.S_.Idx := ⟨fun a b => funext fun i => i.elim0⟩

/-- The precondition, read: every entry of every argument is a real number. -/
theorem finite_args (a0 a1 : FVec Ideal Cert.Pre_finite_ffn_args.S8192x1024 .f32) (a2 : FVec Ideal Cert.Pre_finite_ffn_args.S1x1024 .f32)
    (a3 a4 : FVec Ideal Cert.Pre_finite_ffn_args.S1024x2816 .f32) (a5 : FVec Ideal Cert.Pre_finite_ffn_args.S2816x1024 .f32)
    (h : Cert.Pre_finite_ffn_args.fn (F := Ideal) a0 a1 a2 a3 a4 a5 = fun _ => 1#1) :
    (∀ i, IsReal (a0 i : EReal)) ∧ (∀ i, IsReal (a1 i : EReal)) ∧ (∀ i, IsReal (a2 i : EReal)) ∧ (∀ i, IsReal (a3 i : EReal)) ∧ (∀ i, IsReal (a4 i : EReal))
      ∧ (∀ i, IsReal (a5 i : EReal)) := by
  have h' := congrFun h (fun i => i.elim0)
  unfold Cert.Pre_finite_ffn_args.fn Cert.Pre_finite_ffn_args.fn_part1 at h'
  dsimp only [andi] at h'
  simp only [IntOp.andi_eq_one] at h'
  obtain ⟨⟨⟨⟨⟨h0, h1⟩, h2⟩, h3⟩, h4⟩, h5⟩ := h'
  exact ⟨real_of_all a0 _ (fun _ => rfl) _ _ _ _ h0, real_of_all a1 _ (fun _ => rfl) _ _ _ _ h1, real_of_all a2 _ (fun _ => rfl) _ _ _ _ h2, real_of_all a3 _ (fun _ => rfl) _ _ _ _ h3,
    real_of_all a4 _ (fun _ => rfl) _ _ _ _ h4, real_of_all a5 _ (fun _ => rfl) _ _ _ _ h5⟩

variable (m : (ℓ : Loc Cert.FfnIdeal.nD Cert.FfnIdeal.τ Cert.FfnIdeal.sig) → Buf (Elt Ideal) ℓ) (c : Dev Cert.FfnIdeal.nD)

/-- The kernel's arguments as arrays. -/
def A0 : FVec Ideal Cert.FfnReferenceIdeal.S8192x1024 .f32 := m (c.tc.loc Cert.FfnIdeal.main_arg0)
def A1 : FVec Ideal Cert.FfnReferenceIdeal.S8192x1024 .f32 := m (c.tc.loc Cert.FfnIdeal.main_arg1)
def A2 : FVec Ideal Cert.FfnReferenceIdeal.S1x1024 .f32 := m (c.tc.loc Cert.FfnIdeal.main_arg2)
def A3 : FVec Ideal Cert.FfnReferenceIdeal.S1024x2816 .f32 := m (c.tc.loc Cert.FfnIdeal.main_arg3)
def A4 : FVec Ideal Cert.FfnReferenceIdeal.S1024x2816 .f32 := m (c.tc.loc Cert.FfnIdeal.main_arg4)
def A5 : FVec Ideal Cert.FfnReferenceIdeal.S2816x1024 .f32 := m (c.tc.loc Cert.FfnIdeal.main_arg5)

/-- Every argument holds reals. -/
structure Real : Prop where
  dxo : ∀ i k, IsReal (rows (A0 m c) i k)
  x : ∀ i k, IsReal (rows (A1 m c) i k)
  g : ∀ i k, IsReal (rows (A2 m c) i k)
  wg : ∀ i k, IsReal (rows (A3 m c) i k)
  wu : ∀ i k, IsReal (rows (A4 m c) i k)
  wd : ∀ i k, IsReal (rows (A5 m c) i k)

theorem real_of_pre (h : Cert.Pre_finite_ffn_args.fn (F := Ideal) (A0 m c) (A1 m c) (A2 m c) (A3 m c) (A4 m c) (A5 m c) = fun _ => 1#1) : Real m c := by
  obtain ⟨h0, h1, h2, h3, h4, h5⟩ := finite_args _ _ _ _ _ _ h
  exact ⟨fun _ _ => h0 _, fun _ _ => h1 _, fun _ _ => h2 _, fun _ _ => h3 _, fun _ _ => h4 _, fun _ _ => h5 _⟩

/-! What the host line hands the kernel. -/

theorem gate_arr : (Cert.FfnIdeal.Gen.V m c Cert.FfnIdeal.main_v17 : FVec Ideal Cert.FfnIdeal.S4x8192x704 .bf16) = parts (proj (A1 m c) (A2 m c) (A3 m c)) := by
  entry_read
  rfl
theorem up_arr : (Cert.FfnIdeal.Gen.V m c Cert.FfnIdeal.main_v21 : FVec Ideal Cert.FfnIdeal.S4x8192x704 .bf16) = parts (proj (A1 m c) (A2 m c) (A4 m c)) := by
  entry_read
  rfl
theorem gate_at (s : Fin 4) (R : Fin 8192) (f : Fin 704) : aGate m c s R f = rows (proj (A1 m c) (A2 m c) (A3 m c)) R (fl s f) :=
  (congrFun (gate_arr m c) _).trans (parts_at _ s R f)
theorem up_at (s : Fin 4) (R : Fin 8192) (f : Fin 704) : aUp m c s R f = rows (proj (A1 m c) (A2 m c) (A4 m c)) R (fl s f) :=
  (congrFun (up_arr m c) _).trans (parts_at _ s R f)
theorem wg_at (s : Fin 4) (f : Fin 704) (k : Fin 1024) : aWg m c s f k = rows (A3 m c) k (fl s f) := by
  unfold aWg rows fl A3
  entry_read
  pointwise
theorem wu_at (s : Fin 4) (f : Fin 704) (k : Fin 1024) : aWu m c s f k = rows (A4 m c) k (fl s f) := by
  unfold aWu rows fl A4
  entry_read
  pointwise
theorem wd_at (s : Fin 4) (f : Fin 704) (k : Fin 1024) : aWd m c s f k = rows (A5 m c) (fl s f) k := by
  unfold aWd rows fl A5
  entry_read
  pointwise

theorem act_eq (s : Fin 4) (R : Fin 8192) (f : Fin 704) : gAct m c s R f = rows (dAct (A0 m c) (A5 m c)) R (fl s f) :=
  (Finset.sum_congr rfl fun k _ => congrArg (aDxo m c R k * ·) (wd_at m c s f k)).trans (dAct_at (A0 m c) (A5 m c) R (fl s f)).symm

variable {m c} (H : Real m c)
include H

theorem du_eq (s : Fin 4) (R : Fin 8192) (f : Fin 704) : rows (dUp (A0 m c) (A1 m c) (A2 m c) (A3 m c) (A5 m c)) R (fl s f) = gDu m c s R f := by
  refine (dUp_at _ _ _ _ _ H.x H.g H.wg R (fl s f)).trans ?_
  unfold gDu
  rw [act_eq, gate_at]

theorem dg_eq (s : Fin 4) (R : Fin 8192) (f : Fin 704) : rows (dGate (A0 m c) (A1 m c) (A2 m c) (A3 m c) (A4 m c) (A5 m c)) R (fl s f) = gDg m c s R f := by
  refine (dGate_at _ _ _ _ _ _ H.dxo H.x H.g H.wg H.wu H.wd R (fl s f)).trans ?_
  unfold gDg
  rw [act_eq, gate_at, up_at]

theorem dh_eq (R : Fin 8192) (j : Fin 1024) : rows (dNorm (A0 m c) (A1 m c) (A2 m c) (A3 m c) (A4 m c) (A5 m c)) R j = gDhAll m c R j := by
  refine (dNorm_at _ _ _ _ _ _ R j).trans ?_
  unfold gDhAll gDh
  rw [Finset.sum_add_distrib, add_comm,
    Fin.sum_univ_tiles 4 704 (by norm_num) (fun F : Fin 2816 => rows (dGate (A0 m c) (A1 m c) (A2 m c) (A3 m c) (A4 m c) (A5 m c)) R F * rows (A3 m c) j F),
    Fin.sum_univ_tiles 4 704 (by norm_num) (fun F : Fin 2816 => rows (dUp (A0 m c) (A1 m c) (A2 m c) (A3 m c) (A5 m c)) R F * rows (A4 m c) j F)]
  exact congrArg₂ (· + ·)
    (Finset.sum_congr rfl fun s _ => Finset.sum_congr rfl fun f _ => congrArg₂ (· * ·) (dg_eq H s R f) (wg_at m c s f j).symm)
    (Finset.sum_congr rfl fun s _ => Finset.sum_congr rfl fun f _ => congrArg₂ (· * ·) (du_eq H s R f) (wu_at m c s f j).symm)

theorem dh_fun : rows (dNorm (A0 m c) (A1 m c) (A2 m c) (A3 m c) (A4 m c) (A5 m c)) = gDhAll m c := funext fun R => funext fun j => dh_eq H R j

theorem eq8 : parts (dGate (A0 m c) (A1 m c) (A2 m c) (A3 m c) (A4 m c) (A5 m c)) = (Cert.FfnIdeal.Gen.dats m 0 c).arrAt 8 Cert.FfnIdeal.cfg0.N := by
  rw [array8]
  funext j
  idx_vars j
  exact (parts_at _ _ _ _).trans (dg_eq H _ _ _)

theorem eq9 : parts (dUp (A0 m c) (A1 m c) (A2 m c) (A3 m c) (A5 m c)) = (Cert.FfnIdeal.Gen.dats m 0 c).arrAt 9 Cert.FfnIdeal.cfg0.N := by
  rw [array9]
  funext j
  idx_vars j
  exact (parts_at _ _ _ _).trans (du_eq H _ _ _)

theorem eq10 : xGrad (A0 m c) (A1 m c) (A2 m c) (A3 m c) (A4 m c) (A5 m c) = (Cert.FfnIdeal.Gen.dats m 0 c).arrAt 10 Cert.FfnIdeal.cfg0.N := by
  rw [array10]
  funext j
  idx_vars j
  refine (xGrad_at _ _ _ _ _ _ H.dxo H.x H.g H.wg H.wu H.wd _ _).trans ?_
  rw [dh_fun H]
  rfl

theorem eq11 : gGrad (A0 m c) (A1 m c) (A2 m c) (A3 m c) (A4 m c) (A5 m c) = (Cert.FfnIdeal.Gen.dats m 0 c).arrAt 11 Cert.FfnIdeal.cfg0.N := by
  rw [array11]
  funext j
  have ej : j = ix2 0 (j 1) := by idx_vars j; exact congrArg (fun u => ix2 u _) (Subsingleton.elim (α := Fin 1) _ _)
  refine (congrArg _ ej).trans ((gGrad_at _ _ _ _ _ _ (j 1)).trans ?_)
  rw [dh_fun H]
  rfl

end Cert.FfnEq

end
-- ==== Proof.InGrad.lean ====
/- The gradient of a product in its weight, as the kernel adds it up: one part of the inner width at a time, four tiles of rows. -/
module

public import proofs.«01_k».proof.Proof.FfnRefAt
public import proofs.«01_k».proof.Proof.Gen.InGradIdeal.Value
public import proofs.«01_k».proof.Proof.Gen.InGradReferenceIdeal.Run

@[expose] public section

set_option maxRecDepth 16384

noncomputable section

namespace Cert.FfnRef

open Idealize.ShloMosaic

/-- The normalised rows. -/
def normed (x : FVec Ideal Cert.FfnReferenceIdeal.S8192x1024 .f32) (g : FVec Ideal Cert.FfnReferenceIdeal.S1x1024 .f32) :
    FVec Ideal Cert.FfnReferenceIdeal.S8192x1024 .f32 := mulf (xr x) (gains g)

end Cert.FfnRef

namespace Cert.InGrad

open Idealize.ShloMosaic Idealize.ShloMosaic.TcCoe Idealize.SL.Sem Cert.Grad
open Idealize.ShloMosaic.Pipeline (Dat)
open Cert.FfnRef (fl rows parts normed parts_at)
open Cert.InGradIdeal Cert.InGradIdeal.Gen Cert.InGradIdeal.Value

/-- Row `r` of tile `b`. -/
def row (b : Fin 4) (r : Fin 2048) : Fin 8192 := ⟨b.val * 2048 + r.val, by omega⟩

theorem pay1_at (u : Fin 1) (f : Fin 704) (k : Fin 1024) : (k0_pay1 (F := Ideal) (ix3 u f k) : EReal) = 0 := by
  pointwise [k0_pay1]

theorem pay2_at (A : Vec Ideal S1x2048x704 .bf16) (B : Vec Ideal S2048x1024 .bf16) (v : Vec Ideal S1x704x1024 .f32) (f : Fin 704) (k : Fin 1024) :
    k0_pay2 (F := Ideal) A B v (ix3 0 f k) = v (ix3 0 f k) + ∑ r, A (ix3 0 r f) * B (ix2 r k) := by
  pointwise [k0_pay2]

variable (m : (ℓ : Loc nD τ sig) → Buf (Elt Ideal) ℓ) (c : Dev nD)

/-- The kernel's arguments as arrays. -/
def A0 : FVec Ideal Cert.FfnReferenceIdeal.S8192x2816 .f32 := m (c.tc.loc main_arg0)
def A1 : FVec Ideal Cert.FfnReferenceIdeal.S8192x1024 .f32 := m (c.tc.loc main_arg1)
def A2 : FVec Ideal Cert.FfnReferenceIdeal.S1x1024 .f32 := m (c.tc.loc main_arg2)

/-- The product's cotangent, -/
def aD (s : Fin 4) (R : Fin 8192) (f : Fin 704) : EReal := rows (A0 m c) R (fl s f)
/-- and the normalised rows. -/
def aH (R : Fin 8192) (k : Fin 1024) : EReal := rows (normed (A1 m c) (A2 m c)) R k

theorem d_arr : (V m c main_v2 : FVec Ideal S4x8192x704 .bf16) = parts (A0 m c) := by
  entry_read
  rfl
theorem h_arr : (V m c main_v17 : S8192x1024.Idx → EReal) = normed (A1 m c) (A2 m c) := by
  entry_read
  rfl

/-- The tile of a point, -/
def tile (t : Fin cfg0.N) : Fin 4 := ⟨t.val % 4, by omega⟩
/-- and its part of the inner width. -/
def shard (t : Fin cfg0.N) : Fin 4 := ⟨t.val / 4, by have h : t.val < 16 := lt_of_lt_of_eq t.isLt N_0; omega⟩

theorem idx : ∀ t : Fin cfg0.N, win0_0.index t = ![t.val / 4, t.val % 4, 0] ∧ win0_1.index t = ![t.val % 4, 0] ∧ win0_2.index t = ![t.val / 4, 0, 0] :=
  (by decide +kernel : ∀ t : Fin grid0.N, _)

theorem blk0 (t : Fin cfg0.N) (r : Fin 2048) (f : Fin 704) : (iblk m c 0 t : Vec Ideal S1x2048x704 .bf16) (ix3 0 r f) = aD m c (shard t) (row (tile t) r) f := by
  refine Eq.trans ?_ ((congrFun (d_arr m c) (ix3 (shard t) (row (tile t) r) f)).trans (parts_at _ _ _ _))
  unfold row tile shard; blk_simp [iblk, idx t]; blk_ext [idx t]
theorem blk1 (t : Fin cfg0.N) (r : Fin 2048) (k : Fin 1024) : (iblk m c 1 t : Vec Ideal S2048x1024 .bf16) (ix2 r k) = aH m c (row (tile t) r) k := by
  refine Eq.trans ?_ (congrFun (h_arr m c) (ix2 (row (tile t) r) k))
  unfold row tile; blk_simp [iblk, idx t]; blk_ext [idx t]

/-- A tile's share of the gradient. -/
def part (s : Fin 4) (b : ℕ) (f : Fin 704) (k : Fin 1024) : EReal :=
  if h : b < 4 then ∑ r, aD m c s (row ⟨b, h⟩ r) f * aH m c (row ⟨b, h⟩ r) k else 0

theorem pay_point (t : Fin cfg0.N) (v : Vec Ideal S1x704x1024 .f32) (f : Fin 704) (k : Fin 1024) :
    k0_pay2 (F := Ideal) (iblk m c 0 t) (iblk m c 1 t) v (ix3 0 f k) = v (ix3 0 f k) + part m c (shard t) (t.val % 4) f k := by
  rw [pay2_at]
  unfold part
  rw [dif_pos (by omega)]
  simp only [blk0 m c t, blk1 m c t]
  rfl

theorem first (t : Fin cfg0.N) (h0 : t.val % 4 = 0) (f : Fin 704) (k : Fin 1024) :
    (outsAt0 m c t.val t.isLt (ix3 0 f k) : EReal) = ∑ i ∈ Finset.range (t.val % 4 + 1), part m c (shard t) i f k := by
  rw [outsAt0_A m c t h0, out_A_2_eq]
  refine (pay_point m c t _ f k).trans ?_
  rw [pay1_at, h0, Finset.sum_range_one]
  exact zero_add _

/-- After a point the buffer holds the shares of the tiles so far. -/
theorem sum_tile (n : ℕ) : ∀ (h : n < cfg0.N) (f : Fin 704) (k : Fin 1024),
    (outsAt0 m c n h (ix3 0 f k) : EReal) = ∑ i ∈ Finset.range (n % 4 + 1), part m c (shard ⟨n, h⟩) i f k := by
  induction n with
  | zero => exact fun h f k => first m c ⟨0, h⟩ rfl f k
  | succ n ih =>
    intro h f k
    by_cases h0 : (n + 1) % 4 = 0
    · exact first m c ⟨n + 1, h⟩ h0 f k
    · have e := outsAt0_B m c ⟨n + 1, h⟩ h0
      rw [out_B_2_eq] at e
      have hm : (n + 1) % 4 = n % 4 + 1 := by omega
      have hs : shard ⟨n, Nat.lt_of_succ_lt h⟩ = shard ⟨n + 1, h⟩ := Fin.ext (by show n / 4 = (n + 1) / 4; omega)
      refine (congrFun e (ix3 0 f k)).trans ((pay_point m c ⟨n + 1, h⟩ _ f k).trans ?_)
      refine (congrArg (· + _) (ih (Nat.lt_of_succ_lt h) f k)).trans ?_
      show _ + part m c _ ((n + 1) % 4) f k = _
      rw [hs, hm, Finset.sum_range_succ (n := n % 4 + 1)]

/-- The kernel's result: at a part of the inner width the whole sum over the rows. -/
theorem array2 : (dats m 0 c).arrAt 2 cfg0.N = fun j : S4x704x1024.Idx => ∑ R, aD m c (j 0) R (j 1) * aH m c R (j 2) := by
  refine (dats m 0 c).arrAt_eq_of_covers 2 _ (by decide +kernel) fun t ht y => ?_
  have h2 : t.val % 4 = 3 := (by decide +kernel : ∀ t : Fin cfg0.grid.N, (win0 2).flush t = true → t.val % 4 = 3) t ht
  blk_simp
  rw [after0_2]
  idx_vars y
  have ey : y0 = 0 := Subsingleton.elim (α := Fin 1) _ _
  rw [ey]
  refine (sum_tile m c t.val t.isLt _ _).trans ?_
  rw [h2, Finset.sum_range]
  unfold part
  have full : ∀ (s : Fin 4) (f : Fin 704) (k : Fin 1024), (∑ i : Fin 4, if h : i.val < 4 then ∑ r, aD m c s (row ⟨i.val, h⟩ r) f * aH m c (row ⟨i.val, h⟩ r) k else 0)
      = ∑ R, aD m c s R f * aH m c R k := fun s f k => by
    rw [Fin.sum_univ_tiles 4 2048 (by norm_num) (fun R : Fin 8192 => aD m c s R f * aH m c R k)]
    exact Finset.sum_congr rfl fun i _ => dif_pos i.isLt
  refine (full _ _ _).trans ?_
  refine Finset.sum_congr rfl fun R _ => congrArg₂ (· * ·) ?_ ?_
  · refine congr (congrArg (fun s => aD m c s R) (Fin.ext ?_)) (Fin.ext ?_)
    · blk_simp [idx t]
      unfold shard
      dsimp only [Matrix.cons_val_zero]
      try omega
    · blk_simp [idx t]
  · refine congrArg (aH m c R) (Fin.ext ?_)
    blk_simp [idx t]

end Cert.InGrad

namespace Cert.InGradRef

open Idealize.ShloMosaic Idealize.ShloMosaic.TcCoe Idealize.SL.Sem Cert.Grad
open Cert.FfnRef (fl rows normed)
open Cert.InGradReferenceIdeal Cert.InGradReferenceIdeal.Gen Cert.InGradReferenceIdeal.Value

/-- The reference's result. -/
def weight (d : FVec Ideal S8192x2816 .f32) (x : FVec Ideal S8192x1024 .f32) (g : FVec Ideal S1x1024 .f32) : FVec Ideal S4x704x1024 .f32 :=
  shapeCast _ (transpose S2816x1024 [1, 0] (transpose S1024x2816 [1, 0] (Host.dotGeneral dot_S8192x2816_S8192x1024_S2816x1024_0_0_1_1_n_n none d (normed x g)) transposes_S2816x1024_S1024x2816_1_0) transposes_S1024x2816_S2816x1024_1_0) shapeCasts_S2816x1024_S4x704x1024

theorem weight_at (d : FVec Ideal S8192x2816 .f32) (x : FVec Ideal S8192x1024 .f32) (g : FVec Ideal S1x1024 .f32) (s : Fin 4) (f : Fin 704) (k : Fin 1024) :
    weight d x g (ix3 s f k) = ∑ R, rows d R (fl s f) * rows (normed x g) R k := by
  unfold weight rows fl
  pointwise

/-- The kernel's array is the reference's. -/
theorem eq2 (m : (ℓ : Loc Cert.InGradIdeal.nD Cert.InGradIdeal.τ Cert.InGradIdeal.sig) → Buf (Elt Ideal) ℓ) (c : Dev Cert.InGradIdeal.nD)
    (a0 : FVec Ideal S8192x2816 .f32) (a1 : FVec Ideal S8192x1024 .f32) (a2 : FVec Ideal S1x1024 .f32)
    (h : a0 = Cert.InGrad.A0 m c ∧ a1 = Cert.InGrad.A1 m c ∧ a2 = Cert.InGrad.A2 m c) :
    weight a0 a1 a2 = (Cert.InGradIdeal.Gen.dats m 0 c).arrAt 2 Cert.InGradIdeal.cfg0.N := by
  obtain ⟨rfl, rfl, rfl⟩ := h
  rw [Cert.InGrad.array2]
  funext j
  idx_vars j
  exact weight_at _ _ _ _ _ _

end Cert.InGradRef

end
-- ==== Proof.FwdBody.lean ====
/- One step of the feed-forward layer's forward call on any staging buffers: what it leaves in each, by the three ways through its branches. -/
module

public import proofs.«01_k».proof.Proof.Gen.FfnFwdIdeal.Launch
public import proofs.«01_k».proof.Proof.Gen.FfnFwdIdeal.Skeleton
public import Idealize.ShloMosaic.Lib.Pipeline.FrameBody
public import Idealize.ShloMosaic.Lib.Ring
public import Idealize.ShloMosaic.Lib.Tactic
public import Idealize.ShloMosaic.Lib.VecWindow
public import Idealize.ShloMosaic.Lib.Pipeline.ValueKit

@[expose] public section

set_option maxRecDepth 16384

noncomputable section

namespace Cert.FwdRun

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref in vector memory. -/
abbrev Ref (s : Shape) (e : EltTy) := Memref sig .tc .vmem s e

/-- The rows, a weight's part, a part's columns: what the staging buffers hold. -/
abbrev Rows (F : FTy → Type) := Vec F S1024x1024 .f32
abbrev RowsB (F : FTy → Type) := Vec F S1024x1024 .bf16
abbrev Part (F : FTy → Type) := Vec F S1x704x1024 .bf16
abbrev Cols (F : FTy → Type) := Vec F S1x1024x704 .bf16

/-- A buffer at contents, and a buffer at some contents. -/
abbrev at_ (c : Dev nD) {s : Shape} {e : EltTy} (r : Ref s e) (x : Vec F s e) : sProp 𝕄 := owns (c : Thread nD τ) r fullShare x
abbrev any_ (c : Dev nD) {s : Shape} {e : EltTy} (r : Ref s e) : sProp 𝕄 := iprop(∃ x : Vec F s e, owns (c : Thread nD τ) r fullShare x)

/-- The sum over the parts after one more part: the products of the activations with the part of the last weight added. -/
def step (h : RowsB F) (a : Rows F) (x2 x3 x4 : Part F) : Rows F := k0_pay1 (k0_pay10 h x2 x3) a x4

variable (c : Dev nD) (i : grid0.Coords)
  (r2 : Ref S1024x1024 .f32) (w2 : r2.IsWhole) (r3 : Ref S1x1024 .f32) (w3 : r3.IsWhole)
  (r4 : Ref S1x704x1024 .bf16) (w4 : r4.IsWhole) (r5 : Ref S1x704x1024 .bf16) (w5 : r5.IsWhole) (r6 : Ref S1x704x1024 .bf16) (w6 : r6.IsWhole)
  (r7 : Ref S1024x1024 .bf16) (w7 : r7.IsWhole) (r8 : Ref S1x1024x704 .bf16) (w8 : r8.IsWhole) (r9 : Ref S1x1024x704 .bf16) (w9 : r9.IsWhole)
  (r10 : Ref S1x1024x704 .bf16) (w10 : r10.IsWhole) (r11 : Ref S1024x1024 .f32) (w11 : r11.IsWhole)
  (r12 : Ref S1024x1024 .bf16) (w12 : r12.IsWhole) (r13 : Ref S1024x1024 .f32) (w13 : r13.IsWhole)
  (x0 : Rows F) (x1 : Vec F S1x1024 .f32) (x2 x3 x4 : Part F)

/-- The body on these buffers. -/
abbrev body : Prog (TpuEff nD τ sig (Elt F) Λ₀ .tc) PUnit :=
  cc0_ffn_fwd1 i r2 w2 r3 w3 r4 w4 r5 w5 r6 w6 r7 w7 r8 w8 r9 w9 r10 w10 r11 w11 r12 w12 r13 w13

set_option maxHeartbeats 2000000 in
/-- At a tile's first part: the rows are normalised, kept in both buffers, and the sum starts from zero. -/
theorem body_first (h1 : k0_cond1 i = 1#1) (h2 : ¬k0_cond2 i = 1#1) (X11 : Rows F) (E : Set ℕ) (K : PUnit → sProp 𝕄) :
    iprop(at_ c r2 x0 ∗ at_ c r3 x1 ∗ at_ c r4 x2 ∗ at_ c r5 x3 ∗ at_ c r6 x4 ∗ any_ c r7 ∗ any_ c r8 ∗ any_ c r9 ∗ any_ c r10 ∗ at_ c r11 X11 ∗ any_ c r12 ∗ any_ c r13
        ∗ (iprop(at_ c r2 x0 ∗ at_ c r3 x1 ∗ at_ c r4 x2 ∗ at_ c r5 x3 ∗ at_ c r6 x4 ∗ at_ c r7 (k0_pay3 x0 x1) ∗ at_ c r8 (k0_pay8 (k0_pay4 x0 x1) x2) ∗ at_ c r9 (k0_pay9 (k0_pay4 x0 x1) x3)
            ∗ at_ c r10 (k0_pay11 (k0_pay4 x0 x1) x2 x3) ∗ at_ c r11 X11 ∗ at_ c r12 (k0_pay4 x0 x1) ∗ at_ c r13 (step (k0_pay4 x0 x1) (k0_pay5 (F := F)) x2 x3 x4)) -∗ K ⟨⟩))
      ⊢ wp frame (wpE (defs₀ (F := F)) Variants.none c none) E (body i r2 w2 r3 w3 r4 w4 r5 w5 r6 w6 r7 w7 r8 w8 r9 w9 r10 w10 r11 w11 r12 w12 r13 w13) K := by
  unfold body
  simp only [cc0_ffn_fwd1_eq_skeleton]; unfold cc0_ffn_fwd1_skel
  simp only [k0_part1_eq_skeleton]
  unfold at_ any_ owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%f11, %e11, H11⟩, ⟨%d12, %f12, -, H12⟩, ⟨%d13, %f13, -, H13⟩, Hk⟩
  obtain rfl := w2.eq_unread e2; obtain rfl := w3.eq_unread e3; obtain rfl := w4.eq_unread e4; obtain rfl := w5.eq_unread e5; obtain rfl := w6.eq_unread e6; obtain rfl := w11.eq_unread e11
  sl_exec (disch := first | sl_exact h1 | sl_exact h2)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; swap; · iexact H7
    ipureintro; (frame_out; exact View.read_writes_full _ _ _ _ _)
  isplitl [H8]
  · iexists _; isplitr; swap; · iexact H8
    ipureintro; (frame_out; exact View.read_writes_full _ _ _ _ _)
  isplitl [H9]
  · iexists _; isplitr; swap; · iexact H9
    ipureintro; (frame_out; exact View.read_writes_full _ _ _ _ _)
  isplitl [H10]
  · iexists _; isplitr; swap; · iexact H10
    ipureintro; (frame_out; exact View.read_writes_full _ _ _ _ _)
  isplitl [H11]
  · iexists _; isplitr; · ipureintro; exact w11.read_unread _
    iexact H11
  isplitl [H12]
  · iexists _; isplitr; swap; · iexact H12
    ipureintro; (frame_out; exact View.read_writes_full _ _ _ _ _)
  iexists _; isplitr; swap; · iexact H13
  ipureintro; (frame_out; exact View.read_writes_full _ _ _ _ _)

set_option maxHeartbeats 2000000 in
/-- At a part in between: the normalised rows are read back. -/
theorem body_next (h1 : ¬k0_cond1 i = 1#1) (h2 : ¬k0_cond2 i = 1#1) (X7 : RowsB F) (X11 : Rows F) (h : RowsB F) (a : Rows F) (E : Set ℕ) (K : PUnit → sProp 𝕄) :
    iprop(at_ c r2 x0 ∗ at_ c r3 x1 ∗ at_ c r4 x2 ∗ at_ c r5 x3 ∗ at_ c r6 x4 ∗ at_ c r7 X7 ∗ any_ c r8 ∗ any_ c r9 ∗ any_ c r10 ∗ at_ c r11 X11 ∗ at_ c r12 h ∗ at_ c r13 a
        ∗ (iprop(at_ c r2 x0 ∗ at_ c r3 x1 ∗ at_ c r4 x2 ∗ at_ c r5 x3 ∗ at_ c r6 x4 ∗ at_ c r7 X7 ∗ at_ c r8 (k0_pay8 h x2) ∗ at_ c r9 (k0_pay9 h x3)
            ∗ at_ c r10 (k0_pay11 h x2 x3) ∗ at_ c r11 X11 ∗ at_ c r12 h ∗ at_ c r13 (step h a x2 x3 x4)) -∗ K ⟨⟩))
      ⊢ wp frame (wpE (defs₀ (F := F)) Variants.none c none) E (body i r2 w2 r3 w3 r4 w4 r5 w5 r6 w6 r7 w7 r8 w8 r9 w9 r10 w10 r11 w11 r12 w12 r13 w13) K := by
  unfold body
  simp only [cc0_ffn_fwd1_eq_skeleton]; unfold cc0_ffn_fwd1_skel
  simp only [k0_part1_eq_skeleton]
  unfold at_ any_ owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%f11, %e11, H11⟩, ⟨%f12, %e12, H12⟩, ⟨%f13, %e13, H13⟩, Hk⟩
  obtain rfl := w2.eq_unread e2; obtain rfl := w3.eq_unread e3; obtain rfl := w4.eq_unread e4; obtain rfl := w5.eq_unread e5; obtain rfl := w6.eq_unread e6; obtain rfl := w7.eq_unread e7; obtain rfl := w11.eq_unread e11; obtain rfl := w12.eq_unread e12; obtain rfl := w13.eq_unread e13
  sl_exec (disch := first | sl_exact h1 | sl_exact h2)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [H8]
  · iexists _; isplitr; swap; · iexact H8
    ipureintro; (frame_out; exact View.read_writes_full _ _ _ _ _)
  isplitl [H9]
  · iexists _; isplitr; swap; · iexact H9
    ipureintro; (frame_out; exact View.read_writes_full _ _ _ _ _)
  isplitl [H10]
  · iexists _; isplitr; swap; · iexact H10
    ipureintro; (frame_out; exact View.read_writes_full _ _ _ _ _)
  isplitl [H11]
  · iexists _; isplitr; · ipureintro; exact w11.read_unread _
    iexact H11
  isplitl [H12]
  · iexists _; isplitr; · ipureintro; exact w12.read_unread _
    iexact H12
  iexists _; isplitr; swap; · iexact H13
  ipureintro; (frame_out; exact View.read_writes_full _ _ _ _ _)

set_option maxHeartbeats 2000000 in
/-- At a tile's last part: the sum over the parts is added to the rows. -/
theorem body_last (h1 : ¬k0_cond1 i = 1#1) (h2 : k0_cond2 i = 1#1) (X7 : RowsB F) (h : RowsB F) (a : Rows F) (E : Set ℕ) (K : PUnit → sProp 𝕄) :
    iprop(at_ c r2 x0 ∗ at_ c r3 x1 ∗ at_ c r4 x2 ∗ at_ c r5 x3 ∗ at_ c r6 x4 ∗ at_ c r7 X7 ∗ any_ c r8 ∗ any_ c r9 ∗ any_ c r10 ∗ any_ c r11 ∗ at_ c r12 h ∗ at_ c r13 a
        ∗ (iprop(at_ c r2 x0 ∗ at_ c r3 x1 ∗ at_ c r4 x2 ∗ at_ c r5 x3 ∗ at_ c r6 x4 ∗ at_ c r7 X7 ∗ at_ c r8 (k0_pay8 h x2) ∗ at_ c r9 (k0_pay9 h x3)
            ∗ at_ c r10 (k0_pay11 h x2 x3) ∗ at_ c r11 (k0_pay2 x0 (step h a x2 x3 x4)) ∗ at_ c r12 h ∗ at_ c r13 (step h a x2 x3 x4)) -∗ K ⟨⟩))
      ⊢ wp frame (wpE (defs₀ (F := F)) Variants.none c none) E (body i r2 w2 r3 w3 r4 w4 r5 w5 r6 w6 r7 w7 r8 w8 r9 w9 r10 w10 r11 w11 r12 w12 r13 w13) K := by
  unfold body
  simp only [cc0_ffn_fwd1_eq_skeleton]; unfold cc0_ffn_fwd1_skel
  simp only [k0_part1_eq_skeleton]
  unfold at_ any_ owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%f12, %e12, H12⟩, ⟨%f13, %e13, H13⟩, Hk⟩
  obtain rfl := w2.eq_unread e2; obtain rfl := w3.eq_unread e3; obtain rfl := w4.eq_unread e4; obtain rfl := w5.eq_unread e5; obtain rfl := w6.eq_unread e6; obtain rfl := w7.eq_unread e7; obtain rfl := w12.eq_unread e12; obtain rfl := w13.eq_unread e13
  sl_exec (disch := first | sl_exact h1 | sl_exact h2)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [H8]
  · iexists _; isplitr; swap; · iexact H8
    ipureintro; (frame_out; exact View.read_writes_full _ _ _ _ _)
  isplitl [H9]
  · iexists _; isplitr; swap; · iexact H9
    ipureintro; (frame_out; exact View.read_writes_full _ _ _ _ _)
  isplitl [H10]
  · iexists _; isplitr; swap; · iexact H10
    ipureintro; (frame_out; exact View.read_writes_full _ _ _ _ _)
  isplitl [H11]
  · iexists _; isplitr; swap; · iexact H11
    ipureintro; (frame_out; exact View.read_writes_full _ _ _ _ _)
  isplitl [H12]
  · iexists _; isplitr; · ipureintro; exact w12.read_unread _
    iexact H12
  iexists _; isplitr; swap; · iexact H13
  ipureintro; (frame_out; exact View.read_writes_full _ _ _ _ _)

end Cert.FwdRun

end
-- ==== Proof.FwdRun.lean ====
/- The feed-forward layer's forward call over its whole grid: what the buffers hold step by step, and the run from any memory. -/
module

public import proofs.«01_k».proof.Proof.FwdBody
public import Idealize.ShloMosaic.Lib.Pipeline.TableIdle
public import Idealize.ShloMosaic.Lib.WordCmp
public import Idealize.ShloMosaic.Lib.Claim

@[expose] public section

set_option maxRecDepth 16384

noncomputable section

namespace Cert.FwdRun

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code before the call -/

/-- What the host code leaves in a buffer before the call. -/
abbrev V (c : Dev nD) (b : Idealize.ShloMosaic.Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem host_run (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument is not written by the host code. -/
theorem V_arg (c : Dev nD) (b : Idealize.ShloMosaic.Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    rcases hb with rfl | rfl | rfl | rfl | rfl
    all_goals (repeat' apply And.intro)
    all_goals exact StableHlo.devRef_ne_of_ne (by decide)))

/-! ## The points of the grid -/

theorem points : cfg0.N = 32 := N_0

theorem first_iff : ∀ t : Fin cfg0.N, k0_cond1 (grid0.coords t) = 1#1 ↔ t.val % 4 = 0 := (by decide +kernel : ∀ t : Fin grid0.N, k0_cond1 (grid0.coords t) = 1#1 ↔ t.val % 4 = 0)
theorem last_iff : ∀ t : Fin cfg0.N, k0_cond2 (grid0.coords t) = 1#1 ↔ t.val % 4 = 3 := (by decide +kernel : ∀ t : Fin grid0.N, k0_cond2 (grid0.coords t) = 1#1 ↔ t.val % 4 = 3)
/-- The normalised rows are stored at a tile's first part only, and written back after its last. -/
theorem idle_h : ∀ t : Fin cfg0.N, cfg0.idle 5 (grid0.coords t) = !decide (t.val % 4 = 0) := (by decide +kernel : ∀ t : Fin grid0.N, cfg0.idle 5 (grid0.coords t) = !decide (t.val % 4 = 0))
theorem flush_h : ∀ t : Fin cfg0.N, (cfg0.win 5).flush t = decide (t.val % 4 = 3) := (by decide +kernel : ∀ t : Fin grid0.N, (cfg0.win 5).flush t = decide (t.val % 4 = 3))
theorem fresh_h : ∀ t : Fin cfg0.N, cfg0.fresh 5 t.val = decide (t.val % 4 = 0) := (by decide +kernel : ∀ t : Fin grid0.N, cfg0.fresh 5 t.val = decide (t.val % 4 = 0))
/-- The layer's output is stored at a tile's last part only. -/
theorem idle_o : ∀ t : Fin cfg0.N, cfg0.idle 9 (grid0.coords t) = !decide (t.val % 4 = 3) := (by decide +kernel : ∀ t : Fin grid0.N, cfg0.idle 9 (grid0.coords t) = !decide (t.val % 4 = 3))
theorem flush_o : ∀ t : Fin cfg0.N, (cfg0.win 9).flush t = decide (t.val % 4 = 3) := (by decide +kernel : ∀ t : Fin grid0.N, (cfg0.win 9).flush t = decide (t.val % 4 = 3))

/-! ## What the buffers hold -/

/-- A window's block at a point, of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem pay4_eq (x : Vec F S1024x1024 .f32) (g : Vec F S1x1024 .f32) : k0_pay4 x g = k0_pay3 x g := by
  unfold k0_pay4; exact shapeCast_self _ _

/-- What a tile's first part starts from: the normalised rows, and zero. -/
def start (c : Dev nD) (t : Fin cfg0.N) : RowsB F × Rows F := (k0_pay4 (iblk m c 0 t) (iblk m c 1 t), k0_pay5)
/-- What a part adds. -/
def more (c : Dev nD) (t : Fin cfg0.N) (p : RowsB F × Rows F) : RowsB F × Rows F := (p.1, step p.1 p.2 (iblk m c 2 t) (iblk m c 3 t) (iblk m c 4 t))
/-- The normalised rows and the sum after each point. -/
def held (c : Dev nD) : (n : ℕ) → n < cfg0.N → RowsB F × Rows F
  | 0, h => more m c ⟨0, h⟩ (start m c ⟨0, h⟩)
  | n + 1, h => more m c ⟨n + 1, h⟩ (if (n + 1) % 4 = 0 then start m c ⟨n + 1, h⟩ else held c n (Nat.lt_of_succ_lt h))

/-- Before a point that is not the first: what the point before left. -/
abbrev prev (c : Dev nD) (t : Fin cfg0.N) : RowsB F × Rows F := held m c (t.val - 1) (Nat.lt_of_le_of_lt (Nat.sub_le _ _) t.isLt)

theorem held_first (c : Dev nD) (t : Fin cfg0.N) (h : t.val % 4 = 0) : held m c t.val t.isLt = more m c t (start m c t) := by
  obtain ⟨n, hn⟩ := t
  cases n with
  | zero => rfl
  | succ n => unfold held; rw [if_pos h]
theorem held_next (c : Dev nD) (t : Fin cfg0.N) (h : ¬t.val % 4 = 0) : held m c t.val t.isLt = more m c t (prev m c t) := by
  obtain ⟨n, hn⟩ := t
  cases n with
  | zero => exact absurd rfl h
  | succ n =>
    show more m c _ (if (n + 1) % 4 = 0 then _ else held m c n _) = _
    rw [if_neg h]; rfl

/-- The two buffers that are kept between points. -/
abbrev s0 : Ref S1024x1024 .bf16 := Memref.whole cc0_scratch0
abbrev s1 : Ref S1024x1024 .f32 := Memref.whole cc0_scratch1

/-- The invariant: before the first point they hold anything, afterwards what the point before left. -/
def Inv (c : Dev nD) : (n : ℕ) → n ≤ cfg0.N → sProp 𝕄
  | 0, _ => Pipeline.ΦA spec0 c
  | n + 1, hn => iprop(iprop(at_ c s0 (held m c n hn).1 ∗ at_ c s1 (held m c n hn).2) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(at_ c s0 (held m c n hn).1 ∗ at_ c s1 (held m c n hn).2) ∗ (∃ r, prngReg c r)) := rfl
theorem Inv_pos (c : Dev nD) (n : ℕ) (h : n ≤ cfg0.N) (hz : n ≠ 0) :
    Inv m c n h = iprop(iprop(at_ c s0 (held m c (n - 1) (by omega)).1 ∗ at_ c s1 (held m c (n - 1) (by omega)).2) ∗ (∃ r, prngReg c r)) := by
  cases n with
  | zero => exact absurd rfl hz
  | succ n => rfl

theorem ΦA_eq (c : Dev nD) : (Pipeline.ΦA spec0 c : sProp 𝕄) = iprop(iprop(any_ c s0 ∗ any_ c s1) ∗ (∃ r, prngReg c r)) := by
  unfold Pipeline.ΦA; rw [scopedRest0_eq]; simp only [any_, s0, s1, owns_whole]; try rfl

/-- At any point the two buffers hold something. -/
theorem Inv_any (c : Dev nD) (n : ℕ) (h : n ≤ cfg0.N) : Inv m c n h ⊢ (Pipeline.ΦA spec0 c : sProp 𝕄) := by
  by_cases hz : n = 0
  · rw [Inv_zero m c n h hz]
  · rw [Inv_pos m c n h hz, ΦA_eq]
    iintro ⟨⟨HS0, HS1⟩, Hg⟩
    isplitl [HS0 HS1]
    · isplitl [HS0]
      · iexists _; iexact HS0
      iexists _; iexact HS1
    iexact Hg

/-- The pipeline's data: the inputs' buffers keep their blocks, the outputs' hold what is computed from the rows and the sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (held m c t.val t.isLt).1
    | ⟨6, _⟩ => k0_pay8 (held m c t.val t.isLt).1 (iblk m c 2 t)
    | ⟨7, _⟩ => k0_pay9 (held m c t.val t.isLt).1 (iblk m c 3 t)
    | ⟨8, _⟩ => k0_pay11 (held m c t.val t.isLt).1 (iblk m c 2 t) (iblk m c 3 t)
    | ⟨9, _⟩ => k0_pay2 (iblk m c 0 t) (held m c t.val t.isLt).2
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_at (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (held m c t.val t.isLt).1 := by dsimp only [dats]
theorem after_6 (c : Dev nD) (t : Fin cfg0.N) : (dats m 0 c).after 6 t = k0_pay8 (held m c t.val t.isLt).1 (iblk m c 2 t) := by dsimp only [dats]
theorem after_7 (c : Dev nD) (t : Fin cfg0.N) : (dats m 0 c).after 7 t = k0_pay9 (held m c t.val t.isLt).1 (iblk m c 3 t) := by dsimp only [dats]
theorem after_8 (c : Dev nD) (t : Fin cfg0.N) : (dats m 0 c).after 8 t = k0_pay11 (held m c t.val t.isLt).1 (iblk m c 2 t) (iblk m c 3 t) := by dsimp only [dats]
theorem after_9 (c : Dev nD) (t : Fin cfg0.N) : (dats m 0 c).after 9 t = k0_pay2 (iblk m c 0 t) (held m c t.val t.isLt).2 := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
/-- After a tile's first part the buffer of the normalised rows holds them. -/
theorem before_h (c : Dev nD) (t : Fin cfg0.N) (h : ¬t.val % 4 = 0) (d) : (dats m 0 c).before 5 t d = (prev m c t).1 := by
  rw [Dat.before_out_traj _ 5 rfl (fun _ _ => rfl) (fun t ht hi hf => by
      have hn : ¬t.val % 4 = 0 := fun e => by rw [fresh_h t, e] at hf; exact absurd hf (by decide)
      rw [after_5, after_5, held_next m c t hn]; rfl) t.val t rfl d,
    if_neg (by rw [fresh_h t, decide_eq_false h]; exact Bool.false_ne_true)]
  exact after_5 m c _

/-- The buffers as the call passes them at a point. -/
abbrev b0 (t : Fin cfg0.N) : Ref S1024x1024 .f32 := win0_0.stage (cfg0.slots t 0)
abbrev b1 (t : Fin cfg0.N) : Ref S1x1024 .f32 := win0_1.stage (cfg0.slots t 1)
abbrev b2 (t : Fin cfg0.N) : Ref S1x704x1024 .bf16 := win0_2.stage (cfg0.slots t 2)
abbrev b3 (t : Fin cfg0.N) : Ref S1x704x1024 .bf16 := win0_3.stage (cfg0.slots t 3)
abbrev b4 (t : Fin cfg0.N) : Ref S1x704x1024 .bf16 := win0_4.stage (cfg0.slots t 4)
abbrev b5 (t : Fin cfg0.N) : Ref S1024x1024 .bf16 := win0_5.stage (cfg0.slots t 5)
abbrev b6 (t : Fin cfg0.N) : Ref S1x1024x704 .bf16 := win0_6.stage (cfg0.slots t 6)
abbrev b7 (t : Fin cfg0.N) : Ref S1x1024x704 .bf16 := win0_7.stage (cfg0.slots t 7)
abbrev b8 (t : Fin cfg0.N) : Ref S1x1024x704 .bf16 := win0_8.stage (cfg0.slots t 8)
abbrev b9 (t : Fin cfg0.N) : Ref S1024x1024 .f32 := win0_9.stage (cfg0.slots t 9)

/-- What a point leaves in each. -/
theorem left_0 (c : Dev nD) (t : Fin cfg0.N) : (dats m 0 c).leavesExact 0 t = at_ c (b0 t) (iblk m c 0 t) := by
  unfold Dat.leavesExact; rw [show cfg0.idle 0 (grid0.coords t) = false from rfl, after_0]
theorem left_1 (c : Dev nD) (t : Fin cfg0.N) : (dats m 0 c).leavesExact 1 t = at_ c (b1 t) (iblk m c 1 t) := by
  unfold Dat.leavesExact; rw [show cfg0.idle 1 (grid0.coords t) = false from rfl, after_1]
theorem left_2 (c : Dev nD) (t : Fin cfg0.N) : (dats m 0 c).leavesExact 2 t = at_ c (b2 t) (iblk m c 2 t) := by
  unfold Dat.leavesExact; rw [show cfg0.idle 2 (grid0.coords t) = false from rfl, after_2]
theorem left_3 (c : Dev nD) (t : Fin cfg0.N) : (dats m 0 c).leavesExact 3 t = at_ c (b3 t) (iblk m c 3 t) := by
  unfold Dat.leavesExact; rw [show cfg0.idle 3 (grid0.coords t) = false from rfl, after_3]
theorem left_4 (c : Dev nD) (t : Fin cfg0.N) : (dats m 0 c).leavesExact 4 t = at_ c (b4 t) (iblk m c 4 t) := by
  unfold Dat.leavesExact; rw [show cfg0.idle 4 (grid0.coords t) = false from rfl, after_4]
theorem left_6 (c : Dev nD) (t : Fin cfg0.N) : (dats m 0 c).leavesExact 6 t = at_ c (b6 t) (k0_pay8 (held m c t.val t.isLt).1 (iblk m c 2 t)) := by
  unfold Dat.leavesExact; rw [show cfg0.idle 6 (grid0.coords t) = false from rfl, after_6]
theorem left_7 (c : Dev nD) (t : Fin cfg0.N) : (dats m 0 c).leavesExact 7 t = at_ c (b7 t) (k0_pay9 (held m c t.val t.isLt).1 (iblk m c 3 t)) := by
  unfold Dat.leavesExact; rw [show cfg0.idle 7 (grid0.coords t) = false from rfl, after_7]
theorem left_8 (c : Dev nD) (t : Fin cfg0.N) : (dats m 0 c).leavesExact 8 t = at_ c (b8 t) (k0_pay11 (held m c t.val t.isLt).1 (iblk m c 2 t) (iblk m c 3 t)) := by
  unfold Dat.leavesExact; rw [show cfg0.idle 8 (grid0.coords t) = false from rfl, after_8]
theorem left_5 (c : Dev nD) (t : Fin cfg0.N) (h : t.val % 4 = 0 ∨ t.val % 4 = 3) : (dats m 0 c).leavesExact 5 t = at_ c (b5 t) ((held m c t.val t.isLt).1) := by
  unfold Dat.leavesExact
  rcases h with h | h
  · rw [idle_h t, h, after_5]; rfl
  · rw [idle_h t, flush_h t, h, after_5]; rfl
theorem left_9 (c : Dev nD) (t : Fin cfg0.N) (h : t.val % 4 = 3) : (dats m 0 c).leavesExact 9 t = at_ c (b9 t) (k0_pay2 (iblk m c 0 t) (held m c t.val t.isLt).2) := by
  unfold Dat.leavesExact; rw [idle_o t, h, after_9]; rfl
/-- At the other points the two that are stored at some points only are handed back as found. -/
theorem idle_5 (c : Dev nD) (t : Fin cfg0.N) (h : ¬t.val % 4 = 0) (h' : ¬t.val % 4 = 3) :
    (dats m 0 c).leavesExact 5 t = iprop(∃ d, at_ c (b5 t) ((dats m 0 c).before 5 t d)) :=
  Dat.leavesExact_idle (dats m 0 c) 5 t (by rw [idle_h t, decide_eq_false h]; rfl) (by rw [flush_h t, decide_eq_false h'])
theorem idle_9 (c : Dev nD) (t : Fin cfg0.N) (h : ¬t.val % 4 = 3) :
    (dats m 0 c).leavesExact 9 t = iprop(∃ d, at_ c (b9 t) ((dats m 0 c).before 9 t d)) :=
  Dat.leavesExact_idle (dats m 0 c) 9 t (by rw [idle_o t, decide_eq_false h]; rfl) (by rw [flush_o t, decide_eq_false h])

/-! ## Every point -/

/-- The body as the call runs it at a point. -/
abbrev bodyAt (t : Fin cfg0.N) : Prog (TpuEff nD τ sig (Elt F) Λ₀ .tc) PUnit :=
  body (grid0.coords t) (b0 t) (hstage0_0 ((cfg0.slots t 0).cast nbuf0_0)) (b1 t) (hstage0_1 ((cfg0.slots t 1).cast nbuf0_1)) (b2 t) (hstage0_2 ((cfg0.slots t 2).cast nbuf0_2)) (b3 t) (hstage0_3 ((cfg0.slots t 3).cast nbuf0_3)) (b4 t) (hstage0_4 ((cfg0.slots t 4).cast nbuf0_4)) (b5 t) (hstage0_5 ((cfg0.slots t 5).cast nbuf0_5)) (b6 t) (hstage0_6 ((cfg0.slots t 6).cast nbuf0_6)) (b7 t) (hstage0_7 ((cfg0.slots t 7).cast nbuf0_7)) (b8 t) (hstage0_8 ((cfg0.slots t 8).cast nbuf0_8)) (b9 t) (hstage0_9 ((cfg0.slots t 9).cast nbuf0_9)) s0 (Memref.isWhole_whole _) s1 (Memref.isWhole_whole _)

/-- What it is called with, -/
def Pre (c : Dev nD) (t : Fin cfg0.N) : sProp 𝕄 :=
  iprop((dats m 0 c).Φ t.castSucc ∗ (dats m 0 c).owesAt () t.castSucc
    ∗ (∃ d, at_ c (b0 t) ((dats m 0 c).before 0 t d))
    ∗ (∃ d, at_ c (b1 t) ((dats m 0 c).before 1 t d))
    ∗ (∃ d, at_ c (b2 t) ((dats m 0 c).before 2 t d))
    ∗ (∃ d, at_ c (b3 t) ((dats m 0 c).before 3 t d))
    ∗ (∃ d, at_ c (b4 t) ((dats m 0 c).before 4 t d))
    ∗ (∃ d, at_ c (b5 t) ((dats m 0 c).before 5 t d))
    ∗ (∃ d, at_ c (b6 t) ((dats m 0 c).before 6 t d))
    ∗ (∃ d, at_ c (b7 t) ((dats m 0 c).before 7 t d))
    ∗ (∃ d, at_ c (b8 t) ((dats m 0 c).before 8 t d))
    ∗ (∃ d, at_ c (b9 t) ((dats m 0 c).before 9 t d)))
/-- and what it returns. -/
def Post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2000000 in
/-- A tile's first part. -/
theorem point_first (c : Dev nD) (t : Fin cfg0.N) (h : t.val % 4 = 0) :
    Pre m c t ⊢ wp frame (wpE (defs₀ (F := F)) Variants.none c none) Set.univ (bodyAt t) (fun _ => Post m c t) := by
  unfold Pre Post bodyAt
  simp only [before_0, before_1, before_2, before_3, before_4]
  rw [show (dats m 0 c).owesAt () t.succ = (dats m 0 c).owesAt () t.castSucc from rfl,
    show (dats m 0 c).Φ t.succ = Inv m c (t.val + 1) t.isLt from rfl, Inv_succ, Inv_at]
  rw [left_0, left_1, left_2, left_3, left_4, left_5 m c t (.inl h), left_6, left_7, left_8, idle_9 m c t (by omega)]
  rw [held_first m c t h]
  refine BIBase.Entails.trans (sep_mono_left (Inv_any m c _ _)) ?_
  rw [ΦA_eq]
  unfold start more; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_first c (grid0.coords t) (b0 t) (hstage0_0 ((cfg0.slots t 0).cast nbuf0_0)) (b1 t) (hstage0_1 ((cfg0.slots t 1).cast nbuf0_1)) (b2 t) (hstage0_2 ((cfg0.slots t 2).cast nbuf0_2)) (b3 t) (hstage0_3 ((cfg0.slots t 3).cast nbuf0_3)) (b4 t) (hstage0_4 ((cfg0.slots t 4).cast nbuf0_4)) (b5 t) (hstage0_5 ((cfg0.slots t 5).cast nbuf0_5)) (b6 t) (hstage0_6 ((cfg0.slots t 6).cast nbuf0_6)) (b7 t) (hstage0_7 ((cfg0.slots t 7).cast nbuf0_7)) (b8 t) (hstage0_8 ((cfg0.slots t 8).cast nbuf0_8)) (b9 t) (hstage0_9 ((cfg0.slots t 9).cast nbuf0_9)) s0 (Memref.isWhole_whole _) s1 (Memref.isWhole_whole _) (iblk m c 0 t) (iblk m c 1 t) (iblk m c 2 t) (iblk m c 3 t) (iblk m c 4 t) (h1 := (first_iff t).mpr h) (h2 := fun e => absurd ((last_iff t).mp e) (by omega)) _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  rw [← pay4_eq (iblk m c 0 t) (iblk m c 1 t)]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 2000000 in
/-- A part in between. -/
theorem point_next (c : Dev nD) (t : Fin cfg0.N) (h : ¬t.val % 4 = 0) (h2 : ¬t.val % 4 = 3) :
    Pre m c t ⊢ wp frame (wpE (defs₀ (F := F)) Variants.none c none) Set.univ (bodyAt t) (fun _ => Post m c t) := by
  unfold Pre Post bodyAt
  simp only [before_0, before_1, before_2, before_3, before_4]
  rw [show (dats m 0 c).owesAt () t.succ = (dats m 0 c).owesAt () t.castSucc from rfl,
    show (dats m 0 c).Φ t.succ = Inv m c (t.val + 1) t.isLt from rfl, Inv_succ, Inv_at]
  rw [left_0, left_1, left_2, left_3, left_4, idle_5 m c t h h2, left_6, left_7, left_8, idle_9 m c t (by omega)]
  rw [held_next m c t h, Inv_pos m c _ _ (by omega)]
  unfold more; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_next c (grid0.coords t) (b0 t) (hstage0_0 ((cfg0.slots t 0).cast nbuf0_0)) (b1 t) (hstage0_1 ((cfg0.slots t 1).cast nbuf0_1)) (b2 t) (hstage0_2 ((cfg0.slots t 2).cast nbuf0_2)) (b3 t) (hstage0_3 ((cfg0.slots t 3).cast nbuf0_3)) (b4 t) (hstage0_4 ((cfg0.slots t 4).cast nbuf0_4)) (b5 t) (hstage0_5 ((cfg0.slots t 5).cast nbuf0_5)) (b6 t) (hstage0_6 ((cfg0.slots t 6).cast nbuf0_6)) (b7 t) (hstage0_7 ((cfg0.slots t 7).cast nbuf0_7)) (b8 t) (hstage0_8 ((cfg0.slots t 8).cast nbuf0_8)) (b9 t) (hstage0_9 ((cfg0.slots t 9).cast nbuf0_9)) s0 (Memref.isWhole_whole _) s1 (Memref.isWhole_whole _) (iblk m c 0 t) (iblk m c 1 t) (iblk m c 2 t) (iblk m c 3 t) (iblk m c 4 t) (h1 := fun e => absurd ((first_iff t).mp e) (by omega)) (h2 := fun e => absurd ((last_iff t).mp e) (by omega)) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iexists _; iexact H9

set_option maxHeartbeats 2000000 in
/-- A tile's last part. -/
theorem point_last (c : Dev nD) (t : Fin cfg0.N) (h : t.val % 4 = 3) :
    Pre m c t ⊢ wp frame (wpE (defs₀ (F := F)) Variants.none c none) Set.univ (bodyAt t) (fun _ => Post m c t) := by
  unfold Pre Post bodyAt
  simp only [before_0, before_1, before_2, before_3, before_4]
  rw [show (dats m 0 c).owesAt () t.succ = (dats m 0 c).owesAt () t.castSucc from rfl,
    show (dats m 0 c).Φ t.succ = Inv m c (t.val + 1) t.isLt from rfl, Inv_succ, Inv_at]
  rw [left_0, left_1, left_2, left_3, left_4, left_5 m c t (.inr h), left_6, left_7, left_8, left_9 m c t h]
  rw [held_next m c t (by omega), Inv_pos m c _ _ (by omega)]
  unfold more; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_h m c t (by omega)]
  iapply (body_last c (grid0.coords t) (b0 t) (hstage0_0 ((cfg0.slots t 0).cast nbuf0_0)) (b1 t) (hstage0_1 ((cfg0.slots t 1).cast nbuf0_1)) (b2 t) (hstage0_2 ((cfg0.slots t 2).cast nbuf0_2)) (b3 t) (hstage0_3 ((cfg0.slots t 3).cast nbuf0_3)) (b4 t) (hstage0_4 ((cfg0.slots t 4).cast nbuf0_4)) (b5 t) (hstage0_5 ((cfg0.slots t 5).cast nbuf0_5)) (b6 t) (hstage0_6 ((cfg0.slots t 6).cast nbuf0_6)) (b7 t) (hstage0_7 ((cfg0.slots t 7).cast nbuf0_7)) (b8 t) (hstage0_8 ((cfg0.slots t 8).cast nbuf0_8)) (b9 t) (hstage0_9 ((cfg0.slots t 9).cast nbuf0_9)) s0 (Memref.isWhole_whole _) s1 (Memref.isWhole_whole _) (iblk m c 0 t) (iblk m c 1 t) (iblk m c 2 t) (iblk m c 3 t) (iblk m c 4 t) (h1 := fun e => absurd ((first_iff t).mp e) (by omega)) (h2 := (last_iff t).mpr h) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem point (c : Dev nD) (t : Fin cfg0.N) :
    Pre m c t ⊢ wp frame (wpE (defs₀ (F := F)) Variants.none c none) Set.univ (bodyAt t) (fun _ => Post m c t) := by
  by_cases h : t.val % 4 = 0
  · exact point_first m c t h
  · by_cases h2 : t.val % 4 = 3
    · exact point_last m c t h2
    · exact point_next m c t h h2

theorem row (t : Fin cfg0.N) : defs₀ (F := F) .tc cfg0.body (cfg0.bodyArgs t (cfg0.slots t)) = bodyAt t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

/-! ## The run -/

theorem enter (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _
theorem leave (c : Dev nD) : (dats m 0 c).Φ (Fin.last cfg0.N) ⊢ Pipeline.ΦA spec0 c := by
  rw [show (dats m 0 c).Φ (Fin.last cfg0.N) = Inv m c cfg0.N (Nat.le_refl _) from rfl]
  exact Inv_any m c _ _

set_option backward.isDefEq.respectTransparency.types false in
/-- The program ends from any memory: every array at what the points left, every counter at zero. -/
theorem run (F : FTy → Type) [FloatOps F] (m : (ℓ : Loc nD τ sig) → Buf (Elt F) ℓ) (ρ : Dev nD → PrngReg) :
    θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := host_run m Variants.none) (hA := A_eq m) (hin := enter m) (hout := leave m)

/-- The arguments are kept, the results are what the points left, every counter is at zero. -/
theorem result : θ_run defs (onTc (τ := τ) (main (F := F))) ⟨m, fun _ => 0, ρ⟩ (fun r => (∀ c : Dev nD,
      (r.2.mem ((c.tc : Thread nD τ).loc main_v8_0) = (dats m 0 c).arrAt 5 cfg0.N
        ∧ r.2.mem ((c.tc : Thread nD τ).loc main_v8_1) = (dats m 0 c).arrAt 6 cfg0.N
        ∧ r.2.mem ((c.tc : Thread nD τ).loc main_v8_2) = (dats m 0 c).arrAt 7 cfg0.N
        ∧ r.2.mem ((c.tc : Thread nD τ).loc main_v8_3) = (dats m 0 c).arrAt 8 cfg0.N
        ∧ r.2.mem ((c.tc : Thread nD τ).loc main_v8_4) = (dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨⟨(h.1 c).1 5, (h.1 c).1 6, (h.1 c).1 7, (h.1 c).1 8, (h.1 c).1 9⟩,
      ((h.1 c).1 0).trans (((dats m 0 c).arrAt_in 0 rfl _).trans ((A_eq m c 0).trans (V_arg m c main_arg0 (by simp)))),
      ((h.1 c).1 1).trans (((dats m 0 c).arrAt_in 1 rfl _).trans ((A_eq m c 1).trans (V_arg m c main_arg1 (by simp)))),
      ((h.1 c).2 main_arg2 (Pipeline.mem_restRefs_of main_arg2 (by decide) (by decide))).trans (V_arg m c main_arg2 (by simp)),
      ((h.1 c).2 main_arg3 (Pipeline.mem_restRefs_of main_arg3 (by decide) (by decide))).trans (V_arg m c main_arg3 (by simp)),
      ((h.1 c).2 main_arg4 (Pipeline.mem_restRefs_of main_arg4 (by decide) (by decide))).trans (V_arg m c main_arg4 (by simp))⟩, h.2⟩) (run F m ρ)

end Cert.FwdRun

end
-- ==== Proof.FwdValue.lean ====
/- What the feed-forward layer's forward call leaves in its five result arrays. -/
module

public import proofs.«01_k».proof.Proof.FwdRun
public import proofs.«01_k».proof.Proof.InGrad

@[expose] public section

set_option maxRecDepth 16384

noncomputable section

namespace Cert.FwdVal

open Idealize.ShloMosaic Idealize.ShloMosaic.TcCoe Idealize.SL.Sem Cert.Grad
open Idealize.ShloMosaic.Pipeline (Dat)
open Cert.FfnRef (fl rows)
open Cert.FfnFwdIdeal Cert.FfnFwdIdeal.Gen Cert.FwdRun

/-! ## One block -/

section
variable (h : Vec Ideal S1024x1024 .bf16) (w u d : Vec Ideal S1x704x1024 .bf16)

/-- A block's rows times a part of a weight, -/
def prod (r : Fin 1024) (f : Fin 704) : EReal := ∑ k, h (ix2 r k) * w (ix3 0 f k)
/-- and the gated unit of two. -/
def unit (a b : EReal) : EReal := a * sgm a * b

theorem pay3_at (X : Vec Ideal S1024x1024 .f32) (g : Vec Ideal S1x1024 .f32) (r k : Fin 1024) :
    k0_pay3 (F := Ideal) X g (ix2 r k) = X (ix2 r k) * rinv (fun i k => X (ix2 i k)) r * g (ix2 0 k) := by
  unfold rinv
  pointwise [k0_pay3]

theorem pay5_at (r k : Fin 1024) : (k0_pay5 (F := Ideal) (ix2 r k) : EReal) = 0 := by pointwise [k0_pay5]

theorem pay8_at (r : Fin 1024) (f : Fin 704) : k0_pay8 (F := Ideal) h w (ix3 0 r f) = prod h w r f := by
  unfold prod
  pointwise [k0_pay8, k0_pay6]

theorem pay9_at (r : Fin 1024) (f : Fin 704) : k0_pay9 (F := Ideal) h w (ix3 0 r f) = prod h w r f := by
  unfold prod
  pointwise [k0_pay9, k0_pay7]

theorem pay11_at (r : Fin 1024) (f : Fin 704) : k0_pay11 (F := Ideal) h w u (ix3 0 r f) = unit (prod h w r f) (prod h u r f) := by
  unfold unit sgm prod
  pointwise [k0_pay11, k0_pay10, k0_pay6, k0_pay7]

theorem step_at (a : Vec Ideal S1024x1024 .f32) (r j : Fin 1024) :
    step (F := Ideal) h a w u d (ix2 r j) = a (ix2 r j) + ∑ f, unit (prod h w r f) (prod h u r f) * d (ix3 0 f j) := by
  unfold unit sgm prod step
  pointwise [k0_pay1, k0_pay10, k0_pay6, k0_pay7]

theorem pay2_at (x a : Vec Ideal S1024x1024 .f32) (r j : Fin 1024) : k0_pay2 (F := Ideal) x a (ix2 r j) = x (ix2 r j) + a (ix2 r j) := by
  pointwise [k0_pay2]
end

/-! ## The arrays -/

variable (m : (ℓ : Loc nD τ sig) → Buf (Elt Ideal) ℓ) (c : Dev nD)

/-- The kernel's arguments as arrays. -/
def A0 : FVec Ideal Cert.FfnReferenceIdeal.S8192x1024 .f32 := m (c.tc.loc main_arg0)
def A1 : FVec Ideal Cert.FfnReferenceIdeal.S1x1024 .f32 := m (c.tc.loc main_arg1)
def A2 : FVec Ideal Cert.FfnReferenceIdeal.S1024x2816 .f32 := m (c.tc.loc main_arg2)
def A3 : FVec Ideal Cert.FfnReferenceIdeal.S1024x2816 .f32 := m (c.tc.loc main_arg3)
def A4 : FVec Ideal Cert.FfnReferenceIdeal.S2816x1024 .f32 := m (c.tc.loc main_arg4)

/-- The normalised rows, -/
def aH (R : Fin 8192) (k : Fin 1024) : EReal := rows (A0 m c) R k * rinv (rows (A0 m c)) R * rows (A1 m c) 0 k
/-- the gate, -/
def aGate (s : Fin 4) (R : Fin 8192) (f : Fin 704) : EReal := ∑ k, aH m c R k * rows (A2 m c) k (fl s f)
/-- the up-projection, -/
def aUp (s : Fin 4) (R : Fin 8192) (f : Fin 704) : EReal := ∑ k, aH m c R k * rows (A3 m c) k (fl s f)
/-- the activation, -/
def aAct (s : Fin 4) (R : Fin 8192) (f : Fin 704) : EReal := unit (aGate m c s R f) (aUp m c s R f)
/-- a part's share of the down-projection. -/
def part (i : ℕ) (R : Fin 8192) (j : Fin 1024) : EReal := if h : i < 4 then ∑ f, aAct m c ⟨i, h⟩ R f * rows (A4 m c) (fl ⟨i, h⟩ f) j else 0
/-- The layer's output. -/
def aOut (R : Fin 8192) (j : Fin 1024) : EReal := rows (A0 m c) R j + ∑ s, ∑ f, aAct m c s R f * rows (A4 m c) (fl s f) j

theorem gate_arr (s : Fin 4) (f : Fin 704) (k : Fin 1024) : (V m c main_v2 : FVec Ideal S4x704x1024 .bf16) (ix3 s f k) = rows (A2 m c) k (fl s f) := by
  unfold rows A2 fl
  entry_read
  pointwise
theorem up_arr (s : Fin 4) (f : Fin 704) (k : Fin 1024) : (V m c main_v5 : FVec Ideal S4x704x1024 .bf16) (ix3 s f k) = rows (A3 m c) k (fl s f) := by
  unfold rows A3 fl
  entry_read
  pointwise
theorem down_arr (s : Fin 4) (f : Fin 704) (k : Fin 1024) : (V m c main_v7 : FVec Ideal S4x704x1024 .bf16) (ix3 s f k) = rows (A4 m c) (fl s f) k := by
  unfold rows A4 fl
  entry_read
  pointwise

/-- Row `r` of tile `b`. -/
def row (b : Fin 8) (r : Fin 1024) : Fin 8192 := ⟨b.val * 1024 + r.val, by omega⟩
/-- The tile of a point, -/
def tile (t : Fin cfg0.N) : Fin 8 := ⟨t.val / 4, by have h : t.val < 32 := lt_of_lt_of_eq t.isLt N_0; omega⟩
/-- and its part of the inner width. -/
def shard (t : Fin cfg0.N) : Fin 4 := ⟨t.val % 4, by omega⟩

theorem idx : ∀ t : Fin cfg0.N, win0_0.index t = ![t.val / 4, 0] ∧ win0_1.index t = ![0, 0] ∧ win0_2.index t = ![t.val % 4, 0, 0] ∧ win0_3.index t = ![t.val % 4, 0, 0]
    ∧ win0_4.index t = ![t.val % 4, 0, 0] ∧ win0_5.index t = ![t.val / 4, 0] ∧ win0_6.index t = ![t.val % 4, t.val / 4, 0] ∧ win0_7.index t = ![t.val % 4, t.val / 4, 0]
    ∧ win0_8.index t = ![t.val % 4, t.val / 4, 0] ∧ win0_9.index t = ![t.val / 4, 0] :=
  (by decide +kernel : ∀ t : Fin grid0.N, _)

theorem blk0 (t : Fin cfg0.N) (r k : Fin 1024) : (iblk m c 0 t : Vec Ideal S1024x1024 .f32) (ix2 r k) = rows (A0 m c) (row (tile t) r) k := by
  refine Eq.trans ?_ (congrFun (V_arg m c main_arg0 (by simp)) (ix2 (row (tile t) r) k))
  unfold row tile; blk_simp [iblk, idx t]; blk_ext [idx t]
theorem blk1 (t : Fin cfg0.N) (k : Fin 1024) : (iblk m c 1 t : Vec Ideal S1x1024 .f32) (ix2 0 k) = rows (A1 m c) 0 k := by
  refine Eq.trans ?_ (congrFun (V_arg m c main_arg1 (by simp)) (ix2 0 k))
  blk_simp [iblk, idx t]; blk_ext [idx t]
theorem blk2 (t : Fin cfg0.N) (f : Fin 704) (k : Fin 1024) : (iblk m c 2 t : Vec Ideal S1x704x1024 .bf16) (ix3 0 f k) = rows (A2 m c) k (fl (shard t) f) := by
  refine Eq.trans ?_ (gate_arr m c (shard t) f k)
  unfold shard; blk_simp [iblk, idx t]; blk_ext [idx t]
theorem blk3 (t : Fin cfg0.N) (f : Fin 704) (k : Fin 1024) : (iblk m c 3 t : Vec Ideal S1x704x1024 .bf16) (ix3 0 f k) = rows (A3 m c) k (fl (shard t) f) := by
  refine Eq.trans ?_ (up_arr m c (shard t) f k)
  unfold shard; blk_simp [iblk, idx t]; blk_ext [idx t]
theorem blk4 (t : Fin cfg0.N) (f : Fin 704) (k : Fin 1024) : (iblk m c 4 t : Vec Ideal S1x704x1024 .bf16) (ix3 0 f k) = rows (A4 m c) (fl (shard t) f) k := by
  refine Eq.trans ?_ (down_arr m c (shard t) f k)
  unfold shard; blk_simp [iblk, idx t]; blk_ext [idx t]

/-! ## What the points leave -/

theorem start_at (t : Fin cfg0.N) (r k : Fin 1024) : ((start m c t).1 (ix2 r k) : EReal) = aH m c (row (tile t) r) k := by
  show k0_pay4 (F := Ideal) (iblk m c 0 t) (iblk m c 1 t) (ix2 r k) = _
  rw [pay4_eq, pay3_at]
  unfold aH rinv
  simp only [blk0 m c t, blk1 m c t]

theorem tile_pred (n : ℕ) (h : n + 1 < cfg0.N) (h0 : ¬(n + 1) % 4 = 0) : tile ⟨n, Nat.lt_of_succ_lt h⟩ = tile ⟨n + 1, h⟩ :=
  Fin.ext (by show n / 4 = (n + 1) / 4; omega)

/-- After any point the kept rows are the tile's normalised rows. -/
theorem rows_at (n : ℕ) : ∀ (h : n < cfg0.N) (r k : Fin 1024), ((held m c n h).1 (ix2 r k) : EReal) = aH m c (row (tile ⟨n, h⟩) r) k := by
  induction n with
  | zero => exact fun h r k => start_at m c ⟨0, h⟩ r k
  | succ n ih =>
    intro h r k
    by_cases h0 : (n + 1) % 4 = 0
    · rw [held_first m c ⟨n + 1, h⟩ h0]; exact start_at m c ⟨n + 1, h⟩ r k
    · rw [held_next m c ⟨n + 1, h⟩ h0]
      exact (ih (Nat.lt_of_succ_lt h) r k).trans (congrArg (fun b => aH m c (row b r) k) (tile_pred n h h0))

section
variable (t : Fin cfg0.N) (h : Vec Ideal S1024x1024 .bf16) (hh : ∀ r k, (h (ix2 r k) : EReal) = aH m c (row (tile t) r) k)
include hh

theorem gate_at (r : Fin 1024) (f : Fin 704) : prod h (iblk m c 2 t) r f = aGate m c (shard t) (row (tile t) r) f := by
  unfold prod aGate
  exact Finset.sum_congr rfl fun k _ => congrArg₂ (· * ·) (hh r k) (blk2 m c t f k)
theorem up_at (r : Fin 1024) (f : Fin 704) : prod h (iblk m c 3 t) r f = aUp m c (shard t) (row (tile t) r) f := by
  unfold prod aUp
  exact Finset.sum_congr rfl fun k _ => congrArg₂ (· * ·) (hh r k) (blk3 m c t f k)
theorem act_at (r : Fin 1024) (f : Fin 704) : unit (prod h (iblk m c 2 t) r f) (prod h (iblk m c 3 t) r f) = aAct m c (shard t) (row (tile t) r) f := by
  rw [gate_at m c t h hh, up_at m c t h hh]; rfl
theorem more_at (a : Vec Ideal S1024x1024 .f32) (r j : Fin 1024) :
    (step (F := Ideal) h a (iblk m c 2 t) (iblk m c 3 t) (iblk m c 4 t) (ix2 r j) : EReal) = a (ix2 r j) + part m c (t.val % 4) (row (tile t) r) j := by
  rw [step_at]
  unfold part
  rw [dif_pos (by omega)]
  exact congrArg (_ + ·) (Finset.sum_congr rfl fun f _ => congrArg₂ (· * ·) (act_at m c t h hh r f) (blk4 m c t f j))
end

theorem sum_first (t : Fin cfg0.N) (h0 : t.val % 4 = 0) (r j : Fin 1024) :
    ((held m c t.val t.isLt).2 (ix2 r j) : EReal) = ∑ i ∈ Finset.range (t.val % 4 + 1), part m c i (row (tile t) r) j := by
  rw [held_first m c t h0, h0, Finset.sum_range_one]
  refine (more_at m c t (start m c t).1 (start_at m c t) (k0_pay5 (F := Ideal)) r j).trans ?_
  rw [pay5_at, h0]
  exact zero_add _

/-- After any point the sum has the parts so far. -/
theorem sum_at (n : ℕ) : ∀ (h : n < cfg0.N) (r j : Fin 1024),
    ((held m c n h).2 (ix2 r j) : EReal) = ∑ i ∈ Finset.range (n % 4 + 1), part m c i (row (tile ⟨n, h⟩) r) j := by
  induction n with
  | zero => exact fun h r j => sum_first m c ⟨0, h⟩ rfl r j
  | succ n ih =>
    intro h r j
    by_cases h0 : (n + 1) % 4 = 0
    · exact sum_first m c ⟨n + 1, h⟩ h0 r j
    · have hm : (n + 1) % 4 = n % 4 + 1 := by omega
      rw [held_next m c ⟨n + 1, h⟩ h0]
      refine (more_at m c ⟨n + 1, h⟩ (held m c n (Nat.lt_of_succ_lt h)).1
        (fun r k => (rows_at m c n _ r k).trans (congrArg (fun b => aH m c (row b r) k) (tile_pred n h h0))) (held m c n (Nat.lt_of_succ_lt h)).2 r j).trans ?_
      refine (congrArg (· + _) (ih (Nat.lt_of_succ_lt h) r j)).trans ?_
      show _ + part m c ((n + 1) % 4) _ j = _
      rw [tile_pred n h h0, hm, Finset.sum_range_succ (n := n % 4 + 1)]

theorem out_at (t : Fin cfg0.N) (h3 : t.val % 4 = 3) (r j : Fin 1024) :
    (k0_pay2 (F := Ideal) (iblk m c 0 t) (held m c t.val t.isLt).2 (ix2 r j) : EReal) = aOut m c (row (tile t) r) j := by
  rw [pay2_at, blk0]
  unfold aOut
  refine congrArg (_ + ·) ((sum_at m c t.val t.isLt r j).trans ?_)
  rw [h3, Finset.sum_range]
  unfold part
  exact Finset.sum_congr rfl fun i _ => dif_pos i.isLt

/-! ## The results -/

theorem array5 : (dats m 0 c).arrAt 5 cfg0.N = fun j : S8192x1024.Idx => aH m c (j 0) (j 1) := by
  refine (dats m 0 c).arrAt_eq_of_covers 5 _ (by decide +kernel) fun t ht y => ?_
  blk_simp
  rw [after_5]
  idx_vars y
  refine (rows_at m c t.val t.isLt _ _).trans ?_
  refine congrArg₂ (aH m c) (Fin.ext ?_) (Fin.ext ?_)
  · unfold row tile; blk_simp [idx t]
  · blk_simp [idx t]

theorem array9 : (dats m 0 c).arrAt 9 cfg0.N = fun j : S8192x1024.Idx => aOut m c (j 0) (j 1) := by
  refine (dats m 0 c).arrAt_eq_of_covers 9 _ (by decide +kernel) fun t ht y => ?_
  have h3 : t.val % 4 = 3 := by rw [flush_o t] at ht; exact of_decide_eq_true ht
  blk_simp
  rw [after_9]
  idx_vars y
  refine (out_at m c t h3 _ _).trans ?_
  refine congrArg₂ (aOut m c) (Fin.ext ?_) (Fin.ext ?_)
  · unfold row tile; blk_simp [idx t]
  · blk_simp [idx t]

theorem array6 : (dats m 0 c).arrAt 6 cfg0.N = fun j : S4x8192x704.Idx => aGate m c (j 0) (j 1) (j 2) := by
  refine (dats m 0 c).arrAt_eq_of_covers 6 _ (by decide +kernel) fun t ht y => ?_
  blk_simp
  rw [after_6]
  idx_vars y
  have ey : y0 = 0 := Subsingleton.elim (α := Fin 1) _ _
  rw [ey]
  refine ((pay8_at _ _ _ _).trans (gate_at m c t _ (rows_at m c t.val t.isLt) _ _)).trans ?_
  refine congr (congrArg₂ (aGate m c) (Fin.ext ?_) (Fin.ext ?_)) (Fin.ext ?_)
  · unfold shard; blk_simp [idx t]; rfl
  · unfold row tile; blk_simp [idx t]
  · blk_simp [idx t]

theorem array7 : (dats m 0 c).arrAt 7 cfg0.N = fun j : S4x8192x704.Idx => aUp m c (j 0) (j 1) (j 2) := by
  refine (dats m 0 c).arrAt_eq_of_covers 7 _ (by decide +kernel) fun t ht y => ?_
  blk_simp
  rw [after_7]
  idx_vars y
  have ey : y0 = 0 := Subsingleton.elim (α := Fin 1) _ _
  rw [ey]
  refine ((pay9_at _ _ _ _).trans (up_at m c t _ (rows_at m c t.val t.isLt) _ _)).trans ?_
  refine congr (congrArg₂ (aUp m c) (Fin.ext ?_) (Fin.ext ?_)) (Fin.ext ?_)
  · unfold shard; blk_simp [idx t]; rfl
  · unfold row tile; blk_simp [idx t]
  · blk_simp [idx t]

theorem array8 : (dats m 0 c).arrAt 8 cfg0.N = fun j : S4x8192x704.Idx => aAct m c (j 0) (j 1) (j 2) := by
  refine (dats m 0 c).arrAt_eq_of_covers 8 _ (by decide +kernel) fun t ht y => ?_
  blk_simp
  rw [after_8]
  idx_vars y
  have ey : y0 = 0 := Subsingleton.elim (α := Fin 1) _ _
  rw [ey]
  refine ((pay11_at _ _ _ _ _).trans (act_at m c t _ (rows_at m c t.val t.isLt) _ _)).trans ?_
  refine congr (congrArg₂ (aAct m c) (Fin.ext ?_) (Fin.ext ?_)) (Fin.ext ?_)
  · unfold shard; blk_simp [idx t]; rfl
  · unfold row tile; blk_simp [idx t]
  · blk_simp [idx t]

end Cert.FwdVal

end
-- ==== Proof.FwdEquation.lean ====
/- The feed-forward layer's forward arrays are its reference's, whatever the arguments. -/
module

public import proofs.«01_k».proof.Proof.FwdValue
public import proofs.«01_k».proof.Proof.Gen.FfnFwdReferenceIdeal.Run

@[expose] public section

set_option maxRecDepth 16384

noncomputable section

namespace Cert.Grad

open Idealize.ShloMosaic

/-- The two forms of the logistic function agree at the infinities too. -/
theorem sgm_logi (a : EReal) : sgm a = logi a := by
  induction a using EReal.rec with
  | bot =>
    unfold sgm logi
    rw [bits_pos_half, bits_one, EReal.coe_mul_bot_of_pos (by norm_num), Ideal.tanh_bot, EReal.neg_bot, Ideal.exp_top, EReal.coe_add_top]
    unfold Ideal.div
    rw [if_neg EReal.top_ne_zero, EReal.inv_top, mul_zero, show (-1 : EReal) = ((-1 : ℝ) : EReal) by norm_num, ← EReal.coe_mul, ← EReal.coe_add]
    norm_num
  | coe r => exact sgm_eq (.coe r)
  | top =>
    unfold sgm logi
    rw [bits_pos_half, bits_one, EReal.coe_mul_top_of_pos (by norm_num), Ideal.tanh_top, EReal.neg_top, Ideal.exp_bot, add_zero, ← EReal.coe_one, ← EReal.coe_mul, ← EReal.coe_add,
      Ideal.div_coe one_ne_zero, ← EReal.coe_mul]
    norm_num

end Cert.Grad

namespace Cert.FwdEq

open Idealize.ShloMosaic Idealize.ShloMosaic.TcCoe Idealize.SL.Sem Cert.Grad
open Cert.FfnRef (fl rows normed parts proj sg xr gains parts_at proj_at xr_at gains_at sg_at)
open Cert.FfnFwdReferenceIdeal Cert.FfnFwdReferenceIdeal.Gen Cert.FfnFwdReferenceIdeal.Value
open Cert.FwdVal (A0 A1 A2 A3 A4 aH aGate aUp aAct aOut array5 array6 array7 array8 array9)

section
variable (x : FVec Ideal S8192x1024 .f32) (g : FVec Ideal S1x1024 .f32) (wg wu : FVec Ideal S1024x2816 .f32) (wd : FVec Ideal S2816x1024 .f32)

/-- The reference's normalised rows, -/
def hidden : FVec Ideal S8192x1024 .bf16 := truncf .bf16 (normed x g) bitsLt_bf16_f32
/-- its activation, -/
def actv : FVec Ideal S8192x2816 .f32 := mulf (mulf (proj x g wg) (sg (proj x g wg))) (proj x g wu)
/-- and its output. -/
def out : FVec Ideal S8192x1024 .f32 := addf x (Host.dotGeneral dot_S8192x2816_S2816x1024_S8192x1024_1_0_0_1_n_n none (actv x g wg wu) wd)

theorem hidden_at (R : Fin 8192) (k : Fin 1024) : hidden x g (ix2 R k) = rows x R k * rinv (rows x) R * rows g 0 k := by
  refine Eq.trans (b := rows (xr x) R k * rows (gains g) R k) ?_ (congrArg₂ (· * ·) (xr_at x R k) (gains_at g R k))
  unfold rows
  pointwise [hidden, normed]

theorem actv_at (R : Fin 8192) (F : Fin 2816) : actv x g wg wu (ix2 R F) = rows (proj x g wg) R F * sgm (rows (proj x g wg) R F) * rows (proj x g wu) R F := by
  rw [sgm_logi]
  unfold rows
  rw [← sg_at]
  pointwise [actv]

theorem out_at (R : Fin 8192) (j : Fin 1024) : out x g wg wu wd (ix2 R j) = rows x R j + ∑ F, rows (actv x g wg wu) R F * rows wd F j := by
  unfold rows
  pointwise [out]
end

variable (m : (ℓ : Loc Cert.FfnFwdIdeal.nD Cert.FfnFwdIdeal.τ Cert.FfnFwdIdeal.sig) → Buf (Elt Ideal) ℓ) (c : Dev Cert.FfnFwdIdeal.nD)

theorem act_eq (s : Fin 4) (R : Fin 8192) (f : Fin 704) : rows (actv (A0 m c) (A1 m c) (A2 m c) (A3 m c)) R (fl s f) = aAct m c s R f :=
  (actv_at _ _ _ _ R (fl s f)).trans (congrArg₂ (fun a b : EReal => a * sgm a * b) (proj_at (A0 m c) (A1 m c) (A2 m c) R (fl s f)) (proj_at (A0 m c) (A1 m c) (A3 m c) R (fl s f)))

/-- The kernel's arrays are the reference's. -/
theorem eqs (a0 : FVec Ideal S8192x1024 .f32) (a1 : FVec Ideal S1x1024 .f32) (a2 a3 : FVec Ideal S1024x2816 .f32) (a4 : FVec Ideal S2816x1024 .f32)
    (h : a0 = A0 m c ∧ a1 = A1 m c ∧ a2 = A2 m c ∧ a3 = A3 m c ∧ a4 = A4 m c) :
    hidden a0 a1 = (Cert.FwdRun.dats m 0 c).arrAt 5 Cert.FfnFwdIdeal.cfg0.N
      ∧ parts (proj a0 a1 a2) = (Cert.FwdRun.dats m 0 c).arrAt 6 Cert.FfnFwdIdeal.cfg0.N
      ∧ parts (proj a0 a1 a3) = (Cert.FwdRun.dats m 0 c).arrAt 7 Cert.FfnFwdIdeal.cfg0.N
      ∧ parts (actv a0 a1 a2 a3) = (Cert.FwdRun.dats m 0 c).arrAt 8 Cert.FfnFwdIdeal.cfg0.N
      ∧ out a0 a1 a2 a3 a4 = (Cert.FwdRun.dats m 0 c).arrAt 9 Cert.FfnFwdIdeal.cfg0.N := by
  obtain ⟨rfl, rfl, rfl, rfl, rfl⟩ := h
  rw [array5, array6, array7, array8, array9]
  refine ⟨?_, ?_, ?_, ?_, ?_⟩ <;> funext j <;> idx_vars j
  · exact hidden_at _ _ _ _
  · exact (parts_at _ _ _ _).trans (proj_at _ _ _ _ _)
  · exact (parts_at _ _ _ _).trans (proj_at _ _ _ _ _)
  · exact (parts_at _ _ _ _).trans (act_eq m c _ _ _)
  · refine (out_at _ _ _ _ _ _ _).trans (congrArg (_ + ·) ?_)
    rw [Fin.sum_univ_tiles 4 704 (by norm_num) (fun F : Fin 2816 => rows (actv (A0 m c) (A1 m c) (A2 m c) (A3 m c)) j0 F * rows (A4 m c) F j1)]
    exact Finset.sum_congr rfl fun s _ => Finset.sum_congr rfl fun f _ => congrArg (· * _) (act_eq m c s j0 f)

end Cert.FwdEq

end
-- ==== Proof.DownRun.lean ====
/- The gradient of the feed-forward layer's last weight over its whole grid. One buffer holds the gradient's four parts, and a step adds to one
   of them; until the first tile's steps are over the other parts hold anything, so only the parts already stored are described. -/
module

public import proofs.«01_k».proof.Proof.Gen.DownGradIdeal.Launch
public import proofs.«01_k».proof.Proof.Gen.DownGradIdeal.Skeleton
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.VecWindow
public import Idealize.ShloMosaic.Lib.WordCmp
public import Idealize.ShloMosaic.Lib.Claim

@[expose] public section

set_option maxRecDepth 16384

noncomputable section

namespace Cert.DownRun

open Cert.DownGradIdeal Cert.DownGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

/-! ## One step -/

/-- A memref in vector memory. -/
abbrev Ref (s : Shape) (e : EltTy) := Memref sig .tc .vmem s e

/-- A tile of the activations, a tile of the cotangent, the gradient, a part of it. -/
abbrev Acts (F : FTy → Type) := Vec F S1x2048x704 .bf16
abbrev Cots (F : FTy → Type) := Vec F S2048x1024 .f32
abbrev Whole (F : FTy → Type) := Vec F S4x704x1024 .f32
abbrev Slab (F : FTy → Type) := Vec F S1x704x1024 .f32

/-- A buffer at contents. -/
abbrev at_ (c : Dev nD) {s : Shape} {e : EltTy} (r : Ref s e) (x : Vec F s e) : sProp 𝕄 := owns (c : Thread nD τ) r fullShare x

theorem inside (s : Fin 4) : ∀ a, (![s.val, 0, 0] : Fin 3 → ℕ) a + S1x704x1024.size a ≤ S4x704x1024.size a := by
  revert s; decide

/-- Part `s` of the gradient, -/
def slab (X : Whole F) (s : Fin 4) : Slab F := VecWindow.window (s := S4x704x1024) X ![s.val, 0, 0] S1x704x1024.size (inside s)
/-- and the gradient with another part `s`. -/
def with_ (X : Whole F) (s : Fin 4) (w : Slab F) : Whole F := VecWindow.put (s := S4x704x1024) X ![s.val, 0, 0] S1x704x1024.size w

theorem slab_same (X : Whole F) (s : Fin 4) (w : Slab F) : slab (with_ X s w) s = w := VecWindow.window_put_same (s := S4x704x1024) X _ _ (inside s) w
theorem slab_other (X : Whole F) (s s' : Fin 4) (w : Slab F) (h : s' ≠ s) : slab (with_ X s w) s' = slab X s' :=
  VecWindow.window_put_of_disjoint (s := S4x704x1024) X _ _ _ _ (inside s') w 0 (by
    have : s'.val ≠ s.val := fun e => h (Fin.ext e)
    show s'.val + 1 ≤ s.val ∨ s.val + 1 ≤ s'.val
    omega)

section

variable (c : Dev nD) (i : grid0.Coords)
  (r2 : Ref S1x2048x704 .bf16) (w2 : r2.IsWhole) (r3 : Ref S2048x1024 .f32) (w3 : r3.IsWhole) (r4 : Ref S4x704x1024 .f32) (w4 : r4.IsWhole)
  (x0 : Acts F) (x1 : Cots F) (X : Whole F)

/-- The body on these buffers. -/
abbrev body : Prog (TpuEff nD τ sig (Elt F) Λ₀ .tc) PUnit := cc0_wgrad_down1 i r2 w2 r3 w3 r4 w4

set_option maxHeartbeats 2000000 in
/-- At the first tile the part is stored. -/
theorem body_first (s : Fin 4) (h1 : k0_cond1 i = 1#1) (h2 : ¬k0_cond2 i = 1#1) (ho : k0_off1 i = ![s.val, 0, 0]) (E : Set ℕ) (K : PUnit → sProp 𝕄) :
    iprop(at_ c r2 x0 ∗ at_ c r3 x1 ∗ at_ c r4 X
        ∗ (iprop(at_ c r2 x0 ∗ at_ c r3 x1 ∗ at_ c r4 (with_ X s (k0_pay2 x0 x1))) -∗ K ⟨⟩))
      ⊢ wp frame (wpE (defs₀ (F := F)) Variants.none c none) E (body i r2 w2 r3 w3 r4 w4) K := by
  unfold body
  simp only [cc0_wgrad_down1_eq_skeleton]; unfold cc0_wgrad_down1_skel
  unfold at_ owns
  iintro ⟨⟨%f2, %e2, H2⟩, ⟨%f3, %e3, H3⟩, ⟨%f4, %e4, H4⟩, Hk⟩
  obtain rfl := w2.eq_unread e2; obtain rfl := w3.eq_unread e3; obtain rfl := w4.eq_unread e4
  sl_exec (disch := first | sl_exact h1 | sl_exact h2)
  sl_step
  iapply Hk
  isplitl [H2]
  · iexists _; isplitr; · ipureintro; exact w2.read_unread _
    iexact H2
  isplitl [H3]
  · iexists _; isplitr; · ipureintro; exact w3.read_unread _
    iexact H3
  iexists _; isplitr; swap; · iexact H4
  ipureintro
  rw [View.read_writes_cons_put _ _ _ _ _ ho]
  frame_out
  rw [View.writes_nil, w4.read_unread]
  rfl

set_option maxHeartbeats 2000000 in
/-- At a later tile the products are added to it. -/
theorem body_next (s : Fin 4) (h1 : ¬k0_cond1 i = 1#1) (h2 : k0_cond2 i = 1#1) (ho : k0_off2 i = ![s.val, 0, 0]) (E : Set ℕ) (K : PUnit → sProp 𝕄) :
    iprop(at_ c r2 x0 ∗ at_ c r3 x1 ∗ at_ c r4 X
        ∗ (iprop(at_ c r2 x0 ∗ at_ c r3 x1 ∗ at_ c r4 (with_ X s (k0_pay3 x0 x1 (slab X s)))) -∗ K ⟨⟩))
      ⊢ wp frame (wpE (defs₀ (F := F)) Variants.none c none) E (body i r2 w2 r3 w3 r4 w4) K := by
  unfold body
  simp only [cc0_wgrad_down1_eq_skeleton]; unfold cc0_wgrad_down1_skel
  unfold at_ owns
  iintro ⟨⟨%f2, %e2, H2⟩, ⟨%f3, %e3, H3⟩, ⟨%f4, %e4, H4⟩, Hk⟩
  obtain rfl := w2.eq_unread e2; obtain rfl := w3.eq_unread e3; obtain rfl := w4.eq_unread e4
  sl_exec (disch := first | sl_exact h1 | sl_exact h2)
  sl_step
  iapply Hk
  isplitl [H2]
  · iexists _; isplitr; · ipureintro; exact w2.read_unread _
    iexact H2
  isplitl [H3]
  · iexists _; isplitr; · ipureintro; exact w3.read_unread _
    iexact H3
  iexists _; isplitr; swap; · iexact H4
  ipureintro
  rw [View.read_writes_cons_put _ _ _ _ _ ho, View.readAt_unit r4.view _ _ ho (inside s)]
  frame_out
  rw [View.writes_nil, w4.read_unread]
  rfl

end

/-! ## The host code before the call -/

variable (m : (ℓ : Loc nD τ sig) → Buf (Elt F) ℓ) (ρ : Dev nD → PrngReg)

abbrev hostOps : List (List (HloOp τ sig (Elt F))) := [hostOps0, hostOps0_1, hostOps0_2]

/-- What the host code leaves in a buffer before the call. -/
abbrev V (c : Dev nD) (b : Idealize.ShloMosaic.Ref sig .tc) : Buf (Elt F) ((c : Thread nD τ).loc b) := StableHlo.after (hostOps (F := F)).flatten (fun b => m (c, b)) b

set_option maxHeartbeats 800000 in
theorem host_run (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOps ⟨hostOps0_sub, hostOps0_1_sub, hostOps0_2_sub⟩
    (by simp only [List.Forall]; repeat' constructor) main_chain

/-- An argument is not written by the host code. -/
theorem V_arg (c : Dev nD) (b : Idealize.ShloMosaic.Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (List.forall_iff_forall_mem.mp (by
    simp only [hostOps, hostOps0, hostOps0_1, hostOps0_2, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.reshape_writes, Finset.mem_singleton]
    rcases hb with rfl | rfl | rfl | rfl | rfl
    all_goals (repeat' apply And.intro)
    all_goals exact StableHlo.devRef_ne_of_ne (by decide)))

/-! ## The points of the grid -/

/-- The part of the gradient that a point adds to. -/
def part (n : ℕ) : Fin 4 := ⟨n % 4, Nat.mod_lt _ (by decide)⟩

theorem first_iff : ∀ t : Fin cfg0.N, k0_cond1 (grid0.coords t) = 1#1 ↔ t.val < 4 := (by decide +kernel : ∀ t : Fin grid0.N, k0_cond1 (grid0.coords t) = 1#1 ↔ t.val < 4)
theorem next_iff : ∀ t : Fin cfg0.N, k0_cond2 (grid0.coords t) = 1#1 ↔ ¬t.val < 4 := (by decide +kernel : ∀ t : Fin grid0.N, k0_cond2 (grid0.coords t) = 1#1 ↔ ¬t.val < 4)
theorem off1 : ∀ t : Fin cfg0.N, k0_off1 (grid0.coords t) = ![(part t.val).val, 0, 0] := (by decide +kernel : ∀ t : Fin grid0.N, k0_off1 (grid0.coords t) = ![(part t.val).val, 0, 0])
theorem off2 : ∀ t : Fin cfg0.N, k0_off2 (grid0.coords t) = ![(part t.val).val, 0, 0] := (by decide +kernel : ∀ t : Fin grid0.N, k0_off2 (grid0.coords t) = ![(part t.val).val, 0, 0])
/-- The gradient is written back once, at the end. -/
theorem flush_g : ∀ t : Fin cfg0.N, (cfg0.win 2).flush t = decide (t.val = 15) := (by decide +kernel : ∀ t : Fin grid0.N, (cfg0.win 2).flush t = decide (t.val = 15))
theorem fetch_g : ∀ t : Fin cfg0.N, (cfg0.win 2).fetch t = false := (by decide +kernel : ∀ t : Fin grid0.N, (cfg0.win 2).fetch t = false)
theorem last_lt : 15 < cfg0.N := lt_of_lt_of_eq (by decide) N_0.symm
theorem whole_g : (cfg0.win 2).WholeAt ⟨15, last_lt⟩ := (by decide +kernel : (win0 2).WholeAt (⟨15, by rw [N_0]; decide⟩ : Fin grid0.N))

/-! ## What the buffers hold -/

/-- A window's block at a point, of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The part that a point leaves: the products of the tiles so far, summed. -/
def held (c : Dev nD) (n : ℕ) (h : n < cfg0.N) : Slab F :=
  if n < 4 then k0_pay2 (iblk m c 0 ⟨n, h⟩) (iblk m c 1 ⟨n, h⟩)
  else k0_pay3 (iblk m c 0 ⟨n, h⟩) (iblk m c 1 ⟨n, h⟩) (held c (n - 4) (Nat.lt_of_le_of_lt (Nat.sub_le _ _) h))
termination_by n

theorem held_first (c : Dev nD) (t : Fin cfg0.N) (h : t.val < 4) : held m c t.val t.isLt = k0_pay2 (iblk m c 0 t) (iblk m c 1 t) := by
  rw [held, if_pos h]
theorem held_next (c : Dev nD) (t : Fin cfg0.N) (h : ¬t.val < 4) :
    held m c t.val t.isLt = k0_pay3 (iblk m c 0 t) (iblk m c 1 t) (held m c (t.val - 4) (Nat.lt_of_le_of_lt (Nat.sub_le _ _) t.isLt)) := by
  rw [held, if_neg h]

/-- After a point, the part of each of the last four points holds what that point left. -/
def Stored (c : Dev nD) (n : ℕ) (X : Whole F) : Prop := ∀ (k : ℕ) (h : k < cfg0.N), k ≤ n → n < k + 4 → slab X (part k) = held m c k h

theorem stored_with (c : Dev nD) (t : Fin cfg0.N) (X : Whole F) (w : Slab F) (hX : t.val ≠ 0 → Stored m c (t.val - 1) X) (hw : w = held m c t.val t.isLt) :
    Stored m c t.val (with_ X (part t.val) w) := by
  intro k h hk hk'
  by_cases e : k = t.val
  · subst e
    rw [slab_same]; exact hw
  · rw [slab_other X _ _ _ (fun e' => by
      have := congrArg Fin.val e'
      unfold part at this
      dsimp only at this
      omega)]
    exact hX (by omega) k h (by omega) (by omega)

/-- The part a later point adds to is what the same part was left at. -/
theorem stored_at (c : Dev nD) (t : Fin cfg0.N) (h : ¬t.val < 4) (X : Whole F) (hX : Stored m c (t.val - 1) X) :
    slab X (part t.val) = held m c (t.val - 4) (Nat.lt_of_le_of_lt (Nat.sub_le _ _) t.isLt) := by
  rw [← hX (t.val - 4) (Nat.lt_of_le_of_lt (Nat.sub_le _ _) t.isLt) (by omega) (by omega)]
  exact congrArg (slab X) (Fin.ext (by unfold part; dsimp only; omega))

/-- The pipeline's data: the inputs' buffers keep their blocks; of the gradient's buffer nothing is named here, -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Pipeline.Dat.unnamed (cfg := cfg0) 2 t
  Φ _ := Pipeline.ΦA spec0 c
  q _ := fullShare
  owed _ := 0

/-- it is held to the parts stored so far. -/
def loosely : Fin cfg0.W → Bool
  | ⟨0, _⟩ => false
  | ⟨1, _⟩ => false
  | ⟨2, _⟩ => true
def told (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun t X => Stored m c t.val X

abbrev rdats (c : Dev nD) : RDat τ (Elt F) Unit ℕ (UR sig nD τ) ℕ cfg0 c := (dats m 0 c).toRRel loosely (told m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)

/-- After the first point the gradient's buffer is found as the point before left it. -/
theorem found (c : Dev nD) (t : Fin cfg0.N) (X : Whole F) (hX : (rdats m c).Finds 2 t X) (h : t.val ≠ 0) : Stored m c (t.val - 1) X := by
  rcases ((rdats m c).finds_of_pos (fetch_g t) h X).mp hX with hf | hL
  · rw [flush_g] at hf
    have := of_decide_eq_true hf
    have := lt_of_lt_of_eq t.isLt N_0
    dsimp only at *
    omega
  · exact (dats m 0 c).toRRel_leaves rfl hL

/-- The buffers as the call passes them at a point. -/
abbrev b0 (t : Fin cfg0.N) : Ref S1x2048x704 .bf16 := win0_0.stage (cfg0.slots t 0)
abbrev b1 (t : Fin cfg0.N) : Ref S2048x1024 .f32 := win0_1.stage (cfg0.slots t 1)
abbrev b2 (t : Fin cfg0.N) : Ref S4x704x1024 .f32 := win0_2.stage (cfg0.slots t 2)

/-! ## Every point -/

/-- The body as the call runs it at a point. -/
abbrev bodyAt (t : Fin cfg0.N) : Prog (TpuEff nD τ sig (Elt F) Λ₀ .tc) PUnit :=
  body (grid0.coords t) (b0 t) (hstage0_0 ((cfg0.slots t 0).cast nbuf0_0)) (b1 t) (hstage0_1 ((cfg0.slots t 1).cast nbuf0_1)) (b2 t) (hstage0_2 ((cfg0.slots t 2).cast nbuf0_2))

/-- What it is called with, -/
def Pre (c : Dev nD) (t : Fin cfg0.N) : sProp 𝕄 :=
  iprop((dats m 0 c).Φ t.castSucc ∗ (dats m 0 c).owesAt () t.castSucc
    ∗ (∃ d, at_ c (b0 t) ((dats m 0 c).before 0 t d))
    ∗ (∃ d, at_ c (b1 t) ((dats m 0 c).before 1 t d))
    ∗ (∃ X, ⌜(rdats m c).Finds 2 t X⌝ ∗ at_ c (b2 t) X))
/-- and what it returns. -/
def Post (c : Dev nD) (t : Fin cfg0.N) : sProp 𝕄 :=
  iprop((dats m 0 c).Φ t.succ ∗ (dats m 0 c).owesAt () t.succ
    ∗ at_ c (b0 t) ((dats m 0 c).after 0 t) ∗ at_ c (b1 t) ((dats m 0 c).after 1 t)
    ∗ (∃ X, ⌜Stored m c t.val X⌝ ∗ at_ c (b2 t) X))

set_option maxHeartbeats 2000000 in
theorem point (c : Dev nD) (t : Fin cfg0.N) :
    Pre m c t ⊢ wp frame (wpE (defs₀ (F := F)) Variants.none c none) Set.univ (bodyAt t) (fun _ => Post m c t) := by
  unfold Pre Post bodyAt
  simp only [before_0, before_1]
  rw [show (dats m 0 c).owesAt () t.succ = (dats m 0 c).owesAt () t.castSucc from rfl,
    show (dats m 0 c).Φ t.succ = (dats m 0 c).Φ t.castSucc from rfl, after_0, after_1]
  iintro ⟨Hg, Ho, ⟨%d0, H0⟩, ⟨%d1, H1⟩, ⟨%X, %hX, H2⟩⟩
  by_cases h : t.val < 4
  · iapply (body_first c (grid0.coords t) (b0 t) (hstage0_0 ((cfg0.slots t 0).cast nbuf0_0)) (b1 t) (hstage0_1 ((cfg0.slots t 1).cast nbuf0_1)) (b2 t) (hstage0_2 ((cfg0.slots t 2).cast nbuf0_2))
      (iblk m c 0 t) (iblk m c 1 t) X (part t.val) ((first_iff t).mpr h) (fun e => absurd h ((next_iff t).mp e)) (off1 t) Set.univ _)
    isplitl [H0]; · iexact H0
    isplitl [H1]; · iexact H1
    isplitl [H2]; · iexact H2
    iintro ⟨H0, H1, H2⟩
    isplitl [Hg]; · iexact Hg
    isplitl [Ho]; · iexact Ho
    isplitl [H0]; · iexact H0
    isplitl [H1]; · iexact H1
    iexists _; isplitr; swap; · iexact H2
    ipureintro
    exact stored_with m c t X _ (found m c t X hX) (held_first m c t h).symm
  · iapply (body_next c (grid0.coords t) (b0 t) (hstage0_0 ((cfg0.slots t 0).cast nbuf0_0)) (b1 t) (hstage0_1 ((cfg0.slots t 1).cast nbuf0_1)) (b2 t) (hstage0_2 ((cfg0.slots t 2).cast nbuf0_2))
      (iblk m c 0 t) (iblk m c 1 t) X (part t.val) (fun e => h ((first_iff t).mp e)) ((next_iff t).mpr h) (off2 t) Set.univ _)
    isplitl [H0]; · iexact H0
    isplitl [H1]; · iexact H1
    isplitl [H2]; · iexact H2
    iintro ⟨H0, H1, H2⟩
    isplitl [Hg]; · iexact Hg
    isplitl [Ho]; · iexact Ho
    isplitl [H0]; · iexact H0
    isplitl [H1]; · iexact H1
    iexists _; isplitr; swap; · iexact H2
    ipureintro
    refine stored_with m c t X _ (found m c t X hX) ?_
    rw [held_next m c t h, stored_at m c t h X (found m c t X hX (by omega))]

theorem row (t : Fin cfg0.N) : defs₀ (F := F) .tc cfg0.body (cfg0.bodyArgs t (cfg0.slots t)) = bodyAt t := by
  unfold defs₀; rw [Defs.onTc_tc]

theorem obligation (c : Dev nD) : BodyObligationRel (dats (F := F) m 0 c) (defs₀ (F := F)) Variants.none () Set.univ loosely (told m c) := fun t => by
  rw [bigSep_W0, bigSep_W0, row]
  exact triple_restated (point m c t) rfl .rfl fun _ => .rfl

/-! ## The run -/

set_option backward.isDefEq.respectTransparency.types false in
/-- The program ends from any memory: every array at what the points may have left, every counter at zero. -/
theorem run (F : FTy → Type) [FloatOps F] (m : (ℓ : Loc nD τ sig) → Buf (Elt F) ℓ) (ρ : Dev nD → PrngReg) :
    θ_run defs (onTc (τ := τ) (main (F := F))) (s₀ m ρ) (fun r => RDat.FramePost (cfgs 0) (rdats m) (V m) r ∧ r.2.sem = fun _ => 0) :=
  Pipeline.RDat.θ_run_frame (Q' := _) cfgs (0 : Fin 1) launch0 defs₀ Variants.none (rdats m) m ρ main
    (hbody := fun c => (obligation m c).toRRel) (hshare := fun c => (dats m 0 c).share_full fun _ => rfl)
    (howed := fun _ _ => rfl) (V := V m) (hmain := host_run m Variants.none) (hA := A_eq m) (hΦ := fun _ _ => rfl)

/-- The gradient: part by part what the last tile's points left. -/
def grad (c : Dev nD) : Whole F := fun j => held m c (12 + (j 0).val) (lt_of_lt_of_eq (Nat.add_lt_add_left (j 0).isLt 12) N_0.symm) (ix3 0 (j 1) (j 2))

theorem stored_last (c : Dev nD) (X : Whole F) (hX : Stored m c 15 X) : X = grad m c := by
  funext j
  have hj : (j 0).val < 4 := (j 0).isLt
  have e := congrFun (hX (12 + (j 0).val) (lt_of_lt_of_eq (Nat.add_lt_add_left (j 0).isLt 12) N_0.symm) (by omega) (by omega)) (ix3 0 (j 1) (j 2))
  refine Eq.trans ?_ e
  unfold slab VecWindow.window
  refine congrArg X (funext fun a => Fin.ext ?_)
  match a with
  | 0 => show (j 0).val = (12 + (j 0).val) % 4 + 1 * 0; omega
  | 1 => show (j 1).val = 0 + 1 * (j 1).val; omega
  | 2 => show (j 2).val = 0 + 1 * (j 2).val; omega

/-- The arguments are kept, the result is the gradient, every counter is at zero. -/
theorem result : θ_run defs (onTc (τ := τ) (main (F := F))) ⟨m, fun _ => 0, ρ⟩ (fun r => (∀ c : Dev nD,
      r.2.mem ((c.tc : Thread nD τ).loc main_v21) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run F m ρ)
  refine ⟨?_, (RDat.FramePost.arr_in h.1 c 1 rfl).trans ((A_eq m c 1).trans (V_arg m c main_arg0 (by simp))),
      ((h.1 c).2 main_arg1 (Pipeline.mem_restRefs_of main_arg1 (by decide) (by decide))).trans (V_arg m c main_arg1 (by simp)),
      ((h.1 c).2 main_arg2 (Pipeline.mem_restRefs_of main_arg2 (by decide) (by decide))).trans (V_arg m c main_arg2 (by simp)),
      ((h.1 c).2 main_arg3 (Pipeline.mem_restRefs_of main_arg3 (by decide) (by decide))).trans (V_arg m c main_arg3 (by simp)),
      ((h.1 c).2 main_arg4 (Pipeline.mem_restRefs_of main_arg4 (by decide) (by decide))).trans (V_arg m c main_arg4 (by simp))⟩
  obtain ⟨after, hL, hA⟩ := RDat.FramePost.exists_exact h.1 c
  refine (hA 2).trans (Eq.trans ?_ (stored_last m c (after 2 ⟨15, last_lt⟩) ((dats m 0 c).toRRel_leaves rfl (hL 2 ⟨15, last_lt⟩ whole_g.1))))
  exact funext fun j => Dat.arrAt_emb_eq_after_last ((rdats m c).withAfter after) 2 ⟨15, last_lt⟩ whole_g j

end Cert.DownRun

end
-- ==== Proof.DownValue.lean ====
/- The down-projection's weight gradient is its reference's, whatever the arguments. -/
module

public import proofs.«01_k».proof.Proof.DownRun
public import proofs.«01_k».proof.Proof.FwdEquation
public import proofs.«01_k».proof.Proof.Gen.DownGradReferenceIdeal.Run

@[expose] public section

set_option maxRecDepth 16384

noncomputable section

namespace Cert.DownVal

open Idealize.ShloMosaic Idealize.ShloMosaic.TcCoe Idealize.SL.Sem Cert.Grad
open Cert.FfnRef (fl rows parts parts_at)
open Cert.FwdEq (actv)
open Cert.DownGradIdeal Cert.DownGradIdeal.Gen Cert.DownRun

/-- A tile's product. -/
def prod (A : Vec Ideal S1x2048x704 .bf16) (B : Vec Ideal S2048x1024 .f32) (f : Fin 704) (k : Fin 1024) : EReal := ∑ r, A (ix3 0 r f) * B (ix2 r k)

theorem pay2_at (A : Vec Ideal S1x2048x704 .bf16) (B : Vec Ideal S2048x1024 .f32) (f : Fin 704) (k : Fin 1024) :
    k0_pay2 (F := Ideal) A B (ix3 0 f k) = prod A B f k := by
  unfold prod
  pointwise [k0_pay2, k0_pay1]

theorem pay3_at (A : Vec Ideal S1x2048x704 .bf16) (B : Vec Ideal S2048x1024 .f32) (v : Vec Ideal S1x704x1024 .f32) (f : Fin 704) (k : Fin 1024) :
    k0_pay3 (F := Ideal) A B v (ix3 0 f k) = v (ix3 0 f k) + prod A B f k := by
  unfold prod
  pointwise [k0_pay3, k0_pay1]

variable (m : (ℓ : Loc nD τ sig) → Buf (Elt Ideal) ℓ) (c : Dev nD)

/-- The kernel's arguments as arrays. -/
def A0 : FVec Ideal Cert.FfnReferenceIdeal.S8192x1024 .f32 := m (c.tc.loc main_arg0)
def A1 : FVec Ideal Cert.FfnReferenceIdeal.S8192x1024 .f32 := m (c.tc.loc main_arg1)
def A2 : FVec Ideal Cert.FfnReferenceIdeal.S1x1024 .f32 := m (c.tc.loc main_arg2)
def A3 : FVec Ideal Cert.FfnReferenceIdeal.S1024x2816 .f32 := m (c.tc.loc main_arg3)
def A4 : FVec Ideal Cert.FfnReferenceIdeal.S1024x2816 .f32 := m (c.tc.loc main_arg4)

/-- The activation, -/
def aAct (s : Fin 4) (R : Fin 8192) (f : Fin 704) : EReal := rows (actv (A1 m c) (A2 m c) (A3 m c) (A4 m c)) R (fl s f)
/-- and the output's cotangent. -/
def aX (R : Fin 8192) (k : Fin 1024) : EReal := rows (A0 m c) R k

theorem act_arr : (V m c main_v20 : FVec Ideal S4x8192x704 .bf16) = parts (actv (A1 m c) (A2 m c) (A3 m c) (A4 m c)) := by
  entry_read
  rfl

/-- Row `r` of tile `b`. -/
def row (b : Fin 4) (r : Fin 2048) : Fin 8192 := ⟨b.val * 2048 + r.val, by omega⟩
/-- The tile of a point. -/
def tile (t : Fin cfg0.N) : Fin 4 := ⟨t.val / 4, by have h : t.val < 16 := lt_of_lt_of_eq t.isLt N_0; omega⟩

theorem idx : ∀ t : Fin cfg0.N, win0_0.index t = ![t.val % 4, t.val / 4, 0] ∧ win0_1.index t = ![t.val / 4, 0] :=
  (by decide +kernel : ∀ t : Fin grid0.N, _)

theorem blk0 (t : Fin cfg0.N) (r : Fin 2048) (f : Fin 704) : (iblk m c 0 t : Vec Ideal S1x2048x704 .bf16) (ix3 0 r f) = aAct m c (part t.val) (row (tile t) r) f := by
  refine Eq.trans ?_ ((congrFun (act_arr m c) (ix3 (part t.val) (row (tile t) r) f)).trans (parts_at _ _ _ _))
  unfold row tile part; blk_simp [iblk, idx t]; blk_ext [idx t]
theorem blk1 (t : Fin cfg0.N) (r : Fin 2048) (k : Fin 1024) : (iblk m c 1 t : Vec Ideal S2048x1024 .f32) (ix2 r k) = aX m c (row (tile t) r) k := by
  refine Eq.trans ?_ (congrFun (V_arg m c main_arg0 (by simp)) (ix2 (row (tile t) r) k))
  unfold row tile; blk_simp [iblk, idx t]; blk_ext [idx t]

/-- A tile's share of the gradient. -/
def share (s : Fin 4) (b : ℕ) (f : Fin 704) (k : Fin 1024) : EReal :=
  if h : b < 4 then ∑ r, aAct m c s (row ⟨b, h⟩ r) f * aX m c (row ⟨b, h⟩ r) k else 0

theorem share_point (t : Fin cfg0.N) (f : Fin 704) (k : Fin 1024) :
    prod (iblk m c 0 t) (iblk m c 1 t) f k = share m c (part t.val) (t.val / 4) f k := by
  unfold share prod
  have ht : t.val / 4 < 4 := (tile t).isLt
  rw [dif_pos ht]
  exact Finset.sum_congr rfl fun r _ => congrArg₂ (· * ·) (blk0 m c t r f) (blk1 m c t r k)

/-- After a point its part holds the shares of the tiles so far. -/
theorem held_at (t : Fin cfg0.N) (f : Fin 704) (k : Fin 1024) :
    (held m c t.val t.isLt (ix3 0 f k) : EReal) = ∑ i ∈ Finset.range (t.val / 4 + 1), share m c (part t.val) i f k := by
  obtain ⟨n, h⟩ := t
  induction n using Nat.strong_induction_on with
  | _ n ih =>
    by_cases h4 : n < 4
    · have hz : n / 4 = 0 := by omega
      refine (congrFun (held_first m c ⟨n, h⟩ h4) (ix3 0 f k)).trans ((pay2_at _ _ f k).trans ((share_point m c ⟨n, h⟩ f k).trans ?_))
      show share m c (part n) (n / 4) f k = ∑ i ∈ Finset.range (n / 4 + 1), share m c (part n) i f k
      rw [hz]
      exact (Finset.sum_range_one (fun i => share m c (part n) i f k)).symm
    · have hd : (n - 4) / 4 + 1 = n / 4 := by omega
      have hp : part (n - 4) = part n := Fin.ext (by show (n - 4) % 4 = n % 4; omega)
      have e := ih (n - 4) (by omega) (Nat.lt_of_le_of_lt (Nat.sub_le _ _) h)
      dsimp only at e
      rw [hd, hp] at e
      refine (congrFun (held_next m c ⟨n, h⟩ h4) (ix3 0 f k)).trans ((pay3_at _ _ _ f k).trans ((congrArg₂ (· + ·) e (share_point m c ⟨n, h⟩ f k)).trans ?_))
      exact (Finset.sum_range_succ (fun i => share m c (part n) i f k) (n / 4)).symm

/-- The kernel's result: at a part of the inner width the whole sum over the rows. -/
theorem grad_at (s : Fin 4) (f : Fin 704) (k : Fin 1024) : (grad m c (ix3 s f k) : EReal) = ∑ R, aAct m c s R f * aX m c R k := by
  have hs : s.val < 4 := s.isLt
  have e := held_at m c ⟨12 + s.val, lt_of_lt_of_eq (Nat.add_lt_add_left s.isLt 12) N_0.symm⟩ f k
  have hd : (12 + s.val) / 4 + 1 = 4 := by omega
  have hp : part (12 + s.val) = s := Fin.ext (by show (12 + s.val) % 4 = s.val; omega)
  dsimp only at e
  rw [hd, hp, Finset.sum_range] at e
  refine Eq.trans e ?_
  rw [Fin.sum_univ_tiles 4 2048 (by norm_num) (fun R : Fin 8192 => aAct m c s R f * aX m c R k)]
  exact Finset.sum_congr rfl fun i _ => dif_pos i.isLt

end Cert.DownVal

namespace Cert.DownEq

open Idealize.ShloMosaic Idealize.ShloMosaic.TcCoe Idealize.SL.Sem Cert.Grad
open Cert.FfnRef (fl rows)
open Cert.FwdEq (actv)
open Cert.DownGradReferenceIdeal Cert.DownGradReferenceIdeal.Gen Cert.DownGradReferenceIdeal.Value

/-- The reference's result. -/
def weight (d : FVec Ideal S8192x1024 .f32) (a : FVec Ideal S8192x2816 .f32) : FVec Ideal S4x704x1024 .f32 :=
  shapeCast _ (transpose S2816x1024 [1, 0] (Host.dotGeneral dot_S8192x1024_S8192x2816_S1024x2816_0_0_1_1_n_n none d a) transposes_S1024x2816_S2816x1024_1_0) shapeCasts_S2816x1024_S4x704x1024

theorem weight_at (d : FVec Ideal S8192x1024 .f32) (a : FVec Ideal S8192x2816 .f32) (s : Fin 4) (f : Fin 704) (k : Fin 1024) :
    weight d a (ix3 s f k) = ∑ R, rows d R k * rows a R (fl s f) := by
  unfold weight rows fl
  pointwise

/-- The kernel's array is the reference's. -/
theorem eq2 (m : (ℓ : Loc Cert.DownGradIdeal.nD Cert.DownGradIdeal.τ Cert.DownGradIdeal.sig) → Buf (Elt Ideal) ℓ) (c : Dev Cert.DownGradIdeal.nD)
    (a0 a1 : FVec Ideal S8192x1024 .f32) (a2 : FVec Ideal S1x1024 .f32) (a3 a4 : FVec Ideal S1024x2816 .f32)
    (h : a0 = Cert.DownVal.A0 m c ∧ a1 = Cert.DownVal.A1 m c ∧ a2 = Cert.DownVal.A2 m c ∧ a3 = Cert.DownVal.A3 m c ∧ a4 = Cert.DownVal.A4 m c) :
    weight a0 (actv a1 a2 a3 a4) = Cert.DownRun.grad m c := by
  obtain ⟨rfl, rfl, rfl, rfl, rfl⟩ := h
  funext j
  idx_vars j
  refine (weight_at _ _ _ _ _).trans (Eq.trans ?_ (Cert.DownVal.grad_at m c _ _ _).symm)
  exact Finset.sum_congr rfl fun R _ => mul_comm _ _

end Cert.DownEq

end
-- ==== Proof.TileSum.lean ====
/- Sums that grow by a share at every point of a grid. -/
module

public import Idealize.ShloMosaic.Lib.Pointwise

@[expose] public section

set_option maxRecDepth 16384

noncomputable section

namespace Cert.TileSum

/-- A quantity that starts anew at every fourth point, and to which each other point adds its share, is the sum of the shares so far. -/
theorem four {N : ℕ} (q : (n : ℕ) → n < N → EReal) (share : ℕ → ℕ → EReal)
    (first : ∀ n h, n % 4 = 0 → q n h = share (n / 4) (n % 4))
    (next : ∀ n (h : n < N), ¬n % 4 = 0 → q n h = q (n - 1) (Nat.lt_of_le_of_lt (Nat.sub_le _ _) h) + share (n / 4) (n % 4)) (n : ℕ) (h : n < N) :
    q n h = ∑ i ∈ Finset.range (n % 4 + 1), share (n / 4) i := by
  induction n with
  | zero =>
    refine (first 0 h rfl).trans ?_
    exact (Finset.sum_range_one _).symm
  | succ n ih =>
    by_cases h0 : (n + 1) % 4 = 0
    · refine (first (n + 1) h h0).trans ?_
      rw [h0]
      exact (Finset.sum_range_one _).symm
    · have hm : (n + 1) % 4 = n % 4 + 1 := by omega
      have hs : n / 4 = (n + 1) / 4 := by omega
      refine (next (n + 1) h h0).trans ?_
      rw [hm, Finset.sum_range_succ (n := n % 4 + 1), ← hs]
      exact congrArg (· + _) (ih (Nat.lt_of_succ_lt h))

end Cert.TileSum

end
-- ==== Proof.QkvGrad.lean ====
/- The gradient of the attention mixer's first weight is its reference's, whatever the arguments. -/
module

public import proofs.«01_k».proof.Proof.TileSum
public import proofs.«01_k».proof.Proof.InGrad
public import proofs.«01_k».proof.Proof.Gen.QkvGradIdeal.Value
public import proofs.«01_k».proof.Proof.Gen.QkvGradReferenceIdeal.Run

@[expose] public section

set_option maxRecDepth 16384

noncomputable section

namespace Cert.Lanes

open Idealize.ShloMosaic

/-- The first column of a group of heads in a part of 1024, -/
def lo (g : Fin 3) : ℕ := if g.val < 1 then 0 else if g.val < 2 then 384 else 704
/-- and how many columns it has. -/
def real (g : Fin 3) : ℕ := if g.val < 1 then 384 else 320

theorem fits (g : Fin 3) : lo g + real g ≤ 1024 := by
  unfold lo real
  split_ifs <;> omega

theorem zero_pad : (FloatOps.sitofp (F := Ideal) .f32 0#32 : EReal) = 0 := by
  show (((0#32).toInt : ℝ) : EReal) = 0
  norm_num

/-- A group's columns of the query, the key and the value, each followed by zeros up to 384. -/
def pick (f : Fin 3072 → EReal) (g : Fin 3) (n : Fin 1152) : EReal :=
  if h : n.val % 384 < real g then f ⟨n.val / 384 * 1024 + (lo g + n.val % 384), by have := fits g; omega⟩ else 0
/-- A group's columns of one part of 1024, followed by zeros up to 384. -/
def pick1 (f : Fin 1024 → EReal) (n : Fin 1152) : EReal :=
  if h : n.val % 384 < real ⟨n.val / 384, by omega⟩ then f ⟨lo ⟨n.val / 384, by omega⟩ + n.val % 384, by have := fits ⟨n.val / 384, by omega⟩; omega⟩ else 0

theorem pick_of {f : Fin 3072 → EReal} {g : Fin 3} {n : Fin 1152} {a b : ℕ} (ha : lo g = a) (hb : real g = b) {z : EReal} (hz : z = 0) {X : n.val / 384 < 3 ∧ n.val % 384 < b → EReal}
    (hX : ∀ h (F : Fin 3072), F.val = n.val / 384 * 1024 + (a + n.val % 384) → X h = f F) : (if h : n.val / 384 < 3 ∧ n.val % 384 < b then X h else z) = pick f g n := by
  subst ha hb hz
  unfold pick
  by_cases h : n.val % 384 < real g
  · rw [dif_pos h, dif_pos ⟨by omega, h⟩]
    exact hX _ _ rfl
  · rw [dif_neg h, dif_neg fun e => h e.2]

theorem pick1_of {f : Fin 1024 → EReal} {n : Fin 1152} {g : Fin 3} {j : ℕ} (hg : n.val / 384 = g.val) (hj : n.val % 384 = j) {a b : ℕ} (ha : lo g = a) (hb : real g = b) {z : EReal} (hz : z = 0)
    {X : j < b → EReal} (hX : ∀ h (F : Fin 1024), F.val = a + j → X h = f F) : (if h : j < b then X h else z) = pick1 f n := by
  have q : n.val / 384 < 3 := Nat.div_lt_of_lt_mul n.isLt
  have e : (⟨n.val / 384, q⟩ : Fin 3) = g := Fin.ext hg
  have ha' := (congrArg lo e).trans ha
  have hb' := (congrArg real e).trans hb
  subst ha' hb' hz hj
  unfold pick1
  by_cases h : n.val % 384 < real ⟨n.val / 384, q⟩
  · rw [dif_pos h, dif_pos h]
    exact hX _ _ rfl
  · rw [dif_neg h, dif_neg h]

theorem pick1_in {f : Fin 1024 → EReal} {n : Fin 1152} {g : Fin 3} {j : ℕ} (hg : n.val / 384 = g.val) (hj : n.val % 384 = j) (hb : j < real g) {x : EReal}
    (hx : ∀ F : Fin 1024, F.val = lo g + j → x = f F) : x = pick1 f n :=
  (dif_pos hb).symm.trans (pick1_of hg hj rfl rfl rfl (X := fun _ => x) fun _ => hx)

theorem pick_sum (h : Fin 8192 → EReal) (d : Fin 8192 → Fin 3072 → EReal) (g : Fin 3) (n : Fin 1152) :
    ∑ R, h R * pick (d R) g n = pick (fun F => ∑ R, h R * d R F) g n := by
  unfold pick
  by_cases e : n.val % 384 < real g
  · simp only [dif_pos e]
  · simp only [dif_neg e, mul_zero, Finset.sum_const_zero]

theorem pick1_sum (h : Fin 8192 → EReal) (d : Fin 8192 → Fin 1024 → EReal) (n : Fin 1152) :
    ∑ R, pick1 (d R) n * h R = pick1 (fun F => ∑ R, d R F * h R) n := by
  unfold pick1
  by_cases e : n.val % 384 < real ⟨n.val / 384, by omega⟩
  · simp only [dif_pos e]
  · simp only [dif_neg e, zero_mul, Finset.sum_const_zero]

end Cert.Lanes

namespace Cert.QkvLay

open Idealize.ShloMosaic Idealize.ShloMosaic.TcCoe Idealize.SL.Sem Cert.Grad
open Idealize.ShloMosaic.Pipeline (Dat)
open Cert.FfnRef (rows normed)
open Cert.Lanes
open Cert.QkvGradIdeal Cert.QkvGradIdeal.Gen

section
variable (w : FVec Ideal S8192x3072 .f32)

/-- The cotangent's columns by groups of heads. -/
def lay0 : FVec Ideal S8192x1152 .f32 :=
  shapeCast _ (pad S8192x3x384 ![0, 0, 0] ![0, 0, 0] ![0, 0, 0] (extractStridedSlice S8192x3x384 ![0, 0, 0] (shapeCast _ w shapeCasts_S8192x3072_S8192x3x1024) slices_S8192x3x1024_S8192x3x384_0_0_0) (sitofp .f32 (constantI S_ 32 0#32)) pads_S8192x3x384_S8192x3x384_000_000_000 h_S_) shapeCasts_S8192x3x384_S8192x1152
def lay1 : FVec Ideal S8192x1152 .f32 :=
  shapeCast _ (pad S8192x3x384 ![0, 0, 0] ![0, 0, 64] ![0, 0, 0] (extractStridedSlice S8192x3x320 ![0, 0, 384] (shapeCast _ w shapeCasts_S8192x3072_S8192x3x1024) slices_S8192x3x1024_S8192x3x320_0_0_384) (sitofp .f32 (constantI S_ 32 0#32)) pads_S8192x3x320_S8192x3x384_000_000_0640 h_S_) shapeCasts_S8192x3x384_S8192x1152
def lay2 : FVec Ideal S8192x1152 .f32 :=
  shapeCast _ (pad S8192x3x384 ![0, 0, 0] ![0, 0, 64] ![0, 0, 0] (extractStridedSlice S8192x3x320 ![0, 0, 704] (shapeCast _ w shapeCasts_S8192x3072_S8192x3x1024) slices_S8192x3x1024_S8192x3x320_0_0_704) (sitofp .f32 (constantI S_ 32 0#32)) pads_S8192x3x320_S8192x3x384_000_000_0640 h_S_) shapeCasts_S8192x3x384_S8192x1152
/-- The three groups' columns. -/
def laid : FVec Ideal S3x8192x1152 .f32 :=
  concatenate S3x8192x1152 0 [⟨S1x8192x1152, (broadcastInDim S1x8192x1152 ![1, 2] bcast_S8192x1152_S1x8192x1152_1_2 (lay0 w) : (⟨S1x8192x1152, .f32⟩ : BufTy).Contents (Elt Ideal))⟩, ⟨S1x8192x1152, (broadcastInDim S1x8192x1152 ![1, 2] bcast_S8192x1152_S1x8192x1152_1_2 (lay1 w) : (⟨S1x8192x1152, .f32⟩ : BufTy).Contents (Elt Ideal))⟩, ⟨S1x8192x1152, (broadcastInDim S1x8192x1152 ![1, 2] bcast_S8192x1152_S1x8192x1152_1_2 (lay2 w) : (⟨S1x8192x1152, .f32⟩ : BufTy).Contents (Elt Ideal))⟩] concatenates_S1x8192x1152_S1x8192x1152_S1x8192x1152_S3x8192x1152_d0

theorem lay0_at (R : Fin 8192) (n : Fin 1152) : lay0 w (ix2 R n) = pick (fun F => w (ix2 R F)) 0 n := by
  pointwise [lay0]
  refine pick_of (g := 0) (a := 0) (b := 384) rfl rfl zero_pad fun h F e => ?_
  exact congrArg (fun F => w (ix2 R F)) (Fin.ext (by dsimp only; omega))
theorem lay1_at (R : Fin 8192) (n : Fin 1152) : lay1 w (ix2 R n) = pick (fun F => w (ix2 R F)) 1 n := by
  pointwise [lay1]
  refine pick_of (g := 1) (a := 384) (b := 320) rfl rfl zero_pad fun h F e => ?_
  exact congrArg (fun F => w (ix2 R F)) (Fin.ext (by dsimp only; omega))
theorem lay2_at (R : Fin 8192) (n : Fin 1152) : lay2 w (ix2 R n) = pick (fun F => w (ix2 R F)) 2 n := by
  pointwise [lay2]
  refine pick_of (g := 2) (a := 704) (b := 320) rfl rfl zero_pad fun h F e => ?_
  exact congrArg (fun F => w (ix2 R F)) (Fin.ext (by dsimp only; omega))
theorem laid_at (g : Fin 3) (R : Fin 8192) (n : Fin 1152) : laid w (ix3 g R n) = pick (fun F => w (ix2 R F)) g n := by
  pointwise [laid]
  match g with
  | 0 => exact lay0_at w R n
  | 1 => exact lay1_at w R n
  | 2 => exact lay2_at w R n
end

end Cert.QkvLay

namespace Cert.QkvRefLay

open Idealize.ShloMosaic Idealize.ShloMosaic.TcCoe Idealize.SL.Sem Cert.Grad
open Idealize.ShloMosaic.Pipeline (Dat)
open Cert.FfnRef (rows normed)
open Cert.Lanes
open Cert.QkvGradReferenceIdeal Cert.QkvGradReferenceIdeal.Gen

section
variable (w : FVec Ideal S1024x3072 .f32)

/-- The gradient's columns by groups of heads. -/
def lay0 : FVec Ideal S1024x1152 .f32 :=
  shapeCast _ (pad S1024x3x384 ![0, 0, 0] ![0, 0, 0] ![0, 0, 0] (extractStridedSlice S1024x3x384 ![0, 0, 0] (shapeCast _ w shapeCasts_S1024x3072_S1024x3x1024) slices_S1024x3x1024_S1024x3x384_0_0_0) (sitofp .f32 (constantI S_ 32 0#32)) pads_S1024x3x384_S1024x3x384_000_000_000 h_S_) shapeCasts_S1024x3x384_S1024x1152
def lay1 : FVec Ideal S1024x1152 .f32 :=
  shapeCast _ (pad S1024x3x384 ![0, 0, 0] ![0, 0, 64] ![0, 0, 0] (extractStridedSlice S1024x3x320 ![0, 0, 384] (shapeCast _ w shapeCasts_S1024x3072_S1024x3x1024) slices_S1024x3x1024_S1024x3x320_0_0_384) (sitofp .f32 (constantI S_ 32 0#32)) pads_S1024x3x320_S1024x3x384_000_000_0640 h_S_) shapeCasts_S1024x3x384_S1024x1152
def lay2 : FVec Ideal S1024x1152 .f32 :=
  shapeCast _ (pad S1024x3x384 ![0, 0, 0] ![0, 0, 64] ![0, 0, 0] (extractStridedSlice S1024x3x320 ![0, 0, 704] (shapeCast _ w shapeCasts_S1024x3072_S1024x3x1024) slices_S1024x3x1024_S1024x3x320_0_0_704) (sitofp .f32 (constantI S_ 32 0#32)) pads_S1024x3x320_S1024x3x384_000_000_0640 h_S_) shapeCasts_S1024x3x384_S1024x1152
/-- The three groups' columns. -/
def laid : FVec Ideal S3x1024x1152 .f32 :=
  concatenate S3x1024x1152 0 [⟨S1x1024x1152, (broadcastInDim S1x1024x1152 ![1, 2] bcast_S1024x1152_S1x1024x1152_1_2 (lay0 w) : (⟨S1x1024x1152, .f32⟩ : BufTy).Contents (Elt Ideal))⟩, ⟨S1x1024x1152, (broadcastInDim S1x1024x1152 ![1, 2] bcast_S1024x1152_S1x1024x1152_1_2 (lay1 w) : (⟨S1x1024x1152, .f32⟩ : BufTy).Contents (Elt Ideal))⟩, ⟨S1x1024x1152, (broadcastInDim S1x1024x1152 ![1, 2] bcast_S1024x1152_S1x1024x1152_1_2 (lay2 w) : (⟨S1x1024x1152, .f32⟩ : BufTy).Contents (Elt Ideal))⟩] concatenates_S1x1024x1152_S1x1024x1152_S1x1024x1152_S3x1024x1152_d0

theorem lay0_at (R : Fin 1024) (n : Fin 1152) : lay0 w (ix2 R n) = pick (fun F => w (ix2 R F)) 0 n := by
  pointwise [lay0]
  refine pick_of (g := 0) (a := 0) (b := 384) rfl rfl zero_pad fun h F e => ?_
  exact congrArg (fun F => w (ix2 R F)) (Fin.ext (by dsimp only; omega))
theorem lay1_at (R : Fin 1024) (n : Fin 1152) : lay1 w (ix2 R n) = pick (fun F => w (ix2 R F)) 1 n := by
  pointwise [lay1]
  refine pick_of (g := 1) (a := 384) (b := 320) rfl rfl zero_pad fun h F e => ?_
  exact congrArg (fun F => w (ix2 R F)) (Fin.ext (by dsimp only; omega))
theorem lay2_at (R : Fin 1024) (n : Fin 1152) : lay2 w (ix2 R n) = pick (fun F => w (ix2 R F)) 2 n := by
  pointwise [lay2]
  refine pick_of (g := 2) (a := 704) (b := 320) rfl rfl zero_pad fun h F e => ?_
  exact congrArg (fun F => w (ix2 R F)) (Fin.ext (by dsimp only; omega))
theorem laid_at (g : Fin 3) (R : Fin 1024) (n : Fin 1152) : laid w (ix3 g R n) = pick (fun F => w (ix2 R F)) g n := by
  pointwise [laid]
  match g with
  | 0 => exact lay0_at w R n
  | 1 => exact lay1_at w R n
  | 2 => exact lay2_at w R n
end

/-- The product's gradient in its weight. -/
def weight (d : FVec Ideal S8192x3072 .f32) (a : FVec Ideal S8192x1024 .f32) : FVec Ideal S1024x3072 .f32 :=
  transpose S1024x3072 [1, 0] (Host.dotGeneral dot_S8192x3072_S8192x1024_S3072x1024_0_0_1_1_n_n none d a) transposes_S3072x1024_S1024x3072_1_0

theorem weight_at (d : FVec Ideal S8192x3072 .f32) (a : FVec Ideal S8192x1024 .f32) (k : Fin 1024) (F : Fin 3072) : weight d a (ix2 k F) = ∑ R, rows a R k * rows d R F := by
  refine Eq.trans (b := ∑ R, rows d R F * rows a R k) ?_ (Finset.sum_congr rfl fun R _ => mul_comm _ _)
  unfold weight rows
  pointwise

end Cert.QkvRefLay

namespace Cert.QkvVal

open Idealize.ShloMosaic Idealize.ShloMosaic.TcCoe Idealize.SL.Sem Cert.Grad
open Idealize.ShloMosaic.Pipeline (Dat)
open Cert.FfnRef (rows normed)
open Cert.Lanes Cert.QkvLay
open Cert.QkvGradIdeal Cert.QkvGradIdeal.Gen Cert.QkvGradIdeal.Value

theorem pay1_at (u : Fin 1) (k : Fin 1024) (n : Fin 1152) : (k0_pay1 (F := Ideal) (ix3 u k n) : EReal) = 0 := by
  pointwise [k0_pay1]

theorem pay2_at (A : Vec Ideal S2048x1024 .bf16) (B : Vec Ideal S1x2048x1152 .bf16) (v : Vec Ideal S1x1024x1152 .f32) (k : Fin 1024) (n : Fin 1152) :
    k0_pay2 (F := Ideal) A B v (ix3 0 k n) = v (ix3 0 k n) + ∑ r, A (ix2 r k) * B (ix3 0 r n) := by
  pointwise [k0_pay2]

variable (m : (ℓ : Loc nD τ sig) → Buf (Elt Ideal) ℓ) (c : Dev nD)

/-- The kernel's arguments as arrays. -/
def A0 : FVec Ideal Cert.QkvGradReferenceIdeal.S8192x3072 .f32 := m (c.tc.loc main_arg0)
def A1 : FVec Ideal Cert.FfnReferenceIdeal.S8192x1024 .f32 := m (c.tc.loc main_arg1)
def A2 : FVec Ideal Cert.FfnReferenceIdeal.S1x1024 .f32 := m (c.tc.loc main_arg2)

/-- The normalised rows, -/
def aA (R : Fin 8192) (k : Fin 1024) : EReal := rows (normed (A1 m c) (A2 m c)) R k
/-- and the product's cotangent by groups of heads. -/
def aB (g : Fin 3) (R : Fin 8192) (n : Fin 1152) : EReal := pick (rows (A0 m c) R) g n

theorem arr0 : (V m c main_v28 : S8192x1024.Idx → EReal) = normed (A1 m c) (A2 m c) := by
  entry_read
  rfl
theorem arr1 (g : Fin 3) (R : Fin 8192) (n : Fin 1152) : (V m c main_v29 : FVec Ideal S3x8192x1152 .bf16) (ix3 g R n) = aB m c g R n := by
  have e : (V m c main_v29 : S3x8192x1152.Idx → EReal) = laid (A0 m c) := by
    entry_read
    rfl
  exact (congrFun e (ix3 g R n)).trans (laid_at (A0 m c) g R n)

/-- Row `r` of a tile. -/
def row (b : Fin 4) (r : Fin 2048) : Fin 8192 := ⟨b.val * 2048 + r.val, by omega⟩
/-- The tile of a point, -/
def tile (t : Fin cfg0.N) : Fin 4 := ⟨t.val % 4, by omega⟩
/-- and its group of heads. -/
def group (n : ℕ) : Fin 3 := ⟨n / 4 % 3, Nat.mod_lt _ (by decide)⟩

theorem idx : ∀ t : Fin cfg0.N, win0_0.index t = ![t.val % 4, 0] ∧ win0_1.index t = ![t.val / 4, t.val % 4, 0] ∧ win0_2.index t = ![t.val / 4, 0, 0] :=
  (by decide +kernel : ∀ t : Fin grid0.N, _)

theorem group_val (t : Fin cfg0.N) : (group t.val).val = t.val / 4 := by
  have h : t.val < 12 := lt_of_lt_of_eq t.isLt N_0
  show t.val / 4 % 3 = t.val / 4
  omega

theorem blk0 (t : Fin cfg0.N) (r : Fin 2048) (k : Fin 1024) : (iblk m c 0 t : Vec Ideal S2048x1024 .bf16) (ix2 r k) = aA m c (row (tile t) r) k := by
  refine Eq.trans ?_ (congrFun (arr0 m c) (ix2 (row (tile t) r) k))
  unfold row tile; blk_simp [iblk, idx t]; blk_ext [idx t]
theorem blk1 (t : Fin cfg0.N) (r : Fin 2048) (n : Fin 1152) : (iblk m c 1 t : Vec Ideal S1x2048x1152 .bf16) (ix3 0 r n) = aB m c (group t.val) (row (tile t) r) n := by
  refine Eq.trans ?_ (arr1 m c (group t.val) (row (tile t) r) n)
  have hg := group_val t
  generalize group t.val = g at hg
  unfold row tile; blk_simp [iblk, idx t]; blk_ext [idx t, hg]

/-- A tile's share of the gradient. -/
def part (k : Fin 1024) (n : Fin 1152) (g : Fin 3) (b : ℕ) : EReal := if h : b < 4 then ∑ r, aA m c (row ⟨b, h⟩ r) k * aB m c g (row ⟨b, h⟩ r) n else 0

theorem pay_point (t : Fin cfg0.N) (v : Vec Ideal S1x1024x1152 .f32) (k : Fin 1024) (n : Fin 1152) :
    k0_pay2 (F := Ideal) (iblk m c 0 t) (iblk m c 1 t) v (ix3 0 k n) = v (ix3 0 k n) + part m c k n (group t.val) (t.val % 4) := by
  rw [pay2_at]
  unfold part
  rw [dif_pos (by omega)]
  simp only [blk0 m c t, blk1 m c t]
  rfl

/-- After a point the buffer holds the shares of the tiles so far. -/
theorem sum_tile (k : Fin 1024) (n : Fin 1152) (t : ℕ) (h : t < cfg0.N) :
    (outsAt0 m c t h (ix3 0 k n) : EReal) = ∑ i ∈ Finset.range (t % 4 + 1), part m c k n ⟨t / 4 % 3, Nat.mod_lt _ (by decide)⟩ i := by
  refine Cert.TileSum.four (fun t h => outsAt0 m c t h (ix3 0 k n)) (fun q => part m c k n ⟨q % 3, Nat.mod_lt _ (by decide)⟩) (fun t h h0 => ?_) (fun t h h0 => ?_) t h
  · rw [outsAt0_A m c ⟨t, h⟩ h0, out_A_2_eq]
    refine (pay_point m c ⟨t, h⟩ _ k n).trans ?_
    rw [pay1_at]
    exact zero_add _
  · have e := outsAt0_B m c ⟨t, h⟩ h0
    rw [out_B_2_eq] at e
    exact (congrFun e (ix3 0 k n)).trans (pay_point m c ⟨t, h⟩ _ k n)

/-- The kernel's result: for a group of heads the whole sum over the rows. -/
theorem array2 : (dats m 0 c).arrAt 2 cfg0.N = fun j : S3x1024x1152.Idx => ∑ R, aA m c R (j 1) * aB m c (j 0) R (j 2) := by
  refine (dats m 0 c).arrAt_eq_of_covers 2 _ (by decide +kernel) fun t ht y => ?_
  have h2 : t.val % 4 = 3 := (by decide +kernel : ∀ t : Fin cfg0.grid.N, (win0 2).flush t = true → t.val % 4 = 3) t ht
  have h3 : t.val < 12 := lt_of_lt_of_eq t.isLt N_0
  blk_simp
  rw [after0_2]
  idx_vars y
  have ey : y0 = 0 := Subsingleton.elim (α := Fin 1) _ _
  rw [ey]
  refine (sum_tile m c _ _ t.val t.isLt).trans ?_
  rw [h2, Finset.sum_range]
  unfold part
  have full : ∀ (g : Fin 3) (k : Fin 1024) (n : Fin 1152), (∑ i : Fin 4, if h : i.val < 4 then ∑ r, aA m c (row ⟨i.val, h⟩ r) k * aB m c g (row ⟨i.val, h⟩ r) n else 0)
      = ∑ R, aA m c R k * aB m c g R n := fun g k n => by
    rw [Fin.sum_univ_tiles 4 2048 (by norm_num) (fun R : Fin 8192 => aA m c R k * aB m c g R n)]
    exact Finset.sum_congr rfl fun i _ => dif_pos i.isLt
  refine (full _ _ _).trans ?_
  refine Finset.sum_congr rfl fun R _ => congrArg₂ (· * ·) (congrArg (aA m c R) (Fin.ext ?_)) ?_
  · blk_simp [idx t]
  · refine congr (congrArg (fun g => aB m c g R) (Fin.ext ?_)) (Fin.ext ?_)
    · blk_simp [idx t]
      dsimp only [Matrix.cons_val_zero]
      omega
    · blk_simp [idx t]

/-- The kernel's array is the reference's. -/
theorem eq2 (a0 : FVec Ideal Cert.QkvGradReferenceIdeal.S8192x3072 .f32) (a1 : FVec Ideal Cert.FfnReferenceIdeal.S8192x1024 .f32) (a2 : FVec Ideal Cert.FfnReferenceIdeal.S1x1024 .f32)
    (h : a0 = A0 m c ∧ a1 = A1 m c ∧ a2 = A2 m c) :
    Cert.QkvRefLay.laid (Cert.QkvRefLay.weight a0 (normed a1 a2)) = (dats m 0 c).arrAt 2 cfg0.N := by
  obtain ⟨rfl, rfl, rfl⟩ := h
  rw [array2]
  funext j
  idx_vars j
  refine (Cert.QkvRefLay.laid_at _ _ _ _).trans ?_
  refine Eq.trans ?_ (pick_sum (fun R => aA m c R j1) (fun R => rows (A0 m c) R) j0 j2).symm
  exact congrArg (fun f => pick f j0 j2) (funext fun F => Cert.QkvRefLay.weight_at _ _ _ _)

end Cert.QkvVal

end
-- ==== Proof.PoolGrad.lean ====
/- The gradients of the pooling mixer's first and last weight are their references', whatever the arguments. -/
module

public import proofs.«01_k».proof.Proof.TileSum
public import proofs.«01_k».proof.Proof.InGrad
public import proofs.«01_k».proof.Proof.Gen.PoolInGradIdeal.Value
public import proofs.«01_k».proof.Proof.Gen.PoolInGradReferenceIdeal.Run
public import proofs.«01_k».proof.Proof.Gen.PoolOutGradIdeal.Value
public import proofs.«01_k».proof.Proof.Gen.PoolOutGradReferenceIdeal.Run

@[expose] public section

set_option maxRecDepth 16384

noncomputable section

namespace Cert.PoolIn

open Idealize.ShloMosaic Idealize.ShloMosaic.TcCoe Idealize.SL.Sem Cert.Grad
open Idealize.ShloMosaic.Pipeline (Dat)
open Cert.FfnRef (rows normed)
open Cert.PoolInGradIdeal Cert.PoolInGradIdeal.Gen Cert.PoolInGradIdeal.Value

theorem pay1_at (k : Fin 1024) (n : Fin 1024) : (k0_pay1 (F := Ideal) (ix2 k n) : EReal) = 0 := by
  pointwise [k0_pay1]

theorem pay2_at (A : Vec Ideal S2048x1024 .bf16) (B : Vec Ideal S2048x1024 .bf16) (v : Vec Ideal S1024x1024 .f32) (k : Fin 1024) (n : Fin 1024) :
    k0_pay2 (F := Ideal) A B v (ix2 k n) = v (ix2 k n) + ∑ r, A (ix2 r k) * B (ix2 r n) := by
  pointwise [k0_pay2]

variable (m : (ℓ : Loc nD τ sig) → Buf (Elt Ideal) ℓ) (c : Dev nD)

/-- The kernel's arguments as arrays. -/
def A0 : FVec Ideal Cert.FfnReferenceIdeal.S8192x1024 .f32 := m (c.tc.loc main_arg0)
def A1 : FVec Ideal Cert.FfnReferenceIdeal.S8192x1024 .f32 := m (c.tc.loc main_arg1)
def A2 : FVec Ideal Cert.FfnReferenceIdeal.S1x1024 .f32 := m (c.tc.loc main_arg2)

/-- The normalised rows, -/
def aA (R : Fin 8192) (k : Fin 1024) : EReal := rows (normed (A1 m c) (A2 m c)) R k
/-- and the product's cotangent. -/
def aB (R : Fin 8192) (n : Fin 1024) : EReal := rows (A0 m c) R n

theorem arr0 (R : Fin 8192) (k : Fin 1024) : (V m c main_v14 : FVec Ideal S8192x1024 .bf16) (ix2 R k) = aA m c R k := by
  have e : (V m c main_v14 : S8192x1024.Idx → EReal) = normed (A1 m c) (A2 m c) := by
    entry_read
    rfl
  exact congrFun e (ix2 R k)
theorem arr1 (R : Fin 8192) (k : Fin 1024) : (V m c main_v15 : FVec Ideal S8192x1024 .bf16) (ix2 R k) = aB m c R k := by
  have e : (V m c main_v15 : S8192x1024.Idx → EReal) = A0 m c := by
    entry_read
    rfl
  exact congrFun e (ix2 R k)

/-- Row `r` of a tile. -/
def row (b : Fin 4) (r : Fin 2048) : Fin 8192 := ⟨b.val * 2048 + r.val, by omega⟩
/-- The tile of a point. -/
def tile (t : Fin cfg0.N) : Fin 4 := ⟨t.val % 4, by omega⟩

theorem idx : ∀ t : Fin cfg0.N, win0_0.index t = ![t.val % 4, 0] ∧ win0_1.index t = ![t.val % 4, 0] ∧ win0_2.index t = ![0, 0] :=
  (by decide +kernel : ∀ t : Fin grid0.N, _)

theorem blk0 (t : Fin cfg0.N) (r : Fin 2048) (k : Fin 1024) : (iblk m c 0 t : Vec Ideal S2048x1024 .bf16) (ix2 r k) = aA m c (row (tile t) r) k := by
  refine Eq.trans ?_ (arr0 m c (row (tile t) r) k)
  unfold row tile; blk_simp [iblk, idx t]; blk_ext [idx t]
theorem blk1 (t : Fin cfg0.N) (r : Fin 2048) (n : Fin 1024) : (iblk m c 1 t : Vec Ideal S2048x1024 .bf16) (ix2 r n) = aB m c (row (tile t) r) n := by
  refine Eq.trans ?_ (arr1 m c (row (tile t) r) n)
  unfold row tile; blk_simp [iblk, idx t]; blk_ext [idx t]

/-- A tile's share of the gradient. -/
def part (k : Fin 1024) (n : Fin 1024) (b : ℕ) : EReal := if h : b < 4 then ∑ r, aA m c (row ⟨b, h⟩ r) k * aB m c (row ⟨b, h⟩ r) n else 0

theorem pay_point (t : Fin cfg0.N) (v : Vec Ideal S1024x1024 .f32) (k : Fin 1024) (n : Fin 1024) :
    k0_pay2 (F := Ideal) (iblk m c 0 t) (iblk m c 1 t) v (ix2 k n) = v (ix2 k n) + part m c k n (t.val % 4) := by
  rw [pay2_at]
  unfold part
  rw [dif_pos (by omega)]
  simp only [blk0 m c t, blk1 m c t]
  rfl

/-- After a point the buffer holds the shares of the tiles so far. -/
theorem sum_tile (k : Fin 1024) (n : Fin 1024) (t : ℕ) (h : t < cfg0.N) : (outsAt0 m c t h (ix2 k n) : EReal) = ∑ i ∈ Finset.range (t % 4 + 1), part m c k n i := by
  refine Cert.TileSum.four (fun t h => outsAt0 m c t h (ix2 k n)) (fun _ => part m c k n) (fun t h h0 => ?_) (fun t h h0 => ?_) t h
  · rw [outsAt0_A m c ⟨t, h⟩ h0, out_A_2_eq]
    refine (pay_point m c ⟨t, h⟩ _ k n).trans ?_
    rw [pay1_at]
    exact zero_add _
  · have e := outsAt0_B m c ⟨t, h⟩ h0
    rw [out_B_2_eq] at e
    exact (congrFun e (ix2 k n)).trans (pay_point m c ⟨t, h⟩ _ k n)

/-- The kernel's result: the whole sum over the rows. -/
theorem array2 : (dats m 0 c).arrAt 2 cfg0.N = fun j : S1024x1024.Idx => ∑ R, aA m c R (j 0) * aB m c R (j 1) := by
  refine (dats m 0 c).arrAt_eq_of_covers 2 _ (by decide +kernel) fun t ht y => ?_
  have h2 : t.val % 4 = 3 := (by decide +kernel : ∀ t : Fin cfg0.grid.N, (win0 2).flush t = true → t.val % 4 = 3) t ht
  blk_simp
  rw [after0_2]
  idx_vars y
  refine (sum_tile m c _ _ t.val t.isLt).trans ?_
  rw [h2, Finset.sum_range]
  unfold part
  have full : ∀ (k : Fin 1024) (n : Fin 1024), (∑ i : Fin 4, if h : i.val < 4 then ∑ r, aA m c (row ⟨i.val, h⟩ r) k * aB m c (row ⟨i.val, h⟩ r) n else 0)
      = ∑ R, aA m c R k * aB m c R n := fun k n => by
    rw [Fin.sum_univ_tiles 4 2048 (by norm_num) (fun R : Fin 8192 => aA m c R k * aB m c R n)]
    exact Finset.sum_congr rfl fun i _ => dif_pos i.isLt
  refine (full _ _).trans ?_
  refine Finset.sum_congr rfl fun R _ => congrArg₂ (· * ·) (congrArg (aA m c R) (Fin.ext ?_)) (congrArg (aB m c R) (Fin.ext ?_))
  · blk_simp [idx t]
  · blk_simp [idx t]

end Cert.PoolIn

namespace Cert.PoolOut

open Idealize.ShloMosaic Idealize.ShloMosaic.TcCoe Idealize.SL.Sem Cert.Grad
open Idealize.ShloMosaic.Pipeline (Dat)
open Cert.FfnRef (rows normed)
open Cert.PoolOutGradIdeal Cert.PoolOutGradIdeal.Gen Cert.PoolOutGradIdeal.Value

theorem pay1_at (k : Fin 1024) (n : Fin 1024) : (k0_pay1 (F := Ideal) (ix2 k n) : EReal) = 0 := by
  pointwise [k0_pay1]

theorem pay2_at (A : Vec Ideal S2048x1024 .bf16) (B : Vec Ideal S2048x1024 .f32) (v : Vec Ideal S1024x1024 .f32) (k : Fin 1024) (n : Fin 1024) :
    k0_pay2 (F := Ideal) A B v (ix2 k n) = v (ix2 k n) + ∑ r, A (ix2 r k) * B (ix2 r n) := by
  pointwise [k0_pay2]

variable (m : (ℓ : Loc nD τ sig) → Buf (Elt Ideal) ℓ) (c : Dev nD)

/-- The kernel's arguments as arrays. -/
def A0 : FVec Ideal Cert.FfnReferenceIdeal.S8192x1024 .f32 := m (c.tc.loc main_arg0)
def A1 : FVec Ideal Cert.FfnReferenceIdeal.S8192x1024 .f32 := m (c.tc.loc main_arg1)

/-- The factor, -/
def aA (R : Fin 8192) (k : Fin 1024) : EReal := rows (A1 m c) R k
/-- and the product's cotangent. -/
def aB (R : Fin 8192) (n : Fin 1024) : EReal := rows (A0 m c) R n

theorem arr0 (R : Fin 8192) (k : Fin 1024) : (V m c main_v0 : FVec Ideal S8192x1024 .bf16) (ix2 R k) = aA m c R k := by
  have e : (V m c main_v0 : S8192x1024.Idx → EReal) = A1 m c := by
    entry_read
    rfl
  exact congrFun e (ix2 R k)
theorem arr1 (R : Fin 8192) (k : Fin 1024) : (V m c main_arg0 : FVec Ideal S8192x1024 .f32) (ix2 R k) = aB m c R k :=
  congrFun (V_main_arg0 m c) (ix2 R k)

/-- Row `r` of a tile. -/
def row (b : Fin 4) (r : Fin 2048) : Fin 8192 := ⟨b.val * 2048 + r.val, by omega⟩
/-- The tile of a point. -/
def tile (t : Fin cfg0.N) : Fin 4 := ⟨t.val % 4, by omega⟩

theorem idx : ∀ t : Fin cfg0.N, win0_0.index t = ![t.val % 4, 0] ∧ win0_1.index t = ![t.val % 4, 0] ∧ win0_2.index t = ![0, 0] :=
  (by decide +kernel : ∀ t : Fin grid0.N, _)

theorem blk0 (t : Fin cfg0.N) (r : Fin 2048) (k : Fin 1024) : (iblk m c 0 t : Vec Ideal S2048x1024 .bf16) (ix2 r k) = aA m c (row (tile t) r) k := by
  refine Eq.trans ?_ (arr0 m c (row (tile t) r) k)
  unfold row tile; blk_simp [iblk, idx t]; blk_ext [idx t]
theorem blk1 (t : Fin cfg0.N) (r : Fin 2048) (n : Fin 1024) : (iblk m c 1 t : Vec Ideal S2048x1024 .f32) (ix2 r n) = aB m c (row (tile t) r) n := by
  refine Eq.trans ?_ (arr1 m c (row (tile t) r) n)
  unfold row tile; blk_simp [iblk, idx t]; blk_ext [idx t]

/-- A tile's share of the gradient. -/
def part (k : Fin 1024) (n : Fin 1024) (b : ℕ) : EReal := if h : b < 4 then ∑ r, aA m c (row ⟨b, h⟩ r) k * aB m c (row ⟨b, h⟩ r) n else 0

theorem pay_point (t : Fin cfg0.N) (v : Vec Ideal S1024x1024 .f32) (k : Fin 1024) (n : Fin 1024) :
    k0_pay2 (F := Ideal) (iblk m c 0 t) (iblk m c 1 t) v (ix2 k n) = v (ix2 k n) + part m c k n (t.val % 4) := by
  rw [pay2_at]
  unfold part
  rw [dif_pos (by omega)]
  simp only [blk0 m c t, blk1 m c t]
  rfl

/-- After a point the buffer holds the shares of the tiles so far. -/
theorem sum_tile (k : Fin 1024) (n : Fin 1024) (t : ℕ) (h : t < cfg0.N) : (outsAt0 m c t h (ix2 k n) : EReal) = ∑ i ∈ Finset.range (t % 4 + 1), part m c k n i := by
  refine Cert.TileSum.four (fun t h => outsAt0 m c t h (ix2 k n)) (fun _ => part m c k n) (fun t h h0 => ?_) (fun t h h0 => ?_) t h
  · rw [outsAt0_A m c ⟨t, h⟩ h0, out_A_2_eq]
    refine (pay_point m c ⟨t, h⟩ _ k n).trans ?_
    rw [pay1_at]
    exact zero_add _
  · have e := outsAt0_B m c ⟨t, h⟩ h0
    rw [out_B_2_eq] at e
    exact (congrFun e (ix2 k n)).trans (pay_point m c ⟨t, h⟩ _ k n)

/-- The kernel's result: the whole sum over the rows. -/
theorem array2 : (dats m 0 c).arrAt 2 cfg0.N = fun j : S1024x1024.Idx => ∑ R, aA m c R (j 0) * aB m c R (j 1) := by
  refine (dats m 0 c).arrAt_eq_of_covers 2 _ (by decide +kernel) fun t ht y => ?_
  have h2 : t.val % 4 = 3 := (by decide +kernel : ∀ t : Fin cfg0.grid.N, (win0 2).flush t = true → t.val % 4 = 3) t ht
  blk_simp
  rw [after0_2]
  idx_vars y
  refine (sum_tile m c _ _ t.val t.isLt).trans ?_
  rw [h2, Finset.sum_range]
  unfold part
  have full : ∀ (k : Fin 1024) (n : Fin 1024), (∑ i : Fin 4, if h : i.val < 4 then ∑ r, aA m c (row ⟨i.val, h⟩ r) k * aB m c (row ⟨i.val, h⟩ r) n else 0)
      = ∑ R, aA m c R k * aB m c R n := fun k n => by
    rw [Fin.sum_univ_tiles 4 2048 (by norm_num) (fun R : Fin 8192 => aA m c R k * aB m c R n)]
    exact Finset.sum_congr rfl fun i _ => dif_pos i.isLt
  refine (full _ _).trans ?_
  refine Finset.sum_congr rfl fun R _ => congrArg₂ (· * ·) (congrArg (aA m c R) (Fin.ext ?_)) (congrArg (aB m c R) (Fin.ext ?_))
  · blk_simp [idx t]
  · blk_simp [idx t]

end Cert.PoolOut

namespace Cert.PoolInRef

open Idealize.ShloMosaic Idealize.ShloMosaic.TcCoe Idealize.SL.Sem Cert.Grad
open Cert.FfnRef (rows normed)
open Cert.PoolInGradReferenceIdeal Cert.PoolInGradReferenceIdeal.Gen Cert.PoolInGradReferenceIdeal.Value

/-- A product's gradient in its weight. -/
def weight (d a : FVec Ideal S8192x1024 .f32) : FVec Ideal S1024x1024 .f32 :=
  transpose S1024x1024 [1, 0] (Host.dotGeneral dot_S8192x1024_S8192x1024_S1024x1024_0_0_1_1_n_n none d a) transposes_S1024x1024_S1024x1024_1_0

theorem weight_at (d a : FVec Ideal S8192x1024 .f32) (k n : Fin 1024) : weight d a (ix2 k n) = ∑ R, rows a R k * rows d R n := by
  refine Eq.trans (b := ∑ R, rows d R n * rows a R k) ?_ (Finset.sum_congr rfl fun R _ => mul_comm _ _)
  unfold weight rows
  pointwise

/-- The kernel's array is the reference's. -/
theorem eq2 (m : (ℓ : Loc Cert.PoolInGradIdeal.nD Cert.PoolInGradIdeal.τ Cert.PoolInGradIdeal.sig) → Buf (Elt Ideal) ℓ) (c : Dev Cert.PoolInGradIdeal.nD)
    (a0 a1 : FVec Ideal S8192x1024 .f32) (a2 : FVec Ideal S1x1024 .f32)
    (h : a0 = Cert.PoolIn.A0 m c ∧ a1 = Cert.PoolIn.A1 m c ∧ a2 = Cert.PoolIn.A2 m c) :
    weight a0 (normed a1 a2) = (Cert.PoolInGradIdeal.Gen.dats m 0 c).arrAt 2 Cert.PoolInGradIdeal.cfg0.N := by
  obtain ⟨rfl, rfl, rfl⟩ := h
  rw [Cert.PoolIn.array2]
  funext j
  idx_vars j
  exact weight_at _ _ _ _

/-- The same for the mixer's last product. -/
theorem eq_out (m : (ℓ : Loc Cert.PoolOutGradIdeal.nD Cert.PoolOutGradIdeal.τ Cert.PoolOutGradIdeal.sig) → Buf (Elt Ideal) ℓ) (c : Dev Cert.PoolOutGradIdeal.nD)
    (a0 a1 : FVec Ideal S8192x1024 .f32) (h : a0 = Cert.PoolOut.A0 m c ∧ a1 = Cert.PoolOut.A1 m c) :
    weight a0 a1 = (Cert.PoolOutGradIdeal.Gen.dats m 0 c).arrAt 2 Cert.PoolOutGradIdeal.cfg0.N := by
  obtain ⟨rfl, rfl⟩ := h
  rw [Cert.PoolOut.array2]
  funext j
  idx_vars j
  exact weight_at _ _ _ _

end Cert.PoolInRef

end
-- ==== Proof.AttnOutGrad.lean ====
/- The gradient of the attention mixer's last weight is its reference's, whatever the arguments. -/
module

public import proofs.«01_k».proof.Proof.QkvGrad
public import proofs.«01_k».proof.Proof.PoolGrad
public import proofs.«01_k».proof.Proof.Gen.AttnOutGradIdeal.Value
public import proofs.«01_k».proof.Proof.Gen.AttnOutGradReferenceIdeal.Run

@[expose] public section

set_option maxRecDepth 16384

noncomputable section

namespace Cert.AttnLay

open Idealize.ShloMosaic Idealize.ShloMosaic.TcCoe Idealize.SL.Sem Cert.Grad
open Idealize.ShloMosaic.Pipeline (Dat)
open Cert.FfnRef (rows normed)
open Cert.Lanes
open Cert.AttnOutGradIdeal Cert.AttnOutGradIdeal.Gen

section
variable (w : FVec Ideal S8192x1024 .f32)

/- The merged heads' columns by groups of heads. -/
def lay0 : FVec Ideal S8192x384 .f32 :=
  pad S8192x384 ![0, 0] ![0, 0] ![0, 0] (extractStridedSlice S8192x384 ![0, 0] w slices_S8192x1024_S8192x384_0_0) (sitofp .f32 (constantI S_ 32 0#32)) pads_S8192x384_S8192x384_000_000 h_S_
theorem lay0_at (x : Fin 8192) (i : Fin 384) (n : Fin 1152) (e : n.val = 0 + i.val) : lay0 w (ix2 x i) = pick1 (fun F => w (ix2 x F)) n := by
  pointwise [lay0]
  refine pick1_in (g := 0) (j := i.val) (show n.val / 384 = 0 by omega) (by omega) (lt_of_lt_of_eq i.isLt rfl) fun F e => ?_
  exact congrArg (fun F => w (ix2 x F)) (Fin.ext (by have : lo 0 = 0 := rfl; dsimp only; omega))
def lay1 : FVec Ideal S8192x384 .f32 :=
  pad S8192x384 ![0, 0] ![0, 64] ![0, 0] (extractStridedSlice S8192x320 ![0, 384] w slices_S8192x1024_S8192x320_0_384) (sitofp .f32 (constantI S_ 32 0#32)) pads_S8192x320_S8192x384_000_0640 h_S_
theorem lay1_at (x : Fin 8192) (i : Fin 384) (n : Fin 1152) (e : n.val = 384 + i.val) : lay1 w (ix2 x i) = pick1 (fun F => w (ix2 x F)) n := by
  pointwise [lay1]
  refine pick1_of (g := 1) (j := i.val) (a := 384) (b := 320) (show n.val / 384 = 1 by omega) (by omega) rfl rfl zero_pad fun h F e => ?_
  exact congrArg (fun F => w (ix2 x F)) (Fin.ext (by dsimp only; omega))
def lay2 : FVec Ideal S8192x384 .f32 :=
  pad S8192x384 ![0, 0] ![0, 64] ![0, 0] (extractStridedSlice S8192x320 ![0, 704] w slices_S8192x1024_S8192x320_0_704) (sitofp .f32 (constantI S_ 32 0#32)) pads_S8192x320_S8192x384_000_0640 h_S_
theorem lay2_at (x : Fin 8192) (i : Fin 384) (n : Fin 1152) (e : n.val = 768 + i.val) : lay2 w (ix2 x i) = pick1 (fun F => w (ix2 x F)) n := by
  pointwise [lay2]
  refine pick1_of (g := 2) (j := i.val) (a := 704) (b := 320) (show n.val / 384 = 2 by omega) (by omega) rfl rfl zero_pad fun h F e => ?_
  exact congrArg (fun F => w (ix2 x F)) (Fin.ext (by dsimp only; omega))
/-- The three groups one after the other. -/
def laid : FVec Ideal S8192x1152 .f32 :=
  concatenate S8192x1152 1 [⟨S8192x384, (lay0 w : (⟨S8192x384, .f32⟩ : BufTy).Contents (Elt Ideal))⟩, ⟨S8192x384, (lay1 w : (⟨S8192x384, .f32⟩ : BufTy).Contents (Elt Ideal))⟩, ⟨S8192x384, (lay2 w : (⟨S8192x384, .f32⟩ : BufTy).Contents (Elt Ideal))⟩] concatenates_S8192x384_S8192x384_S8192x384_S8192x1152_d1
theorem laid_at (x : Fin 8192) (n : Fin 1152) : laid w (ix2 x n) = pick1 (fun F => w (ix2 x F)) n := by
  pointwise [laid]
  split_ifs
  all_goals first
    | exact lay0_at w x _ n (by simp only []; omega)
    | exact lay1_at w x _ n (by simp only []; omega)
    | exact lay2_at w x _ n (by simp only []; omega)
    | exact absurd rfl (by assumption)
end

end Cert.AttnLay

namespace Cert.AttnRefLay

open Idealize.ShloMosaic Idealize.ShloMosaic.TcCoe Idealize.SL.Sem Cert.Grad
open Idealize.ShloMosaic.Pipeline (Dat)
open Cert.FfnRef (rows normed)
open Cert.Lanes
open Cert.AttnOutGradReferenceIdeal Cert.AttnOutGradReferenceIdeal.Gen

section
variable (w : FVec Ideal S1024x1024 .f32)

/- The gradient's rows by groups of heads. -/
def lay0 : FVec Ideal S384x1024 .f32 :=
  pad S384x1024 ![0, 0] ![0, 0] ![0, 0] (extractStridedSlice S384x1024 ![0, 0] w slices_S1024x1024_S384x1024_0_0) (sitofp .f32 (constantI S_ 32 0#32)) pads_S384x1024_S384x1024_000_000 h_S_
theorem lay0_at (i : Fin 384) (x : Fin 1024) (n : Fin 1152) (e : n.val = 0 + i.val) : lay0 w (ix2 i x) = pick1 (fun F => w (ix2 F x)) n := by
  pointwise [lay0]
  refine pick1_in (g := 0) (j := i.val) (show n.val / 384 = 0 by omega) (by omega) (lt_of_lt_of_eq i.isLt rfl) fun F e => ?_
  exact congrArg (fun F => w (ix2 F x)) (Fin.ext (by have : lo 0 = 0 := rfl; dsimp only; omega))
def lay1 : FVec Ideal S384x1024 .f32 :=
  pad S384x1024 ![0, 0] ![64, 0] ![0, 0] (extractStridedSlice S320x1024 ![384, 0] w slices_S1024x1024_S320x1024_384_0) (sitofp .f32 (constantI S_ 32 0#32)) pads_S320x1024_S384x1024_0640_000 h_S_
theorem lay1_at (i : Fin 384) (x : Fin 1024) (n : Fin 1152) (e : n.val = 384 + i.val) : lay1 w (ix2 i x) = pick1 (fun F => w (ix2 F x)) n := by
  pointwise [lay1]
  refine pick1_of (g := 1) (j := i.val) (a := 384) (b := 320) (show n.val / 384 = 1 by omega) (by omega) rfl rfl zero_pad fun h F e => ?_
  exact congrArg (fun F => w (ix2 F x)) (Fin.ext (by dsimp only; omega))
def lay2 : FVec Ideal S384x1024 .f32 :=
  pad S384x1024 ![0, 0] ![64, 0] ![0, 0] (extractStridedSlice S320x1024 ![704, 0] w slices_S1024x1024_S320x1024_704_0) (sitofp .f32 (constantI S_ 32 0#32)) pads_S320x1024_S384x1024_0640_000 h_S_
theorem lay2_at (i : Fin 384) (x : Fin 1024) (n : Fin 1152) (e : n.val = 768 + i.val) : lay2 w (ix2 i x) = pick1 (fun F => w (ix2 F x)) n := by
  pointwise [lay2]
  refine pick1_of (g := 2) (j := i.val) (a := 704) (b := 320) (show n.val / 384 = 2 by omega) (by omega) rfl rfl zero_pad fun h F e => ?_
  exact congrArg (fun F => w (ix2 F x)) (Fin.ext (by dsimp only; omega))
/-- The three groups one after the other. -/
def laid : FVec Ideal S1152x1024 .f32 :=
  concatenate S1152x1024 0 [⟨S384x1024, (lay0 w : (⟨S384x1024, .f32⟩ : BufTy).Contents (Elt Ideal))⟩, ⟨S384x1024, (lay1 w : (⟨S384x1024, .f32⟩ : BufTy).Contents (Elt Ideal))⟩, ⟨S384x1024, (lay2 w : (⟨S384x1024, .f32⟩ : BufTy).Contents (Elt Ideal))⟩] concatenates_S384x1024_S384x1024_S384x1024_S1152x1024_d0
theorem laid_at (n : Fin 1152) (x : Fin 1024) : laid w (ix2 n x) = pick1 (fun F => w (ix2 F x)) n := by
  pointwise [laid]
  split_ifs
  all_goals first
    | exact lay0_at w _ x n (by simp only []; omega)
    | exact lay1_at w _ x n (by simp only []; omega)
    | exact lay2_at w _ x n (by simp only []; omega)
    | exact absurd rfl (by assumption)
end

end Cert.AttnRefLay

namespace Cert.AttnOutVal

open Idealize.ShloMosaic Idealize.ShloMosaic.TcCoe Idealize.SL.Sem Cert.Grad
open Idealize.ShloMosaic.Pipeline (Dat)
open Cert.FfnRef (rows normed)
open Cert.AttnOutGradIdeal Cert.AttnOutGradIdeal.Gen Cert.AttnOutGradIdeal.Value

theorem pay1_at (k : Fin 1152) (n : Fin 1024) : (k0_pay1 (F := Ideal) (ix2 k n) : EReal) = 0 := by
  pointwise [k0_pay1]

theorem pay2_at (A : Vec Ideal S2048x1152 .bf16) (B : Vec Ideal S2048x1024 .f32) (v : Vec Ideal S1152x1024 .f32) (k : Fin 1152) (n : Fin 1024) :
    k0_pay2 (F := Ideal) A B v (ix2 k n) = v (ix2 k n) + ∑ r, A (ix2 r k) * B (ix2 r n) := by
  pointwise [k0_pay2]

variable (m : (ℓ : Loc nD τ sig) → Buf (Elt Ideal) ℓ) (c : Dev nD)

/-- The kernel's arguments as arrays. -/
def A0 : FVec Ideal Cert.FfnReferenceIdeal.S8192x1024 .f32 := m (c.tc.loc main_arg0)
def A1 : FVec Ideal Cert.FfnReferenceIdeal.S8192x1024 .f32 := m (c.tc.loc main_arg1)

/-- The merged heads by groups, -/
def aA (R : Fin 8192) (k : Fin 1152) : EReal := Cert.Lanes.pick1 (rows (A1 m c) R) k
/-- and the product's cotangent. -/
def aB (R : Fin 8192) (n : Fin 1024) : EReal := rows (A0 m c) R n

theorem arr0 (R : Fin 8192) (k : Fin 1152) : (V m c main_v7 : FVec Ideal S8192x1152 .bf16) (ix2 R k) = aA m c R k := by
  have e : (V m c main_v7 : S8192x1152.Idx → EReal) = Cert.AttnLay.laid (A1 m c) := by
    entry_read
    rfl
  exact (congrFun e (ix2 R k)).trans (Cert.AttnLay.laid_at (A1 m c) R k)
theorem arr1 (R : Fin 8192) (k : Fin 1024) : (V m c main_arg0 : FVec Ideal S8192x1024 .f32) (ix2 R k) = aB m c R k :=
  congrFun (V_main_arg0 m c) (ix2 R k)

/-- Row `r` of a tile. -/
def row (b : Fin 4) (r : Fin 2048) : Fin 8192 := ⟨b.val * 2048 + r.val, by omega⟩
/-- The tile of a point. -/
def tile (t : Fin cfg0.N) : Fin 4 := ⟨t.val % 4, by omega⟩

theorem idx : ∀ t : Fin cfg0.N, win0_0.index t = ![t.val % 4, 0] ∧ win0_1.index t = ![t.val % 4, 0] ∧ win0_2.index t = ![0, 0] :=
  (by decide +kernel : ∀ t : Fin grid0.N, _)

theorem blk0 (t : Fin cfg0.N) (r : Fin 2048) (k : Fin 1152) : (iblk m c 0 t : Vec Ideal S2048x1152 .bf16) (ix2 r k) = aA m c (row (tile t) r) k := by
  refine Eq.trans ?_ (arr0 m c (row (tile t) r) k)
  unfold row tile; blk_simp [iblk, idx t]; blk_ext [idx t]
theorem blk1 (t : Fin cfg0.N) (r : Fin 2048) (n : Fin 1024) : (iblk m c 1 t : Vec Ideal S2048x1024 .f32) (ix2 r n) = aB m c (row (tile t) r) n := by
  refine Eq.trans ?_ (arr1 m c (row (tile t) r) n)
  unfold row tile; blk_simp [iblk, idx t]; blk_ext [idx t]

/-- A tile's share of the gradient. -/
def part (k : Fin 1152) (n : Fin 1024) (b : ℕ) : EReal := if h : b < 4 then ∑ r, aA m c (row ⟨b, h⟩ r) k * aB m c (row ⟨b, h⟩ r) n else 0

theorem pay_point (t : Fin cfg0.N) (v : Vec Ideal S1152x1024 .f32) (k : Fin 1152) (n : Fin 1024) :
    k0_pay2 (F := Ideal) (iblk m c 0 t) (iblk m c 1 t) v (ix2 k n) = v (ix2 k n) + part m c k n (t.val % 4) := by
  rw [pay2_at]
  unfold part
  rw [dif_pos (by omega)]
  simp only [blk0 m c t, blk1 m c t]
  rfl

/-- After a point the buffer holds the shares of the tiles so far. -/
theorem sum_tile (k : Fin 1152) (n : Fin 1024) (t : ℕ) (h : t < cfg0.N) : (outsAt0 m c t h (ix2 k n) : EReal) = ∑ i ∈ Finset.range (t % 4 + 1), part m c k n i := by
  refine Cert.TileSum.four (fun t h => outsAt0 m c t h (ix2 k n)) (fun _ => part m c k n) (fun t h h0 => ?_) (fun t h h0 => ?_) t h
  · rw [outsAt0_A m c ⟨t, h⟩ h0, out_A_2_eq]
    refine (pay_point m c ⟨t, h⟩ _ k n).trans ?_
    rw [pay1_at]
    exact zero_add _
  · have e := outsAt0_B m c ⟨t, h⟩ h0
    rw [out_B_2_eq] at e
    exact (congrFun e (ix2 k n)).trans (pay_point m c ⟨t, h⟩ _ k n)

/-- The kernel's result: the whole sum over the rows. -/
theorem array2 : (dats m 0 c).arrAt 2 cfg0.N = fun j : S1152x1024.Idx => ∑ R, aA m c R (j 0) * aB m c R (j 1) := by
  refine (dats m 0 c).arrAt_eq_of_covers 2 _ (by decide +kernel) fun t ht y => ?_
  have h2 : t.val % 4 = 3 := (by decide +kernel : ∀ t : Fin cfg0.grid.N, (win0 2).flush t = true → t.val % 4 = 3) t ht
  blk_simp
  rw [after0_2]
  idx_vars y
  refine (sum_tile m c _ _ t.val t.isLt).trans ?_
  rw [h2, Finset.sum_range]
  unfold part
  have full : ∀ (k : Fin 1152) (n : Fin 1024), (∑ i : Fin 4, if h : i.val < 4 then ∑ r, aA m c (row ⟨i.val, h⟩ r) k * aB m c (row ⟨i.val, h⟩ r) n else 0)
      = ∑ R, aA m c R k * aB m c R n := fun k n => by
    rw [Fin.sum_univ_tiles 4 2048 (by norm_num) (fun R : Fin 8192 => aA m c R k * aB m c R n)]
    exact Finset.sum_congr rfl fun i _ => dif_pos i.isLt
  refine (full _ _).trans ?_
  refine Finset.sum_congr rfl fun R _ => congrArg₂ (· * ·) (congrArg (aA m c R) (Fin.ext ?_)) (congrArg (aB m c R) (Fin.ext ?_))
  · blk_simp [idx t]
  · blk_simp [idx t]

/-- The kernel's array is the reference's. -/
theorem eq2 (a0 a1 : FVec Ideal Cert.FfnReferenceIdeal.S8192x1024 .f32) (h : a0 = A0 m c ∧ a1 = A1 m c) :
    Cert.AttnRefLay.laid (Cert.PoolInRef.weight a0 a1) = (dats m 0 c).arrAt 2 cfg0.N := by
  obtain ⟨rfl, rfl⟩ := h
  rw [array2]
  funext j
  idx_vars j
  refine (Cert.AttnRefLay.laid_at _ _ _).trans ?_
  refine Eq.trans ?_ (Cert.Lanes.pick1_sum (fun R => aB m c R j1) (fun R => rows (A1 m c) R) j0).symm
  exact congrArg (fun f => Cert.Lanes.pick1 f j0) (funext fun F => Cert.PoolInRef.weight_at _ _ _ _)

end Cert.AttnOutVal

end
-- ==== Proof.PoolGroupGrad.lean ====
/- The gradient of the pooling mixer's group weights is its reference's, whatever the arguments. -/
module

public import proofs.«01_k».proof.Proof.TileSum
public import proofs.«01_k».proof.Proof.InGrad
public import proofs.«01_k».proof.Proof.Gen.PoolGroupGradIdeal.Value
public import proofs.«01_k».proof.Proof.Gen.PoolGroupGradReferenceIdeal.Run

@[expose] public section

set_option maxRecDepth 16384

noncomputable section

namespace Cert.PoolGroupVal

open Idealize.ShloMosaic Idealize.ShloMosaic.TcCoe Idealize.SL.Sem Cert.Grad
open Idealize.ShloMosaic.Pipeline (Dat)
open Cert.FfnRef (rows normed)
open Cert.PoolGroupGradIdeal Cert.PoolGroupGradIdeal.Gen Cert.PoolGroupGradIdeal.Value

theorem pay1_at (s : Fin 4) (k : Fin 64) (n : Fin 256) : (k0_pay1 (F := Ideal) (ix4 s 0 k n) : EReal) = 0 := by
  pointwise [k0_pay1]

theorem pay2_at (A B : Vec Ideal S2048x256 .bf16) (v : Vec Ideal S4x1x64x256 .f32) (s : Fin 4) (k : Fin 64) (n : Fin 256) :
    k0_pay2 (F := Ideal) A B v (ix4 s 0 k n) = v (ix4 s 0 k n) + ∑ r, A (ix2 r ⟨s.val * 64 + k.val, by omega⟩) * B (ix2 r n) := by
  pointwise [k0_pay2]

variable (m : (ℓ : Loc nD τ sig) → Buf (Elt Ideal) ℓ) (c : Dev nD)

/-- The kernel's arguments as arrays. -/
def A0 : FVec Ideal Cert.FfnReferenceIdeal.S8192x1024 .f32 := m (c.tc.loc main_arg0)
def A1 : FVec Ideal Cert.FfnReferenceIdeal.S8192x1024 .f32 := m (c.tc.loc main_arg1)

/-- A column of a group. -/
def gcol (g : Fin 4) (k : Fin 256) : Fin 1024 := ⟨g.val * 256 + k.val, by omega⟩
/-- The factor's columns by groups, -/
def aA (g : Fin 4) (R : Fin 8192) (k : Fin 256) : EReal := rows (A1 m c) R (gcol g k)
/-- and the cotangent's. -/
def aB (g : Fin 4) (R : Fin 8192) (n : Fin 256) : EReal := rows (A0 m c) R (gcol g n)

theorem arr0 : (V m c main_v0 : S8192x1024.Idx → EReal) = A1 m c := by
  entry_read
  rfl
theorem arr1 : (V m c main_v1 : S8192x1024.Idx → EReal) = A0 m c := by
  entry_read
  rfl

/-- Row `r` of a tile. -/
def row (b : Fin 4) (r : Fin 2048) : Fin 8192 := ⟨b.val * 2048 + r.val, by omega⟩
/-- The tile of a point. -/
def tile (t : Fin cfg0.N) : Fin 4 := ⟨t.val % 4, by omega⟩

/-- The group of a point. -/
def group (n : ℕ) : Fin 4 := ⟨n / 4 % 4, Nat.mod_lt _ (by decide)⟩

theorem idx : ∀ t : Fin cfg0.N, win0_0.index t = ![t.val % 4, t.val / 4] ∧ win0_1.index t = ![t.val % 4, t.val / 4] ∧ win0_2.index t = ![0, t.val / 4, 0, 0] :=
  (by decide +kernel : ∀ t : Fin grid0.N, _)

theorem group_val (t : Fin cfg0.N) : (group t.val).val = t.val / 4 := by
  have h : t.val < 16 := lt_of_lt_of_eq t.isLt N_0
  show t.val / 4 % 4 = t.val / 4
  omega

theorem blk0 (t : Fin cfg0.N) (r : Fin 2048) (k : Fin 256) : (iblk m c 0 t : Vec Ideal S2048x256 .bf16) (ix2 r k) = aA m c (group t.val) (row (tile t) r) k := by
  refine Eq.trans ?_ (congrFun (arr0 m c) (ix2 (row (tile t) r) (gcol (group t.val) k)))
  have hg := group_val t
  generalize group t.val = g at hg
  unfold row tile gcol; blk_simp [iblk, idx t]; blk_ext [idx t, hg]
theorem blk1 (t : Fin cfg0.N) (r : Fin 2048) (k : Fin 256) : (iblk m c 1 t : Vec Ideal S2048x256 .bf16) (ix2 r k) = aB m c (group t.val) (row (tile t) r) k := by
  refine Eq.trans ?_ (congrFun (arr1 m c) (ix2 (row (tile t) r) (gcol (group t.val) k)))
  have hg := group_val t
  generalize group t.val = g at hg
  unfold row tile gcol; blk_simp [iblk, idx t]; blk_ext [idx t, hg]

/-- A shard's row of a group. -/
def col (s : Fin 4) (k : Fin 64) : Fin 256 := ⟨s.val * 64 + k.val, by omega⟩

/-- A tile's share of the gradient. -/
def part (k n : Fin 256) (g : Fin 4) (b : ℕ) : EReal := if h : b < 4 then ∑ r, aA m c g (row ⟨b, h⟩ r) k * aB m c g (row ⟨b, h⟩ r) n else 0

theorem pay_point (t : Fin cfg0.N) (v : Vec Ideal S4x1x64x256 .f32) (s : Fin 4) (k : Fin 64) (n : Fin 256) :
    k0_pay2 (F := Ideal) (iblk m c 0 t) (iblk m c 1 t) v (ix4 s 0 k n) = v (ix4 s 0 k n) + part m c (col s k) n (group t.val) (t.val % 4) := by
  rw [pay2_at]
  unfold part
  rw [dif_pos (by omega)]
  simp only [blk0 m c t, blk1 m c t]
  rfl

/-- After a point the buffer holds the shares of the tiles so far. -/
theorem sum_tile (s : Fin 4) (k : Fin 64) (n : Fin 256) (t : ℕ) (h : t < cfg0.N) :
    (outsAt0 m c t h (ix4 s 0 k n) : EReal) = ∑ i ∈ Finset.range (t % 4 + 1), part m c (col s k) n (group t) i := by
  refine Cert.TileSum.four (fun t h => outsAt0 m c t h (ix4 s 0 k n)) (fun q => part m c (col s k) n ⟨q % 4, Nat.mod_lt _ (by decide)⟩) (fun t h h0 => ?_) (fun t h h0 => ?_) t h
  · rw [outsAt0_A m c ⟨t, h⟩ h0, out_A_2_eq]
    refine (pay_point m c ⟨t, h⟩ _ s k n).trans ?_
    rw [pay1_at]
    exact zero_add _
  · have e := outsAt0_B m c ⟨t, h⟩ h0
    rw [out_B_2_eq] at e
    exact (congrFun e (ix4 s 0 k n)).trans (pay_point m c ⟨t, h⟩ _ s k n)

/-- The kernel's result: for a shard's rows of a group the whole sum over the rows of the tokens. -/
theorem array2 : (dats m 0 c).arrAt 2 cfg0.N = fun j : S4x4x64x256.Idx => ∑ R, aA m c (j 1) R (col (j 0) (j 2)) * aB m c (j 1) R (j 3) := by
  refine (dats m 0 c).arrAt_eq_of_covers 2 _ (by decide +kernel) fun t ht y => ?_
  have h2 : t.val % 4 = 3 := (by decide +kernel : ∀ t : Fin cfg0.grid.N, (win0 2).flush t = true → t.val % 4 = 3) t ht
  have hg := group_val t
  blk_simp
  rw [after0_2]
  idx_vars y
  have ey : y1 = 0 := Subsingleton.elim (α := Fin 1) _ _
  rw [ey]
  refine (sum_tile m c _ _ _ t.val t.isLt).trans ?_
  rw [h2, Finset.sum_range]
  unfold part
  have full : ∀ (g : Fin 4) (k n : Fin 256), (∑ i : Fin 4, if h : i.val < 4 then ∑ r, aA m c g (row ⟨i.val, h⟩ r) k * aB m c g (row ⟨i.val, h⟩ r) n else 0)
      = ∑ R, aA m c g R k * aB m c g R n := fun g k n => by
    rw [Fin.sum_univ_tiles 4 2048 (by norm_num) (fun R : Fin 8192 => aA m c g R k * aB m c g R n)]
    exact Finset.sum_congr rfl fun i _ => dif_pos i.isLt
  refine (full _ _ _).trans ?_
  generalize group t.val = g at hg
  refine Finset.sum_congr rfl fun R _ => congrArg₂ (· * ·) ?_ ?_
  · refine congr (congrArg (fun g => aA m c g R) (Fin.ext ?_)) (congrArg₂ col (Fin.ext ?_) (Fin.ext ?_))
    · blk_simp [idx t, hg]
      rfl
    · blk_simp [idx t]
    · blk_simp [idx t]
  · refine congr (congrArg (fun g => aB m c g R) (Fin.ext ?_)) (Fin.ext ?_)
    · blk_simp [idx t, hg]
      rfl
    · blk_simp [idx t]

end Cert.PoolGroupVal

namespace Cert.PoolGroupRef

open Idealize.ShloMosaic Idealize.ShloMosaic.TcCoe Idealize.SL.Sem Cert.Grad
open Cert.FfnRef (rows)
open Cert.PoolGroupGradReferenceIdeal Cert.PoolGroupGradReferenceIdeal.Gen

/-- The groups' products' gradient in their weights, by shards. -/
def weight (d a : FVec Ideal S8192x1024 .f32) : FVec Ideal S4x4x64x256 .f32 :=
  transpose S4x4x64x256 [1, 0, 2, 3] (shapeCast _ (transpose S4x256x256 [0, 2, 1] (Host.dotGeneral dot_S4x256x8192_S8192x4x256_S4x256x256_2_0_1_2_0_1 none (transpose S4x256x8192 [1, 2, 0] (shapeCast _ d shapeCasts_S8192x1024_S8192x4x256) transposes_S8192x4x256_S4x256x8192_1_2_0) (shapeCast _ a shapeCasts_S8192x1024_S8192x4x256)) transposes_S4x256x256_S4x256x256_0_2_1) shapeCasts_S4x256x256_S4x4x64x256) transposes_S4x4x64x256_S4x4x64x256_1_0_2_3

theorem weight_at (d a : FVec Ideal S8192x1024 .f32) (s g : Fin 4) (k : Fin 64) (n : Fin 256) :
    weight d a (ix4 s g k n) = ∑ R, rows a R ⟨g.val * 256 + (Cert.PoolGroupVal.col s k).val, by omega⟩ * rows d R ⟨g.val * 256 + n.val, by omega⟩ := by
  refine Eq.trans (b := ∑ R, rows d R ⟨g.val * 256 + n.val, by omega⟩ * rows a R ⟨g.val * 256 + (s.val * 64 + k.val), by omega⟩) ?_ (Finset.sum_congr rfl fun R _ => mul_comm _ _)
  unfold weight rows
  pointwise

/-- The kernel's array is the reference's. -/
theorem eq2 (m : (ℓ : Loc Cert.PoolGroupGradIdeal.nD Cert.PoolGroupGradIdeal.τ Cert.PoolGroupGradIdeal.sig) → Buf (Elt Ideal) ℓ) (c : Dev Cert.PoolGroupGradIdeal.nD)
    (a0 a1 : FVec Ideal S8192x1024 .f32) (h : a0 = Cert.PoolGroupVal.A0 m c ∧ a1 = Cert.PoolGroupVal.A1 m c) :
    weight a0 a1 = (Cert.PoolGroupGradIdeal.Gen.dats m 0 c).arrAt 2 Cert.PoolGroupGradIdeal.cfg0.N := by
  obtain ⟨rfl, rfl⟩ := h
  rw [Cert.PoolGroupVal.array2]
  funext j
  idx_vars j
  exact weight_at _ _ _ _ _ _

end Cert.PoolGroupRef

end
-- ==== Proof.PoolFwdBlock.lean ====
/- The pooling layer's forward kernel: what its results are as formulas over the whole arrays, and the payloads of one tile's stores read at an
   index. The wider windows are made by doubling, as in the gradient's kernel, but of the rows that come before. -/
module

public import proofs.«01_k».proof.Proof.Block
public import proofs.«01_k».proof.Proof.Stores
public import proofs.«01_k».proof.Proof.Gen.PoolFwdIdeal.Skeleton

@[expose] public section

set_option maxRecDepth 16384

noncomputable section

namespace Cert.PoolFwd

open Idealize.ShloMosaic Idealize.ShloMosaic.TcCoe Idealize.SL.Sem Cert.Grad
open Cert.PoolFwdIdeal Cert.PoolFwdIdeal.Gen

/-! The results as formulas: `x` is the layer's input, `g` the norm's gains, `wi`, `wg`, `wo` the weights, `s` the scale. -/
section
variable {T : ℕ} (x : Fin T → Fin 1024 → EReal) (g s : Fin 1024 → EReal) (wi wo : Fin 1024 → Fin 1024 → EReal) (wg : Fin 4 → Fin 256 → Fin 256 → EReal)

/-- The normalised row. -/
def hh (R : Fin T) (j : Fin 1024) : EReal := x R j * rinv x R * g j

/-- The projected row. -/
def uu (R : Fin T) (j : Fin 1024) : EReal := ∑ k, hh x g R k * wi k j

/-- A sequence `i` rows back from `R`, zero before the first row. -/
def prev (f : ℕ → EReal) (R i : ℕ) : EReal := if i ≤ R then f (R - i) else 0

/-- The mean of the window that ends at the token, less the token's own row. -/
def pp (R : Fin T) (q : Fin 4) (l : Fin 256) : EReal :=
  (∑ i ∈ Finset.range (width q), prev (ext fun R' => uu x g wi R' (lane q l)) R.val i) * Ideal.div 1 (cnt (width q) R.val) - uu x g wi R (lane q l)

/-- The grouped product, -/
def zzr (R : Fin T) (q : Fin 4) (l : Fin 256) : EReal := ∑ k, pp x g wi R q k * wg q k l

/-- and it scaled. -/
def zz (R : Fin T) (q : Fin 4) (l : Fin 256) : EReal := zzr x g wi wg R q l * s (lane q l)

/-- The layer's output. -/
def xxo (R : Fin T) (j : Fin 1024) : EReal := x R j + ∑ k, zz x g s wi wg R (grp k) (lin k) * wo k j

end

/-! The payloads. -/
section
variable (X : Vec Ideal S512x1024 .f32) (G : Vec Ideal S1x1024 .f32) (Wi : Vec Ideal S1024x1024 .bf16) (r : Fin 512) (j : Fin 1024)

theorem pay8_at : k0_pay8 (F := Ideal) X G (ix2 r j) = hh (fun i k => X (ix2 i k)) (fun k => G (ix2 0 k)) r j := by
  unfold hh rinv
  pointwise [k0_pay8]

theorem pay9_at : k0_pay9 (F := Ideal) X G Wi (ix2 r j) = uu (fun i k => X (ix2 i k)) (fun k => G (ix2 0 k)) (fun i k => Wi (ix2 i k)) r j := by
  unfold uu hh rinv
  pointwise [k0_pay9, k0_pay8]

theorem pay6_at (Z : Vec Ideal S512x1024 .bf16) : k0_pay6 (F := Ideal) X Z Wi (ix2 r j) = X (ix2 r j) + ∑ k, Z (ix2 r k) * Wi (ix2 k j) := by pointwise [k0_pay6]

theorem pay7_at (k : Fin 32) : k0_pay7 (F := Ideal) (ix2 k j) = 0 := by pointwise [k0_pay7]

theorem pay5_at (Y : Vec Ideal S32x1024 .f32) (k : Fin 32) : k0_pay5 (F := Ideal) Y (ix2 k j) = Y (ix2 k j) := by pointwise [k0_pay5]
end

/-- The row numbers of tile `b`, as words. -/
theorem pay10_at (i : grid0.Coords) (b : Fin 16) (hb : (i 0).val = b.val) (r : Fin 512) :
    k0_pay10 i (ix2 r 0) = BitVec.ofNat 32 (PoolBwd.row b r).val := by
  pointwise [k0_pay10]
  show BitVec.ofNat 32 (i 0).val * 512#32 + BitVec.ofNat 32 r.val = BitVec.ofNat 32 (512 * b.val + r.val)
  rw [hb, mul_comm, show (512#32 : BitVec 32) = BitVec.ofNat 32 512 from rfl, ← BitVec.ofNat_mul, ← BitVec.ofNat_add]

section
variable (v : IVec S512x1 32) (u a b : Vec Ideal S512x256 .f32) (W : Vec Ideal S1x256x256 .bf16) (S : Vec Ideal S1x256 .f32) (r : Fin 512) (l : Fin 256)

theorem pay11_at : k0_pay11 (F := Ideal) a b (ix2 r l) = a (ix2 r l) + b (ix2 r l) := by pointwise [k0_pay11]
theorem pay16_at (a b : Vec Ideal S536x256 .f32) (r : Fin 536) : k0_pay16 (F := Ideal) a b (ix2 r l) = a (ix2 r l) + b (ix2 r l) := by pointwise [k0_pay16]
theorem pay21_at (a b : Vec Ideal S536x256 .f32) (r : Fin 536) : k0_pay21 (F := Ideal) a b (ix2 r l) = a (ix2 r l) + b (ix2 r l) := by pointwise [k0_pay21]
theorem pay27_at (a b : Vec Ideal S536x256 .f32) (r : Fin 536) : k0_pay27 (F := Ideal) a b (ix2 r l) = a (ix2 r l) + b (ix2 r l) := by pointwise [k0_pay27]
theorem pay22_at (a b : Vec Ideal S528x256 .f32) (r : Fin 528) : k0_pay22 (F := Ideal) a b (ix2 r l) = a (ix2 r l) + b (ix2 r l) := by pointwise [k0_pay22]
theorem pay28_at (a b : Vec Ideal S528x256 .f32) (r : Fin 528) : k0_pay28 (F := Ideal) a b (ix2 r l) = a (ix2 r l) + b (ix2 r l) := by pointwise [k0_pay28]
theorem pay29_at (a b : Vec Ideal S520x256 .f32) (r : Fin 520) : k0_pay29 (F := Ideal) a b (ix2 r l) = a (ix2 r l) + b (ix2 r l) := by pointwise [k0_pay29]

theorem pay14_at : k0_pay14 (F := Ideal) v u a W (ix2 r l) = ∑ k, k0_pay12 v u a (ix2 r k) * W (ix3 0 k l) := by pointwise [k0_pay14, k0_pay13]
theorem pay19_at : k0_pay19 (F := Ideal) v u a b W (ix2 r l) = ∑ k, k0_pay17 v u a b (ix2 r k) * W (ix3 0 k l) := by pointwise [k0_pay19, k0_pay18]
theorem pay25_at : k0_pay25 (F := Ideal) v u a b W (ix2 r l) = ∑ k, k0_pay23 v u a b (ix2 r k) * W (ix3 0 k l) := by pointwise [k0_pay25, k0_pay24]
theorem pay3_at : k0_pay3 (F := Ideal) u a W (ix2 r l) = ∑ k, k0_pay1 u a (ix2 r k) * W (ix3 0 k l) := by pointwise [k0_pay3, k0_pay2]

theorem pay15_at : k0_pay15 (F := Ideal) v u a W S (ix2 r l) = (∑ k, k0_pay12 v u a (ix2 r k) * W (ix3 0 k l)) * S (ix2 0 l) := by pointwise [k0_pay15, k0_pay13]
theorem pay20_at : k0_pay20 (F := Ideal) v u a b W S (ix2 r l) = (∑ k, k0_pay17 v u a b (ix2 r k) * W (ix3 0 k l)) * S (ix2 0 l) := by pointwise [k0_pay20, k0_pay18]
theorem pay26_at : k0_pay26 (F := Ideal) v u a b W S (ix2 r l) = (∑ k, k0_pay23 v u a b (ix2 r k) * W (ix3 0 k l)) * S (ix2 0 l) := by pointwise [k0_pay26, k0_pay24]
theorem pay4_at : k0_pay4 (F := Ideal) u a W S (ix2 r l) = (∑ k, k0_pay1 u a (ix2 r k) * W (ix3 0 k l)) * S (ix2 0 l) := by pointwise [k0_pay4, k0_pay2]

variable (R : ℕ) (hR : R < 8192) (hv : v (ix2 r 0) = BitVec.ofNat 32 R)
include hR hv

theorem pay12_at : k0_pay12 (F := Ideal) v u a (ix2 r l) = a (ix2 r l) * Ideal.div 1 (cnt 2 R) - u (ix2 r l) := by
  pointwise [k0_pay12]
  rw [hv]
  exact congrArg (fun q => _ * Ideal.div 1 q - _) (PoolBwd.count_at R 2 hR (by norm_num))
theorem pay17_at : k0_pay17 (F := Ideal) v u a b (ix2 r l) = (a (ix2 r l) + b (ix2 r l)) * Ideal.div 1 (cnt 4 R) - u (ix2 r l) := by
  pointwise [k0_pay17]
  rw [hv]
  exact congrArg (fun q => _ * Ideal.div 1 q - _) (PoolBwd.count_at R 4 hR (by norm_num))
theorem pay23_at : k0_pay23 (F := Ideal) v u a b (ix2 r l) = (a (ix2 r l) + b (ix2 r l)) * Ideal.div 1 (cnt 8 R) - u (ix2 r l) := by
  pointwise [k0_pay23]
  rw [hv]
  exact congrArg (fun q => _ * Ideal.div 1 q - _) (PoolBwd.count_at R 8 hR (by norm_num))
theorem pay1_at : k0_pay1 (F := Ideal) u (k0_pay30 v a b) (ix2 r l) = (a (ix2 r l) + b (ix2 r l)) * Ideal.div 1 (cnt 16 R) - u (ix2 r l) := by
  pointwise [k0_pay1, k0_pay30]
  rw [hv]
  exact congrArg (fun q => _ * Ideal.div 1 q - _) (PoolBwd.count_at R 16 hR (by norm_num))
end

/-! The windows. -/

/-- The sum of the `k` rows that end at `n`. -/
def back (H : ℕ → EReal) (k n : ℕ) : EReal := ∑ i ∈ Finset.range k, H (n - i)

theorem back_double (H : ℕ → EReal) (k n : ℕ) : back H k n + back H k (n - k) = back H (k + k) n := by
  unfold back
  rw [Finset.sum_range_add (fun i => H (n - i)) k k]
  refine congrArg (_ + ·) (Finset.sum_congr rfl fun i _ => congrArg H ?_)
  omega

theorem back_two (H : ℕ → EReal) (n : ℕ) : H n + H (n - 1) = back H 2 n := by
  unfold back
  rw [Finset.sum_range_succ, Finset.sum_range_succ, Finset.sum_range_zero, zero_add]
  rfl

/-- A read of `n` rows from row `o` on, of one lane each, of a sequence over the rows. -/
def Reads {n : ℕ} (w : (⟨2, ![n, 256]⟩ : Shape).Idx → EReal) (H : Fin 256 → ℕ → EReal) (o : ℕ) : Prop := ∀ (r : Fin n) (l : Fin 256), w (ix2 r l) = H l (o + r.val)

section
variable {sig' : RefSig} {κ : Kind} {sp : Space} (s : View sig' κ sp S544x256 .f32)

/-- A scratch buffer last stored from row `o` on reads, from a later row on, the stored rows. -/
theorem Reads.of_scratch {n n' o o' : ℕ} {w : (⟨2, ![n, 256]⟩ : Shape).Idx → EReal} {H : Fin 256 → ℕ → EReal} (hw : Reads w H o)
    (ho : o ≤ o') (hn : o' + n' ≤ o + n) (L : List (View.Piece (Elt Ideal) S544x256 .f32)) (inb) (inb') :
    Reads (n := n') (s.readCov (Val := Elt Ideal) (⟨Rect.unit (s := S544x256) ![o, 0] ![n, 256] inb, w⟩ :: L) (Rect.unit (s := S544x256) ![o', 0] ![n', 256] inb').toLoadRect) H o' := fun r l => by
  have hr := r.isLt
  have h544 : o + n ≤ 544 := by simpa using inb 0
  refine (readCov_at s inb' _ r l ⟨o' + r.val, by omega⟩ l rfl (Nat.zero_add _).symm).trans ?_
  refine (canon_in inb w L (⟨o' + r.val - o, by omega⟩ : Fin n) l _ _ (by show o' + r.val = o + (o' + r.val - o); omega) (Nat.zero_add _).symm).trans ?_
  refine (hw _ l).trans (congrArg (H l) ?_)
  show o + (o' + r.val - o) = o' + r.val
  omega
end

section
variable {H : Fin 256 → ℕ → EReal}

/-- Two reads of sums of `k` rows, the second `k` rows back, added. -/
theorem Reads.double {n o o' : ℕ} (k : ℕ) {a b : (⟨2, ![n, 256]⟩ : Shape).Idx → EReal} (ha : Reads a (fun l => back (H l) k) o) (hb : Reads b (fun l => back (H l) k) o')
    (ho : o' + k = o) (r : Fin n) (l : Fin 256) : a (ix2 r l) + b (ix2 r l) = back (H l) (k + k) (o + r.val) := by
  rw [ha r l, hb r l, ← back_double]
  refine congrArg (fun x => back (H l) k (o + r.val) + back (H l) k x) ?_
  omega

theorem Reads.pair {n o o' : ℕ} {a b : (⟨2, ![n, 256]⟩ : Shape).Idx → EReal} (ha : Reads a H o) (hb : Reads b H o')
    (ho : o' + 1 = o) (r : Fin n) (l : Fin 256) : a (ix2 r l) + b (ix2 r l) = back (H l) 2 (o + r.val) := by
  rw [ha r l, hb r l, ← back_two]
  refine congrArg (fun x => H l (o + r.val) + H l x) ?_
  omega

theorem reads16 {a b : Vec Ideal S536x256 .f32} (ha : Reads a H 8) (hb : Reads b H 7) : Reads (k0_pay16 a b) (fun l => back (H l) 2) 8 :=
  fun r l => (pay16_at l a b r).trans (ha.pair hb rfl r l)
theorem reads21 {a b : Vec Ideal S536x256 .f32} (ha : Reads a H 8) (hb : Reads b H 7) : Reads (k0_pay21 a b) (fun l => back (H l) 2) 8 :=
  fun r l => (pay21_at l a b r).trans (ha.pair hb rfl r l)
theorem reads27 {a b : Vec Ideal S536x256 .f32} (ha : Reads a H 8) (hb : Reads b H 7) : Reads (k0_pay27 a b) (fun l => back (H l) 2) 8 :=
  fun r l => (pay27_at l a b r).trans (ha.pair hb rfl r l)
theorem reads22 {a b : Vec Ideal S528x256 .f32} (ha : Reads a (fun l => back (H l) 2) 16) (hb : Reads b (fun l => back (H l) 2) 14) : Reads (k0_pay22 a b) (fun l => back (H l) 4) 16 :=
  fun r l => (pay22_at l a b r).trans (ha.double 2 hb rfl r l)
theorem reads28 {a b : Vec Ideal S528x256 .f32} (ha : Reads a (fun l => back (H l) 2) 16) (hb : Reads b (fun l => back (H l) 2) 14) : Reads (k0_pay28 a b) (fun l => back (H l) 4) 16 :=
  fun r l => (pay28_at l a b r).trans (ha.double 2 hb rfl r l)
theorem reads29 {a b : Vec Ideal S520x256 .f32} (ha : Reads a (fun l => back (H l) 4) 24) (hb : Reads b (fun l => back (H l) 4) 20) : Reads (k0_pay29 a b) (fun l => back (H l) 8) 24 :=
  fun r l => (pay29_at l a b r).trans (ha.double 4 hb rfl r l)
end

end Cert.PoolFwd

end
-- ==== Proof.PoolFwdTile.lean ====
/- The arrays the pooling layer's forward kernel reads, its blocks at a point, and its running buffer: each point stores its tile's 512 projected
   rows below the last 32 rows of the tile before it, which the point before moved there. Read at an index it is one sequence over all the rows. -/
module

public import proofs.«01_k».proof.Proof.PoolFwdBlock
public import proofs.«01_k».proof.Proof.Gen.PoolFwdIdeal.Value

@[expose] public section

set_option maxRecDepth 16384

noncomputable section

namespace Cert.PoolFwd

open Idealize.ShloMosaic Idealize.ShloMosaic.TcCoe Idealize.SL.Sem Cert.Grad
open Idealize.ShloMosaic.Pipeline (Dat)
open Cert.PoolFwdIdeal Cert.PoolFwdIdeal.Gen
open Cert.PoolBwd (row)

variable (m : (ℓ : Loc nD τ sig) → Buf (Elt Ideal) ℓ) (c : Dev nD)

/-- The layer's input, -/
def aX (i : Fin 8192) (k : Fin 1024) : EReal := (m ((c : Thread nD τ).loc main_arg0) : S8192x1024.Idx → EReal) (ix2 i k)
/-- the norm's gains, -/
def aG (k : Fin 1024) : EReal := (m ((c : Thread nD τ).loc main_arg1) : S1x1024.Idx → EReal) (ix2 0 k)
/-- the first projection's weight, -/
def aWi (i k : Fin 1024) : EReal := (m ((c : Thread nD τ).loc main_arg2) : S1024x1024.Idx → EReal) (ix2 i k)
/-- the grouped weight, -/
def aWg (q : Fin 4) (i k : Fin 256) : EReal := (m ((c : Thread nD τ).loc main_arg3) : S4x256x256.Idx → EReal) (ix3 q i k)
/-- the scale -/
def aS (k : Fin 1024) : EReal := (m ((c : Thread nD τ).loc main_arg4) : S1x1024.Idx → EReal) (ix2 0 k)
/-- and the last projection's weight. -/
def aWo (i k : Fin 1024) : EReal := (m ((c : Thread nD τ).loc main_arg5) : S1024x1024.Idx → EReal) (ix2 i k)

/-- The tile of a point. -/
def tile (t : Fin cfg0.N) : Fin 16 := ⟨t.val, t.isLt⟩

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0]
    ∧ win0_10.index t = ![t.val, 0] ∧ (grid0.coords t 0).val = t.val :=
  (by decide +kernel : ∀ t : Fin grid0.N, _)

section
variable (t : Fin cfg0.N)

theorem blk0 (r : Fin 512) (k : Fin 1024) : (iblk m c 0 t : Vec Ideal S512x1024 .f32) (ix2 r k) = aX m c (row (tile t) r) k := by
  unfold aX row tile; blk_point [iblk, V, idx t]
theorem blk1 (k : Fin 1024) : (iblk m c 1 t : Vec Ideal S1x1024 .f32) (ix2 0 k) = aG m c k := by
  unfold aG; blk_point [iblk, V, idx t]
theorem blk2 (r k : Fin 1024) : (iblk m c 2 t : Vec Ideal S1024x1024 .bf16) (ix2 r k) = aWi m c r k := by
  unfold aWi; blk_point [iblk, V, idx t]
theorem blk3 (q : Fin 4) (r k : Fin 256) : (iblk m c 3 t : Vec Ideal S4x256x256 .bf16) (ix3 q r k) = aWg m c q r k := by
  unfold aWg; blk_point [iblk, V, idx t]
theorem blk4 (k : Fin 1024) : (iblk m c 4 t : Vec Ideal S1x1024 .f32) (ix2 0 k) = aS m c k := by
  unfold aS; blk_point [iblk, V, idx t]
theorem blk5 (r k : Fin 1024) : (iblk m c 5 t : Vec Ideal S1024x1024 .bf16) (ix2 r k) = aWo m c r k := by
  unfold aWo; blk_point [iblk, V, idx t]
end

/-- The projected rows. -/
def gU (R : Fin 8192) (j : Fin 1024) : EReal := uu (aX m c) (aG m c) (aWi m c) R j

/-- The rows of the buffer at point `t`: the tile's from row 32 on, those before it above. -/
def H (t : Fin cfg0.N) (j : Fin 1024) (n : ℕ) : EReal := if 512 * t.val + n < 32 then 0 else ext (fun R => gU m c R j) (512 * t.val + n - 32)

theorem H_tile (t : Fin cfg0.N) (j : Fin 1024) (r : Fin 512) : H m c t j (32 + r.val) = gU m c (row (tile t) r) j := by
  unfold H
  rw [if_neg (by omega)]
  have e : 512 * t.val + (32 + r.val) - 32 = (row (tile t) r).val := by show _ = 512 * t.val + r.val; omega
  rw [e]
  exact ext_of_lt _ (row (tile t) r).isLt

theorem H_first (t : Fin cfg0.N) (h : t.val % 16 = 0) (j : Fin 1024) (k : Fin 32) : H m c t j k.val = 0 := by
  have ht : t.val < 16 := t.isLt
  exact if_pos (by omega)

/-- The last rows of a tile are those above the next. -/
theorem H_next (t t' : Fin cfg0.N) (h : t'.val + 1 = t.val) (j : Fin 1024) (k : ℕ) : H m c t' j (512 + k) = H m c t j k := by
  unfold H
  have e : 512 * t'.val + (512 + k) = 512 * t.val + k := by omega
  rw [e]

section
variable (t : Fin cfg0.N)

theorem h_at (r : Fin 512) (j : Fin 1024) : k0_pay8 (F := Ideal) (iblk m c 0 t) (iblk m c 1 t) (ix2 r j) = hh (aX m c) (aG m c) (row (tile t) r) j := by
  rw [pay8_at]
  unfold hh rinv
  simp only [blk0, blk1]

theorem u_at (r : Fin 512) (j : Fin 1024) : k0_pay9 (F := Ideal) (iblk m c 0 t) (iblk m c 1 t) (iblk m c 2 t) (ix2 r j) = H m c t j (32 + r.val) := by
  rw [pay9_at, H_tile]
  unfold gU uu hh rinv
  simp only [blk0, blk1, blk2]

theorem word_at (r : Fin 512) : k0_pay10 (grid0.coords t) (ix2 r 0) = BitVec.ofNat 32 (row (tile t) r).val :=
  pay10_at _ (tile t) (idx t).2.2.2.2.2.2.2.2.2.2.2 r

/-- A group's weight, -/
theorem weight_at (q : Fin 4) (o : ℕ) (ho : o = q.val) (i1) (k l : Fin 256) :
    View.ld (Val := Elt Ideal) (e' := .bf16) (iblk m c 3 t) (Rect.unit (s := S4x256x256) ![o, 0, 0] ![1, 256, 256] i1) (ix3 0 k l) = aWg m c q k l := by
  refine Eq.trans ?_ (blk3 m c t q k l)
  refine View.ld_unit_apply_of _ _ _ _ _ (ix3 q k l) fun a => ?_
  match a with
  | 0 => exact ho.symm
  | 1 => exact (Nat.zero_add _).symm
  | 2 => exact (Nat.zero_add _).symm

/-- and its scale. -/
theorem scale_at (q : Fin 4) (o : ℕ) (ho : o = 256 * q.val) (i1) (l : Fin 256) :
    View.ld (Val := Elt Ideal) (e' := .f32) (iblk m c 4 t) (Rect.unit (s := S1x1024) ![0, o] ![1, 256] i1) (ix2 0 l) = aS m c (lane q l) :=
  (ld_at i1 _ 0 l 0 (lane q l) rfl (by rw [ho]; rfl)).trans (blk4 m c t _)

/-! Reads of the running buffer. -/

/-- The tile's projected rows as they are stored. -/
abbrev uPiece : View.Piece (Elt Ideal) S544x1024 .f32 :=
  ⟨Rect.unit (s := S544x1024) ![32, 0] ![512, 1024] inb_S544x1024_S512x1024_32_0, k0_pay9 (F := Ideal) (iblk m c 0 t) (iblk m c 1 t) (iblk m c 2 t)⟩

section
variable {sig' : RefSig} {κ : Kind} {sp : Space} (v : View sig' κ sp S544x1024 .f32)

/-- The tile's own rows. -/
theorem own_reads (q : Fin 4) (o : ℕ) (ho : o = 256 * q.val) (L) (i2) :
    Reads (n := 512) (v.readCov (Val := Elt Ideal) (uPiece m c t :: L) (Rect.unit (s := S544x1024) ![32, o] ![512, 256] i2).toLoadRect) (fun l => H m c t (lane q l)) 32 := fun r l =>
  (readCov_at v i2 _ r l ⟨32 + r.val, by omega⟩ (lane q l) rfl (by rw [ho]; rfl)).trans
    ((canon_in _ _ L r (lane q l) _ _ rfl (Nat.zero_add _).symm).trans (u_at m c t r _))

/-- The buffer of the first point: the rows above its tile are zero. -/
theorem canon_first (h : t.val % 16 = 0) (i2) (R : Fin 544) (j : Fin 1024) :
    View.canon [uPiece m c t, ⟨Rect.unit (s := S544x1024) ![0, 0] ![32, 1024] i2, k0_pay7 (F := Ideal)⟩] (ix2 R j) = H m c t j R.val := by
  have hR := R.isLt
  by_cases h32 : 32 ≤ R.val
  · refine (canon_in _ _ _ (⟨R.val - 32, by omega⟩ : Fin 512) j R j (by show R.val = 32 + (R.val - 32); omega) (Nat.zero_add _).symm).trans ((u_at m c t _ j).trans ?_)
    refine congrArg (H m c t j) ?_
    show 32 + (R.val - 32) = R.val
    omega
  · refine (canon_out _ _ _ R j (by omega)).trans ?_
    refine (canon_in i2 _ _ (⟨R.val, by omega⟩ : Fin 32) j R j (Nat.zero_add _).symm (Nat.zero_add _).symm).trans ?_
    exact (pay7_at j _).trans (H_first m c t h j ⟨R.val, by omega⟩).symm

theorem reads_first (h : t.val % 16 = 0) {n : ℕ} (q : Fin 4) (p o : ℕ) (ho : o = 256 * q.val) (i2 i3) :
    Reads (n := n) (v.readCov (Val := Elt Ideal) [uPiece m c t, ⟨Rect.unit (s := S544x1024) ![0, 0] ![32, 1024] i2, k0_pay7 (F := Ideal)⟩]
      (Rect.unit (s := S544x1024) ![p, o] ![n, 256] i3).toLoadRect) (fun l => H m c t (lane q l)) p := fun r l => by
  have hr := r.isLt
  have h544 : p + n ≤ 544 := by simpa using i3 0
  exact (readCov_at v i3 _ r l ⟨p + r.val, by omega⟩ (lane q l) rfl (by rw [ho]; rfl)).trans (canon_first m c t h i2 _ _)

/-- The buffer of a later point, over what the point before left. -/
theorem read_later (X : S544x1024.Idx → EReal) (f : v.ty.Contents (Elt Ideal)) (hf : v.read (Elt Ideal) f = X)
    (hX : ∀ (k : Fin 32) (j : Fin 1024), X (ix2 ⟨k.val, by omega⟩ j) = H m c t j k.val) (R : Fin 544) (j : Fin 1024) :
    v.read (Elt Ideal) (v.writes (Elt Ideal) f [uPiece m c t]) (ix2 R j) = H m c t j R.val := by
  have hR := R.isLt
  by_cases h32 : 32 ≤ R.val
  · refine (read_in v f _ _ _ (⟨R.val - 32, by omega⟩ : Fin 512) j R j (by show R.val = 32 + (R.val - 32); omega) (Nat.zero_add _).symm).trans ((u_at m c t _ j).trans ?_)
    refine congrArg (H m c t j) ?_
    show 32 + (R.val - 32) = R.val
    omega
  · refine (read_out v f _ _ _ R j (by omega)).trans ?_
    exact (congrFun hf _).trans (hX ⟨R.val, by omega⟩ j)

theorem reads_later {n : ℕ} (X : S544x1024.Idx → EReal) (f : v.ty.Contents (Elt Ideal)) (hf : v.read (Elt Ideal) f = X)
    (hX : ∀ (k : Fin 32) (j : Fin 1024), X (ix2 ⟨k.val, by omega⟩ j) = H m c t j k.val) (q : Fin 4) (p o : ℕ) (ho : o = 256 * q.val) (i3) :
    Reads (n := n) (View.ld (Val := Elt Ideal) (e' := .f32) (v.read (Elt Ideal) (v.writes (Elt Ideal) f [uPiece m c t]))
      (Rect.unit (s := S544x1024) ![p, o] ![n, 256] i3)) (fun l => H m c t (lane q l)) p := fun r l => by
  have hr := r.isLt
  have h544 : p + n ≤ 544 := by simpa using i3 0
  exact (ld_at i3 _ r l ⟨p + r.val, by omega⟩ (lane q l) rfl (by rw [ho]; rfl)).trans (read_later m c t v X f hf hX _ _)
end

/-- What a point leaves above the next tile: its own tile's last rows. -/
theorem carried (k : Fin 32) (j : Fin 1024) :
    (outsAt0 m c t.val t.isLt).2.2.2.2.2 (ix2 ⟨k.val, by omega⟩ j) = H m c t j (512 + k.val) := by
  by_cases h : t.val % 16 = 0
  · rw [outsAt0_A m c t h]
    frame_out
    refine (canon_in _ _ _ k j (⟨k.val, by omega⟩ : Fin 544) j (Nat.zero_add _).symm (Nat.zero_add _).symm).trans ((pay5_at _ _ _).trans ?_)
    refine (readCov_at _ _ _ k j ⟨512 + k.val, by omega⟩ j rfl (Nat.zero_add _).symm).trans ?_
    exact canon_first m c t h _ _ _
  · rw [outsAt0_B m c t h]
    frame_out
    refine (canon_in _ _ _ k j (⟨k.val, by omega⟩ : Fin 544) j (Nat.zero_add _).symm (Nat.zero_add _).symm).trans ((pay5_at _ _ _).trans ?_)
    refine (readCov_at _ _ _ k j ⟨512 + k.val, by omega⟩ j rfl (Nat.zero_add _).symm).trans ?_
    refine (canon_in _ _ _ (⟨480 + k.val, by omega⟩ : Fin 512) j _ _ (by show 512 + k.val = 32 + (480 + k.val); omega) (Nat.zero_add _).symm).trans ((u_at m c t _ j).trans ?_)
    refine congrArg (H m c t j) ?_
    show 32 + (480 + k.val) = 512 + k.val
    omega

/-- What the point before left is what this one needs. -/
theorem left (h : ¬ t.val % 16 = 0) (ht : t.val - 1 < cfg0.N) (k : Fin 32) (j : Fin 1024) :
    (outsAt0 m c (t.val - 1) ht).2.2.2.2.2 (ix2 ⟨k.val, by omega⟩ j) = H m c t j k.val :=
  (carried m c ⟨t.val - 1, ht⟩ k j).trans (H_next m c t ⟨t.val - 1, ht⟩ (by show t.val - 1 + 1 = t.val; omega) j k.val)

/-- A later point's reads of the buffer. -/
theorem reads_next (h : ¬ t.val % 16 = 0) {n : ℕ} (q : Fin 4) (p o : ℕ) (ho : o = 256 * q.val) (hw : (Memref.whole cc0_scratch0).IsWhole) (ht : t.val - 1 < cfg0.N) (i3) :
    Reads (n := n) (View.ld (Val := Elt Ideal) (e' := .f32) (View.read (Elt Ideal) (View.whole cc0_scratch0) ((View.whole cc0_scratch0).writes (Elt Ideal)
        (hw.unread (outsAt0 m c (t.val - 1) ht).2.2.2.2.2) [uPiece m c t]))
      (Rect.unit (s := S544x1024) ![p, o] ![n, 256] i3)) (fun l => H m c t (lane q l)) p :=
  reads_later m c t (View.whole cc0_scratch0) _ _ (Memref.IsWhole.read_unread hw _) (left m c t h ht) q p o ho i3

end

end Cert.PoolFwd

end
-- ==== Proof.PoolFwdValue.lean ====
/- What the pooling layer's forward kernel leaves in its five results, read at an index, and as whole arrays. -/
module

public import proofs.«01_k».proof.Proof.PoolFwdTile

@[expose] public section

set_option maxRecDepth 16384

noncomputable section

namespace Cert.PoolFwd

open Idealize.ShloMosaic Idealize.ShloMosaic.TcCoe Idealize.SL.Sem Cert.Grad
open Idealize.ShloMosaic.Pipeline (Dat)
open Cert.PoolFwdIdeal Cert.PoolFwdIdeal.Gen
open Cert.PoolBwd (row)

variable (m : (ℓ : Loc nD τ sig) → Buf (Elt Ideal) ℓ) (c : Dev nD)

/-- The pooled groups, -/
def gP (R : Fin 8192) (q : Fin 4) (l : Fin 256) : EReal := pp (aX m c) (aG m c) (aWi m c) R q l
/-- the grouped product -/
def gZr (R : Fin 8192) (q : Fin 4) (l : Fin 256) : EReal := zzr (aX m c) (aG m c) (aWi m c) (aWg m c) R q l
/-- and it scaled. -/
def gZ (R : Fin 8192) (q : Fin 4) (l : Fin 256) : EReal := zz (aX m c) (aG m c) (aS m c) (aWi m c) (aWg m c) R q l

/-- The layer's output. -/
def gXo (R : Fin 8192) (j : Fin 1024) : EReal := xxo (aX m c) (aG m c) (aS m c) (aWi m c) (aWo m c) (aWg m c) R j

section
variable (t : Fin cfg0.N)

/-- The rows of the buffer that end at a token's are the token's window. -/
theorem back_at (w : ℕ) (hw : w ≤ 32) (j : Fin 1024) (r : Fin 512) :
    back (H m c t j) w (32 + r.val) = ∑ i ∈ Finset.range w, prev (ext fun R' => uu (aX m c) (aG m c) (aWi m c) R' j) (row (tile t) r).val i := by
  unfold back
  refine Finset.sum_congr rfl fun i hi => ?_
  have hi' := Finset.mem_range.mp hi
  have e : (row (tile t) r).val = 512 * t.val + r.val := rfl
  unfold H prev
  rw [e]
  by_cases hc : i ≤ 512 * t.val + r.val
  · rw [if_neg (by omega), if_pos hc]
    have e' : 512 * t.val + (32 + r.val - i) - 32 = 512 * t.val + r.val - i := by omega
    rw [e']
    rfl
  · rw [if_pos (by omega), if_neg hc]

theorem mean_at (q : Fin 4) (w : ℕ) (hw : w = width q) (hq : w ≤ 32) (l : Fin 256) (r : Fin 512) :
    back (H m c t (lane q l)) w (32 + r.val) * Ideal.div 1 (cnt w (row (tile t) r).val) - H m c t (lane q l) (32 + r.val) = gP m c (row (tile t) r) q l := by
  rw [back_at m c t w hq, H_tile, hw]
  rfl

section
variable {u a b : Vec Ideal S512x256 .f32} (W : Vec Ideal S1x256x256 .bf16) (S : Vec Ideal S1x256 .f32)

/-- Group `q`'s rows of the tile. -/
abbrev Own (q : Fin 4) (u : Vec Ideal S512x256 .f32) : Prop := Reads (n := 512) u (fun l => H m c t (lane q l)) 32
/-- Sums of `k` of them that end at row `o` and those after it. -/
abbrev Sums (q : Fin 4) (k o : ℕ) {n : ℕ} (a : (⟨2, ![n, 256]⟩ : Shape).Idx → EReal) : Prop := Reads a (fun l => back (H m c t (lane q l)) k) o
/-- The group's weight, and its scale. -/
abbrev Wt (q : Fin 4) (W : Vec Ideal S1x256x256 .bf16) : Prop := ∀ k l, W (ix3 0 k l) = aWg m c q k l
abbrev Sc (q : Fin 4) (S : Vec Ideal S1x256 .f32) : Prop := ∀ l, S (ix2 0 l) = aS m c (lane q l)
/-- A tile's group of one of the results. -/
abbrev Is (G : Fin 8192 → Fin 4 → Fin 256 → EReal) (q : Fin 4) (w : Vec Ideal S512x256 .bf16) : Prop := ∀ r l, w (ix2 r l) = G (row (tile t) r) q l

variable {W S}

theorem p0 (hu : Own m c t 0 u) (ha : Own m c t 0 a) (hb : Reads (n := 512) b (fun l => H m c t (lane 0 l)) 31) : Is t (gP m c) 0 (k0_pay12 (k0_pay10 (grid0.coords t)) u (k0_pay11 a b)) := fun r l => by
  refine (pay12_at _ u (k0_pay11 a b) r l (row (tile t) r).val (row (tile t) r).isLt (word_at t r)).trans ?_
  refine Eq.trans ?_ (mean_at m c t 0 2 rfl (by norm_num) l r)
  exact congrArg₂ (fun x y => x * Ideal.div 1 (cnt 2 (row (tile t) r).val) - y) ((pay11_at a b r l).trans (ha.pair hb rfl r l)) (hu r l)
theorem zr0 (hu : Own m c t 0 u) (ha : Own m c t 0 a) (hb : Reads (n := 512) b (fun l => H m c t (lane 0 l)) 31) (hW : Wt m c 0 W) : Is t (gZr m c) 0 (k0_pay14 (k0_pay10 (grid0.coords t)) u (k0_pay11 a b) W) := fun r l =>
  (pay14_at _ u (k0_pay11 a b) W r l).trans (Finset.sum_congr rfl fun k _ => congrArg₂ (· * ·) (p0 m c t hu ha hb r k) (hW k l))
theorem z0 (hu : Own m c t 0 u) (ha : Own m c t 0 a) (hb : Reads (n := 512) b (fun l => H m c t (lane 0 l)) 31) (hW : Wt m c 0 W) (hS : Sc m c 0 S) : Is t (gZ m c) 0 (k0_pay15 (k0_pay10 (grid0.coords t)) u (k0_pay11 a b) W S) := fun r l =>
  (pay15_at _ u (k0_pay11 a b) W S r l).trans (congrArg₂ (· * ·) (Finset.sum_congr rfl fun k _ => congrArg₂ (· * ·) (p0 m c t hu ha hb r k) (hW k l)) (hS l))

theorem p1 (hu : Own m c t 1 u) (ha : Sums m c t 1 2 32 a) (hb : Sums m c t 1 2 30 b) : Is t (gP m c) 1 (k0_pay17 (k0_pay10 (grid0.coords t)) u a b) := fun r l => by
  refine (pay17_at _ u a b r l (row (tile t) r).val (row (tile t) r).isLt (word_at t r)).trans ?_
  refine Eq.trans ?_ (mean_at m c t 1 4 rfl (by norm_num) l r)
  exact congrArg₂ (fun x y => x * Ideal.div 1 (cnt 4 (row (tile t) r).val) - y) (ha.double 2 hb rfl r l) (hu r l)
theorem zr1 (hu : Own m c t 1 u) (ha : Sums m c t 1 2 32 a) (hb : Sums m c t 1 2 30 b) (hW : Wt m c 1 W) : Is t (gZr m c) 1 (k0_pay19 (k0_pay10 (grid0.coords t)) u a b W) := fun r l =>
  (pay19_at _ u a b W r l).trans (Finset.sum_congr rfl fun k _ => congrArg₂ (· * ·) (p1 m c t hu ha hb r k) (hW k l))
theorem z1 (hu : Own m c t 1 u) (ha : Sums m c t 1 2 32 a) (hb : Sums m c t 1 2 30 b) (hW : Wt m c 1 W) (hS : Sc m c 1 S) : Is t (gZ m c) 1 (k0_pay20 (k0_pay10 (grid0.coords t)) u a b W S) := fun r l =>
  (pay20_at _ u a b W S r l).trans (congrArg₂ (· * ·) (Finset.sum_congr rfl fun k _ => congrArg₂ (· * ·) (p1 m c t hu ha hb r k) (hW k l)) (hS l))

theorem p2 (hu : Own m c t 2 u) (ha : Sums m c t 2 4 32 a) (hb : Sums m c t 2 4 28 b) : Is t (gP m c) 2 (k0_pay23 (k0_pay10 (grid0.coords t)) u a b) := fun r l => by
  refine (pay23_at _ u a b r l (row (tile t) r).val (row (tile t) r).isLt (word_at t r)).trans ?_
  refine Eq.trans ?_ (mean_at m c t 2 8 rfl (by norm_num) l r)
  exact congrArg₂ (fun x y => x * Ideal.div 1 (cnt 8 (row (tile t) r).val) - y) (ha.double 4 hb rfl r l) (hu r l)
theorem zr2 (hu : Own m c t 2 u) (ha : Sums m c t 2 4 32 a) (hb : Sums m c t 2 4 28 b) (hW : Wt m c 2 W) : Is t (gZr m c) 2 (k0_pay25 (k0_pay10 (grid0.coords t)) u a b W) := fun r l =>
  (pay25_at _ u a b W r l).trans (Finset.sum_congr rfl fun k _ => congrArg₂ (· * ·) (p2 m c t hu ha hb r k) (hW k l))
theorem z2 (hu : Own m c t 2 u) (ha : Sums m c t 2 4 32 a) (hb : Sums m c t 2 4 28 b) (hW : Wt m c 2 W) (hS : Sc m c 2 S) : Is t (gZ m c) 2 (k0_pay26 (k0_pay10 (grid0.coords t)) u a b W S) := fun r l =>
  (pay26_at _ u a b W S r l).trans (congrArg₂ (· * ·) (Finset.sum_congr rfl fun k _ => congrArg₂ (· * ·) (p2 m c t hu ha hb r k) (hW k l)) (hS l))

theorem p3 (hu : Own m c t 3 u) (ha : Sums m c t 3 8 32 a) (hb : Sums m c t 3 8 24 b) : Is t (gP m c) 3 (k0_pay1 u (k0_pay30 (k0_pay10 (grid0.coords t)) a b)) := fun r l => by
  refine (pay1_at _ u a b r l (row (tile t) r).val (row (tile t) r).isLt (word_at t r)).trans ?_
  refine Eq.trans ?_ (mean_at m c t 3 16 rfl (by norm_num) l r)
  exact congrArg₂ (fun x y => x * Ideal.div 1 (cnt 16 (row (tile t) r).val) - y) (ha.double 8 hb rfl r l) (hu r l)
theorem zr3 (hu : Own m c t 3 u) (ha : Sums m c t 3 8 32 a) (hb : Sums m c t 3 8 24 b) (hW : Wt m c 3 W) : Is t (gZr m c) 3 (k0_pay3 u (k0_pay30 (k0_pay10 (grid0.coords t)) a b) W) := fun r l =>
  (pay3_at u (k0_pay30 (k0_pay10 (grid0.coords t)) a b) W r l).trans (Finset.sum_congr rfl fun k _ => congrArg₂ (· * ·) (p3 m c t hu ha hb r k) (hW k l))
theorem z3 (hu : Own m c t 3 u) (ha : Sums m c t 3 8 32 a) (hb : Sums m c t 3 8 24 b) (hW : Wt m c 3 W) (hS : Sc m c 3 S) : Is t (gZ m c) 3 (k0_pay4 u (k0_pay30 (k0_pay10 (grid0.coords t)) a b) W S) := fun r l =>
  (pay4_at u (k0_pay30 (k0_pay10 (grid0.coords t)) a b) W S r l).trans (congrArg₂ (· * ·) (Finset.sum_congr rfl fun k _ => congrArg₂ (· * ·) (p3 m c t hu ha hb r k) (hW k l)) (hS l))
end

/-- A result's tile after its four groups are stored. -/
theorem groups_at (G : Fin 8192 → Fin 4 → Fin 256 → EReal) {w0 w1 w2 w3 : Vec Ideal S512x256 .bf16} (h0 : Is t G 0 w0) (h1 : Is t G 1 w1) (h2 : Is t G 2 w2) (h3 : Is t G 3 w3)
    (i0 i1 i2 i3) (r : Fin 512) (q : Fin 4) (l : Fin 256) :
    View.canon (Val := Elt Ideal) (s := S512x1024) (e := .bf16) [⟨Rect.unit (s := S512x1024) ![0, 768] ![512, 256] i3, w3⟩, ⟨Rect.unit (s := S512x1024) ![0, 512] ![512, 256] i2, w2⟩,
      ⟨Rect.unit (s := S512x1024) ![0, 256] ![512, 256] i1, w1⟩, ⟨Rect.unit (s := S512x1024) ![0, 0] ![512, 256] i0, w0⟩] (ix2 r (lane q l)) = G (row (tile t) r) q l := by
  have hl := l.isLt
  match q with
  | 0 =>
    refine (canon_out i3 _ _ r (lane 0 l) (by show _ ∨ _ ∨ 256 * 0 + l.val < _ ∨ _; omega)).trans ?_
    refine (canon_out i2 _ _ r (lane 0 l) (by show _ ∨ _ ∨ 256 * 0 + l.val < _ ∨ _; omega)).trans ?_
    refine (canon_out i1 _ _ r (lane 0 l) (by show _ ∨ _ ∨ 256 * 0 + l.val < _ ∨ _; omega)).trans ?_
    exact (canon_in i0 _ _ r l r (lane 0 l) (Nat.zero_add _).symm rfl).trans (h0 r l)
  | 1 =>
    refine (canon_out i3 _ _ r (lane 1 l) (by show _ ∨ _ ∨ 256 * 1 + l.val < _ ∨ _; omega)).trans ?_
    refine (canon_out i2 _ _ r (lane 1 l) (by show _ ∨ _ ∨ 256 * 1 + l.val < _ ∨ _; omega)).trans ?_
    exact (canon_in i1 _ _ r l r (lane 1 l) (Nat.zero_add _).symm rfl).trans (h1 r l)
  | 2 =>
    refine (canon_out i3 _ _ r (lane 2 l) (by show _ ∨ _ ∨ 256 * 2 + l.val < _ ∨ _; omega)).trans ?_
    exact (canon_in i2 _ _ r l r (lane 2 l) (Nat.zero_add _).symm rfl).trans (h2 r l)
  | 3 => exact (canon_in i3 _ _ r l r (lane 3 l) (Nat.zero_add _).symm rfl).trans (h3 r l)

theorem out_p_A (h : t.val % 16 = 0) (r : Fin 512) (q : Fin 4) (l : Fin 256) : (outsAt0 m c t.val t.isLt).2.1 (ix2 r (lane q l)) = gP m c (row (tile t) r) q l := by
  rw [outsAt0_A m c t h]
  frame_out
  refine groups_at t (gP m c) ?_ ?_ ?_ ?_ _ _ _ _ r q l
  · refine p0 m c t ?_ ?_ ?_
    · exact own_reads m c t _ 0 0 rfl _ _
    · exact own_reads m c t _ 0 0 rfl _ _
    · exact reads_first m c t _ h 0 31 0 rfl _ _
  · refine p1 m c t ?_ ?_ ?_
    · exact own_reads m c t _ 1 256 rfl _ _
    · refine Reads.of_scratch _ ?_ (by decide) (by decide) _ _ _
      refine reads16 ?_ ?_
      · exact reads_first m c t _ h 1 8 256 rfl _ _
      · exact reads_first m c t _ h 1 7 256 rfl _ _
    · refine Reads.of_scratch _ ?_ (by decide) (by decide) _ _ _
      refine reads16 ?_ ?_
      · exact reads_first m c t _ h 1 8 256 rfl _ _
      · exact reads_first m c t _ h 1 7 256 rfl _ _
  · refine p2 m c t ?_ ?_ ?_
    · exact own_reads m c t _ 2 512 rfl _ _
    · refine Reads.of_scratch _ ?_ (by decide) (by decide) _ _ _
      refine reads22 ?_ ?_
      · refine Reads.of_scratch _ ?_ (by decide) (by decide) _ _ _
        refine reads21 ?_ ?_
        · exact reads_first m c t _ h 2 8 512 rfl _ _
        · exact reads_first m c t _ h 2 7 512 rfl _ _
      · refine Reads.of_scratch _ ?_ (by decide) (by decide) _ _ _
        refine reads21 ?_ ?_
        · exact reads_first m c t _ h 2 8 512 rfl _ _
        · exact reads_first m c t _ h 2 7 512 rfl _ _
    · refine Reads.of_scratch _ ?_ (by decide) (by decide) _ _ _
      refine reads22 ?_ ?_
      · refine Reads.of_scratch _ ?_ (by decide) (by decide) _ _ _
        refine reads21 ?_ ?_
        · exact reads_first m c t _ h 2 8 512 rfl _ _
        · exact reads_first m c t _ h 2 7 512 rfl _ _
      · refine Reads.of_scratch _ ?_ (by decide) (by decide) _ _ _
        refine reads21 ?_ ?_
        · exact reads_first m c t _ h 2 8 512 rfl _ _
        · exact reads_first m c t _ h 2 7 512 rfl _ _
  · refine p3 m c t ?_ ?_ ?_
    · exact own_reads m c t _ 3 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _

theorem out_p_B (h : ¬ t.val % 16 = 0) (r : Fin 512) (q : Fin 4) (l : Fin 256) : (outsAt0 m c t.val t.isLt).2.1 (ix2 r (lane q l)) = gP m c (row (tile t) r) q l := by
  rw [outsAt0_B m c t h]
  frame_out
  refine groups_at t (gP m c) ?_ ?_ ?_ ?_ _ _ _ _ r q l
  · refine p0 m c t ?_ ?_ ?_
    · exact own_reads m c t _ 0 0 rfl _ _
    · exact own_reads m c t _ 0 0 rfl _ _
    · exact reads_next m c t h 0 31 0 rfl _ _ _
  · refine p1 m c t ?_ ?_ ?_
    · exact own_reads m c t _ 1 256 rfl _ _
    · refine Reads.of_scratch _ ?_ (by decide) (by decide) _ _ _
      refine reads16 ?_ ?_
      · exact reads_next m c t h 1 8 256 rfl _ _ _
      · exact reads_next m c t h 1 7 256 rfl _ _ _
    · refine Reads.of_scratch _ ?_ (by decide) (by decide) _ _ _
      refine reads16 ?_ ?_
      · exact reads_next m c t h 1 8 256 rfl _ _ _
      · exact reads_next m c t h 1 7 256 rfl _ _ _
  · refine p2 m c t ?_ ?_ ?_
    · exact own_reads m c t _ 2 512 rfl _ _
    · refine Reads.of_scratch _ ?_ (by decide) (by decide) _ _ _
      refine reads22 ?_ ?_
      · refine Reads.of_scratch _ ?_ (by decide) (by decide) _ _ _
        refine reads21 ?_ ?_
        · exact reads_next m c t h 2 8 512 rfl _ _ _
        · exact reads_next m c t h 2 7 512 rfl _ _ _
      · refine Reads.of_scratch _ ?_ (by decide) (by decide) _ _ _
        refine reads21 ?_ ?_
        · exact reads_next m c t h 2 8 512 rfl _ _ _
        · exact reads_next m c t h 2 7 512 rfl _ _ _
    · refine Reads.of_scratch _ ?_ (by decide) (by decide) _ _ _
      refine reads22 ?_ ?_
      · refine Reads.of_scratch _ ?_ (by decide) (by decide) _ _ _
        refine reads21 ?_ ?_
        · exact reads_next m c t h 2 8 512 rfl _ _ _
        · exact reads_next m c t h 2 7 512 rfl _ _ _
      · refine Reads.of_scratch _ ?_ (by decide) (by decide) _ _ _
        refine reads21 ?_ ?_
        · exact reads_next m c t h 2 8 512 rfl _ _ _
        · exact reads_next m c t h 2 7 512 rfl _ _ _
  · refine p3 m c t ?_ ?_ ?_
    · exact own_reads m c t _ 3 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _

theorem out_p (r : Fin 512) (q : Fin 4) (l : Fin 256) : (outsAt0 m c t.val t.isLt).2.1 (ix2 r (lane q l)) = gP m c (row (tile t) r) q l :=
  if h : t.val % 16 = 0 then out_p_A m c t h r q l else out_p_B m c t h r q l

theorem out_zr_A (h : t.val % 16 = 0) (r : Fin 512) (q : Fin 4) (l : Fin 256) : (outsAt0 m c t.val t.isLt).2.2.1 (ix2 r (lane q l)) = gZr m c (row (tile t) r) q l := by
  rw [outsAt0_A m c t h]
  frame_out
  refine groups_at t (gZr m c) ?_ ?_ ?_ ?_ _ _ _ _ r q l
  · refine zr0 m c t ?_ ?_ ?_ (weight_at m c t 0 0 rfl _)
    · exact own_reads m c t _ 0 0 rfl _ _
    · exact own_reads m c t _ 0 0 rfl _ _
    · exact reads_first m c t _ h 0 31 0 rfl _ _
  · refine zr1 m c t ?_ ?_ ?_ (weight_at m c t 1 1 rfl _)
    · exact own_reads m c t _ 1 256 rfl _ _
    · refine Reads.of_scratch _ ?_ (by decide) (by decide) _ _ _
      refine reads16 ?_ ?_
      · exact reads_first m c t _ h 1 8 256 rfl _ _
      · exact reads_first m c t _ h 1 7 256 rfl _ _
    · refine Reads.of_scratch _ ?_ (by decide) (by decide) _ _ _
      refine reads16 ?_ ?_
      · exact reads_first m c t _ h 1 8 256 rfl _ _
      · exact reads_first m c t _ h 1 7 256 rfl _ _
  · refine zr2 m c t ?_ ?_ ?_ (weight_at m c t 2 2 rfl _)
    · exact own_reads m c t _ 2 512 rfl _ _
    · refine Reads.of_scratch _ ?_ (by decide) (by decide) _ _ _
      refine reads22 ?_ ?_
      · refine Reads.of_scratch _ ?_ (by decide) (by decide) _ _ _
        refine reads21 ?_ ?_
        · exact reads_first m c t _ h 2 8 512 rfl _ _
        · exact reads_first m c t _ h 2 7 512 rfl _ _
      · refine Reads.of_scratch _ ?_ (by decide) (by decide) _ _ _
        refine reads21 ?_ ?_
        · exact reads_first m c t _ h 2 8 512 rfl _ _
        · exact reads_first m c t _ h 2 7 512 rfl _ _
    · refine Reads.of_scratch _ ?_ (by decide) (by decide) _ _ _
      refine reads22 ?_ ?_
      · refine Reads.of_scratch _ ?_ (by decide) (by decide) _ _ _
        refine reads21 ?_ ?_
        · exact reads_first m c t _ h 2 8 512 rfl _ _
        · exact reads_first m c t _ h 2 7 512 rfl _ _
      · refine Reads.of_scratch _ ?_ (by decide) (by decide) _ _ _
        refine reads21 ?_ ?_
        · exact reads_first m c t _ h 2 8 512 rfl _ _
        · exact reads_first m c t _ h 2 7 512 rfl _ _
  · refine zr3 m c t ?_ ?_ ?_ (weight_at m c t 3 3 rfl _)
    · exact own_reads m c t _ 3 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _

theorem out_zr_B (h : ¬ t.val % 16 = 0) (r : Fin 512) (q : Fin 4) (l : Fin 256) : (outsAt0 m c t.val t.isLt).2.2.1 (ix2 r (lane q l)) = gZr m c (row (tile t) r) q l := by
  rw [outsAt0_B m c t h]
  frame_out
  refine groups_at t (gZr m c) ?_ ?_ ?_ ?_ _ _ _ _ r q l
  · refine zr0 m c t ?_ ?_ ?_ (weight_at m c t 0 0 rfl _)
    · exact own_reads m c t _ 0 0 rfl _ _
    · exact own_reads m c t _ 0 0 rfl _ _
    · exact reads_next m c t h 0 31 0 rfl _ _ _
  · refine zr1 m c t ?_ ?_ ?_ (weight_at m c t 1 1 rfl _)
    · exact own_reads m c t _ 1 256 rfl _ _
    · refine Reads.of_scratch _ ?_ (by decide) (by decide) _ _ _
      refine reads16 ?_ ?_
      · exact reads_next m c t h 1 8 256 rfl _ _ _
      · exact reads_next m c t h 1 7 256 rfl _ _ _
    · refine Reads.of_scratch _ ?_ (by decide) (by decide) _ _ _
      refine reads16 ?_ ?_
      · exact reads_next m c t h 1 8 256 rfl _ _ _
      · exact reads_next m c t h 1 7 256 rfl _ _ _
  · refine zr2 m c t ?_ ?_ ?_ (weight_at m c t 2 2 rfl _)
    · exact own_reads m c t _ 2 512 rfl _ _
    · refine Reads.of_scratch _ ?_ (by decide) (by decide) _ _ _
      refine reads22 ?_ ?_
      · refine Reads.of_scratch _ ?_ (by decide) (by decide) _ _ _
        refine reads21 ?_ ?_
        · exact reads_next m c t h 2 8 512 rfl _ _ _
        · exact reads_next m c t h 2 7 512 rfl _ _ _
      · refine Reads.of_scratch _ ?_ (by decide) (by decide) _ _ _
        refine reads21 ?_ ?_
        · exact reads_next m c t h 2 8 512 rfl _ _ _
        · exact reads_next m c t h 2 7 512 rfl _ _ _
    · refine Reads.of_scratch _ ?_ (by decide) (by decide) _ _ _
      refine reads22 ?_ ?_
      · refine Reads.of_scratch _ ?_ (by decide) (by decide) _ _ _
        refine reads21 ?_ ?_
        · exact reads_next m c t h 2 8 512 rfl _ _ _
        · exact reads_next m c t h 2 7 512 rfl _ _ _
      · refine Reads.of_scratch _ ?_ (by decide) (by decide) _ _ _
        refine reads21 ?_ ?_
        · exact reads_next m c t h 2 8 512 rfl _ _ _
        · exact reads_next m c t h 2 7 512 rfl _ _ _
  · refine zr3 m c t ?_ ?_ ?_ (weight_at m c t 3 3 rfl _)
    · exact own_reads m c t _ 3 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _

theorem out_zr (r : Fin 512) (q : Fin 4) (l : Fin 256) : (outsAt0 m c t.val t.isLt).2.2.1 (ix2 r (lane q l)) = gZr m c (row (tile t) r) q l :=
  if h : t.val % 16 = 0 then out_zr_A m c t h r q l else out_zr_B m c t h r q l

theorem out_z_A (h : t.val % 16 = 0) (r : Fin 512) (q : Fin 4) (l : Fin 256) : (outsAt0 m c t.val t.isLt).2.2.2.1 (ix2 r (lane q l)) = gZ m c (row (tile t) r) q l := by
  rw [outsAt0_A m c t h]
  frame_out
  refine groups_at t (gZ m c) ?_ ?_ ?_ ?_ _ _ _ _ r q l
  · refine z0 m c t ?_ ?_ ?_ (weight_at m c t 0 0 rfl _) (scale_at m c t 0 0 rfl _)
    · exact own_reads m c t _ 0 0 rfl _ _
    · exact own_reads m c t _ 0 0 rfl _ _
    · exact reads_first m c t _ h 0 31 0 rfl _ _
  · refine z1 m c t ?_ ?_ ?_ (weight_at m c t 1 1 rfl _) (scale_at m c t 1 256 rfl _)
    · exact own_reads m c t _ 1 256 rfl _ _
    · refine Reads.of_scratch _ ?_ (by decide) (by decide) _ _ _
      refine reads16 ?_ ?_
      · exact reads_first m c t _ h 1 8 256 rfl _ _
      · exact reads_first m c t _ h 1 7 256 rfl _ _
    · refine Reads.of_scratch _ ?_ (by decide) (by decide) _ _ _
      refine reads16 ?_ ?_
      · exact reads_first m c t _ h 1 8 256 rfl _ _
      · exact reads_first m c t _ h 1 7 256 rfl _ _
  · refine z2 m c t ?_ ?_ ?_ (weight_at m c t 2 2 rfl _) (scale_at m c t 2 512 rfl _)
    · exact own_reads m c t _ 2 512 rfl _ _
    · refine Reads.of_scratch _ ?_ (by decide) (by decide) _ _ _
      refine reads22 ?_ ?_
      · refine Reads.of_scratch _ ?_ (by decide) (by decide) _ _ _
        refine reads21 ?_ ?_
        · exact reads_first m c t _ h 2 8 512 rfl _ _
        · exact reads_first m c t _ h 2 7 512 rfl _ _
      · refine Reads.of_scratch _ ?_ (by decide) (by decide) _ _ _
        refine reads21 ?_ ?_
        · exact reads_first m c t _ h 2 8 512 rfl _ _
        · exact reads_first m c t _ h 2 7 512 rfl _ _
    · refine Reads.of_scratch _ ?_ (by decide) (by decide) _ _ _
      refine reads22 ?_ ?_
      · refine Reads.of_scratch _ ?_ (by decide) (by decide) _ _ _
        refine reads21 ?_ ?_
        · exact reads_first m c t _ h 2 8 512 rfl _ _
        · exact reads_first m c t _ h 2 7 512 rfl _ _
      · refine Reads.of_scratch _ ?_ (by decide) (by decide) _ _ _
        refine reads21 ?_ ?_
        · exact reads_first m c t _ h 2 8 512 rfl _ _
        · exact reads_first m c t _ h 2 7 512 rfl _ _
  · refine z3 m c t ?_ ?_ ?_ (weight_at m c t 3 3 rfl _) (scale_at m c t 3 768 rfl _)
    · exact own_reads m c t _ 3 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _

theorem out_z_B (h : ¬ t.val % 16 = 0) (r : Fin 512) (q : Fin 4) (l : Fin 256) : (outsAt0 m c t.val t.isLt).2.2.2.1 (ix2 r (lane q l)) = gZ m c (row (tile t) r) q l := by
  rw [outsAt0_B m c t h]
  frame_out
  refine groups_at t (gZ m c) ?_ ?_ ?_ ?_ _ _ _ _ r q l
  · refine z0 m c t ?_ ?_ ?_ (weight_at m c t 0 0 rfl _) (scale_at m c t 0 0 rfl _)
    · exact own_reads m c t _ 0 0 rfl _ _
    · exact own_reads m c t _ 0 0 rfl _ _
    · exact reads_next m c t h 0 31 0 rfl _ _ _
  · refine z1 m c t ?_ ?_ ?_ (weight_at m c t 1 1 rfl _) (scale_at m c t 1 256 rfl _)
    · exact own_reads m c t _ 1 256 rfl _ _
    · refine Reads.of_scratch _ ?_ (by decide) (by decide) _ _ _
      refine reads16 ?_ ?_
      · exact reads_next m c t h 1 8 256 rfl _ _ _
      · exact reads_next m c t h 1 7 256 rfl _ _ _
    · refine Reads.of_scratch _ ?_ (by decide) (by decide) _ _ _
      refine reads16 ?_ ?_
      · exact reads_next m c t h 1 8 256 rfl _ _ _
      · exact reads_next m c t h 1 7 256 rfl _ _ _
  · refine z2 m c t ?_ ?_ ?_ (weight_at m c t 2 2 rfl _) (scale_at m c t 2 512 rfl _)
    · exact own_reads m c t _ 2 512 rfl _ _
    · refine Reads.of_scratch _ ?_ (by decide) (by decide) _ _ _
      refine reads22 ?_ ?_
      · refine Reads.of_scratch _ ?_ (by decide) (by decide) _ _ _
        refine reads21 ?_ ?_
        · exact reads_next m c t h 2 8 512 rfl _ _ _
        · exact reads_next m c t h 2 7 512 rfl _ _ _
      · refine Reads.of_scratch _ ?_ (by decide) (by decide) _ _ _
        refine reads21 ?_ ?_
        · exact reads_next m c t h 2 8 512 rfl _ _ _
        · exact reads_next m c t h 2 7 512 rfl _ _ _
    · refine Reads.of_scratch _ ?_ (by decide) (by decide) _ _ _
      refine reads22 ?_ ?_
      · refine Reads.of_scratch _ ?_ (by decide) (by decide) _ _ _
        refine reads21 ?_ ?_
        · exact reads_next m c t h 2 8 512 rfl _ _ _
        · exact reads_next m c t h 2 7 512 rfl _ _ _
      · refine Reads.of_scratch _ ?_ (by decide) (by decide) _ _ _
        refine reads21 ?_ ?_
        · exact reads_next m c t h 2 8 512 rfl _ _ _
        · exact reads_next m c t h 2 7 512 rfl _ _ _
  · refine z3 m c t ?_ ?_ ?_ (weight_at m c t 3 3 rfl _) (scale_at m c t 3 768 rfl _)
    · exact own_reads m c t _ 3 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _

theorem out_z (r : Fin 512) (q : Fin 4) (l : Fin 256) : (outsAt0 m c t.val t.isLt).2.2.2.1 (ix2 r (lane q l)) = gZ m c (row (tile t) r) q l :=
  if h : t.val % 16 = 0 then out_z_A m c t h r q l else out_z_B m c t h r q l

theorem out_xo_A (h : t.val % 16 = 0) (r : Fin 512) (j : Fin 1024) : (outsAt0 m c t.val t.isLt).2.2.2.2.1 (ix2 r j) = gXo m c (row (tile t) r) j := by
  rw [outsAt0_A m c t h]
  frame_out
  refine (pay6_at _ _ r j _).trans ?_
  refine congrArg₂ (fun x y : EReal => x + y) (blk0 m c t r j) (Finset.sum_congr rfl fun k _ => congrArg₂ (fun x y : EReal => x * y) ?_ (blk5 m c t k j))
  obtain ⟨q, l, rfl⟩ : ∃ q l, k = lane q l := ⟨grp k, lin k, (lane_grp_lin k).symm⟩
  rw [grp_lane, lin_lane]
  refine (readCov_at _ _ _ r (lane q l) r (lane q l) (Nat.zero_add _).symm (Nat.zero_add _).symm).trans ?_
  refine groups_at t (gZ m c) ?_ ?_ ?_ ?_ _ _ _ _ r q l
  · refine z0 m c t ?_ ?_ ?_ (weight_at m c t 0 0 rfl _) (scale_at m c t 0 0 rfl _)
    · exact own_reads m c t _ 0 0 rfl _ _
    · exact own_reads m c t _ 0 0 rfl _ _
    · exact reads_first m c t _ h 0 31 0 rfl _ _
  · refine z1 m c t ?_ ?_ ?_ (weight_at m c t 1 1 rfl _) (scale_at m c t 1 256 rfl _)
    · exact own_reads m c t _ 1 256 rfl _ _
    · refine Reads.of_scratch _ ?_ (by decide) (by decide) _ _ _
      refine reads16 ?_ ?_
      · exact reads_first m c t _ h 1 8 256 rfl _ _
      · exact reads_first m c t _ h 1 7 256 rfl _ _
    · refine Reads.of_scratch _ ?_ (by decide) (by decide) _ _ _
      refine reads16 ?_ ?_
      · exact reads_first m c t _ h 1 8 256 rfl _ _
      · exact reads_first m c t _ h 1 7 256 rfl _ _
  · refine z2 m c t ?_ ?_ ?_ (weight_at m c t 2 2 rfl _) (scale_at m c t 2 512 rfl _)
    · exact own_reads m c t _ 2 512 rfl _ _
    · refine Reads.of_scratch _ ?_ (by decide) (by decide) _ _ _
      refine reads22 ?_ ?_
      · refine Reads.of_scratch _ ?_ (by decide) (by decide) _ _ _
        refine reads21 ?_ ?_
        · exact reads_first m c t _ h 2 8 512 rfl _ _
        · exact reads_first m c t _ h 2 7 512 rfl _ _
      · refine Reads.of_scratch _ ?_ (by decide) (by decide) _ _ _
        refine reads21 ?_ ?_
        · exact reads_first m c t _ h 2 8 512 rfl _ _
        · exact reads_first m c t _ h 2 7 512 rfl _ _
    · refine Reads.of_scratch _ ?_ (by decide) (by decide) _ _ _
      refine reads22 ?_ ?_
      · refine Reads.of_scratch _ ?_ (by decide) (by decide) _ _ _
        refine reads21 ?_ ?_
        · exact reads_first m c t _ h 2 8 512 rfl _ _
        · exact reads_first m c t _ h 2 7 512 rfl _ _
      · refine Reads.of_scratch _ ?_ (by decide) (by decide) _ _ _
        refine reads21 ?_ ?_
        · exact reads_first m c t _ h 2 8 512 rfl _ _
        · exact reads_first m c t _ h 2 7 512 rfl _ _
  · refine z3 m c t ?_ ?_ ?_ (weight_at m c t 3 3 rfl _) (scale_at m c t 3 768 rfl _)
    · exact own_reads m c t _ 3 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _
      · refine Reads.of_scratch _ ?_ (by decide) (by decide) _ _ _
        refine reads28 ?_ ?_
        · refine Reads.of_scratch _ ?_ (by decide) (by decide) _ _ _
          refine reads27 ?_ ?_
          · exact reads_first m c t _ h 3 8 768 rfl _ _
          · exact reads_first m c t _ h 3 7 768 rfl _ _
        · refine Reads.of_scratch _ ?_ (by decide) (by decide) _ _ _
          refine reads27 ?_ ?_
          · exact reads_first m c t _ h 3 8 768 rfl _ _
          · exact reads_first m c t _ h 3 7 768 rfl _ _

theorem out_xo_B (h : ¬ t.val % 16 = 0) (r : Fin 512) (j : Fin 1024) : (outsAt0 m c t.val t.isLt).2.2.2.2.1 (ix2 r j) = gXo m c (row (tile t) r) j := by
  rw [outsAt0_B m c t h]
  frame_out
  refine (pay6_at _ _ r j _).trans ?_
  refine congrArg₂ (fun x y : EReal => x + y) (blk0 m c t r j) (Finset.sum_congr rfl fun k _ => congrArg₂ (fun x y : EReal => x * y) ?_ (blk5 m c t k j))
  obtain ⟨q, l, rfl⟩ : ∃ q l, k = lane q l := ⟨grp k, lin k, (lane_grp_lin k).symm⟩
  rw [grp_lane, lin_lane]
  refine (readCov_at _ _ _ r (lane q l) r (lane q l) (Nat.zero_add _).symm (Nat.zero_add _).symm).trans ?_
  refine groups_at t (gZ m c) ?_ ?_ ?_ ?_ _ _ _ _ r q l
  · refine z0 m c t ?_ ?_ ?_ (weight_at m c t 0 0 rfl _) (scale_at m c t 0 0 rfl _)
    · exact own_reads m c t _ 0 0 rfl _ _
    · exact own_reads m c t _ 0 0 rfl _ _
    · exact reads_next m c t h 0 31 0 rfl _ _ _
  · refine z1 m c t ?_ ?_ ?_ (weight_at m c t 1 1 rfl _) (scale_at m c t 1 256 rfl _)
    · exact own_reads m c t _ 1 256 rfl _ _
    · refine Reads.of_scratch _ ?_ (by decide) (by decide) _ _ _
      refine reads16 ?_ ?_
      · exact reads_next m c t h 1 8 256 rfl _ _ _
      · exact reads_next m c t h 1 7 256 rfl _ _ _
    · refine Reads.of_scratch _ ?_ (by decide) (by decide) _ _ _
      refine reads16 ?_ ?_
      · exact reads_next m c t h 1 8 256 rfl _ _ _
      · exact reads_next m c t h 1 7 256 rfl _ _ _
  · refine z2 m c t ?_ ?_ ?_ (weight_at m c t 2 2 rfl _) (scale_at m c t 2 512 rfl _)
    · exact own_reads m c t _ 2 512 rfl _ _
    · refine Reads.of_scratch _ ?_ (by decide) (by decide) _ _ _
      refine reads22 ?_ ?_
      · refine Reads.of_scratch _ ?_ (by decide) (by decide) _ _ _
        refine reads21 ?_ ?_
        · exact reads_next m c t h 2 8 512 rfl _ _ _
        · exact reads_next m c t h 2 7 512 rfl _ _ _
      · refine Reads.of_scratch _ ?_ (by decide) (by decide) _ _ _
        refine reads21 ?_ ?_
        · exact reads_next m c t h 2 8 512 rfl _ _ _
        · exact reads_next m c t h 2 7 512 rfl _ _ _
    · refine Reads.of_scratch _ ?_ (by decide) (by decide) _ _ _
      refine reads22 ?_ ?_
      · refine Reads.of_scratch _ ?_ (by decide) (by decide) _ _ _
        refine reads21 ?_ ?_
        · exact reads_next m c t h 2 8 512 rfl _ _ _
        · exact reads_next m c t h 2 7 512 rfl _ _ _
      · refine Reads.of_scratch _ ?_ (by decide) (by decide) _ _ _
        refine reads21 ?_ ?_
        · exact reads_next m c t h 2 8 512 rfl _ _ _
        · exact reads_next m c t h 2 7 512 rfl _ _ _
  · refine z3 m c t ?_ ?_ ?_ (weight_at m c t 3 3 rfl _) (scale_at m c t 3 768 rfl _)
    · exact own_reads m c t _ 3 768 rfl _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
    · refine Reads.of_scratch _ ?_ (by decide) (by decide) _ _ _
      refine reads29 ?_ ?_
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _
      · refine Reads.of_scratch _ ?_ (by decide) (by decide) _ _ _
        refine reads28 ?_ ?_
        · refine Reads.of_scratch _ ?_ (by decide) (by decide) _ _ _
          refine reads27 ?_ ?_
          · exact reads_next m c t h 3 8 768 rfl _ _ _
          · exact reads_next m c t h 3 7 768 rfl _ _ _
        · refine Reads.of_scratch _ ?_ (by decide) (by decide) _ _ _
          refine reads27 ?_ ?_
          · exact reads_next m c t h 3 8 768 rfl _ _ _
          · exact reads_next m c t h 3 7 768 rfl _ _ _

theorem out_xo (r : Fin 512) (j : Fin 1024) : (outsAt0 m c t.val t.isLt).2.2.2.2.1 (ix2 r j) = gXo m c (row (tile t) r) j :=
  if h : t.val % 16 = 0 then out_xo_A m c t h r j else out_xo_B m c t h r j

theorem out_h (r : Fin 512) (j : Fin 1024) : (outsAt0 m c t.val t.isLt).1 (ix2 r j) = hh (aX m c) (aG m c) (row (tile t) r) j := by
  by_cases h : t.val % 16 = 0
  · rw [outsAt0_A m c t h]
    frame_out
    exact h_at m c t r j
  · rw [outsAt0_B m c t h]
    frame_out
    exact h_at m c t r j

end

theorem array6 : (dats m 0 c).arrAt 6 cfg0.N = fun j : S8192x1024.Idx => hh (aX m c) (aG m c) (j 0) (j 1) := by
  refine (dats m 0 c).arrAt_eq_of_covers 6 _ (by decide +kernel) fun t hf y => ?_
  blk_simp
  rw [after0_6]
  idx_vars y
  refine (out_h m c t _ _).trans ?_
  refine congrArg₂ (fun a b => hh (aX m c) (aG m c) a b) (Fin.ext ?_) (Fin.ext ?_)
  · unfold row tile; blk_simp [idx t]; show 512 * t.val + _ = t.val * 512 + _; omega
  · blk_simp [idx t]

theorem lanes_p (t : Fin cfg0.N) (r : Fin 512) (j : Fin 1024) : (outsAt0 m c t.val t.isLt).2.1 (ix2 r j) = gP m c (row (tile t) r) (grp j) (lin j) := by
  refine Eq.trans (congrArg (fun x => (outsAt0 m c t.val t.isLt).2.1 (ix2 r x)) (lane_grp_lin j).symm) ?_
  exact out_p m c t r (grp j) (lin j)

theorem array7 : (dats m 0 c).arrAt 7 cfg0.N = fun j : S8192x1024.Idx => gP m c (j 0) (grp (j 1)) (lin (j 1)) := by
  refine (dats m 0 c).arrAt_eq_of_covers 7 _ (by decide +kernel) fun t hf y => ?_
  blk_simp
  rw [after0_7]
  idx_vars y
  refine (lanes_p m c t _ _).trans ?_
  refine congrArg₂ (fun a b => gP m c a (grp b) (lin b)) (Fin.ext ?_) (Fin.ext ?_)
  · unfold row tile; blk_simp [idx t]; show 512 * t.val + _ = t.val * 512 + _; omega
  · blk_simp [idx t]

theorem lanes_zr (t : Fin cfg0.N) (r : Fin 512) (j : Fin 1024) : (outsAt0 m c t.val t.isLt).2.2.1 (ix2 r j) = gZr m c (row (tile t) r) (grp j) (lin j) := by
  refine Eq.trans (congrArg (fun x => (outsAt0 m c t.val t.isLt).2.2.1 (ix2 r x)) (lane_grp_lin j).symm) ?_
  exact out_zr m c t r (grp j) (lin j)

theorem array8 : (dats m 0 c).arrAt 8 cfg0.N = fun j : S8192x1024.Idx => gZr m c (j 0) (grp (j 1)) (lin (j 1)) := by
  refine (dats m 0 c).arrAt_eq_of_covers 8 _ (by decide +kernel) fun t hf y => ?_
  blk_simp
  rw [after0_8]
  idx_vars y
  refine (lanes_zr m c t _ _).trans ?_
  refine congrArg₂ (fun a b => gZr m c a (grp b) (lin b)) (Fin.ext ?_) (Fin.ext ?_)
  · unfold row tile; blk_simp [idx t]; show 512 * t.val + _ = t.val * 512 + _; omega
  · blk_simp [idx t]

theorem lanes_z (t : Fin cfg0.N) (r : Fin 512) (j : Fin 1024) : (outsAt0 m c t.val t.isLt).2.2.2.1 (ix2 r j) = gZ m c (row (tile t) r) (grp j) (lin j) := by
  refine Eq.trans (congrArg (fun x => (outsAt0 m c t.val t.isLt).2.2.2.1 (ix2 r x)) (lane_grp_lin j).symm) ?_
  exact out_z m c t r (grp j) (lin j)

theorem array9 : (dats m 0 c).arrAt 9 cfg0.N = fun j : S8192x1024.Idx => gZ m c (j 0) (grp (j 1)) (lin (j 1)) := by
  refine (dats m 0 c).arrAt_eq_of_covers 9 _ (by decide +kernel) fun t hf y => ?_
  blk_simp
  rw [after0_9]
  idx_vars y
  refine (lanes_z m c t _ _).trans ?_
  refine congrArg₂ (fun a b => gZ m c a (grp b) (lin b)) (Fin.ext ?_) (Fin.ext ?_)
  · unfold row tile; blk_simp [idx t]; show 512 * t.val + _ = t.val * 512 + _; omega
  · blk_simp [idx t]

theorem array10 : (dats m 0 c).arrAt 10 cfg0.N = fun j : S8192x1024.Idx => gXo m c (j 0) (j 1) := by
  refine (dats m 0 c).arrAt_eq_of_covers 10 _ (by decide +kernel) fun t hf y => ?_
  blk_simp
  rw [after0_10]
  idx_vars y
  refine (out_xo m c t _ _).trans ?_
  refine congrArg₂ (fun a b => gXo m c a b) (Fin.ext ?_) (Fin.ext ?_)
  · unfold row tile; blk_simp [idx t]; show 512 * t.val + _ = t.val * 512 + _; omega
  · blk_simp [idx t]

end Cert.PoolFwd

end
-- ==== Proof.PoolFwdSum.lean ====
/- Running sums from the first row, and windows made of their differences. -/
module

public import proofs.«01_k».proof.Proof.PoolFwdBlock

@[expose] public section

set_option maxRecDepth 16384

noncomputable section

namespace Cert.PoolFwd

open Idealize.ShloMosaic Cert.Grad

/-- A window of the whole height that ends at a row, with zero padding before the first, sums the rows up to it. -/
theorem head_sum (f : ℕ → EReal) (Rm1 R : ℕ) (hR : R ≤ Rm1) :
    (∑ n ∈ Finset.range (Rm1 + 1), if Rm1 ≤ R + n then f (R + n - Rm1) else 0) = ∑ i ∈ Finset.range (R + 1), f i := by
  rw [show Rm1 + 1 = (Rm1 - R) + (R + 1) by omega, Finset.sum_range_add]
  refine (congrArg₂ (fun a b : EReal => a + b) (Finset.sum_eq_zero fun n hn => if_neg ?_) (Finset.sum_congr rfl fun i _ => ?_)).trans (zero_add _)
  · have := Finset.mem_range.mp hn
    omega
  · rw [if_pos (by omega), show R + (Rm1 - R + i) - Rm1 = i by omega]

/-- The host's running sum along the first axis of a matrix. -/
theorem forward_cumsum {R Rm1 C : ℕ} (hR : Rm1 + 1 = R) {φ : FTy} (x : FVec Ideal ⟨2, ![R, C]⟩ φ) (init : FVec Ideal ⟨0, ![]⟩ φ) (hinit : ∀ i, init i = (0 : EReal))
    (h : (⟨2, ![R, C]⟩ : Shape).ReduceWindows (![R, 1] : Fin 2 → ℕ) ![1, 1] ![Rm1, 0] ![0, 0] ⟨2, ![R, C]⟩) (hu : 0 < (⟨0, ![]⟩ : Shape).numel) (r : Fin R) (c : Fin C) :
    Host.reduceWindowAdd (![R, 1] : Fin 2 → ℕ) ![1, 1] ![Rm1, 0] ![0, 0] x init h hu (ix2 r c)
      = ∑ i ∈ Finset.range (r.val + 1), ext (fun R' => (x (ix2 R' c) : EReal)) i := by
  have hN : (⟨2, ![R, 1]⟩ : Shape).numel = R := (Shape.numel_rank2 _).trans (Nat.mul_one _)
  have hc := c.isLt
  have hr := r.isLt
  have hcol : ∀ n : Fin (⟨2, ![R, 1]⟩ : Shape).numel,
      ((⟨2, ![R, 1]⟩ : Shape).rowMajor.symm n 0).val = n.val ∧ ((⟨2, ![R, 1]⟩ : Shape).rowMajor.symm n 1).val = 0 := fun n => by
    have h1 : ((⟨2, ![R, 1]⟩ : Shape).rowMajor.symm n 1).val < 1 := ((⟨2, ![R, 1]⟩ : Shape).rowMajor.symm n 1).isLt
    have h0 := Shape.rowMajor_val_two ((⟨2, ![R, 1]⟩ : Shape).rowMajor.symm n)
    rw [Equiv.apply_symm_apply] at h0
    change n.val = ((⟨2, ![R, 1]⟩ : Shape).rowMajor.symm n 0).val * 1 + ((⟨2, ![R, 1]⟩ : Shape).rowMajor.symm n 1).val at h0
    omega
  refine Eq.trans ?_ (head_sum (ext fun R' => (x (ix2 R' c) : EReal)) Rm1 r.val (by omega))
  rw [hR, Finset.sum_range]
  unfold Host.reduceWindowAdd
  rw [hinit]
  show Host.reduceWindow (· + ·) _ _ _ _ x (fun _ : (⟨0, ![]⟩ : Shape).Idx => (0 : EReal)) h hu (ix2 r c) = _
  unfold Host.reduceWindow
  dsimp only
  rw [foldl_add, zero_add, ← List.ofFn_eq_map, List.sum_ofFn]
  refine Fintype.sum_equiv (finCongr hN) _ _ fun n => ?_
  have hn : n.val < R := lt_of_lt_of_eq n.isLt hN
  obtain ⟨h0, h1⟩ := hcol n
  have hp0 : (((ix2 r c) ((0 : Fin 2).cast h.1.symm)).val * 1 + ((⟨2, ![R, 1]⟩ : Shape).rowMajor.symm n 0).val) = r.val + n.val := by
    rw [h0, Nat.mul_one]; rfl
  have hp1 : (((ix2 r c) ((1 : Fin 2).cast h.1.symm)).val * 1 + ((⟨2, ![R, 1]⟩ : Shape).rowMajor.symm n 1).val) = c.val := by
    rw [h1, Nat.mul_one]; rfl
  by_cases hm : Rm1 ≤ r.val + n.val
  · have hlt : r.val + n.val - Rm1 < R := by omega
    rw [if_pos (show Rm1 ≤ r.val + (finCongr hN n).val from hm), dif_pos]
    · refine Eq.trans (congrArg x (funext fun a => Fin.ext ?_)) (ext_of_lt (fun R' => (x (ix2 R' c) : EReal)) hlt).symm
      match a with
      | ⟨0, _⟩ => exact congrArg (· - Rm1) hp0
      | ⟨1, _⟩ => exact congrArg (· - 0) hp1
    · intro a
      match a with
      | ⟨0, _⟩ => exact ⟨le_of_le_of_eq hm hp0.symm, lt_of_eq_of_lt (congrArg (· - Rm1) hp0) hlt⟩
      | ⟨1, _⟩ => exact ⟨Nat.zero_le _, lt_of_eq_of_lt (congrArg (· - 0) hp1) hc⟩
  · rw [if_neg (show ¬ Rm1 ≤ r.val + (finCongr hN n).val from hm), dif_neg]
    exact fun hin => hm (le_of_le_of_eq (hin 0).1 hp0)

/-- A window that ends at a row and starts at or after the first is a difference of running sums, of reals. -/
theorem window_of_head (G : ℕ → EReal) (hG : ∀ i, IsReal (G i)) (w R : ℕ) :
    (∑ i ∈ Finset.range (R + 1), G i) - (if R < w then 0 else ∑ i ∈ Finset.range (R - w + 1), G i) = ∑ i ∈ Finset.range w, prev G R i := by
  by_cases h : R < w
  · have hs := Finset.sum_range_add (prev G R) (R + 1) (w - (R + 1))
    rw [show R + 1 + (w - (R + 1)) = w by omega] at hs
    rw [if_pos h, sub_zero, hs, ← Finset.sum_range_reflect G (R + 1)]
    refine ((congrArg₂ (fun a b : EReal => a + b) (Finset.sum_congr rfl fun i hi => ?_) (Finset.sum_eq_zero fun i _ => ?_)).trans (add_zero _)).symm
    · have := Finset.mem_range.mp hi
      unfold prev
      rw [if_pos (by omega), show R + 1 - 1 - i = R - i by omega]
    · unfold prev
      exact if_neg (by omega)
  · choose g hg using hG
    have e : ∀ n, (∑ i ∈ Finset.range n, G i) = ((∑ i ∈ Finset.range n, g i : ℝ) : EReal) := fun n => by
      rw [coe_sum]; exact Finset.sum_congr rfl fun i _ => hg i
    rw [if_neg h, e, e, ← EReal.coe_sub, show R + 1 = (R - w + 1) + w by omega, Finset.sum_range_add, add_sub_cancel_left, coe_sum, ← Finset.sum_range_reflect]
    refine Finset.sum_congr rfl fun i hi => ?_
    have := Finset.mem_range.mp hi
    unfold prev
    rw [if_pos (by omega), hg, show R - w + 1 + (w - 1 - i) = R - i by omega]

end Cert.PoolFwd

end
-- ==== Proof.PoolFwdRef.lean ====
/- The pooling layer's forward reference: its arrays as functions of its arguments, read at an index. -/
module

public import Idealize.ShloMosaic.Lib.Pointwise
public import Idealize.ShloMosaic.Lib.KernelVsHost
public import proofs.«01_k».proof.Proof.Gen.PoolFwdReferenceIdeal.Run
public import proofs.«01_k».proof.Proof.PoolFwdSum
public import proofs.«01_k».proof.Proof.InGrad
public import proofs.«01_k».proof.Proof.FfnRefAt

@[expose] public section

set_option maxRecDepth 16384

noncomputable section

namespace Cert.PoolFwdRef

open Idealize.ShloMosaic Idealize.ShloMosaic.TcCoe Idealize.SL.Sem Cert.Grad
open Cert.FfnRef (rows normed xr gains xr_at gains_at)
open Cert.PoolFwd (hh uu pp zzr zz xxo prev window_of_head forward_cumsum)
open Cert.PoolFwdReferenceIdeal Cert.PoolFwdReferenceIdeal.Gen

section
variable (u : FVec Ideal S8192x256 .f32) (R : Fin 8192) (l : Fin 256)

/-- The running sum of a group's columns. -/
def csum : FVec Ideal S8192x256 .f32 :=
  Host.reduceWindowAdd ![8192, 1] ![1, 1] ![8191, 0] ![0, 0] u (broadcastInDim S_ ![] bcast_S_S_ (constant S_ .f32 0x00000000#32)) reduceWindows_S8192x256_S8192x256_w8192s1p8191_0_w1s1p0_0 h_S_

theorem csum_at : csum u (ix2 R l) = ∑ i ∈ Finset.range (R.val + 1), ext (fun R' => (u (ix2 R' l) : EReal)) i :=
  forward_cumsum (R := 8192) (Rm1 := 8191) (C := 256) rfl u _ (fun _ => Ideal.ofBits_zero .f32) _ _ R l

/-! Group 0: a window of 2. -/

/-- The columns of the group, -/
def col0 (a : FVec Ideal S8192x1024 .f32) : FVec Ideal S8192x256 .f32 := extractStridedSlice S8192x256 ![0, 0] a slices_S8192x1024_S8192x256_0_0
/-- a running sum moved down by the window, -/
def lag0 : FVec Ideal S8192x256 .f32 :=
  concatenate S8192x256 0 [⟨S2x256, (broadcastInDim S2x256 ![] bcast_S_S2x256 (constant S_ .f32 0x00000000#32))⟩, ⟨S8190x256, (extractStridedSlice S8190x256 ![0, 0] u slices_S8192x256_S8190x256_0_0)⟩] concatenates_S2x256_S8190x256_S8192x256_d0
/-- the number of rows each window holds, -/
def num0 : FVec Ideal S8192x256 .f32 :=
  broadcastInDim S8192x256 ![0, 1] bcast_S8192x1_S8192x256_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 2#32)))))
/-- and the windows' means less the rows themselves. -/
def mean0 : FVec Ideal S8192x256 .f32 := subf (Host.divf (subf (csum u) (lag0 (csum u))) num0) u
/-- The group's product with its matrix. -/
def part0 (a : FVec Ideal S8192x1024 .f32) (W : FVec Ideal S4x256x256 .f32) : FVec Ideal S8192x256 .f32 :=
  Host.dotGeneral dot_S8192x256_S256x256_S8192x256_1_0_0_1_n_n none (col0 a) (shapeCast _ (extractStridedSlice S1x256x256 ![0, 0, 0] W slices_S4x256x256_S1x256x256_0_0_0) shapeCasts_S1x256x256_S256x256)

theorem col0_at (a : FVec Ideal S8192x1024 .f32) : col0 a (ix2 R l) = a (ix2 R (lane 0 l)) := by
  unfold lane
  pointwise [col0]

theorem lag0_at : lag0 (csum u) (ix2 R l) = if R.val < 2 then 0 else ∑ i ∈ Finset.range (R.val - 2 + 1), ext (fun R' => (u (ix2 R' l) : EReal)) i := by
  by_cases h : R.val < 2
  · rw [if_pos h]
    pointwise [lag0]
    exact dif_pos h
  · rw [if_neg h, ← csum_at u ⟨R.val - 2, by omega⟩ l]
    pointwise [lag0]
    exact dif_neg h

theorem num0_at : num0 (ix2 R l) = cnt 2 R.val := by
  pointwise [num0]
  exact PoolBwd.count_at R.val 2 R.isLt (by norm_num)

theorem mean0_at (hu : ∀ R, IsReal (u (ix2 R l) : EReal)) : mean0 u (ix2 R l)
    = (∑ i ∈ Finset.range 2, prev (ext fun R' => (u (ix2 R' l) : EReal)) R.val i) * Ideal.div 1 (cnt 2 R.val) - u (ix2 R l) := by
  refine (show mean0 u (ix2 R l) = Ideal.div (csum u (ix2 R l) - lag0 (csum u) (ix2 R l)) (num0 (ix2 R l)) - u (ix2 R l) by pointwise [mean0]).trans ?_
  rw [csum_at, lag0_at, num0_at, window_of_head _ (fun i => ?_)]
  · exact congrArg (· - (u (ix2 R l) : EReal)) (Ideal.mul_one_div (EReal.coe_ne_zero.mpr (PoolRef.cnt_ne _ _ (by decide)))).symm
  · by_cases h : i < 8192
    · rw [ext_of_lt _ h]; exact hu _
    · rw [ext_of_le _ (not_lt.mp h)]; exact .coe 0

theorem part0_at (a : FVec Ideal S8192x1024 .f32) (W : FVec Ideal S4x256x256 .f32) : part0 a W (ix2 R l) = ∑ k, a (ix2 R (lane 0 k)) * W (ix3 0 k l) := by
  refine Eq.trans (b := ∑ k, col0 a (ix2 R k) * W (ix3 0 k l)) ?_ (Finset.sum_congr rfl fun k _ => congrArg (fun b : EReal => b * W (ix3 0 k l)) (col0_at R k a))
  pointwise [part0]

/-! Group 1: a window of 4. -/

/-- The columns of the group, -/
def col1 (a : FVec Ideal S8192x1024 .f32) : FVec Ideal S8192x256 .f32 := extractStridedSlice S8192x256 ![0, 256] a slices_S8192x1024_S8192x256_0_256
/-- a running sum moved down by the window, -/
def lag1 : FVec Ideal S8192x256 .f32 :=
  concatenate S8192x256 0 [⟨S4x256, (broadcastInDim S4x256 ![] bcast_S_S4x256 (constant S_ .f32 0x00000000#32))⟩, ⟨S8188x256, (extractStridedSlice S8188x256 ![0, 0] u slices_S8192x256_S8188x256_0_0)⟩] concatenates_S4x256_S8188x256_S8192x256_d0
/-- the number of rows each window holds, -/
def num1 : FVec Ideal S8192x256 .f32 :=
  broadcastInDim S8192x256 ![0, 1] bcast_S8192x1_S8192x256_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 4#32)))))
/-- and the windows' means less the rows themselves. -/
def mean1 : FVec Ideal S8192x256 .f32 := subf (Host.divf (subf (csum u) (lag1 (csum u))) num1) u
/-- The group's product with its matrix. -/
def part1 (a : FVec Ideal S8192x1024 .f32) (W : FVec Ideal S4x256x256 .f32) : FVec Ideal S8192x256 .f32 :=
  Host.dotGeneral dot_S8192x256_S256x256_S8192x256_1_0_0_1_n_n none (col1 a) (shapeCast _ (extractStridedSlice S1x256x256 ![1, 0, 0] W slices_S4x256x256_S1x256x256_1_0_0) shapeCasts_S1x256x256_S256x256)

theorem col1_at (a : FVec Ideal S8192x1024 .f32) : col1 a (ix2 R l) = a (ix2 R (lane 1 l)) := by
  unfold lane
  pointwise [col1]

theorem lag1_at : lag1 (csum u) (ix2 R l) = if R.val < 4 then 0 else ∑ i ∈ Finset.range (R.val - 4 + 1), ext (fun R' => (u (ix2 R' l) : EReal)) i := by
  by_cases h : R.val < 4
  · rw [if_pos h]
    pointwise [lag1]
    exact dif_pos h
  · rw [if_neg h, ← csum_at u ⟨R.val - 4, by omega⟩ l]
    pointwise [lag1]
    exact dif_neg h

theorem num1_at : num1 (ix2 R l) = cnt 4 R.val := by
  pointwise [num1]
  exact PoolBwd.count_at R.val 4 R.isLt (by norm_num)

theorem mean1_at (hu : ∀ R, IsReal (u (ix2 R l) : EReal)) : mean1 u (ix2 R l)
    = (∑ i ∈ Finset.range 4, prev (ext fun R' => (u (ix2 R' l) : EReal)) R.val i) * Ideal.div 1 (cnt 4 R.val) - u (ix2 R l) := by
  refine (show mean1 u (ix2 R l) = Ideal.div (csum u (ix2 R l) - lag1 (csum u) (ix2 R l)) (num1 (ix2 R l)) - u (ix2 R l) by pointwise [mean1]).trans ?_
  rw [csum_at, lag1_at, num1_at, window_of_head _ (fun i => ?_)]
  · exact congrArg (· - (u (ix2 R l) : EReal)) (Ideal.mul_one_div (EReal.coe_ne_zero.mpr (PoolRef.cnt_ne _ _ (by decide)))).symm
  · by_cases h : i < 8192
    · rw [ext_of_lt _ h]; exact hu _
    · rw [ext_of_le _ (not_lt.mp h)]; exact .coe 0

theorem part1_at (a : FVec Ideal S8192x1024 .f32) (W : FVec Ideal S4x256x256 .f32) : part1 a W (ix2 R l) = ∑ k, a (ix2 R (lane 1 k)) * W (ix3 1 k l) := by
  refine Eq.trans (b := ∑ k, col1 a (ix2 R k) * W (ix3 1 k l)) ?_ (Finset.sum_congr rfl fun k _ => congrArg (fun b : EReal => b * W (ix3 1 k l)) (col1_at R k a))
  pointwise [part1]

/-! Group 2: a window of 8. -/

/-- The columns of the group, -/
def col2 (a : FVec Ideal S8192x1024 .f32) : FVec Ideal S8192x256 .f32 := extractStridedSlice S8192x256 ![0, 512] a slices_S8192x1024_S8192x256_0_512
/-- a running sum moved down by the window, -/
def lag2 : FVec Ideal S8192x256 .f32 :=
  concatenate S8192x256 0 [⟨S8x256, (broadcastInDim S8x256 ![] bcast_S_S8x256 (constant S_ .f32 0x00000000#32))⟩, ⟨S8184x256, (extractStridedSlice S8184x256 ![0, 0] u slices_S8192x256_S8184x256_0_0)⟩] concatenates_S8x256_S8184x256_S8192x256_d0
/-- the number of rows each window holds, -/
def num2 : FVec Ideal S8192x256 .f32 :=
  broadcastInDim S8192x256 ![0, 1] bcast_S8192x1_S8192x256_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 8#32)))))
/-- and the windows' means less the rows themselves. -/
def mean2 : FVec Ideal S8192x256 .f32 := subf (Host.divf (subf (csum u) (lag2 (csum u))) num2) u
/-- The group's product with its matrix. -/
def part2 (a : FVec Ideal S8192x1024 .f32) (W : FVec Ideal S4x256x256 .f32) : FVec Ideal S8192x256 .f32 :=
  Host.dotGeneral dot_S8192x256_S256x256_S8192x256_1_0_0_1_n_n none (col2 a) (shapeCast _ (extractStridedSlice S1x256x256 ![2, 0, 0] W slices_S4x256x256_S1x256x256_2_0_0) shapeCasts_S1x256x256_S256x256)

theorem col2_at (a : FVec Ideal S8192x1024 .f32) : col2 a (ix2 R l) = a (ix2 R (lane 2 l)) := by
  unfold lane
  pointwise [col2]

theorem lag2_at : lag2 (csum u) (ix2 R l) = if R.val < 8 then 0 else ∑ i ∈ Finset.range (R.val - 8 + 1), ext (fun R' => (u (ix2 R' l) : EReal)) i := by
  by_cases h : R.val < 8
  · rw [if_pos h]
    pointwise [lag2]
    exact dif_pos h
  · rw [if_neg h, ← csum_at u ⟨R.val - 8, by omega⟩ l]
    pointwise [lag2]
    exact dif_neg h

theorem num2_at : num2 (ix2 R l) = cnt 8 R.val := by
  pointwise [num2]
  exact PoolBwd.count_at R.val 8 R.isLt (by norm_num)

theorem mean2_at (hu : ∀ R, IsReal (u (ix2 R l) : EReal)) : mean2 u (ix2 R l)
    = (∑ i ∈ Finset.range 8, prev (ext fun R' => (u (ix2 R' l) : EReal)) R.val i) * Ideal.div 1 (cnt 8 R.val) - u (ix2 R l) := by
  refine (show mean2 u (ix2 R l) = Ideal.div (csum u (ix2 R l) - lag2 (csum u) (ix2 R l)) (num2 (ix2 R l)) - u (ix2 R l) by pointwise [mean2]).trans ?_
  rw [csum_at, lag2_at, num2_at, window_of_head _ (fun i => ?_)]
  · exact congrArg (· - (u (ix2 R l) : EReal)) (Ideal.mul_one_div (EReal.coe_ne_zero.mpr (PoolRef.cnt_ne _ _ (by decide)))).symm
  · by_cases h : i < 8192
    · rw [ext_of_lt _ h]; exact hu _
    · rw [ext_of_le _ (not_lt.mp h)]; exact .coe 0

theorem part2_at (a : FVec Ideal S8192x1024 .f32) (W : FVec Ideal S4x256x256 .f32) : part2 a W (ix2 R l) = ∑ k, a (ix2 R (lane 2 k)) * W (ix3 2 k l) := by
  refine Eq.trans (b := ∑ k, col2 a (ix2 R k) * W (ix3 2 k l)) ?_ (Finset.sum_congr rfl fun k _ => congrArg (fun b : EReal => b * W (ix3 2 k l)) (col2_at R k a))
  pointwise [part2]

/-! Group 3: a window of 16. -/

/-- The columns of the group, -/
def col3 (a : FVec Ideal S8192x1024 .f32) : FVec Ideal S8192x256 .f32 := extractStridedSlice S8192x256 ![0, 768] a slices_S8192x1024_S8192x256_0_768
/-- a running sum moved down by the window, -/
def lag3 : FVec Ideal S8192x256 .f32 :=
  concatenate S8192x256 0 [⟨S16x256, (broadcastInDim S16x256 ![] bcast_S_S16x256 (constant S_ .f32 0x00000000#32))⟩, ⟨S8176x256, (extractStridedSlice S8176x256 ![0, 0] u slices_S8192x256_S8176x256_0_0)⟩] concatenates_S16x256_S8176x256_S8192x256_d0
/-- the number of rows each window holds, -/
def num3 : FVec Ideal S8192x256 .f32 :=
  broadcastInDim S8192x256 ![0, 1] bcast_S8192x1_S8192x256_0_1 (broadcastInDim S8192x1 ![0] bcast_S8192_S8192x1_0 (sitofp .f32 (minsi (addi (iotaInDim S8192 32 0) (broadcastInDim S8192 ![] bcast_S_S8192 (constantI S_ 32 1#32))) (broadcastInDim S8192 ![] bcast_S_S8192 (constantI S_ 32 16#32)))))
/-- and the windows' means less the rows themselves. -/
def mean3 : FVec Ideal S8192x256 .f32 := subf (Host.divf (subf (csum u) (lag3 (csum u))) num3) u
/-- The group's product with its matrix. -/
def part3 (a : FVec Ideal S8192x1024 .f32) (W : FVec Ideal S4x256x256 .f32) : FVec Ideal S8192x256 .f32 :=
  Host.dotGeneral dot_S8192x256_S256x256_S8192x256_1_0_0_1_n_n none (col3 a) (shapeCast _ (extractStridedSlice S1x256x256 ![3, 0, 0] W slices_S4x256x256_S1x256x256_3_0_0) shapeCasts_S1x256x256_S256x256)

theorem col3_at (a : FVec Ideal S8192x1024 .f32) : col3 a (ix2 R l) = a (ix2 R (lane 3 l)) := by
  unfold lane
  pointwise [col3]

theorem lag3_at : lag3 (csum u) (ix2 R l) = if R.val < 16 then 0 else ∑ i ∈ Finset.range (R.val - 16 + 1), ext (fun R' => (u (ix2 R' l) : EReal)) i := by
  by_cases h : R.val < 16
  · rw [if_pos h]
    pointwise [lag3]
    exact dif_pos h
  · rw [if_neg h, ← csum_at u ⟨R.val - 16, by omega⟩ l]
    pointwise [lag3]
    exact dif_neg h

theorem num3_at : num3 (ix2 R l) = cnt 16 R.val := by
  pointwise [num3]
  exact PoolBwd.count_at R.val 16 R.isLt (by norm_num)

theorem mean3_at (hu : ∀ R, IsReal (u (ix2 R l) : EReal)) : mean3 u (ix2 R l)
    = (∑ i ∈ Finset.range 16, prev (ext fun R' => (u (ix2 R' l) : EReal)) R.val i) * Ideal.div 1 (cnt 16 R.val) - u (ix2 R l) := by
  refine (show mean3 u (ix2 R l) = Ideal.div (csum u (ix2 R l) - lag3 (csum u) (ix2 R l)) (num3 (ix2 R l)) - u (ix2 R l) by pointwise [mean3]).trans ?_
  rw [csum_at, lag3_at, num3_at, window_of_head _ (fun i => ?_)]
  · exact congrArg (· - (u (ix2 R l) : EReal)) (Ideal.mul_one_div (EReal.coe_ne_zero.mpr (PoolRef.cnt_ne _ _ (by decide)))).symm
  · by_cases h : i < 8192
    · rw [ext_of_lt _ h]; exact hu _
    · rw [ext_of_le _ (not_lt.mp h)]; exact .coe 0

theorem part3_at (a : FVec Ideal S8192x1024 .f32) (W : FVec Ideal S4x256x256 .f32) : part3 a W (ix2 R l) = ∑ k, a (ix2 R (lane 3 k)) * W (ix3 3 k l) := by
  refine Eq.trans (b := ∑ k, col3 a (ix2 R k) * W (ix3 3 k l)) ?_ (Finset.sum_congr rfl fun k _ => congrArg (fun b : EReal => b * W (ix3 3 k l)) (col3_at R k a))
  pointwise [part3]

end

/-- Four groups of columns side by side. -/
def side (a b c d : FVec Ideal S8192x256 .f32) : FVec Ideal S8192x1024 .f32 :=
  concatenate S8192x1024 1 [⟨S8192x256, a⟩, ⟨S8192x256, b⟩, ⟨S8192x256, c⟩, ⟨S8192x256, d⟩] concatenates_S8192x256_S8192x256_S8192x256_S8192x256_S8192x1024_d1

section
variable (a b c d : FVec Ideal S8192x256 .f32) (R : Fin 8192) (l : Fin 256)
theorem side_0 : side a b c d (ix2 R (lane 0 l)) = a (ix2 R l) := by
  have := l.isLt
  unfold lane
  pointwise [side]

theorem side_1 : side a b c d (ix2 R (lane 1 l)) = b (ix2 R l) := by
  have := l.isLt
  unfold lane
  pointwise [side]

theorem side_2 : side a b c d (ix2 R (lane 2 l)) = c (ix2 R l) := by
  have := l.isLt
  unfold lane
  pointwise [side]
  rw [dif_neg (by omega), dif_neg (by omega), dif_pos (by omega)]
  exact congrArg (fun k => c (ix2 R k)) (Fin.ext (by show 512 + l.val - 256 - 256 = l.val; omega))

theorem side_3 : side a b c d (ix2 R (lane 3 l)) = d (ix2 R l) := by
  have := l.isLt
  unfold lane
  pointwise [side]
  rw [dif_neg (by omega), dif_neg (by omega), dif_neg (by omega)]
  exact congrArg (fun k => d (ix2 R k)) (Fin.ext (by show 768 + l.val - 256 - 256 - 256 = l.val; omega))

end

section
variable (x : FVec Ideal S8192x1024 .f32) (g s : FVec Ideal S1x1024 .f32) (wi wo : FVec Ideal S1024x1024 .f32) (W : FVec Ideal S4x256x256 .f32)

/-- The reference's normalised rows as it returns them, -/
def hidden : FVec Ideal S8192x1024 .bf16 := truncf .bf16 (normed x g) bitsLt_bf16_f32
/-- the projected rows, -/
def proj : FVec Ideal S8192x1024 .f32 := Host.dotGeneral dot_S8192x1024_S1024x1024_S8192x1024_1_0_0_1_n_n none (normed x g) wi
/-- the pooled rows, -/
def pooled : FVec Ideal S8192x1024 .f32 := side (mean0 (col0 (proj x g wi))) (mean1 (col1 (proj x g wi))) (mean2 (col2 (proj x g wi))) (mean3 (col3 (proj x g wi)))
/-- the grouped product, -/
def prod : FVec Ideal S8192x1024 .f32 := side (part0 (pooled x g wi) W) (part1 (pooled x g wi) W) (part2 (pooled x g wi) W) (part3 (pooled x g wi) W)
/-- it scaled, -/
def scaled : FVec Ideal S8192x1024 .f32 := mulf (prod x g wi W) (broadcastInDim S8192x1024 ![0, 1] bcast_S1x1024_S8192x1024_0_1 (broadcastInDim S1x1024 ![1] bcast_S1024_S1x1024_1 (shapeCast _ s shapeCasts_S1x1024_S1024)))
/-- and the layer's output. -/
def out : FVec Ideal S8192x1024 .f32 := addf x (Host.dotGeneral dot_S8192x1024_S1024x1024_S8192x1024_1_0_0_1_n_n none (scaled x g s wi W) wo)

/-- The group matrices at an index. -/
def mats (q : Fin 4) (k l : Fin 256) : EReal := W (ix3 q k l)

theorem normed_at (R : Fin 8192) (k : Fin 1024) : normed x g (ix2 R k) = hh (rows x) (rows g 0) R k := by
  unfold hh
  refine Eq.trans (b := rows (xr x) R k * rows (gains g) R k) ?_ (congrArg₂ (fun a b : EReal => a * b) (xr_at x R k) (gains_at g R k))
  unfold rows
  pointwise [normed]

theorem hidden_at (R : Fin 8192) (k : Fin 1024) : hidden x g (ix2 R k) = hh (rows x) (rows g 0) R k := by
  rw [← normed_at]
  pointwise [hidden]

theorem proj_at (R : Fin 8192) (j : Fin 1024) : proj x g wi (ix2 R j) = uu (rows x) (rows g 0) (rows wi) R j := by
  unfold uu
  refine Eq.trans (b := ∑ k, normed x g (ix2 R k) * rows wi k j) ?_ (Finset.sum_congr rfl fun k _ => congrArg (fun b : EReal => b * rows wi k j) (normed_at x g R k))
  unfold rows
  pointwise [proj]

section
variable (hx : ∀ i k, IsReal (rows x i k)) (hg : ∀ i k, IsReal (rows g i k)) (hwi : ∀ i k, IsReal (rows wi i k))
include hx hg hwi

theorem proj_real (R : Fin 8192) (j : Fin 1024) : IsReal (proj x g wi (ix2 R j) : EReal) := by
  rw [proj_at]
  exact .sum _ fun k => .mul (.mul (.mul (hx _ _) (Cert.FfnRef.rinv_real x hx R)) (hg _ _)) (hwi _ _)

theorem pooled_0 (R : Fin 8192) (l : Fin 256) : pooled x g wi (ix2 R (lane 0 l)) = pp (rows x) (rows g 0) (rows wi) R 0 l := by
  have e : ∀ R', col0 (proj x g wi) (ix2 R' l) = uu (rows x) (rows g 0) (rows wi) R' (lane 0 l) := fun R' => (col0_at R' l _).trans (proj_at x g wi R' _)
  refine (side_0 _ _ _ _ R l).trans ((mean0_at _ R l fun R' => ?_).trans ?_)
  · rw [col0_at]
    exact proj_real x g wi hx hg hwi R' _
  · rw [show (fun R' => (col0 (proj x g wi) (ix2 R' l) : EReal)) = fun R' => uu (rows x) (rows g 0) (rows wi) R' (lane 0 l) from funext e, e]
    rfl

theorem pooled_1 (R : Fin 8192) (l : Fin 256) : pooled x g wi (ix2 R (lane 1 l)) = pp (rows x) (rows g 0) (rows wi) R 1 l := by
  have e : ∀ R', col1 (proj x g wi) (ix2 R' l) = uu (rows x) (rows g 0) (rows wi) R' (lane 1 l) := fun R' => (col1_at R' l _).trans (proj_at x g wi R' _)
  refine (side_1 _ _ _ _ R l).trans ((mean1_at _ R l fun R' => ?_).trans ?_)
  · rw [col1_at]
    exact proj_real x g wi hx hg hwi R' _
  · rw [show (fun R' => (col1 (proj x g wi) (ix2 R' l) : EReal)) = fun R' => uu (rows x) (rows g 0) (rows wi) R' (lane 1 l) from funext e, e]
    rfl

theorem pooled_2 (R : Fin 8192) (l : Fin 256) : pooled x g wi (ix2 R (lane 2 l)) = pp (rows x) (rows g 0) (rows wi) R 2 l := by
  have e : ∀ R', col2 (proj x g wi) (ix2 R' l) = uu (rows x) (rows g 0) (rows wi) R' (lane 2 l) := fun R' => (col2_at R' l _).trans (proj_at x g wi R' _)
  refine (side_2 _ _ _ _ R l).trans ((mean2_at _ R l fun R' => ?_).trans ?_)
  · rw [col2_at]
    exact proj_real x g wi hx hg hwi R' _
  · rw [show (fun R' => (col2 (proj x g wi) (ix2 R' l) : EReal)) = fun R' => uu (rows x) (rows g 0) (rows wi) R' (lane 2 l) from funext e, e]
    rfl

theorem pooled_3 (R : Fin 8192) (l : Fin 256) : pooled x g wi (ix2 R (lane 3 l)) = pp (rows x) (rows g 0) (rows wi) R 3 l := by
  have e : ∀ R', col3 (proj x g wi) (ix2 R' l) = uu (rows x) (rows g 0) (rows wi) R' (lane 3 l) := fun R' => (col3_at R' l _).trans (proj_at x g wi R' _)
  refine (side_3 _ _ _ _ R l).trans ((mean3_at _ R l fun R' => ?_).trans ?_)
  · rw [col3_at]
    exact proj_real x g wi hx hg hwi R' _
  · rw [show (fun R' => (col3 (proj x g wi) (ix2 R' l) : EReal)) = fun R' => uu (rows x) (rows g 0) (rows wi) R' (lane 3 l) from funext e, e]
    rfl

theorem pooled_at (R : Fin 8192) (q : Fin 4) (l : Fin 256) : pooled x g wi (ix2 R (lane q l)) = pp (rows x) (rows g 0) (rows wi) R q l := by
  fin_cases q
  · exact pooled_0 x g wi hx hg hwi R l
  · exact pooled_1 x g wi hx hg hwi R l
  · exact pooled_2 x g wi hx hg hwi R l
  · exact pooled_3 x g wi hx hg hwi R l

theorem prod_at (R : Fin 8192) (q : Fin 4) (l : Fin 256) : prod x g wi W (ix2 R (lane q l)) = zzr (rows x) (rows g 0) (rows wi) (mats W) R q l := by
  unfold zzr
  refine Eq.trans (b := ∑ k, pooled x g wi (ix2 R (lane q k)) * W (ix3 q k l)) ?_
    (Finset.sum_congr rfl fun k _ => congrArg (fun b : EReal => b * W (ix3 q k l)) (pooled_at x g wi hx hg hwi R q k))
  fin_cases q
  · exact (side_0 _ _ _ _ R l).trans (part0_at R l _ W)
  · exact (side_1 _ _ _ _ R l).trans (part1_at R l _ W)
  · exact (side_2 _ _ _ _ R l).trans (part2_at R l _ W)
  · exact (side_3 _ _ _ _ R l).trans (part3_at R l _ W)

theorem scaled_at (R : Fin 8192) (q : Fin 4) (l : Fin 256) : scaled x g s wi W (ix2 R (lane q l)) = zz (rows x) (rows g 0) (rows s 0) (rows wi) (mats W) R q l := by
  unfold zz
  rw [← prod_at x g wi W hx hg hwi]
  unfold rows
  pointwise [scaled]

theorem out_at (R : Fin 8192) (j : Fin 1024) : out x g s wi wo W (ix2 R j) = xxo (rows x) (rows g 0) (rows s 0) (rows wi) (rows wo) (mats W) R j := by
  unfold xxo
  refine Eq.trans (b := rows x R j + ∑ k, scaled x g s wi W (ix2 R k) * rows wo k j) ?_
    (congrArg (fun b : EReal => rows x R j + b) (Finset.sum_congr rfl fun k _ => congrArg (fun b : EReal => b * rows wo k j) ?_))
  · unfold rows
    pointwise [out]
  · rw [← lane_grp_lin k, scaled_at x g s wi W hx hg hwi, grp_lane, lin_lane]
end

end

end Cert.PoolFwdRef

end
-- ==== Proof.PoolFwdEquation.lean ====
/- The pooling layer's forward arrays are its reference's, where the first product's factors are real. -/
module

public import proofs.«01_k».proof.Proof.PoolFwdValue
public import proofs.«01_k».proof.Proof.PoolFwdRef
public import proofs.«01_k».proof.Proof.Finite
public import proofs.«01_k».proof.Proof.Gen.Pre_finite_pool_args

@[expose] public section

set_option maxRecDepth 16384

noncomputable section

namespace Cert.PoolFwdEq

open Idealize.ShloMosaic Idealize.ShloMosaic.TcCoe Idealize.SL.Sem Cert.Grad
open Cert.FfnRef (rows)
open Cert.PoolFwdRef (hidden proj pooled prod scaled out mats hidden_at pooled_at prod_at scaled_at out_at)
open Cert.PoolFwd (aX aG aWi aWg aS aWo array6 array7 array8 array9 array10)

section
open Cert.PoolFwdReferenceIdeal Cert.PoolFwdReferenceIdeal.Gen Cert.PoolFwdReferenceIdeal.Value

variable (m : (ℓ : Loc nD τ sig) → Buf (Elt Ideal) ℓ) (c : Dev nD)

/-! The reference's results, named. -/
theorem res102 : res_main_v102 m c = truncf .bf16 (pooled (m ((c.tc : Thread nD τ).loc main_arg0)) (m ((c.tc : Thread nD τ).loc main_arg1)) (m ((c.tc : Thread nD τ).loc main_arg2))) bitsLt_bf16_f32 := rfl
theorem res103 : res_main_v103 m c = truncf .bf16 (prod (m ((c.tc : Thread nD τ).loc main_arg0)) (m ((c.tc : Thread nD τ).loc main_arg1)) (m ((c.tc : Thread nD τ).loc main_arg2)) (m ((c.tc : Thread nD τ).loc main_arg3))) bitsLt_bf16_f32 := rfl
theorem res104 : res_main_v104 m c = truncf .bf16 (scaled (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg3))) bitsLt_bf16_f32 := rfl
theorem res106 : res_main_v106 m c = out (m ((c.tc : Thread nD τ).loc main_arg0)) (m ((c.tc : Thread nD τ).loc main_arg1)) (m ((c.tc : Thread nD τ).loc main_arg4)) (m ((c.tc : Thread nD τ).loc main_arg2)) (m ((c.tc : Thread nD τ).loc main_arg5)) (m ((c.tc : Thread nD τ).loc main_arg3)) := rfl
end

instance : Subsingleton Cert.Pre_finite_pool_args.S_.Idx := ⟨fun a b => funext fun i => i.elim0⟩

/-- The precondition, read. -/
theorem finite_args (a0 : FVec Ideal Cert.Pre_finite_pool_args.S8192x1024 .f32) (a1 : FVec Ideal Cert.Pre_finite_pool_args.S1x1024 .f32) (a2 : FVec Ideal Cert.Pre_finite_pool_args.S1024x1024 .f32)
    (a3 : FVec Ideal Cert.Pre_finite_pool_args.S4x256x256 .f32) (a4 : FVec Ideal Cert.Pre_finite_pool_args.S1x1024 .f32) (a5 : FVec Ideal Cert.Pre_finite_pool_args.S1024x1024 .f32)
    (h : Cert.Pre_finite_pool_args.fn (F := Ideal) a0 a1 a2 a3 a4 a5 = fun _ => 1#1) :
    (∀ i, IsReal (a0 i : EReal)) ∧ (∀ i, IsReal (a1 i : EReal)) ∧ (∀ i, IsReal (a2 i : EReal)) := by
  have h' := congrFun h (fun i => i.elim0)
  unfold Cert.Pre_finite_pool_args.fn at h'
  dsimp only [andi] at h'
  simp only [IntOp.andi_eq_one] at h'
  obtain ⟨⟨h0, h1⟩, h2⟩ := h'
  exact ⟨real_of_all a0 _ (fun _ => rfl) _ _ _ _ h0, real_of_all a1 _ (fun _ => rfl) _ _ _ _ h1, real_of_all a2 _ (fun _ => rfl) _ _ _ _ h2⟩

variable (m : (ℓ : Loc Cert.PoolFwdIdeal.nD Cert.PoolFwdIdeal.τ Cert.PoolFwdIdeal.sig) → Buf (Elt Ideal) ℓ) (c : Dev Cert.PoolFwdIdeal.nD)

/-- The kernel's arguments. -/
def A0 : FVec Ideal Cert.PoolFwdReferenceIdeal.S8192x1024 .f32 := m ((c.tc : Thread Cert.PoolFwdIdeal.nD Cert.PoolFwdIdeal.τ).loc Cert.PoolFwdIdeal.main_arg0)
def A1 : FVec Ideal Cert.PoolFwdReferenceIdeal.S1x1024 .f32 := m ((c.tc : Thread Cert.PoolFwdIdeal.nD Cert.PoolFwdIdeal.τ).loc Cert.PoolFwdIdeal.main_arg1)
def A2 : FVec Ideal Cert.PoolFwdReferenceIdeal.S1024x1024 .f32 := m ((c.tc : Thread Cert.PoolFwdIdeal.nD Cert.PoolFwdIdeal.τ).loc Cert.PoolFwdIdeal.main_arg2)
def A3 : FVec Ideal Cert.PoolFwdReferenceIdeal.S4x256x256 .f32 := m ((c.tc : Thread Cert.PoolFwdIdeal.nD Cert.PoolFwdIdeal.τ).loc Cert.PoolFwdIdeal.main_arg3)
def A4 : FVec Ideal Cert.PoolFwdReferenceIdeal.S1x1024 .f32 := m ((c.tc : Thread Cert.PoolFwdIdeal.nD Cert.PoolFwdIdeal.τ).loc Cert.PoolFwdIdeal.main_arg4)
def A5 : FVec Ideal Cert.PoolFwdReferenceIdeal.S1024x1024 .f32 := m ((c.tc : Thread Cert.PoolFwdIdeal.nD Cert.PoolFwdIdeal.τ).loc Cert.PoolFwdIdeal.main_arg5)

/-- The kernel's arrays are the reference's. -/
theorem eqs (a0 : FVec Ideal Cert.PoolFwdReferenceIdeal.S8192x1024 .f32) (a1 : FVec Ideal Cert.PoolFwdReferenceIdeal.S1x1024 .f32) (a2 : FVec Ideal Cert.PoolFwdReferenceIdeal.S1024x1024 .f32)
    (a3 : FVec Ideal Cert.PoolFwdReferenceIdeal.S4x256x256 .f32) (a4 : FVec Ideal Cert.PoolFwdReferenceIdeal.S1x1024 .f32) (a5 : FVec Ideal Cert.PoolFwdReferenceIdeal.S1024x1024 .f32)
    (h : a0 = A0 m c ∧ a1 = A1 m c ∧ a2 = A2 m c ∧ a3 = A3 m c ∧ a4 = A4 m c ∧ a5 = A5 m c)
    (hpre : Cert.Pre_finite_pool_args.fn (F := Ideal) (A0 m c) (A1 m c) (A2 m c) (A3 m c) (A4 m c) (A5 m c) = fun _ => 1#1) :
    hidden a0 a1 = (Cert.PoolFwdIdeal.Gen.dats m 0 c).arrAt 6 Cert.PoolFwdIdeal.cfg0.N
      ∧ truncf .bf16 (pooled a0 a1 a2) Cert.PoolFwdReferenceIdeal.Gen.bitsLt_bf16_f32 = (Cert.PoolFwdIdeal.Gen.dats m 0 c).arrAt 7 Cert.PoolFwdIdeal.cfg0.N
      ∧ truncf .bf16 (prod a0 a1 a2 a3) Cert.PoolFwdReferenceIdeal.Gen.bitsLt_bf16_f32 = (Cert.PoolFwdIdeal.Gen.dats m 0 c).arrAt 8 Cert.PoolFwdIdeal.cfg0.N
      ∧ truncf .bf16 (scaled a0 a1 a4 a2 a3) Cert.PoolFwdReferenceIdeal.Gen.bitsLt_bf16_f32 = (Cert.PoolFwdIdeal.Gen.dats m 0 c).arrAt 9 Cert.PoolFwdIdeal.cfg0.N
      ∧ out a0 a1 a4 a2 a5 a3 = (Cert.PoolFwdIdeal.Gen.dats m 0 c).arrAt 10 Cert.PoolFwdIdeal.cfg0.N := by
  obtain ⟨rfl, rfl, rfl, rfl, rfl, rfl⟩ := h
  obtain ⟨h0, h1, h2⟩ := finite_args _ _ _ _ _ _ hpre
  have hx : ∀ i k, IsReal (rows (A0 m c) i k) := fun _ _ => h0 _
  have hg : ∀ i k, IsReal (rows (A1 m c) i k) := fun _ _ => h1 _
  have hw : ∀ i k, IsReal (rows (A2 m c) i k) := fun _ _ => h2 _
  rw [array6, array7, array8, array9, array10]
  refine ⟨?_, ?_, ?_, ?_, ?_⟩ <;> funext j <;> idx_vars j
  · exact hidden_at _ _ _ _
  · have e := pooled_at _ _ _ hx hg hw j0 (grp j1) (lin j1)
    rw [lane_grp_lin] at e
    exact e
  · have e := prod_at _ _ _ (A3 m c) hx hg hw j0 (grp j1) (lin j1)
    rw [lane_grp_lin] at e
    exact e
  · have e := scaled_at _ _ (A4 m c) _ (A3 m c) hx hg hw j0 (grp j1) (lin j1)
    rw [lane_grp_lin] at e
    exact e
  · exact out_at _ _ (A4 m c) _ (A5 m c) (A3 m c) hx hg hw j0 j1

end Cert.PoolFwdEq

end
-- ==== Proof.LossValue.lean ====
/- What the loss head's kernel leaves: point `t` works on tile `t` of the rows. -/
module

public import proofs.«01_k».proof.Proof.RefNorm
public import proofs.«01_k».proof.Proof.Stores
public import proofs.«01_k».proof.Proof.Gen.LossIdeal.Value

@[expose] public section

set_option maxRecDepth 16384

noncomputable section

namespace Cert.Grad

open Idealize.ShloMosaic

/-- How far a normalised and weighted row is from its target, -/
def miss {m : ℕ} (x : Fin m → Fin 1024 → EReal) (g : Fin 1024 → EReal) (t : Fin m → Fin 1024 → EReal) (i : Fin m) (k : Fin 1024) : EReal :=
  x i k * rinv x i * g k - t i k

/-- the mean of its square over the row, -/
def missMean {m : ℕ} (x : Fin m → Fin 1024 → EReal) (g : Fin 1024 → EReal) (t : Fin m → Fin 1024 → EReal) (i : Fin m) : EReal :=
  Ideal.div (∑ k, miss x g t i k * miss x g t i k) (Ideal.ofBits FTy.f32 1149239296#32)

/-- and the loss' cotangent of the row. -/
def missGrad {m : ℕ} (x : Fin m → Fin 1024 → EReal) (g : Fin 1024 → EReal) (t : Fin m → Fin 1024 → EReal) (i : Fin m) (k : Fin 1024) : EReal :=
  miss x g t i k * Ideal.ofBits FTy.f32 981467136#32

end Cert.Grad

namespace Cert.LossHead

open Idealize.ShloMosaic Idealize.ShloMosaic.TcCoe Idealize.SL.Sem Cert.Grad
open Idealize.ShloMosaic.Pipeline (Dat)
open Cert.LossIdeal Cert.LossIdeal.Gen

/-- A block's rows. -/
def tab {n k : ℕ} (a : FVec Ideal ⟨2, ![n, k]⟩ .f32) (i : Fin n) (j : Fin k) : EReal := a (ix2 i j)

section
variable (x : Vec Ideal S512x1024 .f32) (g : Vec Ideal S1x1024 .f32) (t : Vec Ideal S512x1024 .f32)

theorem pay7_at (r : Fin 512) (k : Fin 1024) : k0_pay7 (F := Ideal) x g t (ix2 r k) = miss (tab x) (tab g 0) (tab t) r k := by
  unfold miss rinv tab
  pointwise [k0_pay7]

theorem pay9_at (r : Fin 512) (k : Fin 1024) : k0_pay9 (F := Ideal) x g t (ix2 r k) = missGrad (tab x) (tab g 0) (tab t) r k := by
  unfold missGrad
  rw [← pay7_at]
  pointwise [k0_pay9]

theorem pay8_at (v : Vec Ideal S1x1 .f32) :
    k0_pay8 (F := Ideal) x g t v (ix2 0 0) = v (ix2 0 0) + Ideal.ofBits FTy.f32 1056964608#32 * ∑ r, missMean (tab x) (tab g 0) (tab t) r := by
  refine Eq.trans (b := (v (ix2 0 0) : EReal) + Ideal.ofBits FTy.f32 1056964608#32 * ∑ r : Fin 512, Ideal.div (∑ k : Fin 1024,
    (show EReal from k0_pay7 (F := Ideal) x g t (ix2 r k)) * (show EReal from k0_pay7 (F := Ideal) x g t (ix2 r k))) (Ideal.ofBits FTy.f32 1149239296#32)) ?_ ?_
  · pointwise [k0_pay8]
  · unfold missMean
    simp only [pay7_at]

theorem pay3_at (d : FVec Ideal S512x1024 .f32) (r : Fin 512) (j : Fin 1024) :
    k0_pay3 (F := Ideal) x g d (k0_pay10 x) (ix2 r j) = rmsDx (tab d) (tab x) (tab g 0) r j := by
  unfold rmsDx rinv tab
  pointwise [k0_pay3, k0_pay2, k0_pay1, k0_pay10]

theorem pay4_at (d : FVec Ideal S512x1024 .f32) (v : Vec Ideal S1x1024 .f32) (j : Fin 1024) :
    k0_pay4 (F := Ideal) x d (k0_pay10 x) v (ix2 0 j) = v (ix2 0 j) + rmsDg (tab d) (tab x) j := by
  unfold rmsDg rinv tab
  pointwise [k0_pay4, k0_pay2, k0_pay1, k0_pay10]
end

theorem pay5_at (u : Fin 1) (j : Fin 1024) : (k0_pay5 (F := Ideal) (ix2 u j) : EReal) = 0 := by
  pointwise [k0_pay5]

theorem pay6_at (u j : Fin 1) : (k0_pay6 (F := Ideal) (ix2 u j) : EReal) = 0 := by
  pointwise [k0_pay6]

variable (m : (ℓ : Loc nD τ sig) → Buf (Elt Ideal) ℓ) (c : Dev nD)

/-- Row `r` of tile `b`. -/
def row (b : Fin 16) (r : Fin 512) : Fin 8192 := ⟨b.val * 512 + r.val, by omega⟩

/-- The point's tile. -/
def tile (t : Fin cfg0.N) : Fin 16 := ⟨t.val, lt_of_lt_of_eq t.isLt N_0⟩

/-- The last layer's output, -/
def aX (i : Fin 8192) (k : Fin 1024) : EReal := (m ((c : Thread nD τ).loc main_arg0) : S8192x1024.Idx → EReal) (ix2 i k)
/-- the norm's gains, -/
def aG (k : Fin 1024) : EReal := (m ((c : Thread nD τ).loc main_arg1) : S1x1024.Idx → EReal) (ix2 0 k)
/-- and the targets. -/
def aT (i : Fin 8192) (k : Fin 1024) : EReal := (m ((c : Thread nD τ).loc main_arg2) : S8192x1024.Idx → EReal) (ix2 i k)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] := by decide +kernel

section
variable (t : Fin cfg0.N)
theorem blk0 : tab (iblk m c 0 t : Vec Ideal S512x1024 .f32) = fun r => aX m c (row (tile t) r) := by
  funext r k
  unfold tab aX row tile; blk_point [iblk, V, idx t]
theorem blk1 : tab (iblk m c 1 t : Vec Ideal S1x1024 .f32) 0 = aG m c := by
  funext k
  unfold tab aG; blk_point [iblk, V, idx t]
theorem blk2 : tab (iblk m c 2 t : Vec Ideal S512x1024 .f32) = fun r => aT m c (row (tile t) r) := by
  funext r k
  unfold tab aT row tile; blk_point [iblk, V, idx t]

theorem cot_tile : tab (k0_pay9 (F := Ideal) (iblk m c 0 t) (iblk m c 1 t) (iblk m c 2 t)) = fun r => missGrad (aX m c) (aG m c) (aT m c) (row (tile t) r) := by
  funext r k
  refine (pay9_at _ _ _ r k).trans ?_
  rw [blk0, blk1, blk2]
  rfl

theorem dx_of (r : Fin 512) (j : Fin 1024) :
    k0_pay3 (F := Ideal) (iblk m c 0 t) (iblk m c 1 t) (k0_pay9 (iblk m c 0 t) (iblk m c 1 t) (iblk m c 2 t)) (k0_pay10 (iblk m c 0 t)) (ix2 r j)
      = rmsDx (missGrad (aX m c) (aG m c) (aT m c)) (aX m c) (aG m c) (row (tile t) r) j := by
  refine (pay3_at _ _ _ r j).trans ?_
  rw [cot_tile, blk0, blk1]
  rfl

/-- A tile's share of the gains' gradient, -/
def dnPart (b : Fin 16) (j : Fin 1024) : EReal :=
  ∑ r, missGrad (aX m c) (aG m c) (aT m c) (row b r) j * (aX m c (row b r) j * rinv (aX m c) (row b r))

/-- and of the loss. -/
def lossPart (b : Fin 16) : EReal := Ideal.ofBits FTy.f32 1056964608#32 * ∑ r, missMean (aX m c) (aG m c) (aT m c) (row b r)

theorem dn_of (v : Vec Ideal S1x1024 .f32) (j : Fin 1024) :
    k0_pay4 (F := Ideal) (iblk m c 0 t) (k0_pay9 (iblk m c 0 t) (iblk m c 1 t) (iblk m c 2 t)) (k0_pay10 (iblk m c 0 t)) v (ix2 0 j)
      = v (ix2 0 j) + dnPart m c (tile t) j := by
  refine (pay4_at _ _ v j).trans ?_
  rw [cot_tile, blk0]
  rfl

theorem loss_of (v : Vec Ideal S1x1 .f32) :
    k0_pay8 (F := Ideal) (iblk m c 0 t) (iblk m c 1 t) (iblk m c 2 t) v (ix2 0 0) = v (ix2 0 0) + lossPart m c (tile t) := by
  refine (pay8_at _ _ _ v).trans ?_
  rw [blk0, blk1, blk2]
  rfl

theorem dx_tile (r : Fin 512) (j : Fin 1024) :
    ((outsAt0 m c t.val t.isLt).1 (ix2 r j) : EReal) = rmsDx (missGrad (aX m c) (aG m c) (aT m c)) (aX m c) (aG m c) (row (tile t) r) j := by
  by_cases h0 : t.val % 16 = 0
  · rw [outsAt0_A m c t h0]
    frame_out
    exact dx_of m c t r j
  · rw [outsAt0_B m c t h0]
    frame_out
    exact dx_of m c t r j

theorem dn_first (h0 : t.val % 16 = 0) (j : Fin 1024) : ((outsAt0 m c t.val t.isLt).2.1 (ix2 0 j) : EReal) = 0 + dnPart m c (tile t) j := by
  rw [outsAt0_A m c t h0]
  frame_out
  refine (dn_of m c t _ j).trans (congrArg (· + _) ?_)
  exact pay5_at 0 j

theorem dn_next (h0 : ¬ t.val % 16 = 0) (j : Fin 1024) : ((outsAt0 m c t.val t.isLt).2.1 (ix2 0 j) : EReal)
    = ((outsAt0 m c (t.val - 1) (Nat.lt_of_le_of_lt (Nat.sub_le _ _) t.isLt)).2.1 (ix2 0 j) : EReal) + dnPart m c (tile t) j := by
  rw [outsAt0_B m c t h0]
  frame_out
  exact dn_of m c t _ j

theorem loss_first (h0 : t.val % 16 = 0) : ((outsAt0 m c t.val t.isLt).2.2 (ix2 0 0) : EReal) = 0 + lossPart m c (tile t) := by
  rw [outsAt0_A m c t h0]
  frame_out
  refine (loss_of m c t _).trans (congrArg (· + _) ?_)
  exact pay6_at 0 0

theorem loss_next (h0 : ¬ t.val % 16 = 0) : ((outsAt0 m c t.val t.isLt).2.2 (ix2 0 0) : EReal)
    = ((outsAt0 m c (t.val - 1) (Nat.lt_of_le_of_lt (Nat.sub_le _ _) t.isLt)).2.2 (ix2 0 0) : EReal) + lossPart m c (tile t) := by
  rw [outsAt0_B m c t h0]
  frame_out
  exact loss_of m c t _
end

/-- The points' tiles are all the tiles. -/
theorem sum_points (f : Fin 16 → EReal) : (∑ t : Fin cfg0.N, f (tile t)) = ∑ b, f b :=
  Fintype.sum_equiv (finCongr N_0) _ _ fun t => congrArg f (Fin.ext rfl)

theorem sum_rows (f : Fin 8192 → EReal) : (∑ b, ∑ r, f (row b r)) = ∑ R, f R :=
  (Fin.sum_univ_tiles 16 512 (by norm_num) f).symm

/-- The last point. -/
def ptLast : Fin cfg0.N := ⟨15, lt_of_lt_of_eq (by norm_num) N_0.symm⟩

theorem dn_last (j : Fin 1024) : ((outsAt0 m c ptLast.val ptLast.isLt).2.1 (ix2 0 j) : EReal) = rmsDg (missGrad (aX m c) (aG m c) (aT m c)) (aX m c) j := by
  refine (Pipeline.eq_sum_fin_of_reset_step_last (fun n h => ((outsAt0 m c n h).2.1 (ix2 0 j) : EReal)) 16 0 (fun t => dnPart m c (tile t) j)
    (fun t h => dn_first m c t h j) (fun t h => dn_next m c t h j) (le_of_eq N_0) ptLast rfl).trans ?_
  refine (zero_add _).trans ((sum_points fun b => dnPart m c b j).trans ?_)
  exact sum_rows fun R => missGrad (aX m c) (aG m c) (aT m c) R j * (aX m c R j * rinv (aX m c) R)

theorem loss_last : ((outsAt0 m c ptLast.val ptLast.isLt).2.2 (ix2 0 0) : EReal) = ∑ b, lossPart m c b := by
  refine (Pipeline.eq_sum_fin_of_reset_step_last (fun n h => ((outsAt0 m c n h).2.2 (ix2 0 0) : EReal)) 16 0 (fun t => lossPart m c (tile t))
    (fun t h => loss_first m c t h) (fun t h => loss_next m c t h) (le_of_eq N_0) ptLast rfl).trans ?_
  exact (zero_add _).trans (sum_points fun b => lossPart m c b)

/-! The result arrays. -/

theorem array3 : (dats m 0 c).arrAt 3 cfg0.N = fun j : S8192x1024.Idx => rmsDx (missGrad (aX m c) (aG m c) (aT m c)) (aX m c) (aG m c) (j 0) (j 1) := by
  refine (dats m 0 c).arrAt_eq_of_covers 3 _ (by decide +kernel) fun t _ y => ?_
  blk_simp
  rw [after0_3]
  idx_vars y
  refine (dx_tile m c t _ _).trans ?_
  refine congrArg₂ (rmsDx (missGrad (aX m c) (aG m c) (aT m c)) (aX m c) (aG m c)) (Fin.ext ?_) (Fin.ext ?_)
  · blk_simp [idx t]
    unfold row tile
    dsimp only [Matrix.cons_val_zero]
    try omega
  · blk_simp [idx t]

theorem array4 : (dats m 0 c).arrAt 4 cfg0.N = fun j : S1x1024.Idx => rmsDg (missGrad (aX m c) (aG m c) (aT m c)) (aX m c) (j 1) := by
  refine (dats m 0 c).arrAt_eq_of_after_last 4 ptLast (by decide +kernel) _ fun j => ?_
  blk_simp
  rw [after0_4]
  idx_vars j
  have e : j0 = 0 := Subsingleton.elim (α := Fin 1) _ _
  rw [e]
  exact dn_last m c _

theorem array5 : (dats m 0 c).arrAt 5 cfg0.N = fun j : S1x1.Idx => ∑ b, lossPart m c b := by
  refine (dats m 0 c).arrAt_eq_of_after_last 5 ptLast (by decide +kernel) _ fun j => ?_
  blk_simp
  rw [after0_5]
  idx_vars j
  have e : j0 = 0 := Subsingleton.elim (α := Fin 1) _ _
  have e' : j1 = 0 := Subsingleton.elim (α := Fin 1) _ _
  rw [e, e']
  exact loss_last m c

end Cert.LossHead

end
-- ==== Proof.RmsAny.lean ====
/- The gradient of the root-mean-square normalisation, two ways, at any extended reals. -/
module

public import proofs.«01_k».proof.Proof.RefNorm

@[expose] public section

set_option maxRecDepth 16384

noncomputable section

namespace Cert.Grad

open Idealize.ShloMosaic

/-- The first summand of a real sum is real, -/
theorem IsReal.of_add {a b : EReal} (h : IsReal (a + b)) : IsReal a := by
  obtain ⟨r, hr⟩ := h
  induction a with
  | bot => rw [EReal.bot_add] at hr; exact absurd hr.symm (EReal.coe_ne_bot r)
  | coe a => exact ⟨a, rfl⟩
  | top =>
    induction b with
    | bot => rw [EReal.add_bot] at hr; exact absurd hr.symm (EReal.coe_ne_bot r)
    | coe b => rw [EReal.top_add_coe] at hr; exact absurd hr.symm (EReal.coe_ne_top r)
    | top => rw [EReal.top_add_top] at hr; exact absurd hr.symm (EReal.coe_ne_top r)

/-- and so is every term. -/
theorem IsReal.of_sum {ι : Type} [Fintype ι] {f : ι → EReal} (h : IsReal (∑ i, f i)) (i : ι) : IsReal (f i) := by
  classical
  rw [← Finset.add_sum_erase _ _ (Finset.mem_univ i)] at h
  exact h.of_add

/-- A factor whose product with a real other than zero is real. -/
theorem IsReal.of_mul {x : ℝ} (hx : x ≠ 0) {d : EReal} (h : IsReal ((x : EReal) * d)) : IsReal d := by
  obtain ⟨r, hr⟩ := h
  induction d with
  | coe d => exact ⟨d, rfl⟩
  | bot =>
    rcases lt_or_gt_of_ne hx with h | h
    · rw [EReal.coe_mul_bot_of_neg h] at hr; exact absurd hr.symm (EReal.coe_ne_top r)
    · rw [EReal.coe_mul_bot_of_pos h] at hr; exact absurd hr.symm (EReal.coe_ne_bot r)
  | top =>
    rcases lt_or_gt_of_ne hx with h | h
    · rw [EReal.coe_mul_top_of_neg h] at hr; exact absurd hr.symm (EReal.coe_ne_bot r)
    · rw [EReal.coe_mul_top_of_pos h] at hr; exact absurd hr.symm (EReal.coe_ne_top r)

/-- A number whose square is real. -/
theorem IsReal.of_square {a : EReal} (h : IsReal (a * a)) : IsReal a := by
  obtain ⟨r, hr⟩ := h
  induction a with
  | coe a => exact ⟨a, rfl⟩
  | bot => rw [EReal.bot_mul_bot] at hr; exact absurd hr.symm (EReal.coe_ne_top r)
  | top => rw [EReal.top_mul_top] at hr; exact absurd hr.symm (EReal.coe_ne_top r)

/-- A real factor that is not negative goes into a sum. -/
theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- One entry: `S` is the row's sum, `d` the entry's cotangent. -/
theorem rms_entry (x r a b : ℝ) (S d : EReal) (hr : 0 < r) (ha : 0 < a) (hb : b < 0) (hab : 2 * b = -(r * r * r * a)) (h : IsReal S → x ≠ 0 → IsReal d) :
    (r : EReal) * (d - (x : EReal) * r * (S * r * a)) = d * r + x * (S * b) + S * b * x := by
  rcases eq_or_ne x 0 with rfl | hx
  · simp [mul_comm]
  induction S with
  | coe S =>
    obtain ⟨d, rfl⟩ := h (.coe S) hx
    simp only [← EReal.coe_mul, ← EReal.coe_sub, ← EReal.coe_add]
    congr 1
    linear_combination x * S * (-1) * hab
  | top =>
    rw [EReal.top_mul_coe_of_pos hr, EReal.top_mul_coe_of_pos ha, EReal.top_mul_coe_of_neg hb, ← EReal.coe_mul]
    rcases lt_or_gt_of_ne hx with h | h
    · rw [EReal.coe_mul_top_of_neg (mul_neg_of_neg_of_pos h hr), EReal.coe_mul_bot_of_neg h, EReal.bot_mul_coe_of_neg h]
      induction d with
      | bot => simp [hr, EReal.coe_mul_bot_of_pos, EReal.bot_mul_coe_of_pos]
      | coe d => rw [EReal.coe_sub_bot, EReal.coe_mul_top_of_pos hr, ← EReal.coe_mul, EReal.coe_add_top, EReal.top_add_top]
      | top => rw [EReal.top_sub_bot, EReal.coe_mul_top_of_pos hr, EReal.top_mul_coe_of_pos hr, EReal.top_add_top, EReal.top_add_top]
    · rw [EReal.coe_mul_top_of_pos (mul_pos h hr), EReal.coe_mul_bot_of_pos h, EReal.bot_mul_coe_of_pos h, sub_eq_add_neg, EReal.neg_top, EReal.add_bot, EReal.add_bot,
        EReal.coe_mul_bot_of_pos hr]
  | bot =>
    rw [EReal.bot_mul_coe_of_pos hr, EReal.bot_mul_coe_of_pos ha, EReal.bot_mul_coe_of_neg hb, ← EReal.coe_mul]
    rcases lt_or_gt_of_ne hx with h | h
    · rw [EReal.coe_mul_bot_of_neg (mul_neg_of_neg_of_pos h hr), EReal.coe_mul_top_of_neg h, EReal.top_mul_coe_of_neg h, sub_eq_add_neg, EReal.neg_top, EReal.add_bot, EReal.add_bot,
        EReal.coe_mul_bot_of_pos hr]
    · rw [EReal.coe_mul_bot_of_pos (mul_pos h hr), EReal.coe_mul_top_of_pos h, EReal.top_mul_coe_of_pos h]
      induction d with
      | bot => simp [hr, EReal.coe_mul_bot_of_pos, EReal.bot_mul_coe_of_pos]
      | coe d => rw [EReal.coe_sub_bot, EReal.coe_mul_top_of_pos hr, ← EReal.coe_mul, EReal.coe_add_top, EReal.top_add_top]
      | top => rw [EReal.top_sub_bot, EReal.coe_mul_top_of_pos hr, EReal.top_mul_coe_of_pos hr, EReal.top_add_top, EReal.top_add_top]

/-- A row's mean square plus the small constant is a positive real, the row real, or the top element. -/
theorem mean_square_any {n : ℕ} (X : Fin n → EReal) :
    (∃ v : ℝ, 0 < v ∧ Ideal.div (∑ k, X k * X k) (Ideal.ofBits FTy.f32 1149239296#32) + Ideal.ofBits FTy.f32 897988541#32 = (v : EReal) ∧ ∀ k, IsReal (X k))
      ∨ Ideal.div (∑ k, X k * X k) (Ideal.ofBits FTy.f32 1149239296#32) + Ideal.ofBits FTy.f32 897988541#32 = ⊤ := by
  by_cases h : ∀ k, IsReal (X k)
  · obtain ⟨v, hv, hve⟩ := mean_square X h
    exact .inl ⟨v, hv, hve, h⟩
  · refine .inr ?_
    have h0 : (0 : EReal) ≤ ∑ k, X k * X k := Finset.sum_nonneg fun k _ => by
      generalize X k = a
      induction a with
      | bot => rw [EReal.bot_mul_bot]; exact le_top
      | coe a => rw [← EReal.coe_mul]; exact EReal.coe_nonneg.mpr (mul_self_nonneg a)
      | top => rw [EReal.top_mul_top]; exact le_top
    have ht : (∑ k, X k * X k) = ⊤ := by
      generalize hs : (∑ k, X k * X k) = s at h0
      induction s with
      | bot => exact absurd h0 (by simp)
      | coe s => exact absurd (fun k => IsReal.of_square (IsReal.of_sum ⟨s, hs⟩ k)) h
      | top => rfl
    obtain ⟨e, he, hee⟩ := bits_eps
    rw [ht, bits_1024, hee, Ideal.div_coe (by norm_num), EReal.top_mul_coe_of_pos (by norm_num), EReal.top_add_coe]

/-- The gradient of the normalisation in its input, both ways, with no condition on the cotangents `D`. -/
theorem rms_grad_any (X D : Fin 1024 → EReal) (V : EReal)
    (hV : Ideal.div (∑ k, X k * X k) (Ideal.ofBits FTy.f32 1149239296#32) + Ideal.ofBits FTy.f32 897988541#32 = V) (j : Fin 1024) :
    Ideal.rsqrt V * (D j - X j * Ideal.rsqrt V * Ideal.div (∑ k, D k * (X k * Ideal.rsqrt V)) ((1024 : ℝ) : EReal))
      = D j * Ideal.rsqrt V
        + X j * Ideal.div ((∑ k, X k * D k) * (((-(1 / 2) : ℝ) : EReal) * Ideal.div (Ideal.rsqrt V) V)) ((1024 : ℝ) : EReal)
        + Ideal.div ((∑ k, X k * D k) * (((-(1 / 2) : ℝ) : EReal) * Ideal.div (Ideal.rsqrt V) V)) ((1024 : ℝ) : EReal) * X j := by
  rcases mean_square_any X with ⟨v, hv, hve, hX⟩ | ht
  · obtain rfl : V = (v : EReal) := hV.symm.trans hve
    choose x hx using hX
    have hp : 0 < Real.sqrt v := Real.sqrt_pos.mpr hv
    have hr : 0 < (Real.sqrt v)⁻¹ := inv_pos.mpr hp
    have hi : 1 / v = (Real.sqrt v)⁻¹ * (Real.sqrt v)⁻¹ := by rw [← mul_inv, Real.mul_self_sqrt hv.le, one_div]
    rw [rsqrt_pos hv]
    simp only [hx, Ideal.div_coe (show (1024 : ℝ) ≠ 0 by norm_num), Ideal.div_coe hv.ne']
    have hS : (∑ k, D k * ((x k : EReal) * (((Real.sqrt v)⁻¹ : ℝ) : EReal))) = (∑ k, (x k : EReal) * D k) * (((Real.sqrt v)⁻¹ : ℝ) : EReal) := by
      rw [sum_mul_coe _ _ hr.le]
      exact Finset.sum_congr rfl fun k _ => by rw [← mul_assoc, mul_comm (D k)]
    rw [hS, mul_assoc (∑ k, (x k : EReal) * D k) _ (((1 / 1024 : ℝ)) : EReal), mul_assoc (∑ k, (x k : EReal) * D k) _ (((1 / 1024 : ℝ)) : EReal),
      ← mul_assoc (∑ k, (x k : EReal) * D k) (((Real.sqrt v)⁻¹ : ℝ) : EReal), ← EReal.coe_mul, ← EReal.coe_mul, ← EReal.coe_mul]
    refine rms_entry (x j) _ _ _ _ (D j) hr (by norm_num) ?_ ?_ fun hS hxj => IsReal.of_mul hxj (IsReal.of_sum hS j)
    · have : 0 < (Real.sqrt v)⁻¹ * (1 / v) := mul_pos hr (one_div_pos.mpr hv)
      nlinarith
    · rw [hi]
      ring
  · obtain rfl : V = ⊤ := hV.symm.trans ht
    have h1 : Ideal.rsqrt (⊤ : EReal) = 0 := rfl
    have h2 : Ideal.div (0 : EReal) ⊤ = 0 := by
      unfold Ideal.div
      rw [if_neg (by simp), zero_mul]
    rw [h1, h2]
    simp [Ideal.div_coe]

end Cert.Grad

end
-- ==== Proof.LossRef.lean ====
/- The loss head's reference read at an index: the loss, and its gradients in the last layer's output and the final norm's gains. -/
module

public import proofs.«01_k».proof.Proof.FfnRefAt
public import proofs.«01_k».proof.Proof.LossValue
public import proofs.«01_k».proof.Proof.RmsAny
public import proofs.«01_k».proof.Proof.Gen.LossReferenceIdeal.Run

@[expose] public section

set_option maxRecDepth 16384

noncomputable section

namespace Cert.LossRef

open Idealize.ShloMosaic Idealize.ShloMosaic.TcCoe Idealize.SL.Sem Cert.Grad
open Cert.FfnRef (rows ms xr gains ms_at xr_at gains_at)

section
open Cert.LossReferenceIdeal Cert.LossReferenceIdeal.Gen Cert.LossReferenceIdeal.Value

variable (x : FVec Ideal S8192x1024 .f32) (g : FVec Ideal S1x1024 .f32) (t : FVec Ideal S8192x1024 .f32)

/-- The normalised rows less their targets, -/
def err : FVec Ideal S8192x1024 .f32 := subf (mulf (xr x) (gains g)) t
/-- the loss' cotangent of them, -/
def cot : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) (err x g t))
/-- the same times the gains, -/
def dGain : FVec Ideal S8192x1024 .f32 := mulf (cot x g t) (gains g)
/-- and a row's share through its root. -/
def dRoot : FVec Ideal S8192x1024 .f32 :=
  broadcastInDim S8192x1024 ![0] bcast_S8192_S8192x1024_0 (Host.reduceAdd (Host.divf (mulf (shapeCast _ (Host.reduceAdd (mulf x (dGain x g t)) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (ms x)) (ms x)))) (broadcastInDim S8192x1 ![] bcast_S_S8192x1 (constant S_ .f32 0x44800000#32)))
    (constant S_ .f32 0x00000000#32) reducesTo_S8192x1_S8192_d1 h_S_)
/-- The gradient in the last layer's output, -/
def xGrad : FVec Ideal S8192x1024 .f32 :=
  addf (addf (mulf (dGain x g t) (broadcastInDim S8192x1024 ![0, 1] bcast_S8192x1_S8192x1024_0_1 (Host.rsqrt (ms x)))) (mulf x (dRoot x g t))) (mulf (dRoot x g t) x)
/-- in the gains, -/
def gGrad : FVec Ideal S1x1024 .f32 :=
  broadcastInDim S1x1024 ![1] bcast_S1024_S1x1024_1 (Host.reduceAdd (shapeCast _ (Host.reduceAdd (mulf (xr x) (cot x g t)) (constant S_ .f32 0x00000000#32) reducesTo_S8192x1024_S1024_d0 h_S_) shapeCasts_S1024_S1x1024) (constant S_ .f32 0x00000000#32) reducesTo_S1x1024_S1024_d0 h_S_)
/-- and the loss. -/
def loss : FVec Ideal S1x1 .f32 :=
  shapeCast _ (mulf (constant S_ .f32 0x3F000000#32) (Host.reduceAdd (Host.divf (Host.reduceAdd (mulf (err x g t) (err x g t)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) shapeCasts_S_S1x1

section
variable (m : (ℓ : Loc nD τ sig) → Buf (Elt Ideal) ℓ) (c : Dev nD)
theorem res51 : res_main_v51 m c = xGrad (m ((c.tc : Thread nD τ).loc main_arg0)) (m ((c.tc : Thread nD τ).loc main_arg1)) (m ((c.tc : Thread nD τ).loc main_arg2)) := rfl
end

theorem err_at (R : Fin 8192) (k : Fin 1024) : err x g t (ix2 R k) = miss (rows x) (rows g 0) (rows t) R k := by
  unfold miss
  rw [← xr_at, ← gains_at g R]
  unfold rows
  pointwise [err]

theorem bits_half' : Ideal.ofBits FTy.f32 0x3F000000#32 = (((1 / 2 : ℝ)) : EReal) := by
  simp [Ideal.ofBits, Ideal.ieee]
  rw [← EReal.coe_mul]
  norm_num
theorem bits_two : Ideal.ofBits FTy.f32 0x40000000#32 = ((2 : ℝ) : EReal) := by
  simp [Ideal.ofBits, Ideal.ieee]
  rw [← EReal.coe_mul]
  norm_num
theorem bits_unit : Ideal.ofBits FTy.f32 0x3F800000#32 = ((1 : ℝ) : EReal) := by
  simp [Ideal.ofBits, Ideal.ieee]
  rw [← EReal.coe_mul]
  norm_num
theorem bits_inv : Ideal.ofBits FTy.f32 0x3A800000#32 = ((1 / 1024 : ℝ) : EReal) := by
  simp [Ideal.ofBits, Ideal.ieee]
  rw [← EReal.coe_mul]
  norm_num

theorem cot_at (R : Fin 8192) (k : Fin 1024) : cot x g t (ix2 R k) = missGrad (rows x) (rows g 0) (rows t) R k := by
  unfold missGrad
  refine Eq.trans (b := Ideal.div (Ideal.ofBits FTy.f32 0x3F000000#32 * Ideal.ofBits FTy.f32 0x3F800000#32) (Ideal.ofBits FTy.f32 1149239296#32)
    * (Ideal.ofBits FTy.f32 0x40000000#32 * miss (rows x) (rows g 0) (rows t) R k)) ?_ ?_
  · rw [← err_at]
    pointwise [cot]
  · rw [bits_half', bits_unit, bits_1024, bits_two, Ideal.div_coe (by norm_num), ← EReal.coe_mul, ← EReal.coe_mul, ← mul_assoc, ← EReal.coe_mul, mul_comm]
    exact congrArg (_ * ·) ((congrArg ((↑) : ℝ → EReal) (by norm_num)).trans bits_inv.symm)

theorem dGain_at (R : Fin 8192) (j : Fin 1024) : dGain x g t (ix2 R j) = missGrad (rows x) (rows g 0) (rows t) R j * rows g 0 j := by
  rw [← gains_at g R, ← cot_at]
  pointwise [dGain]

theorem dRoot_at (R : Fin 8192) (j : Fin 1024) : dRoot x g t (ix2 R j)
    = Ideal.div ((∑ k, rows x R k * rows (dGain x g t) R k)
      * (Ideal.ofBits FTy.f32 0xBF000000#32 * Ideal.div (Ideal.rsqrt (ms x (ix2 R 0))) (ms x (ix2 R 0)))) (Ideal.ofBits FTy.f32 1149239296#32) := by
  unfold rows
  pointwise [dRoot]
  exact Fin.sum_univ_one (M := EReal) _

theorem gGrad_at (j : Fin 1024) : gGrad x g t (ix2 0 j) = rmsDg (missGrad (rows x) (rows g 0) (rows t)) (rows x) j := by
  unfold rmsDg
  refine Eq.trans (b := ∑ R : Fin 8192, rows (xr x) R j * rows (cot x g t) R j) ?_
    (Finset.sum_congr rfl fun R _ => (mul_comm _ _).trans (congrArg₂ (· * ·) (cot_at x g t R j) (xr_at x R j)))
  unfold rows
  pointwise [gGrad]
  exact Fin.sum_univ_one (M := EReal) _

theorem loss_at : loss x g t (ix2 0 0) = Ideal.ofBits FTy.f32 1056964608#32 * ∑ R, missMean (rows x) (rows g 0) (rows t) R := by
  refine Eq.trans (b := Ideal.ofBits FTy.f32 1056964608#32 * ∑ R : Fin 8192, Ideal.div (∑ k : Fin 1024,
    (show EReal from err x g t (ix2 R k)) * (show EReal from err x g t (ix2 R k))) (Ideal.ofBits FTy.f32 1149239296#32)) ?_ ?_
  · pointwise [loss]
  · unfold missMean
    simp only [err_at]

theorem xGrad_at (R : Fin 8192) (j : Fin 1024) : xGrad x g t (ix2 R j) = rmsDx (missGrad (rows x) (rows g 0) (rows t)) (rows x) (rows g 0) R j := by
  have hD : ∀ k, rows (dGain x g t) R k = missGrad (rows x) (rows g 0) (rows t) R k * rows g 0 k := fun k => dGain_at x g t R k
  have hr : dRoot x g t (ix2 R j)
      = Ideal.div ((∑ k, rows x R k * (missGrad (rows x) (rows g 0) (rows t) R k * rows g 0 k)) * (((-(1 / 2) : ℝ) : EReal) * Ideal.div (Ideal.rsqrt (ms x (ix2 R 0))) (ms x (ix2 R 0)))) ((1024 : ℝ) : EReal) := by
    rw [dRoot_at, bits_1024, bits_half]
    exact congrArg (fun a : EReal => Ideal.div (a * _) _) (Finset.sum_congr rfl fun k _ => congrArg (fun a : EReal => rows x R k * a) (hD k))
  have hm := rms_grad_any (rows x R) (fun k => missGrad (rows x) (rows g 0) (rows t) R k * rows g 0 k) (ms x (ix2 R 0)) (ms_at x R).symm j
  unfold rmsDx rinv
  rw [← ms_at x R, bits_1024, hm, ← hr, ← hD j]
  unfold rows
  pointwise [xGrad]

/-- A factor drawn into the tiles' sums. -/
theorem loss_tiles : (∑ b, Ideal.ofBits FTy.f32 1056964608#32 * ∑ r, missMean (rows x) (rows g 0) (rows t) (Cert.LossHead.row b r)) = loss x g t (ix2 0 0) := by
  have h : Ideal.ofBits FTy.f32 1056964608#32 = (((1 / 2 : ℝ)) : EReal) := bits_half'
  rw [loss_at, ← Cert.LossHead.sum_rows, h, mul_comm, sum_mul_coe _ _ (by norm_num)]
  exact Finset.sum_congr rfl fun b _ => mul_comm _ _
end

variable (m : (ℓ : Loc Cert.LossIdeal.nD Cert.LossIdeal.τ Cert.LossIdeal.sig) → Buf (Elt Ideal) ℓ) (c : Dev Cert.LossIdeal.nD)

/-- The kernel's arguments. -/
def A0 : FVec Ideal Cert.LossReferenceIdeal.S8192x1024 .f32 := m ((c.tc : Thread Cert.LossIdeal.nD Cert.LossIdeal.τ).loc Cert.LossIdeal.main_arg0)
def A1 : FVec Ideal Cert.LossReferenceIdeal.S1x1024 .f32 := m ((c.tc : Thread Cert.LossIdeal.nD Cert.LossIdeal.τ).loc Cert.LossIdeal.main_arg1)
def A2 : FVec Ideal Cert.LossReferenceIdeal.S8192x1024 .f32 := m ((c.tc : Thread Cert.LossIdeal.nD Cert.LossIdeal.τ).loc Cert.LossIdeal.main_arg2)

/-- The kernel's arrays are the reference's. -/
theorem eqs (a0 : FVec Ideal Cert.LossReferenceIdeal.S8192x1024 .f32) (a1 : FVec Ideal Cert.LossReferenceIdeal.S1x1024 .f32) (a2 : FVec Ideal Cert.LossReferenceIdeal.S8192x1024 .f32)
    (h : a0 = A0 m c ∧ a1 = A1 m c ∧ a2 = A2 m c) :
    xGrad a0 a1 a2 = (Cert.LossIdeal.Gen.dats m 0 c).arrAt 3 Cert.LossIdeal.cfg0.N
      ∧ gGrad a0 a1 a2 = (Cert.LossIdeal.Gen.dats m 0 c).arrAt 4 Cert.LossIdeal.cfg0.N
      ∧ loss a0 a1 a2 = (Cert.LossIdeal.Gen.dats m 0 c).arrAt 5 Cert.LossIdeal.cfg0.N := by
  obtain ⟨rfl, rfl, rfl⟩ := h
  rw [Cert.LossHead.array3, Cert.LossHead.array4, Cert.LossHead.array5]
  refine ⟨?_, ?_, ?_⟩ <;> funext j <;> idx_vars j
  · exact xGrad_at _ _ _ j0 j1
  · have e : j0 = 0 := Subsingleton.elim (α := Fin 1) _ _
    rw [e]
    exact gGrad_at _ _ _ j1
  · have e : j0 = 0 := Subsingleton.elim (α := Fin 1) _ _
    have e' : j1 = 0 := Subsingleton.elim (α := Fin 1) _ _
    rw [e, e']
    exact (loss_tiles _ _ _).symm

end Cert.LossRef

end
-- ==== Proof.lean ====
/- The frames of the programs, and the equality of each kernel's arrays with its reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Pre_finite_args
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Pre_finite_ffn_args
public import proofs.«01_k».proof.Proof.Gen.DownGrad
public import proofs.«01_k».proof.Proof.Gen.DownGrad.Skeleton
public import proofs.«01_k».proof.Proof.Gen.DownGrad.Launch
public import proofs.«01_k».proof.Proof.Gen.DownGradIdeal
public import proofs.«01_k».proof.Proof.Gen.DownGradIdeal.Skeleton
public import proofs.«01_k».proof.Proof.Gen.DownGradIdeal.Launch
public import proofs.«01_k».proof.Proof.Gen.DownGradReferenceIdeal
public import proofs.«01_k».proof.Proof.Gen.DownGradReferenceIdeal.Run
public import proofs.«01_k».proof.Proof.Gen.QkvGrad
public import proofs.«01_k».proof.Proof.Gen.QkvGrad.Skeleton
public import proofs.«01_k».proof.Proof.Gen.QkvGrad.Launch
public import proofs.«01_k».proof.Proof.Gen.QkvGrad.Points
public import proofs.«01_k».proof.Proof.Gen.QkvGrad.Frame
public import proofs.«01_k».proof.Proof.Gen.QkvGradIdeal
public import proofs.«01_k».proof.Proof.Gen.QkvGradIdeal.Skeleton
public import proofs.«01_k».proof.Proof.Gen.QkvGradIdeal.Launch
public import proofs.«01_k».proof.Proof.Gen.QkvGradIdeal.Points
public import proofs.«01_k».proof.Proof.Gen.QkvGradIdeal.Frame
public import proofs.«01_k».proof.Proof.Gen.QkvGradIdeal.Value
public import proofs.«01_k».proof.Proof.Gen.QkvGradReferenceIdeal
public import proofs.«01_k».proof.Proof.Gen.QkvGradReferenceIdeal.Run
public import proofs.«01_k».proof.Proof.Gen.PoolInGrad
public import proofs.«01_k».proof.Proof.Gen.PoolInGrad.Skeleton
public import proofs.«01_k».proof.Proof.Gen.PoolInGrad.Launch
public import proofs.«01_k».proof.Proof.Gen.PoolInGrad.Points
public import proofs.«01_k».proof.Proof.Gen.PoolInGrad.Frame
public import proofs.«01_k».proof.Proof.Gen.PoolInGradIdeal
public import proofs.«01_k».proof.Proof.Gen.PoolInGradIdeal.Skeleton
public import proofs.«01_k».proof.Proof.Gen.PoolInGradIdeal.Launch
public import proofs.«01_k».proof.Proof.Gen.PoolInGradIdeal.Points
public import proofs.«01_k».proof.Proof.Gen.PoolInGradIdeal.Frame
public import proofs.«01_k».proof.Proof.Gen.PoolInGradIdeal.Value
public import proofs.«01_k».proof.Proof.Gen.PoolInGradReferenceIdeal
public import proofs.«01_k».proof.Proof.Gen.PoolInGradReferenceIdeal.Run
public import proofs.«01_k».proof.Proof.Gen.PoolOutGrad
public import proofs.«01_k».proof.Proof.Gen.PoolOutGrad.Skeleton
public import proofs.«01_k».proof.Proof.Gen.PoolOutGrad.Launch
public import proofs.«01_k».proof.Proof.Gen.PoolOutGrad.Points
public import proofs.«01_k».proof.Proof.Gen.PoolOutGrad.Frame
public import proofs.«01_k».proof.Proof.Gen.PoolOutGradIdeal
public import proofs.«01_k».proof.Proof.Gen.PoolOutGradIdeal.Skeleton
public import proofs.«01_k».proof.Proof.Gen.PoolOutGradIdeal.Launch
public import proofs.«01_k».proof.Proof.Gen.PoolOutGradIdeal.Points
public import proofs.«01_k».proof.Proof.Gen.PoolOutGradIdeal.Frame
public import proofs.«01_k».proof.Proof.Gen.PoolOutGradIdeal.Value
public import proofs.«01_k».proof.Proof.Gen.PoolOutGradReferenceIdeal
public import proofs.«01_k».proof.Proof.Gen.PoolOutGradReferenceIdeal.Run
public import proofs.«01_k».proof.Proof.Gen.PoolGroupGrad
public import proofs.«01_k».proof.Proof.Gen.PoolGroupGrad.Skeleton
public import proofs.«01_k».proof.Proof.Gen.PoolGroupGrad.Launch
public import proofs.«01_k».proof.Proof.Gen.PoolGroupGrad.Points
public import proofs.«01_k».proof.Proof.Gen.PoolGroupGrad.Frame
public import proofs.«01_k».proof.Proof.Gen.PoolGroupGradIdeal
public import proofs.«01_k».proof.Proof.Gen.PoolGroupGradIdeal.Skeleton
public import proofs.«01_k».proof.Proof.Gen.PoolGroupGradIdeal.Launch
public import proofs.«01_k».proof.Proof.Gen.PoolGroupGradIdeal.Points
public import proofs.«01_k».proof.Proof.Gen.PoolGroupGradIdeal.Frame
public import proofs.«01_k».proof.Proof.Gen.PoolGroupGradIdeal.Value
public import proofs.«01_k».proof.Proof.Gen.PoolGroupGradReferenceIdeal
public import proofs.«01_k».proof.Proof.Gen.PoolGroupGradReferenceIdeal.Run
public import proofs.«01_k».proof.Proof.Gen.AttnOutGrad
public import proofs.«01_k».proof.Proof.Gen.AttnOutGrad.Skeleton
public import proofs.«01_k».proof.Proof.Gen.AttnOutGrad.Launch
public import proofs.«01_k».proof.Proof.Gen.AttnOutGrad.Points
public import proofs.«01_k».proof.Proof.Gen.AttnOutGrad.Frame
public import proofs.«01_k».proof.Proof.Gen.AttnOutGradIdeal
public import proofs.«01_k».proof.Proof.Gen.AttnOutGradIdeal.Skeleton
public import proofs.«01_k».proof.Proof.Gen.AttnOutGradIdeal.Launch
public import proofs.«01_k».proof.Proof.Gen.AttnOutGradIdeal.Points
public import proofs.«01_k».proof.Proof.Gen.AttnOutGradIdeal.Frame
public import proofs.«01_k».proof.Proof.Gen.AttnOutGradIdeal.Value
public import proofs.«01_k».proof.Proof.Gen.AttnOutGradReferenceIdeal
public import proofs.«01_k».proof.Proof.Gen.AttnOutGradReferenceIdeal.Run
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGradReferenceIdeal
public import proofs.«01_k».proof.Proof.Gen.InGradReferenceIdeal.Run
public import proofs.«01_k».proof.Proof.Gen.FfnFwd
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdReferenceIdeal
public import proofs.«01_k».proof.Proof.Gen.FfnFwdReferenceIdeal.Run
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdIdeal.Value
public import proofs.«01_k».proof.Proof.Gen.PoolFwdReferenceIdeal
public import proofs.«01_k».proof.Proof.Gen.PoolFwdReferenceIdeal.Run
public import proofs.«01_k».proof.Proof.Gen.Pre_finite_pool_args
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Equation
public import proofs.«01_k».proof.Proof.FfnEquation
public import proofs.«01_k».proof.Proof.InGrad
public import proofs.«01_k».proof.Proof.FwdEquation
public import proofs.«01_k».proof.Proof.DownValue
public import proofs.«01_k».proof.Proof.QkvGrad
public import proofs.«01_k».proof.Proof.PoolGrad
public import proofs.«01_k».proof.Proof.AttnOutGrad
public import proofs.«01_k».proof.Proof.PoolGroupGrad
public import proofs.«01_k».proof.Proof.PoolFwdEquation
public import proofs.«01_k».proof.Proof.LossRef

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2.2.2.2.2, sem_eq_zero_of_no_sems (by decide) r.2⟩) (Cert.ReferenceIdeal.Value.run m ρ)

theorem algebraic : Cert.algebraic_KernelIdeal_ReferenceIdeal_pre_finite_args := by
  intro m g m' g' hpre hag
  have A : ∀ c : Dev Cert.KernelIdeal.nD, Cert.PoolEq.Agree (StableHlo.launchContents m' c) m c := fun c =>
    ⟨(hag c).1.symm, (hag c).2.1.symm, (hag c).2.2.1.symm, (hag c).2.2.2.1.symm, (hag c).2.2.2.2.1.symm, (hag c).2.2.2.2.2.1.symm, (hag c).2.2.2.2.2.2.symm⟩
  have H : ∀ c : Dev Cert.KernelIdeal.nD, Cert.PoolEq.Real m c := fun c => Cert.PoolEq.real_of_pre m c (hpre c)
  refine ⟨_, _, _, _, _, Cert.KernelIdeal.Value.run_blocks m g, ?_⟩
  exact (θ_run Cert.ReferenceIdeal.defs _ _).mono (fun r h c => ⟨(h c).1.trans (Cert.PoolEq.eq8 (A c)), (h c).2.1.trans (Cert.PoolEq.eq9 (A c) (H c)), (h c).2.2.1.trans (Cert.PoolEq.eq10 (A c) (H c)),
    (h c).2.2.2.1.trans (Cert.PoolEq.eq11 (A c) (H c)), (h c).2.2.2.2.1.trans (Cert.PoolEq.eq12 (A c)), (h c).2.2.2.2.2⟩) (Cert.ReferenceIdeal.Value.run m' g')

theorem frame_ffn_reference : Cert.quiescent_FfnReferenceIdeal := fun m ρ _ =>
  (θ_run Cert.FfnReferenceIdeal.defs _ _).mono (fun r h => ⟨fun c => (h c).2.2.2.2, sem_eq_zero_of_no_sems (by decide) r.2⟩) (Cert.FfnReferenceIdeal.Value.run m ρ)

/-- The reference's arguments are the kernel's. -/
theorem ffn_args (m : (ℓ : Loc Cert.FfnIdeal.nD Cert.FfnIdeal.τ Cert.FfnIdeal.sig) → Buf (Elt Ideal) ℓ) (c : Dev Cert.FfnIdeal.nD)
    (a0 a1 : FVec Ideal Cert.FfnReferenceIdeal.S8192x1024 .f32) (a2 : FVec Ideal Cert.FfnReferenceIdeal.S1x1024 .f32)
    (a3 a4 : FVec Ideal Cert.FfnReferenceIdeal.S1024x2816 .f32) (a5 : FVec Ideal Cert.FfnReferenceIdeal.S2816x1024 .f32)
    (h : a0 = Cert.FfnEq.A0 m c ∧ a1 = Cert.FfnEq.A1 m c ∧ a2 = Cert.FfnEq.A2 m c ∧ a3 = Cert.FfnEq.A3 m c ∧ a4 = Cert.FfnEq.A4 m c ∧ a5 = Cert.FfnEq.A5 m c)
    (H : Cert.FfnEq.Real m c) :
    Cert.FfnRef.parts (Cert.FfnRef.dGate a0 a1 a2 a3 a4 a5) = (Cert.FfnIdeal.Gen.dats m 0 c).arrAt 8 Cert.FfnIdeal.cfg0.N
      ∧ Cert.FfnRef.parts (Cert.FfnRef.dUp a0 a1 a2 a3 a5) = (Cert.FfnIdeal.Gen.dats m 0 c).arrAt 9 Cert.FfnIdeal.cfg0.N
      ∧ Cert.FfnRef.xGrad a0 a1 a2 a3 a4 a5 = (Cert.FfnIdeal.Gen.dats m 0 c).arrAt 10 Cert.FfnIdeal.cfg0.N
      ∧ Cert.FfnRef.gGrad a0 a1 a2 a3 a4 a5 = (Cert.FfnIdeal.Gen.dats m 0 c).arrAt 11 Cert.FfnIdeal.cfg0.N := by
  obtain ⟨rfl, rfl, rfl, rfl, rfl, rfl⟩ := h
  exact ⟨Cert.FfnEq.eq8 H, Cert.FfnEq.eq9 H, Cert.FfnEq.eq10 H, Cert.FfnEq.eq11 H⟩

theorem algebraic_ffn : Cert.algebraic_FfnIdeal_FfnReferenceIdeal_pre_finite_ffn_args := by
  intro m g m' g' hpre hag
  have E := fun c : Dev Cert.FfnIdeal.nD => ffn_args m c _ _ _ _ _ _ (hag c) (Cert.FfnEq.real_of_pre m c (hpre c))
  refine ⟨_, _, _, _, Cert.FfnIdeal.Value.run_blocks m g, ?_⟩
  exact (θ_run Cert.FfnReferenceIdeal.defs _ _).mono (fun r h c => ⟨((h c).1.trans (Cert.FfnRef.res52 m' c)).trans (E c).1, (h c).2.1.trans (E c).2.1,
    ((h c).2.2.1.trans (Cert.FfnRef.res56 m' c)).trans (E c).2.2.1, ((h c).2.2.2.1.trans (Cert.FfnRef.res49 m' c)).trans (E c).2.2.2, (h c).2.2.2.2⟩) (Cert.FfnReferenceIdeal.Value.run m' g')

theorem frame_in_reference : Cert.quiescent_InGradReferenceIdeal := fun m ρ _ =>
  (θ_run Cert.InGradReferenceIdeal.defs _ _).mono (fun r h => ⟨fun c => (h c).2, sem_eq_zero_of_no_sems (by decide) r.2⟩) (Cert.InGradReferenceIdeal.Value.run m ρ)

theorem algebraic_in : Cert.algebraic_InGradIdeal_InGradReferenceIdeal := by
  intro m g m' g' _ hag
  refine ⟨_, Cert.InGradIdeal.Value.run_blocks m g, ?_⟩
  exact (θ_run Cert.InGradReferenceIdeal.defs _ _).mono (fun r h c => ⟨(h c).1.trans (Cert.InGradRef.eq2 m c _ _ _ (hag c)), (h c).2⟩) (Cert.InGradReferenceIdeal.Value.run m' g')

/-- The feed-forward layer's forward call: both printings of it are one text, -/
theorem fwd_defs₀ : Cert.FfnFwd.defs₀ (F := Bits) = Cert.FfnFwdIdeal.defs₀ (F := Bits) := by
  unfold Cert.FfnFwd.defs₀ Cert.FfnFwdIdeal.defs₀
  refine congrArg Defs.onTc ?_
  funext l a
  match l, a with
  | 0, (t, s) => rfl
theorem fwd_defs : Cert.FfnFwd.defs (F := Bits) = Cert.FfnFwdIdeal.defs (F := Bits) := congrArg (Pipeline.defs Cert.FfnFwdIdeal.pcfgs) fwd_defs₀

/-- so the run over any number serves each. -/
theorem frame_fwd : Cert.quiescent_FfnFwd := by
  intro m ρ _
  rw [fwd_defs]
  have H := (θ_run Cert.FfnFwdIdeal.defs _ _).mono (fun r h => (⟨fun c => (h.1 c).2, h.2⟩ : _ ∧ _)) (Cert.FwdRun.result (F := Bits) m ρ)
  exact H
theorem frame_fwd_ideal : Cert.quiescent_FfnFwdIdeal := fun m ρ _ =>
  (θ_run Cert.FfnFwdIdeal.defs _ _).mono (fun r h => ⟨fun c => (h.1 c).2, h.2⟩) (Cert.FwdRun.result (F := Idealize.ShloMosaic.Ideal) m ρ)
theorem frame_fwd_reference : Cert.quiescent_FfnFwdReferenceIdeal := fun m ρ _ =>
  (θ_run Cert.FfnFwdReferenceIdeal.defs _ _).mono (fun r h => ⟨fun c => (h c).2.2.2.2.2, sem_eq_zero_of_no_sems (by decide) r.2⟩) (Cert.FfnFwdReferenceIdeal.Value.run m ρ)

theorem algebraic_fwd : Cert.algebraic_FfnFwdIdeal_FfnFwdReferenceIdeal := by
  intro m g m' g' _ hag
  have E := fun c : Dev Cert.FfnFwdIdeal.nD => Cert.FwdEq.eqs m c _ _ _ _ _ (hag c)
  refine ⟨_, _, _, _, _, (θ_run Cert.FfnFwdIdeal.defs _ _).mono (fun r h c => ⟨(h.1 c).1.1, (h.1 c).1.2.1, (h.1 c).1.2.2.1, (h.1 c).1.2.2.2.1, (h.1 c).1.2.2.2.2, (h.1 c).2⟩) (Cert.FwdRun.result (F := Idealize.ShloMosaic.Ideal) m g), ?_⟩
  exact (θ_run Cert.FfnFwdReferenceIdeal.defs _ _).mono (fun r h c => ⟨(h c).1.trans (E c).1, (h c).2.1.trans (E c).2.1, (h c).2.2.1.trans (E c).2.2.1,
    (h c).2.2.2.1.trans (E c).2.2.2.1, (h c).2.2.2.2.1.trans (E c).2.2.2.2, (h c).2.2.2.2.2⟩) (Cert.FfnFwdReferenceIdeal.Value.run m' g')

theorem down_defs₀ : Cert.DownGrad.defs₀ (F := Bits) = Cert.DownGradIdeal.defs₀ (F := Bits) := by
  unfold Cert.DownGrad.defs₀ Cert.DownGradIdeal.defs₀
  refine congrArg Defs.onTc ?_
  funext l a
  match l, a with
  | 0, (t, s) => rfl
theorem down_defs : Cert.DownGrad.defs (F := Bits) = Cert.DownGradIdeal.defs (F := Bits) := congrArg (Pipeline.defs Cert.DownGradIdeal.pcfgs) down_defs₀

theorem frame_down : Cert.quiescent_DownGrad := by
  intro m ρ _
  rw [down_defs]
  have H := (θ_run Cert.DownGradIdeal.defs _ _).mono (fun r h => (⟨fun c => (h.1 c).2, h.2⟩ : _ ∧ _)) (Cert.DownRun.result (F := Bits) m ρ)
  exact H
theorem frame_down_ideal : Cert.quiescent_DownGradIdeal := fun m ρ _ =>
  (θ_run Cert.DownGradIdeal.defs _ _).mono (fun r h => ⟨fun c => (h.1 c).2, h.2⟩) (Cert.DownRun.result (F := Idealize.ShloMosaic.Ideal) m ρ)
theorem frame_down_reference : Cert.quiescent_DownGradReferenceIdeal := fun m ρ _ =>
  (θ_run Cert.DownGradReferenceIdeal.defs _ _).mono (fun r h => ⟨fun c => (h c).2, sem_eq_zero_of_no_sems (by decide) r.2⟩) (Cert.DownGradReferenceIdeal.Value.run m ρ)

theorem algebraic_down : Cert.algebraic_DownGradIdeal_DownGradReferenceIdeal := by
  intro m g m' g' _ hag
  have E := fun c : Dev Cert.DownGradIdeal.nD => Cert.DownEq.eq2 m c _ _ _ _ _ (hag c)
  refine ⟨_, (θ_run Cert.DownGradIdeal.defs _ _).mono (fun r h c => ⟨(h.1 c).1, (h.1 c).2⟩) (Cert.DownRun.result (F := Idealize.ShloMosaic.Ideal) m g), ?_⟩
  exact (θ_run Cert.DownGradReferenceIdeal.defs _ _).mono (fun r h c => ⟨(h c).1.trans (E c), (h c).2⟩) (Cert.DownGradReferenceIdeal.Value.run m' g')

theorem frame_qkv_reference : Cert.quiescent_QkvGradReferenceIdeal := fun m ρ _ =>
  (θ_run Cert.QkvGradReferenceIdeal.defs _ _).mono (fun r h => ⟨fun c => (h c).2, sem_eq_zero_of_no_sems (by decide) r.2⟩) (Cert.QkvGradReferenceIdeal.Value.run m ρ)

theorem algebraic_qkv : Cert.algebraic_QkvGradIdeal_QkvGradReferenceIdeal := by
  intro m g m' g' _ hag
  refine ⟨_, Cert.QkvGradIdeal.Value.run_blocks m g, ?_⟩
  exact (θ_run Cert.QkvGradReferenceIdeal.defs _ _).mono (fun r h c => ⟨(h c).1.trans (Cert.QkvVal.eq2 m c _ _ _ (hag c)), (h c).2⟩) (Cert.QkvGradReferenceIdeal.Value.run m' g')

theorem frame_pool_in_reference : Cert.quiescent_PoolInGradReferenceIdeal := fun m ρ _ =>
  (θ_run Cert.PoolInGradReferenceIdeal.defs _ _).mono (fun r h => ⟨fun c => (h c).2, sem_eq_zero_of_no_sems (by decide) r.2⟩) (Cert.PoolInGradReferenceIdeal.Value.run m ρ)

theorem algebraic_pool_in : Cert.algebraic_PoolInGradIdeal_PoolInGradReferenceIdeal := by
  intro m g m' g' _ hag
  refine ⟨_, Cert.PoolInGradIdeal.Value.run_blocks m g, ?_⟩
  exact (θ_run Cert.PoolInGradReferenceIdeal.defs _ _).mono (fun r h c => ⟨(h c).1.trans (Cert.PoolInRef.eq2 m c _ _ _ (hag c)), (h c).2⟩) (Cert.PoolInGradReferenceIdeal.Value.run m' g')

theorem frame_pool_out_reference : Cert.quiescent_PoolOutGradReferenceIdeal := fun m ρ _ =>
  (θ_run Cert.PoolOutGradReferenceIdeal.defs _ _).mono (fun r h => ⟨fun c => (h c).2, sem_eq_zero_of_no_sems (by decide) r.2⟩) (Cert.PoolOutGradReferenceIdeal.Value.run m ρ)

theorem algebraic_pool_out : Cert.algebraic_PoolOutGradIdeal_PoolOutGradReferenceIdeal := by
  intro m g m' g' _ hag
  refine ⟨_, Cert.PoolOutGradIdeal.Value.run_blocks m g, ?_⟩
  exact (θ_run Cert.PoolOutGradReferenceIdeal.defs _ _).mono (fun r h c => ⟨(h c).1.trans (Cert.PoolInRef.eq_out m c _ _ (hag c)), (h c).2⟩) (Cert.PoolOutGradReferenceIdeal.Value.run m' g')

theorem frame_attn_out_reference : Cert.quiescent_AttnOutGradReferenceIdeal := fun m ρ _ =>
  (θ_run Cert.AttnOutGradReferenceIdeal.defs _ _).mono (fun r h => ⟨fun c => (h c).2, sem_eq_zero_of_no_sems (by decide) r.2⟩) (Cert.AttnOutGradReferenceIdeal.Value.run m ρ)

theorem algebraic_attn_out : Cert.algebraic_AttnOutGradIdeal_AttnOutGradReferenceIdeal := by
  intro m g m' g' _ hag
  refine ⟨_, Cert.AttnOutGradIdeal.Value.run_blocks m g, ?_⟩
  exact (θ_run Cert.AttnOutGradReferenceIdeal.defs _ _).mono (fun r h c => ⟨(h c).1.trans (Cert.AttnOutVal.eq2 m c _ _ (hag c)), (h c).2⟩) (Cert.AttnOutGradReferenceIdeal.Value.run m' g')

theorem frame_pool_group_reference : Cert.quiescent_PoolGroupGradReferenceIdeal := fun m ρ _ =>
  (θ_run Cert.PoolGroupGradReferenceIdeal.defs _ _).mono (fun r h => ⟨fun c => (h c).2, sem_eq_zero_of_no_sems (by decide) r.2⟩) (Cert.PoolGroupGradReferenceIdeal.Value.run m ρ)

theorem algebraic_pool_group : Cert.algebraic_PoolGroupGradIdeal_PoolGroupGradReferenceIdeal := by
  intro m g m' g' _ hag
  refine ⟨_, Cert.PoolGroupGradIdeal.Value.run_blocks m g, ?_⟩
  exact (θ_run Cert.PoolGroupGradReferenceIdeal.defs _ _).mono (fun r h c => ⟨(h c).1.trans (Cert.PoolGroupRef.eq2 m c _ _ (hag c)), (h c).2⟩) (Cert.PoolGroupGradReferenceIdeal.Value.run m' g')

theorem frame_pool_fwd_reference : Cert.quiescent_PoolFwdReferenceIdeal := fun m ρ _ =>
  (θ_run Cert.PoolFwdReferenceIdeal.defs _ _).mono (fun r h => ⟨fun c => (h c).2.2.2.2.2, sem_eq_zero_of_no_sems (by decide) r.2⟩) (Cert.PoolFwdReferenceIdeal.Value.run m ρ)

theorem algebraic_pool_fwd : Cert.algebraic_PoolFwdIdeal_PoolFwdReferenceIdeal_pre_finite_pool_args := by
  intro m g m' g' hpre hag
  have E := fun c : Dev Cert.PoolFwdIdeal.nD => Cert.PoolFwdEq.eqs m c _ _ _ _ _ _ (hag c) (hpre c)
  refine ⟨_, _, _, _, _, Cert.PoolFwdIdeal.Value.run_blocks m g, ?_⟩
  exact (θ_run Cert.PoolFwdReferenceIdeal.defs _ _).mono (fun r h c => ⟨(h c).1.trans (E c).1, ((h c).2.1.trans (Cert.PoolFwdEq.res102 m' c)).trans (E c).2.1,
    ((h c).2.2.1.trans (Cert.PoolFwdEq.res103 m' c)).trans (E c).2.2.1, ((h c).2.2.2.1.trans (Cert.PoolFwdEq.res104 m' c)).trans (E c).2.2.2.1,
    ((h c).2.2.2.2.1.trans (Cert.PoolFwdEq.res106 m' c)).trans (E c).2.2.2.2, (h c).2.2.2.2.2⟩) (Cert.PoolFwdReferenceIdeal.Value.run m' g')

theorem frame_loss_reference : Cert.quiescent_LossReferenceIdeal := fun m ρ _ =>
  (θ_run Cert.LossReferenceIdeal.defs _ _).mono (fun r h => ⟨fun c => (h c).2.2.2, sem_eq_zero_of_no_sems (by decide) r.2⟩) (Cert.LossReferenceIdeal.Value.run m ρ)

theorem algebraic_loss : Cert.algebraic_LossIdeal_LossReferenceIdeal := by
  intro m g m' g' _ hag
  have E := fun c : Dev Cert.LossIdeal.nD => Cert.LossRef.eqs m c _ _ _ (hag c)
  refine ⟨_, _, _, Cert.LossIdeal.Value.run_blocks m g, ?_⟩
  exact (θ_run Cert.LossReferenceIdeal.defs _ _).mono (fun r h c => ⟨((h c).1.trans (Cert.LossRef.res51 m' c)).trans (E c).1, (h c).2.1.trans (E c).2.1,
    (h c).2.2.1.trans (E c).2.2, (h c).2.2.2⟩) (Cert.LossReferenceIdeal.Value.run m' g')

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.InGrad.Gen.facts, Cert.InGradIdeal.Gen.facts, Cert.InGradReferenceIdeal.Gen.facts,
  Cert.FfnFwd.Gen.facts, Cert.FfnFwdIdeal.Gen.facts, Cert.FfnFwdReferenceIdeal.Gen.facts,
  Cert.DownGrad.Gen.facts, Cert.DownGradIdeal.Gen.facts, Cert.DownGradReferenceIdeal.Gen.facts,
  Cert.QkvGrad.Gen.facts, Cert.QkvGradIdeal.Gen.facts, Cert.QkvGradReferenceIdeal.Gen.facts,
  Cert.PoolInGrad.Gen.facts, Cert.PoolInGradIdeal.Gen.facts, Cert.PoolInGradReferenceIdeal.Gen.facts,
  Cert.PoolOutGrad.Gen.facts, Cert.PoolOutGradIdeal.Gen.facts, Cert.PoolOutGradReferenceIdeal.Gen.facts,
  Cert.AttnOutGrad.Gen.facts, Cert.AttnOutGradIdeal.Gen.facts, Cert.AttnOutGradReferenceIdeal.Gen.facts,
  Cert.PoolGroupGrad.Gen.facts, Cert.PoolGroupGradIdeal.Gen.facts, Cert.PoolGroupGradReferenceIdeal.Gen.facts,
  Cert.PoolFwd.Gen.facts, Cert.PoolFwdIdeal.Gen.facts, Cert.PoolFwdReferenceIdeal.Gen.facts,
  Cert.Loss.Gen.facts, Cert.LossIdeal.Gen.facts, Cert.LossReferenceIdeal.Gen.facts,
  Cert.Pre_finite_args.Gen.facts, Cert.Pre_finite_ffn_args.Gen.facts, Cert.Pre_finite_pool_args.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Ffn.Gen.frame m ρ, fun m ρ _ => Cert.FfnIdeal.Gen.frame m ρ, fun m ρ _ => Cert.FfnIdeal.Gen.frame m ρ,
  frame_ffn_reference, fun m ρ _ => frame_ffn_reference m ρ trivial,
  fun m ρ _ => Cert.InGrad.Gen.frame m ρ, fun m ρ _ => Cert.InGradIdeal.Gen.frame m ρ, frame_in_reference,
  frame_fwd, frame_fwd_ideal, frame_fwd_reference,
  frame_down, frame_down_ideal, frame_down_reference,
  fun m ρ _ => Cert.QkvGrad.Gen.frame m ρ, fun m ρ _ => Cert.QkvGradIdeal.Gen.frame m ρ, frame_qkv_reference,
  fun m ρ _ => Cert.PoolInGrad.Gen.frame m ρ, fun m ρ _ => Cert.PoolInGradIdeal.Gen.frame m ρ, frame_pool_in_reference,
  fun m ρ _ => Cert.PoolOutGrad.Gen.frame m ρ, fun m ρ _ => Cert.PoolOutGradIdeal.Gen.frame m ρ, frame_pool_out_reference,
  fun m ρ _ => Cert.AttnOutGrad.Gen.frame m ρ, fun m ρ _ => Cert.AttnOutGradIdeal.Gen.frame m ρ, frame_attn_out_reference,
  fun m ρ _ => Cert.PoolGroupGrad.Gen.frame m ρ, fun m ρ _ => Cert.PoolGroupGradIdeal.Gen.frame m ρ, frame_pool_group_reference,
  fun m ρ _ => Cert.PoolFwd.Gen.frame m ρ, fun m ρ _ => Cert.PoolFwdIdeal.Gen.frame m ρ, fun m ρ _ => Cert.PoolFwdIdeal.Gen.frame m ρ,
  frame_pool_fwd_reference, fun m ρ _ => frame_pool_fwd_reference m ρ trivial,
  fun m ρ _ => Cert.Loss.Gen.frame m ρ, fun m ρ _ => Cert.LossIdeal.Gen.frame m ρ, frame_loss_reference,
  trivial, algebraic, trivial, algebraic_ffn, trivial, algebraic_in, trivial, algebraic_fwd, trivial, algebraic_down,
  trivial, algebraic_qkv, trivial, algebraic_pool_in, trivial, algebraic_pool_out, trivial, algebraic_attn_out, trivial, algebraic_pool_group,
  trivial, algebraic_pool_fwd, trivial, algebraic_loss⟩

end Cert.Proof

end
